-- ==== Defs.lean ====
def Pre_InputNorm (m : (ℓ : Loc Cert.InputNorm.nD Cert.InputNorm.τ Cert.InputNorm.sig) → Buf (Elt Bits) ℓ) : Prop :=
  True

def Pre_InputNormIdeal (m : (ℓ : Loc Cert.InputNormIdeal.nD Cert.InputNormIdeal.τ Cert.InputNormIdeal.sig) → Buf (Elt Ideal) ℓ) : Prop :=
  True

def Pre_InputNormIdeal_input_norm_finite [hPre_input_norm_finite : Cert.Pre_input_norm_finite.Facts] (m : (ℓ : Loc Cert.InputNormIdeal.nD Cert.InputNormIdeal.τ Cert.InputNormIdeal.sig) → Buf (Elt Ideal) ℓ) : Prop :=
  ∀ c : Dev Cert.InputNormIdeal.nD,
    (Cert.Pre_input_norm_finite.fn (F := Ideal) (m ((c.tc : Thread Cert.InputNormIdeal.nD Cert.InputNormIdeal.τ).loc Cert.InputNormIdeal.main_arg0)) (m ((c.tc : Thread Cert.InputNormIdeal.nD Cert.InputNormIdeal.τ).loc Cert.InputNormIdeal.main_arg1)) (m ((c.tc : Thread Cert.InputNormIdeal.nD Cert.InputNormIdeal.τ).loc Cert.InputNormIdeal.main_arg2)) (m ((c.tc : Thread Cert.InputNormIdeal.nD Cert.InputNormIdeal.τ).loc Cert.InputNormIdeal.main_arg3)) (m ((c.tc : Thread Cert.InputNormIdeal.nD Cert.InputNormIdeal.τ).loc Cert.InputNormIdeal.main_arg4))).1 = (fun _ => 1#1)
    ∧ (Cert.Pre_input_norm_finite.fn (F := Ideal) (m ((c.tc : Thread Cert.InputNormIdeal.nD Cert.InputNormIdeal.τ).loc Cert.InputNormIdeal.main_arg0)) (m ((c.tc : Thread Cert.InputNormIdeal.nD Cert.InputNormIdeal.τ).loc Cert.InputNormIdeal.main_arg1)) (m ((c.tc : Thread Cert.InputNormIdeal.nD Cert.InputNormIdeal.τ).loc Cert.InputNormIdeal.main_arg2)) (m ((c.tc : Thread Cert.InputNormIdeal.nD Cert.InputNormIdeal.τ).loc Cert.InputNormIdeal.main_arg3)) (m ((c.tc : Thread Cert.InputNormIdeal.nD Cert.InputNormIdeal.τ).loc Cert.InputNormIdeal.main_arg4))).2.1 = (fun _ => 1#1)
    ∧ (Cert.Pre_input_norm_finite.fn (F := Ideal) (m ((c.tc : Thread Cert.InputNormIdeal.nD Cert.InputNormIdeal.τ).loc Cert.InputNormIdeal.main_arg0)) (m ((c.tc : Thread Cert.InputNormIdeal.nD Cert.InputNormIdeal.τ).loc Cert.InputNormIdeal.main_arg1)) (m ((c.tc : Thread Cert.InputNormIdeal.nD Cert.InputNormIdeal.τ).loc Cert.InputNormIdeal.main_arg2)) (m ((c.tc : Thread Cert.InputNormIdeal.nD Cert.InputNormIdeal.τ).loc Cert.InputNormIdeal.main_arg3)) (m ((c.tc : Thread Cert.InputNormIdeal.nD Cert.InputNormIdeal.τ).loc Cert.InputNormIdeal.main_arg4))).2.2.1 = (fun _ => 1#1)
    ∧ (Cert.Pre_input_norm_finite.fn (F := Ideal) (m ((c.tc : Thread Cert.InputNormIdeal.nD Cert.InputNormIdeal.τ).loc Cert.InputNormIdeal.main_arg0)) (m ((c.tc : Thread Cert.InputNormIdeal.nD Cert.InputNormIdeal.τ).loc Cert.InputNormIdeal.main_arg1)) (m ((c.tc : Thread Cert.InputNormIdeal.nD Cert.InputNormIdeal.τ).loc Cert.InputNormIdeal.main_arg2)) (m ((c.tc : Thread Cert.InputNormIdeal.nD Cert.InputNormIdeal.τ).loc Cert.InputNormIdeal.main_arg3)) (m ((c.tc : Thread Cert.InputNormIdeal.nD Cert.InputNormIdeal.τ).loc Cert.InputNormIdeal.main_arg4))).2.2.2 = (fun _ => 1#1)

def Pre_InputNormRefIdeal (m : (ℓ : Loc Cert.InputNormRefIdeal.nD Cert.InputNormRefIdeal.τ Cert.InputNormRefIdeal.sig) → Buf (Elt Ideal) ℓ) : Prop :=
  True

def Pre_InputNormRefIdeal_input_norm_finite [hPre_input_norm_finite : Cert.Pre_input_norm_finite.Facts] (m : (ℓ : Loc Cert.InputNormRefIdeal.nD Cert.InputNormRefIdeal.τ Cert.InputNormRefIdeal.sig) → Buf (Elt Ideal) ℓ) : Prop :=
  ∀ c : Dev Cert.InputNormRefIdeal.nD,
    (Cert.Pre_input_norm_finite.fn (F := Ideal) (m ((c.tc : Thread Cert.InputNormRefIdeal.nD Cert.InputNormRefIdeal.τ).loc Cert.InputNormRefIdeal.main_arg0)) (m ((c.tc : Thread Cert.InputNormRefIdeal.nD Cert.InputNormRefIdeal.τ).loc Cert.InputNormRefIdeal.main_arg1)) (m ((c.tc : Thread Cert.InputNormRefIdeal.nD Cert.InputNormRefIdeal.τ).loc Cert.InputNormRefIdeal.main_arg2)) (m ((c.tc : Thread Cert.InputNormRefIdeal.nD Cert.InputNormRefIdeal.τ).loc Cert.InputNormRefIdeal.main_arg3)) (m ((c.tc : Thread Cert.InputNormRefIdeal.nD Cert.InputNormRefIdeal.τ).loc Cert.InputNormRefIdeal.main_arg4))).1 = (fun _ => 1#1)
    ∧ (Cert.Pre_input_norm_finite.fn (F := Ideal) (m ((c.tc : Thread Cert.InputNormRefIdeal.nD Cert.InputNormRefIdeal.τ).loc Cert.InputNormRefIdeal.main_arg0)) (m ((c.tc : Thread Cert.InputNormRefIdeal.nD Cert.InputNormRefIdeal.τ).loc Cert.InputNormRefIdeal.main_arg1)) (m ((c.tc : Thread Cert.InputNormRefIdeal.nD Cert.InputNormRefIdeal.τ).loc Cert.InputNormRefIdeal.main_arg2)) (m ((c.tc : Thread Cert.InputNormRefIdeal.nD Cert.InputNormRefIdeal.τ).loc Cert.InputNormRefIdeal.main_arg3)) (m ((c.tc : Thread Cert.InputNormRefIdeal.nD Cert.InputNormRefIdeal.τ).loc Cert.InputNormRefIdeal.main_arg4))).2.1 = (fun _ => 1#1)
    ∧ (Cert.Pre_input_norm_finite.fn (F := Ideal) (m ((c.tc : Thread Cert.InputNormRefIdeal.nD Cert.InputNormRefIdeal.τ).loc Cert.InputNormRefIdeal.main_arg0)) (m ((c.tc : Thread Cert.InputNormRefIdeal.nD Cert.InputNormRefIdeal.τ).loc Cert.InputNormRefIdeal.main_arg1)) (m ((c.tc : Thread Cert.InputNormRefIdeal.nD Cert.InputNormRefIdeal.τ).loc Cert.InputNormRefIdeal.main_arg2)) (m ((c.tc : Thread Cert.InputNormRefIdeal.nD Cert.InputNormRefIdeal.τ).loc Cert.InputNormRefIdeal.main_arg3)) (m ((c.tc : Thread Cert.InputNormRefIdeal.nD Cert.InputNormRefIdeal.τ).loc Cert.InputNormRefIdeal.main_arg4))).2.2.1 = (fun _ => 1#1)
    ∧ (Cert.Pre_input_norm_finite.fn (F := Ideal) (m ((c.tc : Thread Cert.InputNormRefIdeal.nD Cert.InputNormRefIdeal.τ).loc Cert.InputNormRefIdeal.main_arg0)) (m ((c.tc : Thread Cert.InputNormRefIdeal.nD Cert.InputNormRefIdeal.τ).loc Cert.InputNormRefIdeal.main_arg1)) (m ((c.tc : Thread Cert.InputNormRefIdeal.nD Cert.InputNormRefIdeal.τ).loc Cert.InputNormRefIdeal.main_arg2)) (m ((c.tc : Thread Cert.InputNormRefIdeal.nD Cert.InputNormRefIdeal.τ).loc Cert.InputNormRefIdeal.main_arg3)) (m ((c.tc : Thread Cert.InputNormRefIdeal.nD Cert.InputNormRefIdeal.τ).loc Cert.InputNormRefIdeal.main_arg4))).2.2.2 = (fun _ => 1#1)

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_attention_finite [hPre_attention_finite : Cert.Pre_attention_finite.Facts] (m : (ℓ : Loc Cert.AttnIdeal.nD Cert.AttnIdeal.τ Cert.AttnIdeal.sig) → Buf (Elt Ideal) ℓ) : Prop :=
  ∀ c : Dev Cert.AttnIdeal.nD,
    (Cert.Pre_attention_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).1 = (fun _ => 1#1)
    ∧ (Cert.Pre_attention_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).2.1 = (fun _ => 1#1)
    ∧ (Cert.Pre_attention_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).2.2.1 = (fun _ => 1#1)
    ∧ (Cert.Pre_attention_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).2.2.2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_attention_finite [hPre_attention_finite : Cert.Pre_attention_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_attention_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).1 = (fun _ => 1#1)
    ∧ (Cert.Pre_attention_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).2.1 = (fun _ => 1#1)
    ∧ (Cert.Pre_attention_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).2.2.1 = (fun _ => 1#1)
    ∧ (Cert.Pre_attention_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).2.2.2 = (fun _ => 1#1)

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossIdeal_loss_finite [hPre_loss_finite : Cert.Pre_loss_finite.Facts] (m : (ℓ : Loc Cert.LossIdeal.nD Cert.LossIdeal.τ Cert.LossIdeal.sig) → Buf (Elt Ideal) ℓ) : Prop :=
  ∀ c : Dev Cert.LossIdeal.nD,
    (Cert.Pre_loss_finite.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3))).1 = (fun _ => 1#1)
    ∧ (Cert.Pre_loss_finite.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3))).2.1 = (fun _ => 1#1)
    ∧ (Cert.Pre_loss_finite.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3))).2.2.1 = (fun _ => 1#1)
    ∧ (Cert.Pre_loss_finite.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3))).2.2.2 = (fun _ => 1#1)

def Pre_LossRefIdeal (m : (ℓ : Loc Cert.LossRefIdeal.nD Cert.LossRefIdeal.τ Cert.LossRefIdeal.sig) → Buf (Elt Ideal) ℓ) : Prop :=
  True

def Pre_LossRefIdeal_loss_finite [hPre_loss_finite : Cert.Pre_loss_finite.Facts] (m : (ℓ : Loc Cert.LossRefIdeal.nD Cert.LossRefIdeal.τ Cert.LossRefIdeal.sig) → Buf (Elt Ideal) ℓ) : Prop :=
  ∀ c : Dev Cert.LossRefIdeal.nD,
    (Cert.Pre_loss_finite.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3))).1 = (fun _ => 1#1)
    ∧ (Cert.Pre_loss_finite.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3))).2.1 = (fun _ => 1#1)
    ∧ (Cert.Pre_loss_finite.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3))).2.2.1 = (fun _ => 1#1)
    ∧ (Cert.Pre_loss_finite.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3))).2.2.2 = (fun _ => 1#1)

def Pre_MlpResidual (m : (ℓ : Loc Cert.MlpResidual.nD Cert.MlpResidual.τ Cert.MlpResidual.sig) → Buf (Elt Bits) ℓ) : Prop :=
  True

def Pre_MlpResidualIdeal (m : (ℓ : Loc Cert.MlpResidualIdeal.nD Cert.MlpResidualIdeal.τ Cert.MlpResidualIdeal.sig) → Buf (Elt Ideal) ℓ) : Prop :=
  True

def Pre_MlpResidualIdeal_mlp_residual_finite [hPre_mlp_residual_finite : Cert.Pre_mlp_residual_finite.Facts] (m : (ℓ : Loc Cert.MlpResidualIdeal.nD Cert.MlpResidualIdeal.τ Cert.MlpResidualIdeal.sig) → Buf (Elt Ideal) ℓ) : Prop :=
  ∀ c : Dev Cert.MlpResidualIdeal.nD,
    (Cert.Pre_mlp_residual_finite.fn (F := Ideal) (m ((c.tc : Thread Cert.MlpResidualIdeal.nD Cert.MlpResidualIdeal.τ).loc Cert.MlpResidualIdeal.main_arg0)) (m ((c.tc : Thread Cert.MlpResidualIdeal.nD Cert.MlpResidualIdeal.τ).loc Cert.MlpResidualIdeal.main_arg1)) (m ((c.tc : Thread Cert.MlpResidualIdeal.nD Cert.MlpResidualIdeal.τ).loc Cert.MlpResidualIdeal.main_arg2)) (m ((c.tc : Thread Cert.MlpResidualIdeal.nD Cert.MlpResidualIdeal.τ).loc Cert.MlpResidualIdeal.main_arg3)) (m ((c.tc : Thread Cert.MlpResidualIdeal.nD Cert.MlpResidualIdeal.τ).loc Cert.MlpResidualIdeal.main_arg4)) (m ((c.tc : Thread Cert.MlpResidualIdeal.nD Cert.MlpResidualIdeal.τ).loc Cert.MlpResidualIdeal.main_arg5))).1 = (fun _ => 1#1)
    ∧ (Cert.Pre_mlp_residual_finite.fn (F := Ideal) (m ((c.tc : Thread Cert.MlpResidualIdeal.nD Cert.MlpResidualIdeal.τ).loc Cert.MlpResidualIdeal.main_arg0)) (m ((c.tc : Thread Cert.MlpResidualIdeal.nD Cert.MlpResidualIdeal.τ).loc Cert.MlpResidualIdeal.main_arg1)) (m ((c.tc : Thread Cert.MlpResidualIdeal.nD Cert.MlpResidualIdeal.τ).loc Cert.MlpResidualIdeal.main_arg2)) (m ((c.tc : Thread Cert.MlpResidualIdeal.nD Cert.MlpResidualIdeal.τ).loc Cert.MlpResidualIdeal.main_arg3)) (m ((c.tc : Thread Cert.MlpResidualIdeal.nD Cert.MlpResidualIdeal.τ).loc Cert.MlpResidualIdeal.main_arg4)) (m ((c.tc : Thread Cert.MlpResidualIdeal.nD Cert.MlpResidualIdeal.τ).loc Cert.MlpResidualIdeal.main_arg5))).2.1 = (fun _ => 1#1)
    ∧ (Cert.Pre_mlp_residual_finite.fn (F := Ideal) (m ((c.tc : Thread Cert.MlpResidualIdeal.nD Cert.MlpResidualIdeal.τ).loc Cert.MlpResidualIdeal.main_arg0)) (m ((c.tc : Thread Cert.MlpResidualIdeal.nD Cert.MlpResidualIdeal.τ).loc Cert.MlpResidualIdeal.main_arg1)) (m ((c.tc : Thread Cert.MlpResidualIdeal.nD Cert.MlpResidualIdeal.τ).loc Cert.MlpResidualIdeal.main_arg2)) (m ((c.tc : Thread Cert.MlpResidualIdeal.nD Cert.MlpResidualIdeal.τ).loc Cert.MlpResidualIdeal.main_arg3)) (m ((c.tc : Thread Cert.MlpResidualIdeal.nD Cert.MlpResidualIdeal.τ).loc Cert.MlpResidualIdeal.main_arg4)) (m ((c.tc : Thread Cert.MlpResidualIdeal.nD Cert.MlpResidualIdeal.τ).loc Cert.MlpResidualIdeal.main_arg5))).2.2.1 = (fun _ => 1#1)
    ∧ (Cert.Pre_mlp_residual_finite.fn (F := Ideal) (m ((c.tc : Thread Cert.MlpResidualIdeal.nD Cert.MlpResidualIdeal.τ).loc Cert.MlpResidualIdeal.main_arg0)) (m ((c.tc : Thread Cert.MlpResidualIdeal.nD Cert.MlpResidualIdeal.τ).loc Cert.MlpResidualIdeal.main_arg1)) (m ((c.tc : Thread Cert.MlpResidualIdeal.nD Cert.MlpResidualIdeal.τ).loc Cert.MlpResidualIdeal.main_arg2)) (m ((c.tc : Thread Cert.MlpResidualIdeal.nD Cert.MlpResidualIdeal.τ).loc Cert.MlpResidualIdeal.main_arg3)) (m ((c.tc : Thread Cert.MlpResidualIdeal.nD Cert.MlpResidualIdeal.τ).loc Cert.MlpResidualIdeal.main_arg4)) (m ((c.tc : Thread Cert.MlpResidualIdeal.nD Cert.MlpResidualIdeal.τ).loc Cert.MlpResidualIdeal.main_arg5))).2.2.2.1 = (fun _ => 1#1)
    ∧ (Cert.Pre_mlp_residual_finite.fn (F := Ideal) (m ((c.tc : Thread Cert.MlpResidualIdeal.nD Cert.MlpResidualIdeal.τ).loc Cert.MlpResidualIdeal.main_arg0)) (m ((c.tc : Thread Cert.MlpResidualIdeal.nD Cert.MlpResidualIdeal.τ).loc Cert.MlpResidualIdeal.main_arg1)) (m ((c.tc : Thread Cert.MlpResidualIdeal.nD Cert.MlpResidualIdeal.τ).loc Cert.MlpResidualIdeal.main_arg2)) (m ((c.tc : Thread Cert.MlpResidualIdeal.nD Cert.MlpResidualIdeal.τ).loc Cert.MlpResidualIdeal.main_arg3)) (m ((c.tc : Thread Cert.MlpResidualIdeal.nD Cert.MlpResidualIdeal.τ).loc Cert.MlpResidualIdeal.main_arg4)) (m ((c.tc : Thread Cert.MlpResidualIdeal.nD Cert.MlpResidualIdeal.τ).loc Cert.MlpResidualIdeal.main_arg5))).2.2.2.2.1 = (fun _ => 1#1)
    ∧ (Cert.Pre_mlp_residual_finite.fn (F := Ideal) (m ((c.tc : Thread Cert.MlpResidualIdeal.nD Cert.MlpResidualIdeal.τ).loc Cert.MlpResidualIdeal.main_arg0)) (m ((c.tc : Thread Cert.MlpResidualIdeal.nD Cert.MlpResidualIdeal.τ).loc Cert.MlpResidualIdeal.main_arg1)) (m ((c.tc : Thread Cert.MlpResidualIdeal.nD Cert.MlpResidualIdeal.τ).loc Cert.MlpResidualIdeal.main_arg2)) (m ((c.tc : Thread Cert.MlpResidualIdeal.nD Cert.MlpResidualIdeal.τ).loc Cert.MlpResidualIdeal.main_arg3)) (m ((c.tc : Thread Cert.MlpResidualIdeal.nD Cert.MlpResidualIdeal.τ).loc Cert.MlpResidualIdeal.main_arg4)) (m ((c.tc : Thread Cert.MlpResidualIdeal.nD Cert.MlpResidualIdeal.τ).loc Cert.MlpResidualIdeal.main_arg5))).2.2.2.2.2 = (fun _ => 1#1)

def Pre_MlpResidualRefIdeal (m : (ℓ : Loc Cert.MlpResidualRefIdeal.nD Cert.MlpResidualRefIdeal.τ Cert.MlpResidualRefIdeal.sig) → Buf (Elt Ideal) ℓ) : Prop :=
  True

def Pre_MlpResidualRefIdeal_mlp_residual_finite [hPre_mlp_residual_finite : Cert.Pre_mlp_residual_finite.Facts] (m : (ℓ : Loc Cert.MlpResidualRefIdeal.nD Cert.MlpResidualRefIdeal.τ Cert.MlpResidualRefIdeal.sig) → Buf (Elt Ideal) ℓ) : Prop :=
  ∀ c : Dev Cert.MlpResidualRefIdeal.nD,
    (Cert.Pre_mlp_residual_finite.fn (F := Ideal) (m ((c.tc : Thread Cert.MlpResidualRefIdeal.nD Cert.MlpResidualRefIdeal.τ).loc Cert.MlpResidualRefIdeal.main_arg0)) (m ((c.tc : Thread Cert.MlpResidualRefIdeal.nD Cert.MlpResidualRefIdeal.τ).loc Cert.MlpResidualRefIdeal.main_arg1)) (m ((c.tc : Thread Cert.MlpResidualRefIdeal.nD Cert.MlpResidualRefIdeal.τ).loc Cert.MlpResidualRefIdeal.main_arg2)) (m ((c.tc : Thread Cert.MlpResidualRefIdeal.nD Cert.MlpResidualRefIdeal.τ).loc Cert.MlpResidualRefIdeal.main_arg3)) (m ((c.tc : Thread Cert.MlpResidualRefIdeal.nD Cert.MlpResidualRefIdeal.τ).loc Cert.MlpResidualRefIdeal.main_arg4)) (m ((c.tc : Thread Cert.MlpResidualRefIdeal.nD Cert.MlpResidualRefIdeal.τ).loc Cert.MlpResidualRefIdeal.main_arg5))).1 = (fun _ => 1#1)
    ∧ (Cert.Pre_mlp_residual_finite.fn (F := Ideal) (m ((c.tc : Thread Cert.MlpResidualRefIdeal.nD Cert.MlpResidualRefIdeal.τ).loc Cert.MlpResidualRefIdeal.main_arg0)) (m ((c.tc : Thread Cert.MlpResidualRefIdeal.nD Cert.MlpResidualRefIdeal.τ).loc Cert.MlpResidualRefIdeal.main_arg1)) (m ((c.tc : Thread Cert.MlpResidualRefIdeal.nD Cert.MlpResidualRefIdeal.τ).loc Cert.MlpResidualRefIdeal.main_arg2)) (m ((c.tc : Thread Cert.MlpResidualRefIdeal.nD Cert.MlpResidualRefIdeal.τ).loc Cert.MlpResidualRefIdeal.main_arg3)) (m ((c.tc : Thread Cert.MlpResidualRefIdeal.nD Cert.MlpResidualRefIdeal.τ).loc Cert.MlpResidualRefIdeal.main_arg4)) (m ((c.tc : Thread Cert.MlpResidualRefIdeal.nD Cert.MlpResidualRefIdeal.τ).loc Cert.MlpResidualRefIdeal.main_arg5))).2.1 = (fun _ => 1#1)
    ∧ (Cert.Pre_mlp_residual_finite.fn (F := Ideal) (m ((c.tc : Thread Cert.MlpResidualRefIdeal.nD Cert.MlpResidualRefIdeal.τ).loc Cert.MlpResidualRefIdeal.main_arg0)) (m ((c.tc : Thread Cert.MlpResidualRefIdeal.nD Cert.MlpResidualRefIdeal.τ).loc Cert.MlpResidualRefIdeal.main_arg1)) (m ((c.tc : Thread Cert.MlpResidualRefIdeal.nD Cert.MlpResidualRefIdeal.τ).loc Cert.MlpResidualRefIdeal.main_arg2)) (m ((c.tc : Thread Cert.MlpResidualRefIdeal.nD Cert.MlpResidualRefIdeal.τ).loc Cert.MlpResidualRefIdeal.main_arg3)) (m ((c.tc : Thread Cert.MlpResidualRefIdeal.nD Cert.MlpResidualRefIdeal.τ).loc Cert.MlpResidualRefIdeal.main_arg4)) (m ((c.tc : Thread Cert.MlpResidualRefIdeal.nD Cert.MlpResidualRefIdeal.τ).loc Cert.MlpResidualRefIdeal.main_arg5))).2.2.1 = (fun _ => 1#1)
    ∧ (Cert.Pre_mlp_residual_finite.fn (F := Ideal) (m ((c.tc : Thread Cert.MlpResidualRefIdeal.nD Cert.MlpResidualRefIdeal.τ).loc Cert.MlpResidualRefIdeal.main_arg0)) (m ((c.tc : Thread Cert.MlpResidualRefIdeal.nD Cert.MlpResidualRefIdeal.τ).loc Cert.MlpResidualRefIdeal.main_arg1)) (m ((c.tc : Thread Cert.MlpResidualRefIdeal.nD Cert.MlpResidualRefIdeal.τ).loc Cert.MlpResidualRefIdeal.main_arg2)) (m ((c.tc : Thread Cert.MlpResidualRefIdeal.nD Cert.MlpResidualRefIdeal.τ).loc Cert.MlpResidualRefIdeal.main_arg3)) (m ((c.tc : Thread Cert.MlpResidualRefIdeal.nD Cert.MlpResidualRefIdeal.τ).loc Cert.MlpResidualRefIdeal.main_arg4)) (m ((c.tc : Thread Cert.MlpResidualRefIdeal.nD Cert.MlpResidualRefIdeal.τ).loc Cert.MlpResidualRefIdeal.main_arg5))).2.2.2.1 = (fun _ => 1#1)
    ∧ (Cert.Pre_mlp_residual_finite.fn (F := Ideal) (m ((c.tc : Thread Cert.MlpResidualRefIdeal.nD Cert.MlpResidualRefIdeal.τ).loc Cert.MlpResidualRefIdeal.main_arg0)) (m ((c.tc : Thread Cert.MlpResidualRefIdeal.nD Cert.MlpResidualRefIdeal.τ).loc Cert.MlpResidualRefIdeal.main_arg1)) (m ((c.tc : Thread Cert.MlpResidualRefIdeal.nD Cert.MlpResidualRefIdeal.τ).loc Cert.MlpResidualRefIdeal.main_arg2)) (m ((c.tc : Thread Cert.MlpResidualRefIdeal.nD Cert.MlpResidualRefIdeal.τ).loc Cert.MlpResidualRefIdeal.main_arg3)) (m ((c.tc : Thread Cert.MlpResidualRefIdeal.nD Cert.MlpResidualRefIdeal.τ).loc Cert.MlpResidualRefIdeal.main_arg4)) (m ((c.tc : Thread Cert.MlpResidualRefIdeal.nD Cert.MlpResidualRefIdeal.τ).loc Cert.MlpResidualRefIdeal.main_arg5))).2.2.2.2.1 = (fun _ => 1#1)
    ∧ (Cert.Pre_mlp_residual_finite.fn (F := Ideal) (m ((c.tc : Thread Cert.MlpResidualRefIdeal.nD Cert.MlpResidualRefIdeal.τ).loc Cert.MlpResidualRefIdeal.main_arg0)) (m ((c.tc : Thread Cert.MlpResidualRefIdeal.nD Cert.MlpResidualRefIdeal.τ).loc Cert.MlpResidualRefIdeal.main_arg1)) (m ((c.tc : Thread Cert.MlpResidualRefIdeal.nD Cert.MlpResidualRefIdeal.τ).loc Cert.MlpResidualRefIdeal.main_arg2)) (m ((c.tc : Thread Cert.MlpResidualRefIdeal.nD Cert.MlpResidualRefIdeal.τ).loc Cert.MlpResidualRefIdeal.main_arg3)) (m ((c.tc : Thread Cert.MlpResidualRefIdeal.nD Cert.MlpResidualRefIdeal.τ).loc Cert.MlpResidualRefIdeal.main_arg4)) (m ((c.tc : Thread Cert.MlpResidualRefIdeal.nD Cert.MlpResidualRefIdeal.τ).loc Cert.MlpResidualRefIdeal.main_arg5))).2.2.2.2.2 = (fun _ => 1#1)

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjIdeal_proj_grad_finite [hPre_proj_grad_finite : Cert.Pre_proj_grad_finite.Facts] (m : (ℓ : Loc Cert.ProjIdeal.nD Cert.ProjIdeal.τ Cert.ProjIdeal.sig) → Buf (Elt Ideal) ℓ) : Prop :=
  ∀ c : Dev Cert.ProjIdeal.nD,
    (Cert.Pre_proj_grad_finite.fn (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg3)) (m ((c.tc : Thread Cert.ProjIdeal.nD Cert.ProjIdeal.τ).loc Cert.ProjIdeal.main_arg4)) (m ((c.tc : Thread Cert.ProjIdeal.nD Cert.ProjIdeal.τ).loc Cert.ProjIdeal.main_arg5)) (m ((c.tc : Thread Cert.ProjIdeal.nD Cert.ProjIdeal.τ).loc Cert.ProjIdeal.main_arg6)) (m ((c.tc : Thread Cert.ProjIdeal.nD Cert.ProjIdeal.τ).loc Cert.ProjIdeal.main_arg7)) (m ((c.tc : Thread Cert.ProjIdeal.nD Cert.ProjIdeal.τ).loc Cert.ProjIdeal.main_arg8)) (m ((c.tc : Thread Cert.ProjIdeal.nD Cert.ProjIdeal.τ).loc Cert.ProjIdeal.main_arg9)) (m ((c.tc : Thread Cert.ProjIdeal.nD Cert.ProjIdeal.τ).loc Cert.ProjIdeal.main_arg10)) (m ((c.tc : Thread Cert.ProjIdeal.nD Cert.ProjIdeal.τ).loc Cert.ProjIdeal.main_arg11)) (m ((c.tc : Thread Cert.ProjIdeal.nD Cert.ProjIdeal.τ).loc Cert.ProjIdeal.main_arg12))).1 = (fun _ => 1#1)
    ∧ (Cert.Pre_proj_grad_finite.fn (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg3)) (m ((c.tc : Thread Cert.ProjIdeal.nD Cert.ProjIdeal.τ).loc Cert.ProjIdeal.main_arg4)) (m ((c.tc : Thread Cert.ProjIdeal.nD Cert.ProjIdeal.τ).loc Cert.ProjIdeal.main_arg5)) (m ((c.tc : Thread Cert.ProjIdeal.nD Cert.ProjIdeal.τ).loc Cert.ProjIdeal.main_arg6)) (m ((c.tc : Thread Cert.ProjIdeal.nD Cert.ProjIdeal.τ).loc Cert.ProjIdeal.main_arg7)) (m ((c.tc : Thread Cert.ProjIdeal.nD Cert.ProjIdeal.τ).loc Cert.ProjIdeal.main_arg8)) (m ((c.tc : Thread Cert.ProjIdeal.nD Cert.ProjIdeal.τ).loc Cert.ProjIdeal.main_arg9)) (m ((c.tc : Thread Cert.ProjIdeal.nD Cert.ProjIdeal.τ).loc Cert.ProjIdeal.main_arg10)) (m ((c.tc : Thread Cert.ProjIdeal.nD Cert.ProjIdeal.τ).loc Cert.ProjIdeal.main_arg11)) (m ((c.tc : Thread Cert.ProjIdeal.nD Cert.ProjIdeal.τ).loc Cert.ProjIdeal.main_arg12))).2.1 = (fun _ => 1#1)
    ∧ (Cert.Pre_proj_grad_finite.fn (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg3)) (m ((c.tc : Thread Cert.ProjIdeal.nD Cert.ProjIdeal.τ).loc Cert.ProjIdeal.main_arg4)) (m ((c.tc : Thread Cert.ProjIdeal.nD Cert.ProjIdeal.τ).loc Cert.ProjIdeal.main_arg5)) (m ((c.tc : Thread Cert.ProjIdeal.nD Cert.ProjIdeal.τ).loc Cert.ProjIdeal.main_arg6)) (m ((c.tc : Thread Cert.ProjIdeal.nD Cert.ProjIdeal.τ).loc Cert.ProjIdeal.main_arg7)) (m ((c.tc : Thread Cert.ProjIdeal.nD Cert.ProjIdeal.τ).loc Cert.ProjIdeal.main_arg8)) (m ((c.tc : Thread Cert.ProjIdeal.nD Cert.ProjIdeal.τ).loc Cert.ProjIdeal.main_arg9)) (m ((c.tc : Thread Cert.ProjIdeal.nD Cert.ProjIdeal.τ).loc Cert.ProjIdeal.main_arg10)) (m ((c.tc : Thread Cert.ProjIdeal.nD Cert.ProjIdeal.τ).loc Cert.ProjIdeal.main_arg11)) (m ((c.tc : Thread Cert.ProjIdeal.nD Cert.ProjIdeal.τ).loc Cert.ProjIdeal.main_arg12))).2.2.1 = (fun _ => 1#1)
    ∧ (Cert.Pre_proj_grad_finite.fn (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg3)) (m ((c.tc : Thread Cert.ProjIdeal.nD Cert.ProjIdeal.τ).loc Cert.ProjIdeal.main_arg4)) (m ((c.tc : Thread Cert.ProjIdeal.nD Cert.ProjIdeal.τ).loc Cert.ProjIdeal.main_arg5)) (m ((c.tc : Thread Cert.ProjIdeal.nD Cert.ProjIdeal.τ).loc Cert.ProjIdeal.main_arg6)) (m ((c.tc : Thread Cert.ProjIdeal.nD Cert.ProjIdeal.τ).loc Cert.ProjIdeal.main_arg7)) (m ((c.tc : Thread Cert.ProjIdeal.nD Cert.ProjIdeal.τ).loc Cert.ProjIdeal.main_arg8)) (m ((c.tc : Thread Cert.ProjIdeal.nD Cert.ProjIdeal.τ).loc Cert.ProjIdeal.main_arg9)) (m ((c.tc : Thread Cert.ProjIdeal.nD Cert.ProjIdeal.τ).loc Cert.ProjIdeal.main_arg10)) (m ((c.tc : Thread Cert.ProjIdeal.nD Cert.ProjIdeal.τ).loc Cert.ProjIdeal.main_arg11)) (m ((c.tc : Thread Cert.ProjIdeal.nD Cert.ProjIdeal.τ).loc Cert.ProjIdeal.main_arg12))).2.2.2.1 = (fun _ => 1#1)
    ∧ (Cert.Pre_proj_grad_finite.fn (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg3)) (m ((c.tc : Thread Cert.ProjIdeal.nD Cert.ProjIdeal.τ).loc Cert.ProjIdeal.main_arg4)) (m ((c.tc : Thread Cert.ProjIdeal.nD Cert.ProjIdeal.τ).loc Cert.ProjIdeal.main_arg5)) (m ((c.tc : Thread Cert.ProjIdeal.nD Cert.ProjIdeal.τ).loc Cert.ProjIdeal.main_arg6)) (m ((c.tc : Thread Cert.ProjIdeal.nD Cert.ProjIdeal.τ).loc Cert.ProjIdeal.main_arg7)) (m ((c.tc : Thread Cert.ProjIdeal.nD Cert.ProjIdeal.τ).loc Cert.ProjIdeal.main_arg8)) (m ((c.tc : Thread Cert.ProjIdeal.nD Cert.ProjIdeal.τ).loc Cert.ProjIdeal.main_arg9)) (m ((c.tc : Thread Cert.ProjIdeal.nD Cert.ProjIdeal.τ).loc Cert.ProjIdeal.main_arg10)) (m ((c.tc : Thread Cert.ProjIdeal.nD Cert.ProjIdeal.τ).loc Cert.ProjIdeal.main_arg11)) (m ((c.tc : Thread Cert.ProjIdeal.nD Cert.ProjIdeal.τ).loc Cert.ProjIdeal.main_arg12))).2.2.2.2.1 = (fun _ => 1#1)
    ∧ (Cert.Pre_proj_grad_finite.fn (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg3)) (m ((c.tc : Thread Cert.ProjIdeal.nD Cert.ProjIdeal.τ).loc Cert.ProjIdeal.main_arg4)) (m ((c.tc : Thread Cert.ProjIdeal.nD Cert.ProjIdeal.τ).loc Cert.ProjIdeal.main_arg5)) (m ((c.tc : Thread Cert.ProjIdeal.nD Cert.ProjIdeal.τ).loc Cert.ProjIdeal.main_arg6)) (m ((c.tc : Thread Cert.ProjIdeal.nD Cert.ProjIdeal.τ).loc Cert.ProjIdeal.main_arg7)) (m ((c.tc : Thread Cert.ProjIdeal.nD Cert.ProjIdeal.τ).loc Cert.ProjIdeal.main_arg8)) (m ((c.tc : Thread Cert.ProjIdeal.nD Cert.ProjIdeal.τ).loc Cert.ProjIdeal.main_arg9)) (m ((c.tc : Thread Cert.ProjIdeal.nD Cert.ProjIdeal.τ).loc Cert.ProjIdeal.main_arg10)) (m ((c.tc : Thread Cert.ProjIdeal.nD Cert.ProjIdeal.τ).loc Cert.ProjIdeal.main_arg11)) (m ((c.tc : Thread Cert.ProjIdeal.nD Cert.ProjIdeal.τ).loc Cert.ProjIdeal.main_arg12))).2.2.2.2.2.1 = (fun _ => 1#1)
    ∧ (Cert.Pre_proj_grad_finite.fn (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg3)) (m ((c.tc : Thread Cert.ProjIdeal.nD Cert.ProjIdeal.τ).loc Cert.ProjIdeal.main_arg4)) (m ((c.tc : Thread Cert.ProjIdeal.nD Cert.ProjIdeal.τ).loc Cert.ProjIdeal.main_arg5)) (m ((c.tc : Thread Cert.ProjIdeal.nD Cert.ProjIdeal.τ).loc Cert.ProjIdeal.main_arg6)) (m ((c.tc : Thread Cert.ProjIdeal.nD Cert.ProjIdeal.τ).loc Cert.ProjIdeal.main_arg7)) (m ((c.tc : Thread Cert.ProjIdeal.nD Cert.ProjIdeal.τ).loc Cert.ProjIdeal.main_arg8)) (m ((c.tc : Thread Cert.ProjIdeal.nD Cert.ProjIdeal.τ).loc Cert.ProjIdeal.main_arg9)) (m ((c.tc : Thread Cert.ProjIdeal.nD Cert.ProjIdeal.τ).loc Cert.ProjIdeal.main_arg10)) (m ((c.tc : Thread Cert.ProjIdeal.nD Cert.ProjIdeal.τ).loc Cert.ProjIdeal.main_arg11)) (m ((c.tc : Thread Cert.ProjIdeal.nD Cert.ProjIdeal.τ).loc Cert.ProjIdeal.main_arg12))).2.2.2.2.2.2.1 = (fun _ => 1#1)
    ∧ (Cert.Pre_proj_grad_finite.fn (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg3)) (m ((c.tc : Thread Cert.ProjIdeal.nD Cert.ProjIdeal.τ).loc Cert.ProjIdeal.main_arg4)) (m ((c.tc : Thread Cert.ProjIdeal.nD Cert.ProjIdeal.τ).loc Cert.ProjIdeal.main_arg5)) (m ((c.tc : Thread Cert.ProjIdeal.nD Cert.ProjIdeal.τ).loc Cert.ProjIdeal.main_arg6)) (m ((c.tc : Thread Cert.ProjIdeal.nD Cert.ProjIdeal.τ).loc Cert.ProjIdeal.main_arg7)) (m ((c.tc : Thread Cert.ProjIdeal.nD Cert.ProjIdeal.τ).loc Cert.ProjIdeal.main_arg8)) (m ((c.tc : Thread Cert.ProjIdeal.nD Cert.ProjIdeal.τ).loc Cert.ProjIdeal.main_arg9)) (m ((c.tc : Thread Cert.ProjIdeal.nD Cert.ProjIdeal.τ).loc Cert.ProjIdeal.main_arg10)) (m ((c.tc : Thread Cert.ProjIdeal.nD Cert.ProjIdeal.τ).loc Cert.ProjIdeal.main_arg11)) (m ((c.tc : Thread Cert.ProjIdeal.nD Cert.ProjIdeal.τ).loc Cert.ProjIdeal.main_arg12))).2.2.2.2.2.2.2.1 = (fun _ => 1#1)
    ∧ (Cert.Pre_proj_grad_finite.fn (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg3)) (m ((c.tc : Thread Cert.ProjIdeal.nD Cert.ProjIdeal.τ).loc Cert.ProjIdeal.main_arg4)) (m ((c.tc : Thread Cert.ProjIdeal.nD Cert.ProjIdeal.τ).loc Cert.ProjIdeal.main_arg5)) (m ((c.tc : Thread Cert.ProjIdeal.nD Cert.ProjIdeal.τ).loc Cert.ProjIdeal.main_arg6)) (m ((c.tc : Thread Cert.ProjIdeal.nD Cert.ProjIdeal.τ).loc Cert.ProjIdeal.main_arg7)) (m ((c.tc : Thread Cert.ProjIdeal.nD Cert.ProjIdeal.τ).loc Cert.ProjIdeal.main_arg8)) (m ((c.tc : Thread Cert.ProjIdeal.nD Cert.ProjIdeal.τ).loc Cert.ProjIdeal.main_arg9)) (m ((c.tc : Thread Cert.ProjIdeal.nD Cert.ProjIdeal.τ).loc Cert.ProjIdeal.main_arg10)) (m ((c.tc : Thread Cert.ProjIdeal.nD Cert.ProjIdeal.τ).loc Cert.ProjIdeal.main_arg11)) (m ((c.tc : Thread Cert.ProjIdeal.nD Cert.ProjIdeal.τ).loc Cert.ProjIdeal.main_arg12))).2.2.2.2.2.2.2.2 = (fun _ => 1#1)

def Pre_ProjRefIdeal (m : (ℓ : Loc Cert.ProjRefIdeal.nD Cert.ProjRefIdeal.τ Cert.ProjRefIdeal.sig) → Buf (Elt Ideal) ℓ) : Prop :=
  True

def Pre_ProjRefIdeal_proj_grad_finite [hPre_proj_grad_finite : Cert.Pre_proj_grad_finite.Facts] (m : (ℓ : Loc Cert.ProjRefIdeal.nD Cert.ProjRefIdeal.τ Cert.ProjRefIdeal.sig) → Buf (Elt Ideal) ℓ) : Prop :=
  ∀ c : Dev Cert.ProjRefIdeal.nD,
    (Cert.Pre_proj_grad_finite.fn (F := Ideal) (m ((c.tc : Thread Cert.ProjRefIdeal.nD Cert.ProjRefIdeal.τ).loc Cert.ProjRefIdeal.main_arg0)) (m ((c.tc : Thread Cert.ProjRefIdeal.nD Cert.ProjRefIdeal.τ).loc Cert.ProjRefIdeal.main_arg1)) (m ((c.tc : Thread Cert.ProjRefIdeal.nD Cert.ProjRefIdeal.τ).loc Cert.ProjRefIdeal.main_arg2)) (m ((c.tc : Thread Cert.ProjRefIdeal.nD Cert.ProjRefIdeal.τ).loc Cert.ProjRefIdeal.main_arg3)) (m ((c.tc : Thread Cert.ProjRefIdeal.nD Cert.ProjRefIdeal.τ).loc Cert.ProjRefIdeal.main_arg4)) (m ((c.tc : Thread Cert.ProjRefIdeal.nD Cert.ProjRefIdeal.τ).loc Cert.ProjRefIdeal.main_arg5)) (m ((c.tc : Thread Cert.ProjRefIdeal.nD Cert.ProjRefIdeal.τ).loc Cert.ProjRefIdeal.main_arg6)) (m ((c.tc : Thread Cert.ProjRefIdeal.nD Cert.ProjRefIdeal.τ).loc Cert.ProjRefIdeal.main_arg7)) (m ((c.tc : Thread Cert.ProjRefIdeal.nD Cert.ProjRefIdeal.τ).loc Cert.ProjRefIdeal.main_arg8)) (m ((c.tc : Thread Cert.ProjRefIdeal.nD Cert.ProjRefIdeal.τ).loc Cert.ProjRefIdeal.main_arg9)) (m ((c.tc : Thread Cert.ProjRefIdeal.nD Cert.ProjRefIdeal.τ).loc Cert.ProjRefIdeal.main_arg10)) (m ((c.tc : Thread Cert.ProjRefIdeal.nD Cert.ProjRefIdeal.τ).loc Cert.ProjRefIdeal.main_arg11)) (m ((c.tc : Thread Cert.ProjRefIdeal.nD Cert.ProjRefIdeal.τ).loc Cert.ProjRefIdeal.main_arg12))).1 = (fun _ => 1#1)
    ∧ (Cert.Pre_proj_grad_finite.fn (F := Ideal) (m ((c.tc : Thread Cert.ProjRefIdeal.nD Cert.ProjRefIdeal.τ).loc Cert.ProjRefIdeal.main_arg0)) (m ((c.tc : Thread Cert.ProjRefIdeal.nD Cert.ProjRefIdeal.τ).loc Cert.ProjRefIdeal.main_arg1)) (m ((c.tc : Thread Cert.ProjRefIdeal.nD Cert.ProjRefIdeal.τ).loc Cert.ProjRefIdeal.main_arg2)) (m ((c.tc : Thread Cert.ProjRefIdeal.nD Cert.ProjRefIdeal.τ).loc Cert.ProjRefIdeal.main_arg3)) (m ((c.tc : Thread Cert.ProjRefIdeal.nD Cert.ProjRefIdeal.τ).loc Cert.ProjRefIdeal.main_arg4)) (m ((c.tc : Thread Cert.ProjRefIdeal.nD Cert.ProjRefIdeal.τ).loc Cert.ProjRefIdeal.main_arg5)) (m ((c.tc : Thread Cert.ProjRefIdeal.nD Cert.ProjRefIdeal.τ).loc Cert.ProjRefIdeal.main_arg6)) (m ((c.tc : Thread Cert.ProjRefIdeal.nD Cert.ProjRefIdeal.τ).loc Cert.ProjRefIdeal.main_arg7)) (m ((c.tc : Thread Cert.ProjRefIdeal.nD Cert.ProjRefIdeal.τ).loc Cert.ProjRefIdeal.main_arg8)) (m ((c.tc : Thread Cert.ProjRefIdeal.nD Cert.ProjRefIdeal.τ).loc Cert.ProjRefIdeal.main_arg9)) (m ((c.tc : Thread Cert.ProjRefIdeal.nD Cert.ProjRefIdeal.τ).loc Cert.ProjRefIdeal.main_arg10)) (m ((c.tc : Thread Cert.ProjRefIdeal.nD Cert.ProjRefIdeal.τ).loc Cert.ProjRefIdeal.main_arg11)) (m ((c.tc : Thread Cert.ProjRefIdeal.nD Cert.ProjRefIdeal.τ).loc Cert.ProjRefIdeal.main_arg12))).2.1 = (fun _ => 1#1)
    ∧ (Cert.Pre_proj_grad_finite.fn (F := Ideal) (m ((c.tc : Thread Cert.ProjRefIdeal.nD Cert.ProjRefIdeal.τ).loc Cert.ProjRefIdeal.main_arg0)) (m ((c.tc : Thread Cert.ProjRefIdeal.nD Cert.ProjRefIdeal.τ).loc Cert.ProjRefIdeal.main_arg1)) (m ((c.tc : Thread Cert.ProjRefIdeal.nD Cert.ProjRefIdeal.τ).loc Cert.ProjRefIdeal.main_arg2)) (m ((c.tc : Thread Cert.ProjRefIdeal.nD Cert.ProjRefIdeal.τ).loc Cert.ProjRefIdeal.main_arg3)) (m ((c.tc : Thread Cert.ProjRefIdeal.nD Cert.ProjRefIdeal.τ).loc Cert.ProjRefIdeal.main_arg4)) (m ((c.tc : Thread Cert.ProjRefIdeal.nD Cert.ProjRefIdeal.τ).loc Cert.ProjRefIdeal.main_arg5)) (m ((c.tc : Thread Cert.ProjRefIdeal.nD Cert.ProjRefIdeal.τ).loc Cert.ProjRefIdeal.main_arg6)) (m ((c.tc : Thread Cert.ProjRefIdeal.nD Cert.ProjRefIdeal.τ).loc Cert.ProjRefIdeal.main_arg7)) (m ((c.tc : Thread Cert.ProjRefIdeal.nD Cert.ProjRefIdeal.τ).loc Cert.ProjRefIdeal.main_arg8)) (m ((c.tc : Thread Cert.ProjRefIdeal.nD Cert.ProjRefIdeal.τ).loc Cert.ProjRefIdeal.main_arg9)) (m ((c.tc : Thread Cert.ProjRefIdeal.nD Cert.ProjRefIdeal.τ).loc Cert.ProjRefIdeal.main_arg10)) (m ((c.tc : Thread Cert.ProjRefIdeal.nD Cert.ProjRefIdeal.τ).loc Cert.ProjRefIdeal.main_arg11)) (m ((c.tc : Thread Cert.ProjRefIdeal.nD Cert.ProjRefIdeal.τ).loc Cert.ProjRefIdeal.main_arg12))).2.2.1 = (fun _ => 1#1)
    ∧ (Cert.Pre_proj_grad_finite.fn (F := Ideal) (m ((c.tc : Thread Cert.ProjRefIdeal.nD Cert.ProjRefIdeal.τ).loc Cert.ProjRefIdeal.main_arg0)) (m ((c.tc : Thread Cert.ProjRefIdeal.nD Cert.ProjRefIdeal.τ).loc Cert.ProjRefIdeal.main_arg1)) (m ((c.tc : Thread Cert.ProjRefIdeal.nD Cert.ProjRefIdeal.τ).loc Cert.ProjRefIdeal.main_arg2)) (m ((c.tc : Thread Cert.ProjRefIdeal.nD Cert.ProjRefIdeal.τ).loc Cert.ProjRefIdeal.main_arg3)) (m ((c.tc : Thread Cert.ProjRefIdeal.nD Cert.ProjRefIdeal.τ).loc Cert.ProjRefIdeal.main_arg4)) (m ((c.tc : Thread Cert.ProjRefIdeal.nD Cert.ProjRefIdeal.τ).loc Cert.ProjRefIdeal.main_arg5)) (m ((c.tc : Thread Cert.ProjRefIdeal.nD Cert.ProjRefIdeal.τ).loc Cert.ProjRefIdeal.main_arg6)) (m ((c.tc : Thread Cert.ProjRefIdeal.nD Cert.ProjRefIdeal.τ).loc Cert.ProjRefIdeal.main_arg7)) (m ((c.tc : Thread Cert.ProjRefIdeal.nD Cert.ProjRefIdeal.τ).loc Cert.ProjRefIdeal.main_arg8)) (m ((c.tc : Thread Cert.ProjRefIdeal.nD Cert.ProjRefIdeal.τ).loc Cert.ProjRefIdeal.main_arg9)) (m ((c.tc : Thread Cert.ProjRefIdeal.nD Cert.ProjRefIdeal.τ).loc Cert.ProjRefIdeal.main_arg10)) (m ((c.tc : Thread Cert.ProjRefIdeal.nD Cert.ProjRefIdeal.τ).loc Cert.ProjRefIdeal.main_arg11)) (m ((c.tc : Thread Cert.ProjRefIdeal.nD Cert.ProjRefIdeal.τ).loc Cert.ProjRefIdeal.main_arg12))).2.2.2.1 = (fun _ => 1#1)
    ∧ (Cert.Pre_proj_grad_finite.fn (F := Ideal) (m ((c.tc : Thread Cert.ProjRefIdeal.nD Cert.ProjRefIdeal.τ).loc Cert.ProjRefIdeal.main_arg0)) (m ((c.tc : Thread Cert.ProjRefIdeal.nD Cert.ProjRefIdeal.τ).loc Cert.ProjRefIdeal.main_arg1)) (m ((c.tc : Thread Cert.ProjRefIdeal.nD Cert.ProjRefIdeal.τ).loc Cert.ProjRefIdeal.main_arg2)) (m ((c.tc : Thread Cert.ProjRefIdeal.nD Cert.ProjRefIdeal.τ).loc Cert.ProjRefIdeal.main_arg3)) (m ((c.tc : Thread Cert.ProjRefIdeal.nD Cert.ProjRefIdeal.τ).loc Cert.ProjRefIdeal.main_arg4)) (m ((c.tc : Thread Cert.ProjRefIdeal.nD Cert.ProjRefIdeal.τ).loc Cert.ProjRefIdeal.main_arg5)) (m ((c.tc : Thread Cert.ProjRefIdeal.nD Cert.ProjRefIdeal.τ).loc Cert.ProjRefIdeal.main_arg6)) (m ((c.tc : Thread Cert.ProjRefIdeal.nD Cert.ProjRefIdeal.τ).loc Cert.ProjRefIdeal.main_arg7)) (m ((c.tc : Thread Cert.ProjRefIdeal.nD Cert.ProjRefIdeal.τ).loc Cert.ProjRefIdeal.main_arg8)) (m ((c.tc : Thread Cert.ProjRefIdeal.nD Cert.ProjRefIdeal.τ).loc Cert.ProjRefIdeal.main_arg9)) (m ((c.tc : Thread Cert.ProjRefIdeal.nD Cert.ProjRefIdeal.τ).loc Cert.ProjRefIdeal.main_arg10)) (m ((c.tc : Thread Cert.ProjRefIdeal.nD Cert.ProjRefIdeal.τ).loc Cert.ProjRefIdeal.main_arg11)) (m ((c.tc : Thread Cert.ProjRefIdeal.nD Cert.ProjRefIdeal.τ).loc Cert.ProjRefIdeal.main_arg12))).2.2.2.2.1 = (fun _ => 1#1)
    ∧ (Cert.Pre_proj_grad_finite.fn (F := Ideal) (m ((c.tc : Thread Cert.ProjRefIdeal.nD Cert.ProjRefIdeal.τ).loc Cert.ProjRefIdeal.main_arg0)) (m ((c.tc : Thread Cert.ProjRefIdeal.nD Cert.ProjRefIdeal.τ).loc Cert.ProjRefIdeal.main_arg1)) (m ((c.tc : Thread Cert.ProjRefIdeal.nD Cert.ProjRefIdeal.τ).loc Cert.ProjRefIdeal.main_arg2)) (m ((c.tc : Thread Cert.ProjRefIdeal.nD Cert.ProjRefIdeal.τ).loc Cert.ProjRefIdeal.main_arg3)) (m ((c.tc : Thread Cert.ProjRefIdeal.nD Cert.ProjRefIdeal.τ).loc Cert.ProjRefIdeal.main_arg4)) (m ((c.tc : Thread Cert.ProjRefIdeal.nD Cert.ProjRefIdeal.τ).loc Cert.ProjRefIdeal.main_arg5)) (m ((c.tc : Thread Cert.ProjRefIdeal.nD Cert.ProjRefIdeal.τ).loc Cert.ProjRefIdeal.main_arg6)) (m ((c.tc : Thread Cert.ProjRefIdeal.nD Cert.ProjRefIdeal.τ).loc Cert.ProjRefIdeal.main_arg7)) (m ((c.tc : Thread Cert.ProjRefIdeal.nD Cert.ProjRefIdeal.τ).loc Cert.ProjRefIdeal.main_arg8)) (m ((c.tc : Thread Cert.ProjRefIdeal.nD Cert.ProjRefIdeal.τ).loc Cert.ProjRefIdeal.main_arg9)) (m ((c.tc : Thread Cert.ProjRefIdeal.nD Cert.ProjRefIdeal.τ).loc Cert.ProjRefIdeal.main_arg10)) (m ((c.tc : Thread Cert.ProjRefIdeal.nD Cert.ProjRefIdeal.τ).loc Cert.ProjRefIdeal.main_arg11)) (m ((c.tc : Thread Cert.ProjRefIdeal.nD Cert.ProjRefIdeal.τ).loc Cert.ProjRefIdeal.main_arg12))).2.2.2.2.2.1 = (fun _ => 1#1)
    ∧ (Cert.Pre_proj_grad_finite.fn (F := Ideal) (m ((c.tc : Thread Cert.ProjRefIdeal.nD Cert.ProjRefIdeal.τ).loc Cert.ProjRefIdeal.main_arg0)) (m ((c.tc : Thread Cert.ProjRefIdeal.nD Cert.ProjRefIdeal.τ).loc Cert.ProjRefIdeal.main_arg1)) (m ((c.tc : Thread Cert.ProjRefIdeal.nD Cert.ProjRefIdeal.τ).loc Cert.ProjRefIdeal.main_arg2)) (m ((c.tc : Thread Cert.ProjRefIdeal.nD Cert.ProjRefIdeal.τ).loc Cert.ProjRefIdeal.main_arg3)) (m ((c.tc : Thread Cert.ProjRefIdeal.nD Cert.ProjRefIdeal.τ).loc Cert.ProjRefIdeal.main_arg4)) (m ((c.tc : Thread Cert.ProjRefIdeal.nD Cert.ProjRefIdeal.τ).loc Cert.ProjRefIdeal.main_arg5)) (m ((c.tc : Thread Cert.ProjRefIdeal.nD Cert.ProjRefIdeal.τ).loc Cert.ProjRefIdeal.main_arg6)) (m ((c.tc : Thread Cert.ProjRefIdeal.nD Cert.ProjRefIdeal.τ).loc Cert.ProjRefIdeal.main_arg7)) (m ((c.tc : Thread Cert.ProjRefIdeal.nD Cert.ProjRefIdeal.τ).loc Cert.ProjRefIdeal.main_arg8)) (m ((c.tc : Thread Cert.ProjRefIdeal.nD Cert.ProjRefIdeal.τ).loc Cert.ProjRefIdeal.main_arg9)) (m ((c.tc : Thread Cert.ProjRefIdeal.nD Cert.ProjRefIdeal.τ).loc Cert.ProjRefIdeal.main_arg10)) (m ((c.tc : Thread Cert.ProjRefIdeal.nD Cert.ProjRefIdeal.τ).loc Cert.ProjRefIdeal.main_arg11)) (m ((c.tc : Thread Cert.ProjRefIdeal.nD Cert.ProjRefIdeal.τ).loc Cert.ProjRefIdeal.main_arg12))).2.2.2.2.2.2.1 = (fun _ => 1#1)
    ∧ (Cert.Pre_proj_grad_finite.fn (F := Ideal) (m ((c.tc : Thread Cert.ProjRefIdeal.nD Cert.ProjRefIdeal.τ).loc Cert.ProjRefIdeal.main_arg0)) (m ((c.tc : Thread Cert.ProjRefIdeal.nD Cert.ProjRefIdeal.τ).loc Cert.ProjRefIdeal.main_arg1)) (m ((c.tc : Thread Cert.ProjRefIdeal.nD Cert.ProjRefIdeal.τ).loc Cert.ProjRefIdeal.main_arg2)) (m ((c.tc : Thread Cert.ProjRefIdeal.nD Cert.ProjRefIdeal.τ).loc Cert.ProjRefIdeal.main_arg3)) (m ((c.tc : Thread Cert.ProjRefIdeal.nD Cert.ProjRefIdeal.τ).loc Cert.ProjRefIdeal.main_arg4)) (m ((c.tc : Thread Cert.ProjRefIdeal.nD Cert.ProjRefIdeal.τ).loc Cert.ProjRefIdeal.main_arg5)) (m ((c.tc : Thread Cert.ProjRefIdeal.nD Cert.ProjRefIdeal.τ).loc Cert.ProjRefIdeal.main_arg6)) (m ((c.tc : Thread Cert.ProjRefIdeal.nD Cert.ProjRefIdeal.τ).loc Cert.ProjRefIdeal.main_arg7)) (m ((c.tc : Thread Cert.ProjRefIdeal.nD Cert.ProjRefIdeal.τ).loc Cert.ProjRefIdeal.main_arg8)) (m ((c.tc : Thread Cert.ProjRefIdeal.nD Cert.ProjRefIdeal.τ).loc Cert.ProjRefIdeal.main_arg9)) (m ((c.tc : Thread Cert.ProjRefIdeal.nD Cert.ProjRefIdeal.τ).loc Cert.ProjRefIdeal.main_arg10)) (m ((c.tc : Thread Cert.ProjRefIdeal.nD Cert.ProjRefIdeal.τ).loc Cert.ProjRefIdeal.main_arg11)) (m ((c.tc : Thread Cert.ProjRefIdeal.nD Cert.ProjRefIdeal.τ).loc Cert.ProjRefIdeal.main_arg12))).2.2.2.2.2.2.2.1 = (fun _ => 1#1)
    ∧ (Cert.Pre_proj_grad_finite.fn (F := Ideal) (m ((c.tc : Thread Cert.ProjRefIdeal.nD Cert.ProjRefIdeal.τ).loc Cert.ProjRefIdeal.main_arg0)) (m ((c.tc : Thread Cert.ProjRefIdeal.nD Cert.ProjRefIdeal.τ).loc Cert.ProjRefIdeal.main_arg1)) (m ((c.tc : Thread Cert.ProjRefIdeal.nD Cert.ProjRefIdeal.τ).loc Cert.ProjRefIdeal.main_arg2)) (m ((c.tc : Thread Cert.ProjRefIdeal.nD Cert.ProjRefIdeal.τ).loc Cert.ProjRefIdeal.main_arg3)) (m ((c.tc : Thread Cert.ProjRefIdeal.nD Cert.ProjRefIdeal.τ).loc Cert.ProjRefIdeal.main_arg4)) (m ((c.tc : Thread Cert.ProjRefIdeal.nD Cert.ProjRefIdeal.τ).loc Cert.ProjRefIdeal.main_arg5)) (m ((c.tc : Thread Cert.ProjRefIdeal.nD Cert.ProjRefIdeal.τ).loc Cert.ProjRefIdeal.main_arg6)) (m ((c.tc : Thread Cert.ProjRefIdeal.nD Cert.ProjRefIdeal.τ).loc Cert.ProjRefIdeal.main_arg7)) (m ((c.tc : Thread Cert.ProjRefIdeal.nD Cert.ProjRefIdeal.τ).loc Cert.ProjRefIdeal.main_arg8)) (m ((c.tc : Thread Cert.ProjRefIdeal.nD Cert.ProjRefIdeal.τ).loc Cert.ProjRefIdeal.main_arg9)) (m ((c.tc : Thread Cert.ProjRefIdeal.nD Cert.ProjRefIdeal.τ).loc Cert.ProjRefIdeal.main_arg10)) (m ((c.tc : Thread Cert.ProjRefIdeal.nD Cert.ProjRefIdeal.τ).loc Cert.ProjRefIdeal.main_arg11)) (m ((c.tc : Thread Cert.ProjRefIdeal.nD Cert.ProjRefIdeal.τ).loc Cert.ProjRefIdeal.main_arg12))).2.2.2.2.2.2.2.2 = (fun _ => 1#1)

def Pre_Delta (m : (ℓ : Loc Cert.Delta.nD Cert.Delta.τ Cert.Delta.sig) → Buf (Elt Bits) ℓ) : Prop :=
  True

def Pre_DeltaIdeal (m : (ℓ : Loc Cert.DeltaIdeal.nD Cert.DeltaIdeal.τ Cert.DeltaIdeal.sig) → Buf (Elt Ideal) ℓ) : Prop :=
  True

def Pre_DeltaIdeal_delta_finite [hPre_delta_finite : Cert.Pre_delta_finite.Facts] (m : (ℓ : Loc Cert.DeltaIdeal.nD Cert.DeltaIdeal.τ Cert.DeltaIdeal.sig) → Buf (Elt Ideal) ℓ) : Prop :=
  ∀ c : Dev Cert.DeltaIdeal.nD,
    (Cert.Pre_delta_finite.fn (F := Ideal) (m ((c.tc : Thread Cert.DeltaIdeal.nD Cert.DeltaIdeal.τ).loc Cert.DeltaIdeal.main_arg0)) (m ((c.tc : Thread Cert.DeltaIdeal.nD Cert.DeltaIdeal.τ).loc Cert.DeltaIdeal.main_arg1)) (m ((c.tc : Thread Cert.DeltaIdeal.nD Cert.DeltaIdeal.τ).loc Cert.DeltaIdeal.main_arg2)) (m ((c.tc : Thread Cert.DeltaIdeal.nD Cert.DeltaIdeal.τ).loc Cert.DeltaIdeal.main_arg3))).1 = (fun _ => 1#1)
    ∧ (Cert.Pre_delta_finite.fn (F := Ideal) (m ((c.tc : Thread Cert.DeltaIdeal.nD Cert.DeltaIdeal.τ).loc Cert.DeltaIdeal.main_arg0)) (m ((c.tc : Thread Cert.DeltaIdeal.nD Cert.DeltaIdeal.τ).loc Cert.DeltaIdeal.main_arg1)) (m ((c.tc : Thread Cert.DeltaIdeal.nD Cert.DeltaIdeal.τ).loc Cert.DeltaIdeal.main_arg2)) (m ((c.tc : Thread Cert.DeltaIdeal.nD Cert.DeltaIdeal.τ).loc Cert.DeltaIdeal.main_arg3))).2.1 = (fun _ => 1#1)
    ∧ (Cert.Pre_delta_finite.fn (F := Ideal) (m ((c.tc : Thread Cert.DeltaIdeal.nD Cert.DeltaIdeal.τ).loc Cert.DeltaIdeal.main_arg0)) (m ((c.tc : Thread Cert.DeltaIdeal.nD Cert.DeltaIdeal.τ).loc Cert.DeltaIdeal.main_arg1)) (m ((c.tc : Thread Cert.DeltaIdeal.nD Cert.DeltaIdeal.τ).loc Cert.DeltaIdeal.main_arg2)) (m ((c.tc : Thread Cert.DeltaIdeal.nD Cert.DeltaIdeal.τ).loc Cert.DeltaIdeal.main_arg3))).2.2.1 = (fun _ => 1#1)
    ∧ (Cert.Pre_delta_finite.fn (F := Ideal) (m ((c.tc : Thread Cert.DeltaIdeal.nD Cert.DeltaIdeal.τ).loc Cert.DeltaIdeal.main_arg0)) (m ((c.tc : Thread Cert.DeltaIdeal.nD Cert.DeltaIdeal.τ).loc Cert.DeltaIdeal.main_arg1)) (m ((c.tc : Thread Cert.DeltaIdeal.nD Cert.DeltaIdeal.τ).loc Cert.DeltaIdeal.main_arg2)) (m ((c.tc : Thread Cert.DeltaIdeal.nD Cert.DeltaIdeal.τ).loc Cert.DeltaIdeal.main_arg3))).2.2.2 = (fun _ => 1#1)

def Pre_DeltaRefIdeal (m : (ℓ : Loc Cert.DeltaRefIdeal.nD Cert.DeltaRefIdeal.τ Cert.DeltaRefIdeal.sig) → Buf (Elt Ideal) ℓ) : Prop :=
  True

def Pre_DeltaRefIdeal_delta_finite [hPre_delta_finite : Cert.Pre_delta_finite.Facts] (m : (ℓ : Loc Cert.DeltaRefIdeal.nD Cert.DeltaRefIdeal.τ Cert.DeltaRefIdeal.sig) → Buf (Elt Ideal) ℓ) : Prop :=
  ∀ c : Dev Cert.DeltaRefIdeal.nD,
    (Cert.Pre_delta_finite.fn (F := Ideal) (m ((c.tc : Thread Cert.DeltaRefIdeal.nD Cert.DeltaRefIdeal.τ).loc Cert.DeltaRefIdeal.main_arg0)) (m ((c.tc : Thread Cert.DeltaRefIdeal.nD Cert.DeltaRefIdeal.τ).loc Cert.DeltaRefIdeal.main_arg1)) (m ((c.tc : Thread Cert.DeltaRefIdeal.nD Cert.DeltaRefIdeal.τ).loc Cert.DeltaRefIdeal.main_arg2)) (m ((c.tc : Thread Cert.DeltaRefIdeal.nD Cert.DeltaRefIdeal.τ).loc Cert.DeltaRefIdeal.main_arg3))).1 = (fun _ => 1#1)
    ∧ (Cert.Pre_delta_finite.fn (F := Ideal) (m ((c.tc : Thread Cert.DeltaRefIdeal.nD Cert.DeltaRefIdeal.τ).loc Cert.DeltaRefIdeal.main_arg0)) (m ((c.tc : Thread Cert.DeltaRefIdeal.nD Cert.DeltaRefIdeal.τ).loc Cert.DeltaRefIdeal.main_arg1)) (m ((c.tc : Thread Cert.DeltaRefIdeal.nD Cert.DeltaRefIdeal.τ).loc Cert.DeltaRefIdeal.main_arg2)) (m ((c.tc : Thread Cert.DeltaRefIdeal.nD Cert.DeltaRefIdeal.τ).loc Cert.DeltaRefIdeal.main_arg3))).2.1 = (fun _ => 1#1)
    ∧ (Cert.Pre_delta_finite.fn (F := Ideal) (m ((c.tc : Thread Cert.DeltaRefIdeal.nD Cert.DeltaRefIdeal.τ).loc Cert.DeltaRefIdeal.main_arg0)) (m ((c.tc : Thread Cert.DeltaRefIdeal.nD Cert.DeltaRefIdeal.τ).loc Cert.DeltaRefIdeal.main_arg1)) (m ((c.tc : Thread Cert.DeltaRefIdeal.nD Cert.DeltaRefIdeal.τ).loc Cert.DeltaRefIdeal.main_arg2)) (m ((c.tc : Thread Cert.DeltaRefIdeal.nD Cert.DeltaRefIdeal.τ).loc Cert.DeltaRefIdeal.main_arg3))).2.2.1 = (fun _ => 1#1)
    ∧ (Cert.Pre_delta_finite.fn (F := Ideal) (m ((c.tc : Thread Cert.DeltaRefIdeal.nD Cert.DeltaRefIdeal.τ).loc Cert.DeltaRefIdeal.main_arg0)) (m ((c.tc : Thread Cert.DeltaRefIdeal.nD Cert.DeltaRefIdeal.τ).loc Cert.DeltaRefIdeal.main_arg1)) (m ((c.tc : Thread Cert.DeltaRefIdeal.nD Cert.DeltaRefIdeal.τ).loc Cert.DeltaRefIdeal.main_arg2)) (m ((c.tc : Thread Cert.DeltaRefIdeal.nD Cert.DeltaRefIdeal.τ).loc Cert.DeltaRefIdeal.main_arg3))).2.2.2 = (fun _ => 1#1)

def Pre_Unpack (m : (ℓ : Loc Cert.Unpack.nD Cert.Unpack.τ Cert.Unpack.sig) → Buf (Elt Bits) ℓ) : Prop :=
  True

def Pre_UnpackIdeal (m : (ℓ : Loc Cert.UnpackIdeal.nD Cert.UnpackIdeal.τ Cert.UnpackIdeal.sig) → Buf (Elt Ideal) ℓ) : Prop :=
  True

def Pre_UnpackRefIdeal (m : (ℓ : Loc Cert.UnpackRefIdeal.nD Cert.UnpackRefIdeal.τ Cert.UnpackRefIdeal.sig) → Buf (Elt Ideal) ℓ) : Prop :=
  True

def Pre_Convxs (m : (ℓ : Loc Cert.Convxs.nD Cert.Convxs.τ Cert.Convxs.sig) → Buf (Elt Bits) ℓ) : Prop :=
  True

def Pre_ConvxsIdeal (m : (ℓ : Loc Cert.ConvxsIdeal.nD Cert.ConvxsIdeal.τ Cert.ConvxsIdeal.sig) → Buf (Elt Ideal) ℓ) : Prop :=
  True

def Pre_ConvxsIdeal_conv_xs_finite [hPre_conv_xs_finite : Cert.Pre_conv_xs_finite.Facts] (m : (ℓ : Loc Cert.ConvxsIdeal.nD Cert.ConvxsIdeal.τ Cert.ConvxsIdeal.sig) → Buf (Elt Ideal) ℓ) : Prop :=
  ∀ c : Dev Cert.ConvxsIdeal.nD,
    (Cert.Pre_conv_xs_finite.fn (F := Ideal) (m ((c.tc : Thread Cert.ConvxsIdeal.nD Cert.ConvxsIdeal.τ).loc Cert.ConvxsIdeal.main_arg0)) (m ((c.tc : Thread Cert.ConvxsIdeal.nD Cert.ConvxsIdeal.τ).loc Cert.ConvxsIdeal.main_arg1)) (m ((c.tc : Thread Cert.ConvxsIdeal.nD Cert.ConvxsIdeal.τ).loc Cert.ConvxsIdeal.main_arg2)) (m ((c.tc : Thread Cert.ConvxsIdeal.nD Cert.ConvxsIdeal.τ).loc Cert.ConvxsIdeal.main_arg3))).1 = (fun _ => 1#1)
    ∧ (Cert.Pre_conv_xs_finite.fn (F := Ideal) (m ((c.tc : Thread Cert.ConvxsIdeal.nD Cert.ConvxsIdeal.τ).loc Cert.ConvxsIdeal.main_arg0)) (m ((c.tc : Thread Cert.ConvxsIdeal.nD Cert.ConvxsIdeal.τ).loc Cert.ConvxsIdeal.main_arg1)) (m ((c.tc : Thread Cert.ConvxsIdeal.nD Cert.ConvxsIdeal.τ).loc Cert.ConvxsIdeal.main_arg2)) (m ((c.tc : Thread Cert.ConvxsIdeal.nD Cert.ConvxsIdeal.τ).loc Cert.ConvxsIdeal.main_arg3))).2.1 = (fun _ => 1#1)
    ∧ (Cert.Pre_conv_xs_finite.fn (F := Ideal) (m ((c.tc : Thread Cert.ConvxsIdeal.nD Cert.ConvxsIdeal.τ).loc Cert.ConvxsIdeal.main_arg0)) (m ((c.tc : Thread Cert.ConvxsIdeal.nD Cert.ConvxsIdeal.τ).loc Cert.ConvxsIdeal.main_arg1)) (m ((c.tc : Thread Cert.ConvxsIdeal.nD Cert.ConvxsIdeal.τ).loc Cert.ConvxsIdeal.main_arg2)) (m ((c.tc : Thread Cert.ConvxsIdeal.nD Cert.ConvxsIdeal.τ).loc Cert.ConvxsIdeal.main_arg3))).2.2.1 = (fun _ => 1#1)
    ∧ (Cert.Pre_conv_xs_finite.fn (F := Ideal) (m ((c.tc : Thread Cert.ConvxsIdeal.nD Cert.ConvxsIdeal.τ).loc Cert.ConvxsIdeal.main_arg0)) (m ((c.tc : Thread Cert.ConvxsIdeal.nD Cert.ConvxsIdeal.τ).loc Cert.ConvxsIdeal.main_arg1)) (m ((c.tc : Thread Cert.ConvxsIdeal.nD Cert.ConvxsIdeal.τ).loc Cert.ConvxsIdeal.main_arg2)) (m ((c.tc : Thread Cert.ConvxsIdeal.nD Cert.ConvxsIdeal.τ).loc Cert.ConvxsIdeal.main_arg3))).2.2.2 = (fun _ => 1#1)

def Pre_ConvxsRefIdeal (m : (ℓ : Loc Cert.ConvxsRefIdeal.nD Cert.ConvxsRefIdeal.τ Cert.ConvxsRefIdeal.sig) → Buf (Elt Ideal) ℓ) : Prop :=
  True

def Pre_ConvxsRefIdeal_conv_xs_finite [hPre_conv_xs_finite : Cert.Pre_conv_xs_finite.Facts] (m : (ℓ : Loc Cert.ConvxsRefIdeal.nD Cert.ConvxsRefIdeal.τ Cert.ConvxsRefIdeal.sig) → Buf (Elt Ideal) ℓ) : Prop :=
  ∀ c : Dev Cert.ConvxsRefIdeal.nD,
    (Cert.Pre_conv_xs_finite.fn (F := Ideal) (m ((c.tc : Thread Cert.ConvxsRefIdeal.nD Cert.ConvxsRefIdeal.τ).loc Cert.ConvxsRefIdeal.main_arg0)) (m ((c.tc : Thread Cert.ConvxsRefIdeal.nD Cert.ConvxsRefIdeal.τ).loc Cert.ConvxsRefIdeal.main_arg1)) (m ((c.tc : Thread Cert.ConvxsRefIdeal.nD Cert.ConvxsRefIdeal.τ).loc Cert.ConvxsRefIdeal.main_arg2)) (m ((c.tc : Thread Cert.ConvxsRefIdeal.nD Cert.ConvxsRefIdeal.τ).loc Cert.ConvxsRefIdeal.main_arg3))).1 = (fun _ => 1#1)
    ∧ (Cert.Pre_conv_xs_finite.fn (F := Ideal) (m ((c.tc : Thread Cert.ConvxsRefIdeal.nD Cert.ConvxsRefIdeal.τ).loc Cert.ConvxsRefIdeal.main_arg0)) (m ((c.tc : Thread Cert.ConvxsRefIdeal.nD Cert.ConvxsRefIdeal.τ).loc Cert.ConvxsRefIdeal.main_arg1)) (m ((c.tc : Thread Cert.ConvxsRefIdeal.nD Cert.ConvxsRefIdeal.τ).loc Cert.ConvxsRefIdeal.main_arg2)) (m ((c.tc : Thread Cert.ConvxsRefIdeal.nD Cert.ConvxsRefIdeal.τ).loc Cert.ConvxsRefIdeal.main_arg3))).2.1 = (fun _ => 1#1)
    ∧ (Cert.Pre_conv_xs_finite.fn (F := Ideal) (m ((c.tc : Thread Cert.ConvxsRefIdeal.nD Cert.ConvxsRefIdeal.τ).loc Cert.ConvxsRefIdeal.main_arg0)) (m ((c.tc : Thread Cert.ConvxsRefIdeal.nD Cert.ConvxsRefIdeal.τ).loc Cert.ConvxsRefIdeal.main_arg1)) (m ((c.tc : Thread Cert.ConvxsRefIdeal.nD Cert.ConvxsRefIdeal.τ).loc Cert.ConvxsRefIdeal.main_arg2)) (m ((c.tc : Thread Cert.ConvxsRefIdeal.nD Cert.ConvxsRefIdeal.τ).loc Cert.ConvxsRefIdeal.main_arg3))).2.2.1 = (fun _ => 1#1)
    ∧ (Cert.Pre_conv_xs_finite.fn (F := Ideal) (m ((c.tc : Thread Cert.ConvxsRefIdeal.nD Cert.ConvxsRefIdeal.τ).loc Cert.ConvxsRefIdeal.main_arg0)) (m ((c.tc : Thread Cert.ConvxsRefIdeal.nD Cert.ConvxsRefIdeal.τ).loc Cert.ConvxsRefIdeal.main_arg1)) (m ((c.tc : Thread Cert.ConvxsRefIdeal.nD Cert.ConvxsRefIdeal.τ).loc Cert.ConvxsRefIdeal.main_arg2)) (m ((c.tc : Thread Cert.ConvxsRefIdeal.nD Cert.ConvxsRefIdeal.τ).loc Cert.ConvxsRefIdeal.main_arg3))).2.2.2 = (fun _ => 1#1)

def Pre_Act (m : (ℓ : Loc Cert.Act.nD Cert.Act.τ Cert.Act.sig) → Buf (Elt Bits) ℓ) : Prop :=
  True

def Pre_ActIdeal (m : (ℓ : Loc Cert.ActIdeal.nD Cert.ActIdeal.τ Cert.ActIdeal.sig) → Buf (Elt Ideal) ℓ) : Prop :=
  True

def Pre_ActRefIdeal (m : (ℓ : Loc Cert.ActRefIdeal.nD Cert.ActRefIdeal.τ Cert.ActRefIdeal.sig) → Buf (Elt Ideal) ℓ) : Prop :=
  True

def Pre_Gated (m : (ℓ : Loc Cert.Gated.nD Cert.Gated.τ Cert.Gated.sig) → Buf (Elt Bits) ℓ) : Prop :=
  True

def Pre_GatedIdeal (m : (ℓ : Loc Cert.GatedIdeal.nD Cert.GatedIdeal.τ Cert.GatedIdeal.sig) → Buf (Elt Ideal) ℓ) : Prop :=
  True

def Pre_GatedIdeal_gated_norm_finite [hPre_gated_norm_finite : Cert.Pre_gated_norm_finite.Facts] (m : (ℓ : Loc Cert.GatedIdeal.nD Cert.GatedIdeal.τ Cert.GatedIdeal.sig) → Buf (Elt Ideal) ℓ) : Prop :=
  ∀ c : Dev Cert.GatedIdeal.nD,
    (Cert.Pre_gated_norm_finite.fn (F := Ideal) (m ((c.tc : Thread Cert.GatedIdeal.nD Cert.GatedIdeal.τ).loc Cert.GatedIdeal.main_arg0)) (m ((c.tc : Thread Cert.GatedIdeal.nD Cert.GatedIdeal.τ).loc Cert.GatedIdeal.main_arg1)) (m ((c.tc : Thread Cert.GatedIdeal.nD Cert.GatedIdeal.τ).loc Cert.GatedIdeal.main_arg2)) (m ((c.tc : Thread Cert.GatedIdeal.nD Cert.GatedIdeal.τ).loc Cert.GatedIdeal.main_arg3))).1 = (fun _ => 1#1)
    ∧ (Cert.Pre_gated_norm_finite.fn (F := Ideal) (m ((c.tc : Thread Cert.GatedIdeal.nD Cert.GatedIdeal.τ).loc Cert.GatedIdeal.main_arg0)) (m ((c.tc : Thread Cert.GatedIdeal.nD Cert.GatedIdeal.τ).loc Cert.GatedIdeal.main_arg1)) (m ((c.tc : Thread Cert.GatedIdeal.nD Cert.GatedIdeal.τ).loc Cert.GatedIdeal.main_arg2)) (m ((c.tc : Thread Cert.GatedIdeal.nD Cert.GatedIdeal.τ).loc Cert.GatedIdeal.main_arg3))).2.1 = (fun _ => 1#1)
    ∧ (Cert.Pre_gated_norm_finite.fn (F := Ideal) (m ((c.tc : Thread Cert.GatedIdeal.nD Cert.GatedIdeal.τ).loc Cert.GatedIdeal.main_arg0)) (m ((c.tc : Thread Cert.GatedIdeal.nD Cert.GatedIdeal.τ).loc Cert.GatedIdeal.main_arg1)) (m ((c.tc : Thread Cert.GatedIdeal.nD Cert.GatedIdeal.τ).loc Cert.GatedIdeal.main_arg2)) (m ((c.tc : Thread Cert.GatedIdeal.nD Cert.GatedIdeal.τ).loc Cert.GatedIdeal.main_arg3))).2.2.1 = (fun _ => 1#1)
    ∧ (Cert.Pre_gated_norm_finite.fn (F := Ideal) (m ((c.tc : Thread Cert.GatedIdeal.nD Cert.GatedIdeal.τ).loc Cert.GatedIdeal.main_arg0)) (m ((c.tc : Thread Cert.GatedIdeal.nD Cert.GatedIdeal.τ).loc Cert.GatedIdeal.main_arg1)) (m ((c.tc : Thread Cert.GatedIdeal.nD Cert.GatedIdeal.τ).loc Cert.GatedIdeal.main_arg2)) (m ((c.tc : Thread Cert.GatedIdeal.nD Cert.GatedIdeal.τ).loc Cert.GatedIdeal.main_arg3))).2.2.2 = (fun _ => 1#1)

def Pre_GatedRefIdeal (m : (ℓ : Loc Cert.GatedRefIdeal.nD Cert.GatedRefIdeal.τ Cert.GatedRefIdeal.sig) → Buf (Elt Ideal) ℓ) : Prop :=
  True

def Pre_GatedRefIdeal_gated_norm_finite [hPre_gated_norm_finite : Cert.Pre_gated_norm_finite.Facts] (m : (ℓ : Loc Cert.GatedRefIdeal.nD Cert.GatedRefIdeal.τ Cert.GatedRefIdeal.sig) → Buf (Elt Ideal) ℓ) : Prop :=
  ∀ c : Dev Cert.GatedRefIdeal.nD,
    (Cert.Pre_gated_norm_finite.fn (F := Ideal) (m ((c.tc : Thread Cert.GatedRefIdeal.nD Cert.GatedRefIdeal.τ).loc Cert.GatedRefIdeal.main_arg0)) (m ((c.tc : Thread Cert.GatedRefIdeal.nD Cert.GatedRefIdeal.τ).loc Cert.GatedRefIdeal.main_arg1)) (m ((c.tc : Thread Cert.GatedRefIdeal.nD Cert.GatedRefIdeal.τ).loc Cert.GatedRefIdeal.main_arg2)) (m ((c.tc : Thread Cert.GatedRefIdeal.nD Cert.GatedRefIdeal.τ).loc Cert.GatedRefIdeal.main_arg3))).1 = (fun _ => 1#1)
    ∧ (Cert.Pre_gated_norm_finite.fn (F := Ideal) (m ((c.tc : Thread Cert.GatedRefIdeal.nD Cert.GatedRefIdeal.τ).loc Cert.GatedRefIdeal.main_arg0)) (m ((c.tc : Thread Cert.GatedRefIdeal.nD Cert.GatedRefIdeal.τ).loc Cert.GatedRefIdeal.main_arg1)) (m ((c.tc : Thread Cert.GatedRefIdeal.nD Cert.GatedRefIdeal.τ).loc Cert.GatedRefIdeal.main_arg2)) (m ((c.tc : Thread Cert.GatedRefIdeal.nD Cert.GatedRefIdeal.τ).loc Cert.GatedRefIdeal.main_arg3))).2.1 = (fun _ => 1#1)
    ∧ (Cert.Pre_gated_norm_finite.fn (F := Ideal) (m ((c.tc : Thread Cert.GatedRefIdeal.nD Cert.GatedRefIdeal.τ).loc Cert.GatedRefIdeal.main_arg0)) (m ((c.tc : Thread Cert.GatedRefIdeal.nD Cert.GatedRefIdeal.τ).loc Cert.GatedRefIdeal.main_arg1)) (m ((c.tc : Thread Cert.GatedRefIdeal.nD Cert.GatedRefIdeal.τ).loc Cert.GatedRefIdeal.main_arg2)) (m ((c.tc : Thread Cert.GatedRefIdeal.nD Cert.GatedRefIdeal.τ).loc Cert.GatedRefIdeal.main_arg3))).2.2.1 = (fun _ => 1#1)
    ∧ (Cert.Pre_gated_norm_finite.fn (F := Ideal) (m ((c.tc : Thread Cert.GatedRefIdeal.nD Cert.GatedRefIdeal.τ).loc Cert.GatedRefIdeal.main_arg0)) (m ((c.tc : Thread Cert.GatedRefIdeal.nD Cert.GatedRefIdeal.τ).loc Cert.GatedRefIdeal.main_arg1)) (m ((c.tc : Thread Cert.GatedRefIdeal.nD Cert.GatedRefIdeal.τ).loc Cert.GatedRefIdeal.main_arg2)) (m ((c.tc : Thread Cert.GatedRefIdeal.nD Cert.GatedRefIdeal.τ).loc Cert.GatedRefIdeal.main_arg3))).2.2.2 = (fun _ => 1#1)

def Pre_Ssd (m : (ℓ : Loc Cert.Ssd.nD Cert.Ssd.τ Cert.Ssd.sig) → Buf (Elt Bits) ℓ) : Prop :=
  True

def Pre_SsdIdeal (m : (ℓ : Loc Cert.SsdIdeal.nD Cert.SsdIdeal.τ Cert.SsdIdeal.sig) → Buf (Elt Ideal) ℓ) : Prop :=
  True

def quiescent_InputNorm [hInputNorm : Cert.InputNorm.Facts] : Prop :=
  ∀ (m : (ℓ : Loc Cert.InputNorm.nD Cert.InputNorm.τ Cert.InputNorm.sig) → Buf (Elt Bits) ℓ) (g : Dev Cert.InputNorm.nD → PrngReg), Pre_InputNorm m →
    θ_run (Cert.InputNorm.defs (F := Bits)) (onTc (τ := Cert.InputNorm.τ) (Cert.InputNorm.main (F := Bits))) ⟨m, fun _ => 0, g⟩ (fun r => (∀ c : Dev Cert.InputNorm.nD,
      r.2.mem ((c.tc : Thread Cert.InputNorm.nD Cert.InputNorm.τ).loc Cert.InputNorm.main_arg0) = m ((c.tc : Thread Cert.InputNorm.nD Cert.InputNorm.τ).loc Cert.InputNorm.main_arg0)
      ∧ r.2.mem ((c.tc : Thread Cert.InputNorm.nD Cert.InputNorm.τ).loc Cert.InputNorm.main_arg1) = m ((c.tc : Thread Cert.InputNorm.nD Cert.InputNorm.τ).loc Cert.InputNorm.main_arg1)
      ∧ r.2.mem ((c.tc : Thread Cert.InputNorm.nD Cert.InputNorm.τ).loc Cert.InputNorm.main_arg2) = m ((c.tc : Thread Cert.InputNorm.nD Cert.InputNorm.τ).loc Cert.InputNorm.main_arg2)
      ∧ r.2.mem ((c.tc : Thread Cert.InputNorm.nD Cert.InputNorm.τ).loc Cert.InputNorm.main_arg3) = m ((c.tc : Thread Cert.InputNorm.nD Cert.InputNorm.τ).loc Cert.InputNorm.main_arg3)
      ∧ r.2.mem ((c.tc : Thread Cert.InputNorm.nD Cert.InputNorm.τ).loc Cert.InputNorm.main_arg4) = m ((c.tc : Thread Cert.InputNorm.nD Cert.InputNorm.τ).loc Cert.InputNorm.main_arg4))
      ∧ r.2.sem = fun _ => 0)

def quiescent_InputNormIdeal [hInputNormIdeal : Cert.InputNormIdeal.Facts] : Prop :=
  ∀ (m : (ℓ : Loc Cert.InputNormIdeal.nD Cert.InputNormIdeal.τ Cert.InputNormIdeal.sig) → Buf (Elt Ideal) ℓ) (g : Dev Cert.InputNormIdeal.nD → PrngReg), Pre_InputNormIdeal m →
    θ_run (Cert.InputNormIdeal.defs (F := Ideal)) (onTc (τ := Cert.InputNormIdeal.τ) (Cert.InputNormIdeal.main (F := Ideal))) ⟨m, fun _ => 0, g⟩ (fun r => (∀ c : Dev Cert.InputNormIdeal.nD,
      r.2.mem ((c.tc : Thread Cert.InputNormIdeal.nD Cert.InputNormIdeal.τ).loc Cert.InputNormIdeal.main_arg0) = m ((c.tc : Thread Cert.InputNormIdeal.nD Cert.InputNormIdeal.τ).loc Cert.InputNormIdeal.main_arg0)
      ∧ r.2.mem ((c.tc : Thread Cert.InputNormIdeal.nD Cert.InputNormIdeal.τ).loc Cert.InputNormIdeal.main_arg1) = m ((c.tc : Thread Cert.InputNormIdeal.nD Cert.InputNormIdeal.τ).loc Cert.InputNormIdeal.main_arg1)
      ∧ r.2.mem ((c.tc : Thread Cert.InputNormIdeal.nD Cert.InputNormIdeal.τ).loc Cert.InputNormIdeal.main_arg2) = m ((c.tc : Thread Cert.InputNormIdeal.nD Cert.InputNormIdeal.τ).loc Cert.InputNormIdeal.main_arg2)
      ∧ r.2.mem ((c.tc : Thread Cert.InputNormIdeal.nD Cert.InputNormIdeal.τ).loc Cert.InputNormIdeal.main_arg3) = m ((c.tc : Thread Cert.InputNormIdeal.nD Cert.InputNormIdeal.τ).loc Cert.InputNormIdeal.main_arg3)
      ∧ r.2.mem ((c.tc : Thread Cert.InputNormIdeal.nD Cert.InputNormIdeal.τ).loc Cert.InputNormIdeal.main_arg4) = m ((c.tc : Thread Cert.InputNormIdeal.nD Cert.InputNormIdeal.τ).loc Cert.InputNormIdeal.main_arg4))
      ∧ r.2.sem = fun _ => 0)

def quiescent_InputNormIdeal_pre_input_norm_finite [hInputNormIdeal : Cert.InputNormIdeal.Facts] [hPre_input_norm_finite : Cert.Pre_input_norm_finite.Facts] : Prop :=
  ∀ (m : (ℓ : Loc Cert.InputNormIdeal.nD Cert.InputNormIdeal.τ Cert.InputNormIdeal.sig) → Buf (Elt Ideal) ℓ) (g : Dev Cert.InputNormIdeal.nD → PrngReg), Pre_InputNormIdeal_input_norm_finite m →
    θ_run (Cert.InputNormIdeal.defs (F := Ideal)) (onTc (τ := Cert.InputNormIdeal.τ) (Cert.InputNormIdeal.main (F := Ideal))) ⟨m, fun _ => 0, g⟩ (fun r => (∀ c : Dev Cert.InputNormIdeal.nD,
      r.2.mem ((c.tc : Thread Cert.InputNormIdeal.nD Cert.InputNormIdeal.τ).loc Cert.InputNormIdeal.main_arg0) = m ((c.tc : Thread Cert.InputNormIdeal.nD Cert.InputNormIdeal.τ).loc Cert.InputNormIdeal.main_arg0)
      ∧ r.2.mem ((c.tc : Thread Cert.InputNormIdeal.nD Cert.InputNormIdeal.τ).loc Cert.InputNormIdeal.main_arg1) = m ((c.tc : Thread Cert.InputNormIdeal.nD Cert.InputNormIdeal.τ).loc Cert.InputNormIdeal.main_arg1)
      ∧ r.2.mem ((c.tc : Thread Cert.InputNormIdeal.nD Cert.InputNormIdeal.τ).loc Cert.InputNormIdeal.main_arg2) = m ((c.tc : Thread Cert.InputNormIdeal.nD Cert.InputNormIdeal.τ).loc Cert.InputNormIdeal.main_arg2)
      ∧ r.2.mem ((c.tc : Thread Cert.InputNormIdeal.nD Cert.InputNormIdeal.τ).loc Cert.InputNormIdeal.main_arg3) = m ((c.tc : Thread Cert.InputNormIdeal.nD Cert.InputNormIdeal.τ).loc Cert.InputNormIdeal.main_arg3)
      ∧ r.2.mem ((c.tc : Thread Cert.InputNormIdeal.nD Cert.InputNormIdeal.τ).loc Cert.InputNormIdeal.main_arg4) = m ((c.tc : Thread Cert.InputNormIdeal.nD Cert.InputNormIdeal.τ).loc Cert.InputNormIdeal.main_arg4))
      ∧ r.2.sem = fun _ => 0)

def quiescent_InputNormRefIdeal [hInputNormRefIdeal : Cert.InputNormRefIdeal.Facts] : Prop :=
  ∀ (m : (ℓ : Loc Cert.InputNormRefIdeal.nD Cert.InputNormRefIdeal.τ Cert.InputNormRefIdeal.sig) → Buf (Elt Ideal) ℓ) (g : Dev Cert.InputNormRefIdeal.nD → PrngReg), Pre_InputNormRefIdeal m →
    θ_run (Cert.InputNormRefIdeal.defs (F := Ideal)) (onTc (τ := Cert.InputNormRefIdeal.τ) (Cert.InputNormRefIdeal.main (F := Ideal))) ⟨m, fun _ => 0, g⟩ (fun r => (∀ c : Dev Cert.InputNormRefIdeal.nD,
      r.2.mem ((c.tc : Thread Cert.InputNormRefIdeal.nD Cert.InputNormRefIdeal.τ).loc Cert.InputNormRefIdeal.main_arg0) = m ((c.tc : Thread Cert.InputNormRefIdeal.nD Cert.InputNormRefIdeal.τ).loc Cert.InputNormRefIdeal.main_arg0)
      ∧ r.2.mem ((c.tc : Thread Cert.InputNormRefIdeal.nD Cert.InputNormRefIdeal.τ).loc Cert.InputNormRefIdeal.main_arg1) = m ((c.tc : Thread Cert.InputNormRefIdeal.nD Cert.InputNormRefIdeal.τ).loc Cert.InputNormRefIdeal.main_arg1)
      ∧ r.2.mem ((c.tc : Thread Cert.InputNormRefIdeal.nD Cert.InputNormRefIdeal.τ).loc Cert.InputNormRefIdeal.main_arg2) = m ((c.tc : Thread Cert.InputNormRefIdeal.nD Cert.InputNormRefIdeal.τ).loc Cert.InputNormRefIdeal.main_arg2)
      ∧ r.2.mem ((c.tc : Thread Cert.InputNormRefIdeal.nD Cert.InputNormRefIdeal.τ).loc Cert.InputNormRefIdeal.main_arg3) = m ((c.tc : Thread Cert.InputNormRefIdeal.nD Cert.InputNormRefIdeal.τ).loc Cert.InputNormRefIdeal.main_arg3)
      ∧ r.2.mem ((c.tc : Thread Cert.InputNormRefIdeal.nD Cert.InputNormRefIdeal.τ).loc Cert.InputNormRefIdeal.main_arg4) = m ((c.tc : Thread Cert.InputNormRefIdeal.nD Cert.InputNormRefIdeal.τ).loc Cert.InputNormRefIdeal.main_arg4))
      ∧ r.2.sem = fun _ => 0)

def quiescent_InputNormRefIdeal_pre_input_norm_finite [hInputNormRefIdeal : Cert.InputNormRefIdeal.Facts] [hPre_input_norm_finite : Cert.Pre_input_norm_finite.Facts] : Prop :=
  ∀ (m : (ℓ : Loc Cert.InputNormRefIdeal.nD Cert.InputNormRefIdeal.τ Cert.InputNormRefIdeal.sig) → Buf (Elt Ideal) ℓ) (g : Dev Cert.InputNormRefIdeal.nD → PrngReg), Pre_InputNormRefIdeal_input_norm_finite m →
    θ_run (Cert.InputNormRefIdeal.defs (F := Ideal)) (onTc (τ := Cert.InputNormRefIdeal.τ) (Cert.InputNormRefIdeal.main (F := Ideal))) ⟨m, fun _ => 0, g⟩ (fun r => (∀ c : Dev Cert.InputNormRefIdeal.nD,
      r.2.mem ((c.tc : Thread Cert.InputNormRefIdeal.nD Cert.InputNormRefIdeal.τ).loc Cert.InputNormRefIdeal.main_arg0) = m ((c.tc : Thread Cert.InputNormRefIdeal.nD Cert.InputNormRefIdeal.τ).loc Cert.InputNormRefIdeal.main_arg0)
      ∧ r.2.mem ((c.tc : Thread Cert.InputNormRefIdeal.nD Cert.InputNormRefIdeal.τ).loc Cert.InputNormRefIdeal.main_arg1) = m ((c.tc : Thread Cert.InputNormRefIdeal.nD Cert.InputNormRefIdeal.τ).loc Cert.InputNormRefIdeal.main_arg1)
      ∧ r.2.mem ((c.tc : Thread Cert.InputNormRefIdeal.nD Cert.InputNormRefIdeal.τ).loc Cert.InputNormRefIdeal.main_arg2) = m ((c.tc : Thread Cert.InputNormRefIdeal.nD Cert.InputNormRefIdeal.τ).loc Cert.InputNormRefIdeal.main_arg2)
      ∧ r.2.mem ((c.tc : Thread Cert.InputNormRefIdeal.nD Cert.InputNormRefIdeal.τ).loc Cert.InputNormRefIdeal.main_arg3) = m ((c.tc : Thread Cert.InputNormRefIdeal.nD Cert.InputNormRefIdeal.τ).loc Cert.InputNormRefIdeal.main_arg3)
      ∧ r.2.mem ((c.tc : Thread Cert.InputNormRefIdeal.nD Cert.InputNormRefIdeal.τ).loc Cert.InputNormRefIdeal.main_arg4) = m ((c.tc : Thread Cert.InputNormRefIdeal.nD Cert.InputNormRefIdeal.τ).loc Cert.InputNormRefIdeal.main_arg4))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnIdeal_pre_attention_finite [hAttnIdeal : Cert.AttnIdeal.Facts] [hPre_attention_finite : Cert.Pre_attention_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_attention_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_AttnRefIdeal_pre_attention_finite [hAttnRefIdeal : Cert.AttnRefIdeal.Facts] [hPre_attention_finite : Cert.Pre_attention_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_attention_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2)
      ∧ r.2.mem ((c.tc : Thread Cert.Loss.nD Cert.Loss.τ).loc Cert.Loss.main_arg3) = m ((c.tc : Thread Cert.Loss.nD Cert.Loss.τ).loc Cert.Loss.main_arg3))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3))
      ∧ r.2.sem = fun _ => 0)

def quiescent_LossIdeal_pre_loss_finite [hLossIdeal : Cert.LossIdeal.Facts] [hPre_loss_finite : Cert.Pre_loss_finite.Facts] : Prop :=
  ∀ (m : (ℓ : Loc Cert.LossIdeal.nD Cert.LossIdeal.τ Cert.LossIdeal.sig) → Buf (Elt Ideal) ℓ) (g : Dev Cert.LossIdeal.nD → PrngReg), Pre_LossIdeal_loss_finite m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3))
      ∧ r.2.sem = fun _ => 0)

def quiescent_LossRefIdeal_pre_loss_finite [hLossRefIdeal : Cert.LossRefIdeal.Facts] [hPre_loss_finite : Cert.Pre_loss_finite.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal_loss_finite m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3))
      ∧ r.2.sem = fun _ => 0)

def quiescent_MlpResidual [hMlpResidual : Cert.MlpResidual.Facts] : Prop :=
  ∀ (m : (ℓ : Loc Cert.MlpResidual.nD Cert.MlpResidual.τ Cert.MlpResidual.sig) → Buf (Elt Bits) ℓ) (g : Dev Cert.MlpResidual.nD → PrngReg), Pre_MlpResidual m →
    θ_run (Cert.MlpResidual.defs (F := Bits)) (onTc (τ := Cert.MlpResidual.τ) (Cert.MlpResidual.main (F := Bits))) ⟨m, fun _ => 0, g⟩ (fun r => (∀ c : Dev Cert.MlpResidual.nD,
      r.2.mem ((c.tc : Thread Cert.MlpResidual.nD Cert.MlpResidual.τ).loc Cert.MlpResidual.main_arg0) = m ((c.tc : Thread Cert.MlpResidual.nD Cert.MlpResidual.τ).loc Cert.MlpResidual.main_arg0)
      ∧ r.2.mem ((c.tc : Thread Cert.MlpResidual.nD Cert.MlpResidual.τ).loc Cert.MlpResidual.main_arg1) = m ((c.tc : Thread Cert.MlpResidual.nD Cert.MlpResidual.τ).loc Cert.MlpResidual.main_arg1)
      ∧ r.2.mem ((c.tc : Thread Cert.MlpResidual.nD Cert.MlpResidual.τ).loc Cert.MlpResidual.main_arg2) = m ((c.tc : Thread Cert.MlpResidual.nD Cert.MlpResidual.τ).loc Cert.MlpResidual.main_arg2)
      ∧ r.2.mem ((c.tc : Thread Cert.MlpResidual.nD Cert.MlpResidual.τ).loc Cert.MlpResidual.main_arg3) = m ((c.tc : Thread Cert.MlpResidual.nD Cert.MlpResidual.τ).loc Cert.MlpResidual.main_arg3)
      ∧ r.2.mem ((c.tc : Thread Cert.MlpResidual.nD Cert.MlpResidual.τ).loc Cert.MlpResidual.main_arg4) = m ((c.tc : Thread Cert.MlpResidual.nD Cert.MlpResidual.τ).loc Cert.MlpResidual.main_arg4)
      ∧ r.2.mem ((c.tc : Thread Cert.MlpResidual.nD Cert.MlpResidual.τ).loc Cert.MlpResidual.main_arg5) = m ((c.tc : Thread Cert.MlpResidual.nD Cert.MlpResidual.τ).loc Cert.MlpResidual.main_arg5))
      ∧ r.2.sem = fun _ => 0)

def quiescent_MlpResidualIdeal [hMlpResidualIdeal : Cert.MlpResidualIdeal.Facts] : Prop :=
  ∀ (m : (ℓ : Loc Cert.MlpResidualIdeal.nD Cert.MlpResidualIdeal.τ Cert.MlpResidualIdeal.sig) → Buf (Elt Ideal) ℓ) (g : Dev Cert.MlpResidualIdeal.nD → PrngReg), Pre_MlpResidualIdeal m →
    θ_run (Cert.MlpResidualIdeal.defs (F := Ideal)) (onTc (τ := Cert.MlpResidualIdeal.τ) (Cert.MlpResidualIdeal.main (F := Ideal))) ⟨m, fun _ => 0, g⟩ (fun r => (∀ c : Dev Cert.MlpResidualIdeal.nD,
      r.2.mem ((c.tc : Thread Cert.MlpResidualIdeal.nD Cert.MlpResidualIdeal.τ).loc Cert.MlpResidualIdeal.main_arg0) = m ((c.tc : Thread Cert.MlpResidualIdeal.nD Cert.MlpResidualIdeal.τ).loc Cert.MlpResidualIdeal.main_arg0)
      ∧ r.2.mem ((c.tc : Thread Cert.MlpResidualIdeal.nD Cert.MlpResidualIdeal.τ).loc Cert.MlpResidualIdeal.main_arg1) = m ((c.tc : Thread Cert.MlpResidualIdeal.nD Cert.MlpResidualIdeal.τ).loc Cert.MlpResidualIdeal.main_arg1)
      ∧ r.2.mem ((c.tc : Thread Cert.MlpResidualIdeal.nD Cert.MlpResidualIdeal.τ).loc Cert.MlpResidualIdeal.main_arg2) = m ((c.tc : Thread Cert.MlpResidualIdeal.nD Cert.MlpResidualIdeal.τ).loc Cert.MlpResidualIdeal.main_arg2)
      ∧ r.2.mem ((c.tc : Thread Cert.MlpResidualIdeal.nD Cert.MlpResidualIdeal.τ).loc Cert.MlpResidualIdeal.main_arg3) = m ((c.tc : Thread Cert.MlpResidualIdeal.nD Cert.MlpResidualIdeal.τ).loc Cert.MlpResidualIdeal.main_arg3)
      ∧ r.2.mem ((c.tc : Thread Cert.MlpResidualIdeal.nD Cert.MlpResidualIdeal.τ).loc Cert.MlpResidualIdeal.main_arg4) = m ((c.tc : Thread Cert.MlpResidualIdeal.nD Cert.MlpResidualIdeal.τ).loc Cert.MlpResidualIdeal.main_arg4)
      ∧ r.2.mem ((c.tc : Thread Cert.MlpResidualIdeal.nD Cert.MlpResidualIdeal.τ).loc Cert.MlpResidualIdeal.main_arg5) = m ((c.tc : Thread Cert.MlpResidualIdeal.nD Cert.MlpResidualIdeal.τ).loc Cert.MlpResidualIdeal.main_arg5))
      ∧ r.2.sem = fun _ => 0)

def quiescent_MlpResidualIdeal_pre_mlp_residual_finite [hMlpResidualIdeal : Cert.MlpResidualIdeal.Facts] [hPre_mlp_residual_finite : Cert.Pre_mlp_residual_finite.Facts] : Prop :=
  ∀ (m : (ℓ : Loc Cert.MlpResidualIdeal.nD Cert.MlpResidualIdeal.τ Cert.MlpResidualIdeal.sig) → Buf (Elt Ideal) ℓ) (g : Dev Cert.MlpResidualIdeal.nD → PrngReg), Pre_MlpResidualIdeal_mlp_residual_finite m →
    θ_run (Cert.MlpResidualIdeal.defs (F := Ideal)) (onTc (τ := Cert.MlpResidualIdeal.τ) (Cert.MlpResidualIdeal.main (F := Ideal))) ⟨m, fun _ => 0, g⟩ (fun r => (∀ c : Dev Cert.MlpResidualIdeal.nD,
      r.2.mem ((c.tc : Thread Cert.MlpResidualIdeal.nD Cert.MlpResidualIdeal.τ).loc Cert.MlpResidualIdeal.main_arg0) = m ((c.tc : Thread Cert.MlpResidualIdeal.nD Cert.MlpResidualIdeal.τ).loc Cert.MlpResidualIdeal.main_arg0)
      ∧ r.2.mem ((c.tc : Thread Cert.MlpResidualIdeal.nD Cert.MlpResidualIdeal.τ).loc Cert.MlpResidualIdeal.main_arg1) = m ((c.tc : Thread Cert.MlpResidualIdeal.nD Cert.MlpResidualIdeal.τ).loc Cert.MlpResidualIdeal.main_arg1)
      ∧ r.2.mem ((c.tc : Thread Cert.MlpResidualIdeal.nD Cert.MlpResidualIdeal.τ).loc Cert.MlpResidualIdeal.main_arg2) = m ((c.tc : Thread Cert.MlpResidualIdeal.nD Cert.MlpResidualIdeal.τ).loc Cert.MlpResidualIdeal.main_arg2)
      ∧ r.2.mem ((c.tc : Thread Cert.MlpResidualIdeal.nD Cert.MlpResidualIdeal.τ).loc Cert.MlpResidualIdeal.main_arg3) = m ((c.tc : Thread Cert.MlpResidualIdeal.nD Cert.MlpResidualIdeal.τ).loc Cert.MlpResidualIdeal.main_arg3)
      ∧ r.2.mem ((c.tc : Thread Cert.MlpResidualIdeal.nD Cert.MlpResidualIdeal.τ).loc Cert.MlpResidualIdeal.main_arg4) = m ((c.tc : Thread Cert.MlpResidualIdeal.nD Cert.MlpResidualIdeal.τ).loc Cert.MlpResidualIdeal.main_arg4)
      ∧ r.2.mem ((c.tc : Thread Cert.MlpResidualIdeal.nD Cert.MlpResidualIdeal.τ).loc Cert.MlpResidualIdeal.main_arg5) = m ((c.tc : Thread Cert.MlpResidualIdeal.nD Cert.MlpResidualIdeal.τ).loc Cert.MlpResidualIdeal.main_arg5))
      ∧ r.2.sem = fun _ => 0)

def quiescent_MlpResidualRefIdeal [hMlpResidualRefIdeal : Cert.MlpResidualRefIdeal.Facts] : Prop :=
  ∀ (m : (ℓ : Loc Cert.MlpResidualRefIdeal.nD Cert.MlpResidualRefIdeal.τ Cert.MlpResidualRefIdeal.sig) → Buf (Elt Ideal) ℓ) (g : Dev Cert.MlpResidualRefIdeal.nD → PrngReg), Pre_MlpResidualRefIdeal m →
    θ_run (Cert.MlpResidualRefIdeal.defs (F := Ideal)) (onTc (τ := Cert.MlpResidualRefIdeal.τ) (Cert.MlpResidualRefIdeal.main (F := Ideal))) ⟨m, fun _ => 0, g⟩ (fun r => (∀ c : Dev Cert.MlpResidualRefIdeal.nD,
      r.2.mem ((c.tc : Thread Cert.MlpResidualRefIdeal.nD Cert.MlpResidualRefIdeal.τ).loc Cert.MlpResidualRefIdeal.main_arg0) = m ((c.tc : Thread Cert.MlpResidualRefIdeal.nD Cert.MlpResidualRefIdeal.τ).loc Cert.MlpResidualRefIdeal.main_arg0)
      ∧ r.2.mem ((c.tc : Thread Cert.MlpResidualRefIdeal.nD Cert.MlpResidualRefIdeal.τ).loc Cert.MlpResidualRefIdeal.main_arg1) = m ((c.tc : Thread Cert.MlpResidualRefIdeal.nD Cert.MlpResidualRefIdeal.τ).loc Cert.MlpResidualRefIdeal.main_arg1)
      ∧ r.2.mem ((c.tc : Thread Cert.MlpResidualRefIdeal.nD Cert.MlpResidualRefIdeal.τ).loc Cert.MlpResidualRefIdeal.main_arg2) = m ((c.tc : Thread Cert.MlpResidualRefIdeal.nD Cert.MlpResidualRefIdeal.τ).loc Cert.MlpResidualRefIdeal.main_arg2)
      ∧ r.2.mem ((c.tc : Thread Cert.MlpResidualRefIdeal.nD Cert.MlpResidualRefIdeal.τ).loc Cert.MlpResidualRefIdeal.main_arg3) = m ((c.tc : Thread Cert.MlpResidualRefIdeal.nD Cert.MlpResidualRefIdeal.τ).loc Cert.MlpResidualRefIdeal.main_arg3)
      ∧ r.2.mem ((c.tc : Thread Cert.MlpResidualRefIdeal.nD Cert.MlpResidualRefIdeal.τ).loc Cert.MlpResidualRefIdeal.main_arg4) = m ((c.tc : Thread Cert.MlpResidualRefIdeal.nD Cert.MlpResidualRefIdeal.τ).loc Cert.MlpResidualRefIdeal.main_arg4)
      ∧ r.2.mem ((c.tc : Thread Cert.MlpResidualRefIdeal.nD Cert.MlpResidualRefIdeal.τ).loc Cert.MlpResidualRefIdeal.main_arg5) = m ((c.tc : Thread Cert.MlpResidualRefIdeal.nD Cert.MlpResidualRefIdeal.τ).loc Cert.MlpResidualRefIdeal.main_arg5))
      ∧ r.2.sem = fun _ => 0)

def quiescent_MlpResidualRefIdeal_pre_mlp_residual_finite [hMlpResidualRefIdeal : Cert.MlpResidualRefIdeal.Facts] [hPre_mlp_residual_finite : Cert.Pre_mlp_residual_finite.Facts] : Prop :=
  ∀ (m : (ℓ : Loc Cert.MlpResidualRefIdeal.nD Cert.MlpResidualRefIdeal.τ Cert.MlpResidualRefIdeal.sig) → Buf (Elt Ideal) ℓ) (g : Dev Cert.MlpResidualRefIdeal.nD → PrngReg), Pre_MlpResidualRefIdeal_mlp_residual_finite m →
    θ_run (Cert.MlpResidualRefIdeal.defs (F := Ideal)) (onTc (τ := Cert.MlpResidualRefIdeal.τ) (Cert.MlpResidualRefIdeal.main (F := Ideal))) ⟨m, fun _ => 0, g⟩ (fun r => (∀ c : Dev Cert.MlpResidualRefIdeal.nD,
      r.2.mem ((c.tc : Thread Cert.MlpResidualRefIdeal.nD Cert.MlpResidualRefIdeal.τ).loc Cert.MlpResidualRefIdeal.main_arg0) = m ((c.tc : Thread Cert.MlpResidualRefIdeal.nD Cert.MlpResidualRefIdeal.τ).loc Cert.MlpResidualRefIdeal.main_arg0)
      ∧ r.2.mem ((c.tc : Thread Cert.MlpResidualRefIdeal.nD Cert.MlpResidualRefIdeal.τ).loc Cert.MlpResidualRefIdeal.main_arg1) = m ((c.tc : Thread Cert.MlpResidualRefIdeal.nD Cert.MlpResidualRefIdeal.τ).loc Cert.MlpResidualRefIdeal.main_arg1)
      ∧ r.2.mem ((c.tc : Thread Cert.MlpResidualRefIdeal.nD Cert.MlpResidualRefIdeal.τ).loc Cert.MlpResidualRefIdeal.main_arg2) = m ((c.tc : Thread Cert.MlpResidualRefIdeal.nD Cert.MlpResidualRefIdeal.τ).loc Cert.MlpResidualRefIdeal.main_arg2)
      ∧ r.2.mem ((c.tc : Thread Cert.MlpResidualRefIdeal.nD Cert.MlpResidualRefIdeal.τ).loc Cert.MlpResidualRefIdeal.main_arg3) = m ((c.tc : Thread Cert.MlpResidualRefIdeal.nD Cert.MlpResidualRefIdeal.τ).loc Cert.MlpResidualRefIdeal.main_arg3)
      ∧ r.2.mem ((c.tc : Thread Cert.MlpResidualRefIdeal.nD Cert.MlpResidualRefIdeal.τ).loc Cert.MlpResidualRefIdeal.main_arg4) = m ((c.tc : Thread Cert.MlpResidualRefIdeal.nD Cert.MlpResidualRefIdeal.τ).loc Cert.MlpResidualRefIdeal.main_arg4)
      ∧ r.2.mem ((c.tc : Thread Cert.MlpResidualRefIdeal.nD Cert.MlpResidualRefIdeal.τ).loc Cert.MlpResidualRefIdeal.main_arg5) = m ((c.tc : Thread Cert.MlpResidualRefIdeal.nD Cert.MlpResidualRefIdeal.τ).loc Cert.MlpResidualRefIdeal.main_arg5))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5)
      ∧ r.2.mem ((c.tc : Thread Cert.Proj.nD Cert.Proj.τ).loc Cert.Proj.main_arg6) = m ((c.tc : Thread Cert.Proj.nD Cert.Proj.τ).loc Cert.Proj.main_arg6)
      ∧ r.2.mem ((c.tc : Thread Cert.Proj.nD Cert.Proj.τ).loc Cert.Proj.main_arg7) = m ((c.tc : Thread Cert.Proj.nD Cert.Proj.τ).loc Cert.Proj.main_arg7)
      ∧ r.2.mem ((c.tc : Thread Cert.Proj.nD Cert.Proj.τ).loc Cert.Proj.main_arg8) = m ((c.tc : Thread Cert.Proj.nD Cert.Proj.τ).loc Cert.Proj.main_arg8)
      ∧ r.2.mem ((c.tc : Thread Cert.Proj.nD Cert.Proj.τ).loc Cert.Proj.main_arg9) = m ((c.tc : Thread Cert.Proj.nD Cert.Proj.τ).loc Cert.Proj.main_arg9)
      ∧ r.2.mem ((c.tc : Thread Cert.Proj.nD Cert.Proj.τ).loc Cert.Proj.main_arg10) = m ((c.tc : Thread Cert.Proj.nD Cert.Proj.τ).loc Cert.Proj.main_arg10)
      ∧ r.2.mem ((c.tc : Thread Cert.Proj.nD Cert.Proj.τ).loc Cert.Proj.main_arg11) = m ((c.tc : Thread Cert.Proj.nD Cert.Proj.τ).loc Cert.Proj.main_arg11)
      ∧ r.2.mem ((c.tc : Thread Cert.Proj.nD Cert.Proj.τ).loc Cert.Proj.main_arg12) = m ((c.tc : Thread Cert.Proj.nD Cert.Proj.τ).loc Cert.Proj.main_arg12))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
      ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
      ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7)
      ∧ r.2.mem ((c.tc : Thread Cert.ProjIdeal.nD Cert.ProjIdeal.τ).loc Cert.ProjIdeal.main_arg8) = m ((c.tc : Thread Cert.ProjIdeal.nD Cert.ProjIdeal.τ).loc Cert.ProjIdeal.main_arg8)
      ∧ r.2.mem ((c.tc : Thread Cert.ProjIdeal.nD Cert.ProjIdeal.τ).loc Cert.ProjIdeal.main_arg9) = m ((c.tc : Thread Cert.ProjIdeal.nD Cert.ProjIdeal.τ).loc Cert.ProjIdeal.main_arg9)
      ∧ r.2.mem ((c.tc : Thread Cert.ProjIdeal.nD Cert.ProjIdeal.τ).loc Cert.ProjIdeal.main_arg10) = m ((c.tc : Thread Cert.ProjIdeal.nD Cert.ProjIdeal.τ).loc Cert.ProjIdeal.main_arg10)
      ∧ r.2.mem ((c.tc : Thread Cert.ProjIdeal.nD Cert.ProjIdeal.τ).loc Cert.ProjIdeal.main_arg11) = m ((c.tc : Thread Cert.ProjIdeal.nD Cert.ProjIdeal.τ).loc Cert.ProjIdeal.main_arg11)
      ∧ r.2.mem ((c.tc : Thread Cert.ProjIdeal.nD Cert.ProjIdeal.τ).loc Cert.ProjIdeal.main_arg12) = m ((c.tc : Thread Cert.ProjIdeal.nD Cert.ProjIdeal.τ).loc Cert.ProjIdeal.main_arg12))
      ∧ r.2.sem = fun _ => 0)

def quiescent_ProjIdeal_pre_proj_grad_finite [hProjIdeal : Cert.ProjIdeal.Facts] [hPre_proj_grad_finite : Cert.Pre_proj_grad_finite.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal_proj_grad_finite m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
      ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
      ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7)
      ∧ r.2.mem ((c.tc : Thread Cert.ProjIdeal.nD Cert.ProjIdeal.τ).loc Cert.ProjIdeal.main_arg8) = m ((c.tc : Thread Cert.ProjIdeal.nD Cert.ProjIdeal.τ).loc Cert.ProjIdeal.main_arg8)
      ∧ r.2.mem ((c.tc : Thread Cert.ProjIdeal.nD Cert.ProjIdeal.τ).loc Cert.ProjIdeal.main_arg9) = m ((c.tc : Thread Cert.ProjIdeal.nD Cert.ProjIdeal.τ).loc Cert.ProjIdeal.main_arg9)
      ∧ r.2.mem ((c.tc : Thread Cert.ProjIdeal.nD Cert.ProjIdeal.τ).loc Cert.ProjIdeal.main_arg10) = m ((c.tc : Thread Cert.ProjIdeal.nD Cert.ProjIdeal.τ).loc Cert.ProjIdeal.main_arg10)
      ∧ r.2.mem ((c.tc : Thread Cert.ProjIdeal.nD Cert.ProjIdeal.τ).loc Cert.ProjIdeal.main_arg11) = m ((c.tc : Thread Cert.ProjIdeal.nD Cert.ProjIdeal.τ).loc Cert.ProjIdeal.main_arg11)
      ∧ r.2.mem ((c.tc : Thread Cert.ProjIdeal.nD Cert.ProjIdeal.τ).loc Cert.ProjIdeal.main_arg12) = m ((c.tc : Thread Cert.ProjIdeal.nD Cert.ProjIdeal.τ).loc Cert.ProjIdeal.main_arg12))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4)
      ∧ r.2.mem ((c.tc : Thread Cert.ProjRefIdeal.nD Cert.ProjRefIdeal.τ).loc Cert.ProjRefIdeal.main_arg5) = m ((c.tc : Thread Cert.ProjRefIdeal.nD Cert.ProjRefIdeal.τ).loc Cert.ProjRefIdeal.main_arg5)
      ∧ r.2.mem ((c.tc : Thread Cert.ProjRefIdeal.nD Cert.ProjRefIdeal.τ).loc Cert.ProjRefIdeal.main_arg6) = m ((c.tc : Thread Cert.ProjRefIdeal.nD Cert.ProjRefIdeal.τ).loc Cert.ProjRefIdeal.main_arg6)
      ∧ r.2.mem ((c.tc : Thread Cert.ProjRefIdeal.nD Cert.ProjRefIdeal.τ).loc Cert.ProjRefIdeal.main_arg7) = m ((c.tc : Thread Cert.ProjRefIdeal.nD Cert.ProjRefIdeal.τ).loc Cert.ProjRefIdeal.main_arg7)
      ∧ r.2.mem ((c.tc : Thread Cert.ProjRefIdeal.nD Cert.ProjRefIdeal.τ).loc Cert.ProjRefIdeal.main_arg8) = m ((c.tc : Thread Cert.ProjRefIdeal.nD Cert.ProjRefIdeal.τ).loc Cert.ProjRefIdeal.main_arg8)
      ∧ r.2.mem ((c.tc : Thread Cert.ProjRefIdeal.nD Cert.ProjRefIdeal.τ).loc Cert.ProjRefIdeal.main_arg9) = m ((c.tc : Thread Cert.ProjRefIdeal.nD Cert.ProjRefIdeal.τ).loc Cert.ProjRefIdeal.main_arg9)
      ∧ r.2.mem ((c.tc : Thread Cert.ProjRefIdeal.nD Cert.ProjRefIdeal.τ).loc Cert.ProjRefIdeal.main_arg10) = m ((c.tc : Thread Cert.ProjRefIdeal.nD Cert.ProjRefIdeal.τ).loc Cert.ProjRefIdeal.main_arg10)
      ∧ r.2.mem ((c.tc : Thread Cert.ProjRefIdeal.nD Cert.ProjRefIdeal.τ).loc Cert.ProjRefIdeal.main_arg11) = m ((c.tc : Thread Cert.ProjRefIdeal.nD Cert.ProjRefIdeal.τ).loc Cert.ProjRefIdeal.main_arg11)
      ∧ r.2.mem ((c.tc : Thread Cert.ProjRefIdeal.nD Cert.ProjRefIdeal.τ).loc Cert.ProjRefIdeal.main_arg12) = m ((c.tc : Thread Cert.ProjRefIdeal.nD Cert.ProjRefIdeal.τ).loc Cert.ProjRefIdeal.main_arg12))
      ∧ r.2.sem = fun _ => 0)

def quiescent_ProjRefIdeal_pre_proj_grad_finite [hProjRefIdeal : Cert.ProjRefIdeal.Facts] [hPre_proj_grad_finite : Cert.Pre_proj_grad_finite.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal_proj_grad_finite m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4)
      ∧ r.2.mem ((c.tc : Thread Cert.ProjRefIdeal.nD Cert.ProjRefIdeal.τ).loc Cert.ProjRefIdeal.main_arg5) = m ((c.tc : Thread Cert.ProjRefIdeal.nD Cert.ProjRefIdeal.τ).loc Cert.ProjRefIdeal.main_arg5)
      ∧ r.2.mem ((c.tc : Thread Cert.ProjRefIdeal.nD Cert.ProjRefIdeal.τ).loc Cert.ProjRefIdeal.main_arg6) = m ((c.tc : Thread Cert.ProjRefIdeal.nD Cert.ProjRefIdeal.τ).loc Cert.ProjRefIdeal.main_arg6)
      ∧ r.2.mem ((c.tc : Thread Cert.ProjRefIdeal.nD Cert.ProjRefIdeal.τ).loc Cert.ProjRefIdeal.main_arg7) = m ((c.tc : Thread Cert.ProjRefIdeal.nD Cert.ProjRefIdeal.τ).loc Cert.ProjRefIdeal.main_arg7)
      ∧ r.2.mem ((c.tc : Thread Cert.ProjRefIdeal.nD Cert.ProjRefIdeal.τ).loc Cert.ProjRefIdeal.main_arg8) = m ((c.tc : Thread Cert.ProjRefIdeal.nD Cert.ProjRefIdeal.τ).loc Cert.ProjRefIdeal.main_arg8)
      ∧ r.2.mem ((c.tc : Thread Cert.ProjRefIdeal.nD Cert.ProjRefIdeal.τ).loc Cert.ProjRefIdeal.main_arg9) = m ((c.tc : Thread Cert.ProjRefIdeal.nD Cert.ProjRefIdeal.τ).loc Cert.ProjRefIdeal.main_arg9)
      ∧ r.2.mem ((c.tc : Thread Cert.ProjRefIdeal.nD Cert.ProjRefIdeal.τ).loc Cert.ProjRefIdeal.main_arg10) = m ((c.tc : Thread Cert.ProjRefIdeal.nD Cert.ProjRefIdeal.τ).loc Cert.ProjRefIdeal.main_arg10)
      ∧ r.2.mem ((c.tc : Thread Cert.ProjRefIdeal.nD Cert.ProjRefIdeal.τ).loc Cert.ProjRefIdeal.main_arg11) = m ((c.tc : Thread Cert.ProjRefIdeal.nD Cert.ProjRefIdeal.τ).loc Cert.ProjRefIdeal.main_arg11)
      ∧ r.2.mem ((c.tc : Thread Cert.ProjRefIdeal.nD Cert.ProjRefIdeal.τ).loc Cert.ProjRefIdeal.main_arg12) = m ((c.tc : Thread Cert.ProjRefIdeal.nD Cert.ProjRefIdeal.τ).loc Cert.ProjRefIdeal.main_arg12))
      ∧ r.2.sem = fun _ => 0)

def quiescent_Delta [hDelta : Cert.Delta.Facts] : Prop :=
  ∀ (m : (ℓ : Loc Cert.Delta.nD Cert.Delta.τ Cert.Delta.sig) → Buf (Elt Bits) ℓ) (g : Dev Cert.Delta.nD → PrngReg), Pre_Delta m →
    θ_run (Cert.Delta.defs (F := Bits)) (onTc (τ := Cert.Delta.τ) (Cert.Delta.main (F := Bits))) ⟨m, fun _ => 0, g⟩ (fun r => (∀ c : Dev Cert.Delta.nD,
      r.2.mem ((c.tc : Thread Cert.Delta.nD Cert.Delta.τ).loc Cert.Delta.main_arg0) = m ((c.tc : Thread Cert.Delta.nD Cert.Delta.τ).loc Cert.Delta.main_arg0)
      ∧ r.2.mem ((c.tc : Thread Cert.Delta.nD Cert.Delta.τ).loc Cert.Delta.main_arg1) = m ((c.tc : Thread Cert.Delta.nD Cert.Delta.τ).loc Cert.Delta.main_arg1)
      ∧ r.2.mem ((c.tc : Thread Cert.Delta.nD Cert.Delta.τ).loc Cert.Delta.main_arg2) = m ((c.tc : Thread Cert.Delta.nD Cert.Delta.τ).loc Cert.Delta.main_arg2)
      ∧ r.2.mem ((c.tc : Thread Cert.Delta.nD Cert.Delta.τ).loc Cert.Delta.main_arg3) = m ((c.tc : Thread Cert.Delta.nD Cert.Delta.τ).loc Cert.Delta.main_arg3))
      ∧ r.2.sem = fun _ => 0)

def quiescent_DeltaIdeal [hDeltaIdeal : Cert.DeltaIdeal.Facts] : Prop :=
  ∀ (m : (ℓ : Loc Cert.DeltaIdeal.nD Cert.DeltaIdeal.τ Cert.DeltaIdeal.sig) → Buf (Elt Ideal) ℓ) (g : Dev Cert.DeltaIdeal.nD → PrngReg), Pre_DeltaIdeal m →
    θ_run (Cert.DeltaIdeal.defs (F := Ideal)) (onTc (τ := Cert.DeltaIdeal.τ) (Cert.DeltaIdeal.main (F := Ideal))) ⟨m, fun _ => 0, g⟩ (fun r => (∀ c : Dev Cert.DeltaIdeal.nD,
      r.2.mem ((c.tc : Thread Cert.DeltaIdeal.nD Cert.DeltaIdeal.τ).loc Cert.DeltaIdeal.main_arg0) = m ((c.tc : Thread Cert.DeltaIdeal.nD Cert.DeltaIdeal.τ).loc Cert.DeltaIdeal.main_arg0)
      ∧ r.2.mem ((c.tc : Thread Cert.DeltaIdeal.nD Cert.DeltaIdeal.τ).loc Cert.DeltaIdeal.main_arg1) = m ((c.tc : Thread Cert.DeltaIdeal.nD Cert.DeltaIdeal.τ).loc Cert.DeltaIdeal.main_arg1)
      ∧ r.2.mem ((c.tc : Thread Cert.DeltaIdeal.nD Cert.DeltaIdeal.τ).loc Cert.DeltaIdeal.main_arg2) = m ((c.tc : Thread Cert.DeltaIdeal.nD Cert.DeltaIdeal.τ).loc Cert.DeltaIdeal.main_arg2)
      ∧ r.2.mem ((c.tc : Thread Cert.DeltaIdeal.nD Cert.DeltaIdeal.τ).loc Cert.DeltaIdeal.main_arg3) = m ((c.tc : Thread Cert.DeltaIdeal.nD Cert.DeltaIdeal.τ).loc Cert.DeltaIdeal.main_arg3))
      ∧ r.2.sem = fun _ => 0)

def quiescent_DeltaIdeal_pre_delta_finite [hDeltaIdeal : Cert.DeltaIdeal.Facts] [hPre_delta_finite : Cert.Pre_delta_finite.Facts] : Prop :=
  ∀ (m : (ℓ : Loc Cert.DeltaIdeal.nD Cert.DeltaIdeal.τ Cert.DeltaIdeal.sig) → Buf (Elt Ideal) ℓ) (g : Dev Cert.DeltaIdeal.nD → PrngReg), Pre_DeltaIdeal_delta_finite m →
    θ_run (Cert.DeltaIdeal.defs (F := Ideal)) (onTc (τ := Cert.DeltaIdeal.τ) (Cert.DeltaIdeal.main (F := Ideal))) ⟨m, fun _ => 0, g⟩ (fun r => (∀ c : Dev Cert.DeltaIdeal.nD,
      r.2.mem ((c.tc : Thread Cert.DeltaIdeal.nD Cert.DeltaIdeal.τ).loc Cert.DeltaIdeal.main_arg0) = m ((c.tc : Thread Cert.DeltaIdeal.nD Cert.DeltaIdeal.τ).loc Cert.DeltaIdeal.main_arg0)
      ∧ r.2.mem ((c.tc : Thread Cert.DeltaIdeal.nD Cert.DeltaIdeal.τ).loc Cert.DeltaIdeal.main_arg1) = m ((c.tc : Thread Cert.DeltaIdeal.nD Cert.DeltaIdeal.τ).loc Cert.DeltaIdeal.main_arg1)
      ∧ r.2.mem ((c.tc : Thread Cert.DeltaIdeal.nD Cert.DeltaIdeal.τ).loc Cert.DeltaIdeal.main_arg2) = m ((c.tc : Thread Cert.DeltaIdeal.nD Cert.DeltaIdeal.τ).loc Cert.DeltaIdeal.main_arg2)
      ∧ r.2.mem ((c.tc : Thread Cert.DeltaIdeal.nD Cert.DeltaIdeal.τ).loc Cert.DeltaIdeal.main_arg3) = m ((c.tc : Thread Cert.DeltaIdeal.nD Cert.DeltaIdeal.τ).loc Cert.DeltaIdeal.main_arg3))
      ∧ r.2.sem = fun _ => 0)

def quiescent_DeltaRefIdeal [hDeltaRefIdeal : Cert.DeltaRefIdeal.Facts] : Prop :=
  ∀ (m : (ℓ : Loc Cert.DeltaRefIdeal.nD Cert.DeltaRefIdeal.τ Cert.DeltaRefIdeal.sig) → Buf (Elt Ideal) ℓ) (g : Dev Cert.DeltaRefIdeal.nD → PrngReg), Pre_DeltaRefIdeal m →
    θ_run (Cert.DeltaRefIdeal.defs (F := Ideal)) (onTc (τ := Cert.DeltaRefIdeal.τ) (Cert.DeltaRefIdeal.main (F := Ideal))) ⟨m, fun _ => 0, g⟩ (fun r => (∀ c : Dev Cert.DeltaRefIdeal.nD,
      r.2.mem ((c.tc : Thread Cert.DeltaRefIdeal.nD Cert.DeltaRefIdeal.τ).loc Cert.DeltaRefIdeal.main_arg0) = m ((c.tc : Thread Cert.DeltaRefIdeal.nD Cert.DeltaRefIdeal.τ).loc Cert.DeltaRefIdeal.main_arg0)
      ∧ r.2.mem ((c.tc : Thread Cert.DeltaRefIdeal.nD Cert.DeltaRefIdeal.τ).loc Cert.DeltaRefIdeal.main_arg1) = m ((c.tc : Thread Cert.DeltaRefIdeal.nD Cert.DeltaRefIdeal.τ).loc Cert.DeltaRefIdeal.main_arg1)
      ∧ r.2.mem ((c.tc : Thread Cert.DeltaRefIdeal.nD Cert.DeltaRefIdeal.τ).loc Cert.DeltaRefIdeal.main_arg2) = m ((c.tc : Thread Cert.DeltaRefIdeal.nD Cert.DeltaRefIdeal.τ).loc Cert.DeltaRefIdeal.main_arg2)
      ∧ r.2.mem ((c.tc : Thread Cert.DeltaRefIdeal.nD Cert.DeltaRefIdeal.τ).loc Cert.DeltaRefIdeal.main_arg3) = m ((c.tc : Thread Cert.DeltaRefIdeal.nD Cert.DeltaRefIdeal.τ).loc Cert.DeltaRefIdeal.main_arg3))
      ∧ r.2.sem = fun _ => 0)

def quiescent_DeltaRefIdeal_pre_delta_finite [hDeltaRefIdeal : Cert.DeltaRefIdeal.Facts] [hPre_delta_finite : Cert.Pre_delta_finite.Facts] : Prop :=
  ∀ (m : (ℓ : Loc Cert.DeltaRefIdeal.nD Cert.DeltaRefIdeal.τ Cert.DeltaRefIdeal.sig) → Buf (Elt Ideal) ℓ) (g : Dev Cert.DeltaRefIdeal.nD → PrngReg), Pre_DeltaRefIdeal_delta_finite m →
    θ_run (Cert.DeltaRefIdeal.defs (F := Ideal)) (onTc (τ := Cert.DeltaRefIdeal.τ) (Cert.DeltaRefIdeal.main (F := Ideal))) ⟨m, fun _ => 0, g⟩ (fun r => (∀ c : Dev Cert.DeltaRefIdeal.nD,
      r.2.mem ((c.tc : Thread Cert.DeltaRefIdeal.nD Cert.DeltaRefIdeal.τ).loc Cert.DeltaRefIdeal.main_arg0) = m ((c.tc : Thread Cert.DeltaRefIdeal.nD Cert.DeltaRefIdeal.τ).loc Cert.DeltaRefIdeal.main_arg0)
      ∧ r.2.mem ((c.tc : Thread Cert.DeltaRefIdeal.nD Cert.DeltaRefIdeal.τ).loc Cert.DeltaRefIdeal.main_arg1) = m ((c.tc : Thread Cert.DeltaRefIdeal.nD Cert.DeltaRefIdeal.τ).loc Cert.DeltaRefIdeal.main_arg1)
      ∧ r.2.mem ((c.tc : Thread Cert.DeltaRefIdeal.nD Cert.DeltaRefIdeal.τ).loc Cert.DeltaRefIdeal.main_arg2) = m ((c.tc : Thread Cert.DeltaRefIdeal.nD Cert.DeltaRefIdeal.τ).loc Cert.DeltaRefIdeal.main_arg2)
      ∧ r.2.mem ((c.tc : Thread Cert.DeltaRefIdeal.nD Cert.DeltaRefIdeal.τ).loc Cert.DeltaRefIdeal.main_arg3) = m ((c.tc : Thread Cert.DeltaRefIdeal.nD Cert.DeltaRefIdeal.τ).loc Cert.DeltaRefIdeal.main_arg3))
      ∧ r.2.sem = fun _ => 0)

def quiescent_Unpack [hUnpack : Cert.Unpack.Facts] : Prop :=
  ∀ (m : (ℓ : Loc Cert.Unpack.nD Cert.Unpack.τ Cert.Unpack.sig) → Buf (Elt Bits) ℓ) (g : Dev Cert.Unpack.nD → PrngReg), Pre_Unpack m →
    θ_run (Cert.Unpack.defs (F := Bits)) (onTc (τ := Cert.Unpack.τ) (Cert.Unpack.main (F := Bits))) ⟨m, fun _ => 0, g⟩ (fun r => (∀ c : Dev Cert.Unpack.nD,
      r.2.mem ((c.tc : Thread Cert.Unpack.nD Cert.Unpack.τ).loc Cert.Unpack.main_arg0) = m ((c.tc : Thread Cert.Unpack.nD Cert.Unpack.τ).loc Cert.Unpack.main_arg0)
      ∧ r.2.mem ((c.tc : Thread Cert.Unpack.nD Cert.Unpack.τ).loc Cert.Unpack.main_arg1) = m ((c.tc : Thread Cert.Unpack.nD Cert.Unpack.τ).loc Cert.Unpack.main_arg1)
      ∧ r.2.mem ((c.tc : Thread Cert.Unpack.nD Cert.Unpack.τ).loc Cert.Unpack.main_arg2) = m ((c.tc : Thread Cert.Unpack.nD Cert.Unpack.τ).loc Cert.Unpack.main_arg2)
      ∧ r.2.mem ((c.tc : Thread Cert.Unpack.nD Cert.Unpack.τ).loc Cert.Unpack.main_arg3) = m ((c.tc : Thread Cert.Unpack.nD Cert.Unpack.τ).loc Cert.Unpack.main_arg3)
      ∧ r.2.mem ((c.tc : Thread Cert.Unpack.nD Cert.Unpack.τ).loc Cert.Unpack.main_arg4) = m ((c.tc : Thread Cert.Unpack.nD Cert.Unpack.τ).loc Cert.Unpack.main_arg4))
      ∧ r.2.sem = fun _ => 0)

def quiescent_UnpackIdeal [hUnpackIdeal : Cert.UnpackIdeal.Facts] : Prop :=
  ∀ (m : (ℓ : Loc Cert.UnpackIdeal.nD Cert.UnpackIdeal.τ Cert.UnpackIdeal.sig) → Buf (Elt Ideal) ℓ) (g : Dev Cert.UnpackIdeal.nD → PrngReg), Pre_UnpackIdeal m →
    θ_run (Cert.UnpackIdeal.defs (F := Ideal)) (onTc (τ := Cert.UnpackIdeal.τ) (Cert.UnpackIdeal.main (F := Ideal))) ⟨m, fun _ => 0, g⟩ (fun r => (∀ c : Dev Cert.UnpackIdeal.nD,
      r.2.mem ((c.tc : Thread Cert.UnpackIdeal.nD Cert.UnpackIdeal.τ).loc Cert.UnpackIdeal.main_arg0) = m ((c.tc : Thread Cert.UnpackIdeal.nD Cert.UnpackIdeal.τ).loc Cert.UnpackIdeal.main_arg0)
      ∧ r.2.mem ((c.tc : Thread Cert.UnpackIdeal.nD Cert.UnpackIdeal.τ).loc Cert.UnpackIdeal.main_arg1) = m ((c.tc : Thread Cert.UnpackIdeal.nD Cert.UnpackIdeal.τ).loc Cert.UnpackIdeal.main_arg1)
      ∧ r.2.mem ((c.tc : Thread Cert.UnpackIdeal.nD Cert.UnpackIdeal.τ).loc Cert.UnpackIdeal.main_arg2) = m ((c.tc : Thread Cert.UnpackIdeal.nD Cert.UnpackIdeal.τ).loc Cert.UnpackIdeal.main_arg2)
      ∧ r.2.mem ((c.tc : Thread Cert.UnpackIdeal.nD Cert.UnpackIdeal.τ).loc Cert.UnpackIdeal.main_arg3) = m ((c.tc : Thread Cert.UnpackIdeal.nD Cert.UnpackIdeal.τ).loc Cert.UnpackIdeal.main_arg3)
      ∧ r.2.mem ((c.tc : Thread Cert.UnpackIdeal.nD Cert.UnpackIdeal.τ).loc Cert.UnpackIdeal.main_arg4) = m ((c.tc : Thread Cert.UnpackIdeal.nD Cert.UnpackIdeal.τ).loc Cert.UnpackIdeal.main_arg4))
      ∧ r.2.sem = fun _ => 0)

def quiescent_UnpackRefIdeal [hUnpackRefIdeal : Cert.UnpackRefIdeal.Facts] : Prop :=
  ∀ (m : (ℓ : Loc Cert.UnpackRefIdeal.nD Cert.UnpackRefIdeal.τ Cert.UnpackRefIdeal.sig) → Buf (Elt Ideal) ℓ) (g : Dev Cert.UnpackRefIdeal.nD → PrngReg), Pre_UnpackRefIdeal m →
    θ_run (Cert.UnpackRefIdeal.defs (F := Ideal)) (onTc (τ := Cert.UnpackRefIdeal.τ) (Cert.UnpackRefIdeal.main (F := Ideal))) ⟨m, fun _ => 0, g⟩ (fun r => (∀ c : Dev Cert.UnpackRefIdeal.nD,
      r.2.mem ((c.tc : Thread Cert.UnpackRefIdeal.nD Cert.UnpackRefIdeal.τ).loc Cert.UnpackRefIdeal.main_arg0) = m ((c.tc : Thread Cert.UnpackRefIdeal.nD Cert.UnpackRefIdeal.τ).loc Cert.UnpackRefIdeal.main_arg0)
      ∧ r.2.mem ((c.tc : Thread Cert.UnpackRefIdeal.nD Cert.UnpackRefIdeal.τ).loc Cert.UnpackRefIdeal.main_arg1) = m ((c.tc : Thread Cert.UnpackRefIdeal.nD Cert.UnpackRefIdeal.τ).loc Cert.UnpackRefIdeal.main_arg1)
      ∧ r.2.mem ((c.tc : Thread Cert.UnpackRefIdeal.nD Cert.UnpackRefIdeal.τ).loc Cert.UnpackRefIdeal.main_arg2) = m ((c.tc : Thread Cert.UnpackRefIdeal.nD Cert.UnpackRefIdeal.τ).loc Cert.UnpackRefIdeal.main_arg2)
      ∧ r.2.mem ((c.tc : Thread Cert.UnpackRefIdeal.nD Cert.UnpackRefIdeal.τ).loc Cert.UnpackRefIdeal.main_arg3) = m ((c.tc : Thread Cert.UnpackRefIdeal.nD Cert.UnpackRefIdeal.τ).loc Cert.UnpackRefIdeal.main_arg3)
      ∧ r.2.mem ((c.tc : Thread Cert.UnpackRefIdeal.nD Cert.UnpackRefIdeal.τ).loc Cert.UnpackRefIdeal.main_arg4) = m ((c.tc : Thread Cert.UnpackRefIdeal.nD Cert.UnpackRefIdeal.τ).loc Cert.UnpackRefIdeal.main_arg4))
      ∧ r.2.sem = fun _ => 0)

def quiescent_Convxs [hConvxs : Cert.Convxs.Facts] : Prop :=
  ∀ (m : (ℓ : Loc Cert.Convxs.nD Cert.Convxs.τ Cert.Convxs.sig) → Buf (Elt Bits) ℓ) (g : Dev Cert.Convxs.nD → PrngReg), Pre_Convxs m →
    θ_run (Cert.Convxs.defs (F := Bits)) (onTc (τ := Cert.Convxs.τ) (Cert.Convxs.main (F := Bits))) ⟨m, fun _ => 0, g⟩ (fun r => (∀ c : Dev Cert.Convxs.nD,
      r.2.mem ((c.tc : Thread Cert.Convxs.nD Cert.Convxs.τ).loc Cert.Convxs.main_arg0) = m ((c.tc : Thread Cert.Convxs.nD Cert.Convxs.τ).loc Cert.Convxs.main_arg0)
      ∧ r.2.mem ((c.tc : Thread Cert.Convxs.nD Cert.Convxs.τ).loc Cert.Convxs.main_arg1) = m ((c.tc : Thread Cert.Convxs.nD Cert.Convxs.τ).loc Cert.Convxs.main_arg1)
      ∧ r.2.mem ((c.tc : Thread Cert.Convxs.nD Cert.Convxs.τ).loc Cert.Convxs.main_arg2) = m ((c.tc : Thread Cert.Convxs.nD Cert.Convxs.τ).loc Cert.Convxs.main_arg2)
      ∧ r.2.mem ((c.tc : Thread Cert.Convxs.nD Cert.Convxs.τ).loc Cert.Convxs.main_arg3) = m ((c.tc : Thread Cert.Convxs.nD Cert.Convxs.τ).loc Cert.Convxs.main_arg3))
      ∧ r.2.sem = fun _ => 0)

def quiescent_ConvxsIdeal [hConvxsIdeal : Cert.ConvxsIdeal.Facts] : Prop :=
  ∀ (m : (ℓ : Loc Cert.ConvxsIdeal.nD Cert.ConvxsIdeal.τ Cert.ConvxsIdeal.sig) → Buf (Elt Ideal) ℓ) (g : Dev Cert.ConvxsIdeal.nD → PrngReg), Pre_ConvxsIdeal m →
    θ_run (Cert.ConvxsIdeal.defs (F := Ideal)) (onTc (τ := Cert.ConvxsIdeal.τ) (Cert.ConvxsIdeal.main (F := Ideal))) ⟨m, fun _ => 0, g⟩ (fun r => (∀ c : Dev Cert.ConvxsIdeal.nD,
      r.2.mem ((c.tc : Thread Cert.ConvxsIdeal.nD Cert.ConvxsIdeal.τ).loc Cert.ConvxsIdeal.main_arg0) = m ((c.tc : Thread Cert.ConvxsIdeal.nD Cert.ConvxsIdeal.τ).loc Cert.ConvxsIdeal.main_arg0)
      ∧ r.2.mem ((c.tc : Thread Cert.ConvxsIdeal.nD Cert.ConvxsIdeal.τ).loc Cert.ConvxsIdeal.main_arg1) = m ((c.tc : Thread Cert.ConvxsIdeal.nD Cert.ConvxsIdeal.τ).loc Cert.ConvxsIdeal.main_arg1)
      ∧ r.2.mem ((c.tc : Thread Cert.ConvxsIdeal.nD Cert.ConvxsIdeal.τ).loc Cert.ConvxsIdeal.main_arg2) = m ((c.tc : Thread Cert.ConvxsIdeal.nD Cert.ConvxsIdeal.τ).loc Cert.ConvxsIdeal.main_arg2)
      ∧ r.2.mem ((c.tc : Thread Cert.ConvxsIdeal.nD Cert.ConvxsIdeal.τ).loc Cert.ConvxsIdeal.main_arg3) = m ((c.tc : Thread Cert.ConvxsIdeal.nD Cert.ConvxsIdeal.τ).loc Cert.ConvxsIdeal.main_arg3))
      ∧ r.2.sem = fun _ => 0)

def quiescent_ConvxsIdeal_pre_conv_xs_finite [hConvxsIdeal : Cert.ConvxsIdeal.Facts] [hPre_conv_xs_finite : Cert.Pre_conv_xs_finite.Facts] : Prop :=
  ∀ (m : (ℓ : Loc Cert.ConvxsIdeal.nD Cert.ConvxsIdeal.τ Cert.ConvxsIdeal.sig) → Buf (Elt Ideal) ℓ) (g : Dev Cert.ConvxsIdeal.nD → PrngReg), Pre_ConvxsIdeal_conv_xs_finite m →
    θ_run (Cert.ConvxsIdeal.defs (F := Ideal)) (onTc (τ := Cert.ConvxsIdeal.τ) (Cert.ConvxsIdeal.main (F := Ideal))) ⟨m, fun _ => 0, g⟩ (fun r => (∀ c : Dev Cert.ConvxsIdeal.nD,
      r.2.mem ((c.tc : Thread Cert.ConvxsIdeal.nD Cert.ConvxsIdeal.τ).loc Cert.ConvxsIdeal.main_arg0) = m ((c.tc : Thread Cert.ConvxsIdeal.nD Cert.ConvxsIdeal.τ).loc Cert.ConvxsIdeal.main_arg0)
      ∧ r.2.mem ((c.tc : Thread Cert.ConvxsIdeal.nD Cert.ConvxsIdeal.τ).loc Cert.ConvxsIdeal.main_arg1) = m ((c.tc : Thread Cert.ConvxsIdeal.nD Cert.ConvxsIdeal.τ).loc Cert.ConvxsIdeal.main_arg1)
      ∧ r.2.mem ((c.tc : Thread Cert.ConvxsIdeal.nD Cert.ConvxsIdeal.τ).loc Cert.ConvxsIdeal.main_arg2) = m ((c.tc : Thread Cert.ConvxsIdeal.nD Cert.ConvxsIdeal.τ).loc Cert.ConvxsIdeal.main_arg2)
      ∧ r.2.mem ((c.tc : Thread Cert.ConvxsIdeal.nD Cert.ConvxsIdeal.τ).loc Cert.ConvxsIdeal.main_arg3) = m ((c.tc : Thread Cert.ConvxsIdeal.nD Cert.ConvxsIdeal.τ).loc Cert.ConvxsIdeal.main_arg3))
      ∧ r.2.sem = fun _ => 0)

def quiescent_ConvxsRefIdeal [hConvxsRefIdeal : Cert.ConvxsRefIdeal.Facts] : Prop :=
  ∀ (m : (ℓ : Loc Cert.ConvxsRefIdeal.nD Cert.ConvxsRefIdeal.τ Cert.ConvxsRefIdeal.sig) → Buf (Elt Ideal) ℓ) (g : Dev Cert.ConvxsRefIdeal.nD → PrngReg), Pre_ConvxsRefIdeal m →
    θ_run (Cert.ConvxsRefIdeal.defs (F := Ideal)) (onTc (τ := Cert.ConvxsRefIdeal.τ) (Cert.ConvxsRefIdeal.main (F := Ideal))) ⟨m, fun _ => 0, g⟩ (fun r => (∀ c : Dev Cert.ConvxsRefIdeal.nD,
      r.2.mem ((c.tc : Thread Cert.ConvxsRefIdeal.nD Cert.ConvxsRefIdeal.τ).loc Cert.ConvxsRefIdeal.main_arg0) = m ((c.tc : Thread Cert.ConvxsRefIdeal.nD Cert.ConvxsRefIdeal.τ).loc Cert.ConvxsRefIdeal.main_arg0)
      ∧ r.2.mem ((c.tc : Thread Cert.ConvxsRefIdeal.nD Cert.ConvxsRefIdeal.τ).loc Cert.ConvxsRefIdeal.main_arg1) = m ((c.tc : Thread Cert.ConvxsRefIdeal.nD Cert.ConvxsRefIdeal.τ).loc Cert.ConvxsRefIdeal.main_arg1)
      ∧ r.2.mem ((c.tc : Thread Cert.ConvxsRefIdeal.nD Cert.ConvxsRefIdeal.τ).loc Cert.ConvxsRefIdeal.main_arg2) = m ((c.tc : Thread Cert.ConvxsRefIdeal.nD Cert.ConvxsRefIdeal.τ).loc Cert.ConvxsRefIdeal.main_arg2)
      ∧ r.2.mem ((c.tc : Thread Cert.ConvxsRefIdeal.nD Cert.ConvxsRefIdeal.τ).loc Cert.ConvxsRefIdeal.main_arg3) = m ((c.tc : Thread Cert.ConvxsRefIdeal.nD Cert.ConvxsRefIdeal.τ).loc Cert.ConvxsRefIdeal.main_arg3))
      ∧ r.2.sem = fun _ => 0)

def quiescent_ConvxsRefIdeal_pre_conv_xs_finite [hConvxsRefIdeal : Cert.ConvxsRefIdeal.Facts] [hPre_conv_xs_finite : Cert.Pre_conv_xs_finite.Facts] : Prop :=
  ∀ (m : (ℓ : Loc Cert.ConvxsRefIdeal.nD Cert.ConvxsRefIdeal.τ Cert.ConvxsRefIdeal.sig) → Buf (Elt Ideal) ℓ) (g : Dev Cert.ConvxsRefIdeal.nD → PrngReg), Pre_ConvxsRefIdeal_conv_xs_finite m →
    θ_run (Cert.ConvxsRefIdeal.defs (F := Ideal)) (onTc (τ := Cert.ConvxsRefIdeal.τ) (Cert.ConvxsRefIdeal.main (F := Ideal))) ⟨m, fun _ => 0, g⟩ (fun r => (∀ c : Dev Cert.ConvxsRefIdeal.nD,
      r.2.mem ((c.tc : Thread Cert.ConvxsRefIdeal.nD Cert.ConvxsRefIdeal.τ).loc Cert.ConvxsRefIdeal.main_arg0) = m ((c.tc : Thread Cert.ConvxsRefIdeal.nD Cert.ConvxsRefIdeal.τ).loc Cert.ConvxsRefIdeal.main_arg0)
      ∧ r.2.mem ((c.tc : Thread Cert.ConvxsRefIdeal.nD Cert.ConvxsRefIdeal.τ).loc Cert.ConvxsRefIdeal.main_arg1) = m ((c.tc : Thread Cert.ConvxsRefIdeal.nD Cert.ConvxsRefIdeal.τ).loc Cert.ConvxsRefIdeal.main_arg1)
      ∧ r.2.mem ((c.tc : Thread Cert.ConvxsRefIdeal.nD Cert.ConvxsRefIdeal.τ).loc Cert.ConvxsRefIdeal.main_arg2) = m ((c.tc : Thread Cert.ConvxsRefIdeal.nD Cert.ConvxsRefIdeal.τ).loc Cert.ConvxsRefIdeal.main_arg2)
      ∧ r.2.mem ((c.tc : Thread Cert.ConvxsRefIdeal.nD Cert.ConvxsRefIdeal.τ).loc Cert.ConvxsRefIdeal.main_arg3) = m ((c.tc : Thread Cert.ConvxsRefIdeal.nD Cert.ConvxsRefIdeal.τ).loc Cert.ConvxsRefIdeal.main_arg3))
      ∧ r.2.sem = fun _ => 0)

def quiescent_Act [hAct : Cert.Act.Facts] : Prop :=
  ∀ (m : (ℓ : Loc Cert.Act.nD Cert.Act.τ Cert.Act.sig) → Buf (Elt Bits) ℓ) (g : Dev Cert.Act.nD → PrngReg), Pre_Act m →
    θ_run (Cert.Act.defs (F := Bits)) (onTc (τ := Cert.Act.τ) (Cert.Act.main (F := Bits))) ⟨m, fun _ => 0, g⟩ (fun r => (∀ c : Dev Cert.Act.nD,
      r.2.mem ((c.tc : Thread Cert.Act.nD Cert.Act.τ).loc Cert.Act.main_arg0) = m ((c.tc : Thread Cert.Act.nD Cert.Act.τ).loc Cert.Act.main_arg0)
      ∧ r.2.mem ((c.tc : Thread Cert.Act.nD Cert.Act.τ).loc Cert.Act.main_arg1) = m ((c.tc : Thread Cert.Act.nD Cert.Act.τ).loc Cert.Act.main_arg1)
      ∧ r.2.mem ((c.tc : Thread Cert.Act.nD Cert.Act.τ).loc Cert.Act.main_arg2) = m ((c.tc : Thread Cert.Act.nD Cert.Act.τ).loc Cert.Act.main_arg2)
      ∧ r.2.mem ((c.tc : Thread Cert.Act.nD Cert.Act.τ).loc Cert.Act.main_arg3) = m ((c.tc : Thread Cert.Act.nD Cert.Act.τ).loc Cert.Act.main_arg3))
      ∧ r.2.sem = fun _ => 0)

def quiescent_ActIdeal [hActIdeal : Cert.ActIdeal.Facts] : Prop :=
  ∀ (m : (ℓ : Loc Cert.ActIdeal.nD Cert.ActIdeal.τ Cert.ActIdeal.sig) → Buf (Elt Ideal) ℓ) (g : Dev Cert.ActIdeal.nD → PrngReg), Pre_ActIdeal m →
    θ_run (Cert.ActIdeal.defs (F := Ideal)) (onTc (τ := Cert.ActIdeal.τ) (Cert.ActIdeal.main (F := Ideal))) ⟨m, fun _ => 0, g⟩ (fun r => (∀ c : Dev Cert.ActIdeal.nD,
      r.2.mem ((c.tc : Thread Cert.ActIdeal.nD Cert.ActIdeal.τ).loc Cert.ActIdeal.main_arg0) = m ((c.tc : Thread Cert.ActIdeal.nD Cert.ActIdeal.τ).loc Cert.ActIdeal.main_arg0)
      ∧ r.2.mem ((c.tc : Thread Cert.ActIdeal.nD Cert.ActIdeal.τ).loc Cert.ActIdeal.main_arg1) = m ((c.tc : Thread Cert.ActIdeal.nD Cert.ActIdeal.τ).loc Cert.ActIdeal.main_arg1)
      ∧ r.2.mem ((c.tc : Thread Cert.ActIdeal.nD Cert.ActIdeal.τ).loc Cert.ActIdeal.main_arg2) = m ((c.tc : Thread Cert.ActIdeal.nD Cert.ActIdeal.τ).loc Cert.ActIdeal.main_arg2)
      ∧ r.2.mem ((c.tc : Thread Cert.ActIdeal.nD Cert.ActIdeal.τ).loc Cert.ActIdeal.main_arg3) = m ((c.tc : Thread Cert.ActIdeal.nD Cert.ActIdeal.τ).loc Cert.ActIdeal.main_arg3))
      ∧ r.2.sem = fun _ => 0)

def quiescent_ActRefIdeal [hActRefIdeal : Cert.ActRefIdeal.Facts] : Prop :=
  ∀ (m : (ℓ : Loc Cert.ActRefIdeal.nD Cert.ActRefIdeal.τ Cert.ActRefIdeal.sig) → Buf (Elt Ideal) ℓ) (g : Dev Cert.ActRefIdeal.nD → PrngReg), Pre_ActRefIdeal m →
    θ_run (Cert.ActRefIdeal.defs (F := Ideal)) (onTc (τ := Cert.ActRefIdeal.τ) (Cert.ActRefIdeal.main (F := Ideal))) ⟨m, fun _ => 0, g⟩ (fun r => (∀ c : Dev Cert.ActRefIdeal.nD,
      r.2.mem ((c.tc : Thread Cert.ActRefIdeal.nD Cert.ActRefIdeal.τ).loc Cert.ActRefIdeal.main_arg0) = m ((c.tc : Thread Cert.ActRefIdeal.nD Cert.ActRefIdeal.τ).loc Cert.ActRefIdeal.main_arg0)
      ∧ r.2.mem ((c.tc : Thread Cert.ActRefIdeal.nD Cert.ActRefIdeal.τ).loc Cert.ActRefIdeal.main_arg1) = m ((c.tc : Thread Cert.ActRefIdeal.nD Cert.ActRefIdeal.τ).loc Cert.ActRefIdeal.main_arg1)
      ∧ r.2.mem ((c.tc : Thread Cert.ActRefIdeal.nD Cert.ActRefIdeal.τ).loc Cert.ActRefIdeal.main_arg2) = m ((c.tc : Thread Cert.ActRefIdeal.nD Cert.ActRefIdeal.τ).loc Cert.ActRefIdeal.main_arg2)
      ∧ r.2.mem ((c.tc : Thread Cert.ActRefIdeal.nD Cert.ActRefIdeal.τ).loc Cert.ActRefIdeal.main_arg3) = m ((c.tc : Thread Cert.ActRefIdeal.nD Cert.ActRefIdeal.τ).loc Cert.ActRefIdeal.main_arg3))
      ∧ r.2.sem = fun _ => 0)

def quiescent_Gated [hGated : Cert.Gated.Facts] : Prop :=
  ∀ (m : (ℓ : Loc Cert.Gated.nD Cert.Gated.τ Cert.Gated.sig) → Buf (Elt Bits) ℓ) (g : Dev Cert.Gated.nD → PrngReg), Pre_Gated m →
    θ_run (Cert.Gated.defs (F := Bits)) (onTc (τ := Cert.Gated.τ) (Cert.Gated.main (F := Bits))) ⟨m, fun _ => 0, g⟩ (fun r => (∀ c : Dev Cert.Gated.nD,
      r.2.mem ((c.tc : Thread Cert.Gated.nD Cert.Gated.τ).loc Cert.Gated.main_arg0) = m ((c.tc : Thread Cert.Gated.nD Cert.Gated.τ).loc Cert.Gated.main_arg0)
      ∧ r.2.mem ((c.tc : Thread Cert.Gated.nD Cert.Gated.τ).loc Cert.Gated.main_arg1) = m ((c.tc : Thread Cert.Gated.nD Cert.Gated.τ).loc Cert.Gated.main_arg1)
      ∧ r.2.mem ((c.tc : Thread Cert.Gated.nD Cert.Gated.τ).loc Cert.Gated.main_arg2) = m ((c.tc : Thread Cert.Gated.nD Cert.Gated.τ).loc Cert.Gated.main_arg2)
      ∧ r.2.mem ((c.tc : Thread Cert.Gated.nD Cert.Gated.τ).loc Cert.Gated.main_arg3) = m ((c.tc : Thread Cert.Gated.nD Cert.Gated.τ).loc Cert.Gated.main_arg3))
      ∧ r.2.sem = fun _ => 0)

def quiescent_GatedIdeal [hGatedIdeal : Cert.GatedIdeal.Facts] : Prop :=
  ∀ (m : (ℓ : Loc Cert.GatedIdeal.nD Cert.GatedIdeal.τ Cert.GatedIdeal.sig) → Buf (Elt Ideal) ℓ) (g : Dev Cert.GatedIdeal.nD → PrngReg), Pre_GatedIdeal m →
    θ_run (Cert.GatedIdeal.defs (F := Ideal)) (onTc (τ := Cert.GatedIdeal.τ) (Cert.GatedIdeal.main (F := Ideal))) ⟨m, fun _ => 0, g⟩ (fun r => (∀ c : Dev Cert.GatedIdeal.nD,
      r.2.mem ((c.tc : Thread Cert.GatedIdeal.nD Cert.GatedIdeal.τ).loc Cert.GatedIdeal.main_arg0) = m ((c.tc : Thread Cert.GatedIdeal.nD Cert.GatedIdeal.τ).loc Cert.GatedIdeal.main_arg0)
      ∧ r.2.mem ((c.tc : Thread Cert.GatedIdeal.nD Cert.GatedIdeal.τ).loc Cert.GatedIdeal.main_arg1) = m ((c.tc : Thread Cert.GatedIdeal.nD Cert.GatedIdeal.τ).loc Cert.GatedIdeal.main_arg1)
      ∧ r.2.mem ((c.tc : Thread Cert.GatedIdeal.nD Cert.GatedIdeal.τ).loc Cert.GatedIdeal.main_arg2) = m ((c.tc : Thread Cert.GatedIdeal.nD Cert.GatedIdeal.τ).loc Cert.GatedIdeal.main_arg2)
      ∧ r.2.mem ((c.tc : Thread Cert.GatedIdeal.nD Cert.GatedIdeal.τ).loc Cert.GatedIdeal.main_arg3) = m ((c.tc : Thread Cert.GatedIdeal.nD Cert.GatedIdeal.τ).loc Cert.GatedIdeal.main_arg3))
      ∧ r.2.sem = fun _ => 0)

def quiescent_GatedIdeal_pre_gated_norm_finite [hGatedIdeal : Cert.GatedIdeal.Facts] [hPre_gated_norm_finite : Cert.Pre_gated_norm_finite.Facts] : Prop :=
  ∀ (m : (ℓ : Loc Cert.GatedIdeal.nD Cert.GatedIdeal.τ Cert.GatedIdeal.sig) → Buf (Elt Ideal) ℓ) (g : Dev Cert.GatedIdeal.nD → PrngReg), Pre_GatedIdeal_gated_norm_finite m →
    θ_run (Cert.GatedIdeal.defs (F := Ideal)) (onTc (τ := Cert.GatedIdeal.τ) (Cert.GatedIdeal.main (F := Ideal))) ⟨m, fun _ => 0, g⟩ (fun r => (∀ c : Dev Cert.GatedIdeal.nD,
      r.2.mem ((c.tc : Thread Cert.GatedIdeal.nD Cert.GatedIdeal.τ).loc Cert.GatedIdeal.main_arg0) = m ((c.tc : Thread Cert.GatedIdeal.nD Cert.GatedIdeal.τ).loc Cert.GatedIdeal.main_arg0)
      ∧ r.2.mem ((c.tc : Thread Cert.GatedIdeal.nD Cert.GatedIdeal.τ).loc Cert.GatedIdeal.main_arg1) = m ((c.tc : Thread Cert.GatedIdeal.nD Cert.GatedIdeal.τ).loc Cert.GatedIdeal.main_arg1)
      ∧ r.2.mem ((c.tc : Thread Cert.GatedIdeal.nD Cert.GatedIdeal.τ).loc Cert.GatedIdeal.main_arg2) = m ((c.tc : Thread Cert.GatedIdeal.nD Cert.GatedIdeal.τ).loc Cert.GatedIdeal.main_arg2)
      ∧ r.2.mem ((c.tc : Thread Cert.GatedIdeal.nD Cert.GatedIdeal.τ).loc Cert.GatedIdeal.main_arg3) = m ((c.tc : Thread Cert.GatedIdeal.nD Cert.GatedIdeal.τ).loc Cert.GatedIdeal.main_arg3))
      ∧ r.2.sem = fun _ => 0)

def quiescent_GatedRefIdeal [hGatedRefIdeal : Cert.GatedRefIdeal.Facts] : Prop :=
  ∀ (m : (ℓ : Loc Cert.GatedRefIdeal.nD Cert.GatedRefIdeal.τ Cert.GatedRefIdeal.sig) → Buf (Elt Ideal) ℓ) (g : Dev Cert.GatedRefIdeal.nD → PrngReg), Pre_GatedRefIdeal m →
    θ_run (Cert.GatedRefIdeal.defs (F := Ideal)) (onTc (τ := Cert.GatedRefIdeal.τ) (Cert.GatedRefIdeal.main (F := Ideal))) ⟨m, fun _ => 0, g⟩ (fun r => (∀ c : Dev Cert.GatedRefIdeal.nD,
      r.2.mem ((c.tc : Thread Cert.GatedRefIdeal.nD Cert.GatedRefIdeal.τ).loc Cert.GatedRefIdeal.main_arg0) = m ((c.tc : Thread Cert.GatedRefIdeal.nD Cert.GatedRefIdeal.τ).loc Cert.GatedRefIdeal.main_arg0)
      ∧ r.2.mem ((c.tc : Thread Cert.GatedRefIdeal.nD Cert.GatedRefIdeal.τ).loc Cert.GatedRefIdeal.main_arg1) = m ((c.tc : Thread Cert.GatedRefIdeal.nD Cert.GatedRefIdeal.τ).loc Cert.GatedRefIdeal.main_arg1)
      ∧ r.2.mem ((c.tc : Thread Cert.GatedRefIdeal.nD Cert.GatedRefIdeal.τ).loc Cert.GatedRefIdeal.main_arg2) = m ((c.tc : Thread Cert.GatedRefIdeal.nD Cert.GatedRefIdeal.τ).loc Cert.GatedRefIdeal.main_arg2)
      ∧ r.2.mem ((c.tc : Thread Cert.GatedRefIdeal.nD Cert.GatedRefIdeal.τ).loc Cert.GatedRefIdeal.main_arg3) = m ((c.tc : Thread Cert.GatedRefIdeal.nD Cert.GatedRefIdeal.τ).loc Cert.GatedRefIdeal.main_arg3))
      ∧ r.2.sem = fun _ => 0)

def quiescent_GatedRefIdeal_pre_gated_norm_finite [hGatedRefIdeal : Cert.GatedRefIdeal.Facts] [hPre_gated_norm_finite : Cert.Pre_gated_norm_finite.Facts] : Prop :=
  ∀ (m : (ℓ : Loc Cert.GatedRefIdeal.nD Cert.GatedRefIdeal.τ Cert.GatedRefIdeal.sig) → Buf (Elt Ideal) ℓ) (g : Dev Cert.GatedRefIdeal.nD → PrngReg), Pre_GatedRefIdeal_gated_norm_finite m →
    θ_run (Cert.GatedRefIdeal.defs (F := Ideal)) (onTc (τ := Cert.GatedRefIdeal.τ) (Cert.GatedRefIdeal.main (F := Ideal))) ⟨m, fun _ => 0, g⟩ (fun r => (∀ c : Dev Cert.GatedRefIdeal.nD,
      r.2.mem ((c.tc : Thread Cert.GatedRefIdeal.nD Cert.GatedRefIdeal.τ).loc Cert.GatedRefIdeal.main_arg0) = m ((c.tc : Thread Cert.GatedRefIdeal.nD Cert.GatedRefIdeal.τ).loc Cert.GatedRefIdeal.main_arg0)
      ∧ r.2.mem ((c.tc : Thread Cert.GatedRefIdeal.nD Cert.GatedRefIdeal.τ).loc Cert.GatedRefIdeal.main_arg1) = m ((c.tc : Thread Cert.GatedRefIdeal.nD Cert.GatedRefIdeal.τ).loc Cert.GatedRefIdeal.main_arg1)
      ∧ r.2.mem ((c.tc : Thread Cert.GatedRefIdeal.nD Cert.GatedRefIdeal.τ).loc Cert.GatedRefIdeal.main_arg2) = m ((c.tc : Thread Cert.GatedRefIdeal.nD Cert.GatedRefIdeal.τ).loc Cert.GatedRefIdeal.main_arg2)
      ∧ r.2.mem ((c.tc : Thread Cert.GatedRefIdeal.nD Cert.GatedRefIdeal.τ).loc Cert.GatedRefIdeal.main_arg3) = m ((c.tc : Thread Cert.GatedRefIdeal.nD Cert.GatedRefIdeal.τ).loc Cert.GatedRefIdeal.main_arg3))
      ∧ r.2.sem = fun _ => 0)

def quiescent_Ssd [hSsd : Cert.Ssd.Facts] : Prop :=
  ∀ (m : (ℓ : Loc Cert.Ssd.nD Cert.Ssd.τ Cert.Ssd.sig) → Buf (Elt Bits) ℓ) (g : Dev Cert.Ssd.nD → PrngReg), Pre_Ssd m →
    θ_run (Cert.Ssd.defs (F := Bits)) (onTc (τ := Cert.Ssd.τ) (Cert.Ssd.main (F := Bits))) ⟨m, fun _ => 0, g⟩ (fun r => (∀ c : Dev Cert.Ssd.nD,
      r.2.mem ((c.tc : Thread Cert.Ssd.nD Cert.Ssd.τ).loc Cert.Ssd.main_arg0) = m ((c.tc : Thread Cert.Ssd.nD Cert.Ssd.τ).loc Cert.Ssd.main_arg0)
      ∧ r.2.mem ((c.tc : Thread Cert.Ssd.nD Cert.Ssd.τ).loc Cert.Ssd.main_arg1) = m ((c.tc : Thread Cert.Ssd.nD Cert.Ssd.τ).loc Cert.Ssd.main_arg1)
      ∧ r.2.mem ((c.tc : Thread Cert.Ssd.nD Cert.Ssd.τ).loc Cert.Ssd.main_arg2) = m ((c.tc : Thread Cert.Ssd.nD Cert.Ssd.τ).loc Cert.Ssd.main_arg2)
      ∧ r.2.mem ((c.tc : Thread Cert.Ssd.nD Cert.Ssd.τ).loc Cert.Ssd.main_arg3) = m ((c.tc : Thread Cert.Ssd.nD Cert.Ssd.τ).loc Cert.Ssd.main_arg3)
      ∧ r.2.mem ((c.tc : Thread Cert.Ssd.nD Cert.Ssd.τ).loc Cert.Ssd.main_arg4) = m ((c.tc : Thread Cert.Ssd.nD Cert.Ssd.τ).loc Cert.Ssd.main_arg4)
      ∧ r.2.mem ((c.tc : Thread Cert.Ssd.nD Cert.Ssd.τ).loc Cert.Ssd.main_arg5) = m ((c.tc : Thread Cert.Ssd.nD Cert.Ssd.τ).loc Cert.Ssd.main_arg5)
      ∧ r.2.mem ((c.tc : Thread Cert.Ssd.nD Cert.Ssd.τ).loc Cert.Ssd.main_arg6) = m ((c.tc : Thread Cert.Ssd.nD Cert.Ssd.τ).loc Cert.Ssd.main_arg6)
      ∧ r.2.mem ((c.tc : Thread Cert.Ssd.nD Cert.Ssd.τ).loc Cert.Ssd.main_arg7) = m ((c.tc : Thread Cert.Ssd.nD Cert.Ssd.τ).loc Cert.Ssd.main_arg7))
      ∧ r.2.sem = fun _ => 0)

def quiescent_SsdIdeal [hSsdIdeal : Cert.SsdIdeal.Facts] : Prop :=
  ∀ (m : (ℓ : Loc Cert.SsdIdeal.nD Cert.SsdIdeal.τ Cert.SsdIdeal.sig) → Buf (Elt Ideal) ℓ) (g : Dev Cert.SsdIdeal.nD → PrngReg), Pre_SsdIdeal m →
    θ_run (Cert.SsdIdeal.defs (F := Ideal)) (onTc (τ := Cert.SsdIdeal.τ) (Cert.SsdIdeal.main (F := Ideal))) ⟨m, fun _ => 0, g⟩ (fun r => (∀ c : Dev Cert.SsdIdeal.nD,
      r.2.mem ((c.tc : Thread Cert.SsdIdeal.nD Cert.SsdIdeal.τ).loc Cert.SsdIdeal.main_arg0) = m ((c.tc : Thread Cert.SsdIdeal.nD Cert.SsdIdeal.τ).loc Cert.SsdIdeal.main_arg0)
      ∧ r.2.mem ((c.tc : Thread Cert.SsdIdeal.nD Cert.SsdIdeal.τ).loc Cert.SsdIdeal.main_arg1) = m ((c.tc : Thread Cert.SsdIdeal.nD Cert.SsdIdeal.τ).loc Cert.SsdIdeal.main_arg1)
      ∧ r.2.mem ((c.tc : Thread Cert.SsdIdeal.nD Cert.SsdIdeal.τ).loc Cert.SsdIdeal.main_arg2) = m ((c.tc : Thread Cert.SsdIdeal.nD Cert.SsdIdeal.τ).loc Cert.SsdIdeal.main_arg2)
      ∧ r.2.mem ((c.tc : Thread Cert.SsdIdeal.nD Cert.SsdIdeal.τ).loc Cert.SsdIdeal.main_arg3) = m ((c.tc : Thread Cert.SsdIdeal.nD Cert.SsdIdeal.τ).loc Cert.SsdIdeal.main_arg3)
      ∧ r.2.mem ((c.tc : Thread Cert.SsdIdeal.nD Cert.SsdIdeal.τ).loc Cert.SsdIdeal.main_arg4) = m ((c.tc : Thread Cert.SsdIdeal.nD Cert.SsdIdeal.τ).loc Cert.SsdIdeal.main_arg4)
      ∧ r.2.mem ((c.tc : Thread Cert.SsdIdeal.nD Cert.SsdIdeal.τ).loc Cert.SsdIdeal.main_arg5) = m ((c.tc : Thread Cert.SsdIdeal.nD Cert.SsdIdeal.τ).loc Cert.SsdIdeal.main_arg5)
      ∧ r.2.mem ((c.tc : Thread Cert.SsdIdeal.nD Cert.SsdIdeal.τ).loc Cert.SsdIdeal.main_arg6) = m ((c.tc : Thread Cert.SsdIdeal.nD Cert.SsdIdeal.τ).loc Cert.SsdIdeal.main_arg6)
      ∧ r.2.mem ((c.tc : Thread Cert.SsdIdeal.nD Cert.SsdIdeal.τ).loc Cert.SsdIdeal.main_arg7) = m ((c.tc : Thread Cert.SsdIdeal.nD Cert.SsdIdeal.τ).loc Cert.SsdIdeal.main_arg7))
      ∧ r.2.sem = fun _ => 0)

def preserves_InputNorm_InputNormIdeal : Prop :=
  True

def algebraic_InputNormIdeal_InputNormRefIdeal_pre_input_norm_finite [hInputNormIdeal : Cert.InputNormIdeal.Facts] [hInputNormRefIdeal : Cert.InputNormRefIdeal.Facts] [hPre_input_norm_finite : Cert.Pre_input_norm_finite.Facts] : Prop :=
  ∀ (m : (ℓ : Loc Cert.InputNormIdeal.nD Cert.InputNormIdeal.τ Cert.InputNormIdeal.sig) → Buf (Elt Ideal) ℓ) (g : Dev Cert.InputNormIdeal.nD → PrngReg)
    (m' : (ℓ : Loc Cert.InputNormRefIdeal.nD Cert.InputNormRefIdeal.τ Cert.InputNormRefIdeal.sig) → Buf (Elt Ideal) ℓ) (g' : Dev Cert.InputNormRefIdeal.nD → PrngReg), Pre_InputNormIdeal_input_norm_finite m →
    (∀ c : Dev Cert.InputNormIdeal.nD,
      m' ((c.tc : Thread Cert.InputNormRefIdeal.nD Cert.InputNormRefIdeal.τ).loc Cert.InputNormRefIdeal.main_arg0) = m ((c.tc : Thread Cert.InputNormIdeal.nD Cert.InputNormIdeal.τ).loc Cert.InputNormIdeal.main_arg0)
      ∧ m' ((c.tc : Thread Cert.InputNormRefIdeal.nD Cert.InputNormRefIdeal.τ).loc Cert.InputNormRefIdeal.main_arg1) = m ((c.tc : Thread Cert.InputNormIdeal.nD Cert.InputNormIdeal.τ).loc Cert.InputNormIdeal.main_arg1)
      ∧ m' ((c.tc : Thread Cert.InputNormRefIdeal.nD Cert.InputNormRefIdeal.τ).loc Cert.InputNormRefIdeal.main_arg2) = m ((c.tc : Thread Cert.InputNormIdeal.nD Cert.InputNormIdeal.τ).loc Cert.InputNormIdeal.main_arg2)
      ∧ m' ((c.tc : Thread Cert.InputNormRefIdeal.nD Cert.InputNormRefIdeal.τ).loc Cert.InputNormRefIdeal.main_arg3) = m ((c.tc : Thread Cert.InputNormIdeal.nD Cert.InputNormIdeal.τ).loc Cert.InputNormIdeal.main_arg3)
      ∧ m' ((c.tc : Thread Cert.InputNormRefIdeal.nD Cert.InputNormRefIdeal.τ).loc Cert.InputNormRefIdeal.main_arg4) = m ((c.tc : Thread Cert.InputNormIdeal.nD Cert.InputNormIdeal.τ).loc Cert.InputNormIdeal.main_arg4)) →
    ∃ (v0 : (c : Dev Cert.InputNormIdeal.nD) → Buf (Elt Ideal) ((c.tc : Thread Cert.InputNormIdeal.nD Cert.InputNormIdeal.τ).loc Cert.InputNormIdeal.main_v7_0)) (v1 : (c : Dev Cert.InputNormIdeal.nD) → Buf (Elt Ideal) ((c.tc : Thread Cert.InputNormIdeal.nD Cert.InputNormIdeal.τ).loc Cert.InputNormIdeal.main_v7_1)),
      θ_run (Cert.InputNormIdeal.defs (F := Ideal)) (onTc (τ := Cert.InputNormIdeal.τ) (Cert.InputNormIdeal.main (F := Ideal))) ⟨m, fun _ => 0, g⟩ (fun r => ∀ c : Dev Cert.InputNormIdeal.nD,
          r.2.mem ((c.tc : Thread Cert.InputNormIdeal.nD Cert.InputNormIdeal.τ).loc Cert.InputNormIdeal.main_v7_0) = v0 c
          ∧ r.2.mem ((c.tc : Thread Cert.InputNormIdeal.nD Cert.InputNormIdeal.τ).loc Cert.InputNormIdeal.main_v7_1) = v1 c
          ∧ r.2.mem ((c.tc : Thread Cert.InputNormIdeal.nD Cert.InputNormIdeal.τ).loc Cert.InputNormIdeal.main_arg0) = m ((c.tc : Thread Cert.InputNormIdeal.nD Cert.InputNormIdeal.τ).loc Cert.InputNormIdeal.main_arg0)
          ∧ r.2.mem ((c.tc : Thread Cert.InputNormIdeal.nD Cert.InputNormIdeal.τ).loc Cert.InputNormIdeal.main_arg1) = m ((c.tc : Thread Cert.InputNormIdeal.nD Cert.InputNormIdeal.τ).loc Cert.InputNormIdeal.main_arg1)
          ∧ r.2.mem ((c.tc : Thread Cert.InputNormIdeal.nD Cert.InputNormIdeal.τ).loc Cert.InputNormIdeal.main_arg2) = m ((c.tc : Thread Cert.InputNormIdeal.nD Cert.InputNormIdeal.τ).loc Cert.InputNormIdeal.main_arg2)
          ∧ r.2.mem ((c.tc : Thread Cert.InputNormIdeal.nD Cert.InputNormIdeal.τ).loc Cert.InputNormIdeal.main_arg3) = m ((c.tc : Thread Cert.InputNormIdeal.nD Cert.InputNormIdeal.τ).loc Cert.InputNormIdeal.main_arg3)
          ∧ r.2.mem ((c.tc : Thread Cert.InputNormIdeal.nD Cert.InputNormIdeal.τ).loc Cert.InputNormIdeal.main_arg4) = m ((c.tc : Thread Cert.InputNormIdeal.nD Cert.InputNormIdeal.τ).loc Cert.InputNormIdeal.main_arg4))
      ∧ θ_run (Cert.InputNormRefIdeal.defs (F := Ideal)) (onTc (τ := Cert.InputNormRefIdeal.τ) (Cert.InputNormRefIdeal.main (F := Ideal))) ⟨m', fun _ => 0, g'⟩ (fun r => ∀ c : Dev Cert.InputNormRefIdeal.nD,
          r.2.mem ((c.tc : Thread Cert.InputNormRefIdeal.nD Cert.InputNormRefIdeal.τ).loc Cert.InputNormRefIdeal.main_v41) = v0 c
          ∧ r.2.mem ((c.tc : Thread Cert.InputNormRefIdeal.nD Cert.InputNormRefIdeal.τ).loc Cert.InputNormRefIdeal.main_v39) = v1 c
          ∧ r.2.mem ((c.tc : Thread Cert.InputNormRefIdeal.nD Cert.InputNormRefIdeal.τ).loc Cert.InputNormRefIdeal.main_arg0) = m' ((c.tc : Thread Cert.InputNormRefIdeal.nD Cert.InputNormRefIdeal.τ).loc Cert.InputNormRefIdeal.main_arg0)
          ∧ r.2.mem ((c.tc : Thread Cert.InputNormRefIdeal.nD Cert.InputNormRefIdeal.τ).loc Cert.InputNormRefIdeal.main_arg1) = m' ((c.tc : Thread Cert.InputNormRefIdeal.nD Cert.InputNormRefIdeal.τ).loc Cert.InputNormRefIdeal.main_arg1)
          ∧ r.2.mem ((c.tc : Thread Cert.InputNormRefIdeal.nD Cert.InputNormRefIdeal.τ).loc Cert.InputNormRefIdeal.main_arg2) = m' ((c.tc : Thread Cert.InputNormRefIdeal.nD Cert.InputNormRefIdeal.τ).loc Cert.InputNormRefIdeal.main_arg2)
          ∧ r.2.mem ((c.tc : Thread Cert.InputNormRefIdeal.nD Cert.InputNormRefIdeal.τ).loc Cert.InputNormRefIdeal.main_arg3) = m' ((c.tc : Thread Cert.InputNormRefIdeal.nD Cert.InputNormRefIdeal.τ).loc Cert.InputNormRefIdeal.main_arg3)
          ∧ r.2.mem ((c.tc : Thread Cert.InputNormRefIdeal.nD Cert.InputNormRefIdeal.τ).loc Cert.InputNormRefIdeal.main_arg4) = m' ((c.tc : Thread Cert.InputNormRefIdeal.nD Cert.InputNormRefIdeal.τ).loc Cert.InputNormRefIdeal.main_arg4))

def preserves_Attn_AttnIdeal : Prop :=
  IdealRules.named_const.Statement Cert.AttnIdeal.κ "scale_log2e" .f32 0x3DD53B95#32 (((Real.sqrt 192)⁻¹ * (Real.log 2)⁻¹ : ℝ) : EReal)
  ∧ IdealRules.named_const.Statement Cert.AttnIdeal.κ "scale" .f32 0x3D93CD3A#32 (((Real.sqrt 192)⁻¹ : ℝ) : EReal)

def algebraic_AttnIdeal_AttnRefIdeal_pre_attention_finite [hAttnIdeal : Cert.AttnIdeal.Facts] [hAttnRefIdeal : Cert.AttnRefIdeal.Facts] [hPre_attention_finite : Cert.Pre_attention_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_attention_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)) →
    ∃ (v0 : (c : Dev Cert.AttnIdeal.nD) → Buf (Elt Ideal) ((c.tc : Thread Cert.AttnIdeal.nD Cert.AttnIdeal.τ).loc Cert.AttnIdeal.main_v46_0)) (v1 : (c : Dev Cert.AttnIdeal.nD) → Buf (Elt Ideal) ((c.tc : Thread Cert.AttnIdeal.nD Cert.AttnIdeal.τ).loc Cert.AttnIdeal.main_v46_1)) (v2 : (c : Dev Cert.AttnIdeal.nD) → Buf (Elt Ideal) ((c.tc : Thread Cert.AttnIdeal.nD Cert.AttnIdeal.τ).loc Cert.AttnIdeal.main_v46_2)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v46_0) = v0 c
          ∧ r.2.mem ((c.tc : Thread Cert.AttnIdeal.nD Cert.AttnIdeal.τ).loc Cert.AttnIdeal.main_v46_1) = v1 c
          ∧ r.2.mem ((c.tc : Thread Cert.AttnIdeal.nD Cert.AttnIdeal.τ).loc Cert.AttnIdeal.main_v46_2) = v2 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v65) = v0 c
          ∧ r.2.mem ((c.tc : Thread Cert.AttnRefIdeal.nD Cert.AttnRefIdeal.τ).loc Cert.AttnRefIdeal.main_v67) = v1 c
          ∧ r.2.mem ((c.tc : Thread Cert.AttnRefIdeal.nD Cert.AttnRefIdeal.τ).loc Cert.AttnRefIdeal.main_v69) = v2 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3))

def preserves_Loss_LossIdeal : Prop :=
  True

def algebraic_LossIdeal_LossRefIdeal_pre_loss_finite [hLossIdeal : Cert.LossIdeal.Facts] [hLossRefIdeal : Cert.LossRefIdeal.Facts] [hPre_loss_finite : Cert.Pre_loss_finite.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal_loss_finite m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)
      ∧ m' ((c.tc : Thread Cert.LossRefIdeal.nD Cert.LossRefIdeal.τ).loc Cert.LossRefIdeal.main_arg3) = m ((c.tc : Thread Cert.LossIdeal.nD Cert.LossIdeal.τ).loc Cert.LossIdeal.main_arg3)) →
    ∃ (v0 : (c : Dev Cert.LossIdeal.nD) → Buf (Elt Ideal) ((c.tc : Thread Cert.LossIdeal.nD Cert.LossIdeal.τ).loc Cert.LossIdeal.main_v4_0)) (v1 : (c : Dev Cert.LossIdeal.nD) → Buf (Elt Ideal) ((c.tc : Thread Cert.LossIdeal.nD Cert.LossIdeal.τ).loc Cert.LossIdeal.main_v4_1)) (v2 : (c : Dev Cert.LossIdeal.nD) → Buf (Elt Ideal) ((c.tc : Thread Cert.LossIdeal.nD Cert.LossIdeal.τ).loc Cert.LossIdeal.main_v4_2)) (v3 : (c : Dev Cert.LossIdeal.nD) → Buf (Elt Ideal) ((c.tc : Thread Cert.LossIdeal.nD Cert.LossIdeal.τ).loc Cert.LossIdeal.main_v4_3)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v4_0) = v0 c
          ∧ r.2.mem ((c.tc : Thread Cert.LossIdeal.nD Cert.LossIdeal.τ).loc Cert.LossIdeal.main_v4_1) = v1 c
          ∧ r.2.mem ((c.tc : Thread Cert.LossIdeal.nD Cert.LossIdeal.τ).loc Cert.LossIdeal.main_v4_2) = v2 c
          ∧ r.2.mem ((c.tc : Thread Cert.LossIdeal.nD Cert.LossIdeal.τ).loc Cert.LossIdeal.main_v4_3) = v3 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
          ∧ r.2.mem ((c.tc : Thread Cert.LossIdeal.nD Cert.LossIdeal.τ).loc Cert.LossIdeal.main_arg3) = m ((c.tc : Thread Cert.LossIdeal.nD Cert.LossIdeal.τ).loc Cert.LossIdeal.main_arg3))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v56) = v0 c
          ∧ r.2.mem ((c.tc : Thread Cert.LossRefIdeal.nD Cert.LossRefIdeal.τ).loc Cert.LossRefIdeal.main_v58) = v1 c
          ∧ r.2.mem ((c.tc : Thread Cert.LossRefIdeal.nD Cert.LossRefIdeal.τ).loc Cert.LossRefIdeal.main_v61) = v2 c
          ∧ r.2.mem ((c.tc : Thread Cert.LossRefIdeal.nD Cert.LossRefIdeal.τ).loc Cert.LossRefIdeal.main_v55) = v3 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2)
          ∧ r.2.mem ((c.tc : Thread Cert.LossRefIdeal.nD Cert.LossRefIdeal.τ).loc Cert.LossRefIdeal.main_arg3) = m' ((c.tc : Thread Cert.LossRefIdeal.nD Cert.LossRefIdeal.τ).loc Cert.LossRefIdeal.main_arg3))

def preserves_MlpResidual_MlpResidualIdeal : Prop :=
  True

def algebraic_MlpResidualIdeal_MlpResidualRefIdeal_pre_mlp_residual_finite [hMlpResidualIdeal : Cert.MlpResidualIdeal.Facts] [hMlpResidualRefIdeal : Cert.MlpResidualRefIdeal.Facts] [hPre_mlp_residual_finite : Cert.Pre_mlp_residual_finite.Facts] : Prop :=
  ∀ (m : (ℓ : Loc Cert.MlpResidualIdeal.nD Cert.MlpResidualIdeal.τ Cert.MlpResidualIdeal.sig) → Buf (Elt Ideal) ℓ) (g : Dev Cert.MlpResidualIdeal.nD → PrngReg)
    (m' : (ℓ : Loc Cert.MlpResidualRefIdeal.nD Cert.MlpResidualRefIdeal.τ Cert.MlpResidualRefIdeal.sig) → Buf (Elt Ideal) ℓ) (g' : Dev Cert.MlpResidualRefIdeal.nD → PrngReg), Pre_MlpResidualIdeal_mlp_residual_finite m →
    (∀ c : Dev Cert.MlpResidualIdeal.nD,
      m' ((c.tc : Thread Cert.MlpResidualRefIdeal.nD Cert.MlpResidualRefIdeal.τ).loc Cert.MlpResidualRefIdeal.main_arg0) = m ((c.tc : Thread Cert.MlpResidualIdeal.nD Cert.MlpResidualIdeal.τ).loc Cert.MlpResidualIdeal.main_arg0)
      ∧ m' ((c.tc : Thread Cert.MlpResidualRefIdeal.nD Cert.MlpResidualRefIdeal.τ).loc Cert.MlpResidualRefIdeal.main_arg1) = m ((c.tc : Thread Cert.MlpResidualIdeal.nD Cert.MlpResidualIdeal.τ).loc Cert.MlpResidualIdeal.main_arg1)
      ∧ m' ((c.tc : Thread Cert.MlpResidualRefIdeal.nD Cert.MlpResidualRefIdeal.τ).loc Cert.MlpResidualRefIdeal.main_arg2) = m ((c.tc : Thread Cert.MlpResidualIdeal.nD Cert.MlpResidualIdeal.τ).loc Cert.MlpResidualIdeal.main_arg2)
      ∧ m' ((c.tc : Thread Cert.MlpResidualRefIdeal.nD Cert.MlpResidualRefIdeal.τ).loc Cert.MlpResidualRefIdeal.main_arg3) = m ((c.tc : Thread Cert.MlpResidualIdeal.nD Cert.MlpResidualIdeal.τ).loc Cert.MlpResidualIdeal.main_arg3)
      ∧ m' ((c.tc : Thread Cert.MlpResidualRefIdeal.nD Cert.MlpResidualRefIdeal.τ).loc Cert.MlpResidualRefIdeal.main_arg4) = m ((c.tc : Thread Cert.MlpResidualIdeal.nD Cert.MlpResidualIdeal.τ).loc Cert.MlpResidualIdeal.main_arg4)
      ∧ m' ((c.tc : Thread Cert.MlpResidualRefIdeal.nD Cert.MlpResidualRefIdeal.τ).loc Cert.MlpResidualRefIdeal.main_arg5) = m ((c.tc : Thread Cert.MlpResidualIdeal.nD Cert.MlpResidualIdeal.τ).loc Cert.MlpResidualIdeal.main_arg5)) →
    ∃ (v0 : (c : Dev Cert.MlpResidualIdeal.nD) → Buf (Elt Ideal) ((c.tc : Thread Cert.MlpResidualIdeal.nD Cert.MlpResidualIdeal.τ).loc Cert.MlpResidualIdeal.main_v23_0)) (v1 : (c : Dev Cert.MlpResidualIdeal.nD) → Buf (Elt Ideal) ((c.tc : Thread Cert.MlpResidualIdeal.nD Cert.MlpResidualIdeal.τ).loc Cert.MlpResidualIdeal.main_v23_1)) (v2 : (c : Dev Cert.MlpResidualIdeal.nD) → Buf (Elt Ideal) ((c.tc : Thread Cert.MlpResidualIdeal.nD Cert.MlpResidualIdeal.τ).loc Cert.MlpResidualIdeal.main_v23_2)) (v3 : (c : Dev Cert.MlpResidualIdeal.nD) → Buf (Elt Ideal) ((c.tc : Thread Cert.MlpResidualIdeal.nD Cert.MlpResidualIdeal.τ).loc Cert.MlpResidualIdeal.main_v23_3)),
      θ_run (Cert.MlpResidualIdeal.defs (F := Ideal)) (onTc (τ := Cert.MlpResidualIdeal.τ) (Cert.MlpResidualIdeal.main (F := Ideal))) ⟨m, fun _ => 0, g⟩ (fun r => ∀ c : Dev Cert.MlpResidualIdeal.nD,
          r.2.mem ((c.tc : Thread Cert.MlpResidualIdeal.nD Cert.MlpResidualIdeal.τ).loc Cert.MlpResidualIdeal.main_v23_0) = v0 c
          ∧ r.2.mem ((c.tc : Thread Cert.MlpResidualIdeal.nD Cert.MlpResidualIdeal.τ).loc Cert.MlpResidualIdeal.main_v23_1) = v1 c
          ∧ r.2.mem ((c.tc : Thread Cert.MlpResidualIdeal.nD Cert.MlpResidualIdeal.τ).loc Cert.MlpResidualIdeal.main_v23_2) = v2 c
          ∧ r.2.mem ((c.tc : Thread Cert.MlpResidualIdeal.nD Cert.MlpResidualIdeal.τ).loc Cert.MlpResidualIdeal.main_v23_3) = v3 c
          ∧ r.2.mem ((c.tc : Thread Cert.MlpResidualIdeal.nD Cert.MlpResidualIdeal.τ).loc Cert.MlpResidualIdeal.main_arg0) = m ((c.tc : Thread Cert.MlpResidualIdeal.nD Cert.MlpResidualIdeal.τ).loc Cert.MlpResidualIdeal.main_arg0)
          ∧ r.2.mem ((c.tc : Thread Cert.MlpResidualIdeal.nD Cert.MlpResidualIdeal.τ).loc Cert.MlpResidualIdeal.main_arg1) = m ((c.tc : Thread Cert.MlpResidualIdeal.nD Cert.MlpResidualIdeal.τ).loc Cert.MlpResidualIdeal.main_arg1)
          ∧ r.2.mem ((c.tc : Thread Cert.MlpResidualIdeal.nD Cert.MlpResidualIdeal.τ).loc Cert.MlpResidualIdeal.main_arg2) = m ((c.tc : Thread Cert.MlpResidualIdeal.nD Cert.MlpResidualIdeal.τ).loc Cert.MlpResidualIdeal.main_arg2)
          ∧ r.2.mem ((c.tc : Thread Cert.MlpResidualIdeal.nD Cert.MlpResidualIdeal.τ).loc Cert.MlpResidualIdeal.main_arg3) = m ((c.tc : Thread Cert.MlpResidualIdeal.nD Cert.MlpResidualIdeal.τ).loc Cert.MlpResidualIdeal.main_arg3)
          ∧ r.2.mem ((c.tc : Thread Cert.MlpResidualIdeal.nD Cert.MlpResidualIdeal.τ).loc Cert.MlpResidualIdeal.main_arg4) = m ((c.tc : Thread Cert.MlpResidualIdeal.nD Cert.MlpResidualIdeal.τ).loc Cert.MlpResidualIdeal.main_arg4)
          ∧ r.2.mem ((c.tc : Thread Cert.MlpResidualIdeal.nD Cert.MlpResidualIdeal.τ).loc Cert.MlpResidualIdeal.main_arg5) = m ((c.tc : Thread Cert.MlpResidualIdeal.nD Cert.MlpResidualIdeal.τ).loc Cert.MlpResidualIdeal.main_arg5))
      ∧ θ_run (Cert.MlpResidualRefIdeal.defs (F := Ideal)) (onTc (τ := Cert.MlpResidualRefIdeal.τ) (Cert.MlpResidualRefIdeal.main (F := Ideal))) ⟨m', fun _ => 0, g'⟩ (fun r => ∀ c : Dev Cert.MlpResidualRefIdeal.nD,
          r.2.mem ((c.tc : Thread Cert.MlpResidualRefIdeal.nD Cert.MlpResidualRefIdeal.τ).loc Cert.MlpResidualRefIdeal.main_v80) = v0 c
          ∧ r.2.mem ((c.tc : Thread Cert.MlpResidualRefIdeal.nD Cert.MlpResidualRefIdeal.τ).loc Cert.MlpResidualRefIdeal.main_v83) = v1 c
          ∧ r.2.mem ((c.tc : Thread Cert.MlpResidualRefIdeal.nD Cert.MlpResidualRefIdeal.τ).loc Cert.MlpResidualRefIdeal.main_v58) = v2 c
          ∧ r.2.mem ((c.tc : Thread Cert.MlpResidualRefIdeal.nD Cert.MlpResidualRefIdeal.τ).loc Cert.MlpResidualRefIdeal.main_v78) = v3 c
          ∧ r.2.mem ((c.tc : Thread Cert.MlpResidualRefIdeal.nD Cert.MlpResidualRefIdeal.τ).loc Cert.MlpResidualRefIdeal.main_arg0) = m' ((c.tc : Thread Cert.MlpResidualRefIdeal.nD Cert.MlpResidualRefIdeal.τ).loc Cert.MlpResidualRefIdeal.main_arg0)
          ∧ r.2.mem ((c.tc : Thread Cert.MlpResidualRefIdeal.nD Cert.MlpResidualRefIdeal.τ).loc Cert.MlpResidualRefIdeal.main_arg1) = m' ((c.tc : Thread Cert.MlpResidualRefIdeal.nD Cert.MlpResidualRefIdeal.τ).loc Cert.MlpResidualRefIdeal.main_arg1)
          ∧ r.2.mem ((c.tc : Thread Cert.MlpResidualRefIdeal.nD Cert.MlpResidualRefIdeal.τ).loc Cert.MlpResidualRefIdeal.main_arg2) = m' ((c.tc : Thread Cert.MlpResidualRefIdeal.nD Cert.MlpResidualRefIdeal.τ).loc Cert.MlpResidualRefIdeal.main_arg2)
          ∧ r.2.mem ((c.tc : Thread Cert.MlpResidualRefIdeal.nD Cert.MlpResidualRefIdeal.τ).loc Cert.MlpResidualRefIdeal.main_arg3) = m' ((c.tc : Thread Cert.MlpResidualRefIdeal.nD Cert.MlpResidualRefIdeal.τ).loc Cert.MlpResidualRefIdeal.main_arg3)
          ∧ r.2.mem ((c.tc : Thread Cert.MlpResidualRefIdeal.nD Cert.MlpResidualRefIdeal.τ).loc Cert.MlpResidualRefIdeal.main_arg4) = m' ((c.tc : Thread Cert.MlpResidualRefIdeal.nD Cert.MlpResidualRefIdeal.τ).loc Cert.MlpResidualRefIdeal.main_arg4)
          ∧ r.2.mem ((c.tc : Thread Cert.MlpResidualRefIdeal.nD Cert.MlpResidualRefIdeal.τ).loc Cert.MlpResidualRefIdeal.main_arg5) = m' ((c.tc : Thread Cert.MlpResidualRefIdeal.nD Cert.MlpResidualRefIdeal.τ).loc Cert.MlpResidualRefIdeal.main_arg5))

def preserves_Proj_ProjIdeal : Prop :=
  True

def algebraic_ProjIdeal_ProjRefIdeal_pre_proj_grad_finite [hProjIdeal : Cert.ProjIdeal.Facts] [hProjRefIdeal : Cert.ProjRefIdeal.Facts] [hPre_proj_grad_finite : Cert.Pre_proj_grad_finite.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal_proj_grad_finite m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)
      ∧ m' ((c.tc : Thread Cert.ProjRefIdeal.nD Cert.ProjRefIdeal.τ).loc Cert.ProjRefIdeal.main_arg5) = m ((c.tc : Thread Cert.ProjIdeal.nD Cert.ProjIdeal.τ).loc Cert.ProjIdeal.main_arg5)
      ∧ m' ((c.tc : Thread Cert.ProjRefIdeal.nD Cert.ProjRefIdeal.τ).loc Cert.ProjRefIdeal.main_arg6) = m ((c.tc : Thread Cert.ProjIdeal.nD Cert.ProjIdeal.τ).loc Cert.ProjIdeal.main_arg6)
      ∧ m' ((c.tc : Thread Cert.ProjRefIdeal.nD Cert.ProjRefIdeal.τ).loc Cert.ProjRefIdeal.main_arg7) = m ((c.tc : Thread Cert.ProjIdeal.nD Cert.ProjIdeal.τ).loc Cert.ProjIdeal.main_arg7)
      ∧ m' ((c.tc : Thread Cert.ProjRefIdeal.nD Cert.ProjRefIdeal.τ).loc Cert.ProjRefIdeal.main_arg8) = m ((c.tc : Thread Cert.ProjIdeal.nD Cert.ProjIdeal.τ).loc Cert.ProjIdeal.main_arg8)
      ∧ m' ((c.tc : Thread Cert.ProjRefIdeal.nD Cert.ProjRefIdeal.τ).loc Cert.ProjRefIdeal.main_arg9) = m ((c.tc : Thread Cert.ProjIdeal.nD Cert.ProjIdeal.τ).loc Cert.ProjIdeal.main_arg9)
      ∧ m' ((c.tc : Thread Cert.ProjRefIdeal.nD Cert.ProjRefIdeal.τ).loc Cert.ProjRefIdeal.main_arg10) = m ((c.tc : Thread Cert.ProjIdeal.nD Cert.ProjIdeal.τ).loc Cert.ProjIdeal.main_arg10)
      ∧ m' ((c.tc : Thread Cert.ProjRefIdeal.nD Cert.ProjRefIdeal.τ).loc Cert.ProjRefIdeal.main_arg11) = m ((c.tc : Thread Cert.ProjIdeal.nD Cert.ProjIdeal.τ).loc Cert.ProjIdeal.main_arg11)
      ∧ m' ((c.tc : Thread Cert.ProjRefIdeal.nD Cert.ProjRefIdeal.τ).loc Cert.ProjRefIdeal.main_arg12) = m ((c.tc : Thread Cert.ProjIdeal.nD Cert.ProjIdeal.τ).loc Cert.ProjIdeal.main_arg12)) →
    ∃ (v0 : (c : Dev Cert.ProjIdeal.nD) → Buf (Elt Ideal) ((c.tc : Thread Cert.ProjIdeal.nD Cert.ProjIdeal.τ).loc Cert.ProjIdeal.main_v25_0)) (v1 : (c : Dev Cert.ProjIdeal.nD) → Buf (Elt Ideal) ((c.tc : Thread Cert.ProjIdeal.nD Cert.ProjIdeal.τ).loc Cert.ProjIdeal.main_v25_1)) (v2 : (c : Dev Cert.ProjIdeal.nD) → Buf (Elt Ideal) ((c.tc : Thread Cert.ProjIdeal.nD Cert.ProjIdeal.τ).loc Cert.ProjIdeal.main_v25_2)) (v3 : (c : Dev Cert.ProjIdeal.nD) → Buf (Elt Ideal) ((c.tc : Thread Cert.ProjIdeal.nD Cert.ProjIdeal.τ).loc Cert.ProjIdeal.main_v25_3)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v25_0) = v0 c
          ∧ r.2.mem ((c.tc : Thread Cert.ProjIdeal.nD Cert.ProjIdeal.τ).loc Cert.ProjIdeal.main_v25_1) = v1 c
          ∧ r.2.mem ((c.tc : Thread Cert.ProjIdeal.nD Cert.ProjIdeal.τ).loc Cert.ProjIdeal.main_v25_2) = v2 c
          ∧ r.2.mem ((c.tc : Thread Cert.ProjIdeal.nD Cert.ProjIdeal.τ).loc Cert.ProjIdeal.main_v25_3) = v3 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
          ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
          ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
          ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7)
          ∧ r.2.mem ((c.tc : Thread Cert.ProjIdeal.nD Cert.ProjIdeal.τ).loc Cert.ProjIdeal.main_arg8) = m ((c.tc : Thread Cert.ProjIdeal.nD Cert.ProjIdeal.τ).loc Cert.ProjIdeal.main_arg8)
          ∧ r.2.mem ((c.tc : Thread Cert.ProjIdeal.nD Cert.ProjIdeal.τ).loc Cert.ProjIdeal.main_arg9) = m ((c.tc : Thread Cert.ProjIdeal.nD Cert.ProjIdeal.τ).loc Cert.ProjIdeal.main_arg9)
          ∧ r.2.mem ((c.tc : Thread Cert.ProjIdeal.nD Cert.ProjIdeal.τ).loc Cert.ProjIdeal.main_arg10) = m ((c.tc : Thread Cert.ProjIdeal.nD Cert.ProjIdeal.τ).loc Cert.ProjIdeal.main_arg10)
          ∧ r.2.mem ((c.tc : Thread Cert.ProjIdeal.nD Cert.ProjIdeal.τ).loc Cert.ProjIdeal.main_arg11) = m ((c.tc : Thread Cert.ProjIdeal.nD Cert.ProjIdeal.τ).loc Cert.ProjIdeal.main_arg11)
          ∧ r.2.mem ((c.tc : Thread Cert.ProjIdeal.nD Cert.ProjIdeal.τ).loc Cert.ProjIdeal.main_arg12) = m ((c.tc : Thread Cert.ProjIdeal.nD Cert.ProjIdeal.τ).loc Cert.ProjIdeal.main_arg12))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v92) = v0 c
          ∧ r.2.mem ((c.tc : Thread Cert.ProjRefIdeal.nD Cert.ProjRefIdeal.τ).loc Cert.ProjRefIdeal.main_v85) = v1 c
          ∧ r.2.mem ((c.tc : Thread Cert.ProjRefIdeal.nD Cert.ProjRefIdeal.τ).loc Cert.ProjRefIdeal.main_v66) = v2 c
          ∧ r.2.mem ((c.tc : Thread Cert.ProjRefIdeal.nD Cert.ProjRefIdeal.τ).loc Cert.ProjRefIdeal.main_v94) = v3 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4)
          ∧ r.2.mem ((c.tc : Thread Cert.ProjRefIdeal.nD Cert.ProjRefIdeal.τ).loc Cert.ProjRefIdeal.main_arg5) = m' ((c.tc : Thread Cert.ProjRefIdeal.nD Cert.ProjRefIdeal.τ).loc Cert.ProjRefIdeal.main_arg5)
          ∧ r.2.mem ((c.tc : Thread Cert.ProjRefIdeal.nD Cert.ProjRefIdeal.τ).loc Cert.ProjRefIdeal.main_arg6) = m' ((c.tc : Thread Cert.ProjRefIdeal.nD Cert.ProjRefIdeal.τ).loc Cert.ProjRefIdeal.main_arg6)
          ∧ r.2.mem ((c.tc : Thread Cert.ProjRefIdeal.nD Cert.ProjRefIdeal.τ).loc Cert.ProjRefIdeal.main_arg7) = m' ((c.tc : Thread Cert.ProjRefIdeal.nD Cert.ProjRefIdeal.τ).loc Cert.ProjRefIdeal.main_arg7)
          ∧ r.2.mem ((c.tc : Thread Cert.ProjRefIdeal.nD Cert.ProjRefIdeal.τ).loc Cert.ProjRefIdeal.main_arg8) = m' ((c.tc : Thread Cert.ProjRefIdeal.nD Cert.ProjRefIdeal.τ).loc Cert.ProjRefIdeal.main_arg8)
          ∧ r.2.mem ((c.tc : Thread Cert.ProjRefIdeal.nD Cert.ProjRefIdeal.τ).loc Cert.ProjRefIdeal.main_arg9) = m' ((c.tc : Thread Cert.ProjRefIdeal.nD Cert.ProjRefIdeal.τ).loc Cert.ProjRefIdeal.main_arg9)
          ∧ r.2.mem ((c.tc : Thread Cert.ProjRefIdeal.nD Cert.ProjRefIdeal.τ).loc Cert.ProjRefIdeal.main_arg10) = m' ((c.tc : Thread Cert.ProjRefIdeal.nD Cert.ProjRefIdeal.τ).loc Cert.ProjRefIdeal.main_arg10)
          ∧ r.2.mem ((c.tc : Thread Cert.ProjRefIdeal.nD Cert.ProjRefIdeal.τ).loc Cert.ProjRefIdeal.main_arg11) = m' ((c.tc : Thread Cert.ProjRefIdeal.nD Cert.ProjRefIdeal.τ).loc Cert.ProjRefIdeal.main_arg11)
          ∧ r.2.mem ((c.tc : Thread Cert.ProjRefIdeal.nD Cert.ProjRefIdeal.τ).loc Cert.ProjRefIdeal.main_arg12) = m' ((c.tc : Thread Cert.ProjRefIdeal.nD Cert.ProjRefIdeal.τ).loc Cert.ProjRefIdeal.main_arg12))

def preserves_Delta_DeltaIdeal : Prop :=
  True

def algebraic_DeltaIdeal_DeltaRefIdeal_pre_delta_finite [hDeltaIdeal : Cert.DeltaIdeal.Facts] [hDeltaRefIdeal : Cert.DeltaRefIdeal.Facts] [hPre_delta_finite : Cert.Pre_delta_finite.Facts] : Prop :=
  ∀ (m : (ℓ : Loc Cert.DeltaIdeal.nD Cert.DeltaIdeal.τ Cert.DeltaIdeal.sig) → Buf (Elt Ideal) ℓ) (g : Dev Cert.DeltaIdeal.nD → PrngReg)
    (m' : (ℓ : Loc Cert.DeltaRefIdeal.nD Cert.DeltaRefIdeal.τ Cert.DeltaRefIdeal.sig) → Buf (Elt Ideal) ℓ) (g' : Dev Cert.DeltaRefIdeal.nD → PrngReg), Pre_DeltaIdeal_delta_finite m →
    (∀ c : Dev Cert.DeltaIdeal.nD,
      m' ((c.tc : Thread Cert.DeltaRefIdeal.nD Cert.DeltaRefIdeal.τ).loc Cert.DeltaRefIdeal.main_arg0) = m ((c.tc : Thread Cert.DeltaIdeal.nD Cert.DeltaIdeal.τ).loc Cert.DeltaIdeal.main_arg0)
      ∧ m' ((c.tc : Thread Cert.DeltaRefIdeal.nD Cert.DeltaRefIdeal.τ).loc Cert.DeltaRefIdeal.main_arg1) = m ((c.tc : Thread Cert.DeltaIdeal.nD Cert.DeltaIdeal.τ).loc Cert.DeltaIdeal.main_arg1)
      ∧ m' ((c.tc : Thread Cert.DeltaRefIdeal.nD Cert.DeltaRefIdeal.τ).loc Cert.DeltaRefIdeal.main_arg2) = m ((c.tc : Thread Cert.DeltaIdeal.nD Cert.DeltaIdeal.τ).loc Cert.DeltaIdeal.main_arg2)
      ∧ m' ((c.tc : Thread Cert.DeltaRefIdeal.nD Cert.DeltaRefIdeal.τ).loc Cert.DeltaRefIdeal.main_arg3) = m ((c.tc : Thread Cert.DeltaIdeal.nD Cert.DeltaIdeal.τ).loc Cert.DeltaIdeal.main_arg3)) →
    ∃ (v0 : (c : Dev Cert.DeltaIdeal.nD) → Buf (Elt Ideal) ((c.tc : Thread Cert.DeltaIdeal.nD Cert.DeltaIdeal.τ).loc Cert.DeltaIdeal.main_v29)),
      θ_run (Cert.DeltaIdeal.defs (F := Ideal)) (onTc (τ := Cert.DeltaIdeal.τ) (Cert.DeltaIdeal.main (F := Ideal))) ⟨m, fun _ => 0, g⟩ (fun r => ∀ c : Dev Cert.DeltaIdeal.nD,
          r.2.mem ((c.tc : Thread Cert.DeltaIdeal.nD Cert.DeltaIdeal.τ).loc Cert.DeltaIdeal.main_v29) = v0 c
          ∧ r.2.mem ((c.tc : Thread Cert.DeltaIdeal.nD Cert.DeltaIdeal.τ).loc Cert.DeltaIdeal.main_arg0) = m ((c.tc : Thread Cert.DeltaIdeal.nD Cert.DeltaIdeal.τ).loc Cert.DeltaIdeal.main_arg0)
          ∧ r.2.mem ((c.tc : Thread Cert.DeltaIdeal.nD Cert.DeltaIdeal.τ).loc Cert.DeltaIdeal.main_arg1) = m ((c.tc : Thread Cert.DeltaIdeal.nD Cert.DeltaIdeal.τ).loc Cert.DeltaIdeal.main_arg1)
          ∧ r.2.mem ((c.tc : Thread Cert.DeltaIdeal.nD Cert.DeltaIdeal.τ).loc Cert.DeltaIdeal.main_arg2) = m ((c.tc : Thread Cert.DeltaIdeal.nD Cert.DeltaIdeal.τ).loc Cert.DeltaIdeal.main_arg2)
          ∧ r.2.mem ((c.tc : Thread Cert.DeltaIdeal.nD Cert.DeltaIdeal.τ).loc Cert.DeltaIdeal.main_arg3) = m ((c.tc : Thread Cert.DeltaIdeal.nD Cert.DeltaIdeal.τ).loc Cert.DeltaIdeal.main_arg3))
      ∧ θ_run (Cert.DeltaRefIdeal.defs (F := Ideal)) (onTc (τ := Cert.DeltaRefIdeal.τ) (Cert.DeltaRefIdeal.main (F := Ideal))) ⟨m', fun _ => 0, g'⟩ (fun r => ∀ c : Dev Cert.DeltaRefIdeal.nD,
          r.2.mem ((c.tc : Thread Cert.DeltaRefIdeal.nD Cert.DeltaRefIdeal.τ).loc Cert.DeltaRefIdeal.main_v39) = v0 c
          ∧ r.2.mem ((c.tc : Thread Cert.DeltaRefIdeal.nD Cert.DeltaRefIdeal.τ).loc Cert.DeltaRefIdeal.main_arg0) = m' ((c.tc : Thread Cert.DeltaRefIdeal.nD Cert.DeltaRefIdeal.τ).loc Cert.DeltaRefIdeal.main_arg0)
          ∧ r.2.mem ((c.tc : Thread Cert.DeltaRefIdeal.nD Cert.DeltaRefIdeal.τ).loc Cert.DeltaRefIdeal.main_arg1) = m' ((c.tc : Thread Cert.DeltaRefIdeal.nD Cert.DeltaRefIdeal.τ).loc Cert.DeltaRefIdeal.main_arg1)
          ∧ r.2.mem ((c.tc : Thread Cert.DeltaRefIdeal.nD Cert.DeltaRefIdeal.τ).loc Cert.DeltaRefIdeal.main_arg2) = m' ((c.tc : Thread Cert.DeltaRefIdeal.nD Cert.DeltaRefIdeal.τ).loc Cert.DeltaRefIdeal.main_arg2)
          ∧ r.2.mem ((c.tc : Thread Cert.DeltaRefIdeal.nD Cert.DeltaRefIdeal.τ).loc Cert.DeltaRefIdeal.main_arg3) = m' ((c.tc : Thread Cert.DeltaRefIdeal.nD Cert.DeltaRefIdeal.τ).loc Cert.DeltaRefIdeal.main_arg3))

def preserves_Unpack_UnpackIdeal : Prop :=
  True

def algebraic_UnpackIdeal_UnpackRefIdeal [hUnpackIdeal : Cert.UnpackIdeal.Facts] [hUnpackRefIdeal : Cert.UnpackRefIdeal.Facts] : Prop :=
  ∀ (m : (ℓ : Loc Cert.UnpackIdeal.nD Cert.UnpackIdeal.τ Cert.UnpackIdeal.sig) → Buf (Elt Ideal) ℓ) (g : Dev Cert.UnpackIdeal.nD → PrngReg)
    (m' : (ℓ : Loc Cert.UnpackRefIdeal.nD Cert.UnpackRefIdeal.τ Cert.UnpackRefIdeal.sig) → Buf (Elt Ideal) ℓ) (g' : Dev Cert.UnpackRefIdeal.nD → PrngReg), Pre_UnpackIdeal m →
    (∀ c : Dev Cert.UnpackIdeal.nD,
      m' ((c.tc : Thread Cert.UnpackRefIdeal.nD Cert.UnpackRefIdeal.τ).loc Cert.UnpackRefIdeal.main_arg0) = m ((c.tc : Thread Cert.UnpackIdeal.nD Cert.UnpackIdeal.τ).loc Cert.UnpackIdeal.main_arg0)
      ∧ m' ((c.tc : Thread Cert.UnpackRefIdeal.nD Cert.UnpackRefIdeal.τ).loc Cert.UnpackRefIdeal.main_arg1) = m ((c.tc : Thread Cert.UnpackIdeal.nD Cert.UnpackIdeal.τ).loc Cert.UnpackIdeal.main_arg1)
      ∧ m' ((c.tc : Thread Cert.UnpackRefIdeal.nD Cert.UnpackRefIdeal.τ).loc Cert.UnpackRefIdeal.main_arg2) = m ((c.tc : Thread Cert.UnpackIdeal.nD Cert.UnpackIdeal.τ).loc Cert.UnpackIdeal.main_arg2)
      ∧ m' ((c.tc : Thread Cert.UnpackRefIdeal.nD Cert.UnpackRefIdeal.τ).loc Cert.UnpackRefIdeal.main_arg3) = m ((c.tc : Thread Cert.UnpackIdeal.nD Cert.UnpackIdeal.τ).loc Cert.UnpackIdeal.main_arg3)
      ∧ m' ((c.tc : Thread Cert.UnpackRefIdeal.nD Cert.UnpackRefIdeal.τ).loc Cert.UnpackRefIdeal.main_arg4) = m ((c.tc : Thread Cert.UnpackIdeal.nD Cert.UnpackIdeal.τ).loc Cert.UnpackIdeal.main_arg4)) →
    ∃ (v0 : (c : Dev Cert.UnpackIdeal.nD) → Buf (Elt Ideal) ((c.tc : Thread Cert.UnpackIdeal.nD Cert.UnpackIdeal.τ).loc Cert.UnpackIdeal.main_v43_0)) (v1 : (c : Dev Cert.UnpackIdeal.nD) → Buf (Elt Ideal) ((c.tc : Thread Cert.UnpackIdeal.nD Cert.UnpackIdeal.τ).loc Cert.UnpackIdeal.main_v43_1)) (v2 : (c : Dev Cert.UnpackIdeal.nD) → Buf (Elt Ideal) ((c.tc : Thread Cert.UnpackIdeal.nD Cert.UnpackIdeal.τ).loc Cert.UnpackIdeal.main_v43_2)),
      θ_run (Cert.UnpackIdeal.defs (F := Ideal)) (onTc (τ := Cert.UnpackIdeal.τ) (Cert.UnpackIdeal.main (F := Ideal))) ⟨m, fun _ => 0, g⟩ (fun r => ∀ c : Dev Cert.UnpackIdeal.nD,
          r.2.mem ((c.tc : Thread Cert.UnpackIdeal.nD Cert.UnpackIdeal.τ).loc Cert.UnpackIdeal.main_v43_0) = v0 c
          ∧ r.2.mem ((c.tc : Thread Cert.UnpackIdeal.nD Cert.UnpackIdeal.τ).loc Cert.UnpackIdeal.main_v43_1) = v1 c
          ∧ r.2.mem ((c.tc : Thread Cert.UnpackIdeal.nD Cert.UnpackIdeal.τ).loc Cert.UnpackIdeal.main_v43_2) = v2 c
          ∧ r.2.mem ((c.tc : Thread Cert.UnpackIdeal.nD Cert.UnpackIdeal.τ).loc Cert.UnpackIdeal.main_arg0) = m ((c.tc : Thread Cert.UnpackIdeal.nD Cert.UnpackIdeal.τ).loc Cert.UnpackIdeal.main_arg0)
          ∧ r.2.mem ((c.tc : Thread Cert.UnpackIdeal.nD Cert.UnpackIdeal.τ).loc Cert.UnpackIdeal.main_arg1) = m ((c.tc : Thread Cert.UnpackIdeal.nD Cert.UnpackIdeal.τ).loc Cert.UnpackIdeal.main_arg1)
          ∧ r.2.mem ((c.tc : Thread Cert.UnpackIdeal.nD Cert.UnpackIdeal.τ).loc Cert.UnpackIdeal.main_arg2) = m ((c.tc : Thread Cert.UnpackIdeal.nD Cert.UnpackIdeal.τ).loc Cert.UnpackIdeal.main_arg2)
          ∧ r.2.mem ((c.tc : Thread Cert.UnpackIdeal.nD Cert.UnpackIdeal.τ).loc Cert.UnpackIdeal.main_arg3) = m ((c.tc : Thread Cert.UnpackIdeal.nD Cert.UnpackIdeal.τ).loc Cert.UnpackIdeal.main_arg3)
          ∧ r.2.mem ((c.tc : Thread Cert.UnpackIdeal.nD Cert.UnpackIdeal.τ).loc Cert.UnpackIdeal.main_arg4) = m ((c.tc : Thread Cert.UnpackIdeal.nD Cert.UnpackIdeal.τ).loc Cert.UnpackIdeal.main_arg4))
      ∧ θ_run (Cert.UnpackRefIdeal.defs (F := Ideal)) (onTc (τ := Cert.UnpackRefIdeal.τ) (Cert.UnpackRefIdeal.main (F := Ideal))) ⟨m', fun _ => 0, g'⟩ (fun r => ∀ c : Dev Cert.UnpackRefIdeal.nD,
          r.2.mem ((c.tc : Thread Cert.UnpackRefIdeal.nD Cert.UnpackRefIdeal.τ).loc Cert.UnpackRefIdeal.main_v98) = v0 c
          ∧ r.2.mem ((c.tc : Thread Cert.UnpackRefIdeal.nD Cert.UnpackRefIdeal.τ).loc Cert.UnpackRefIdeal.main_v101) = v1 c
          ∧ r.2.mem ((c.tc : Thread Cert.UnpackRefIdeal.nD Cert.UnpackRefIdeal.τ).loc Cert.UnpackRefIdeal.main_v103) = v2 c
          ∧ r.2.mem ((c.tc : Thread Cert.UnpackRefIdeal.nD Cert.UnpackRefIdeal.τ).loc Cert.UnpackRefIdeal.main_arg0) = m' ((c.tc : Thread Cert.UnpackRefIdeal.nD Cert.UnpackRefIdeal.τ).loc Cert.UnpackRefIdeal.main_arg0)
          ∧ r.2.mem ((c.tc : Thread Cert.UnpackRefIdeal.nD Cert.UnpackRefIdeal.τ).loc Cert.UnpackRefIdeal.main_arg1) = m' ((c.tc : Thread Cert.UnpackRefIdeal.nD Cert.UnpackRefIdeal.τ).loc Cert.UnpackRefIdeal.main_arg1)
          ∧ r.2.mem ((c.tc : Thread Cert.UnpackRefIdeal.nD Cert.UnpackRefIdeal.τ).loc Cert.UnpackRefIdeal.main_arg2) = m' ((c.tc : Thread Cert.UnpackRefIdeal.nD Cert.UnpackRefIdeal.τ).loc Cert.UnpackRefIdeal.main_arg2)
          ∧ r.2.mem ((c.tc : Thread Cert.UnpackRefIdeal.nD Cert.UnpackRefIdeal.τ).loc Cert.UnpackRefIdeal.main_arg3) = m' ((c.tc : Thread Cert.UnpackRefIdeal.nD Cert.UnpackRefIdeal.τ).loc Cert.UnpackRefIdeal.main_arg3)
          ∧ r.2.mem ((c.tc : Thread Cert.UnpackRefIdeal.nD Cert.UnpackRefIdeal.τ).loc Cert.UnpackRefIdeal.main_arg4) = m' ((c.tc : Thread Cert.UnpackRefIdeal.nD Cert.UnpackRefIdeal.τ).loc Cert.UnpackRefIdeal.main_arg4))

def preserves_Convxs_ConvxsIdeal : Prop :=
  True

def algebraic_ConvxsIdeal_ConvxsRefIdeal_pre_conv_xs_finite [hConvxsIdeal : Cert.ConvxsIdeal.Facts] [hConvxsRefIdeal : Cert.ConvxsRefIdeal.Facts] [hPre_conv_xs_finite : Cert.Pre_conv_xs_finite.Facts] : Prop :=
  ∀ (m : (ℓ : Loc Cert.ConvxsIdeal.nD Cert.ConvxsIdeal.τ Cert.ConvxsIdeal.sig) → Buf (Elt Ideal) ℓ) (g : Dev Cert.ConvxsIdeal.nD → PrngReg)
    (m' : (ℓ : Loc Cert.ConvxsRefIdeal.nD Cert.ConvxsRefIdeal.τ Cert.ConvxsRefIdeal.sig) → Buf (Elt Ideal) ℓ) (g' : Dev Cert.ConvxsRefIdeal.nD → PrngReg), Pre_ConvxsIdeal_conv_xs_finite m →
    (∀ c : Dev Cert.ConvxsIdeal.nD,
      m' ((c.tc : Thread Cert.ConvxsRefIdeal.nD Cert.ConvxsRefIdeal.τ).loc Cert.ConvxsRefIdeal.main_arg0) = m ((c.tc : Thread Cert.ConvxsIdeal.nD Cert.ConvxsIdeal.τ).loc Cert.ConvxsIdeal.main_arg0)
      ∧ m' ((c.tc : Thread Cert.ConvxsRefIdeal.nD Cert.ConvxsRefIdeal.τ).loc Cert.ConvxsRefIdeal.main_arg1) = m ((c.tc : Thread Cert.ConvxsIdeal.nD Cert.ConvxsIdeal.τ).loc Cert.ConvxsIdeal.main_arg1)
      ∧ m' ((c.tc : Thread Cert.ConvxsRefIdeal.nD Cert.ConvxsRefIdeal.τ).loc Cert.ConvxsRefIdeal.main_arg2) = m ((c.tc : Thread Cert.ConvxsIdeal.nD Cert.ConvxsIdeal.τ).loc Cert.ConvxsIdeal.main_arg2)
      ∧ m' ((c.tc : Thread Cert.ConvxsRefIdeal.nD Cert.ConvxsRefIdeal.τ).loc Cert.ConvxsRefIdeal.main_arg3) = m ((c.tc : Thread Cert.ConvxsIdeal.nD Cert.ConvxsIdeal.τ).loc Cert.ConvxsIdeal.main_arg3)) →
    ∃ (v0 : (c : Dev Cert.ConvxsIdeal.nD) → Buf (Elt Ideal) ((c.tc : Thread Cert.ConvxsIdeal.nD Cert.ConvxsIdeal.τ).loc Cert.ConvxsIdeal.main_v44_0)) (v1 : (c : Dev Cert.ConvxsIdeal.nD) → Buf (Elt Ideal) ((c.tc : Thread Cert.ConvxsIdeal.nD Cert.ConvxsIdeal.τ).loc Cert.ConvxsIdeal.main_v44_1)) (v2 : (c : Dev Cert.ConvxsIdeal.nD) → Buf (Elt Ideal) ((c.tc : Thread Cert.ConvxsIdeal.nD Cert.ConvxsIdeal.τ).loc Cert.ConvxsIdeal.main_v44_2)),
      θ_run (Cert.ConvxsIdeal.defs (F := Ideal)) (onTc (τ := Cert.ConvxsIdeal.τ) (Cert.ConvxsIdeal.main (F := Ideal))) ⟨m, fun _ => 0, g⟩ (fun r => ∀ c : Dev Cert.ConvxsIdeal.nD,
          r.2.mem ((c.tc : Thread Cert.ConvxsIdeal.nD Cert.ConvxsIdeal.τ).loc Cert.ConvxsIdeal.main_v44_0) = v0 c
          ∧ r.2.mem ((c.tc : Thread Cert.ConvxsIdeal.nD Cert.ConvxsIdeal.τ).loc Cert.ConvxsIdeal.main_v44_1) = v1 c
          ∧ r.2.mem ((c.tc : Thread Cert.ConvxsIdeal.nD Cert.ConvxsIdeal.τ).loc Cert.ConvxsIdeal.main_v44_2) = v2 c
          ∧ r.2.mem ((c.tc : Thread Cert.ConvxsIdeal.nD Cert.ConvxsIdeal.τ).loc Cert.ConvxsIdeal.main_arg0) = m ((c.tc : Thread Cert.ConvxsIdeal.nD Cert.ConvxsIdeal.τ).loc Cert.ConvxsIdeal.main_arg0)
          ∧ r.2.mem ((c.tc : Thread Cert.ConvxsIdeal.nD Cert.ConvxsIdeal.τ).loc Cert.ConvxsIdeal.main_arg1) = m ((c.tc : Thread Cert.ConvxsIdeal.nD Cert.ConvxsIdeal.τ).loc Cert.ConvxsIdeal.main_arg1)
          ∧ r.2.mem ((c.tc : Thread Cert.ConvxsIdeal.nD Cert.ConvxsIdeal.τ).loc Cert.ConvxsIdeal.main_arg2) = m ((c.tc : Thread Cert.ConvxsIdeal.nD Cert.ConvxsIdeal.τ).loc Cert.ConvxsIdeal.main_arg2)
          ∧ r.2.mem ((c.tc : Thread Cert.ConvxsIdeal.nD Cert.ConvxsIdeal.τ).loc Cert.ConvxsIdeal.main_arg3) = m ((c.tc : Thread Cert.ConvxsIdeal.nD Cert.ConvxsIdeal.τ).loc Cert.ConvxsIdeal.main_arg3))
      ∧ θ_run (Cert.ConvxsRefIdeal.defs (F := Ideal)) (onTc (τ := Cert.ConvxsRefIdeal.τ) (Cert.ConvxsRefIdeal.main (F := Ideal))) ⟨m', fun _ => 0, g'⟩ (fun r => ∀ c : Dev Cert.ConvxsRefIdeal.nD,
          r.2.mem ((c.tc : Thread Cert.ConvxsRefIdeal.nD Cert.ConvxsRefIdeal.τ).loc Cert.ConvxsRefIdeal.main_v87) = v0 c
          ∧ r.2.mem ((c.tc : Thread Cert.ConvxsRefIdeal.nD Cert.ConvxsRefIdeal.τ).loc Cert.ConvxsRefIdeal.main_v89) = v1 c
          ∧ r.2.mem ((c.tc : Thread Cert.ConvxsRefIdeal.nD Cert.ConvxsRefIdeal.τ).loc Cert.ConvxsRefIdeal.main_v41) = v2 c
          ∧ r.2.mem ((c.tc : Thread Cert.ConvxsRefIdeal.nD Cert.ConvxsRefIdeal.τ).loc Cert.ConvxsRefIdeal.main_arg0) = m' ((c.tc : Thread Cert.ConvxsRefIdeal.nD Cert.ConvxsRefIdeal.τ).loc Cert.ConvxsRefIdeal.main_arg0)
          ∧ r.2.mem ((c.tc : Thread Cert.ConvxsRefIdeal.nD Cert.ConvxsRefIdeal.τ).loc Cert.ConvxsRefIdeal.main_arg1) = m' ((c.tc : Thread Cert.ConvxsRefIdeal.nD Cert.ConvxsRefIdeal.τ).loc Cert.ConvxsRefIdeal.main_arg1)
          ∧ r.2.mem ((c.tc : Thread Cert.ConvxsRefIdeal.nD Cert.ConvxsRefIdeal.τ).loc Cert.ConvxsRefIdeal.main_arg2) = m' ((c.tc : Thread Cert.ConvxsRefIdeal.nD Cert.ConvxsRefIdeal.τ).loc Cert.ConvxsRefIdeal.main_arg2)
          ∧ r.2.mem ((c.tc : Thread Cert.ConvxsRefIdeal.nD Cert.ConvxsRefIdeal.τ).loc Cert.ConvxsRefIdeal.main_arg3) = m' ((c.tc : Thread Cert.ConvxsRefIdeal.nD Cert.ConvxsRefIdeal.τ).loc Cert.ConvxsRefIdeal.main_arg3))

def preserves_Act_ActIdeal : Prop :=
  True

def algebraic_ActIdeal_ActRefIdeal [hActIdeal : Cert.ActIdeal.Facts] [hActRefIdeal : Cert.ActRefIdeal.Facts] : Prop :=
  ∀ (m : (ℓ : Loc Cert.ActIdeal.nD Cert.ActIdeal.τ Cert.ActIdeal.sig) → Buf (Elt Ideal) ℓ) (g : Dev Cert.ActIdeal.nD → PrngReg)
    (m' : (ℓ : Loc Cert.ActRefIdeal.nD Cert.ActRefIdeal.τ Cert.ActRefIdeal.sig) → Buf (Elt Ideal) ℓ) (g' : Dev Cert.ActRefIdeal.nD → PrngReg), Pre_ActIdeal m →
    (∀ c : Dev Cert.ActIdeal.nD,
      m' ((c.tc : Thread Cert.ActRefIdeal.nD Cert.ActRefIdeal.τ).loc Cert.ActRefIdeal.main_arg0) = m ((c.tc : Thread Cert.ActIdeal.nD Cert.ActIdeal.τ).loc Cert.ActIdeal.main_arg0)
      ∧ m' ((c.tc : Thread Cert.ActRefIdeal.nD Cert.ActRefIdeal.τ).loc Cert.ActRefIdeal.main_arg1) = m ((c.tc : Thread Cert.ActIdeal.nD Cert.ActIdeal.τ).loc Cert.ActIdeal.main_arg1)
      ∧ m' ((c.tc : Thread Cert.ActRefIdeal.nD Cert.ActRefIdeal.τ).loc Cert.ActRefIdeal.main_arg2) = m ((c.tc : Thread Cert.ActIdeal.nD Cert.ActIdeal.τ).loc Cert.ActIdeal.main_arg2)
      ∧ m' ((c.tc : Thread Cert.ActRefIdeal.nD Cert.ActRefIdeal.τ).loc Cert.ActRefIdeal.main_arg3) = m ((c.tc : Thread Cert.ActIdeal.nD Cert.ActIdeal.τ).loc Cert.ActIdeal.main_arg3)) →
    ∃ (v0 : (c : Dev Cert.ActIdeal.nD) → Buf (Elt Ideal) ((c.tc : Thread Cert.ActIdeal.nD Cert.ActIdeal.τ).loc Cert.ActIdeal.main_v11)),
      θ_run (Cert.ActIdeal.defs (F := Ideal)) (onTc (τ := Cert.ActIdeal.τ) (Cert.ActIdeal.main (F := Ideal))) ⟨m, fun _ => 0, g⟩ (fun r => ∀ c : Dev Cert.ActIdeal.nD,
          r.2.mem ((c.tc : Thread Cert.ActIdeal.nD Cert.ActIdeal.τ).loc Cert.ActIdeal.main_v11) = v0 c
          ∧ r.2.mem ((c.tc : Thread Cert.ActIdeal.nD Cert.ActIdeal.τ).loc Cert.ActIdeal.main_arg0) = m ((c.tc : Thread Cert.ActIdeal.nD Cert.ActIdeal.τ).loc Cert.ActIdeal.main_arg0)
          ∧ r.2.mem ((c.tc : Thread Cert.ActIdeal.nD Cert.ActIdeal.τ).loc Cert.ActIdeal.main_arg1) = m ((c.tc : Thread Cert.ActIdeal.nD Cert.ActIdeal.τ).loc Cert.ActIdeal.main_arg1)
          ∧ r.2.mem ((c.tc : Thread Cert.ActIdeal.nD Cert.ActIdeal.τ).loc Cert.ActIdeal.main_arg2) = m ((c.tc : Thread Cert.ActIdeal.nD Cert.ActIdeal.τ).loc Cert.ActIdeal.main_arg2)
          ∧ r.2.mem ((c.tc : Thread Cert.ActIdeal.nD Cert.ActIdeal.τ).loc Cert.ActIdeal.main_arg3) = m ((c.tc : Thread Cert.ActIdeal.nD Cert.ActIdeal.τ).loc Cert.ActIdeal.main_arg3))
      ∧ θ_run (Cert.ActRefIdeal.defs (F := Ideal)) (onTc (τ := Cert.ActRefIdeal.τ) (Cert.ActRefIdeal.main (F := Ideal))) ⟨m', fun _ => 0, g'⟩ (fun r => ∀ c : Dev Cert.ActRefIdeal.nD,
          r.2.mem ((c.tc : Thread Cert.ActRefIdeal.nD Cert.ActRefIdeal.τ).loc Cert.ActRefIdeal.main_v15) = v0 c
          ∧ r.2.mem ((c.tc : Thread Cert.ActRefIdeal.nD Cert.ActRefIdeal.τ).loc Cert.ActRefIdeal.main_arg0) = m' ((c.tc : Thread Cert.ActRefIdeal.nD Cert.ActRefIdeal.τ).loc Cert.ActRefIdeal.main_arg0)
          ∧ r.2.mem ((c.tc : Thread Cert.ActRefIdeal.nD Cert.ActRefIdeal.τ).loc Cert.ActRefIdeal.main_arg1) = m' ((c.tc : Thread Cert.ActRefIdeal.nD Cert.ActRefIdeal.τ).loc Cert.ActRefIdeal.main_arg1)
          ∧ r.2.mem ((c.tc : Thread Cert.ActRefIdeal.nD Cert.ActRefIdeal.τ).loc Cert.ActRefIdeal.main_arg2) = m' ((c.tc : Thread Cert.ActRefIdeal.nD Cert.ActRefIdeal.τ).loc Cert.ActRefIdeal.main_arg2)
          ∧ r.2.mem ((c.tc : Thread Cert.ActRefIdeal.nD Cert.ActRefIdeal.τ).loc Cert.ActRefIdeal.main_arg3) = m' ((c.tc : Thread Cert.ActRefIdeal.nD Cert.ActRefIdeal.τ).loc Cert.ActRefIdeal.main_arg3))

def preserves_Gated_GatedIdeal : Prop :=
  True

def algebraic_GatedIdeal_GatedRefIdeal_pre_gated_norm_finite [hGatedIdeal : Cert.GatedIdeal.Facts] [hGatedRefIdeal : Cert.GatedRefIdeal.Facts] [hPre_gated_norm_finite : Cert.Pre_gated_norm_finite.Facts] : Prop :=
  ∀ (m : (ℓ : Loc Cert.GatedIdeal.nD Cert.GatedIdeal.τ Cert.GatedIdeal.sig) → Buf (Elt Ideal) ℓ) (g : Dev Cert.GatedIdeal.nD → PrngReg)
    (m' : (ℓ : Loc Cert.GatedRefIdeal.nD Cert.GatedRefIdeal.τ Cert.GatedRefIdeal.sig) → Buf (Elt Ideal) ℓ) (g' : Dev Cert.GatedRefIdeal.nD → PrngReg), Pre_GatedIdeal_gated_norm_finite m →
    (∀ c : Dev Cert.GatedIdeal.nD,
      m' ((c.tc : Thread Cert.GatedRefIdeal.nD Cert.GatedRefIdeal.τ).loc Cert.GatedRefIdeal.main_arg0) = m ((c.tc : Thread Cert.GatedIdeal.nD Cert.GatedIdeal.τ).loc Cert.GatedIdeal.main_arg0)
      ∧ m' ((c.tc : Thread Cert.GatedRefIdeal.nD Cert.GatedRefIdeal.τ).loc Cert.GatedRefIdeal.main_arg1) = m ((c.tc : Thread Cert.GatedIdeal.nD Cert.GatedIdeal.τ).loc Cert.GatedIdeal.main_arg1)
      ∧ m' ((c.tc : Thread Cert.GatedRefIdeal.nD Cert.GatedRefIdeal.τ).loc Cert.GatedRefIdeal.main_arg2) = m ((c.tc : Thread Cert.GatedIdeal.nD Cert.GatedIdeal.τ).loc Cert.GatedIdeal.main_arg2)
      ∧ m' ((c.tc : Thread Cert.GatedRefIdeal.nD Cert.GatedRefIdeal.τ).loc Cert.GatedRefIdeal.main_arg3) = m ((c.tc : Thread Cert.GatedIdeal.nD Cert.GatedIdeal.τ).loc Cert.GatedIdeal.main_arg3)) →
    ∃ (v0 : (c : Dev Cert.GatedIdeal.nD) → Buf (Elt Ideal) ((c.tc : Thread Cert.GatedIdeal.nD Cert.GatedIdeal.τ).loc Cert.GatedIdeal.main_v11_0)) (v1 : (c : Dev Cert.GatedIdeal.nD) → Buf (Elt Ideal) ((c.tc : Thread Cert.GatedIdeal.nD Cert.GatedIdeal.τ).loc Cert.GatedIdeal.main_v11_1)) (v2 : (c : Dev Cert.GatedIdeal.nD) → Buf (Elt Ideal) ((c.tc : Thread Cert.GatedIdeal.nD Cert.GatedIdeal.τ).loc Cert.GatedIdeal.main_v11_2)),
      θ_run (Cert.GatedIdeal.defs (F := Ideal)) (onTc (τ := Cert.GatedIdeal.τ) (Cert.GatedIdeal.main (F := Ideal))) ⟨m, fun _ => 0, g⟩ (fun r => ∀ c : Dev Cert.GatedIdeal.nD,
          r.2.mem ((c.tc : Thread Cert.GatedIdeal.nD Cert.GatedIdeal.τ).loc Cert.GatedIdeal.main_v11_0) = v0 c
          ∧ r.2.mem ((c.tc : Thread Cert.GatedIdeal.nD Cert.GatedIdeal.τ).loc Cert.GatedIdeal.main_v11_1) = v1 c
          ∧ r.2.mem ((c.tc : Thread Cert.GatedIdeal.nD Cert.GatedIdeal.τ).loc Cert.GatedIdeal.main_v11_2) = v2 c
          ∧ r.2.mem ((c.tc : Thread Cert.GatedIdeal.nD Cert.GatedIdeal.τ).loc Cert.GatedIdeal.main_arg0) = m ((c.tc : Thread Cert.GatedIdeal.nD Cert.GatedIdeal.τ).loc Cert.GatedIdeal.main_arg0)
          ∧ r.2.mem ((c.tc : Thread Cert.GatedIdeal.nD Cert.GatedIdeal.τ).loc Cert.GatedIdeal.main_arg1) = m ((c.tc : Thread Cert.GatedIdeal.nD Cert.GatedIdeal.τ).loc Cert.GatedIdeal.main_arg1)
          ∧ r.2.mem ((c.tc : Thread Cert.GatedIdeal.nD Cert.GatedIdeal.τ).loc Cert.GatedIdeal.main_arg2) = m ((c.tc : Thread Cert.GatedIdeal.nD Cert.GatedIdeal.τ).loc Cert.GatedIdeal.main_arg2)
          ∧ r.2.mem ((c.tc : Thread Cert.GatedIdeal.nD Cert.GatedIdeal.τ).loc Cert.GatedIdeal.main_arg3) = m ((c.tc : Thread Cert.GatedIdeal.nD Cert.GatedIdeal.τ).loc Cert.GatedIdeal.main_arg3))
      ∧ θ_run (Cert.GatedRefIdeal.defs (F := Ideal)) (onTc (τ := Cert.GatedRefIdeal.τ) (Cert.GatedRefIdeal.main (F := Ideal))) ⟨m', fun _ => 0, g'⟩ (fun r => ∀ c : Dev Cert.GatedRefIdeal.nD,
          r.2.mem ((c.tc : Thread Cert.GatedRefIdeal.nD Cert.GatedRefIdeal.τ).loc Cert.GatedRefIdeal.main_v48) = v0 c
          ∧ r.2.mem ((c.tc : Thread Cert.GatedRefIdeal.nD Cert.GatedRefIdeal.τ).loc Cert.GatedRefIdeal.main_v50) = v1 c
          ∧ r.2.mem ((c.tc : Thread Cert.GatedRefIdeal.nD Cert.GatedRefIdeal.τ).loc Cert.GatedRefIdeal.main_v29) = v2 c
          ∧ r.2.mem ((c.tc : Thread Cert.GatedRefIdeal.nD Cert.GatedRefIdeal.τ).loc Cert.GatedRefIdeal.main_arg0) = m' ((c.tc : Thread Cert.GatedRefIdeal.nD Cert.GatedRefIdeal.τ).loc Cert.GatedRefIdeal.main_arg0)
          ∧ r.2.mem ((c.tc : Thread Cert.GatedRefIdeal.nD Cert.GatedRefIdeal.τ).loc Cert.GatedRefIdeal.main_arg1) = m' ((c.tc : Thread Cert.GatedRefIdeal.nD Cert.GatedRefIdeal.τ).loc Cert.GatedRefIdeal.main_arg1)
          ∧ r.2.mem ((c.tc : Thread Cert.GatedRefIdeal.nD Cert.GatedRefIdeal.τ).loc Cert.GatedRefIdeal.main_arg2) = m' ((c.tc : Thread Cert.GatedRefIdeal.nD Cert.GatedRefIdeal.τ).loc Cert.GatedRefIdeal.main_arg2)
          ∧ r.2.mem ((c.tc : Thread Cert.GatedRefIdeal.nD Cert.GatedRefIdeal.τ).loc Cert.GatedRefIdeal.main_arg3) = m' ((c.tc : Thread Cert.GatedRefIdeal.nD Cert.GatedRefIdeal.τ).loc Cert.GatedRefIdeal.main_arg3))

def preserves_Ssd_SsdIdeal : Prop :=
  True

def Claim : Prop :=
  ∃ (hInputNorm : Cert.InputNorm.Facts) (hInputNormIdeal : Cert.InputNormIdeal.Facts) (hInputNormRefIdeal : Cert.InputNormRefIdeal.Facts) (hAttn : Cert.Attn.Facts) (hAttnIdeal : Cert.AttnIdeal.Facts) (hAttnRefIdeal : Cert.AttnRefIdeal.Facts) (hLoss : Cert.Loss.Facts) (hLossIdeal : Cert.LossIdeal.Facts) (hLossRefIdeal : Cert.LossRefIdeal.Facts) (hMlpResidual : Cert.MlpResidual.Facts) (hMlpResidualIdeal : Cert.MlpResidualIdeal.Facts) (hMlpResidualRefIdeal : Cert.MlpResidualRefIdeal.Facts) (hProj : Cert.Proj.Facts) (hProjIdeal : Cert.ProjIdeal.Facts) (hProjRefIdeal : Cert.ProjRefIdeal.Facts) (hDelta : Cert.Delta.Facts) (hDeltaIdeal : Cert.DeltaIdeal.Facts) (hDeltaRefIdeal : Cert.DeltaRefIdeal.Facts) (hUnpack : Cert.Unpack.Facts) (hUnpackIdeal : Cert.UnpackIdeal.Facts) (hUnpackRefIdeal : Cert.UnpackRefIdeal.Facts) (hConvxs : Cert.Convxs.Facts) (hConvxsIdeal : Cert.ConvxsIdeal.Facts) (hConvxsRefIdeal : Cert.ConvxsRefIdeal.Facts) (hAct : Cert.Act.Facts) (hActIdeal : Cert.ActIdeal.Facts) (hActRefIdeal : Cert.ActRefIdeal.Facts) (hGated : Cert.Gated.Facts) (hGatedIdeal : Cert.GatedIdeal.Facts) (hGatedRefIdeal : Cert.GatedRefIdeal.Facts) (hSsd : Cert.Ssd.Facts) (hSsdIdeal : Cert.SsdIdeal.Facts) (hPre_input_norm_finite : Cert.Pre_input_norm_finite.Facts) (hPre_attention_finite : Cert.Pre_attention_finite.Facts) (hPre_loss_finite : Cert.Pre_loss_finite.Facts) (hPre_mlp_residual_finite : Cert.Pre_mlp_residual_finite.Facts) (hPre_proj_grad_finite : Cert.Pre_proj_grad_finite.Facts) (hPre_delta_finite : Cert.Pre_delta_finite.Facts) (hPre_conv_xs_finite : Cert.Pre_conv_xs_finite.Facts) (hPre_gated_norm_finite : Cert.Pre_gated_norm_finite.Facts),
    quiescent_InputNorm (hInputNorm := hInputNorm)
    ∧ quiescent_InputNormIdeal (hInputNormIdeal := hInputNormIdeal)
    ∧ quiescent_InputNormIdeal_pre_input_norm_finite (hInputNormIdeal := hInputNormIdeal) (hPre_input_norm_finite := hPre_input_norm_finite)
    ∧ quiescent_InputNormRefIdeal (hInputNormRefIdeal := hInputNormRefIdeal)
    ∧ quiescent_InputNormRefIdeal_pre_input_norm_finite (hInputNormRefIdeal := hInputNormRefIdeal) (hPre_input_norm_finite := hPre_input_norm_finite)
    ∧ quiescent_Attn (hAttn := hAttn)
    ∧ quiescent_AttnIdeal (hAttnIdeal := hAttnIdeal)
    ∧ quiescent_AttnIdeal_pre_attention_finite (hAttnIdeal := hAttnIdeal) (hPre_attention_finite := hPre_attention_finite)
    ∧ quiescent_AttnRefIdeal (hAttnRefIdeal := hAttnRefIdeal)
    ∧ quiescent_AttnRefIdeal_pre_attention_finite (hAttnRefIdeal := hAttnRefIdeal) (hPre_attention_finite := hPre_attention_finite)
    ∧ quiescent_Loss (hLoss := hLoss)
    ∧ quiescent_LossIdeal (hLossIdeal := hLossIdeal)
    ∧ quiescent_LossIdeal_pre_loss_finite (hLossIdeal := hLossIdeal) (hPre_loss_finite := hPre_loss_finite)
    ∧ quiescent_LossRefIdeal (hLossRefIdeal := hLossRefIdeal)
    ∧ quiescent_LossRefIdeal_pre_loss_finite (hLossRefIdeal := hLossRefIdeal) (hPre_loss_finite := hPre_loss_finite)
    ∧ quiescent_MlpResidual (hMlpResidual := hMlpResidual)
    ∧ quiescent_MlpResidualIdeal (hMlpResidualIdeal := hMlpResidualIdeal)
    ∧ quiescent_MlpResidualIdeal_pre_mlp_residual_finite (hMlpResidualIdeal := hMlpResidualIdeal) (hPre_mlp_residual_finite := hPre_mlp_residual_finite)
    ∧ quiescent_MlpResidualRefIdeal (hMlpResidualRefIdeal := hMlpResidualRefIdeal)
    ∧ quiescent_MlpResidualRefIdeal_pre_mlp_residual_finite (hMlpResidualRefIdeal := hMlpResidualRefIdeal) (hPre_mlp_residual_finite := hPre_mlp_residual_finite)
    ∧ quiescent_Proj (hProj := hProj)
    ∧ quiescent_ProjIdeal (hProjIdeal := hProjIdeal)
    ∧ quiescent_ProjIdeal_pre_proj_grad_finite (hProjIdeal := hProjIdeal) (hPre_proj_grad_finite := hPre_proj_grad_finite)
    ∧ quiescent_ProjRefIdeal (hProjRefIdeal := hProjRefIdeal)
    ∧ quiescent_ProjRefIdeal_pre_proj_grad_finite (hProjRefIdeal := hProjRefIdeal) (hPre_proj_grad_finite := hPre_proj_grad_finite)
    ∧ quiescent_Delta (hDelta := hDelta)
    ∧ quiescent_DeltaIdeal (hDeltaIdeal := hDeltaIdeal)
    ∧ quiescent_DeltaIdeal_pre_delta_finite (hDeltaIdeal := hDeltaIdeal) (hPre_delta_finite := hPre_delta_finite)
    ∧ quiescent_DeltaRefIdeal (hDeltaRefIdeal := hDeltaRefIdeal)
    ∧ quiescent_DeltaRefIdeal_pre_delta_finite (hDeltaRefIdeal := hDeltaRefIdeal) (hPre_delta_finite := hPre_delta_finite)
    ∧ quiescent_Unpack (hUnpack := hUnpack)
    ∧ quiescent_UnpackIdeal (hUnpackIdeal := hUnpackIdeal)
    ∧ quiescent_UnpackRefIdeal (hUnpackRefIdeal := hUnpackRefIdeal)
    ∧ quiescent_Convxs (hConvxs := hConvxs)
    ∧ quiescent_ConvxsIdeal (hConvxsIdeal := hConvxsIdeal)
    ∧ quiescent_ConvxsIdeal_pre_conv_xs_finite (hConvxsIdeal := hConvxsIdeal) (hPre_conv_xs_finite := hPre_conv_xs_finite)
    ∧ quiescent_ConvxsRefIdeal (hConvxsRefIdeal := hConvxsRefIdeal)
    ∧ quiescent_ConvxsRefIdeal_pre_conv_xs_finite (hConvxsRefIdeal := hConvxsRefIdeal) (hPre_conv_xs_finite := hPre_conv_xs_finite)
    ∧ quiescent_Act (hAct := hAct)
    ∧ quiescent_ActIdeal (hActIdeal := hActIdeal)
    ∧ quiescent_ActRefIdeal (hActRefIdeal := hActRefIdeal)
    ∧ quiescent_Gated (hGated := hGated)
    ∧ quiescent_GatedIdeal (hGatedIdeal := hGatedIdeal)
    ∧ quiescent_GatedIdeal_pre_gated_norm_finite (hGatedIdeal := hGatedIdeal) (hPre_gated_norm_finite := hPre_gated_norm_finite)
    ∧ quiescent_GatedRefIdeal (hGatedRefIdeal := hGatedRefIdeal)
    ∧ quiescent_GatedRefIdeal_pre_gated_norm_finite (hGatedRefIdeal := hGatedRefIdeal) (hPre_gated_norm_finite := hPre_gated_norm_finite)
    ∧ quiescent_Ssd (hSsd := hSsd)
    ∧ quiescent_SsdIdeal (hSsdIdeal := hSsdIdeal)
    ∧ preserves_InputNorm_InputNormIdeal
    ∧ algebraic_InputNormIdeal_InputNormRefIdeal_pre_input_norm_finite (hInputNormIdeal := hInputNormIdeal) (hInputNormRefIdeal := hInputNormRefIdeal) (hPre_input_norm_finite := hPre_input_norm_finite)
    ∧ preserves_Attn_AttnIdeal
    ∧ algebraic_AttnIdeal_AttnRefIdeal_pre_attention_finite (hAttnIdeal := hAttnIdeal) (hAttnRefIdeal := hAttnRefIdeal) (hPre_attention_finite := hPre_attention_finite)
    ∧ preserves_Loss_LossIdeal
    ∧ algebraic_LossIdeal_LossRefIdeal_pre_loss_finite (hLossIdeal := hLossIdeal) (hLossRefIdeal := hLossRefIdeal) (hPre_loss_finite := hPre_loss_finite)
    ∧ preserves_MlpResidual_MlpResidualIdeal
    ∧ algebraic_MlpResidualIdeal_MlpResidualRefIdeal_pre_mlp_residual_finite (hMlpResidualIdeal := hMlpResidualIdeal) (hMlpResidualRefIdeal := hMlpResidualRefIdeal) (hPre_mlp_residual_finite := hPre_mlp_residual_finite)
    ∧ preserves_Proj_ProjIdeal
    ∧ algebraic_ProjIdeal_ProjRefIdeal_pre_proj_grad_finite (hProjIdeal := hProjIdeal) (hProjRefIdeal := hProjRefIdeal) (hPre_proj_grad_finite := hPre_proj_grad_finite)
    ∧ preserves_Delta_DeltaIdeal
    ∧ algebraic_DeltaIdeal_DeltaRefIdeal_pre_delta_finite (hDeltaIdeal := hDeltaIdeal) (hDeltaRefIdeal := hDeltaRefIdeal) (hPre_delta_finite := hPre_delta_finite)
    ∧ preserves_Unpack_UnpackIdeal
    ∧ algebraic_UnpackIdeal_UnpackRefIdeal (hUnpackIdeal := hUnpackIdeal) (hUnpackRefIdeal := hUnpackRefIdeal)
    ∧ preserves_Convxs_ConvxsIdeal
    ∧ algebraic_ConvxsIdeal_ConvxsRefIdeal_pre_conv_xs_finite (hConvxsIdeal := hConvxsIdeal) (hConvxsRefIdeal := hConvxsRefIdeal) (hPre_conv_xs_finite := hPre_conv_xs_finite)
    ∧ preserves_Act_ActIdeal
    ∧ algebraic_ActIdeal_ActRefIdeal (hActIdeal := hActIdeal) (hActRefIdeal := hActRefIdeal)
    ∧ preserves_Gated_GatedIdeal
    ∧ algebraic_GatedIdeal_GatedRefIdeal_pre_gated_norm_finite (hGatedIdeal := hGatedIdeal) (hGatedRefIdeal := hGatedRefIdeal) (hPre_gated_norm_finite := hPre_gated_norm_finite)
    ∧ preserves_Ssd_SsdIdeal
-- ==== Pre_attention_finite.lean ====
abbrev S8x16400x256 : Shape := ⟨3, ![8, 16400, 256]⟩
abbrev S8x16400x128 : Shape := ⟨3, ![8, 16400, 128]⟩
abbrev S16400x1024 : Shape := ⟨2, ![16400, 1024]⟩
abbrev S_ : Shape := ⟨0, ![]⟩

class Facts : Prop where
  bcast_S_S8x16400x256 : S_.BroadcastsInDim S8x16400x256 (![] : Fin 0 → Fin S8x16400x256.rank)
  bcast_S_S8x16400x128 : S_.BroadcastsInDim S8x16400x128 (![] : Fin 0 → Fin S8x16400x128.rank)
  bcast_S_S16400x1024 : S_.BroadcastsInDim S16400x1024 (![] : Fin 0 → Fin S16400x1024.rank)

variable [Facts]

def fn {F : FTy → Type} [FloatOps F] (main_arg0 : FVec F S8x16400x256 .f32) (main_arg1 : FVec F S8x16400x256 .f32) (main_arg2 : FVec F S8x16400x128 .f32) (main_arg3 : FVec F S16400x1024 .f32) : IVec S8x16400x256 1 × IVec S8x16400x256 1 × IVec S8x16400x128 1 × IVec S16400x1024 1 :=
  let main_v0 : FVec F S8x16400x256 .f32 := Host.absf main_arg0
  let main_cst : FVec F S_ .f32 := constant S_ .f32 0x7F800000#32
  let main_v1 : FVec F S8x16400x256 .f32 := broadcastInDim S8x16400x256 ![] bcast_S_S8x16400x256 main_cst
  let main_v2 : IVec S8x16400x256 1 := cmpf .olt main_v0 main_v1
  let main_v3 : FVec F S8x16400x256 .f32 := Host.absf main_arg1
  let main_cst_0 : FVec F S_ .f32 := constant S_ .f32 0x7F800000#32
  let main_v4 : FVec F S8x16400x256 .f32 := broadcastInDim S8x16400x256 ![] bcast_S_S8x16400x256 main_cst_0
  let main_v5 : IVec S8x16400x256 1 := cmpf .olt main_v3 main_v4
  let main_v6 : FVec F S8x16400x128 .f32 := Host.absf main_arg2
  let main_cst_1 : FVec F S_ .f32 := constant S_ .f32 0x7F800000#32
  let main_v7 : FVec F S8x16400x128 .f32 := broadcastInDim S8x16400x128 ![] bcast_S_S8x16400x128 main_cst_1
  let main_v8 : IVec S8x16400x128 1 := cmpf .olt main_v6 main_v7
  let main_v9 : FVec F S16400x1024 .f32 := Host.absf main_arg3
  let main_cst_2 : FVec F S_ .f32 := constant S_ .f32 0x7F800000#32
  let main_v10 : FVec F S16400x1024 .f32 := broadcastInDim S16400x1024 ![] bcast_S_S16400x1024 main_cst_2
  let main_v11 : IVec S16400x1024 1 := cmpf .olt main_v9 main_v10
  (main_v2, main_v5, main_v8, main_v11)
-- ==== Pre_conv_xs_finite.lean ====
abbrev S16400x1024 : Shape := ⟨2, ![16400, 1024]⟩
abbrev S4x1024 : Shape := ⟨2, ![4, 1024]⟩
abbrev S1x1024 : Shape := ⟨2, ![1, 1024]⟩
abbrev S_ : Shape := ⟨0, ![]⟩

class Facts : Prop where
  bcast_S_S16400x1024 : S_.BroadcastsInDim S16400x1024 (![] : Fin 0 → Fin S16400x1024.rank)
  bcast_S_S4x1024 : S_.BroadcastsInDim S4x1024 (![] : Fin 0 → Fin S4x1024.rank)
  bcast_S_S1x1024 : S_.BroadcastsInDim S1x1024 (![] : Fin 0 → Fin S1x1024.rank)

variable [Facts]

def fn {F : FTy → Type} [FloatOps F] (main_arg0 : FVec F S16400x1024 .f32) (main_arg1 : FVec F S4x1024 .f32) (main_arg2 : FVec F S1x1024 .f32) (main_arg3 : FVec F S16400x1024 .f32) : IVec S16400x1024 1 × IVec S4x1024 1 × IVec S1x1024 1 × IVec S16400x1024 1 :=
  let main_v0 : FVec F S16400x1024 .f32 := Host.absf main_arg0
  let main_cst : FVec F S_ .f32 := constant S_ .f32 0x7F800000#32
  let main_v1 : FVec F S16400x1024 .f32 := broadcastInDim S16400x1024 ![] bcast_S_S16400x1024 main_cst
  let main_v2 : IVec S16400x1024 1 := cmpf .olt main_v0 main_v1
  let main_v3 : FVec F S4x1024 .f32 := Host.absf main_arg1
  let main_cst_0 : FVec F S_ .f32 := constant S_ .f32 0x7F800000#32
  let main_v4 : FVec F S4x1024 .f32 := broadcastInDim S4x1024 ![] bcast_S_S4x1024 main_cst_0
  let main_v5 : IVec S4x1024 1 := cmpf .olt main_v3 main_v4
  let main_v6 : FVec F S1x1024 .f32 := Host.absf main_arg2
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S16400x1024 .f32 := Host.absf main_arg3
  let main_cst_2 : FVec F S_ .f32 := constant S_ .f32 0x7F800000#32
  let main_v10 : FVec F S16400x1024 .f32 := broadcastInDim S16400x1024 ![] bcast_S_S16400x1024 main_cst_2
  let main_v11 : IVec S16400x1024 1 := cmpf .olt main_v9 main_v10
  (main_v2, main_v5, main_v8, main_v11)
-- ==== Pre_delta_finite.lean ====
abbrev S8x16400x256 : Shape := ⟨3, ![8, 16400, 256]⟩
abbrev S8x16400x128 : Shape := ⟨3, ![8, 16400, 128]⟩
abbrev S16400x1024 : Shape := ⟨2, ![16400, 1024]⟩
abbrev S_ : Shape := ⟨0, ![]⟩

class Facts : Prop where
  bcast_S_S8x16400x256 : S_.BroadcastsInDim S8x16400x256 (![] : Fin 0 → Fin S8x16400x256.rank)
  bcast_S_S8x16400x128 : S_.BroadcastsInDim S8x16400x128 (![] : Fin 0 → Fin S8x16400x128.rank)
  bcast_S_S16400x1024 : S_.BroadcastsInDim S16400x1024 (![] : Fin 0 → Fin S16400x1024.rank)

variable [Facts]

def fn {F : FTy → Type} [FloatOps F] (main_arg0 : FVec F S8x16400x256 .f32) (main_arg1 : FVec F S8x16400x256 .f32) (main_arg2 : FVec F S8x16400x128 .f32) (main_arg3 : FVec F S16400x1024 .f32) : IVec S8x16400x256 1 × IVec S8x16400x256 1 × IVec S8x16400x128 1 × IVec S16400x1024 1 :=
  let main_v0 : FVec F S8x16400x256 .f32 := Host.absf main_arg0
  let main_cst : FVec F S_ .f32 := constant S_ .f32 0x7F800000#32
  let main_v1 : FVec F S8x16400x256 .f32 := broadcastInDim S8x16400x256 ![] bcast_S_S8x16400x256 main_cst
  let main_v2 : IVec S8x16400x256 1 := cmpf .olt main_v0 main_v1
  let main_v3 : FVec F S8x16400x256 .f32 := Host.absf main_arg1
  let main_cst_0 : FVec F S_ .f32 := constant S_ .f32 0x7F800000#32
  let main_v4 : FVec F S8x16400x256 .f32 := broadcastInDim S8x16400x256 ![] bcast_S_S8x16400x256 main_cst_0
  let main_v5 : IVec S8x16400x256 1 := cmpf .olt main_v3 main_v4
  let main_v6 : FVec F S8x16400x128 .f32 := Host.absf main_arg2
  let main_cst_1 : FVec F S_ .f32 := constant S_ .f32 0x7F800000#32
  let main_v7 : FVec F S8x16400x128 .f32 := broadcastInDim S8x16400x128 ![] bcast_S_S8x16400x128 main_cst_1
  let main_v8 : IVec S8x16400x128 1 := cmpf .olt main_v6 main_v7
  let main_v9 : FVec F S16400x1024 .f32 := Host.absf main_arg3
  let main_cst_2 : FVec F S_ .f32 := constant S_ .f32 0x7F800000#32
  let main_v10 : FVec F S16400x1024 .f32 := broadcastInDim S16400x1024 ![] bcast_S_S16400x1024 main_cst_2
  let main_v11 : IVec S16400x1024 1 := cmpf .olt main_v9 main_v10
  (main_v2, main_v5, main_v8, main_v11)
-- ==== Pre_gated_norm_finite.lean ====
abbrev S16400x1024 : Shape := ⟨2, ![16400, 1024]⟩
abbrev S1x1024 : Shape := ⟨2, ![1, 1024]⟩
abbrev S_ : Shape := ⟨0, ![]⟩

class Facts : Prop where
  bcast_S_S16400x1024 : S_.BroadcastsInDim S16400x1024 (![] : Fin 0 → Fin S16400x1024.rank)
  bcast_S_S1x1024 : S_.BroadcastsInDim S1x1024 (![] : Fin 0 → Fin S1x1024.rank)

variable [Facts]

def fn {F : FTy → Type} [FloatOps F] (main_arg0 : FVec F S16400x1024 .f32) (main_arg1 : FVec F S16400x1024 .f32) (main_arg2 : FVec F S1x1024 .f32) (main_arg3 : FVec F S16400x1024 .f32) : IVec S16400x1024 1 × IVec S16400x1024 1 × IVec S1x1024 1 × IVec S16400x1024 1 :=
  let main_v0 : FVec F S16400x1024 .f32 := Host.absf main_arg0
  let main_cst : FVec F S_ .f32 := constant S_ .f32 0x7F800000#32
  let main_v1 : FVec F S16400x1024 .f32 := broadcastInDim S16400x1024 ![] bcast_S_S16400x1024 main_cst
  let main_v2 : IVec S16400x1024 1 := cmpf .olt main_v0 main_v1
  let main_v3 : FVec F S16400x1024 .f32 := Host.absf main_arg1
  let main_cst_0 : FVec F S_ .f32 := constant S_ .f32 0x7F800000#32
  let main_v4 : FVec F S16400x1024 .f32 := broadcastInDim S16400x1024 ![] bcast_S_S16400x1024 main_cst_0
  let main_v5 : IVec S16400x1024 1 := cmpf .olt main_v3 main_v4
  let main_v6 : FVec F S1x1024 .f32 := Host.absf main_arg2
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S16400x1024 .f32 := Host.absf main_arg3
  let main_cst_2 : FVec F S_ .f32 := constant S_ .f32 0x7F800000#32
  let main_v10 : FVec F S16400x1024 .f32 := broadcastInDim S16400x1024 ![] bcast_S_S16400x1024 main_cst_2
  let main_v11 : IVec S16400x1024 1 := cmpf .olt main_v9 main_v10
  (main_v2, main_v5, main_v8, main_v11)
-- ==== Pre_input_norm_finite.lean ====
abbrev S16384x1024 : Shape := ⟨2, ![16384, 1024]⟩
abbrev S16x1024 : Shape := ⟨2, ![16, 1024]⟩
abbrev S1x1024 : Shape := ⟨2, ![1, 1024]⟩
abbrev S16400x1024 : Shape := ⟨2, ![16400, 1024]⟩
abbrev S_ : Shape := ⟨0, ![]⟩

class Facts : Prop where
  bcast_S_S16384x1024 : S_.BroadcastsInDim S16384x1024 (![] : Fin 0 → Fin S16384x1024.rank)
  bcast_S_S16x1024 : S_.BroadcastsInDim S16x1024 (![] : Fin 0 → Fin S16x1024.rank)
  bcast_S_S1x1024 : S_.BroadcastsInDim S1x1024 (![] : Fin 0 → Fin S1x1024.rank)
  bcast_S_S16400x1024 : S_.BroadcastsInDim S16400x1024 (![] : Fin 0 → Fin S16400x1024.rank)

variable [Facts]

def fn {F : FTy → Type} [FloatOps F] (main_arg0 : FVec F S16384x1024 .f32) (main_arg1 : FVec F S16x1024 .f32) (main_arg2 : FVec F S1x1024 .f32) (main_arg3 : FVec F S16400x1024 .f32) (main_arg4 : FVec F S16400x1024 .f32) : IVec S16384x1024 1 × IVec S16x1024 1 × IVec S1x1024 1 × IVec S16400x1024 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_v3 : FVec F S16x1024 .f32 := Host.absf main_arg1
  let main_cst_0 : FVec F S_ .f32 := constant S_ .f32 0x7F800000#32
  let main_v4 : FVec F S16x1024 .f32 := broadcastInDim S16x1024 ![] bcast_S_S16x1024 main_cst_0
  let main_v5 : IVec S16x1024 1 := cmpf .olt main_v3 main_v4
  let main_v6 : FVec F S1x1024 .f32 := Host.absf main_arg2
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S16400x1024 .f32 := Host.absf main_arg4
  let main_cst_2 : FVec F S_ .f32 := constant S_ .f32 0x7F800000#32
  let main_v10 : FVec F S16400x1024 .f32 := broadcastInDim S16400x1024 ![] bcast_S_S16400x1024 main_cst_2
  let main_v11 : IVec S16400x1024 1 := cmpf .olt main_v9 main_v10
  (main_v2, main_v5, main_v8, main_v11)
-- ==== Pre_loss_finite.lean ====
abbrev S16400x1024 : Shape := ⟨2, ![16400, 1024]⟩
abbrev S1x1024 : Shape := ⟨2, ![1, 1024]⟩
abbrev S16384x1024 : Shape := ⟨2, ![16384, 1024]⟩
abbrev S_ : Shape := ⟨0, ![]⟩

class Facts : Prop where
  bcast_S_S16400x1024 : S_.BroadcastsInDim S16400x1024 (![] : Fin 0 → Fin S16400x1024.rank)
  bcast_S_S1x1024 : S_.BroadcastsInDim S1x1024 (![] : Fin 0 → Fin S1x1024.rank)
  bcast_S_S16384x1024 : S_.BroadcastsInDim S16384x1024 (![] : Fin 0 → Fin S16384x1024.rank)

variable [Facts]

def fn {F : FTy → Type} [FloatOps F] (main_arg0 : FVec F S16400x1024 .f32) (main_arg1 : FVec F S16400x1024 .f32) (main_arg2 : FVec F S1x1024 .f32) (main_arg3 : FVec F S16384x1024 .f32) : IVec S16400x1024 1 × IVec S16400x1024 1 × IVec S1x1024 1 × IVec S16384x1024 1 :=
  let main_v0 : FVec F S16400x1024 .f32 := Host.absf main_arg0
  let main_cst : FVec F S_ .f32 := constant S_ .f32 0x7F800000#32
  let main_v1 : FVec F S16400x1024 .f32 := broadcastInDim S16400x1024 ![] bcast_S_S16400x1024 main_cst
  let main_v2 : IVec S16400x1024 1 := cmpf .olt main_v0 main_v1
  let main_v3 : FVec F S16400x1024 .f32 := Host.absf main_arg1
  let main_cst_0 : FVec F S_ .f32 := constant S_ .f32 0x7F800000#32
  let main_v4 : FVec F S16400x1024 .f32 := broadcastInDim S16400x1024 ![] bcast_S_S16400x1024 main_cst_0
  let main_v5 : IVec S16400x1024 1 := cmpf .olt main_v3 main_v4
  let main_v6 : FVec F S1x1024 .f32 := Host.absf main_arg2
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S16384x1024 .f32 := Host.absf main_arg3
  let main_cst_2 : FVec F S_ .f32 := constant S_ .f32 0x7F800000#32
  let main_v10 : FVec F S16384x1024 .f32 := broadcastInDim S16384x1024 ![] bcast_S_S16384x1024 main_cst_2
  let main_v11 : IVec S16384x1024 1 := cmpf .olt main_v9 main_v10
  (main_v2, main_v5, main_v8, main_v11)
-- ==== Pre_mlp_residual_finite.lean ====
abbrev S16400x1024 : Shape := ⟨2, ![16400, 1024]⟩
abbrev S1x1024 : Shape := ⟨2, ![1, 1024]⟩
abbrev S_ : Shape := ⟨0, ![]⟩

class Facts : Prop where
  bcast_S_S16400x1024 : S_.BroadcastsInDim S16400x1024 (![] : Fin 0 → Fin S16400x1024.rank)
  bcast_S_S1x1024 : S_.BroadcastsInDim S1x1024 (![] : Fin 0 → Fin S1x1024.rank)

variable [Facts]

def fn {F : FTy → Type} [FloatOps F] (main_arg0 : FVec F S16400x1024 .f32) (main_arg1 : FVec F S16400x1024 .f32) (main_arg2 : FVec F S1x1024 .f32) (main_arg3 : FVec F S1x1024 .f32) (main_arg4 : FVec F S16400x1024 .f32) (main_arg5 : FVec F S16400x1024 .f32) : IVec S16400x1024 1 × IVec S16400x1024 1 × IVec S1x1024 1 × IVec S1x1024 1 × IVec S16400x1024 1 × IVec S16400x1024 1 :=
  let main_v0 : FVec F S16400x1024 .f32 := Host.absf main_arg0
  let main_cst : FVec F S_ .f32 := constant S_ .f32 0x7F800000#32
  let main_v1 : FVec F S16400x1024 .f32 := broadcastInDim S16400x1024 ![] bcast_S_S16400x1024 main_cst
  let main_v2 : IVec S16400x1024 1 := cmpf .olt main_v0 main_v1
  let main_v3 : FVec F S16400x1024 .f32 := Host.absf main_arg1
  let main_cst_0 : FVec F S_ .f32 := constant S_ .f32 0x7F800000#32
  let main_v4 : FVec F S16400x1024 .f32 := broadcastInDim S16400x1024 ![] bcast_S_S16400x1024 main_cst_0
  let main_v5 : IVec S16400x1024 1 := cmpf .olt main_v3 main_v4
  let main_v6 : FVec F S1x1024 .f32 := Host.absf main_arg2
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S1x1024 .f32 := Host.absf main_arg3
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_v12 : FVec F S16400x1024 .f32 := Host.absf main_arg4
  let main_cst_3 : FVec F S_ .f32 := constant S_ .f32 0x7F800000#32
  let main_v13 : FVec F S16400x1024 .f32 := broadcastInDim S16400x1024 ![] bcast_S_S16400x1024 main_cst_3
  let main_v14 : IVec S16400x1024 1 := cmpf .olt main_v12 main_v13
  let main_v15 : FVec F S16400x1024 .f32 := Host.absf main_arg5
  let main_cst_4 : FVec F S_ .f32 := constant S_ .f32 0x7F800000#32
  let main_v16 : FVec F S16400x1024 .f32 := broadcastInDim S16400x1024 ![] bcast_S_S16400x1024 main_cst_4
  let main_v17 : IVec S16400x1024 1 := cmpf .olt main_v15 main_v16
  (main_v2, main_v5, main_v8, main_v11, main_v14, main_v17)
-- ==== Pre_proj_grad_finite.lean ====
abbrev S16400x384 : Shape := ⟨2, ![16400, 384]⟩
abbrev S16400x256 : Shape := ⟨2, ![16400, 256]⟩
abbrev S16400x16 : Shape := ⟨2, ![16400, 16]⟩
abbrev S1x384 : Shape := ⟨2, ![1, 384]⟩
abbrev S1x256 : Shape := ⟨2, ![1, 256]⟩
abbrev S1x16 : Shape := ⟨2, ![1, 16]⟩
abbrev S16400x64 : Shape := ⟨2, ![16400, 64]⟩
abbrev S16400x1024 : Shape := ⟨2, ![16400, 1024]⟩
abbrev S16400x512 : Shape := ⟨2, ![16400, 512]⟩
abbrev S_ : Shape := ⟨0, ![]⟩

class Facts : Prop where
  bcast_S_S16400x384 : S_.BroadcastsInDim S16400x384 (![] : Fin 0 → Fin S16400x384.rank)
  bcast_S_S16400x256 : S_.BroadcastsInDim S16400x256 (![] : Fin 0 → Fin S16400x256.rank)
  bcast_S_S16400x16 : S_.BroadcastsInDim S16400x16 (![] : Fin 0 → Fin S16400x16.rank)
  bcast_S_S1x384 : S_.BroadcastsInDim S1x384 (![] : Fin 0 → Fin S1x384.rank)
  bcast_S_S1x256 : S_.BroadcastsInDim S1x256 (![] : Fin 0 → Fin S1x256.rank)
  bcast_S_S1x16 : S_.BroadcastsInDim S1x16 (![] : Fin 0 → Fin S1x16.rank)

variable [Facts]

def fn_part1 {F : FTy → Type} [FloatOps F] (main_arg6 : FVec F S16400x384 .f32) (main_arg7 : FVec F S16400x256 .f32) (main_arg9 : FVec F S16400x16 .f32) (main_v2 : IVec S16400x384 1) (main_v5 : IVec S16400x256 1) (main_v8 : IVec S16400x16 1) (main_v11 : IVec S1x384 1) (main_v14 : IVec S1x256 1) (main_v17 : IVec S1x16 1) : IVec S16400x384 1 × IVec S16400x256 1 × IVec S16400x16 1 × IVec S1x384 1 × IVec S1x256 1 × IVec S1x16 1 × IVec S16400x384 1 × IVec S16400x256 1 × IVec S16400x16 1 :=
  let main_v18 : FVec F S16400x384 .f32 := Host.absf main_arg6
  let main_cst_5 : FVec F S_ .f32 := constant S_ .f32 0x7F800000#32
  let main_v19 : FVec F S16400x384 .f32 := broadcastInDim S16400x384 ![] bcast_S_S16400x384 main_cst_5
  let main_v20 : IVec S16400x384 1 := cmpf .olt main_v18 main_v19
  let main_v21 : FVec F S16400x256 .f32 := Host.absf main_arg7
  let main_cst_6 : FVec F S_ .f32 := constant S_ .f32 0x7F800000#32
  let main_v22 : FVec F S16400x256 .f32 := broadcastInDim S16400x256 ![] bcast_S_S16400x256 main_cst_6
  let main_v23 : IVec S16400x256 1 := cmpf .olt main_v21 main_v22
  let main_v24 : FVec F S16400x16 .f32 := Host.absf main_arg9
  let main_cst_7 : FVec F S_ .f32 := constant S_ .f32 0x7F800000#32
  let main_v25 : FVec F S16400x16 .f32 := broadcastInDim S16400x16 ![] bcast_S_S16400x16 main_cst_7
  let main_v26 : IVec S16400x16 1 := cmpf .olt main_v24 main_v25
  (main_v2, main_v5, main_v8, main_v11, main_v14, main_v17, main_v20, main_v23, main_v26)

def fn {F : FTy → Type} [FloatOps F] (main_arg0 : FVec F S16400x384 .f32) (main_arg1 : FVec F S16400x256 .f32) (main_arg2 : FVec F S16400x16 .f32) (main_arg3 : FVec F S1x384 .f32) (main_arg4 : FVec F S1x256 .f32) (main_arg5 : FVec F S1x16 .f32) (main_arg6 : FVec F S16400x384 .f32) (main_arg7 : FVec F S16400x256 .f32) (main_arg8 : FVec F S16400x64 .f32) (main_arg9 : FVec F S16400x16 .f32) (main_arg10 : FVec F S16400x1024 .f32) (main_arg11 : FVec F S16400x1024 .f32) (main_arg12 : FVec F S16400x512 .f32) : IVec S16400x384 1 × IVec S16400x256 1 × IVec S16400x16 1 × IVec S1x384 1 × IVec S1x256 1 × IVec S1x16 1 × IVec S16400x384 1 × IVec S16400x256 1 × IVec S16400x16 1 :=
  let main_v0 : FVec F S16400x384 .f32 := Host.absf main_arg0
  let main_cst : FVec F S_ .f32 := constant S_ .f32 0x7F800000#32
  let main_v1 : FVec F S16400x384 .f32 := broadcastInDim S16400x384 ![] bcast_S_S16400x384 main_cst
  let main_v2 : IVec S16400x384 1 := cmpf .olt main_v0 main_v1
  let main_v3 : FVec F S16400x256 .f32 := Host.absf main_arg1
  let main_cst_0 : FVec F S_ .f32 := constant S_ .f32 0x7F800000#32
  let main_v4 : FVec F S16400x256 .f32 := broadcastInDim S16400x256 ![] bcast_S_S16400x256 main_cst_0
  let main_v5 : IVec S16400x256 1 := cmpf .olt main_v3 main_v4
  let main_v6 : FVec F S16400x16 .f32 := Host.absf main_arg2
  let main_cst_1 : FVec F S_ .f32 := constant S_ .f32 0x7F800000#32
  let main_v7 : FVec F S16400x16 .f32 := broadcastInDim S16400x16 ![] bcast_S_S16400x16 main_cst_1
  let main_v8 : IVec S16400x16 1 := cmpf .olt main_v6 main_v7
  let main_v9 : FVec F S1x384 .f32 := Host.absf main_arg3
  let main_cst_2 : FVec F S_ .f32 := constant S_ .f32 0x7F800000#32
  let main_v10 : FVec F S1x384 .f32 := broadcastInDim S1x384 ![] bcast_S_S1x384 main_cst_2
  let main_v11 : IVec S1x384 1 := cmpf .olt main_v9 main_v10
  let main_v12 : FVec F S1x256 .f32 := Host.absf main_arg4
  let main_cst_3 : FVec F S_ .f32 := constant S_ .f32 0x7F800000#32
  let main_v13 : FVec F S1x256 .f32 := broadcastInDim S1x256 ![] bcast_S_S1x256 main_cst_3
  let main_v14 : IVec S1x256 1 := cmpf .olt main_v12 main_v13
  let main_v15 : FVec F S1x16 .f32 := Host.absf main_arg5
  let main_cst_4 : FVec F S_ .f32 := constant S_ .f32 0x7F800000#32
  let main_v16 : FVec F S1x16 .f32 := broadcastInDim S1x16 ![] bcast_S_S1x16 main_cst_4
  let main_v17 : IVec S1x16 1 := cmpf .olt main_v15 main_v16
  fn_part1 (F := F) main_arg6 main_arg7 main_arg9 main_v2 main_v5 main_v8 main_v11 main_v14 main_v17
-- ==== InputNorm.lean ====
abbrev S16384x1024 : Shape := ⟨2, ![16384, 1024]⟩
abbrev S16x1024 : Shape := ⟨2, ![16, 1024]⟩
abbrev S1x1024 : Shape := ⟨2, ![1, 1024]⟩
abbrev S16400x1024 : Shape := ⟨2, ![16400, 1024]⟩
abbrev S_ : Shape := ⟨0, ![]⟩
abbrev S496x1024 : Shape := ⟨2, ![496, 1024]⟩
abbrev S16896x1024 : Shape := ⟨2, ![16896, 1024]⟩
abbrev S768x1024 : Shape := ⟨2, ![768, 1024]⟩
abbrev S768 : Shape := ⟨1, ![768]⟩
abbrev S768x1 : Shape := ⟨2, ![768, 1]⟩
abbrev S1024 : Shape := ⟨1, ![1024]⟩

abbrev nBuf : Space → Nat
  | .hbm => 17
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S16x1024, .f32⟩
  | .hbm, ⟨2, _⟩ => ⟨S1x1024, .f32⟩
  | .hbm, ⟨3, _⟩ => ⟨S16400x1024, .f32⟩
  | .hbm, ⟨4, _⟩ => ⟨S16400x1024, .f32⟩
  | .hbm, ⟨5, _⟩ => ⟨S16400x1024, .f32⟩
  | .hbm, ⟨6, _⟩ => ⟨S_, .f32⟩
  | .hbm, ⟨7, _⟩ => ⟨S496x1024, .f32⟩
  | .hbm, ⟨8, _⟩ => ⟨S16896x1024, .f32⟩
  | .hbm, ⟨9, _⟩ => ⟨S_, .f32⟩
  | .hbm, ⟨10, _⟩ => ⟨S496x1024, .f32⟩
  | .hbm, ⟨11, _⟩ => ⟨S16896x1024, .f32⟩
  | .hbm, ⟨12, _⟩ => ⟨S_, .f32⟩
  | .hbm, ⟨13, _⟩ => ⟨S496x1024, .f32⟩
  | .hbm, ⟨14, _⟩ => ⟨S16896x1024, .f32⟩
  | .hbm, ⟨15, _⟩ => ⟨S16896x1024, .f32⟩
  | .hbm, ⟨16, _⟩ => ⟨S1x1024, .f32⟩
  | .local _ .vmem, ⟨0, _⟩ => ⟨S768x1024, .f32⟩
  | .local _ .vmem, ⟨1, _⟩ => ⟨S768x1024, .f32⟩
  | .local _ .vmem, ⟨2, _⟩ => ⟨S768x1024, .f32⟩
  | .local _ .vmem, ⟨3, _⟩ => ⟨S768x1024, .f32⟩
  | .local _ .vmem, ⟨4, _⟩ => ⟨S768x1024, .f32⟩
  | .local _ .vmem, ⟨5, _⟩ => ⟨S768x1024, .f32⟩
  | .local _ .vmem, ⟨6, _⟩ => ⟨S1x1024, .f32⟩
  | .local _ .vmem, ⟨7, _⟩ => ⟨S768x1024, .f32⟩
  | .local _ .vmem, ⟨8, _⟩ => ⟨S768x1024, .f32⟩
  | .local _ .vmem, ⟨9, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![22], ![false]⟩

def k0_cond1 (i : grid0.Coords) : BitVec 1 :=
  let arg0 : BitVec 32 := BitVec.ofNat 32 (i 0).val
  let c0_i32 : BitVec 32 := 0#32
  let v38 : BitVec 1 := Scalar.cmpi .eq arg0 c0_i32
  let v39 : BitVec 32 := Scalar.extui v38
  let c0_i32_14 : BitVec 32 := 0#32
  let v40 : BitVec 1 := Scalar.cmpi .ne v39 c0_i32_14
  v40

def k0_cond2 (i : grid0.Coords) : BitVec 1 :=
  let arg0 : BitVec 32 := BitVec.ofNat 32 (i 0).val
  let c0_i32 : BitVec 32 := 0#32
  let v38 : BitVec 1 := Scalar.cmpi .eq arg0 c0_i32
  let v_true : BitVec 1 := 1#1
  let v41 : BitVec 1 := Scalar.xori v38 v_true
  let v42 : BitVec 32 := Scalar.extui v41
  let c0_i32_15 : BitVec 32 := 0#32
  let v43 : BitVec 1 := Scalar.cmpi .ne v42 c0_i32_15
  v43

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S768x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S768x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== InputNormRefIdeal.lean ====
abbrev S16384x1024 : Shape := ⟨2, ![16384, 1024]⟩
abbrev S16x1024 : Shape := ⟨2, ![16, 1024]⟩
abbrev S1x1024 : Shape := ⟨2, ![1, 1024]⟩
abbrev S16400x1024 : Shape := ⟨2, ![16400, 1024]⟩
abbrev S1024 : Shape := ⟨1, ![1024]⟩
abbrev S_ : Shape := ⟨0, ![]⟩
abbrev S16400 : Shape := ⟨1, ![16400]⟩
abbrev S16400x1 : Shape := ⟨2, ![16400, 1]⟩
abbrev S496x1024 : Shape := ⟨2, ![496, 1024]⟩
abbrev S16896x1024 : Shape := ⟨2, ![16896, 1024]⟩

abbrev nBuf : Space → Nat
  | .hbm => 58
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16x1024, .f32⟩
  | .hbm, ⟨2, _⟩ => ⟨S1x1024, .f32⟩
  | .hbm, ⟨3, _⟩ => ⟨S16400x1024, .f32⟩
  | .hbm, ⟨4, _⟩ => ⟨S16400x1024, .f32⟩
  | .hbm, ⟨5, _⟩ => ⟨S16400x1024, .f32⟩
  | .hbm, ⟨6, _⟩ => ⟨S1024, .f32⟩
  | .hbm, ⟨7, _⟩ => ⟨S16400x1024, .f32⟩
  | .hbm, ⟨8, _⟩ => ⟨S_, .f32⟩
  | .hbm, ⟨9, _⟩ => ⟨S16400x1024, .f32⟩
  | .hbm, ⟨10, _⟩ => ⟨S16400x1024, .f32⟩
  | .hbm, ⟨11, _⟩ => ⟨S_, .f32⟩
  | .hbm, ⟨12, _⟩ => ⟨S16400, .f32⟩
  | .hbm, ⟨13, _⟩ => ⟨S16400x1, .f32⟩
  | .hbm, ⟨14, _⟩ => ⟨S_, .f32⟩
  | .hbm, ⟨15, _⟩ => ⟨S16400x1, .f32⟩
  | .hbm, ⟨16, _⟩ => ⟨S16400x1, .f32⟩
  | .hbm, ⟨17, _⟩ => ⟨S_, .f32⟩
  | .hbm, ⟨18, _⟩ => ⟨S16400x1, .f32⟩
  | .hbm, ⟨19, _⟩ => ⟨S16400x1, .f32⟩
  | .hbm, ⟨20, _⟩ => ⟨S16400x1, .f32⟩
  | .hbm, ⟨21, _⟩ => ⟨S16400x1, .f32⟩
  | .hbm, ⟨22, _⟩ => ⟨S_, .f32⟩
  | .hbm, ⟨23, _⟩ => ⟨S16400x1, .f32⟩
  | .hbm, ⟨24, _⟩ => ⟨S16400x1, .f32⟩
  | .hbm, ⟨25, _⟩ => ⟨S16400x1024, .f32⟩
  | .hbm, ⟨26, _⟩ => ⟨S16400x1024, .f32⟩
  | .hbm, ⟨27, _⟩ => ⟨S1x1024, .f32⟩
  | .hbm, ⟨28, _⟩ => ⟨S16400x1024, .f32⟩
  | .hbm, ⟨29, _⟩ => ⟨S16400x1024, .f32⟩
  | .hbm, ⟨30, _⟩ => ⟨S16400x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S16400x1024, .f32⟩
  | .hbm, ⟨35, _⟩ => ⟨S16400x1024, .f32⟩
  | .hbm, ⟨36, _⟩ => ⟨S_, .f32⟩
  | .hbm, ⟨37, _⟩ => ⟨S1024, .f32⟩
  | .hbm, ⟨38, _⟩ => ⟨S16400x1024, .f32⟩
  | .hbm, ⟨39, _⟩ => ⟨S_, .f32⟩
  | .hbm, ⟨40, _⟩ => ⟨S16400, .f32⟩
  | .hbm, ⟨41, _⟩ => ⟨S16400x1, .f32⟩
  | .hbm, ⟨42, _⟩ => ⟨S16400x1024, .f32⟩
  | .hbm, ⟨43, _⟩ => ⟨S16400x1024, .f32⟩
  | .hbm, ⟨44, _⟩ => ⟨S16400x1024, .f32⟩
  | .hbm, ⟨45, _⟩ => ⟨S16400x1, .f32⟩
  | .hbm, ⟨46, _⟩ => ⟨S_, .f32⟩
  | .hbm, ⟨47, _⟩ => ⟨S16400x1, .f32⟩
  | .hbm, ⟨48, _⟩ => ⟨S16400x1, .f32⟩
  | .hbm, ⟨49, _⟩ => ⟨S_, .f32⟩
  | .hbm, ⟨50, _⟩ => ⟨S16400, .f32⟩
  | .hbm, ⟨51, _⟩ => ⟨S16400x1024, .f32⟩
  | .hbm, ⟨52, _⟩ => ⟨S16400x1024, .f32⟩
  | .hbm, ⟨53, _⟩ => ⟨S16400x1024, .f32⟩
  | .hbm, ⟨54, _⟩ => ⟨S1x1024, .f32⟩
  | .hbm, ⟨55, _⟩ => ⟨S_, .f32⟩
  | .hbm, ⟨56, _⟩ => ⟨S496x1024, .f32⟩
  | .hbm, ⟨57, _⟩ => ⟨S16896x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_cst_6 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_cst_8 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_9 : Ref sig .tc := ⟨.hbm, 55, rfl⟩
abbrev main_v40 : Ref sig .tc := ⟨.hbm, 56, rfl⟩
abbrev main_v41 : Ref sig .tc := ⟨.hbm, 57, rfl⟩

abbrev nD : Nat := 1
abbrev τ : Topo := Topo.v7x

variable {F : FTy → Type} [FloatOps F]
-- ==== Attn.lean ====
abbrev S8x16400x256 : Shape := ⟨3, ![8, 16400, 256]⟩
abbrev S8x16400x128 : Shape := ⟨3, ![8, 16400, 128]⟩
abbrev S16400x1024 : Shape := ⟨2, ![16400, 1024]⟩
abbrev S132 : Shape := ⟨1, ![132]⟩
abbrev S_ : Shape := ⟨0, ![]⟩
abbrev S8x496x256 : Shape := ⟨3, ![8, 496, 256]⟩
abbrev S8x16896x256 : Shape := ⟨3, ![8, 16896, 256]⟩
abbrev S8x496x128 : Shape := ⟨3, ![8, 496, 128]⟩
abbrev S8x16896x128 : Shape := ⟨3, ![8, 16896, 128]⟩
abbrev S496x1024 : Shape := ⟨2, ![496, 1024]⟩
abbrev S16896x1024 : Shape := ⟨2, ![16896, 1024]⟩
abbrev S8x16896x16896 : Shape := ⟨3, ![8, 16896, 16896]⟩
abbrev S8x16896 : Shape := ⟨2, ![8, 16896]⟩
abbrev S8x16896x1 : Shape := ⟨3, ![8, 16896, 1]⟩
abbrev S8x1x16896 : Shape := ⟨3, ![8, 1, 16896]⟩
abbrev S16896x8x128 : Shape := ⟨3, ![16896, 8, 128]⟩
abbrev S1x768x256 : Shape := ⟨3, ![1, 768, 256]⟩
abbrev S1 : Shape := ⟨1, ![1]⟩
abbrev S1x768x128 : Shape := ⟨3, ![1, 768, 128]⟩
abbrev S1x1536x256 : Shape := ⟨3, ![1, 1536, 256]⟩
abbrev S1536x128 : Shape := ⟨2, ![1536, 128]⟩
abbrev S1x1x1536 : Shape := ⟨3, ![1, 1, 1536]⟩
abbrev S16896x256 : Shape := ⟨2, ![16896, 256]⟩
abbrev S768x256 : Shape := ⟨2, ![768, 256]⟩
abbrev S768x128 : Shape := ⟨2, ![768, 128]⟩
abbrev S1536x256 : Shape := ⟨2, ![1536, 256]⟩
abbrev S768x1536 : Shape := ⟨2, ![768, 1536]⟩
abbrev S1x1536 : Shape := ⟨2, ![1, 1536]⟩
abbrev S768x768 : Shape := ⟨2, ![768, 768]⟩
abbrev S1x1x768 : Shape := ⟨3, ![1, 1, 768]⟩
abbrev S1x768 : Shape := ⟨2, ![1, 768]⟩
abbrev S1x16896x256 : Shape := ⟨3, ![1, 16896, 256]⟩

abbrev nBuf : Space → Nat
  | .hbm => 63
  | .vmem => 19
  | .smem => 2
  | _ => 0

abbrev bufTy : (tb : Table) → Fin (tcTables nBuf tb) → BufTy
  | .hbm, ⟨0, _⟩ => ⟨S8x16400x256, .f32⟩
  | .hbm, ⟨1, _⟩ => ⟨S8x16400x256, .f32⟩
  | .hbm, ⟨2, _⟩ => ⟨S8x16400x128, .f32⟩
  | .hbm, ⟨3, _⟩ => ⟨S16400x1024, .f32⟩
  | .hbm, ⟨4, _⟩ => ⟨S_, .f32⟩
  | .hbm, ⟨5, _⟩ => ⟨S8x496x256, .f32⟩
  | .hbm, ⟨6, _⟩ => ⟨S8x16896x256, .f32⟩
  | .hbm, ⟨7, _⟩ => ⟨S_, .f32⟩
  | .hbm, ⟨8, _⟩ => ⟨S8x496x256, .f32⟩
  | .hbm, ⟨9, _⟩ => ⟨S8x16896x256, .f32⟩
  | .hbm, ⟨10, _⟩ => ⟨S_, .f32⟩
  | .hbm, ⟨11, _⟩ => ⟨S8x496x128, .f32⟩
  | .hbm, ⟨12, _⟩ => ⟨S8x16896x128, .f32⟩
  | .hbm, ⟨13, _⟩ => ⟨S_, .f32⟩
  | .hbm, ⟨14, _⟩ => ⟨S496x1024, .f32⟩
  | .hbm, ⟨15, _⟩ => ⟨S16896x1024, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S8x16896x16896, .f32⟩
  | .hbm, ⟨21, _⟩ => ⟨S8x16896x16896, .f32⟩
  | .hbm, ⟨22, _⟩ => ⟨S8x16896x16896, .f32⟩
  | .hbm, ⟨23, _⟩ => ⟨S8x16896x16896, .f32⟩
  | .hbm, ⟨24, _⟩ => ⟨S8x16896x16896, .f32⟩
  | .hbm, ⟨25, _⟩ => ⟨S8x16896x16896, .i32⟩
  | .hbm, ⟨26, _⟩ => ⟨S8x16896x16896, .i32⟩
  | .hbm, ⟨27, _⟩ => ⟨S8x16896x16896, .i1⟩
  | .hbm, ⟨28, _⟩ => ⟨S_, .f32⟩
  | .hbm, ⟨29, _⟩ => ⟨S8x16896x16896, .f32⟩
  | .hbm, ⟨30, _⟩ => ⟨S8x16896x16896, .f32⟩
  | .hbm, ⟨31, _⟩ => ⟨S_, .f32⟩
  | .hbm, ⟨32, _⟩ => ⟨S8x16896, .f32⟩
  | .hbm, ⟨33, _⟩ => ⟨S8x16896x1, .f32⟩
  | .hbm, ⟨34, _⟩ => ⟨S8x16896x16896, .f32⟩
  | .hbm, ⟨35, _⟩ => ⟨S8x16896x16896, .f32⟩
  | .hbm, ⟨36, _⟩ => ⟨S8x16896x16896, .f32⟩
  | .hbm, ⟨37, _⟩ => ⟨S8x16896x16896, .f32⟩
  | .hbm, ⟨38, _⟩ => ⟨S8x16896x16896, .f32⟩
  | .hbm, ⟨39, _⟩ => ⟨S_, .f32⟩
  | .hbm, ⟨40, _⟩ => ⟨S8x16896, .f32⟩
  | .hbm, ⟨41, _⟩ => ⟨S8x16896x1, .f32⟩
  | .hbm, ⟨42, _⟩ => ⟨S8x16896x128, .f32⟩
  | .hbm, ⟨43, _⟩ => ⟨S8x16896x128, .f32⟩
  | .hbm, ⟨44, _⟩ => ⟨S8x16896x128, .f32⟩
  | .hbm, ⟨45, _⟩ => ⟨S8x16896x1, .f32⟩
  | .hbm, ⟨46, _⟩ => ⟨S8x16896x1, .f32⟩
  | .hbm, ⟨47, _⟩ => ⟨S8x16896x1, .f32⟩
  | .hbm, ⟨48, _⟩ => ⟨S8x16896x1, .f32⟩
  | .hbm, ⟨49, _⟩ => ⟨S8x1x16896, .f32⟩
  | .hbm, ⟨50, _⟩ => ⟨S16896x8x128, .f32⟩
  | .hbm, ⟨51, _⟩ => ⟨S8x16896x128, .f32⟩
  | .hbm, ⟨52, _⟩ => ⟨S8x16896x128, .f32⟩
  | .hbm, ⟨53, _⟩ => ⟨S_, .f32⟩
  | .hbm, ⟨54, _⟩ => ⟨S8x16896, .f32⟩
  | .hbm, ⟨55, _⟩ => ⟨S8x1x16896, .f32⟩
  | .hbm, ⟨56, _⟩ => ⟨S8x16896x256, .bf16⟩
  | .hbm, ⟨57, _⟩ => ⟨S8x16896x256, .bf16⟩
  | .hbm, ⟨58, _⟩ => ⟨S8x16896x128, .bf16⟩
  | .hbm, ⟨59, _⟩ => ⟨S16896x1024, .bf16⟩
  | .hbm, ⟨60, _⟩ => ⟨S8x16896x256, .f32⟩
  | .hbm, ⟨61, _⟩ => ⟨S8x16896x256, .f32⟩
  | .hbm, ⟨62, _⟩ => ⟨S8x16896x128, .f32⟩
  | .local _ .vmem, ⟨0, _⟩ => ⟨S1x768x256, .bf16⟩
  | .local _ .vmem, ⟨1, _⟩ => ⟨S1x768x256, .bf16⟩
  | .local _ .vmem, ⟨2, _⟩ => ⟨S1x768x128, .bf16⟩
  | .local _ .vmem, ⟨3, _⟩ => ⟨S1x768x128, .bf16⟩
  | .local _ .vmem, ⟨4, _⟩ => ⟨S1x1536x256, .bf16⟩
  | .local _ .vmem, ⟨5, _⟩ => ⟨S1x1536x256, .bf16⟩
  | .local _ .vmem, ⟨6, _⟩ => ⟨S1536x128, .bf16⟩
  | .local _ .vmem, ⟨7, _⟩ => ⟨S1536x128, .bf16⟩
  | .local _ .vmem, ⟨8, _⟩ => ⟨S1x1x1536, .f32⟩
  | .local _ .vmem, ⟨9, _⟩ => ⟨S1x1x1536, .f32⟩
  | .local _ .vmem, ⟨10, _⟩ => ⟨S1x1x1536, .f32⟩
  | .local _ .vmem, ⟨11, _⟩ => ⟨S1x1x1536, .f32⟩
  | .local _ .vmem, ⟨12, _⟩ => ⟨S1x768x256, .f32⟩
  | .local _ .vmem, ⟨13, _⟩ => ⟨S1x768x256, .f32⟩
  | .local _ .vmem, ⟨14, _⟩ => ⟨S1x768x128, .f32⟩
  | .local _ .vmem, ⟨15, _⟩ => ⟨S1x768x128, .f32⟩
  | .local _ .vmem, ⟨16, _⟩ => ⟨S16896x256, .f32⟩
  | .local _ .vmem, ⟨17, _⟩ => ⟨S768x256, .f32⟩
  | .local _ .vmem, ⟨18, _⟩ => ⟨S768x128, .f32⟩
  | .local _ .smem, ⟨0, _⟩ => ⟨S132, .i32⟩
  | .local _ .smem, ⟨1, _⟩ => ⟨S132, .i32⟩
  | _, _ => ⟨S8x16400x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_1 : Ref sig .tc := ⟨.hbm, 7, rfl⟩
abbrev main_v2 : Ref sig .tc := ⟨.hbm, 8, rfl⟩
abbrev main_v3 : Ref sig .tc := ⟨.hbm, 9, rfl⟩
abbrev main_cst_2 : Ref sig .tc := ⟨.hbm, 10, rfl⟩
abbrev main_v4 : Ref sig .tc := ⟨.hbm, 11, rfl⟩
abbrev main_v5 : Ref sig .tc := ⟨.hbm, 12, rfl⟩
abbrev main_cst_3 : Ref sig .tc := ⟨.hbm, 13, rfl⟩
abbrev main_v6 : Ref sig .tc := ⟨.hbm, 14, rfl⟩
abbrev main_v7 : Ref sig .tc := ⟨.hbm, 15, rfl⟩
abbrev main_cst_4 : Ref sig .tc := ⟨.hbm, 16, rfl⟩
abbrev main_v8 : Ref sig .tc := ⟨.hbm, 17, rfl⟩
abbrev main_cst_5 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_6 : Ref sig .tc := ⟨.hbm, 28, rfl⟩
abbrev main_v18 : Ref sig .tc := ⟨.hbm, 29, rfl⟩
abbrev main_v19 : Ref sig .tc := ⟨.hbm, 30, rfl⟩
abbrev main_cst_7 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_8 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_9 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46_0 : Ref sig .tc := ⟨.hbm, 60, rfl⟩
abbrev main_v46_1 : Ref sig .tc := ⟨.hbm, 61, rfl⟩
abbrev main_v46_2 : Ref sig .tc := ⟨.hbm, 62, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 132], ![false, false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_mult1 (v1 : BitVec 32) : BitVec 32 :=
  let c1536_i32 : BitVec 32 := 1536#32
  let v102 : BitVec 32 := Scalar.muli v1 c1536_i32
  let c0_i32_55 : BitVec 32 := 0#32
  let v103 : BitVec 32 := Scalar.addi v102 c0_i32_55
  v103
def k0_cond3 (v1 : BitVec 32) (v3 : BitVec 32) : BitVec 1 :=
  let c0_i32 : BitVec 32 := 0#32
  let v5 : BitVec 1 := Scalar.cmpi .sgt v3 c0_i32
  let v6 : BitVec 32 := Scalar.extui v5
  let c0_i32_0 : BitVec 32 := 0#32
  let v7 : BitVec 1 := Scalar.cmpi .slt v3 c0_i32_0
  let v8 : BitVec 32 := Scalar.extui v7
  let v9 : BitVec 32 := Scalar.subi v6 v8
  let c2_i32 : BitVec 32 := 2#32
  let c0_i32_1 : BitVec 32 := 0#32
  let v10 : BitVec 1 := Scalar.cmpi .sgt c2_i32 c0_i32_1
  let v11 : BitVec 32 := Scalar.extui v10
  let c0_i32_2 : BitVec 32 := 0#32
  let v12 : BitVec 1 := Scalar.cmpi .slt c2_i32 c0_i32_2
  let v13 : BitVec 32 := Scalar.extui v12
  let v14 : BitVec 32 := Scalar.subi v11 v13
  let v15 : BitVec 1 := Scalar.cmpi .ne v9 v14
  let v16 : BitVec 32 := Scalar.remsi v3 c2_i32
  let c0_i32_3 : BitVec 32 := 0#32
  let v17 : BitVec 1 := Scalar.cmpi .ne v16 c0_i32_3
  let v18 : BitVec 1 := Scalar.andi v15 v17
  let v4 : BitVec 32 := Scalar.divsi v3 c2_i32
  let c1_i32 : BitVec 32 := 1#32
  let v19 : BitVec 32 := Scalar.subi v4 c1_i32
  let v20 : BitVec 32 := Scalar.select v18 v19 v4
  let v21 : BitVec 1 := Scalar.cmpi .eq v1 v20
  let v_true : BitVec 1 := 1#1
  let v27 : BitVec 1 := Scalar.xori v21 v_true
  let v28 : BitVec 32 := Scalar.extui v27
  let c0_i32_7 : BitVec 32 := 0#32
  let v29 : BitVec 1 := Scalar.cmpi .ne v28 c0_i32_7
  v29

def k0_off2 (v1 : BitVec 32) : Fin 2 → Nat :=
  let c1536_i32 : BitVec 32 := 1536#32
  let v102 : BitVec 32 := Scalar.muli v1 c1536_i32
  let c0_i32_55 : BitVec 32 := 0#32
  let v103 : BitVec 32 := Scalar.addi v102 c0_i32_55
  let v104 : BitVec 32 := v103
  let v105 : Index := Scalar.indexCast v104
  let c0_56 : Index := 0#32
  ![v105.toNat, 0]
def k0_mult2 (v1 : BitVec 32) : BitVec 32 :=
  let c1536_i32 : BitVec 32 := 1536#32
  let v107 : BitVec 32 := Scalar.muli v1 c1536_i32
  let c0_i32_56 : BitVec 32 := 0#32
  let v108 : BitVec 32 := Scalar.addi v107 c0_i32_56
  v108
def k0_cond4 (v1 : BitVec 32) (v3 : BitVec 32) : BitVec 1 :=
  let c0_i32 : BitVec 32 := 0#32
  let v5 : BitVec 1 := Scalar.cmpi .sgt v3 c0_i32
  let v6 : BitVec 32 := Scalar.extui v5
  let c0_i32_0 : BitVec 32 := 0#32
  let v7 : BitVec 1 := Scalar.cmpi .slt v3 c0_i32_0
  let v8 : BitVec 32 := Scalar.extui v7
  let v9 : BitVec 32 := Scalar.subi v6 v8
  let c2_i32 : BitVec 32 := 2#32
  let c0_i32_1 : BitVec 32 := 0#32
  let v10 : BitVec 1 := Scalar.cmpi .sgt c2_i32 c0_i32_1
  let v11 : BitVec 32 := Scalar.extui v10
  let c0_i32_2 : BitVec 32 := 0#32
  let v12 : BitVec 1 := Scalar.cmpi .slt c2_i32 c0_i32_2
  let v13 : BitVec 32 := Scalar.extui v12
  let v14 : BitVec 32 := Scalar.subi v11 v13
  let v15 : BitVec 1 := Scalar.cmpi .ne v9 v14
  let v16 : BitVec 32 := Scalar.remsi v3 c2_i32
  let c0_i32_3 : BitVec 32 := 0#32
  let v17 : BitVec 1 := Scalar.cmpi .ne v16 c0_i32_3
  let v18 : BitVec 1 := Scalar.andi v15 v17
  let v4 : BitVec 32 := Scalar.divsi v3 c2_i32
  let c1_i32 : BitVec 32 := 1#32
  let v19 : BitVec 32 := Scalar.subi v4 c1_i32
  let v20 : BitVec 32 := Scalar.select v18 v19 v4
  let v21 : BitVec 1 := Scalar.cmpi .eq v1 v20
  let c2_i32_8 : BitVec 32 := 2#32
  let c0_i32_9 : BitVec 32 := 0#32
  let v30 : BitVec 1 := Scalar.cmpi .eq c2_i32_8 c0_i32_9
  let c1_i32_10 : BitVec 32 := 1#32
  let v31 : BitVec 32 := Scalar.select v30 c1_i32_10 c2_i32_8
  let v32 : BitVec 32 := Scalar.remsi v3 v31
  let c0_i32_12 : BitVec 32 := 0#32
  let v34 : BitVec 1 := Scalar.cmpi .slt v32 c0_i32_12
  let c0_i32_13 : BitVec 32 := 0#32
  let v35 : BitVec 1 := Scalar.cmpi .slt v31 c0_i32_13
  let v36 : BitVec 1 := Scalar.xori v34 v35
  let c0_i32_11 : BitVec 32 := 0#32
  let v33 : BitVec 1 := Scalar.cmpi .ne v32 c0_i32_11
  let v37 : BitVec 1 := Scalar.andi v36 v33
  let v38 : BitVec 32 := Scalar.addi v32 v31
  let v39 : BitVec 32 := Scalar.select v37 v38 v32
  let c0_i32_14 : BitVec 32 := 0#32
  let v40 : BitVec 1 := Scalar.cmpi .eq v39 c0_i32_14
  let v41 : BitVec 1 := Scalar.andi v21 v40
  let v42 : BitVec 32 := Scalar.extui v41
  let c0_i32_15 : BitVec 32 := 0#32
  let v43 : BitVec 1 := Scalar.cmpi .ne v42 c0_i32_15
  v43

def k0_off3 (v1 : BitVec 32) : Fin 2 → Nat :=
  let c1536_i32 : BitVec 32 := 1536#32
  let v107 : BitVec 32 := Scalar.muli v1 c1536_i32
  let c0_i32_56 : BitVec 32 := 0#32
  let v108 : BitVec 32 := Scalar.addi v107 c0_i32_56
  let v109 : BitVec 32 := v108
  let v110 : Index := Scalar.indexCast v109
  let c0_57 : Index := 0#32
  ![v110.toNat, 0]
def k0_mult3 (v1 : BitVec 32) : BitVec 32 :=
  let c1536_i32 : BitVec 32 := 1536#32
  let v107 : BitVec 32 := Scalar.muli v1 c1536_i32
  let c768_i32 : BitVec 32 := 768#32
  let v108 : BitVec 32 := Scalar.addi v107 c768_i32
  v108
def k0_cond5 (v1 : BitVec 32) (v3 : BitVec 32) : BitVec 1 :=
  let c0_i32 : BitVec 32 := 0#32
  let v5 : BitVec 1 := Scalar.cmpi .sgt v3 c0_i32
  let v6 : BitVec 32 := Scalar.extui v5
  let c0_i32_0 : BitVec 32 := 0#32
  let v7 : BitVec 1 := Scalar.cmpi .slt v3 c0_i32_0
  let v8 : BitVec 32 := Scalar.extui v7
  let v9 : BitVec 32 := Scalar.subi v6 v8
  let c2_i32 : BitVec 32 := 2#32
  let c0_i32_1 : BitVec 32 := 0#32
  let v10 : BitVec 1 := Scalar.cmpi .sgt c2_i32 c0_i32_1
  let v11 : BitVec 32 := Scalar.extui v10
  let c0_i32_2 : BitVec 32 := 0#32
  let v12 : BitVec 1 := Scalar.cmpi .slt c2_i32 c0_i32_2
  let v13 : BitVec 32 := Scalar.extui v12
  let v14 : BitVec 32 := Scalar.subi v11 v13
  let v15 : BitVec 1 := Scalar.cmpi .ne v9 v14
  let v16 : BitVec 32 := Scalar.remsi v3 c2_i32
  let c0_i32_3 : BitVec 32 := 0#32
  let v17 : BitVec 1 := Scalar.cmpi .ne v16 c0_i32_3
  let v18 : BitVec 1 := Scalar.andi v15 v17
  let v4 : BitVec 32 := Scalar.divsi v3 c2_i32
  let c1_i32 : BitVec 32 := 1#32
  let v19 : BitVec 32 := Scalar.subi v4 c1_i32
  let v20 : BitVec 32 := Scalar.select v18 v19 v4
  let v21 : BitVec 1 := Scalar.cmpi .eq v1 v20
  let c2_i32_16 : BitVec 32 := 2#32
  let c0_i32_17 : BitVec 32 := 0#32
  let v44 : BitVec 1 := Scalar.cmpi .eq c2_i32_16 c0_i32_17
  let c1_i32_18 : BitVec 32 := 1#32
  let v45 : BitVec 32 := Scalar.select v44 c1_i32_18 c2_i32_16
  let v46 : BitVec 32 := Scalar.remsi v3 v45
  let c0_i32_20 : BitVec 32 := 0#32
  let v48 : BitVec 1 := Scalar.cmpi .slt v46 c0_i32_20
  let c0_i32_21 : BitVec 32 := 0#32
  let v49 : BitVec 1 := Scalar.cmpi .slt v45 c0_i32_21
  let v50 : BitVec 1 := Scalar.xori v48 v49
  let c0_i32_19 : BitVec 32 := 0#32
  let v47 : BitVec 1 := Scalar.cmpi .ne v46 c0_i32_19
  let v51 : BitVec 1 := Scalar.andi v50 v47
  let v52 : BitVec 32 := Scalar.addi v46 v45
  let v53 : BitVec 32 := Scalar.select v51 v52 v46
  let c1_i32_22 : BitVec 32 := 1#32
  let v54 : BitVec 1 := Scalar.cmpi .eq v53 c1_i32_22
  let v55 : BitVec 1 := Scalar.andi v21 v54
  let v56 : BitVec 32 := Scalar.extui v55
  let c0_i32_23 : BitVec 32 := 0#32
  let v57 : BitVec 1 := Scalar.cmpi .ne v56 c0_i32_23
  v57

def k0_off4 (v1 : BitVec 32) : Fin 2 → Nat :=
  let c1536_i32 : BitVec 32 := 1536#32
  let v107 : BitVec 32 := Scalar.muli v1 c1536_i32
  let c768_i32 : BitVec 32 := 768#32
  let v108 : BitVec 32 := Scalar.addi v107 c768_i32
  let v109 : BitVec 32 := v108
  let v110 : Index := Scalar.indexCast v109
  let c0_55 : Index := 0#32
  ![v110.toNat, 0]

def k0_chk1 (v1 : BitVec 32) (v3 : BitVec 32) : Prop :=
  (∀ (k0_h3 : k0_cond3 v1 v3 = 1#1), 768 ∣ (k0_mult1 v1).toNat) ∧
  (∀ (k0_h3 : k0_cond3 v1 v3 = 1#1), ∀ a, (k0_off2 v1) a + S1536x256.size a ≤ S16896x256.size a) ∧
  (∀ (k0_h4 : k0_cond4 v1 v3 = 1#1), 768 ∣ (k0_mult2 v1).toNat) ∧
  (∀ (k0_h4 : k0_cond4 v1 v3 = 1#1), ∀ a, (k0_off3 v1) a + S1536x256.size a ≤ S16896x256.size a) ∧
  (∀ (k0_h5 : k0_cond5 v1 v3 = 1#1), 768 ∣ (k0_mult3 v1).toNat) ∧
  (∀ (k0_h5 : k0_cond5 v1 v3 = 1#1), ∀ a, (k0_off4 v1) a + S768x256.size a ≤ S16896x256.size a)
theorem k0_mult1_dvd : ∀ (v1 : BitVec 32) (v3 : BitVec 32) (k0_hw1 : k0_chk1 v1 v3), ∀ (k0_h3 : k0_cond3 v1 v3 = 1#1), 768 ∣ (k0_mult1 v1).toNat := fun v1 v3 k0_hw1 k0_h3 => k0_hw1.1 k0_h3
theorem k0_off2_inb : ∀ (v1 : BitVec 32) (v3 : BitVec 32) (k0_hw1 : k0_chk1 v1 v3), ∀ (k0_h3 : k0_cond3 v1 v3 = 1#1), ∀ a, (k0_off2 v1) a + S1536x256.size a ≤ S16896x256.size a := fun v1 v3 k0_hw1 k0_h3 => k0_hw1.2.1 k0_h3
theorem k0_mult2_dvd : ∀ (v1 : BitVec 32) (v3 : BitVec 32) (k0_hw1 : k0_chk1 v1 v3), ∀ (k0_h4 : k0_cond4 v1 v3 = 1#1), 768 ∣ (k0_mult2 v1).toNat := fun v1 v3 k0_hw1 k0_h4 => k0_hw1.2.2.1 k0_h4
theorem k0_off3_inb : ∀ (v1 : BitVec 32) (v3 : BitVec 32) (k0_hw1 : k0_chk1 v1 v3), ∀ (k0_h4 : k0_cond4 v1 v3 = 1#1), ∀ a, (k0_off3 v1) a + S1536x256.size a ≤ S16896x256.size a := fun v1 v3 k0_hw1 k0_h4 => k0_hw1.2.2.2.1 k0_h4
theorem k0_mult3_dvd : ∀ (v1 : BitVec 32) (v3 : BitVec 32) (k0_hw1 : k0_chk1 v1 v3), ∀ (k0_h5 : k0_cond5 v1 v3 = 1#1), 768 ∣ (k0_mult3 v1).toNat := fun v1 v3 k0_hw1 k0_h5 => k0_hw1.2.2.2.2.1 k0_h5
theorem k0_off4_inb : ∀ (v1 : BitVec 32) (v3 : BitVec 32) (k0_hw1 : k0_chk1 v1 v3), ∀ (k0_h5 : k0_cond5 v1 v3 = 1#1), ∀ a, (k0_off4 v1) a + S768x256.size a ≤ S16896x256.size a := fun v1 v3 k0_hw1 k0_h5 => k0_hw1.2.2.2.2.2 k0_h5

def k0_cond7 (i : grid0.Coords) : BitVec 1 :=
  let arg1 : BitVec 32 := BitVec.ofNat 32 (i 1).val
  let c131_i32 : BitVec 32 := 131#32
  let v61 : BitVec 1 := Scalar.cmpi .eq arg1 c131_i32
  let v62 : BitVec 32 := Scalar.extui v61
  let c0_i32_25 : BitVec 32 := 0#32
  let v63 : BitVec 1 := Scalar.cmpi .ne v62 c0_i32_25
  v63

def k0_off5 (i : grid0.Coords) : Fin 3 → Nat :=
  let arg0 : BitVec 32 := BitVec.ofNat 32 (i 0).val
  let c0_i32_26 : BitVec 32 := 0#32
  let c0_i32_27 : BitVec 32 := 0#32
  ![arg0.toNat, 0, 0]
def k0_cond6 (v1 : BitVec 32) : BitVec 1 :=
  let c10_i32 : BitVec 32 := 10#32
  let v58 : BitVec 1 := Scalar.cmpi .eq v1 c10_i32
  let v59 : BitVec 32 := Scalar.extui v58
  let c0_i32_24 : BitVec 32 := 0#32
  let v60 : BitVec 1 := Scalar.cmpi .ne v59 c0_i32_24
  v60

def cc0_transform_0 (k0_off1_inb : ∀ i : grid0.Coords, ∀ a, (k0_off1 i) a + S1.size a ≤ S132.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S132) ![v0.toNat] S1.size (k0_off1_inb i)) numel1_S1
  let c0_i32 : BitVec 32 := 0#32
  let c0_i32_0 : BitVec 32 := 0#32
  ![arg0.toNat, v1.toNat, c0_i32.toNat]

def cc0_transform_1 (k0_off1_inb : ∀ i : grid0.Coords, ∀ a, (k0_off1 i) a + S1.size a ≤ S132.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S132) ![v0.toNat] S1.size (k0_off1_inb i)) numel1_S1
  let c0_i32 : BitVec 32 := 0#32
  let c0_i32_0 : BitVec 32 := 0#32
  ![arg0.toNat, v1.toNat, c0_i32.toNat]

def cc0_transform_2 (k0_off1_inb : ∀ i : grid0.Coords, ∀ a, (k0_off1 i) a + S1.size a ≤ S132.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S132) ![v0.toNat] S1.size (k0_off1_inb i)) numel1_S1
  let c0_i32 : BitVec 32 := 0#32
  let c0_i32_0 : BitVec 32 := 0#32
  ![arg0.toNat, v1.toNat, c0_i32.toNat]

def cc0_transform_3 (k0_off1_inb : ∀ i : grid0.Coords, ∀ a, (k0_off1 i) a + S1.size a ≤ S132.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S132) ![v0.toNat] S1.size (k0_off1_inb i)) numel1_S1
  let c0_i32 : BitVec 32 := 0#32
  ![v1.toNat, arg0.toNat]

def cc0_transform_4 (k0_off1_inb : ∀ i : grid0.Coords, ∀ a, (k0_off1 i) a + S1.size a ≤ S132.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S132) ![v0.toNat] S1.size (k0_off1_inb i)) numel1_S1
  let c0_i32 : BitVec 32 := 0#32
  let c0_i32_0 : BitVec 32 := 0#32
  ![arg0.toNat, c0_i32.toNat, v1.toNat]

def cc0_transform_5 (k0_off1_inb : ∀ i : grid0.Coords, ∀ a, (k0_off1 i) a + S1.size a ≤ S132.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S132) ![v0.toNat] S1.size (k0_off1_inb i)) numel1_S1
  let c0_i32 : BitVec 32 := 0#32
  let c0_i32_0 : BitVec 32 := 0#32
  ![arg0.toNat, c0_i32.toNat, v1.toNat]

def cc0_transform_7 (k0_off1_inb : ∀ i : grid0.Coords, ∀ a, (k0_off1 i) a + S1.size a ≤ S132.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S132) ![v0.toNat] S1.size (k0_off1_inb i)) numel1_S1
  let c0_i32 : BitVec 32 := 0#32
  let c0_i32_0 : BitVec 32 := 0#32
  ![arg0.toNat, v1.toNat, c0_i32.toNat]

def cc0_transform_8 (k0_off1_inb : ∀ i : grid0.Coords, ∀ a, (k0_off1 i) a + S1.size a ≤ S132.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S132) ![v0.toNat] S1.size (k0_off1_inb i)) numel1_S1
  let c0_i32 : BitVec 32 := 0#32
  let c0_i32_0 : BitVec 32 := 0#32
  ![arg0.toNat, v1.toNat, c0_i32.toNat]

abbrev stage0_0 : Fin 2 → Memref sig .tc .vmem S1x768x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x768x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1536x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1536x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x768x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x768x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AttnIdeal.lean ====
variable {F : FTy → Type} [FloatOps F] [Named F]
def κ : String → Option EReal := fun
  | "scale" => some (((Real.sqrt 192)⁻¹ : ℝ) : EReal)
  | "scale_log2e" => some (((Real.sqrt 192)⁻¹ * (Real.log 2)⁻¹ : ℝ) : EReal)
  | _ => none
-- ==== AttnRefIdeal.lean ====
abbrev S8x16400x256 : Shape := ⟨3, ![8, 16400, 256]⟩
abbrev S8x16400x128 : Shape := ⟨3, ![8, 16400, 128]⟩
abbrev S16400x1024 : Shape := ⟨2, ![16400, 1024]⟩
abbrev S16400 : Shape := ⟨1, ![16400]⟩
abbrev S8x16400x16400 : Shape := ⟨3, ![8, 16400, 16400]⟩
abbrev S_ : Shape := ⟨0, ![]⟩
abbrev S1x1x16400 : Shape := ⟨3, ![1, 1, 16400]⟩
abbrev S1x16400x1 : Shape := ⟨3, ![1, 16400, 1]⟩
abbrev S1x16400x16400 : Shape := ⟨3, ![1, 16400, 16400]⟩
abbrev S8x16400 : Shape := ⟨2, ![8, 16400]⟩
abbrev S8x16400x1 : Shape := ⟨3, ![8, 16400, 1]⟩
abbrev S8x128x16400 : Shape := ⟨3, ![8, 128, 16400]⟩
abbrev S16400x8x128 : Shape := ⟨3, ![16400, 8, 128]⟩
abbrev S8x496x256 : Shape := ⟨3, ![8, 496, 256]⟩
abbrev S8x16896x256 : Shape := ⟨3, ![8, 16896, 256]⟩
abbrev S8x496x128 : Shape := ⟨3, ![8, 496, 128]⟩
abbrev S8x16896x128 : Shape := ⟨3, ![8, 16896, 128]⟩

abbrev nBuf : Space → Nat
  | .hbm => 98
  | .vmem => 0
  | .smem => 0
  | _ => 0

abbrev bufTy : (tb : Table) → Fin (tcTables nBuf tb) → BufTy
  | .hbm, ⟨0, _⟩ => ⟨S8x16400x256, .f32⟩
  | .hbm, ⟨1, _⟩ => ⟨S8x16400x256, .f32⟩
  | .hbm, ⟨2, _⟩ => ⟨S8x16400x128, .f32⟩
  | .hbm, ⟨3, _⟩ => ⟨S16400x1024, .f32⟩
  | .hbm, ⟨4, _⟩ => ⟨S16400, .i32⟩
  | .hbm, ⟨5, _⟩ => ⟨S8x16400x16400, .f32⟩
  | .hbm, ⟨6, _⟩ => ⟨S_, .f32⟩
  | .hbm, ⟨7, _⟩ => ⟨S_, .f32⟩
  | .hbm, ⟨8, _⟩ => ⟨S8x16400x16400, .f32⟩
  | .hbm, ⟨9, _⟩ => ⟨S8x16400x16400, .f32⟩
  | .hbm, ⟨10, _⟩ => ⟨S1x1x16400, .i32⟩
  | .hbm, ⟨11, _⟩ => ⟨S1x16400x1, .i32⟩
  | .hbm, ⟨12, _⟩ => ⟨S1x16400x16400, .i32⟩
  | .hbm, ⟨13, _⟩ => ⟨S1x16400x16400, .i32⟩
  | .hbm, ⟨14, _⟩ => ⟨S1x16400x16400, .i1⟩
  | .hbm, ⟨15, _⟩ => ⟨S_, .f32⟩
  | .hbm, ⟨16, _⟩ => ⟨S_, .f32⟩
  | .hbm, ⟨17, _⟩ => ⟨S8x16400x16400, .i1⟩
  | .hbm, ⟨18, _⟩ => ⟨S8x16400x16400, .f32⟩
  | .hbm, ⟨19, _⟩ => ⟨S8x16400x16400, .f32⟩
  | .hbm, ⟨20, _⟩ => ⟨S_, .f32⟩
  | .hbm, ⟨21, _⟩ => ⟨S8x16400x16400, .f32⟩
  | .hbm, ⟨22, _⟩ => ⟨S_, .f32⟩
  | .hbm, ⟨23, _⟩ => ⟨S8x16400, .f32⟩
  | .hbm, ⟨24, _⟩ => ⟨S8x16400x1, .f32⟩
  | .hbm, ⟨25, _⟩ => ⟨S8x16400x16400, .f32⟩
  | .hbm, ⟨26, _⟩ => ⟨S8x16400x16400, .i1⟩
  | .hbm, ⟨27, _⟩ => ⟨S8x16400x16400, .f32⟩
  | .hbm, ⟨28, _⟩ => ⟨S_, .f32⟩
  | .hbm, ⟨29, _⟩ => ⟨S8x16400, .f32⟩
  | .hbm, ⟨30, _⟩ => ⟨S_, .f32⟩
  | .hbm, ⟨31, _⟩ => ⟨S8x16400, .f32⟩
  | .hbm, ⟨32, _⟩ => ⟨S8x16400, .f32⟩
  | .hbm, ⟨33, _⟩ => ⟨S_, .f32⟩
  | .hbm, ⟨34, _⟩ => ⟨S8x16400, .f32⟩
  | .hbm, ⟨35, _⟩ => ⟨S8x16400, .i1⟩
  | .hbm, ⟨36, _⟩ => ⟨S_, .f32⟩
  | .hbm, ⟨37, _⟩ => ⟨S8x16400, .f32⟩
  | .hbm, ⟨38, _⟩ => ⟨S8x16400, .i1⟩
  | .hbm, ⟨39, _⟩ => ⟨S_, .f32⟩
  | .hbm, ⟨40, _⟩ => ⟨S8x16400, .f32⟩
  | .hbm, ⟨41, _⟩ => ⟨S_, .f32⟩
  | .hbm, ⟨42, _⟩ => ⟨S8x16400, .f32⟩
  | .hbm, ⟨43, _⟩ => ⟨S_, .f32⟩
  | .hbm, ⟨44, _⟩ => ⟨S8x16400, .f32⟩
  | .hbm, ⟨45, _⟩ => ⟨S8x16400, .f32⟩
  | .hbm, ⟨46, _⟩ => ⟨S8x16400, .f32⟩
  | .hbm, ⟨47, _⟩ => ⟨S8x16400x1, .f32⟩
  | .hbm, ⟨48, _⟩ => ⟨S8x16400x16400, .f32⟩
  | .hbm, ⟨49, _⟩ => ⟨S8x16400x16400, .f32⟩
  | .hbm, ⟨50, _⟩ => ⟨S8x16400x16400, .f32⟩
  | .hbm, ⟨51, _⟩ => ⟨S_, .f32⟩
  | .hbm, ⟨52, _⟩ => ⟨S8x16400, .f32⟩
  | .hbm, ⟨53, _⟩ => ⟨S8x16400x1, .f32⟩
  | .hbm, ⟨54, _⟩ => ⟨S8x16400x16400, .f32⟩
  | .hbm, ⟨55, _⟩ => ⟨S8x16400x16400, .f32⟩
  | .hbm, ⟨56, _⟩ => ⟨S8x16400x1, .f32⟩
  | .hbm, ⟨57, _⟩ => ⟨S_, .f32⟩
  | .hbm, ⟨58, _⟩ => ⟨S8x16400x1, .f32⟩
  | .hbm, ⟨59, _⟩ => ⟨S8x16400x1, .f32⟩
  | .hbm, ⟨60, _⟩ => ⟨S8x128x16400, .f32⟩
  | .hbm, ⟨61, _⟩ => ⟨S16400x8x128, .f32⟩
  | .hbm, ⟨62, _⟩ => ⟨S16400x1024, .f32⟩
  | .hbm, ⟨63, _⟩ => ⟨S16400x8x128, .f32⟩
  | .hbm, ⟨64, _⟩ => ⟨S8x128x16400, .f32⟩
  | .hbm, ⟨65, _⟩ => ⟨S8x16400x16400, .f32⟩
  | .hbm, ⟨66, _⟩ => ⟨S8x128x16400, .f32⟩
  | .hbm, ⟨67, _⟩ => ⟨S8x16400x128, .f32⟩
  | .hbm, ⟨68, _⟩ => ⟨S8x16400x16400, .f32⟩
  | .hbm, ⟨69, _⟩ => ⟨S8x16400x16400, .f32⟩
  | .hbm, ⟨70, _⟩ => ⟨S8x16400x16400, .f32⟩
  | .hbm, ⟨71, _⟩ => ⟨S_, .f32⟩
  | .hbm, ⟨72, _⟩ => ⟨S8x16400, .f32⟩
  | .hbm, ⟨73, _⟩ => ⟨S8x16400x1, .f32⟩
  | .hbm, ⟨74, _⟩ => ⟨S8x16400x1, .f32⟩
  | .hbm, ⟨75, _⟩ => ⟨S8x16400x16400, .f32⟩
  | .hbm, ⟨76, _⟩ => ⟨S8x16400x16400, .f32⟩
  | .hbm, ⟨77, _⟩ => ⟨S_, .f32⟩
  | .hbm, ⟨78, _⟩ => ⟨S8x16400, .f32⟩
  | .hbm, ⟨79, _⟩ => ⟨S8x16400x16400, .f32⟩
  | .hbm, ⟨80, _⟩ => ⟨S8x16400x16400, .f32⟩
  | .hbm, ⟨81, _⟩ => ⟨S8x16400x16400, .f32⟩
  | .hbm, ⟨82, _⟩ => ⟨S_, .f32⟩
  | .hbm, ⟨83, _⟩ => ⟨S8x16400x16400, .f32⟩
  | .hbm, ⟨84, _⟩ => ⟨S8x16400x16400, .f32⟩
  | .hbm, ⟨85, _⟩ => ⟨S8x16400x16400, .f32⟩
  | .hbm, ⟨86, _⟩ => ⟨S8x16400x16400, .f32⟩
  | .hbm, ⟨87, _⟩ => ⟨S8x16400x256, .f32⟩
  | .hbm, ⟨88, _⟩ => ⟨S8x16400x256, .f32⟩
  | .hbm, ⟨89, _⟩ => ⟨S_, .f32⟩
  | .hbm, ⟨90, _⟩ => ⟨S8x496x256, .f32⟩
  | .hbm, ⟨91, _⟩ => ⟨S8x16896x256, .f32⟩
  | .hbm, ⟨92, _⟩ => ⟨S_, .f32⟩
  | .hbm, ⟨93, _⟩ => ⟨S8x496x256, .f32⟩
  | .hbm, ⟨94, _⟩ => ⟨S8x16896x256, .f32⟩
  | .hbm, ⟨95, _⟩ => ⟨S_, .f32⟩
  | .hbm, ⟨96, _⟩ => ⟨S8x496x128, .f32⟩
  | .hbm, ⟨97, _⟩ => ⟨S8x16896x128, .f32⟩
  | _, _ => ⟨S8x16400x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_call0_v0 : Ref sig .tc := ⟨.hbm, 16, rfl⟩
abbrev main_v10_1 : Ref sig .tc := ⟨.hbm, 17, rfl⟩
abbrev main_call0_v2 : Ref sig .tc := ⟨.hbm, 18, rfl⟩
abbrev main_v10_0 : Ref sig .tc := ⟨.hbm, 19, rfl⟩
abbrev main_call0_cst : Ref sig .tc := ⟨.hbm, 20, rfl⟩
abbrev main_v10_2 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_cst_3 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_cst_5 : Ref sig .tc := ⟨.hbm, 36, rfl⟩
abbrev main_v21 : Ref sig .tc := ⟨.hbm, 37, rfl⟩
abbrev main_v22 : Ref sig .tc := ⟨.hbm, 38, rfl⟩
abbrev main_cst_6 : Ref sig .tc := ⟨.hbm, 39, rfl⟩
abbrev main_v23 : Ref sig .tc := ⟨.hbm, 40, rfl⟩
abbrev main_cst_7 : Ref sig .tc := ⟨.hbm, 41, rfl⟩
abbrev main_v24 : Ref sig .tc := ⟨.hbm, 42, rfl⟩
abbrev main_cst_8 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_9 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_10 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_11 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_12 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_call1_cst : Ref sig .tc := ⟨.hbm, 82, rfl⟩
abbrev main_call1_v0 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_cst_13 : Ref sig .tc := ⟨.hbm, 89, rfl⟩
abbrev main_v64 : Ref sig .tc := ⟨.hbm, 90, rfl⟩
abbrev main_v65 : Ref sig .tc := ⟨.hbm, 91, rfl⟩
abbrev main_cst_14 : Ref sig .tc := ⟨.hbm, 92, rfl⟩
abbrev main_v66 : Ref sig .tc := ⟨.hbm, 93, rfl⟩
abbrev main_v67 : Ref sig .tc := ⟨.hbm, 94, rfl⟩
abbrev main_cst_15 : Ref sig .tc := ⟨.hbm, 95, rfl⟩
abbrev main_v68 : Ref sig .tc := ⟨.hbm, 96, rfl⟩
abbrev main_v69 : Ref sig .tc := ⟨.hbm, 97, rfl⟩

abbrev nD : Nat := 1
abbrev τ : Topo := Topo.v7x

variable {F : FTy → Type} [FloatOps F]
-- ==== Loss.lean ====
abbrev S16400x1024 : Shape := ⟨2, ![16400, 1024]⟩
abbrev S1x1024 : Shape := ⟨2, ![1, 1024]⟩
abbrev S16384x1024 : Shape := ⟨2, ![16384, 1024]⟩
abbrev S_ : Shape := ⟨0, ![]⟩
abbrev S496x1024 : Shape := ⟨2, ![496, 1024]⟩
abbrev S16896x1024 : Shape := ⟨2, ![16896, 1024]⟩
abbrev S1x128 : Shape := ⟨2, ![1, 128]⟩
abbrev S512x1024 : Shape := ⟨2, ![512, 1024]⟩
abbrev S16x1024 : Shape := ⟨2, ![16, 1024]⟩
abbrev S512 : Shape := ⟨1, ![512]⟩
abbrev S512x1 : Shape := ⟨2, ![512, 1]⟩
abbrev S1 : Shape := ⟨1, ![1]⟩
abbrev S1x1 : Shape := ⟨2, ![1, 1]⟩
abbrev S1024 : Shape := ⟨1, ![1024]⟩

abbrev nBuf : Space → Nat
  | .hbm => 14
  | .vmem => 15
  | .smem => 0
  | _ => 0

abbrev bufTy : (tb : Table) → Fin (tcTables nBuf tb) → BufTy
  | .hbm, ⟨0, _⟩ => ⟨S16400x1024, .f32⟩
  | .hbm, ⟨1, _⟩ => ⟨S16400x1024, .f32⟩
  | .hbm, ⟨2, _⟩ => ⟨S1x1024, .f32⟩
  | .hbm, ⟨3, _⟩ => ⟨S16384x1024, .f32⟩
  | .hbm, ⟨4, _⟩ => ⟨S_, .f32⟩
  | .hbm, ⟨5, _⟩ => ⟨S496x1024, .f32⟩
  | .hbm, ⟨6, _⟩ => ⟨S16896x1024, .f32⟩
  | .hbm, ⟨7, _⟩ => ⟨S_, .f32⟩
  | .hbm, ⟨8, _⟩ => ⟨S496x1024, .f32⟩
  | .hbm, ⟨9, _⟩ => ⟨S16896x1024, .f32⟩
  | .hbm, ⟨10, _⟩ => ⟨S1x128, .f32⟩
  | .hbm, ⟨11, _⟩ => ⟨S16896x1024, .f32⟩
  | .hbm, ⟨12, _⟩ => ⟨S16896x1024, .bf16⟩
  | .hbm, ⟨13, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S16x1024, .f32⟩
  | .local _ .vmem, ⟨6, _⟩ => ⟨S16x1024, .f32⟩
  | .local _ .vmem, ⟨7, _⟩ => ⟨S512x1024, .f32⟩
  | .local _ .vmem, ⟨8, _⟩ => ⟨S512x1024, .f32⟩
  | .local _ .vmem, ⟨9, _⟩ => ⟨S1x128, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S1x1024, .f32⟩
  | _, _ => ⟨S16400x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14

abbrev nD : Nat := 1
abbrev τ : Topo := Topo.v7x

variable {F : FTy → Type} [FloatOps F]

abbrev grid0 : Pipeline.Grid := ⟨1, ![33], ![false]⟩

def k0_cond1 (i : grid0.Coords) : BitVec 1 :=
  let arg0 : BitVec 32 := BitVec.ofNat 32 (i 0).val
  let c0_i32 : BitVec 32 := 0#32
  let v46 : BitVec 1 := Scalar.cmpi .eq arg0 c0_i32
  let v47 : BitVec 32 := Scalar.extui v46
  let c0_i32_16 : BitVec 32 := 0#32
  let v48 : BitVec 1 := Scalar.cmpi .ne v47 c0_i32_16
  v48

def k0_cond2 (i : grid0.Coords) : BitVec 1 :=
  let arg0 : BitVec 32 := BitVec.ofNat 32 (i 0).val
  let c0_i32 : BitVec 32 := 0#32
  let v46 : BitVec 1 := Scalar.cmpi .eq arg0 c0_i32
  let v_true : BitVec 1 := 1#1
  let v49 : BitVec 1 := Scalar.xori v46 v_true
  let v50 : BitVec 32 := Scalar.extui v49
  let c0_i32_17 : BitVec 32 := 0#32
  let v51 : BitVec 1 := Scalar.cmpi .ne v50 c0_i32_17
  v51

def k0_cond3 (i : grid0.Coords) : BitVec 1 :=
  let arg0 : BitVec 32 := BitVec.ofNat 32 (i 0).val
  let c0_i32_31 : BitVec 32 := 0#32
  let v87 : BitVec 1 := Scalar.cmpi .eq arg0 c0_i32_31
  let v88 : BitVec 32 := Scalar.extui v87
  let c0_i32_32 : BitVec 32 := 0#32
  let v89 : BitVec 1 := Scalar.cmpi .ne v88 c0_i32_32
  v89

def k0_cond4 (i : grid0.Coords) : BitVec 1 :=
  let arg0 : BitVec 32 := BitVec.ofNat 32 (i 0).val
  let c0_i32_31 : BitVec 32 := 0#32
  let v87 : BitVec 1 := Scalar.cmpi .eq arg0 c0_i32_31
  let true_33 : BitVec 1 := 1#1
  let v90 : BitVec 1 := Scalar.xori v87 true_33
  let v91 : BitVec 32 := Scalar.extui v90
  let c0_i32_34 : BitVec 32 := 0#32
  let v92 : BitVec 1 := Scalar.cmpi .ne v91 c0_i32_34
  v92

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let c1023_i32 : BitVec 32 := 1023#32
  let v2 : BitVec 32 := Scalar.maxsi c0_i32 v1
  let v3 : BitVec 32 := Scalar.minsi c1023_i32 v2
  let c0_i32_0 : BitVec 32 := 0#32
  let c0_i32_1 : BitVec 32 := 0#32
  ![v3.toNat, c0_i32_0.toNat]

def cc0_transform_4 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== LossRefIdeal.lean ====
abbrev S16400x1024 : Shape := ⟨2, ![16400, 1024]⟩
abbrev S1x1024 : Shape := ⟨2, ![1, 1024]⟩
abbrev S16384x1024 : Shape := ⟨2, ![16384, 1024]⟩
abbrev S1024 : Shape := ⟨1, ![1024]⟩
abbrev S_ : Shape := ⟨0, ![]⟩
abbrev S16400 : Shape := ⟨1, ![16400]⟩
abbrev S16400x1 : Shape := ⟨2, ![16400, 1]⟩
abbrev S16384 : Shape := ⟨1, ![16384]⟩
abbrev S1x128 : Shape := ⟨2, ![1, 128]⟩
abbrev S496x1024 : Shape := ⟨2, ![496, 1024]⟩
abbrev S16896x1024 : Shape := ⟨2, ![16896, 1024]⟩

abbrev nBuf : Space → Nat
  | .hbm => 87
  | .vmem => 0
  | .smem => 0
  | _ => 0

abbrev bufTy : (tb : Table) → Fin (tcTables nBuf tb) → BufTy
  | .hbm, ⟨0, _⟩ => ⟨S16400x1024, .f32⟩
  | .hbm, ⟨1, _⟩ => ⟨S16400x1024, .f32⟩
  | .hbm, ⟨2, _⟩ => ⟨S1x1024, .f32⟩
  | .hbm, ⟨3, _⟩ => ⟨S16384x1024, .f32⟩
  | .hbm, ⟨4, _⟩ => ⟨S1024, .f32⟩
  | .hbm, ⟨5, _⟩ => ⟨S16400x1024, .f32⟩
  | .hbm, ⟨6, _⟩ => ⟨S_, .f32⟩
  | .hbm, ⟨7, _⟩ => ⟨S16400x1024, .f32⟩
  | .hbm, ⟨8, _⟩ => ⟨S16400x1024, .f32⟩
  | .hbm, ⟨9, _⟩ => ⟨S_, .f32⟩
  | .hbm, ⟨10, _⟩ => ⟨S16400, .f32⟩
  | .hbm, ⟨11, _⟩ => ⟨S16400x1, .f32⟩
  | .hbm, ⟨12, _⟩ => ⟨S_, .f32⟩
  | .hbm, ⟨13, _⟩ => ⟨S16400x1, .f32⟩
  | .hbm, ⟨14, _⟩ => ⟨S16400x1, .f32⟩
  | .hbm, ⟨15, _⟩ => ⟨S_, .f32⟩
  | .hbm, ⟨16, _⟩ => ⟨S16400x1, .f32⟩
  | .hbm, ⟨17, _⟩ => ⟨S16400x1, .f32⟩
  | .hbm, ⟨18, _⟩ => ⟨S16400x1, .f32⟩
  | .hbm, ⟨19, _⟩ => ⟨S16400x1, .f32⟩
  | .hbm, ⟨20, _⟩ => ⟨S_, .f32⟩
  | .hbm, ⟨21, _⟩ => ⟨S16400x1, .f32⟩
  | .hbm, ⟨22, _⟩ => ⟨S16400x1, .f32⟩
  | .hbm, ⟨23, _⟩ => ⟨S16400x1024, .f32⟩
  | .hbm, ⟨24, _⟩ => ⟨S16400x1024, .f32⟩
  | .hbm, ⟨25, _⟩ => ⟨S1x1024, .f32⟩
  | .hbm, ⟨26, _⟩ => ⟨S16400x1024, .f32⟩
  | .hbm, ⟨27, _⟩ => ⟨S16400x1024, .f32⟩
  | .hbm, ⟨28, _⟩ => ⟨S16400x1024, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S_, .f32⟩
  | .hbm, ⟨33, _⟩ => ⟨S16384x1024, .f32⟩
  | .hbm, ⟨34, _⟩ => ⟨S16384x1024, .f32⟩
  | .hbm, ⟨35, _⟩ => ⟨S_, .f32⟩
  | .hbm, ⟨36, _⟩ => ⟨S16384, .f32⟩
  | .hbm, ⟨37, _⟩ => ⟨S_, .f32⟩
  | .hbm, ⟨38, _⟩ => ⟨S16384, .f32⟩
  | .hbm, ⟨39, _⟩ => ⟨S16384, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S16384, .f32⟩
  | .hbm, ⟨48, _⟩ => ⟨S_, .f32⟩
  | .hbm, ⟨49, _⟩ => ⟨S16384, .f32⟩
  | .hbm, ⟨50, _⟩ => ⟨S16384, .f32⟩
  | .hbm, ⟨51, _⟩ => ⟨S16384x1024, .f32⟩
  | .hbm, ⟨52, _⟩ => ⟨S16384x1024, .f32⟩
  | .hbm, ⟨53, _⟩ => ⟨S_, .f32⟩
  | .hbm, ⟨54, _⟩ => ⟨S16400x1024, .f32⟩
  | .hbm, ⟨55, _⟩ => ⟨S16400x1024, .f32⟩
  | .hbm, ⟨56, _⟩ => ⟨S_, .f32⟩
  | .hbm, ⟨57, _⟩ => ⟨S1024, .f32⟩
  | .hbm, ⟨58, _⟩ => ⟨S1x1024, .f32⟩
  | .hbm, ⟨59, _⟩ => ⟨S16400x1024, .f32⟩
  | .hbm, ⟨60, _⟩ => ⟨S16400x1024, .f32⟩
  | .hbm, ⟨61, _⟩ => ⟨S_, .f32⟩
  | .hbm, ⟨62, _⟩ => ⟨S1024, .f32⟩
  | .hbm, ⟨63, _⟩ => ⟨S16400x1024, .f32⟩
  | .hbm, ⟨64, _⟩ => ⟨S_, .f32⟩
  | .hbm, ⟨65, _⟩ => ⟨S16400, .f32⟩
  | .hbm, ⟨66, _⟩ => ⟨S16400x1, .f32⟩
  | .hbm, ⟨67, _⟩ => ⟨S16400x1024, .f32⟩
  | .hbm, ⟨68, _⟩ => ⟨S16400x1024, .f32⟩
  | .hbm, ⟨69, _⟩ => ⟨S16400x1, .f32⟩
  | .hbm, ⟨70, _⟩ => ⟨S_, .f32⟩
  | .hbm, ⟨71, _⟩ => ⟨S16400x1, .f32⟩
  | .hbm, ⟨72, _⟩ => ⟨S16400x1, .f32⟩
  | .hbm, ⟨73, _⟩ => ⟨S_, .f32⟩
  | .hbm, ⟨74, _⟩ => ⟨S16400, .f32⟩
  | .hbm, ⟨75, _⟩ => ⟨S16400x1024, .f32⟩
  | .hbm, ⟨76, _⟩ => ⟨S16400x1024, .f32⟩
  | .hbm, ⟨77, _⟩ => ⟨S16400x1024, .f32⟩
  | .hbm, ⟨78, _⟩ => ⟨S1x1024, .f32⟩
  | .hbm, ⟨79, _⟩ => ⟨S1x128, .f32⟩
  | .hbm, ⟨80, _⟩ => ⟨S_, .f32⟩
  | .hbm, ⟨81, _⟩ => ⟨S496x1024, .f32⟩
  | .hbm, ⟨82, _⟩ => ⟨S16896x1024, .f32⟩
  | .hbm, ⟨83, _⟩ => ⟨S16400x1024, .bf16⟩
  | .hbm, ⟨84, _⟩ => ⟨S_, .bf16⟩
  | .hbm, ⟨85, _⟩ => ⟨S496x1024, .bf16⟩
  | .hbm, ⟨86, _⟩ => ⟨S16896x1024, .bf16⟩
  | _, _ => ⟨S16400x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_cst_5 : Ref sig .tc := ⟨.hbm, 35, rfl⟩
abbrev main_v25 : Ref sig .tc := ⟨.hbm, 36, rfl⟩
abbrev main_cst_6 : Ref sig .tc := ⟨.hbm, 37, rfl⟩
abbrev main_v26 : Ref sig .tc := ⟨.hbm, 38, rfl⟩
abbrev main_v27 : Ref sig .tc := ⟨.hbm, 39, rfl⟩
abbrev main_cst_7 : Ref sig .tc := ⟨.hbm, 40, rfl⟩
abbrev main_v28 : Ref sig .tc := ⟨.hbm, 41, rfl⟩
abbrev main_cst_8 : Ref sig .tc := ⟨.hbm, 42, rfl⟩
abbrev main_v29 : Ref sig .tc := ⟨.hbm, 43, rfl⟩
abbrev main_cst_9 : Ref sig .tc := ⟨.hbm, 44, rfl⟩
abbrev main_cst_10 : Ref sig .tc := ⟨.hbm, 45, rfl⟩
abbrev main_v30 : Ref sig .tc := ⟨.hbm, 46, rfl⟩
abbrev main_v31 : Ref sig .tc := ⟨.hbm, 47, rfl⟩
abbrev main_cst_11 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_12 : Ref sig .tc := ⟨.hbm, 53, rfl⟩
abbrev main_v36 : Ref sig .tc := ⟨.hbm, 54, rfl⟩
abbrev main_v37 : Ref sig .tc := ⟨.hbm, 55, rfl⟩
abbrev main_cst_13 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_14 : Ref sig .tc := ⟨.hbm, 61, rfl⟩
abbrev main_v42 : Ref sig .tc := ⟨.hbm, 62, rfl⟩
abbrev main_v43 : Ref sig .tc := ⟨.hbm, 63, rfl⟩
abbrev main_cst_15 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_16 : Ref sig .tc := ⟨.hbm, 70, rfl⟩
abbrev main_v49 : Ref sig .tc := ⟨.hbm, 71, rfl⟩
abbrev main_v50 : Ref sig .tc := ⟨.hbm, 72, rfl⟩
abbrev main_cst_17 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_18 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_19 : Ref sig .tc := ⟨.hbm, 84, rfl⟩
abbrev main_v60 : Ref sig .tc := ⟨.hbm, 85, rfl⟩
abbrev main_v61 : Ref sig .tc := ⟨.hbm, 86, rfl⟩

abbrev nD : Nat := 1
abbrev τ : Topo := Topo.v7x

variable {F : FTy → Type} [FloatOps F]
-- ==== MlpResidual.lean ====
abbrev S16400x1024 : Shape := ⟨2, ![16400, 1024]⟩
abbrev S1x1024 : Shape := ⟨2, ![1, 1024]⟩
abbrev S1024 : Shape := ⟨1, ![1024]⟩
abbrev S_ : Shape := ⟨0, ![]⟩
abbrev S16400 : Shape := ⟨1, ![16400]⟩
abbrev S16400x1 : Shape := ⟨2, ![16400, 1]⟩
abbrev S496x1024 : Shape := ⟨2, ![496, 1024]⟩
abbrev S16896x1024 : Shape := ⟨2, ![16896, 1024]⟩
abbrev S768x1024 : Shape := ⟨2, ![768, 1024]⟩
abbrev S768 : Shape := ⟨1, ![768]⟩
abbrev S768x1 : Shape := ⟨2, ![768, 1]⟩

abbrev nBuf : Space → Nat
  | .hbm => 40
  | .vmem => 16
  | .smem => 0
  | _ => 0

abbrev bufTy : (tb : Table) → Fin (tcTables nBuf tb) → BufTy
  | .hbm, ⟨0, _⟩ => ⟨S16400x1024, .f32⟩
  | .hbm, ⟨1, _⟩ => ⟨S16400x1024, .f32⟩
  | .hbm, ⟨2, _⟩ => ⟨S1x1024, .f32⟩
  | .hbm, ⟨3, _⟩ => ⟨S1x1024, .f32⟩
  | .hbm, ⟨4, _⟩ => ⟨S16400x1024, .f32⟩
  | .hbm, ⟨5, _⟩ => ⟨S16400x1024, .f32⟩
  | .hbm, ⟨6, _⟩ => ⟨S1024, .f32⟩
  | .hbm, ⟨7, _⟩ => ⟨S16400x1024, .f32⟩
  | .hbm, ⟨8, _⟩ => ⟨S_, .f32⟩
  | .hbm, ⟨9, _⟩ => ⟨S16400, .f32⟩
  | .hbm, ⟨10, _⟩ => ⟨S16400x1, .f32⟩
  | .hbm, ⟨11, _⟩ => ⟨S_, .f32⟩
  | .hbm, ⟨12, _⟩ => ⟨S16400x1, .f32⟩
  | .hbm, ⟨13, _⟩ => ⟨S16400x1, .f32⟩
  | .hbm, ⟨14, _⟩ => ⟨S_, .f32⟩
  | .hbm, ⟨15, _⟩ => ⟨S16400x1, .f32⟩
  | .hbm, ⟨16, _⟩ => ⟨S16400x1, .f32⟩
  | .hbm, ⟨17, _⟩ => ⟨S16400x1, .f32⟩
  | .hbm, ⟨18, _⟩ => ⟨S16400x1024, .f32⟩
  | .hbm, ⟨19, _⟩ => ⟨S16400x1024, .f32⟩
  | .hbm, ⟨20, _⟩ => ⟨S1x1024, .f32⟩
  | .hbm, ⟨21, _⟩ => ⟨S16400x1024, .f32⟩
  | .hbm, ⟨22, _⟩ => ⟨S16400x1024, .f32⟩
  | .hbm, ⟨23, _⟩ => ⟨S16400x1024, .f32⟩
  | .hbm, ⟨24, _⟩ => ⟨S_, .f32⟩
  | .hbm, ⟨25, _⟩ => ⟨S496x1024, .f32⟩
  | .hbm, ⟨26, _⟩ => ⟨S16896x1024, .f32⟩
  | .hbm, ⟨27, _⟩ => ⟨S_, .f32⟩
  | .hbm, ⟨28, _⟩ => ⟨S496x1024, .f32⟩
  | .hbm, ⟨29, _⟩ => ⟨S16896x1024, .f32⟩
  | .hbm, ⟨30, _⟩ => ⟨S_, .f32⟩
  | .hbm, ⟨31, _⟩ => ⟨S496x1024, .f32⟩
  | .hbm, ⟨32, _⟩ => ⟨S16896x1024, .f32⟩
  | .hbm, ⟨33, _⟩ => ⟨S_, .f32⟩
  | .hbm, ⟨34, _⟩ => ⟨S496x1024, .f32⟩
  | .hbm, ⟨35, _⟩ => ⟨S16896x1024, .f32⟩
  | .hbm, ⟨36, _⟩ => ⟨S16896x1024, .f32⟩
  | .hbm, ⟨37, _⟩ => ⟨S16896x1024, .bf16⟩
  | .hbm, ⟨38, _⟩ => ⟨S1x1024, .f32⟩
  | .hbm, ⟨39, _⟩ => ⟨S1x1024, .f32⟩
  | .local _ .vmem, ⟨0, _⟩ => ⟨S768x1024, .f32⟩
  | .local _ .vmem, ⟨1, _⟩ => ⟨S768x1024, .f32⟩
  | .local _ .vmem, ⟨2, _⟩ => ⟨S768x1024, .f32⟩
  | .local _ .vmem, ⟨3, _⟩ => ⟨S768x1024, .f32⟩
  | .local _ .vmem, ⟨4, _⟩ => ⟨S768x1024, .f32⟩
  | .local _ .vmem, ⟨5, _⟩ => ⟨S768x1024, .f32⟩
  | .local _ .vmem, ⟨6, _⟩ => ⟨S1x1024, .f32⟩
  | .local _ .vmem, ⟨7, _⟩ => ⟨S768x1024, .f32⟩
  | .local _ .vmem, ⟨8, _⟩ => ⟨S768x1024, .f32⟩
  | .local _ .vmem, ⟨9, _⟩ => ⟨S1x1024, .f32⟩
  | .local _ .vmem, ⟨10, _⟩ => ⟨S768x1024, .f32⟩
  | .local _ .vmem, ⟨11, _⟩ => ⟨S768x1024, .f32⟩
  | .local _ .vmem, ⟨12, _⟩ => ⟨S768x1024, .bf16⟩
  | .local _ .vmem, ⟨13, _⟩ => ⟨S768x1024, .bf16⟩
  | .local _ .vmem, ⟨14, _⟩ => ⟨S1x1024, .f32⟩
  | .local _ .vmem, ⟨15, _⟩ => ⟨S1x1024, .f32⟩
  | _, _ => ⟨S16400x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_cst_5 : Ref sig .tc := ⟨.hbm, 33, rfl⟩
abbrev main_v21 : Ref sig .tc := ⟨.hbm, 34, rfl⟩
abbrev main_v22 : Ref sig .tc := ⟨.hbm, 35, rfl⟩
abbrev main_v23_0 : Ref sig .tc := ⟨.hbm, 36, rfl⟩
abbrev main_v23_1 : Ref sig .tc := ⟨.hbm, 37, rfl⟩
abbrev main_v23_2 : Ref sig .tc := ⟨.hbm, 38, rfl⟩
abbrev main_v23_3 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![22], ![false]⟩

def k0_cond1 (i : grid0.Coords) : BitVec 1 :=
  let arg0 : BitVec 32 := BitVec.ofNat 32 (i 0).val
  let c0_i32 : BitVec 32 := 0#32
  let v72 : BitVec 1 := Scalar.cmpi .eq arg0 c0_i32
  let v73 : BitVec 32 := Scalar.extui v72
  let c0_i32_26 : BitVec 32 := 0#32
  let v74 : BitVec 1 := Scalar.cmpi .ne v73 c0_i32_26
  v74

def k0_cond2 (i : grid0.Coords) : BitVec 1 :=
  let arg0 : BitVec 32 := BitVec.ofNat 32 (i 0).val
  let c0_i32 : BitVec 32 := 0#32
  let v72 : BitVec 1 := Scalar.cmpi .eq arg0 c0_i32
  let v_true : BitVec 1 := 1#1
  let v75 : BitVec 1 := Scalar.xori v72 v_true
  let v76 : BitVec 32 := Scalar.extui v75
  let c0_i32_27 : BitVec 32 := 0#32
  let v77 : BitVec 1 := Scalar.cmpi .ne v76 c0_i32_27
  v77

def k0_cond3 (i : grid0.Coords) : BitVec 1 :=
  let arg0 : BitVec 32 := BitVec.ofNat 32 (i 0).val
  let c0_i32_28 : BitVec 32 := 0#32
  let v78 : BitVec 1 := Scalar.cmpi .eq arg0 c0_i32_28
  let v79 : BitVec 32 := Scalar.extui v78
  let c0_i32_29 : BitVec 32 := 0#32
  let v80 : BitVec 1 := Scalar.cmpi .ne v79 c0_i32_29
  v80

def k0_cond4 (i : grid0.Coords) : BitVec 1 :=
  let arg0 : BitVec 32 := BitVec.ofNat 32 (i 0).val
  let c0_i32_28 : BitVec 32 := 0#32
  let v78 : BitVec 1 := Scalar.cmpi .eq arg0 c0_i32_28
  let true_30 : BitVec 1 := 1#1
  let v81 : BitVec 1 := Scalar.xori v78 true_30
  let v82 : BitVec 32 := Scalar.extui v81
  let c0_i32_31 : BitVec 32 := 0#32
  let v83 : BitVec 1 := Scalar.cmpi .ne v82 c0_i32_31
  v83

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S768x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S768x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S768x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S768x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== MlpResidualRefIdeal.lean ====
abbrev S16400x1024 : Shape := ⟨2, ![16400, 1024]⟩
abbrev S1x1024 : Shape := ⟨2, ![1, 1024]⟩
abbrev S1024 : Shape := ⟨1, ![1024]⟩
abbrev S_ : Shape := ⟨0, ![]⟩
abbrev S16400 : Shape := ⟨1, ![16400]⟩
abbrev S16400x1 : Shape := ⟨2, ![16400, 1]⟩
abbrev S496x1024 : Shape := ⟨2, ![496, 1024]⟩
abbrev S16896x1024 : Shape := ⟨2, ![16896, 1024]⟩

abbrev nBuf : Space → Nat
  | .hbm => 112
  | .vmem => 0
  | .smem => 0
  | _ => 0

abbrev bufTy : (tb : Table) → Fin (tcTables nBuf tb) → BufTy
  | .hbm, ⟨0, _⟩ => ⟨S16400x1024, .f32⟩
  | .hbm, ⟨1, _⟩ => ⟨S16400x1024, .f32⟩
  | .hbm, ⟨2, _⟩ => ⟨S1x1024, .f32⟩
  | .hbm, ⟨3, _⟩ => ⟨S1x1024, .f32⟩
  | .hbm, ⟨4, _⟩ => ⟨S16400x1024, .f32⟩
  | .hbm, ⟨5, _⟩ => ⟨S16400x1024, .f32⟩
  | .hbm, ⟨6, _⟩ => ⟨S1024, .f32⟩
  | .hbm, ⟨7, _⟩ => ⟨S16400x1024, .f32⟩
  | .hbm, ⟨8, _⟩ => ⟨S_, .f32⟩
  | .hbm, ⟨9, _⟩ => ⟨S16400x1024, .f32⟩
  | .hbm, ⟨10, _⟩ => ⟨S16400x1024, .f32⟩
  | .hbm, ⟨11, _⟩ => ⟨S_, .f32⟩
  | .hbm, ⟨12, _⟩ => ⟨S16400, .f32⟩
  | .hbm, ⟨13, _⟩ => ⟨S16400x1, .f32⟩
  | .hbm, ⟨14, _⟩ => ⟨S_, .f32⟩
  | .hbm, ⟨15, _⟩ => ⟨S16400x1, .f32⟩
  | .hbm, ⟨16, _⟩ => ⟨S16400x1, .f32⟩
  | .hbm, ⟨17, _⟩ => ⟨S_, .f32⟩
  | .hbm, ⟨18, _⟩ => ⟨S16400x1, .f32⟩
  | .hbm, ⟨19, _⟩ => ⟨S16400x1, .f32⟩
  | .hbm, ⟨20, _⟩ => ⟨S16400x1, .f32⟩
  | .hbm, ⟨21, _⟩ => ⟨S16400x1, .f32⟩
  | .hbm, ⟨22, _⟩ => ⟨S_, .f32⟩
  | .hbm, ⟨23, _⟩ => ⟨S16400x1, .f32⟩
  | .hbm, ⟨24, _⟩ => ⟨S16400x1, .f32⟩
  | .hbm, ⟨25, _⟩ => ⟨S16400x1024, .f32⟩
  | .hbm, ⟨26, _⟩ => ⟨S16400x1024, .f32⟩
  | .hbm, ⟨27, _⟩ => ⟨S1x1024, .f32⟩
  | .hbm, ⟨28, _⟩ => ⟨S16400x1024, .f32⟩
  | .hbm, ⟨29, _⟩ => ⟨S16400x1024, .f32⟩
  | .hbm, ⟨30, _⟩ => ⟨S16400x1024, .f32⟩
  | .hbm, ⟨31, _⟩ => ⟨S1024, .f32⟩
  | .hbm, ⟨32, _⟩ => ⟨S16400x1024, .f32⟩
  | .hbm, ⟨33, _⟩ => ⟨S_, .f32⟩
  | .hbm, ⟨34, _⟩ => ⟨S16400x1024, .f32⟩
  | .hbm, ⟨35, _⟩ => ⟨S16400x1024, .f32⟩
  | .hbm, ⟨36, _⟩ => ⟨S_, .f32⟩
  | .hbm, ⟨37, _⟩ => ⟨S16400, .f32⟩
  | .hbm, ⟨38, _⟩ => ⟨S16400x1, .f32⟩
  | .hbm, ⟨39, _⟩ => ⟨S_, .f32⟩
  | .hbm, ⟨40, _⟩ => ⟨S16400x1, .f32⟩
  | .hbm, ⟨41, _⟩ => ⟨S16400x1, .f32⟩
  | .hbm, ⟨42, _⟩ => ⟨S_, .f32⟩
  | .hbm, ⟨43, _⟩ => ⟨S16400x1, .f32⟩
  | .hbm, ⟨44, _⟩ => ⟨S16400x1, .f32⟩
  | .hbm, ⟨45, _⟩ => ⟨S16400x1, .f32⟩
  | .hbm, ⟨46, _⟩ => ⟨S16400x1, .f32⟩
  | .hbm, ⟨47, _⟩ => ⟨S_, .f32⟩
  | .hbm, ⟨48, _⟩ => ⟨S16400x1, .f32⟩
  | .hbm, ⟨49, _⟩ => ⟨S16400x1, .f32⟩
  | .hbm, ⟨50, _⟩ => ⟨S16400x1024, .f32⟩
  | .hbm, ⟨51, _⟩ => ⟨S16400x1024, .f32⟩
  | .hbm, ⟨52, _⟩ => ⟨S1x1024, .f32⟩
  | .hbm, ⟨53, _⟩ => ⟨S16400x1024, .f32⟩
  | .hbm, ⟨54, _⟩ => ⟨S16400x1024, .f32⟩
  | .hbm, ⟨55, _⟩ => ⟨S16400x1024, .f32⟩
  | .hbm, ⟨56, _⟩ => ⟨S_, .f32⟩
  | .hbm, ⟨57, _⟩ => ⟨S1024, .f32⟩
  | .hbm, ⟨58, _⟩ => ⟨S1x1024, .f32⟩
  | .hbm, ⟨59, _⟩ => ⟨S16400x1024, .f32⟩
  | .hbm, ⟨60, _⟩ => ⟨S16400x1024, .f32⟩
  | .hbm, ⟨61, _⟩ => ⟨S_, .f32⟩
  | .hbm, ⟨62, _⟩ => ⟨S1024, .f32⟩
  | .hbm, ⟨63, _⟩ => ⟨S16400x1024, .f32⟩
  | .hbm, ⟨64, _⟩ => ⟨S_, .f32⟩
  | .hbm, ⟨65, _⟩ => ⟨S16400, .f32⟩
  | .hbm, ⟨66, _⟩ => ⟨S16400x1, .f32⟩
  | .hbm, ⟨67, _⟩ => ⟨S16400x1024, .f32⟩
  | .hbm, ⟨68, _⟩ => ⟨S16400x1024, .f32⟩
  | .hbm, ⟨69, _⟩ => ⟨S16400x1024, .f32⟩
  | .hbm, ⟨70, _⟩ => ⟨S16400x1, .f32⟩
  | .hbm, ⟨71, _⟩ => ⟨S_, .f32⟩
  | .hbm, ⟨72, _⟩ => ⟨S16400x1, .f32⟩
  | .hbm, ⟨73, _⟩ => ⟨S16400x1, .f32⟩
  | .hbm, ⟨74, _⟩ => ⟨S_, .f32⟩
  | .hbm, ⟨75, _⟩ => ⟨S16400, .f32⟩
  | .hbm, ⟨76, _⟩ => ⟨S16400x1024, .f32⟩
  | .hbm, ⟨77, _⟩ => ⟨S16400x1024, .f32⟩
  | .hbm, ⟨78, _⟩ => ⟨S16400x1024, .f32⟩
  | .hbm, ⟨79, _⟩ => ⟨S1x1024, .f32⟩
  | .hbm, ⟨80, _⟩ => ⟨S16400x1024, .f32⟩
  | .hbm, ⟨81, _⟩ => ⟨S16400x1024, .f32⟩
  | .hbm, ⟨82, _⟩ => ⟨S_, .f32⟩
  | .hbm, ⟨83, _⟩ => ⟨S1024, .f32⟩
  | .hbm, ⟨84, _⟩ => ⟨S1x1024, .f32⟩
  | .hbm, ⟨85, _⟩ => ⟨S16400x1024, .f32⟩
  | .hbm, ⟨86, _⟩ => ⟨S16400x1024, .f32⟩
  | .hbm, ⟨87, _⟩ => ⟨S_, .f32⟩
  | .hbm, ⟨88, _⟩ => ⟨S1024, .f32⟩
  | .hbm, ⟨89, _⟩ => ⟨S16400x1024, .f32⟩
  | .hbm, ⟨90, _⟩ => ⟨S_, .f32⟩
  | .hbm, ⟨91, _⟩ => ⟨S16400, .f32⟩
  | .hbm, ⟨92, _⟩ => ⟨S16400x1, .f32⟩
  | .hbm, ⟨93, _⟩ => ⟨S16400x1024, .f32⟩
  | .hbm, ⟨94, _⟩ => ⟨S16400x1024, .f32⟩
  | .hbm, ⟨95, _⟩ => ⟨S16400x1, .f32⟩
  | .hbm, ⟨96, _⟩ => ⟨S_, .f32⟩
  | .hbm, ⟨97, _⟩ => ⟨S16400x1, .f32⟩
  | .hbm, ⟨98, _⟩ => ⟨S16400x1, .f32⟩
  | .hbm, ⟨99, _⟩ => ⟨S_, .f32⟩
  | .hbm, ⟨100, _⟩ => ⟨S16400, .f32⟩
  | .hbm, ⟨101, _⟩ => ⟨S16400x1024, .f32⟩
  | .hbm, ⟨102, _⟩ => ⟨S16400x1024, .f32⟩
  | .hbm, ⟨103, _⟩ => ⟨S16400x1024, .f32⟩
  | .hbm, ⟨104, _⟩ => ⟨S1x1024, .f32⟩
  | .hbm, ⟨105, _⟩ => ⟨S_, .f32⟩
  | .hbm, ⟨106, _⟩ => ⟨S496x1024, .f32⟩
  | .hbm, ⟨107, _⟩ => ⟨S16896x1024, .f32⟩
  | .hbm, ⟨108, _⟩ => ⟨S16400x1024, .bf16⟩
  | .hbm, ⟨109, _⟩ => ⟨S_, .bf16⟩
  | .hbm, ⟨110, _⟩ => ⟨S496x1024, .bf16⟩
  | .hbm, ⟨111, _⟩ => ⟨S16896x1024, .bf16⟩
  | _, _ => ⟨S16400x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_cst_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_3 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_cst_5 : Ref sig .tc := ⟨.hbm, 36, rfl⟩
abbrev main_v24 : Ref sig .tc := ⟨.hbm, 37, rfl⟩
abbrev main_v25 : Ref sig .tc := ⟨.hbm, 38, rfl⟩
abbrev main_cst_6 : Ref sig .tc := ⟨.hbm, 39, rfl⟩
abbrev main_v26 : Ref sig .tc := ⟨.hbm, 40, rfl⟩
abbrev main_v27 : Ref sig .tc := ⟨.hbm, 41, rfl⟩
abbrev main_cst_7 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_8 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_9 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_10 : Ref sig .tc := ⟨.hbm, 61, rfl⟩
abbrev main_v44 : Ref sig .tc := ⟨.hbm, 62, rfl⟩
abbrev main_v45 : Ref sig .tc := ⟨.hbm, 63, rfl⟩
abbrev main_cst_11 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_12 : Ref sig .tc := ⟨.hbm, 71, rfl⟩
abbrev main_v52 : Ref sig .tc := ⟨.hbm, 72, rfl⟩
abbrev main_v53 : Ref sig .tc := ⟨.hbm, 73, rfl⟩
abbrev main_cst_13 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_cst_14 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_cst_15 : Ref sig .tc := ⟨.hbm, 87, rfl⟩
abbrev main_v65 : Ref sig .tc := ⟨.hbm, 88, rfl⟩
abbrev main_v66 : Ref sig .tc := ⟨.hbm, 89, rfl⟩
abbrev main_cst_16 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_cst_17 : Ref sig .tc := ⟨.hbm, 96, rfl⟩
abbrev main_v72 : Ref sig .tc := ⟨.hbm, 97, rfl⟩
abbrev main_v73 : Ref sig .tc := ⟨.hbm, 98, rfl⟩
abbrev main_cst_18 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_cst_19 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_cst_20 : Ref sig .tc := ⟨.hbm, 109, rfl⟩
abbrev main_v82 : Ref sig .tc := ⟨.hbm, 110, rfl⟩
abbrev main_v83 : Ref sig .tc := ⟨.hbm, 111, rfl⟩

abbrev nD : Nat := 1
abbrev τ : Topo := Topo.v7x

variable {F : FTy → Type} [FloatOps F]
-- ==== Proj.lean ====
abbrev S16400x384 : Shape := ⟨2, ![16400, 384]⟩
abbrev S16400x256 : Shape := ⟨2, ![16400, 256]⟩
abbrev S16400x16 : Shape := ⟨2, ![16400, 16]⟩
abbrev S1x384 : Shape := ⟨2, ![1, 384]⟩
abbrev S1x256 : Shape := ⟨2, ![1, 256]⟩
abbrev S1x16 : Shape := ⟨2, ![1, 16]⟩
abbrev S16400x64 : Shape := ⟨2, ![16400, 64]⟩
abbrev S16400x1024 : Shape := ⟨2, ![16400, 1024]⟩
abbrev S16400x512 : Shape := ⟨2, ![16400, 512]⟩
abbrev S_ : Shape := ⟨0, ![]⟩
abbrev S16400x128 : Shape := ⟨2, ![16400, 128]⟩
abbrev S16400x2800 : Shape := ⟨2, ![16400, 2800]⟩
abbrev S16400x3584 : Shape := ⟨2, ![16400, 3584]⟩
abbrev S496x3584 : Shape := ⟨2, ![496, 3584]⟩
abbrev S16896x3584 : Shape := ⟨2, ![16896, 3584]⟩
abbrev S496x384 : Shape := ⟨2, ![496, 384]⟩
abbrev S16896x384 : Shape := ⟨2, ![16896, 384]⟩
abbrev S496x256 : Shape := ⟨2, ![496, 256]⟩
abbrev S16896x256 : Shape := ⟨2, ![16896, 256]⟩
abbrev S496x128 : Shape := ⟨2, ![496, 128]⟩
abbrev S16896x128 : Shape := ⟨2, ![16896, 128]⟩
abbrev S16400x112 : Shape := ⟨2, ![16400, 112]⟩
abbrev S1x112 : Shape := ⟨2, ![1, 112]⟩
abbrev S1x128 : Shape := ⟨2, ![1, 128]⟩
abbrev S496x1024 : Shape := ⟨2, ![496, 1024]⟩
abbrev S16896x1024 : Shape := ⟨2, ![16896, 1024]⟩
abbrev S496x512 : Shape := ⟨2, ![496, 512]⟩
abbrev S16896x512 : Shape := ⟨2, ![16896, 512]⟩
abbrev S768x256 : Shape := ⟨2, ![768, 256]⟩
abbrev S768x384 : Shape := ⟨2, ![768, 384]⟩
abbrev S768x128 : Shape := ⟨2, ![768, 128]⟩
abbrev S768x1024 : Shape := ⟨2, ![768, 1024]⟩
abbrev S768x512 : Shape := ⟨2, ![768, 512]⟩
abbrev S768x3584 : Shape := ⟨2, ![768, 3584]⟩
abbrev S768 : Shape := ⟨1, ![768]⟩
abbrev S768x1 : Shape := ⟨2, ![768, 1]⟩
abbrev S256 : Shape := ⟨1, ![256]⟩
abbrev S384 : Shape := ⟨1, ![384]⟩
abbrev S128 : Shape := ⟨1, ![128]⟩

abbrev nBuf : Space → Nat
  | .hbm => 55
  | .vmem => 28
  | .smem => 0
  | _ => 0

abbrev bufTy : (tb : Table) → Fin (tcTables nBuf tb) → BufTy
  | .hbm, ⟨0, _⟩ => ⟨S16400x384, .f32⟩
  | .hbm, ⟨1, _⟩ => ⟨S16400x256, .f32⟩
  | .hbm, ⟨2, _⟩ => ⟨S16400x16, .f32⟩
  | .hbm, ⟨3, _⟩ => ⟨S1x384, .f32⟩
  | .hbm, ⟨4, _⟩ => ⟨S1x256, .f32⟩
  | .hbm, ⟨5, _⟩ => ⟨S1x16, .f32⟩
  | .hbm, ⟨6, _⟩ => ⟨S16400x384, .f32⟩
  | .hbm, ⟨7, _⟩ => ⟨S16400x256, .f32⟩
  | .hbm, ⟨8, _⟩ => ⟨S16400x64, .f32⟩
  | .hbm, ⟨9, _⟩ => ⟨S16400x16, .f32⟩
  | .hbm, ⟨10, _⟩ => ⟨S16400x1024, .f32⟩
  | .hbm, ⟨11, _⟩ => ⟨S16400x1024, .f32⟩
  | .hbm, ⟨12, _⟩ => ⟨S16400x512, .f32⟩
  | .hbm, ⟨13, _⟩ => ⟨S_, .f32⟩
  | .hbm, ⟨14, _⟩ => ⟨S16400x128, .f32⟩
  | .hbm, ⟨15, _⟩ => ⟨S_, .f32⟩
  | .hbm, ⟨16, _⟩ => ⟨S16400x2800, .f32⟩
  | .hbm, ⟨17, _⟩ => ⟨S16400x3584, .f32⟩
  | .hbm, ⟨18, _⟩ => ⟨S_, .f32⟩
  | .hbm, ⟨19, _⟩ => ⟨S496x3584, .f32⟩
  | .hbm, ⟨20, _⟩ => ⟨S16896x3584, .f32⟩
  | .hbm, ⟨21, _⟩ => ⟨S_, .f32⟩
  | .hbm, ⟨22, _⟩ => ⟨S496x384, .f32⟩
  | .hbm, ⟨23, _⟩ => ⟨S16896x384, .f32⟩
  | .hbm, ⟨24, _⟩ => ⟨S_, .f32⟩
  | .hbm, ⟨25, _⟩ => ⟨S496x256, .f32⟩
  | .hbm, ⟨26, _⟩ => ⟨S16896x256, .f32⟩
  | .hbm, ⟨27, _⟩ => ⟨S_, .f32⟩
  | .hbm, ⟨28, _⟩ => ⟨S16400x64, .f32⟩
  | .hbm, ⟨29, _⟩ => ⟨S16400x128, .f32⟩
  | .hbm, ⟨30, _⟩ => ⟨S_, .f32⟩
  | .hbm, ⟨31, _⟩ => ⟨S496x128, .f32⟩
  | .hbm, ⟨32, _⟩ => ⟨S16896x128, .f32⟩
  | .hbm, ⟨33, _⟩ => ⟨S_, .f32⟩
  | .hbm, ⟨34, _⟩ => ⟨S16400x112, .f32⟩
  | .hbm, ⟨35, _⟩ => ⟨S16400x128, .f32⟩
  | .hbm, ⟨36, _⟩ => ⟨S_, .f32⟩
  | .hbm, ⟨37, _⟩ => ⟨S496x128, .f32⟩
  | .hbm, ⟨38, _⟩ => ⟨S16896x128, .f32⟩
  | .hbm, ⟨39, _⟩ => ⟨S_, .f32⟩
  | .hbm, ⟨40, _⟩ => ⟨S1x112, .f32⟩
  | .hbm, ⟨41, _⟩ => ⟨S1x128, .f32⟩
  | .hbm, ⟨42, _⟩ => ⟨S_, .f32⟩
  | .hbm, ⟨43, _⟩ => ⟨S496x1024, .f32⟩
  | .hbm, ⟨44, _⟩ => ⟨S16896x1024, .f32⟩
  | .hbm, ⟨45, _⟩ => ⟨S_, .f32⟩
  | .hbm, ⟨46, _⟩ => ⟨S496x1024, .f32⟩
  | .hbm, ⟨47, _⟩ => ⟨S16896x1024, .f32⟩
  | .hbm, ⟨48, _⟩ => ⟨S_, .f32⟩
  | .hbm, ⟨49, _⟩ => ⟨S496x512, .f32⟩
  | .hbm, ⟨50, _⟩ => ⟨S16896x512, .f32⟩
  | .hbm, ⟨51, _⟩ => ⟨S16896x3584, .bf16⟩
  | .hbm, ⟨52, _⟩ => ⟨S1x384, .f32⟩
  | .hbm, ⟨53, _⟩ => ⟨S1x256, .f32⟩
  | .hbm, ⟨54, _⟩ => ⟨S1x128, .f32⟩
  | .local _ .vmem, ⟨0, _⟩ => ⟨S768x256, .f32⟩
  | .local _ .vmem, ⟨1, _⟩ => ⟨S768x256, .f32⟩
  | .local _ .vmem, ⟨2, _⟩ => ⟨S768x384, .f32⟩
  | .local _ .vmem, ⟨3, _⟩ => ⟨S768x384, .f32⟩
  | .local _ .vmem, ⟨4, _⟩ => ⟨S768x128, .f32⟩
  | .local _ .vmem, ⟨5, _⟩ => ⟨S768x128, .f32⟩
  | .local _ .vmem, ⟨6, _⟩ => ⟨S768x384, .f32⟩
  | .local _ .vmem, ⟨7, _⟩ => ⟨S768x384, .f32⟩
  | .local _ .vmem, ⟨8, _⟩ => ⟨S768x256, .f32⟩
  | .local _ .vmem, ⟨9, _⟩ => ⟨S768x256, .f32⟩
  | .local _ .vmem, ⟨10, _⟩ => ⟨S1x384, .f32⟩
  | .local _ .vmem, ⟨11, _⟩ => ⟨S1x256, .f32⟩
  | .local _ .vmem, ⟨12, _⟩ => ⟨S768x128, .f32⟩
  | .local _ .vmem, ⟨13, _⟩ => ⟨S768x128, .f32⟩
  | .local _ .vmem, ⟨14, _⟩ => ⟨S768x128, .f32⟩
  | .local _ .vmem, ⟨15, _⟩ => ⟨S768x128, .f32⟩
  | .local _ .vmem, ⟨16, _⟩ => ⟨S1x128, .f32⟩
  | .local _ .vmem, ⟨17, _⟩ => ⟨S768x1024, .f32⟩
  | .local _ .vmem, ⟨18, _⟩ => ⟨S768x1024, .f32⟩
  | .local _ .vmem, ⟨19, _⟩ => ⟨S768x1024, .f32⟩
  | .local _ .vmem, ⟨20, _⟩ => ⟨S768x1024, .f32⟩
  | .local _ .vmem, ⟨21, _⟩ => ⟨S768x512, .f32⟩
  | .local _ .vmem, ⟨22, _⟩ => ⟨S768x512, .f32⟩
  | .local _ .vmem, ⟨23, _⟩ => ⟨S768x3584, .bf16⟩
  | .local _ .vmem, ⟨24, _⟩ => ⟨S768x3584, .bf16⟩
  | .local _ .vmem, ⟨25, _⟩ => ⟨S1x384, .f32⟩
  | .local _ .vmem, ⟨26, _⟩ => ⟨S1x256, .f32⟩
  | .local _ .vmem, ⟨27, _⟩ => ⟨S1x128, .f32⟩
  | _, _ => ⟨S16400x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_cst_0 : Ref sig .tc := ⟨.hbm, 15, rfl⟩
abbrev main_v1 : Ref sig .tc := ⟨.hbm, 16, rfl⟩
abbrev main_v2 : Ref sig .tc := ⟨.hbm, 17, rfl⟩
abbrev main_cst_1 : Ref sig .tc := ⟨.hbm, 18, rfl⟩
abbrev main_v3 : Ref sig .tc := ⟨.hbm, 19, rfl⟩
abbrev main_v4 : Ref sig .tc := ⟨.hbm, 20, rfl⟩
abbrev main_cst_2 : Ref sig .tc := ⟨.hbm, 21, rfl⟩
abbrev main_v5 : Ref sig .tc := ⟨.hbm, 22, rfl⟩
abbrev main_v6 : Ref sig .tc := ⟨.hbm, 23, rfl⟩
abbrev main_cst_3 : Ref sig .tc := ⟨.hbm, 24, rfl⟩
abbrev main_v7 : Ref sig .tc := ⟨.hbm, 25, rfl⟩
abbrev main_v8 : Ref sig .tc := ⟨.hbm, 26, rfl⟩
abbrev main_cst_4 : Ref sig .tc := ⟨.hbm, 27, rfl⟩
abbrev main_v9 : Ref sig .tc := ⟨.hbm, 28, rfl⟩
abbrev main_v10 : Ref sig .tc := ⟨.hbm, 29, rfl⟩
abbrev main_cst_5 : Ref sig .tc := ⟨.hbm, 30, rfl⟩
abbrev main_v11 : Ref sig .tc := ⟨.hbm, 31, rfl⟩
abbrev main_v12 : Ref sig .tc := ⟨.hbm, 32, rfl⟩
abbrev main_cst_6 : Ref sig .tc := ⟨.hbm, 33, rfl⟩
abbrev main_v13 : Ref sig .tc := ⟨.hbm, 34, rfl⟩
abbrev main_v14 : Ref sig .tc := ⟨.hbm, 35, rfl⟩
abbrev main_cst_7 : Ref sig .tc := ⟨.hbm, 36, rfl⟩
abbrev main_v15 : Ref sig .tc := ⟨.hbm, 37, rfl⟩
abbrev main_v16 : Ref sig .tc := ⟨.hbm, 38, rfl⟩
abbrev main_cst_8 : Ref sig .tc := ⟨.hbm, 39, rfl⟩
abbrev main_v17 : Ref sig .tc := ⟨.hbm, 40, rfl⟩
abbrev main_v18 : Ref sig .tc := ⟨.hbm, 41, rfl⟩
abbrev main_cst_9 : Ref sig .tc := ⟨.hbm, 42, rfl⟩
abbrev main_v19 : Ref sig .tc := ⟨.hbm, 43, rfl⟩
abbrev main_v20 : Ref sig .tc := ⟨.hbm, 44, rfl⟩
abbrev main_cst_10 : Ref sig .tc := ⟨.hbm, 45, rfl⟩
abbrev main_v21 : Ref sig .tc := ⟨.hbm, 46, rfl⟩
abbrev main_v22 : Ref sig .tc := ⟨.hbm, 47, rfl⟩
abbrev main_cst_11 : Ref sig .tc := ⟨.hbm, 48, rfl⟩
abbrev main_v23 : Ref sig .tc := ⟨.hbm, 49, rfl⟩
abbrev main_v24 : Ref sig .tc := ⟨.hbm, 50, rfl⟩
abbrev main_v25_0 : Ref sig .tc := ⟨.hbm, 51, rfl⟩
abbrev main_v25_1 : Ref sig .tc := ⟨.hbm, 52, rfl⟩
abbrev main_v25_2 : Ref sig .tc := ⟨.hbm, 53, rfl⟩
abbrev main_v25_3 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg15_0 : Ref sig .tc := ⟨.vmem, 26, rfl⟩
abbrev cc0_stg16_0 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem15_0 : DmaSem sig := 26
abbrev cc0_sem16_0 : DmaSem sig := 27

abbrev nD : Nat := 1
abbrev τ : Topo := Topo.v7x

variable {F : FTy → Type} [FloatOps F]

abbrev grid0 : Pipeline.Grid := ⟨1, ![22], ![false]⟩

def k0_cond1 (i : grid0.Coords) : BitVec 1 :=
  let arg0 : BitVec 32 := BitVec.ofNat 32 (i 0).val
  let c0_i32 : BitVec 32 := 0#32
  let v108 : BitVec 1 := Scalar.cmpi .eq arg0 c0_i32
  let v109 : BitVec 32 := Scalar.extui v108
  let c0_i32_49 : BitVec 32 := 0#32
  let v110 : BitVec 1 := Scalar.cmpi .ne v109 c0_i32_49
  v110

def k0_cond2 (i : grid0.Coords) : BitVec 1 :=
  let arg0 : BitVec 32 := BitVec.ofNat 32 (i 0).val
  let c0_i32 : BitVec 32 := 0#32
  let v108 : BitVec 1 := Scalar.cmpi .eq arg0 c0_i32
  let v_true : BitVec 1 := 1#1
  let v111 : BitVec 1 := Scalar.xori v108 v_true
  let v112 : BitVec 32 := Scalar.extui v111
  let c0_i32_50 : BitVec 32 := 0#32
  let v113 : BitVec 1 := Scalar.cmpi .ne v112 c0_i32_50
  v113

def k0_cond3 (i : grid0.Coords) : BitVec 1 :=
  let arg0 : BitVec 32 := BitVec.ofNat 32 (i 0).val
  let c0_i32_51 : BitVec 32 := 0#32
  let v114 : BitVec 1 := Scalar.cmpi .eq arg0 c0_i32_51
  let v115 : BitVec 32 := Scalar.extui v114
  let c0_i32_52 : BitVec 32 := 0#32
  let v116 : BitVec 1 := Scalar.cmpi .ne v115 c0_i32_52
  v116

def k0_cond4 (i : grid0.Coords) : BitVec 1 :=
  let arg0 : BitVec 32 := BitVec.ofNat 32 (i 0).val
  let c0_i32_51 : BitVec 32 := 0#32
  let v114 : BitVec 1 := Scalar.cmpi .eq arg0 c0_i32_51
  let true_53 : BitVec 1 := 1#1
  let v117 : BitVec 1 := Scalar.xori v114 true_53
  let v118 : BitVec 32 := Scalar.extui v117
  let c0_i32_54 : BitVec 32 := 0#32
  let v119 : BitVec 1 := Scalar.cmpi .ne v118 c0_i32_54
  v119

def k0_cond5 (i : grid0.Coords) : BitVec 1 :=
  let arg0 : BitVec 32 := BitVec.ofNat 32 (i 0).val
  let c0_i32_56 : BitVec 32 := 0#32
  let v122 : BitVec 1 := Scalar.cmpi .eq arg0 c0_i32_56
  let v123 : BitVec 32 := Scalar.extui v122
  let c0_i32_57 : BitVec 32 := 0#32
  let v124 : BitVec 1 := Scalar.cmpi .ne v123 c0_i32_57
  v124

def k0_cond6 (i : grid0.Coords) : BitVec 1 :=
  let arg0 : BitVec 32 := BitVec.ofNat 32 (i 0).val
  let c0_i32_56 : BitVec 32 := 0#32
  let v122 : BitVec 1 := Scalar.cmpi .eq arg0 c0_i32_56
  let true_58 : BitVec 1 := 1#1
  let v125 : BitVec 1 := Scalar.xori v122 true_58
  let v126 : BitVec 32 := Scalar.extui v125
  let c0_i32_59 : BitVec 32 := 0#32
  let v127 : BitVec 1 := Scalar.cmpi .ne v126 c0_i32_59
  v127

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S768x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S768x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S768x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S768x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S768x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S768x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S768x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S768x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S768x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S768x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S768x3584 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1x384 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== ProjRefIdeal.lean ====
abbrev S16400x384 : Shape := ⟨2, ![16400, 384]⟩
abbrev S16400x256 : Shape := ⟨2, ![16400, 256]⟩
abbrev S16400x16 : Shape := ⟨2, ![16400, 16]⟩
abbrev S1x384 : Shape := ⟨2, ![1, 384]⟩
abbrev S1x256 : Shape := ⟨2, ![1, 256]⟩
abbrev S1x16 : Shape := ⟨2, ![1, 16]⟩
abbrev S16400x64 : Shape := ⟨2, ![16400, 64]⟩
abbrev S16400x1024 : Shape := ⟨2, ![16400, 1024]⟩
abbrev S16400x512 : Shape := ⟨2, ![16400, 512]⟩
abbrev S384 : Shape := ⟨1, ![384]⟩
abbrev S_ : Shape := ⟨0, ![]⟩
abbrev S16400 : Shape := ⟨1, ![16400]⟩
abbrev S16400x1 : Shape := ⟨2, ![16400, 1]⟩
abbrev S256 : Shape := ⟨1, ![256]⟩
abbrev S16 : Shape := ⟨1, ![16]⟩
abbrev S16400x112 : Shape := ⟨2, ![16400, 112]⟩
abbrev S16400x128 : Shape := ⟨2, ![16400, 128]⟩
abbrev S16400x3584 : Shape := ⟨2, ![16400, 3584]⟩
abbrev S496x3584 : Shape := ⟨2, ![496, 3584]⟩
abbrev S16896x3584 : Shape := ⟨2, ![16896, 3584]⟩
abbrev S1x112 : Shape := ⟨2, ![1, 112]⟩
abbrev S1x128 : Shape := ⟨2, ![1, 128]⟩

abbrev nBuf : Space → Nat
  | .hbm => 182
  | .vmem => 0
  | .smem => 0
  | _ => 0

abbrev hbmTy0_0 (i : Nat) : BufTy := match i % 128 with
  | 0 => ⟨S16400x384, .f32⟩
  | 1 => ⟨S16400x256, .f32⟩
  | 2 => ⟨S16400x16, .f32⟩
  | 3 => ⟨S1x384, .f32⟩
  | 4 => ⟨S1x256, .f32⟩
  | 5 => ⟨S1x16, .f32⟩
  | 6 => ⟨S16400x384, .f32⟩
  | 7 => ⟨S16400x256, .f32⟩
  | 8 => ⟨S16400x64, .f32⟩
  | 9 => ⟨S16400x16, .f32⟩
  | 10 => ⟨S16400x1024, .f32⟩
  | 11 => ⟨S16400x1024, .f32⟩
  | 12 => ⟨S16400x512, .f32⟩
  | 13 => ⟨S384, .f32⟩
  | 14 => ⟨S16400x384, .f32⟩
  | 15 => ⟨S_, .f32⟩
  | 16 => ⟨S16400x384, .f32⟩
  | 17 => ⟨S16400x384, .f32⟩
  | 18 => ⟨S_, .f32⟩
  | 19 => ⟨S16400, .f32⟩
  | 20 => ⟨S16400x1, .f32⟩
  | 21 => ⟨S_, .f32⟩
  | 22 => ⟨S16400x1, .f32⟩
  | 23 => ⟨S16400x1, .f32⟩
  | 24 => ⟨S_, .f32⟩
  | 25 => ⟨S16400x1, .f32⟩
  | 26 => ⟨S16400x1, .f32⟩
  | 27 => ⟨S16400x1, .f32⟩
  | 28 => ⟨S16400x1, .f32⟩
  | 29 => ⟨S_, .f32⟩
  | 30 => ⟨S16400x1, .f32⟩
  | 31 => ⟨S16400x1, .f32⟩
  | 32 => ⟨S16400x384, .f32⟩
  | 33 => ⟨S16400x384, .f32⟩
  | 34 => ⟨S1x384, .f32⟩
  | 35 => ⟨S16400x384, .f32⟩
  | 36 => ⟨S16400x384, .f32⟩
  | 37 => ⟨S256, .f32⟩
  | 38 => ⟨S16400x256, .f32⟩
  | 39 => ⟨S_, .f32⟩
  | 40 => ⟨S16400x256, .f32⟩
  | 41 => ⟨S16400x256, .f32⟩
  | 42 => ⟨S_, .f32⟩
  | 43 => ⟨S16400, .f32⟩
  | 44 => ⟨S16400x1, .f32⟩
  | 45 => ⟨S_, .f32⟩
  | 46 => ⟨S16400x1, .f32⟩
  | 47 => ⟨S16400x1, .f32⟩
  | 48 => ⟨S_, .f32⟩
  | 49 => ⟨S16400x1, .f32⟩
  | 50 => ⟨S16400x1, .f32⟩
  | 51 => ⟨S16400x1, .f32⟩
  | 52 => ⟨S16400x1, .f32⟩
  | 53 => ⟨S_, .f32⟩
  | 54 => ⟨S16400x1, .f32⟩
  | 55 => ⟨S16400x1, .f32⟩
  | 56 => ⟨S16400x256, .f32⟩
  | 57 => ⟨S16400x256, .f32⟩
  | 58 => ⟨S1x256, .f32⟩
  | 59 => ⟨S16400x256, .f32⟩
  | 60 => ⟨S16400x256, .f32⟩
  | 61 => ⟨S16, .f32⟩
  | 62 => ⟨S1x16, .f32⟩
  | 63 => ⟨S16400x16, .f32⟩
  | 64 => ⟨S16400x16, .f32⟩
  | 65 => ⟨S_, .f32⟩
  | 66 => ⟨S16400x16, .f32⟩
  | 67 => ⟨S16400x16, .f32⟩
  | 68 => ⟨S16400x16, .f32⟩
  | 69 => ⟨S16400x16, .f32⟩
  | 70 => ⟨S16400x16, .i1⟩
  | 71 => ⟨S16400x16, .f32⟩
  | 72 => ⟨S16400x16, .f32⟩
  | 73 => ⟨S16400x16, .f32⟩
  | 74 => ⟨S16400x16, .f32⟩
  | 75 => ⟨S16400x16, .f32⟩
  | 76 => ⟨S16400x16, .f32⟩
  | 77 => ⟨S16400x16, .f32⟩
  | 78 => ⟨S16400x16, .f32⟩
  | 79 => ⟨S_, .f32⟩
  | 80 => ⟨S16400x16, .f32⟩
  | 81 => ⟨S16400x16, .i1⟩
  | 82 => ⟨S_, .f32⟩
  | 83 => ⟨S16400x16, .f32⟩
  | 84 => ⟨S16400x16, .f32⟩
  | 85 => ⟨S_, .f32⟩
  | 86 => ⟨S16400x16, .f32⟩
  | 87 => ⟨S16400x16, .i1⟩
  | 88 => ⟨S_, .f32⟩
  | 89 => ⟨S16400x16, .f32⟩
  | 90 => ⟨S16400x16, .f32⟩
  | 91 => ⟨S16400x16, .f32⟩
  | 92 => ⟨S16400x16, .f32⟩
  | 93 => ⟨S_, .f32⟩
  | 94 => ⟨S_, .f32⟩
  | 95 => ⟨S_, .i1⟩
  | 96 => ⟨S_, .f32⟩
  | 97 => ⟨S_, .f32⟩
  | 98 => ⟨S_, .f32⟩
  | 99 => ⟨S_, .f32⟩
  | 100 => ⟨S16400x16, .f32⟩
  | 101 => ⟨S16400x16, .i1⟩
  | 102 => ⟨S_, .f32⟩
  | 103 => ⟨S16400x16, .f32⟩
  | 104 => ⟨S16400x16, .f32⟩
  | 105 => ⟨S16400x16, .f32⟩
  | 106 => ⟨S16400x16, .f32⟩
  | 107 => ⟨S16400x16, .f32⟩
  | 108 => ⟨S_, .f32⟩
  | 109 => ⟨S16400x16, .f32⟩
  | 110 => ⟨S16400x16, .f32⟩
  | 111 => ⟨S16400x16, .f32⟩
  | 112 => ⟨S16400x16, .f32⟩
  | 113 => ⟨S16400x16, .f32⟩
  | 114 => ⟨S_, .f32⟩
  | 115 => ⟨S16, .f32⟩
  | 116 => ⟨S1x16, .f32⟩
  | 117 => ⟨S_, .f32⟩
  | 118 => ⟨S16, .f32⟩
  | 119 => ⟨S1x16, .f32⟩
  | 120 => ⟨S16400x256, .f32⟩
  | 121 => ⟨S_, .f32⟩
  | 122 => ⟨S256, .f32⟩
  | 123 => ⟨S1x256, .f32⟩
  | 124 => ⟨S16400x256, .f32⟩
  | 125 => ⟨S16400x256, .f32⟩
  | 126 => ⟨S_, .f32⟩
  | 127 => ⟨S256, .f32⟩
  | _ => ⟨S16400x384, .f32⟩

abbrev hbmTy0_1 (i : Nat) : BufTy := match i % 128 with
  | 0 => ⟨S16400x256, .f32⟩
  | 1 => ⟨S_, .f32⟩
  | 2 => ⟨S16400, .f32⟩
  | 3 => ⟨S16400x1, .f32⟩
  | 4 => ⟨S16400x256, .f32⟩
  | 5 => ⟨S16400x256, .f32⟩
  | 6 => ⟨S16400x1, .f32⟩
  | 7 => ⟨S_, .f32⟩
  | 8 => ⟨S16400x1, .f32⟩
  | 9 => ⟨S16400x1, .f32⟩
  | 10 => ⟨S_, .f32⟩
  | 11 => ⟨S16400, .f32⟩
  | 12 => ⟨S16400x256, .f32⟩
  | 13 => ⟨S16400x256, .f32⟩
  | 14 => ⟨S16400x256, .f32⟩
  | 15 => ⟨S1x256, .f32⟩
  | 16 => ⟨S16400x384, .f32⟩
  | 17 => ⟨S_, .f32⟩
  | 18 => ⟨S384, .f32⟩
  | 19 => ⟨S1x384, .f32⟩
  | 20 => ⟨S16400x384, .f32⟩
  | 21 => ⟨S16400x384, .f32⟩
  | 22 => ⟨S_, .f32⟩
  | 23 => ⟨S384, .f32⟩
  | 24 => ⟨S16400x384, .f32⟩
  | 25 => ⟨S_, .f32⟩
  | 26 => ⟨S16400, .f32⟩
  | 27 => ⟨S16400x1, .f32⟩
  | 28 => ⟨S16400x384, .f32⟩
  | 29 => ⟨S16400x384, .f32⟩
  | 30 => ⟨S16400x1, .f32⟩
  | 31 => ⟨S_, .f32⟩
  | 32 => ⟨S16400x1, .f32⟩
  | 33 => ⟨S16400x1, .f32⟩
  | 34 => ⟨S_, .f32⟩
  | 35 => ⟨S16400, .f32⟩
  | 36 => ⟨S16400x384, .f32⟩
  | 37 => ⟨S16400x384, .f32⟩
  | 38 => ⟨S16400x384, .f32⟩
  | 39 => ⟨S1x384, .f32⟩
  | 40 => ⟨S_, .f32⟩
  | 41 => ⟨S16400x64, .f32⟩
  | 42 => ⟨S_, .f32⟩
  | 43 => ⟨S16400x112, .f32⟩
  | 44 => ⟨S_, .f32⟩
  | 45 => ⟨S16400x128, .f32⟩
  | 46 => ⟨S16400x3584, .f32⟩
  | 47 => ⟨S16400x3584, .bf16⟩
  | 48 => ⟨S_, .bf16⟩
  | 49 => ⟨S496x3584, .bf16⟩
  | 50 => ⟨S16896x3584, .bf16⟩
  | 51 => ⟨S_, .f32⟩
  | 52 => ⟨S1x112, .f32⟩
  | 53 => ⟨S1x128, .f32⟩
  | _ => ⟨S16400x384, .f32⟩

abbrev hbmTy (i : Nat) : BufTy := match i / 128 with
  | 0 => hbmTy0_0 i
  | 1 => hbmTy0_1 i
  | _ => ⟨S16400x384, .f32⟩

abbrev bufTy : (tb : Table) → Fin (tcTables nBuf tb) → BufTy
  | .hbm, ⟨i, _⟩ => hbmTy i
  | _, _ => ⟨S16400x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_cst : Ref sig .tc := ⟨.hbm, 15, rfl⟩
abbrev main_v2 : Ref sig .tc := ⟨.hbm, 16, rfl⟩
abbrev main_v3 : Ref sig .tc := ⟨.hbm, 17, rfl⟩
abbrev main_cst_0 : Ref sig .tc := ⟨.hbm, 18, rfl⟩
abbrev main_v4 : Ref sig .tc := ⟨.hbm, 19, rfl⟩
abbrev main_v5 : Ref sig .tc := ⟨.hbm, 20, rfl⟩
abbrev main_cst_1 : Ref sig .tc := ⟨.hbm, 21, rfl⟩
abbrev main_v6 : Ref sig .tc := ⟨.hbm, 22, rfl⟩
abbrev main_v7 : Ref sig .tc := ⟨.hbm, 23, rfl⟩
abbrev main_cst_2 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_cst_3 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_cst_4 : Ref sig .tc := ⟨.hbm, 39, rfl⟩
abbrev main_v21 : Ref sig .tc := ⟨.hbm, 40, rfl⟩
abbrev main_v22 : Ref sig .tc := ⟨.hbm, 41, rfl⟩
abbrev main_cst_5 : Ref sig .tc := ⟨.hbm, 42, rfl⟩
abbrev main_v23 : Ref sig .tc := ⟨.hbm, 43, rfl⟩
abbrev main_v24 : Ref sig .tc := ⟨.hbm, 44, rfl⟩
abbrev main_cst_6 : Ref sig .tc := ⟨.hbm, 45, rfl⟩
abbrev main_v25 : Ref sig .tc := ⟨.hbm, 46, rfl⟩
abbrev main_v26 : Ref sig .tc := ⟨.hbm, 47, rfl⟩
abbrev main_cst_7 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_cst_8 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_call0_cst : Ref sig .tc := ⟨.hbm, 65, rfl⟩
abbrev main_call0_v0 : Ref sig .tc := ⟨.hbm, 66, rfl⟩
abbrev main_call0_v1 : Ref sig .tc := ⟨.hbm, 67, rfl⟩
abbrev main_call0_v2 : Ref sig .tc := ⟨.hbm, 68, rfl⟩
abbrev main_call0_v3 : Ref sig .tc := ⟨.hbm, 69, rfl⟩
abbrev main_call0_v4 : Ref sig .tc := ⟨.hbm, 70, rfl⟩
abbrev main_call0_v5 : Ref sig .tc := ⟨.hbm, 71, rfl⟩
abbrev main_call0_v6 : Ref sig .tc := ⟨.hbm, 72, rfl⟩
abbrev main_call0_v7 : Ref sig .tc := ⟨.hbm, 73, rfl⟩
abbrev main_call0_v8 : Ref sig .tc := ⟨.hbm, 74, rfl⟩
abbrev main_call0_v9 : Ref sig .tc := ⟨.hbm, 75, rfl⟩
abbrev main_call0_v10 : Ref sig .tc := ⟨.hbm, 76, rfl⟩
abbrev main_call0_v11 : Ref sig .tc := ⟨.hbm, 77, rfl⟩
abbrev main_v42_0 : Ref sig .tc := ⟨.hbm, 78, rfl⟩
abbrev main_call0_cst_0 : Ref sig .tc := ⟨.hbm, 79, rfl⟩
abbrev main_call0_v13 : Ref sig .tc := ⟨.hbm, 80, rfl⟩
abbrev main_call0_v14 : Ref sig .tc := ⟨.hbm, 81, rfl⟩
abbrev main_call0_cst_1 : Ref sig .tc := ⟨.hbm, 82, rfl⟩
abbrev main_call0_v15 : Ref sig .tc := ⟨.hbm, 83, rfl⟩
abbrev main_call0_v16 : Ref sig .tc := ⟨.hbm, 84, rfl⟩
abbrev main_call0_cst_2 : Ref sig .tc := ⟨.hbm, 85, rfl⟩
abbrev main_call0_v17 : Ref sig .tc := ⟨.hbm, 86, rfl⟩
abbrev main_call0_v18 : Ref sig .tc := ⟨.hbm, 87, rfl⟩
abbrev main_call0_cst_3 : Ref sig .tc := ⟨.hbm, 88, rfl⟩
abbrev main_call0_v19 : Ref sig .tc := ⟨.hbm, 89, rfl⟩
abbrev main_call0_v20 : Ref sig .tc := ⟨.hbm, 90, rfl⟩
abbrev main_call0_v21 : Ref sig .tc := ⟨.hbm, 91, rfl⟩
abbrev main_v42_1 : Ref sig .tc := ⟨.hbm, 92, rfl⟩
abbrev main_call0_cst_4 : Ref sig .tc := ⟨.hbm, 93, rfl⟩
abbrev main_call0_cst_5 : Ref sig .tc := ⟨.hbm, 94, rfl⟩
abbrev main_call0_v23 : Ref sig .tc := ⟨.hbm, 95, rfl⟩
abbrev main_call0_cst_6 : Ref sig .tc := ⟨.hbm, 96, rfl⟩
abbrev main_call0_cst_7 : Ref sig .tc := ⟨.hbm, 97, rfl⟩
abbrev main_call0_v24 : Ref sig .tc := ⟨.hbm, 98, rfl⟩
abbrev main_call0_cst_8 : Ref sig .tc := ⟨.hbm, 99, rfl⟩
abbrev main_call0_v25 : Ref sig .tc := ⟨.hbm, 100, rfl⟩
abbrev main_call0_v26 : Ref sig .tc := ⟨.hbm, 101, rfl⟩
abbrev main_call0_cst_9 : Ref sig .tc := ⟨.hbm, 102, rfl⟩
abbrev main_call0_v27 : Ref sig .tc := ⟨.hbm, 103, rfl⟩
abbrev main_call0_v28 : Ref sig .tc := ⟨.hbm, 104, rfl⟩
abbrev main_call0_v29 : Ref sig .tc := ⟨.hbm, 105, rfl⟩
abbrev main_call0_v30 : Ref sig .tc := ⟨.hbm, 106, rfl⟩
abbrev main_call0_v31 : Ref sig .tc := ⟨.hbm, 107, rfl⟩
abbrev main_call0_cst_10 : Ref sig .tc := ⟨.hbm, 108, rfl⟩
abbrev main_call0_v32 : Ref sig .tc := ⟨.hbm, 109, rfl⟩
abbrev main_v42_2 : Ref sig .tc := ⟨.hbm, 110, rfl⟩
abbrev main_call1_v0 : Ref sig .tc := ⟨.hbm, 111, rfl⟩
abbrev main_call1_v1 : Ref sig .tc := ⟨.hbm, 112, rfl⟩
abbrev main_v43 : Ref sig .tc := ⟨.hbm, 113, rfl⟩
abbrev main_cst_9 : Ref sig .tc := ⟨.hbm, 114, rfl⟩
abbrev main_v44 : Ref sig .tc := ⟨.hbm, 115, rfl⟩
abbrev main_v45 : Ref sig .tc := ⟨.hbm, 116, rfl⟩
abbrev main_cst_10 : Ref sig .tc := ⟨.hbm, 117, rfl⟩
abbrev main_v46 : Ref sig .tc := ⟨.hbm, 118, rfl⟩
abbrev main_v47 : Ref sig .tc := ⟨.hbm, 119, rfl⟩
abbrev main_v48 : Ref sig .tc := ⟨.hbm, 120, rfl⟩
abbrev main_cst_11 : Ref sig .tc := ⟨.hbm, 121, rfl⟩
abbrev main_v49 : Ref sig .tc := ⟨.hbm, 122, rfl⟩
abbrev main_v50 : Ref sig .tc := ⟨.hbm, 123, rfl⟩
abbrev main_v51 : Ref sig .tc := ⟨.hbm, 124, rfl⟩
abbrev main_v52 : Ref sig .tc := ⟨.hbm, 125, rfl⟩
abbrev main_cst_12 : Ref sig .tc := ⟨.hbm, 126, rfl⟩
abbrev main_v53 : Ref sig .tc := ⟨.hbm, 127, rfl⟩
abbrev main_v54 : Ref sig .tc := ⟨.hbm, 128, rfl⟩
abbrev main_cst_13 : Ref sig .tc := ⟨.hbm, 129, rfl⟩
abbrev main_v55 : Ref sig .tc := ⟨.hbm, 130, rfl⟩
abbrev main_v56 : Ref sig .tc := ⟨.hbm, 131, rfl⟩
abbrev main_v57 : Ref sig .tc := ⟨.hbm, 132, rfl⟩
abbrev main_v58 : Ref sig .tc := ⟨.hbm, 133, rfl⟩
abbrev main_v59 : Ref sig .tc := ⟨.hbm, 134, rfl⟩
abbrev main_cst_14 : Ref sig .tc := ⟨.hbm, 135, rfl⟩
abbrev main_v60 : Ref sig .tc := ⟨.hbm, 136, rfl⟩
abbrev main_v61 : Ref sig .tc := ⟨.hbm, 137, rfl⟩
abbrev main_cst_15 : Ref sig .tc := ⟨.hbm, 138, rfl⟩
abbrev main_v62 : Ref sig .tc := ⟨.hbm, 139, rfl⟩
abbrev main_v63 : Ref sig .tc := ⟨.hbm, 140, rfl⟩
abbrev main_v64 : Ref sig .tc := ⟨.hbm, 141, rfl⟩
abbrev main_v65 : Ref sig .tc := ⟨.hbm, 142, rfl⟩
abbrev main_v66 : Ref sig .tc := ⟨.hbm, 143, rfl⟩
abbrev main_v67 : Ref sig .tc := ⟨.hbm, 144, rfl⟩
abbrev main_cst_16 : Ref sig .tc := ⟨.hbm, 145, rfl⟩
abbrev main_v68 : Ref sig .tc := ⟨.hbm, 146, rfl⟩
abbrev main_v69 : Ref sig .tc := ⟨.hbm, 147, rfl⟩
abbrev main_v70 : Ref sig .tc := ⟨.hbm, 148, rfl⟩
abbrev main_v71 : Ref sig .tc := ⟨.hbm, 149, rfl⟩
abbrev main_cst_17 : Ref sig .tc := ⟨.hbm, 150, rfl⟩
abbrev main_v72 : Ref sig .tc := ⟨.hbm, 151, rfl⟩
abbrev main_v73 : Ref sig .tc := ⟨.hbm, 152, rfl⟩
abbrev main_cst_18 : Ref sig .tc := ⟨.hbm, 153, rfl⟩
abbrev main_v74 : Ref sig .tc := ⟨.hbm, 154, rfl⟩
abbrev main_v75 : Ref sig .tc := ⟨.hbm, 155, rfl⟩
abbrev main_v76 : Ref sig .tc := ⟨.hbm, 156, rfl⟩
abbrev main_v77 : Ref sig .tc := ⟨.hbm, 157, rfl⟩
abbrev main_v78 : Ref sig .tc := ⟨.hbm, 158, rfl⟩
abbrev main_cst_19 : Ref sig .tc := ⟨.hbm, 159, rfl⟩
abbrev main_v79 : Ref sig .tc := ⟨.hbm, 160, rfl⟩
abbrev main_v80 : Ref sig .tc := ⟨.hbm, 161, rfl⟩
abbrev main_cst_20 : Ref sig .tc := ⟨.hbm, 162, rfl⟩
abbrev main_v81 : Ref sig .tc := ⟨.hbm, 163, rfl⟩
abbrev main_v82 : Ref sig .tc := ⟨.hbm, 164, rfl⟩
abbrev main_v83 : Ref sig .tc := ⟨.hbm, 165, rfl⟩
abbrev main_v84 : Ref sig .tc := ⟨.hbm, 166, rfl⟩
abbrev main_v85 : Ref sig .tc := ⟨.hbm, 167, rfl⟩
abbrev main_cst_21 : Ref sig .tc := ⟨.hbm, 168, rfl⟩
abbrev main_v86 : Ref sig .tc := ⟨.hbm, 169, rfl⟩
abbrev main_cst_22 : Ref sig .tc := ⟨.hbm, 170, rfl⟩
abbrev main_v87 : Ref sig .tc := ⟨.hbm, 171, rfl⟩
abbrev main_cst_23 : Ref sig .tc := ⟨.hbm, 172, rfl⟩
abbrev main_v88 : Ref sig .tc := ⟨.hbm, 173, rfl⟩
abbrev main_v89 : Ref sig .tc := ⟨.hbm, 174, rfl⟩
abbrev main_v90 : Ref sig .tc := ⟨.hbm, 175, rfl⟩
abbrev main_cst_24 : Ref sig .tc := ⟨.hbm, 176, rfl⟩
abbrev main_v91 : Ref sig .tc := ⟨.hbm, 177, rfl⟩
abbrev main_v92 : Ref sig .tc := ⟨.hbm, 178, rfl⟩
abbrev main_cst_25 : Ref sig .tc := ⟨.hbm, 179, rfl⟩
abbrev main_v93 : Ref sig .tc := ⟨.hbm, 180, rfl⟩
abbrev main_v94 : Ref sig .tc := ⟨.hbm, 181, rfl⟩

abbrev nD : Nat := 1
abbrev τ : Topo := Topo.v7x

variable {F : FTy → Type} [FloatOps F]
-- ==== Delta.lean ====
abbrev S8x16400x256 : Shape := ⟨3, ![8, 16400, 256]⟩
abbrev S8x16400x128 : Shape := ⟨3, ![8, 16400, 128]⟩
abbrev S16400x1024 : Shape := ⟨2, ![16400, 1024]⟩
abbrev S_ : Shape := ⟨0, ![]⟩
abbrev S496x1024 : Shape := ⟨2, ![496, 1024]⟩
abbrev S16896x1024 : Shape := ⟨2, ![16896, 1024]⟩
abbrev S16400 : Shape := ⟨1, ![16400]⟩
abbrev S8x16400x16400 : Shape := ⟨3, ![8, 16400, 16400]⟩
abbrev S1x1x16400 : Shape := ⟨3, ![1, 1, 16400]⟩
abbrev S1x16400x1 : Shape := ⟨3, ![1, 16400, 1]⟩
abbrev S1x16400x16400 : Shape := ⟨3, ![1, 16400, 16400]⟩
abbrev S8x16400 : Shape := ⟨2, ![8, 16400]⟩
abbrev S8x16400x1 : Shape := ⟨3, ![8, 16400, 1]⟩
abbrev S8x128x16400 : Shape := ⟨3, ![8, 128, 16400]⟩
abbrev S16400x8x128 : Shape := ⟨3, ![16400, 8, 128]⟩
abbrev S8x1x16896 : Shape := ⟨3, ![8, 1, 16896]⟩
abbrev S512x1024 : Shape := ⟨2, ![512, 1024]⟩
abbrev S8x1x512 : Shape := ⟨3, ![8, 1, 512]⟩
abbrev S8x128 : Shape := ⟨2, ![8, 128]⟩
abbrev S512x128 : Shape := ⟨2, ![512, 128]⟩
abbrev S8x512 : Shape := ⟨2, ![8, 512]⟩
abbrev S1x512 : Shape := ⟨2, ![1, 512]⟩
abbrev S1x1x512 : Shape := ⟨3, ![1, 1, 512]⟩

abbrev nBuf : Space → Nat
  | .hbm => 44
  | .vmem => 6
  | .smem => 0
  | _ => 0

abbrev bufTy : (tb : Table) → Fin (tcTables nBuf tb) → BufTy
  | .hbm, ⟨0, _⟩ => ⟨S8x16400x256, .f32⟩
  | .hbm, ⟨1, _⟩ => ⟨S8x16400x256, .f32⟩
  | .hbm, ⟨2, _⟩ => ⟨S8x16400x128, .f32⟩
  | .hbm, ⟨3, _⟩ => ⟨S16400x1024, .f32⟩
  | .hbm, ⟨4, _⟩ => ⟨S_, .f32⟩
  | .hbm, ⟨5, _⟩ => ⟨S496x1024, .f32⟩
  | .hbm, ⟨6, _⟩ => ⟨S16896x1024, .f32⟩
  | .hbm, ⟨7, _⟩ => ⟨S16400, .i32⟩
  | .hbm, ⟨8, _⟩ => ⟨S8x16400x16400, .f32⟩
  | .hbm, ⟨9, _⟩ => ⟨S_, .f32⟩
  | .hbm, ⟨10, _⟩ => ⟨S_, .f32⟩
  | .hbm, ⟨11, _⟩ => ⟨S8x16400x16400, .f32⟩
  | .hbm, ⟨12, _⟩ => ⟨S8x16400x16400, .f32⟩
  | .hbm, ⟨13, _⟩ => ⟨S1x1x16400, .i32⟩
  | .hbm, ⟨14, _⟩ => ⟨S1x16400x1, .i32⟩
  | .hbm, ⟨15, _⟩ => ⟨S1x16400x16400, .i32⟩
  | .hbm, ⟨16, _⟩ => ⟨S1x16400x16400, .i32⟩
  | .hbm, ⟨17, _⟩ => ⟨S1x16400x16400, .i1⟩
  | .hbm, ⟨18, _⟩ => ⟨S_, .f32⟩
  | .hbm, ⟨19, _⟩ => ⟨S_, .f32⟩
  | .hbm, ⟨20, _⟩ => ⟨S8x16400x16400, .i1⟩
  | .hbm, ⟨21, _⟩ => ⟨S8x16400x16400, .f32⟩
  | .hbm, ⟨22, _⟩ => ⟨S8x16400x16400, .f32⟩
  | .hbm, ⟨23, _⟩ => ⟨S_, .f32⟩
  | .hbm, ⟨24, _⟩ => ⟨S8x16400, .f32⟩
  | .hbm, ⟨25, _⟩ => ⟨S_, .f32⟩
  | .hbm, ⟨26, _⟩ => ⟨S8x16400, .f32⟩
  | .hbm, ⟨27, _⟩ => ⟨S8x16400, .f32⟩
  | .hbm, ⟨28, _⟩ => ⟨S8x16400x1, .f32⟩
  | .hbm, ⟨29, _⟩ => ⟨S8x16400x16400, .f32⟩
  | .hbm, ⟨30, _⟩ => ⟨S8x16400x16400, .f32⟩
  | .hbm, ⟨31, _⟩ => ⟨S8x16400x16400, .f32⟩
  | .hbm, ⟨32, _⟩ => ⟨S_, .f32⟩
  | .hbm, ⟨33, _⟩ => ⟨S8x16400, .f32⟩
  | .hbm, ⟨34, _⟩ => ⟨S8x16400x1, .f32⟩
  | .hbm, ⟨35, _⟩ => ⟨S8x16400x16400, .f32⟩
  | .hbm, ⟨36, _⟩ => ⟨S8x16400x16400, .f32⟩
  | .hbm, ⟨37, _⟩ => ⟨S8x128x16400, .f32⟩
  | .hbm, ⟨38, _⟩ => ⟨S16400x8x128, .f32⟩
  | .hbm, ⟨39, _⟩ => ⟨S16400x1024, .f32⟩
  | .hbm, ⟨40, _⟩ => ⟨S_, .f32⟩
  | .hbm, ⟨41, _⟩ => ⟨S496x1024, .f32⟩
  | .hbm, ⟨42, _⟩ => ⟨S16896x1024, .f32⟩
  | .hbm, ⟨43, _⟩ => ⟨S8x1x16896, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S8x1x512, .f32⟩
  | .local _ .vmem, ⟨5, _⟩ => ⟨S8x1x512, .f32⟩
  | _, _ => ⟨S8x16400x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_5 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== DeltaRefIdeal.lean ====
abbrev S8x16400x256 : Shape := ⟨3, ![8, 16400, 256]⟩
abbrev S8x16400x128 : Shape := ⟨3, ![8, 16400, 128]⟩
abbrev S16400x1024 : Shape := ⟨2, ![16400, 1024]⟩
abbrev S_ : Shape := ⟨0, ![]⟩
abbrev S16400x8 : Shape := ⟨2, ![16400, 8]⟩
abbrev S16400 : Shape := ⟨1, ![16400]⟩
abbrev S8x16400x16400 : Shape := ⟨3, ![8, 16400, 16400]⟩
abbrev S1x1x16400 : Shape := ⟨3, ![1, 1, 16400]⟩
abbrev S1x16400x1 : Shape := ⟨3, ![1, 16400, 1]⟩
abbrev S1x16400x16400 : Shape := ⟨3, ![1, 16400, 16400]⟩
abbrev S8x16400 : Shape := ⟨2, ![8, 16400]⟩
abbrev S8x16400x1 : Shape := ⟨3, ![8, 16400, 1]⟩
abbrev S8x128x16400 : Shape := ⟨3, ![8, 128, 16400]⟩
abbrev S16400x8x128 : Shape := ⟨3, ![16400, 8, 128]⟩
abbrev S16400x8x1 : Shape := ⟨3, ![16400, 8, 1]⟩
abbrev S496x8 : Shape := ⟨2, ![496, 8]⟩
abbrev S16896x8 : Shape := ⟨2, ![16896, 8]⟩
abbrev S8x16896 : Shape := ⟨2, ![8, 16896]⟩
abbrev S8x1x16896 : Shape := ⟨3, ![8, 1, 16896]⟩

abbrev nBuf : Space → Nat
  | .hbm => 56
  | .vmem => 0
  | .smem => 0
  | _ => 0

abbrev bufTy : (tb : Table) → Fin (tcTables nBuf tb) → BufTy
  | .hbm, ⟨0, _⟩ => ⟨S8x16400x256, .f32⟩
  | .hbm, ⟨1, _⟩ => ⟨S8x16400x256, .f32⟩
  | .hbm, ⟨2, _⟩ => ⟨S8x16400x128, .f32⟩
  | .hbm, ⟨3, _⟩ => ⟨S16400x1024, .f32⟩
  | .hbm, ⟨4, _⟩ => ⟨S_, .f32⟩
  | .hbm, ⟨5, _⟩ => ⟨S16400x8, .f32⟩
  | .hbm, ⟨6, _⟩ => ⟨S16400, .i32⟩
  | .hbm, ⟨7, _⟩ => ⟨S8x16400x16400, .f32⟩
  | .hbm, ⟨8, _⟩ => ⟨S_, .f32⟩
  | .hbm, ⟨9, _⟩ => ⟨S_, .f32⟩
  | .hbm, ⟨10, _⟩ => ⟨S8x16400x16400, .f32⟩
  | .hbm, ⟨11, _⟩ => ⟨S8x16400x16400, .f32⟩
  | .hbm, ⟨12, _⟩ => ⟨S1x1x16400, .i32⟩
  | .hbm, ⟨13, _⟩ => ⟨S1x16400x1, .i32⟩
  | .hbm, ⟨14, _⟩ => ⟨S1x16400x16400, .i32⟩
  | .hbm, ⟨15, _⟩ => ⟨S1x16400x16400, .i32⟩
  | .hbm, ⟨16, _⟩ => ⟨S1x16400x16400, .i1⟩
  | .hbm, ⟨17, _⟩ => ⟨S_, .f32⟩
  | .hbm, ⟨18, _⟩ => ⟨S_, .f32⟩
  | .hbm, ⟨19, _⟩ => ⟨S8x16400x16400, .i1⟩
  | .hbm, ⟨20, _⟩ => ⟨S8x16400x16400, .f32⟩
  | .hbm, ⟨21, _⟩ => ⟨S8x16400x16400, .f32⟩
  | .hbm, ⟨22, _⟩ => ⟨S_, .f32⟩
  | .hbm, ⟨23, _⟩ => ⟨S8x16400, .f32⟩
  | .hbm, ⟨24, _⟩ => ⟨S_, .f32⟩
  | .hbm, ⟨25, _⟩ => ⟨S8x16400, .f32⟩
  | .hbm, ⟨26, _⟩ => ⟨S8x16400, .f32⟩
  | .hbm, ⟨27, _⟩ => ⟨S8x16400x1, .f32⟩
  | .hbm, ⟨28, _⟩ => ⟨S8x16400x16400, .f32⟩
  | .hbm, ⟨29, _⟩ => ⟨S8x16400x16400, .f32⟩
  | .hbm, ⟨30, _⟩ => ⟨S8x16400x16400, .f32⟩
  | .hbm, ⟨31, _⟩ => ⟨S_, .f32⟩
  | .hbm, ⟨32, _⟩ => ⟨S8x16400, .f32⟩
  | .hbm, ⟨33, _⟩ => ⟨S8x16400x1, .f32⟩
  | .hbm, ⟨34, _⟩ => ⟨S8x16400x16400, .f32⟩
  | .hbm, ⟨35, _⟩ => ⟨S8x16400x16400, .f32⟩
  | .hbm, ⟨36, _⟩ => ⟨S8x128x16400, .f32⟩
  | .hbm, ⟨37, _⟩ => ⟨S16400x8x128, .f32⟩
  | .hbm, ⟨38, _⟩ => ⟨S16400x1024, .f32⟩
  | .hbm, ⟨39, _⟩ => ⟨S16400x8x128, .f32⟩
  | .hbm, ⟨40, _⟩ => ⟨S16400x8x1, .f32⟩
  | .hbm, ⟨41, _⟩ => ⟨S16400x8x128, .f32⟩
  | .hbm, ⟨42, _⟩ => ⟨S16400x8x128, .f32⟩
  | .hbm, ⟨43, _⟩ => ⟨S16400x1024, .f32⟩
  | .hbm, ⟨44, _⟩ => ⟨S16400x8x128, .f32⟩
  | .hbm, ⟨45, _⟩ => ⟨S16400x8x128, .f32⟩
  | .hbm, ⟨46, _⟩ => ⟨S_, .f32⟩
  | .hbm, ⟨47, _⟩ => ⟨S16400x8, .f32⟩
  | .hbm, ⟨48, _⟩ => ⟨S16400x8x1, .f32⟩
  | .hbm, ⟨49, _⟩ => ⟨S_, .f32⟩
  | .hbm, ⟨50, _⟩ => ⟨S16400x8, .f32⟩
  | .hbm, ⟨51, _⟩ => ⟨S_, .f32⟩
  | .hbm, ⟨52, _⟩ => ⟨S496x8, .f32⟩
  | .hbm, ⟨53, _⟩ => ⟨S16896x8, .f32⟩
  | .hbm, ⟨54, _⟩ => ⟨S8x16896, .f32⟩
  | .hbm, ⟨55, _⟩ => ⟨S8x1x16896, .f32⟩
  | _, _ => ⟨S8x16400x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_5 : Ref sig .tc := ⟨.hbm, 46, rfl⟩
abbrev main_v33 : Ref sig .tc := ⟨.hbm, 47, rfl⟩
abbrev main_v34 : Ref sig .tc := ⟨.hbm, 48, rfl⟩
abbrev main_cst_6 : Ref sig .tc := ⟨.hbm, 49, rfl⟩
abbrev main_v35 : Ref sig .tc := ⟨.hbm, 50, rfl⟩
abbrev main_cst_7 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩

abbrev nD : Nat := 1
abbrev τ : Topo := Topo.v7x

variable {F : FTy → Type} [FloatOps F]
-- ==== Unpack.lean ====
abbrev S16400x8x128 : Shape := ⟨3, ![16400, 8, 128]⟩
abbrev S16400x8x64 : Shape := ⟨3, ![16400, 8, 64]⟩
abbrev S8 : Shape := ⟨1, ![8]⟩
abbrev S_ : Shape := ⟨0, ![]⟩
abbrev S8x1x1 : Shape := ⟨3, ![8, 1, 1]⟩
abbrev S8x16400x64 : Shape := ⟨3, ![8, 16400, 64]⟩
abbrev S8x16896x64 : Shape := ⟨3, ![8, 16896, 64]⟩
abbrev S8x16400x128 : Shape := ⟨3, ![8, 16400, 128]⟩
abbrev S8x16896x128 : Shape := ⟨3, ![8, 16896, 128]⟩
abbrev S8x16896x256 : Shape := ⟨3, ![8, 16896, 256]⟩
abbrev S32 : Shape := ⟨1, ![32]⟩
abbrev S16896 : Shape := ⟨1, ![16896]⟩
abbrev S16896x1 : Shape := ⟨2, ![16896, 1]⟩
abbrev S1x32 : Shape := ⟨2, ![1, 32]⟩
abbrev S16896x32 : Shape := ⟨2, ![16896, 32]⟩
abbrev S1x16896x1x32 : Shape := ⟨4, ![1, 16896, 1, 32]⟩
abbrev S1x16896x4x32 : Shape := ⟨4, ![1, 16896, 4, 32]⟩
abbrev S16896x128 : Shape := ⟨2, ![16896, 128]⟩
abbrev S16896x1536 : Shape := ⟨2, ![16896, 1536]⟩
abbrev S16896x2048 : Shape := ⟨2, ![16896, 2048]⟩
abbrev S8x768x256 : Shape := ⟨3, ![8, 768, 256]⟩
abbrev S8x768x128 : Shape := ⟨3, ![8, 768, 128]⟩
abbrev S768x128 : Shape := ⟨2, ![768, 128]⟩
abbrev S768x1536 : Shape := ⟨2, ![768, 1536]⟩
abbrev S768x2048 : Shape := ⟨2, ![768, 2048]⟩
abbrev S1x768x128 : Shape := ⟨3, ![1, 768, 128]⟩

abbrev nBuf : Space → Nat
  | .hbm => 95
  | .vmem => 16
  | .smem => 0
  | _ => 0

abbrev bufTy : (tb : Table) → Fin (tcTables nBuf tb) → BufTy
  | .hbm, ⟨0, _⟩ => ⟨S16400x8x128, .f32⟩
  | .hbm, ⟨1, _⟩ => ⟨S16400x8x64, .f32⟩
  | .hbm, ⟨2, _⟩ => ⟨S16400x8x128, .f32⟩
  | .hbm, ⟨3, _⟩ => ⟨S16400x8x64, .f32⟩
  | .hbm, ⟨4, _⟩ => ⟨S16400x8x128, .f32⟩
  | .hbm, ⟨5, _⟩ => ⟨S8, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i1⟩
  | .hbm, ⟨10, _⟩ => ⟨S_, .i32⟩
  | .hbm, ⟨11, _⟩ => ⟨S_, .i32⟩
  | .hbm, ⟨12, _⟩ => ⟨S8, .i32⟩
  | .hbm, ⟨13, _⟩ => ⟨S8, .i32⟩
  | .hbm, ⟨14, _⟩ => ⟨S_, .i32⟩
  | .hbm, ⟨15, _⟩ => ⟨S8, .i32⟩
  | .hbm, ⟨16, _⟩ => ⟨S8, .i1⟩
  | .hbm, ⟨17, _⟩ => ⟨S_, .i32⟩
  | .hbm, ⟨18, _⟩ => ⟨S8, .i32⟩
  | .hbm, ⟨19, _⟩ => ⟨S8, .i1⟩
  | .hbm, ⟨20, _⟩ => ⟨S_, .i32⟩
  | .hbm, ⟨21, _⟩ => ⟨S_, .i1⟩
  | .hbm, ⟨22, _⟩ => ⟨S8, .i1⟩
  | .hbm, ⟨23, _⟩ => ⟨S8, .i1⟩
  | .hbm, ⟨24, _⟩ => ⟨S8, .i1⟩
  | .hbm, ⟨25, _⟩ => ⟨S8, .i32⟩
  | .hbm, ⟨26, _⟩ => ⟨S8, .i32⟩
  | .hbm, ⟨27, _⟩ => ⟨S8, .i32⟩
  | .hbm, ⟨28, _⟩ => ⟨S_, .i32⟩
  | .hbm, ⟨29, _⟩ => ⟨S8, .i32⟩
  | .hbm, ⟨30, _⟩ => ⟨S8, .i1⟩
  | .hbm, ⟨31, _⟩ => ⟨S8x1x1, .i1⟩
  | .hbm, ⟨32, _⟩ => ⟨S8x16400x64, .f32⟩
  | .hbm, ⟨33, _⟩ => ⟨S_, .i32⟩
  | .hbm, ⟨34, _⟩ => ⟨S_, .f32⟩
  | .hbm, ⟨35, _⟩ => ⟨S8x16896x64, .f32⟩
  | .hbm, ⟨36, _⟩ => ⟨S8x16400x64, .f32⟩
  | .hbm, ⟨37, _⟩ => ⟨S_, .i32⟩
  | .hbm, ⟨38, _⟩ => ⟨S_, .f32⟩
  | .hbm, ⟨39, _⟩ => ⟨S8x16896x64, .f32⟩
  | .hbm, ⟨40, _⟩ => ⟨S8x16400x128, .f32⟩
  | .hbm, ⟨41, _⟩ => ⟨S_, .i32⟩
  | .hbm, ⟨42, _⟩ => ⟨S_, .f32⟩
  | .hbm, ⟨43, _⟩ => ⟨S8x16896x128, .f32⟩
  | .hbm, ⟨44, _⟩ => ⟨S8x16896x256, .f32⟩
  | .hbm, ⟨45, _⟩ => ⟨S8x16400x128, .f32⟩
  | .hbm, ⟨46, _⟩ => ⟨S_, .i32⟩
  | .hbm, ⟨47, _⟩ => ⟨S_, .f32⟩
  | .hbm, ⟨48, _⟩ => ⟨S8x16896x128, .f32⟩
  | .hbm, ⟨49, _⟩ => ⟨S_, .f32⟩
  | .hbm, ⟨50, _⟩ => ⟨S_, .f32⟩
  | .hbm, ⟨51, _⟩ => ⟨S8x16896x64, .i1⟩
  | .hbm, ⟨52, _⟩ => ⟨S8x16896x64, .f32⟩
  | .hbm, ⟨53, _⟩ => ⟨S8x16896x64, .f32⟩
  | .hbm, ⟨54, _⟩ => ⟨S_, .f32⟩
  | .hbm, ⟨55, _⟩ => ⟨S_, .f32⟩
  | .hbm, ⟨56, _⟩ => ⟨S8x16896x64, .i1⟩
  | .hbm, ⟨57, _⟩ => ⟨S8x16896x64, .f32⟩
  | .hbm, ⟨58, _⟩ => ⟨S8x16896x64, .f32⟩
  | .hbm, ⟨59, _⟩ => ⟨S8x16896x256, .f32⟩
  | .hbm, ⟨60, _⟩ => ⟨S32, .f32⟩
  | .hbm, ⟨61, _⟩ => ⟨S_, .f32⟩
  | .hbm, ⟨62, _⟩ => ⟨S32, .f32⟩
  | .hbm, ⟨63, _⟩ => ⟨S32, .f32⟩
  | .hbm, ⟨64, _⟩ => ⟨S_, .f32⟩
  | .hbm, ⟨65, _⟩ => ⟨S32, .f32⟩
  | .hbm, ⟨66, _⟩ => ⟨S32, .f32⟩
  | .hbm, ⟨67, _⟩ => ⟨S32, .f32⟩
  | .hbm, ⟨68, _⟩ => ⟨S_, .f32⟩
  | .hbm, ⟨69, _⟩ => ⟨S32, .f32⟩
  | .hbm, ⟨70, _⟩ => ⟨S32, .f32⟩
  | .hbm, ⟨71, _⟩ => ⟨S_, .f32⟩
  | .hbm, ⟨72, _⟩ => ⟨S32, .f32⟩
  | .hbm, ⟨73, _⟩ => ⟨S32, .f32⟩
  | .hbm, ⟨74, _⟩ => ⟨S16896, .f32⟩
  | .hbm, ⟨75, _⟩ => ⟨S16896x1, .f32⟩
  | .hbm, ⟨76, _⟩ => ⟨S1x32, .f32⟩
  | .hbm, ⟨77, _⟩ => ⟨S16896x32, .f32⟩
  | .hbm, ⟨78, _⟩ => ⟨S16896x32, .f32⟩
  | .hbm, ⟨79, _⟩ => ⟨S16896x32, .f32⟩
  | .hbm, ⟨80, _⟩ => ⟨S16896x32, .f32⟩
  | .hbm, ⟨81, _⟩ => ⟨S16896x32, .f32⟩
  | .hbm, ⟨82, _⟩ => ⟨S1x16896x1x32, .f32⟩
  | .hbm, ⟨83, _⟩ => ⟨S1x16896x4x32, .f32⟩
  | .hbm, ⟨84, _⟩ => ⟨S16896x128, .f32⟩
  | .hbm, ⟨85, _⟩ => ⟨S16896x32, .f32⟩
  | .hbm, ⟨86, _⟩ => ⟨S16896x32, .f32⟩
  | .hbm, ⟨87, _⟩ => ⟨S16896x128, .f32⟩
  | .hbm, ⟨88, _⟩ => ⟨S8x16400x128, .f32⟩
  | .hbm, ⟨89, _⟩ => ⟨S_, .i32⟩
  | .hbm, ⟨90, _⟩ => ⟨S_, .f32⟩
  | .hbm, ⟨91, _⟩ => ⟨S8x16896x128, .f32⟩
  | .hbm, ⟨92, _⟩ => ⟨S16896x1536, .bf16⟩
  | .hbm, ⟨93, _⟩ => ⟨S16896x2048, .bf16⟩
  | .hbm, ⟨94, _⟩ => ⟨S16896x128, .f32⟩
  | .local _ .vmem, ⟨0, _⟩ => ⟨S8x768x256, .f32⟩
  | .local _ .vmem, ⟨1, _⟩ => ⟨S8x768x256, .f32⟩
  | .local _ .vmem, ⟨2, _⟩ => ⟨S8x768x256, .f32⟩
  | .local _ .vmem, ⟨3, _⟩ => ⟨S8x768x256, .f32⟩
  | .local _ .vmem, ⟨4, _⟩ => ⟨S8x768x128, .f32⟩
  | .local _ .vmem, ⟨5, _⟩ => ⟨S8x768x128, .f32⟩
  | .local _ .vmem, ⟨6, _⟩ => ⟨S768x128, .f32⟩
  | .local _ .vmem, ⟨7, _⟩ => ⟨S768x128, .f32⟩
  | .local _ .vmem, ⟨8, _⟩ => ⟨S768x128, .f32⟩
  | .local _ .vmem, ⟨9, _⟩ => ⟨S768x128, .f32⟩
  | .local _ .vmem, ⟨10, _⟩ => ⟨S768x1536, .bf16⟩
  | .local _ .vmem, ⟨11, _⟩ => ⟨S768x1536, .bf16⟩
  | .local _ .vmem, ⟨12, _⟩ => ⟨S768x2048, .bf16⟩
  | .local _ .vmem, ⟨13, _⟩ => ⟨S768x2048, .bf16⟩
  | .local _ .vmem, ⟨14, _⟩ => ⟨S768x128, .f32⟩
  | .local _ .vmem, ⟨15, _⟩ => ⟨S768x128, .f32⟩
  | _, _ => ⟨S16400x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_call0_c : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_c_1 : Ref sig .tc := ⟨.hbm, 14, rfl⟩
abbrev main_call0_v5 : Ref sig .tc := ⟨.hbm, 15, rfl⟩
abbrev main_call0_v6 : Ref sig .tc := ⟨.hbm, 16, rfl⟩
abbrev main_call0_c_2 : Ref sig .tc := ⟨.hbm, 17, rfl⟩
abbrev main_call0_v7 : Ref sig .tc := ⟨.hbm, 18, rfl⟩
abbrev main_call0_v8 : Ref sig .tc := ⟨.hbm, 19, rfl⟩
abbrev main_call0_c_3 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_v1 : Ref sig .tc := ⟨.hbm, 27, rfl⟩
abbrev main_c_0 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_c_1 : Ref sig .tc := ⟨.hbm, 33, rfl⟩
abbrev main_call1_v0 : Ref sig .tc := ⟨.hbm, 34, rfl⟩
abbrev main_v6 : Ref sig .tc := ⟨.hbm, 35, rfl⟩
abbrev main_v7 : Ref sig .tc := ⟨.hbm, 36, rfl⟩
abbrev main_c_2 : Ref sig .tc := ⟨.hbm, 37, rfl⟩
abbrev main_call2_v0 : Ref sig .tc := ⟨.hbm, 38, rfl⟩
abbrev main_v8 : Ref sig .tc := ⟨.hbm, 39, rfl⟩
abbrev main_v9 : Ref sig .tc := ⟨.hbm, 40, rfl⟩
abbrev main_c_3 : Ref sig .tc := ⟨.hbm, 41, rfl⟩
abbrev main_call3_v0 : Ref sig .tc := ⟨.hbm, 42, rfl⟩
abbrev main_v10 : Ref sig .tc := ⟨.hbm, 43, rfl⟩
abbrev main_v11 : Ref sig .tc := ⟨.hbm, 44, rfl⟩
abbrev main_v12 : Ref sig .tc := ⟨.hbm, 45, rfl⟩
abbrev main_c_4 : Ref sig .tc := ⟨.hbm, 46, rfl⟩
abbrev main_call4_v0 : Ref sig .tc := ⟨.hbm, 47, rfl⟩
abbrev main_v13 : Ref sig .tc := ⟨.hbm, 48, rfl⟩
abbrev main_cst : Ref sig .tc := ⟨.hbm, 49, rfl⟩
abbrev main_call5_v0 : Ref sig .tc := ⟨.hbm, 50, rfl⟩
abbrev main_call5_v1 : Ref sig .tc := ⟨.hbm, 51, rfl⟩
abbrev main_call5_v2 : Ref sig .tc := ⟨.hbm, 52, rfl⟩
abbrev main_v14 : Ref sig .tc := ⟨.hbm, 53, rfl⟩
abbrev main_cst_5 : Ref sig .tc := ⟨.hbm, 54, rfl⟩
abbrev main_call6_v0 : Ref sig .tc := ⟨.hbm, 55, rfl⟩
abbrev main_call6_v1 : Ref sig .tc := ⟨.hbm, 56, rfl⟩
abbrev main_call6_v2 : Ref sig .tc := ⟨.hbm, 57, rfl⟩
abbrev main_v15 : Ref sig .tc := ⟨.hbm, 58, rfl⟩
abbrev main_v16 : Ref sig .tc := ⟨.hbm, 59, rfl⟩
abbrev main_v17 : Ref sig .tc := ⟨.hbm, 60, rfl⟩
abbrev main_cst_6 : Ref sig .tc := ⟨.hbm, 61, rfl⟩
abbrev main_v18 : Ref sig .tc := ⟨.hbm, 62, rfl⟩
abbrev main_v19 : Ref sig .tc := ⟨.hbm, 63, rfl⟩
abbrev main_cst_7 : Ref sig .tc := ⟨.hbm, 64, rfl⟩
abbrev main_v20 : Ref sig .tc := ⟨.hbm, 65, rfl⟩
abbrev main_v21 : Ref sig .tc := ⟨.hbm, 66, rfl⟩
abbrev main_v22 : Ref sig .tc := ⟨.hbm, 67, rfl⟩
abbrev main_cst_8 : Ref sig .tc := ⟨.hbm, 68, rfl⟩
abbrev main_v23 : Ref sig .tc := ⟨.hbm, 69, rfl⟩
abbrev main_v24 : Ref sig .tc := ⟨.hbm, 70, rfl⟩
abbrev main_cst_9 : Ref sig .tc := ⟨.hbm, 71, rfl⟩
abbrev main_v25 : Ref sig .tc := ⟨.hbm, 72, rfl⟩
abbrev main_v26 : Ref sig .tc := ⟨.hbm, 73, rfl⟩
abbrev main_v27 : Ref sig .tc := ⟨.hbm, 74, rfl⟩
abbrev main_v28 : Ref sig .tc := ⟨.hbm, 75, rfl⟩
abbrev main_v29 : Ref sig .tc := ⟨.hbm, 76, rfl⟩
abbrev main_v30 : Ref sig .tc := ⟨.hbm, 77, rfl⟩
abbrev main_v31 : Ref sig .tc := ⟨.hbm, 78, rfl⟩
abbrev main_v32 : Ref sig .tc := ⟨.hbm, 79, rfl⟩
abbrev main_v33 : Ref sig .tc := ⟨.hbm, 80, rfl⟩
abbrev main_v34 : Ref sig .tc := ⟨.hbm, 81, rfl⟩
abbrev main_v35 : Ref sig .tc := ⟨.hbm, 82, rfl⟩
abbrev main_v36 : Ref sig .tc := ⟨.hbm, 83, rfl⟩
abbrev main_v37 : Ref sig .tc := ⟨.hbm, 84, rfl⟩
abbrev main_v38 : Ref sig .tc := ⟨.hbm, 85, rfl⟩
abbrev main_v39 : Ref sig .tc := ⟨.hbm, 86, rfl⟩
abbrev main_v40 : Ref sig .tc := ⟨.hbm, 87, rfl⟩
abbrev main_v41 : Ref sig .tc := ⟨.hbm, 88, rfl⟩
abbrev main_c_10 : Ref sig .tc := ⟨.hbm, 89, rfl⟩
abbrev main_call7_v0 : Ref sig .tc := ⟨.hbm, 90, rfl⟩
abbrev main_v42 : Ref sig .tc := ⟨.hbm, 91, rfl⟩
abbrev main_v43_0 : Ref sig .tc := ⟨.hbm, 92, rfl⟩
abbrev main_v43_1 : Ref sig .tc := ⟨.hbm, 93, rfl⟩
abbrev main_v43_2 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![22], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x768x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x768x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x768x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S768x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S768x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S768x1536 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S768x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S768x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== UnpackRefIdeal.lean ====
abbrev S16400x8x128 : Shape := ⟨3, ![16400, 8, 128]⟩
abbrev S16400x8x64 : Shape := ⟨3, ![16400, 8, 64]⟩
abbrev S_ : Shape := ⟨0, ![]⟩
abbrev S16400x1536 : Shape := ⟨2, ![16400, 1536]⟩
abbrev S16400x2048 : Shape := ⟨2, ![16400, 2048]⟩
abbrev S16400x64 : Shape := ⟨2, ![16400, 64]⟩
abbrev S32 : Shape := ⟨1, ![32]⟩
abbrev S16400 : Shape := ⟨1, ![16400]⟩
abbrev S16400x1 : Shape := ⟨2, ![16400, 1]⟩
abbrev S1x32 : Shape := ⟨2, ![1, 32]⟩
abbrev S16400x32 : Shape := ⟨2, ![16400, 32]⟩
abbrev S16400x8x192 : Shape := ⟨3, ![16400, 8, 192]⟩
abbrev S16400x8x256 : Shape := ⟨3, ![16400, 8, 256]⟩
abbrev S16400x1x32 : Shape := ⟨3, ![16400, 1, 32]⟩
abbrev S16400x8x32 : Shape := ⟨3, ![16400, 8, 32]⟩
abbrev S16400x1x64 : Shape := ⟨3, ![16400, 1, 64]⟩
abbrev S16400x1024 : Shape := ⟨2, ![16400, 1024]⟩
abbrev S16400x512 : Shape := ⟨2, ![16400, 512]⟩
abbrev S16400x128 : Shape := ⟨2, ![16400, 128]⟩
abbrev S496x1536 : Shape := ⟨2, ![496, 1536]⟩
abbrev S16896x1536 : Shape := ⟨2, ![16896, 1536]⟩
abbrev S496x2048 : Shape := ⟨2, ![496, 2048]⟩
abbrev S16896x2048 : Shape := ⟨2, ![16896, 2048]⟩
abbrev S496x128 : Shape := ⟨2, ![496, 128]⟩
abbrev S16896x128 : Shape := ⟨2, ![16896, 128]⟩

abbrev nBuf : Space → Nat
  | .hbm => 126
  | .vmem => 0
  | .smem => 0
  | _ => 0

abbrev bufTy : (tb : Table) → Fin (tcTables nBuf tb) → BufTy
  | .hbm, ⟨0, _⟩ => ⟨S16400x8x128, .f32⟩
  | .hbm, ⟨1, _⟩ => ⟨S16400x8x64, .f32⟩
  | .hbm, ⟨2, _⟩ => ⟨S16400x8x128, .f32⟩
  | .hbm, ⟨3, _⟩ => ⟨S16400x8x64, .f32⟩
  | .hbm, ⟨4, _⟩ => ⟨S16400x8x128, .f32⟩
  | .hbm, ⟨5, _⟩ => ⟨S_, .f32⟩
  | .hbm, ⟨6, _⟩ => ⟨S16400x1536, .f32⟩
  | .hbm, ⟨7, _⟩ => ⟨S_, .f32⟩
  | .hbm, ⟨8, _⟩ => ⟨S16400x2048, .f32⟩
  | .hbm, ⟨9, _⟩ => ⟨S_, .f32⟩
  | .hbm, ⟨10, _⟩ => ⟨S16400x64, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S32, .f32⟩
  | .hbm, ⟨19, _⟩ => ⟨S_, .f32⟩
  | .hbm, ⟨20, _⟩ => ⟨S32, .f32⟩
  | .hbm, ⟨21, _⟩ => ⟨S32, .f32⟩
  | .hbm, ⟨22, _⟩ => ⟨S_, .f32⟩
  | .hbm, ⟨23, _⟩ => ⟨S32, .f32⟩
  | .hbm, ⟨24, _⟩ => ⟨S32, .f32⟩
  | .hbm, ⟨25, _⟩ => ⟨S16400, .f32⟩
  | .hbm, ⟨26, _⟩ => ⟨S16400x1, .f32⟩
  | .hbm, ⟨27, _⟩ => ⟨S1x32, .f32⟩
  | .hbm, ⟨28, _⟩ => ⟨S16400x32, .f32⟩
  | .hbm, ⟨29, _⟩ => ⟨S16400x32, .f32⟩
  | .hbm, ⟨30, _⟩ => ⟨S16400x32, .f32⟩
  | .hbm, ⟨31, _⟩ => ⟨S16400x32, .f32⟩
  | .hbm, ⟨32, _⟩ => ⟨S16400x32, .f32⟩
  | .hbm, ⟨33, _⟩ => ⟨S16400x8x192, .f32⟩
  | .hbm, ⟨34, _⟩ => ⟨S16400x8x128, .f32⟩
  | .hbm, ⟨35, _⟩ => ⟨S16400x8x64, .f32⟩
  | .hbm, ⟨36, _⟩ => ⟨S16400x8x256, .f32⟩
  | .hbm, ⟨37, _⟩ => ⟨S16400x8x128, .f32⟩
  | .hbm, ⟨38, _⟩ => ⟨S16400x8x128, .f32⟩
  | .hbm, ⟨39, _⟩ => ⟨S16400x1x32, .f32⟩
  | .hbm, ⟨40, _⟩ => ⟨S16400x1x32, .f32⟩
  | .hbm, ⟨41, _⟩ => ⟨S16400x8x32, .f32⟩
  | .hbm, ⟨42, _⟩ => ⟨S16400x8x32, .f32⟩
  | .hbm, ⟨43, _⟩ => ⟨S16400x8x32, .f32⟩
  | .hbm, ⟨44, _⟩ => ⟨S16400x8x32, .f32⟩
  | .hbm, ⟨45, _⟩ => ⟨S16400x8x32, .f32⟩
  | .hbm, ⟨46, _⟩ => ⟨S16400x8x32, .f32⟩
  | .hbm, ⟨47, _⟩ => ⟨S16400x8x32, .f32⟩
  | .hbm, ⟨48, _⟩ => ⟨S16400x8x32, .f32⟩
  | .hbm, ⟨49, _⟩ => ⟨S16400x8x32, .f32⟩
  | .hbm, ⟨50, _⟩ => ⟨S16400x8x32, .f32⟩
  | .hbm, ⟨51, _⟩ => ⟨S16400x8x32, .f32⟩
  | .hbm, ⟨52, _⟩ => ⟨S16400x8x32, .f32⟩
  | .hbm, ⟨53, _⟩ => ⟨S16400x8x64, .f32⟩
  | .hbm, ⟨54, _⟩ => ⟨S16400x32, .f32⟩
  | .hbm, ⟨55, _⟩ => ⟨S16400x32, .f32⟩
  | .hbm, ⟨56, _⟩ => ⟨S16400x32, .f32⟩
  | .hbm, ⟨57, _⟩ => ⟨S16400x32, .f32⟩
  | .hbm, ⟨58, _⟩ => ⟨S16400x32, .f32⟩
  | .hbm, ⟨59, _⟩ => ⟨S16400x32, .f32⟩
  | .hbm, ⟨60, _⟩ => ⟨S16400x32, .f32⟩
  | .hbm, ⟨61, _⟩ => ⟨S16400x32, .f32⟩
  | .hbm, ⟨62, _⟩ => ⟨S16400x64, .f32⟩
  | .hbm, ⟨63, _⟩ => ⟨S16400x1x64, .f32⟩
  | .hbm, ⟨64, _⟩ => ⟨S16400x8x64, .f32⟩
  | .hbm, ⟨65, _⟩ => ⟨S_, .f32⟩
  | .hbm, ⟨66, _⟩ => ⟨S16400x64, .f32⟩
  | .hbm, ⟨67, _⟩ => ⟨S16400x1x64, .f32⟩
  | .hbm, ⟨68, _⟩ => ⟨S_, .f32⟩
  | .hbm, ⟨69, _⟩ => ⟨S16400x64, .f32⟩
  | .hbm, ⟨70, _⟩ => ⟨S16400x32, .f32⟩
  | .hbm, ⟨71, _⟩ => ⟨S16400x32, .f32⟩
  | .hbm, ⟨72, _⟩ => ⟨S16400x32, .f32⟩
  | .hbm, ⟨73, _⟩ => ⟨S16400x32, .f32⟩
  | .hbm, ⟨74, _⟩ => ⟨S16400x32, .f32⟩
  | .hbm, ⟨75, _⟩ => ⟨S16400x32, .f32⟩
  | .hbm, ⟨76, _⟩ => ⟨S16400x32, .f32⟩
  | .hbm, ⟨77, _⟩ => ⟨S16400x32, .f32⟩
  | .hbm, ⟨78, _⟩ => ⟨S16400x32, .f32⟩
  | .hbm, ⟨79, _⟩ => ⟨S16400x64, .f32⟩
  | .hbm, ⟨80, _⟩ => ⟨S16400x8x32, .f32⟩
  | .hbm, ⟨81, _⟩ => ⟨S16400x8x32, .f32⟩
  | .hbm, ⟨82, _⟩ => ⟨S16400x8x32, .f32⟩
  | .hbm, ⟨83, _⟩ => ⟨S16400x8x32, .f32⟩
  | .hbm, ⟨84, _⟩ => ⟨S16400x8x32, .f32⟩
  | .hbm, ⟨85, _⟩ => ⟨S16400x8x32, .f32⟩
  | .hbm, ⟨86, _⟩ => ⟨S16400x8x32, .f32⟩
  | .hbm, ⟨87, _⟩ => ⟨S16400x8x32, .f32⟩
  | .hbm, ⟨88, _⟩ => ⟨S16400x8x32, .f32⟩
  | .hbm, ⟨89, _⟩ => ⟨S16400x8x32, .f32⟩
  | .hbm, ⟨90, _⟩ => ⟨S16400x8x32, .f32⟩
  | .hbm, ⟨91, _⟩ => ⟨S16400x8x32, .f32⟩
  | .hbm, ⟨92, _⟩ => ⟨S16400x8x32, .f32⟩
  | .hbm, ⟨93, _⟩ => ⟨S16400x8x64, .f32⟩
  | .hbm, ⟨94, _⟩ => ⟨S_, .f32⟩
  | .hbm, ⟨95, _⟩ => ⟨S16400x8x256, .f32⟩
  | .hbm, ⟨96, _⟩ => ⟨S_, .f32⟩
  | .hbm, ⟨97, _⟩ => ⟨S16400x8x256, .f32⟩
  | .hbm, ⟨98, _⟩ => ⟨S16400x8x256, .f32⟩
  | .hbm, ⟨99, _⟩ => ⟨S16400x2048, .f32⟩
  | .hbm, ⟨100, _⟩ => ⟨S_, .f32⟩
  | .hbm, ⟨101, _⟩ => ⟨S16400x8x192, .f32⟩
  | .hbm, ⟨102, _⟩ => ⟨S_, .f32⟩
  | .hbm, ⟨103, _⟩ => ⟨S16400x8x192, .f32⟩
  | .hbm, ⟨104, _⟩ => ⟨S16400x8x192, .f32⟩
  | .hbm, ⟨105, _⟩ => ⟨S16400x1536, .f32⟩
  | .hbm, ⟨106, _⟩ => ⟨S16400x8x192, .f32⟩
  | .hbm, ⟨107, _⟩ => ⟨S16400x8x128, .f32⟩
  | .hbm, ⟨108, _⟩ => ⟨S16400x1024, .f32⟩
  | .hbm, ⟨109, _⟩ => ⟨S16400x8x64, .f32⟩
  | .hbm, ⟨110, _⟩ => ⟨S16400x512, .f32⟩
  | .hbm, ⟨111, _⟩ => ⟨S16400x1536, .f32⟩
  | .hbm, ⟨112, _⟩ => ⟨S_, .f32⟩
  | .hbm, ⟨113, _⟩ => ⟨S16400x64, .f32⟩
  | .hbm, ⟨114, _⟩ => ⟨S16400x128, .f32⟩
  | .hbm, ⟨115, _⟩ => ⟨S16400x1536, .bf16⟩
  | .hbm, ⟨116, _⟩ => ⟨S_, .bf16⟩
  | .hbm, ⟨117, _⟩ => ⟨S496x1536, .bf16⟩
  | .hbm, ⟨118, _⟩ => ⟨S16896x1536, .bf16⟩
  | .hbm, ⟨119, _⟩ => ⟨S16400x2048, .bf16⟩
  | .hbm, ⟨120, _⟩ => ⟨S_, .bf16⟩
  | .hbm, ⟨121, _⟩ => ⟨S496x2048, .bf16⟩
  | .hbm, ⟨122, _⟩ => ⟨S16896x2048, .bf16⟩
  | .hbm, ⟨123, _⟩ => ⟨S_, .f32⟩
  | .hbm, ⟨124, _⟩ => ⟨S496x128, .f32⟩
  | .hbm, ⟨125, _⟩ => ⟨S16896x128, .f32⟩
  | _, _ => ⟨S16400x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_cst_1 : Ref sig .tc := ⟨.hbm, 9, rfl⟩
abbrev main_v2 : Ref sig .tc := ⟨.hbm, 10, rfl⟩
abbrev main_v3 : Ref sig .tc := ⟨.hbm, 11, rfl⟩
abbrev main_cst_2 : Ref sig .tc := ⟨.hbm, 12, rfl⟩
abbrev main_v4 : Ref sig .tc := ⟨.hbm, 13, rfl⟩
abbrev main_v5 : Ref sig .tc := ⟨.hbm, 14, rfl⟩
abbrev main_cst_3 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_4 : Ref sig .tc := ⟨.hbm, 19, rfl⟩
abbrev main_v9 : Ref sig .tc := ⟨.hbm, 20, rfl⟩
abbrev main_v10 : Ref sig .tc := ⟨.hbm, 21, rfl⟩
abbrev main_cst_5 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_cst_6 : Ref sig .tc := ⟨.hbm, 65, rfl⟩
abbrev main_v53 : Ref sig .tc := ⟨.hbm, 66, rfl⟩
abbrev main_v54 : Ref sig .tc := ⟨.hbm, 67, rfl⟩
abbrev main_cst_7 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_cst_8 : Ref sig .tc := ⟨.hbm, 94, rfl⟩
abbrev main_v80 : Ref sig .tc := ⟨.hbm, 95, rfl⟩
abbrev main_cst_9 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_cst_10 : Ref sig .tc := ⟨.hbm, 100, rfl⟩
abbrev main_v84 : Ref sig .tc := ⟨.hbm, 101, rfl⟩
abbrev main_cst_11 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_cst_12 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_cst_13 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_cst_14 : Ref sig .tc := ⟨.hbm, 120, rfl⟩
abbrev main_v100 : Ref sig .tc := ⟨.hbm, 121, rfl⟩
abbrev main_v101 : Ref sig .tc := ⟨.hbm, 122, rfl⟩
abbrev main_cst_15 : Ref sig .tc := ⟨.hbm, 123, rfl⟩
abbrev main_v102 : Ref sig .tc := ⟨.hbm, 124, rfl⟩
abbrev main_v103 : Ref sig .tc := ⟨.hbm, 125, rfl⟩

abbrev nD : Nat := 1
abbrev τ : Topo := Topo.v7x

variable {F : FTy → Type} [FloatOps F]
-- ==== Convxs.lean ====
abbrev S16400x1024 : Shape := ⟨2, ![16400, 1024]⟩
abbrev S4x1024 : Shape := ⟨2, ![4, 1024]⟩
abbrev S1x1024 : Shape := ⟨2, ![1, 1024]⟩
abbrev S_ : Shape := ⟨0, ![]⟩
abbrev S16400x2048 : Shape := ⟨2, ![16400, 2048]⟩
abbrev S16400x512 : Shape := ⟨2, ![16400, 512]⟩
abbrev S16400x3584 : Shape := ⟨2, ![16400, 3584]⟩
abbrev S496x3584 : Shape := ⟨2, ![496, 3584]⟩
abbrev S16896x3584 : Shape := ⟨2, ![16896, 3584]⟩
abbrev S3x1024 : Shape := ⟨2, ![3, 1024]⟩
abbrev S496x1024 : Shape := ⟨2, ![496, 1024]⟩
abbrev S16896x1024 : Shape := ⟨2, ![16896, 1024]⟩
abbrev S16899x1024 : Shape := ⟨2, ![16899, 1024]⟩
abbrev S1024 : Shape := ⟨1, ![1024]⟩
abbrev S8x1024 : Shape := ⟨2, ![8, 1024]⟩
abbrev S768x1024 : Shape := ⟨2, ![768, 1024]⟩
abbrev S776x1024 : Shape := ⟨2, ![776, 1024]⟩

abbrev nBuf : Space → Nat
  | .hbm => 58
  | .vmem => 17
  | .smem => 0
  | _ => 0

abbrev bufTy : (tb : Table) → Fin (tcTables nBuf tb) → BufTy
  | .hbm, ⟨0, _⟩ => ⟨S16400x1024, .f32⟩
  | .hbm, ⟨1, _⟩ => ⟨S4x1024, .f32⟩
  | .hbm, ⟨2, _⟩ => ⟨S1x1024, .f32⟩
  | .hbm, ⟨3, _⟩ => ⟨S16400x1024, .f32⟩
  | .hbm, ⟨4, _⟩ => ⟨S_, .f32⟩
  | .hbm, ⟨5, _⟩ => ⟨S16400x2048, .f32⟩
  | .hbm, ⟨6, _⟩ => ⟨S_, .f32⟩
  | .hbm, ⟨7, _⟩ => ⟨S16400x512, .f32⟩
  | .hbm, ⟨8, _⟩ => ⟨S16400x3584, .f32⟩
  | .hbm, ⟨9, _⟩ => ⟨S_, .f32⟩
  | .hbm, ⟨10, _⟩ => ⟨S496x3584, .f32⟩
  | .hbm, ⟨11, _⟩ => ⟨S16896x3584, .f32⟩
  | .hbm, ⟨12, _⟩ => ⟨S_, .f32⟩
  | .hbm, ⟨13, _⟩ => ⟨S3x1024, .f32⟩
  | .hbm, ⟨14, _⟩ => ⟨S_, .f32⟩
  | .hbm, ⟨15, _⟩ => ⟨S496x1024, .f32⟩
  | .hbm, ⟨16, _⟩ => ⟨S16896x1024, .f32⟩
  | .hbm, ⟨17, _⟩ => ⟨S16899x1024, .f32⟩
  | .hbm, ⟨18, _⟩ => ⟨S1x1024, .f32⟩
  | .hbm, ⟨19, _⟩ => ⟨S1024, .f32⟩
  | .hbm, ⟨20, _⟩ => ⟨S16896x1024, .f32⟩
  | .hbm, ⟨21, _⟩ => ⟨S1x1024, .f32⟩
  | .hbm, ⟨22, _⟩ => ⟨S16896x1024, .f32⟩
  | .hbm, ⟨23, _⟩ => ⟨S16896x1024, .f32⟩
  | .hbm, ⟨24, _⟩ => ⟨S_, .f32⟩
  | .hbm, ⟨25, _⟩ => ⟨S16896x1024, .f32⟩
  | .hbm, ⟨26, _⟩ => ⟨S16896x1024, .f32⟩
  | .hbm, ⟨27, _⟩ => ⟨S1x1024, .f32⟩
  | .hbm, ⟨28, _⟩ => ⟨S1024, .f32⟩
  | .hbm, ⟨29, _⟩ => ⟨S16896x1024, .f32⟩
  | .hbm, ⟨30, _⟩ => ⟨S1x1024, .f32⟩
  | .hbm, ⟨31, _⟩ => ⟨S16896x1024, .f32⟩
  | .hbm, ⟨32, _⟩ => ⟨S16896x1024, .f32⟩
  | .hbm, ⟨33, _⟩ => ⟨S16896x1024, .f32⟩
  | .hbm, ⟨34, _⟩ => ⟨S1x1024, .f32⟩
  | .hbm, ⟨35, _⟩ => ⟨S1024, .f32⟩
  | .hbm, ⟨36, _⟩ => ⟨S16896x1024, .f32⟩
  | .hbm, ⟨37, _⟩ => ⟨S1x1024, .f32⟩
  | .hbm, ⟨38, _⟩ => ⟨S16896x1024, .f32⟩
  | .hbm, ⟨39, _⟩ => ⟨S16896x1024, .f32⟩
  | .hbm, ⟨40, _⟩ => ⟨S16896x1024, .f32⟩
  | .hbm, ⟨41, _⟩ => ⟨S1x1024, .f32⟩
  | .hbm, ⟨42, _⟩ => ⟨S1024, .f32⟩
  | .hbm, ⟨43, _⟩ => ⟨S16896x1024, .f32⟩
  | .hbm, ⟨44, _⟩ => ⟨S1x1024, .f32⟩
  | .hbm, ⟨45, _⟩ => ⟨S16896x1024, .f32⟩
  | .hbm, ⟨46, _⟩ => ⟨S16896x1024, .f32⟩
  | .hbm, ⟨47, _⟩ => ⟨S16896x1024, .f32⟩
  | .hbm, ⟨48, _⟩ => ⟨S1024, .f32⟩
  | .hbm, ⟨49, _⟩ => ⟨S1x1024, .f32⟩
  | .hbm, ⟨50, _⟩ => ⟨S16896x1024, .f32⟩
  | .hbm, ⟨51, _⟩ => ⟨S16896x1024, .f32⟩
  | .hbm, ⟨52, _⟩ => ⟨S_, .f32⟩
  | .hbm, ⟨53, _⟩ => ⟨S496x1024, .f32⟩
  | .hbm, ⟨54, _⟩ => ⟨S16896x1024, .f32⟩
  | .hbm, ⟨55, _⟩ => ⟨S16896x1024, .f32⟩
  | .hbm, ⟨56, _⟩ => ⟨S8x1024, .f32⟩
  | .hbm, ⟨57, _⟩ => ⟨S1x1024, .f32⟩
  | .local _ .vmem, ⟨0, _⟩ => ⟨S768x1024, .f32⟩
  | .local _ .vmem, ⟨1, _⟩ => ⟨S768x1024, .f32⟩
  | .local _ .vmem, ⟨2, _⟩ => ⟨S8x1024, .f32⟩
  | .local _ .vmem, ⟨3, _⟩ => ⟨S8x1024, .f32⟩
  | .local _ .vmem, ⟨4, _⟩ => ⟨S768x1024, .f32⟩
  | .local _ .vmem, ⟨5, _⟩ => ⟨S768x1024, .f32⟩
  | .local _ .vmem, ⟨6, _⟩ => ⟨S8x1024, .f32⟩
  | .local _ .vmem, ⟨7, _⟩ => ⟨S8x1024, .f32⟩
  | .local _ .vmem, ⟨8, _⟩ => ⟨S768x1024, .f32⟩
  | .local _ .vmem, ⟨9, _⟩ => ⟨S768x1024, .f32⟩
  | .local _ .vmem, ⟨10, _⟩ => ⟨S8x1024, .f32⟩
  | .local _ .vmem, ⟨11, _⟩ => ⟨S8x1024, .f32⟩
  | .local _ .vmem, ⟨12, _⟩ => ⟨S4x1024, .f32⟩
  | .local _ .vmem, ⟨13, _⟩ => ⟨S768x1024, .f32⟩
  | .local _ .vmem, ⟨14, _⟩ => ⟨S768x1024, .f32⟩
  | .local _ .vmem, ⟨15, _⟩ => ⟨S8x1024, .f32⟩
  | .local _ .vmem, ⟨16, _⟩ => ⟨S1x1024, .f32⟩
  | _, _ => ⟨S16400x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_cst_2 : Ref sig .tc := ⟨.hbm, 12, rfl⟩
abbrev main_v5 : Ref sig .tc := ⟨.hbm, 13, rfl⟩
abbrev main_cst_3 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_cst_5 : Ref sig .tc := ⟨.hbm, 52, rfl⟩
abbrev main_v42 : Ref sig .tc := ⟨.hbm, 53, rfl⟩
abbrev main_v43 : Ref sig .tc := ⟨.hbm, 54, rfl⟩
abbrev main_v44_0 : Ref sig .tc := ⟨.hbm, 55, rfl⟩
abbrev main_v44_1 : Ref sig .tc := ⟨.hbm, 56, rfl⟩
abbrev main_v44_2 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem9_0 : DmaSem sig := 16

abbrev nD : Nat := 1
abbrev τ : Topo := Topo.v7x

variable {F : FTy → Type} [FloatOps F]

abbrev grid0 : Pipeline.Grid := ⟨1, ![22], ![false]⟩

def k0_cond1 (i : grid0.Coords) : BitVec 1 :=
  let arg0 : BitVec 32 := BitVec.ofNat 32 (i 0).val
  let c0_i32_35 : BitVec 32 := 0#32
  let v93 : BitVec 1 := Scalar.cmpi .eq arg0 c0_i32_35
  let v94 : BitVec 32 := Scalar.extui v93
  let c0_i32_36 : BitVec 32 := 0#32
  let v95 : BitVec 1 := Scalar.cmpi .ne v94 c0_i32_36
  v95

def k0_cond2 (i : grid0.Coords) : BitVec 1 :=
  let arg0 : BitVec 32 := BitVec.ofNat 32 (i 0).val
  let c0_i32_35 : BitVec 32 := 0#32
  let v93 : BitVec 1 := Scalar.cmpi .eq arg0 c0_i32_35
  let v_true : BitVec 1 := 1#1
  let v96 : BitVec 1 := Scalar.xori v93 v_true
  let v97 : BitVec 32 := Scalar.extui v96
  let c0_i32_37 : BitVec 32 := 0#32
  let v98 : BitVec 1 := Scalar.cmpi .ne v97 c0_i32_37
  v98

def k0_cond3 (i : grid0.Coords) : BitVec 1 :=
  let arg0 : BitVec 32 := BitVec.ofNat 32 (i 0).val
  let c0_i32_39 : BitVec 32 := 0#32
  let v101 : BitVec 1 := Scalar.cmpi .eq arg0 c0_i32_39
  let v102 : BitVec 32 := Scalar.extui v101
  let c0_i32_40 : BitVec 32 := 0#32
  let v103 : BitVec 1 := Scalar.cmpi .ne v102 c0_i32_40
  v103

def k0_cond4 (i : grid0.Coords) : BitVec 1 :=
  let arg0 : BitVec 32 := BitVec.ofNat 32 (i 0).val
  let c0_i32_39 : BitVec 32 := 0#32
  let v101 : BitVec 1 := Scalar.cmpi .eq arg0 c0_i32_39
  let true_41 : BitVec 1 := 1#1
  let v104 : BitVec 1 := Scalar.xori v101 true_41
  let v105 : BitVec 32 := Scalar.extui v104
  let c0_i32_42 : BitVec 32 := 0#32
  let v106 : BitVec 1 := Scalar.cmpi .ne v105 c0_i32_42
  v106

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c96_i32 : BitVec 32 := 96#32
  let v1 : BitVec 32 := Scalar.muli v0 c96_i32
  let c2111_i32 : BitVec 32 := 2111#32
  let v2 : BitVec 32 := Scalar.minsi v1 c2111_i32
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let v0 : BitVec 32 := Scalar.addi arg0 c1_i32
  let c96_i32 : BitVec 32 := 96#32
  let v1 : BitVec 32 := Scalar.muli v0 c96_i32
  let c2111_i32 : BitVec 32 := 2111#32
  let v2 : BitVec 32 := Scalar.minsi v1 c2111_i32
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_5 (i : grid0.Coords) : Fin 2 → Nat :=
  let arg0 : BitVec 32 := BitVec.ofNat 32 (i 0).val
  let c96_i32 : BitVec 32 := 96#32
  let v0 : BitVec 32 := Scalar.muli arg0 c96_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![v2.toNat, c2_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S768x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S768x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ConvxsRefIdeal.lean ====
abbrev S16400x1024 : Shape := ⟨2, ![16400, 1024]⟩
abbrev S4x1024 : Shape := ⟨2, ![4, 1024]⟩
abbrev S1x1024 : Shape := ⟨2, ![1, 1024]⟩
abbrev S_ : Shape := ⟨0, ![]⟩
abbrev S3x1024 : Shape := ⟨2, ![3, 1024]⟩
abbrev S16403x1024 : Shape := ⟨2, ![16403, 1024]⟩
abbrev S1024 : Shape := ⟨1, ![1024]⟩
abbrev S496x1024 : Shape := ⟨2, ![496, 1024]⟩
abbrev S16896x1024 : Shape := ⟨2, ![16896, 1024]⟩
abbrev S8x1024 : Shape := ⟨2, ![8, 1024]⟩

abbrev nBuf : Space → Nat
  | .hbm => 132
  | .vmem => 0
  | .smem => 0
  | _ => 0

abbrev hbmTy0_0 (i : Nat) : BufTy := match i % 128 with
  | 0 => ⟨S16400x1024, .f32⟩
  | 1 => ⟨S4x1024, .f32⟩
  | 2 => ⟨S1x1024, .f32⟩
  | 3 => ⟨S16400x1024, .f32⟩
  | 4 => ⟨S_, .f32⟩
  | 5 => ⟨S3x1024, .f32⟩
  | 6 => ⟨S16403x1024, .f32⟩
  | 7 => ⟨S_, .f32⟩
  | 8 => ⟨S3x1024, .f32⟩
  | 9 => ⟨S1x1024, .f32⟩
  | 10 => ⟨S1024, .f32⟩
  | 11 => ⟨S16400x1024, .f32⟩
  | 12 => ⟨S1x1024, .f32⟩
  | 13 => ⟨S16400x1024, .f32⟩
  | 14 => ⟨S16400x1024, .f32⟩
  | 15 => ⟨S_, .f32⟩
  | 16 => ⟨S16400x1024, .f32⟩
  | 17 => ⟨S16400x1024, .f32⟩
  | 18 => ⟨S1x1024, .f32⟩
  | 19 => ⟨S1024, .f32⟩
  | 20 => ⟨S16400x1024, .f32⟩
  | 21 => ⟨S1x1024, .f32⟩
  | 22 => ⟨S16400x1024, .f32⟩
  | 23 => ⟨S16400x1024, .f32⟩
  | 24 => ⟨S16400x1024, .f32⟩
  | 25 => ⟨S1x1024, .f32⟩
  | 26 => ⟨S1024, .f32⟩
  | 27 => ⟨S16400x1024, .f32⟩
  | 28 => ⟨S1x1024, .f32⟩
  | 29 => ⟨S16400x1024, .f32⟩
  | 30 => ⟨S16400x1024, .f32⟩
  | 31 => ⟨S16400x1024, .f32⟩
  | 32 => ⟨S1x1024, .f32⟩
  | 33 => ⟨S1024, .f32⟩
  | 34 => ⟨S16400x1024, .f32⟩
  | 35 => ⟨S1x1024, .f32⟩
  | 36 => ⟨S16400x1024, .f32⟩
  | 37 => ⟨S16400x1024, .f32⟩
  | 38 => ⟨S16400x1024, .f32⟩
  | 39 => ⟨S1024, .f32⟩
  | 40 => ⟨S1x1024, .f32⟩
  | 41 => ⟨S16400x1024, .f32⟩
  | 42 => ⟨S16400x1024, .f32⟩
  | 43 => ⟨S16400x1024, .f32⟩
  | 44 => ⟨S16400x1024, .f32⟩
  | 45 => ⟨S_, .f32⟩
  | 46 => ⟨S16400x1024, .f32⟩
  | 47 => ⟨S16400x1024, .f32⟩
  | 48 => ⟨S_, .f32⟩
  | 49 => ⟨S16400x1024, .f32⟩
  | 50 => ⟨S16400x1024, .f32⟩
  | 51 => ⟨S_, .f32⟩
  | 52 => ⟨S16400x1024, .f32⟩
  | 53 => ⟨S16400x1024, .f32⟩
  | 54 => ⟨S16400x1024, .f32⟩
  | 55 => ⟨S16400x1024, .f32⟩
  | 56 => ⟨S16400x1024, .f32⟩
  | 57 => ⟨S16400x1024, .f32⟩
  | 58 => ⟨S16400x1024, .f32⟩
  | 59 => ⟨S16400x1024, .f32⟩
  | 60 => ⟨S_, .f32⟩
  | 61 => ⟨S1024, .f32⟩
  | 62 => ⟨S1x1024, .f32⟩
  | 63 => ⟨S_, .f32⟩
  | 64 => ⟨S1024, .f32⟩
  | 65 => ⟨S1x1024, .f32⟩
  | 66 => ⟨S16400x1024, .f32⟩
  | 67 => ⟨S16400x1024, .f32⟩
  | 68 => ⟨S16400x1024, .f32⟩
  | 69 => ⟨S_, .f32⟩
  | 70 => ⟨S1024, .f32⟩
  | 71 => ⟨S1x1024, .f32⟩
  | 72 => ⟨S_, .f32⟩
  | 73 => ⟨S1024, .f32⟩
  | 74 => ⟨S_, .f32⟩
  | 75 => ⟨S16403x1024, .f32⟩
  | 76 => ⟨S1x1024, .f32⟩
  | 77 => ⟨S_, .f32⟩
  | 78 => ⟨S4x1024, .f32⟩
  | 79 => ⟨S16400x1024, .f32⟩
  | 80 => ⟨S16400x1024, .f32⟩
  | 81 => ⟨S16400x1024, .f32⟩
  | 82 => ⟨S_, .f32⟩
  | 83 => ⟨S1024, .f32⟩
  | 84 => ⟨S1x1024, .f32⟩
  | 85 => ⟨S_, .f32⟩
  | 86 => ⟨S1024, .f32⟩
  | 87 => ⟨S_, .f32⟩
  | 88 => ⟨S16403x1024, .f32⟩
  | 89 => ⟨S16403x1024, .f32⟩
  | 90 => ⟨S1x1024, .f32⟩
  | 91 => ⟨S_, .f32⟩
  | 92 => ⟨S4x1024, .f32⟩
  | 93 => ⟨S4x1024, .f32⟩
  | 94 => ⟨S16400x1024, .f32⟩
  | 95 => ⟨S16400x1024, .f32⟩
  | 96 => ⟨S16400x1024, .f32⟩
  | 97 => ⟨S_, .f32⟩
  | 98 => ⟨S1024, .f32⟩
  | 99 => ⟨S1x1024, .f32⟩
  | 100 => ⟨S_, .f32⟩
  | 101 => ⟨S1024, .f32⟩
  | 102 => ⟨S_, .f32⟩
  | 103 => ⟨S16403x1024, .f32⟩
  | 104 => ⟨S16403x1024, .f32⟩
  | 105 => ⟨S1x1024, .f32⟩
  | 106 => ⟨S_, .f32⟩
  | 107 => ⟨S4x1024, .f32⟩
  | 108 => ⟨S4x1024, .f32⟩
  | 109 => ⟨S16400x1024, .f32⟩
  | 110 => ⟨S16400x1024, .f32⟩
  | 111 => ⟨S16400x1024, .f32⟩
  | 112 => ⟨S_, .f32⟩
  | 113 => ⟨S1024, .f32⟩
  | 114 => ⟨S1x1024, .f32⟩
  | 115 => ⟨S_, .f32⟩
  | 116 => ⟨S1024, .f32⟩
  | 117 => ⟨S_, .f32⟩
  | 118 => ⟨S16403x1024, .f32⟩
  | 119 => ⟨S16403x1024, .f32⟩
  | 120 => ⟨S1x1024, .f32⟩
  | 121 => ⟨S_, .f32⟩
  | 122 => ⟨S4x1024, .f32⟩
  | 123 => ⟨S4x1024, .f32⟩
  | 124 => ⟨S3x1024, .f32⟩
  | 125 => ⟨S16400x1024, .f32⟩
  | 126 => ⟨S_, .f32⟩
  | 127 => ⟨S496x1024, .f32⟩
  | _ => ⟨S16400x1024, .f32⟩

abbrev hbmTy0_1 (i : Nat) : BufTy := match i % 128 with
  | 0 => ⟨S16896x1024, .f32⟩
  | 1 => ⟨S_, .f32⟩
  | 2 => ⟨S4x1024, .f32⟩
  | 3 => ⟨S8x1024, .f32⟩
  | _ => ⟨S16400x1024, .f32⟩

abbrev hbmTy (i : Nat) : BufTy := match i / 128 with
  | 0 => hbmTy0_0 i
  | 1 => hbmTy0_1 i
  | _ => ⟨S16400x1024, .f32⟩

abbrev bufTy : (tb : Table) → Fin (tcTables nBuf tb) → BufTy
  | .hbm, ⟨i, _⟩ => hbmTy i
  | _, _ => ⟨S16400x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_call0_v0 : Ref sig .tc := ⟨.hbm, 43, rfl⟩
abbrev main_call0_v1 : Ref sig .tc := ⟨.hbm, 44, rfl⟩
abbrev main_call0_cst : Ref sig .tc := ⟨.hbm, 45, rfl⟩
abbrev main_call0_v2 : Ref sig .tc := ⟨.hbm, 46, rfl⟩
abbrev main_call0_v3 : Ref sig .tc := ⟨.hbm, 47, rfl⟩
abbrev main_call0_cst_0 : Ref sig .tc := ⟨.hbm, 48, rfl⟩
abbrev main_call0_v4 : Ref sig .tc := ⟨.hbm, 49, rfl⟩
abbrev main_v36_2 : Ref sig .tc := ⟨.hbm, 50, rfl⟩
abbrev main_call0_cst_1 : Ref sig .tc := ⟨.hbm, 51, rfl⟩
abbrev main_call0_v6 : Ref sig .tc := ⟨.hbm, 52, rfl⟩
abbrev main_call0_v7 : Ref sig .tc := ⟨.hbm, 53, rfl⟩
abbrev main_v36_1 : Ref sig .tc := ⟨.hbm, 54, rfl⟩
abbrev main_v36_0 : Ref sig .tc := ⟨.hbm, 55, rfl⟩
abbrev main_call1_v0 : Ref sig .tc := ⟨.hbm, 56, rfl⟩
abbrev main_call1_v1 : Ref sig .tc := ⟨.hbm, 57, rfl⟩
abbrev main_call1_v2 : Ref sig .tc := ⟨.hbm, 58, rfl⟩
abbrev main_v37 : Ref sig .tc := ⟨.hbm, 59, rfl⟩
abbrev main_cst_2 : Ref sig .tc := ⟨.hbm, 60, rfl⟩
abbrev main_v38 : Ref sig .tc := ⟨.hbm, 61, rfl⟩
abbrev main_v39 : Ref sig .tc := ⟨.hbm, 62, rfl⟩
abbrev main_cst_3 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_cst_4 : Ref sig .tc := ⟨.hbm, 69, rfl⟩
abbrev main_v45 : Ref sig .tc := ⟨.hbm, 70, rfl⟩
abbrev main_v46 : Ref sig .tc := ⟨.hbm, 71, rfl⟩
abbrev main_cst_5 : Ref sig .tc := ⟨.hbm, 72, rfl⟩
abbrev main_v47 : Ref sig .tc := ⟨.hbm, 73, rfl⟩
abbrev main_cst_6 : Ref sig .tc := ⟨.hbm, 74, rfl⟩
abbrev main_v48 : Ref sig .tc := ⟨.hbm, 75, rfl⟩
abbrev main_v49 : Ref sig .tc := ⟨.hbm, 76, rfl⟩
abbrev main_cst_7 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_cst_8 : Ref sig .tc := ⟨.hbm, 82, rfl⟩
abbrev main_v54 : Ref sig .tc := ⟨.hbm, 83, rfl⟩
abbrev main_v55 : Ref sig .tc := ⟨.hbm, 84, rfl⟩
abbrev main_cst_9 : Ref sig .tc := ⟨.hbm, 85, rfl⟩
abbrev main_v56 : Ref sig .tc := ⟨.hbm, 86, rfl⟩
abbrev main_cst_10 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_cst_11 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_cst_12 : Ref sig .tc := ⟨.hbm, 97, rfl⟩
abbrev main_v65 : Ref sig .tc := ⟨.hbm, 98, rfl⟩
abbrev main_v66 : Ref sig .tc := ⟨.hbm, 99, rfl⟩
abbrev main_cst_13 : Ref sig .tc := ⟨.hbm, 100, rfl⟩
abbrev main_v67 : Ref sig .tc := ⟨.hbm, 101, rfl⟩
abbrev main_cst_14 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_cst_15 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_cst_16 : Ref sig .tc := ⟨.hbm, 112, rfl⟩
abbrev main_v76 : Ref sig .tc := ⟨.hbm, 113, rfl⟩
abbrev main_v77 : Ref sig .tc := ⟨.hbm, 114, rfl⟩
abbrev main_cst_17 : Ref sig .tc := ⟨.hbm, 115, rfl⟩
abbrev main_v78 : Ref sig .tc := ⟨.hbm, 116, rfl⟩
abbrev main_cst_18 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_cst_19 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_cst_20 : Ref sig .tc := ⟨.hbm, 126, rfl⟩
abbrev main_v86 : Ref sig .tc := ⟨.hbm, 127, rfl⟩
abbrev main_v87 : Ref sig .tc := ⟨.hbm, 128, rfl⟩
abbrev main_cst_21 : Ref sig .tc := ⟨.hbm, 129, rfl⟩
abbrev main_v88 : Ref sig .tc := ⟨.hbm, 130, rfl⟩
abbrev main_v89 : Ref sig .tc := ⟨.hbm, 131, rfl⟩

abbrev nD : Nat := 1
abbrev τ : Topo := Topo.v7x

variable {F : FTy → Type} [FloatOps F]
-- ==== Act.lean ====
abbrev S16400x1024 : Shape := ⟨2, ![16400, 1024]⟩
abbrev S1024x4096 : Shape := ⟨2, ![1024, 4096]⟩
abbrev S4096x1024 : Shape := ⟨2, ![4096, 1024]⟩
abbrev S16400x4096 : Shape := ⟨2, ![16400, 4096]⟩
abbrev S_ : Shape := ⟨0, ![]⟩
abbrev S496x4096 : Shape := ⟨2, ![496, 4096]⟩
abbrev S16896x4096 : Shape := ⟨2, ![16896, 4096]⟩
abbrev S496x1024 : Shape := ⟨2, ![496, 1024]⟩
abbrev S16896x1024 : Shape := ⟨2, ![16896, 1024]⟩
abbrev S512x1024 : Shape := ⟨2, ![512, 1024]⟩
abbrev S512x4096 : Shape := ⟨2, ![512, 4096]⟩

abbrev nBuf : Space → Nat
  | .hbm => 19
  | .vmem => 7
  | .smem => 0
  | _ => 0

abbrev bufTy : (tb : Table) → Fin (tcTables nBuf tb) → BufTy
  | .hbm, ⟨0, _⟩ => ⟨S16400x1024, .f32⟩
  | .hbm, ⟨1, _⟩ => ⟨S1024x4096, .f32⟩
  | .hbm, ⟨2, _⟩ => ⟨S4096x1024, .f32⟩
  | .hbm, ⟨3, _⟩ => ⟨S16400x1024, .f32⟩
  | .hbm, ⟨4, _⟩ => ⟨S16400x4096, .f32⟩
  | .hbm, ⟨5, _⟩ => ⟨S_, .f32⟩
  | .hbm, ⟨6, _⟩ => ⟨S16400x4096, .f32⟩
  | .hbm, ⟨7, _⟩ => ⟨S16400x4096, .f32⟩
  | .hbm, ⟨8, _⟩ => ⟨S16400x4096, .f32⟩
  | .hbm, ⟨9, _⟩ => ⟨S16400x4096, .bf16⟩
  | .hbm, ⟨10, _⟩ => ⟨S_, .bf16⟩
  | .hbm, ⟨11, _⟩ => ⟨S496x4096, .bf16⟩
  | .hbm, ⟨12, _⟩ => ⟨S16896x4096, .bf16⟩
  | .hbm, ⟨13, _⟩ => ⟨S16400x1024, .bf16⟩
  | .hbm, ⟨14, _⟩ => ⟨S_, .bf16⟩
  | .hbm, ⟨15, _⟩ => ⟨S496x1024, .bf16⟩
  | .hbm, ⟨16, _⟩ => ⟨S16896x1024, .bf16⟩
  | .hbm, ⟨17, _⟩ => ⟨S4096x1024, .bf16⟩
  | .hbm, ⟨18, _⟩ => ⟨S16896x4096, .bf16⟩
  | .local _ .vmem, ⟨0, _⟩ => ⟨S512x1024, .bf16⟩
  | .local _ .vmem, ⟨1, _⟩ => ⟨S512x1024, .bf16⟩
  | .local _ .vmem, ⟨2, _⟩ => ⟨S4096x1024, .bf16⟩
  | .local _ .vmem, ⟨3, _⟩ => ⟨S512x4096, .bf16⟩
  | .local _ .vmem, ⟨4, _⟩ => ⟨S512x4096, .bf16⟩
  | .local _ .vmem, ⟨5, _⟩ => ⟨S512x4096, .bf16⟩
  | .local _ .vmem, ⟨6, _⟩ => ⟨S512x4096, .bf16⟩
  | _, _ => ⟨S16400x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![1, 33], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ActRefIdeal.lean ====
abbrev S16400x1024 : Shape := ⟨2, ![16400, 1024]⟩
abbrev S1024x4096 : Shape := ⟨2, ![1024, 4096]⟩
abbrev S4096x1024 : Shape := ⟨2, ![4096, 1024]⟩
abbrev S16400x4096 : Shape := ⟨2, ![16400, 4096]⟩
abbrev S_ : Shape := ⟨0, ![]⟩
abbrev S496x4096 : Shape := ⟨2, ![496, 4096]⟩
abbrev S16896x4096 : Shape := ⟨2, ![16896, 4096]⟩

abbrev nBuf : Space → Nat
  | .hbm => 27
  | .vmem => 0
  | .smem => 0
  | _ => 0

abbrev bufTy : (tb : Table) → Fin (tcTables nBuf tb) → BufTy
  | .hbm, ⟨0, _⟩ => ⟨S16400x1024, .f32⟩
  | .hbm, ⟨1, _⟩ => ⟨S1024x4096, .f32⟩
  | .hbm, ⟨2, _⟩ => ⟨S4096x1024, .f32⟩
  | .hbm, ⟨3, _⟩ => ⟨S16400x1024, .f32⟩
  | .hbm, ⟨4, _⟩ => ⟨S16400x4096, .f32⟩
  | .hbm, ⟨5, _⟩ => ⟨S_, .f32⟩
  | .hbm, ⟨6, _⟩ => ⟨S16400x4096, .f32⟩
  | .hbm, ⟨7, _⟩ => ⟨S16400x4096, .f32⟩
  | .hbm, ⟨8, _⟩ => ⟨S_, .f32⟩
  | .hbm, ⟨9, _⟩ => ⟨S16400x4096, .f32⟩
  | .hbm, ⟨10, _⟩ => ⟨S16400x4096, .i1⟩
  | .hbm, ⟨11, _⟩ => ⟨S_, .f32⟩
  | .hbm, ⟨12, _⟩ => ⟨S16400x4096, .f32⟩
  | .hbm, ⟨13, _⟩ => ⟨S16400x4096, .f32⟩
  | .hbm, ⟨14, _⟩ => ⟨S_, .f32⟩
  | .hbm, ⟨15, _⟩ => ⟨S16400x4096, .f32⟩
  | .hbm, ⟨16, _⟩ => ⟨S16400x4096, .f32⟩
  | .hbm, ⟨17, _⟩ => ⟨S16400x1024, .f32⟩
  | .hbm, ⟨18, _⟩ => ⟨S16400x4096, .f32⟩
  | .hbm, ⟨19, _⟩ => ⟨S16400x4096, .f32⟩
  | .hbm, ⟨20, _⟩ => ⟨S_, .f32⟩
  | .hbm, ⟨21, _⟩ => ⟨S16400x4096, .f32⟩
  | .hbm, ⟨22, _⟩ => ⟨S16400x4096, .f32⟩
  | .hbm, ⟨23, _⟩ => ⟨S16400x4096, .bf16⟩
  | .hbm, ⟨24, _⟩ => ⟨S_, .bf16⟩
  | .hbm, ⟨25, _⟩ => ⟨S496x4096, .bf16⟩
  | .hbm, ⟨26, _⟩ => ⟨S16896x4096, .bf16⟩
  | _, _ => ⟨S16400x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩

abbrev nD : Nat := 1
abbrev τ : Topo := Topo.v7x

variable {F : FTy → Type} [FloatOps F]
-- ==== Gated.lean ====
abbrev S16400x1024 : Shape := ⟨2, ![16400, 1024]⟩
abbrev S1x1024 : Shape := ⟨2, ![1, 1024]⟩
abbrev S_ : Shape := ⟨0, ![]⟩
abbrev S16400x1536 : Shape := ⟨2, ![16400, 1536]⟩
abbrev S16400x3584 : Shape := ⟨2, ![16400, 3584]⟩
abbrev S496x3584 : Shape := ⟨2, ![496, 3584]⟩
abbrev S16896x3584 : Shape := ⟨2, ![16896, 3584]⟩
abbrev S16400x2048 : Shape := ⟨2, ![16400, 2048]⟩
abbrev S496x2048 : Shape := ⟨2, ![496, 2048]⟩
abbrev S16896x2048 : Shape := ⟨2, ![16896, 2048]⟩
abbrev S496x1024 : Shape := ⟨2, ![496, 1024]⟩
abbrev S16896x1024 : Shape := ⟨2, ![16896, 1024]⟩
abbrev S768x512 : Shape := ⟨2, ![768, 512]⟩
abbrev S1x512 : Shape := ⟨2, ![1, 512]⟩
abbrev S768x1024 : Shape := ⟨2, ![768, 1024]⟩
abbrev S768 : Shape := ⟨1, ![768]⟩
abbrev S768x1 : Shape := ⟨2, ![768, 1]⟩
abbrev S512 : Shape := ⟨1, ![512]⟩

abbrev nBuf : Space → Nat
  | .hbm => 24
  | .vmem => 19
  | .smem => 0
  | _ => 0

abbrev bufTy : (tb : Table) → Fin (tcTables nBuf tb) → BufTy
  | .hbm, ⟨0, _⟩ => ⟨S16400x1024, .f32⟩
  | .hbm, ⟨1, _⟩ => ⟨S16400x1024, .f32⟩
  | .hbm, ⟨2, _⟩ => ⟨S1x1024, .f32⟩
  | .hbm, ⟨3, _⟩ => ⟨S16400x1024, .f32⟩
  | .hbm, ⟨4, _⟩ => ⟨S_, .f32⟩
  | .hbm, ⟨5, _⟩ => ⟨S16400x1024, .f32⟩
  | .hbm, ⟨6, _⟩ => ⟨S_, .f32⟩
  | .hbm, ⟨7, _⟩ => ⟨S16400x1536, .f32⟩
  | .hbm, ⟨8, _⟩ => ⟨S16400x3584, .f32⟩
  | .hbm, ⟨9, _⟩ => ⟨S_, .f32⟩
  | .hbm, ⟨10, _⟩ => ⟨S496x3584, .f32⟩
  | .hbm, ⟨11, _⟩ => ⟨S16896x3584, .f32⟩
  | .hbm, ⟨12, _⟩ => ⟨S_, .f32⟩
  | .hbm, ⟨13, _⟩ => ⟨S16400x1024, .f32⟩
  | .hbm, ⟨14, _⟩ => ⟨S16400x2048, .f32⟩
  | .hbm, ⟨15, _⟩ => ⟨S_, .f32⟩
  | .hbm, ⟨16, _⟩ => ⟨S496x2048, .f32⟩
  | .hbm, ⟨17, _⟩ => ⟨S16896x2048, .f32⟩
  | .hbm, ⟨18, _⟩ => ⟨S_, .f32⟩
  | .hbm, ⟨19, _⟩ => ⟨S496x1024, .f32⟩
  | .hbm, ⟨20, _⟩ => ⟨S16896x1024, .f32⟩
  | .hbm, ⟨21, _⟩ => ⟨S16896x1024, .f32⟩
  | .hbm, ⟨22, _⟩ => ⟨S16896x1024, .f32⟩
  | .hbm, ⟨23, _⟩ => ⟨S1x1024, .f32⟩
  | .local _ .vmem, ⟨0, _⟩ => ⟨S768x512, .f32⟩
  | .local _ .vmem, ⟨1, _⟩ => ⟨S768x512, .f32⟩
  | .local _ .vmem, ⟨2, _⟩ => ⟨S768x512, .f32⟩
  | .local _ .vmem, ⟨3, _⟩ => ⟨S768x512, .f32⟩
  | .local _ .vmem, ⟨4, _⟩ => ⟨S768x512, .f32⟩
  | .local _ .vmem, ⟨5, _⟩ => ⟨S768x512, .f32⟩
  | .local _ .vmem, ⟨6, _⟩ => ⟨S768x512, .f32⟩
  | .local _ .vmem, ⟨7, _⟩ => ⟨S768x512, .f32⟩
  | .local _ .vmem, ⟨8, _⟩ => ⟨S1x512, .f32⟩
  | .local _ .vmem, ⟨9, _⟩ => ⟨S1x512, .f32⟩
  | .local _ .vmem, ⟨10, _⟩ => ⟨S768x512, .f32⟩
  | .local _ .vmem, ⟨11, _⟩ => ⟨S768x512, .f32⟩
  | .local _ .vmem, ⟨12, _⟩ => ⟨S768x512, .f32⟩
  | .local _ .vmem, ⟨13, _⟩ => ⟨S768x512, .f32⟩
  | .local _ .vmem, ⟨14, _⟩ => ⟨S768x1024, .f32⟩
  | .local _ .vmem, ⟨15, _⟩ => ⟨S768x1024, .f32⟩
  | .local _ .vmem, ⟨16, _⟩ => ⟨S768x1024, .f32⟩
  | .local _ .vmem, ⟨17, _⟩ => ⟨S768x1024, .f32⟩
  | .local _ .vmem, ⟨18, _⟩ => ⟨S1x1024, .f32⟩
  | _, _ => ⟨S16400x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_cst_2 : Ref sig .tc := ⟨.hbm, 12, rfl⟩
abbrev main_v5 : Ref sig .tc := ⟨.hbm, 13, rfl⟩
abbrev main_v6 : Ref sig .tc := ⟨.hbm, 14, rfl⟩
abbrev main_cst_3 : Ref sig .tc := ⟨.hbm, 15, rfl⟩
abbrev main_v7 : Ref sig .tc := ⟨.hbm, 16, rfl⟩
abbrev main_v8 : Ref sig .tc := ⟨.hbm, 17, rfl⟩
abbrev main_cst_4 : Ref sig .tc := ⟨.hbm, 18, rfl⟩
abbrev main_v9 : Ref sig .tc := ⟨.hbm, 19, rfl⟩
abbrev main_v10 : Ref sig .tc := ⟨.hbm, 20, rfl⟩
abbrev main_v11_0 : Ref sig .tc := ⟨.hbm, 21, rfl⟩
abbrev main_v11_1 : Ref sig .tc := ⟨.hbm, 22, rfl⟩
abbrev main_v11_2 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18

abbrev nD : Nat := 1
abbrev τ : Topo := Topo.v7x

variable {F : FTy → Type} [FloatOps F]

abbrev grid0 : Pipeline.Grid := ⟨1, ![22], ![false]⟩

def k0_cond1 (i : grid0.Coords) : BitVec 1 :=
  let arg0 : BitVec 32 := BitVec.ofNat 32 (i 0).val
  let c0_i32 : BitVec 32 := 0#32
  let v135 : BitVec 1 := Scalar.cmpi .eq arg0 c0_i32
  let v136 : BitVec 32 := Scalar.extui v135
  let c0_i32_51 : BitVec 32 := 0#32
  let v137 : BitVec 1 := Scalar.cmpi .ne v136 c0_i32_51
  v137

def k0_cond2 (i : grid0.Coords) : BitVec 1 :=
  let arg0 : BitVec 32 := BitVec.ofNat 32 (i 0).val
  let c0_i32 : BitVec 32 := 0#32
  let v135 : BitVec 1 := Scalar.cmpi .eq arg0 c0_i32
  let v_true : BitVec 1 := 1#1
  let v138 : BitVec 1 := Scalar.xori v135 v_true
  let v139 : BitVec 32 := Scalar.extui v138
  let c0_i32_52 : BitVec 32 := 0#32
  let v140 : BitVec 1 := Scalar.cmpi .ne v139 c0_i32_52
  v140

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_6 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_7 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S768x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S768x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S768x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S768x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S768x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S768x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S768x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S768x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== GatedRefIdeal.lean ====
abbrev S16400x1024 : Shape := ⟨2, ![16400, 1024]⟩
abbrev S1x1024 : Shape := ⟨2, ![1, 1024]⟩
abbrev S_ : Shape := ⟨0, ![]⟩
abbrev S16400x2x512 : Shape := ⟨3, ![16400, 2, 512]⟩
abbrev S16400x2 : Shape := ⟨2, ![16400, 2]⟩
abbrev S16400x2x1 : Shape := ⟨3, ![16400, 2, 1]⟩
abbrev S1024 : Shape := ⟨1, ![1024]⟩
abbrev S496x1024 : Shape := ⟨2, ![496, 1024]⟩
abbrev S16896x1024 : Shape := ⟨2, ![16896, 1024]⟩

abbrev nBuf : Space → Nat
  | .hbm => 82
  | .vmem => 0
  | .smem => 0
  | _ => 0

abbrev bufTy : (tb : Table) → Fin (tcTables nBuf tb) → BufTy
  | .hbm, ⟨0, _⟩ => ⟨S16400x1024, .f32⟩
  | .hbm, ⟨1, _⟩ => ⟨S16400x1024, .f32⟩
  | .hbm, ⟨2, _⟩ => ⟨S1x1024, .f32⟩
  | .hbm, ⟨3, _⟩ => ⟨S16400x1024, .f32⟩
  | .hbm, ⟨4, _⟩ => ⟨S16400x1024, .f32⟩
  | .hbm, ⟨5, _⟩ => ⟨S16400x1024, .f32⟩
  | .hbm, ⟨6, _⟩ => ⟨S_, .f32⟩
  | .hbm, ⟨7, _⟩ => ⟨S16400x1024, .f32⟩
  | .hbm, ⟨8, _⟩ => ⟨S16400x1024, .f32⟩
  | .hbm, ⟨9, _⟩ => ⟨S_, .f32⟩
  | .hbm, ⟨10, _⟩ => ⟨S16400x1024, .f32⟩
  | .hbm, ⟨11, _⟩ => ⟨S16400x1024, .f32⟩
  | .hbm, ⟨12, _⟩ => ⟨S_, .f32⟩
  | .hbm, ⟨13, _⟩ => ⟨S16400x1024, .f32⟩
  | .hbm, ⟨14, _⟩ => ⟨S16400x1024, .f32⟩
  | .hbm, ⟨15, _⟩ => ⟨S16400x1024, .f32⟩
  | .hbm, ⟨16, _⟩ => ⟨S16400x1024, .f32⟩
  | .hbm, ⟨17, _⟩ => ⟨S16400x1024, .f32⟩
  | .hbm, ⟨18, _⟩ => ⟨S16400x2x512, .f32⟩
  | .hbm, ⟨19, _⟩ => ⟨S16400x2x512, .f32⟩
  | .hbm, ⟨20, _⟩ => ⟨S_, .f32⟩
  | .hbm, ⟨21, _⟩ => ⟨S16400x2x512, .f32⟩
  | .hbm, ⟨22, _⟩ => ⟨S16400x2x512, .f32⟩
  | .hbm, ⟨23, _⟩ => ⟨S_, .f32⟩
  | .hbm, ⟨24, _⟩ => ⟨S16400x2, .f32⟩
  | .hbm, ⟨25, _⟩ => ⟨S16400x2x1, .f32⟩
  | .hbm, ⟨26, _⟩ => ⟨S_, .f32⟩
  | .hbm, ⟨27, _⟩ => ⟨S16400x2x1, .f32⟩
  | .hbm, ⟨28, _⟩ => ⟨S16400x2x1, .f32⟩
  | .hbm, ⟨29, _⟩ => ⟨S_, .f32⟩
  | .hbm, ⟨30, _⟩ => ⟨S16400x2x1, .f32⟩
  | .hbm, ⟨31, _⟩ => ⟨S16400x2x1, .f32⟩
  | .hbm, ⟨32, _⟩ => ⟨S16400x2x1, .f32⟩
  | .hbm, ⟨33, _⟩ => ⟨S16400x2x1, .f32⟩
  | .hbm, ⟨34, _⟩ => ⟨S_, .f32⟩
  | .hbm, ⟨35, _⟩ => ⟨S16400x2x1, .f32⟩
  | .hbm, ⟨36, _⟩ => ⟨S16400x2x1, .f32⟩
  | .hbm, ⟨37, _⟩ => ⟨S16400x2x512, .f32⟩
  | .hbm, ⟨38, _⟩ => ⟨S16400x2x512, .f32⟩
  | .hbm, ⟨39, _⟩ => ⟨S16400x1024, .f32⟩
  | .hbm, ⟨40, _⟩ => ⟨S1024, .f32⟩
  | .hbm, ⟨41, _⟩ => ⟨S1x1024, .f32⟩
  | .hbm, ⟨42, _⟩ => ⟨S16400x1024, .f32⟩
  | .hbm, ⟨43, _⟩ => ⟨S16400x1024, .f32⟩
  | .hbm, ⟨44, _⟩ => ⟨S16400x1024, .f32⟩
  | .hbm, ⟨45, _⟩ => ⟨S_, .f32⟩
  | .hbm, ⟨46, _⟩ => ⟨S1024, .f32⟩
  | .hbm, ⟨47, _⟩ => ⟨S1x1024, .f32⟩
  | .hbm, ⟨48, _⟩ => ⟨S16400x1024, .f32⟩
  | .hbm, ⟨49, _⟩ => ⟨S16400x1024, .f32⟩
  | .hbm, ⟨50, _⟩ => ⟨S_, .f32⟩
  | .hbm, ⟨51, _⟩ => ⟨S1024, .f32⟩
  | .hbm, ⟨52, _⟩ => ⟨S1x1024, .f32⟩
  | .hbm, ⟨53, _⟩ => ⟨S16400x2x512, .f32⟩
  | .hbm, ⟨54, _⟩ => ⟨S16400x2x512, .f32⟩
  | .hbm, ⟨55, _⟩ => ⟨S_, .f32⟩
  | .hbm, ⟨56, _⟩ => ⟨S16400x2, .f32⟩
  | .hbm, ⟨57, _⟩ => ⟨S16400x2x1, .f32⟩
  | .hbm, ⟨58, _⟩ => ⟨S16400x2x512, .f32⟩
  | .hbm, ⟨59, _⟩ => ⟨S16400x2x512, .f32⟩
  | .hbm, ⟨60, _⟩ => ⟨S16400x2x1, .f32⟩
  | .hbm, ⟨61, _⟩ => ⟨S_, .f32⟩
  | .hbm, ⟨62, _⟩ => ⟨S16400x2x1, .f32⟩
  | .hbm, ⟨63, _⟩ => ⟨S16400x2x1, .f32⟩
  | .hbm, ⟨64, _⟩ => ⟨S_, .f32⟩
  | .hbm, ⟨65, _⟩ => ⟨S16400x2, .f32⟩
  | .hbm, ⟨66, _⟩ => ⟨S16400x2x512, .f32⟩
  | .hbm, ⟨67, _⟩ => ⟨S16400x2x512, .f32⟩
  | .hbm, ⟨68, _⟩ => ⟨S16400x2x512, .f32⟩
  | .hbm, ⟨69, _⟩ => ⟨S16400x1024, .f32⟩
  | .hbm, ⟨70, _⟩ => ⟨S16400x1024, .f32⟩
  | .hbm, ⟨71, _⟩ => ⟨S16400x1024, .f32⟩
  | .hbm, ⟨72, _⟩ => ⟨S16400x1024, .f32⟩
  | .hbm, ⟨73, _⟩ => ⟨S16400x1024, .f32⟩
  | .hbm, ⟨74, _⟩ => ⟨S16400x1024, .f32⟩
  | .hbm, ⟨75, _⟩ => ⟨S16400x1024, .f32⟩
  | .hbm, ⟨76, _⟩ => ⟨S_, .f32⟩
  | .hbm, ⟨77, _⟩ => ⟨S496x1024, .f32⟩
  | .hbm, ⟨78, _⟩ => ⟨S16896x1024, .f32⟩
  | .hbm, ⟨79, _⟩ => ⟨S_, .f32⟩
  | .hbm, ⟨80, _⟩ => ⟨S496x1024, .f32⟩
  | .hbm, ⟨81, _⟩ => ⟨S16896x1024, .f32⟩
  | _, _ => ⟨S16400x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst : Ref sig .tc := ⟨.hbm, 20, rfl⟩
abbrev main_v4 : Ref sig .tc := ⟨.hbm, 21, rfl⟩
abbrev main_v5 : Ref sig .tc := ⟨.hbm, 22, rfl⟩
abbrev main_cst_0 : Ref sig .tc := ⟨.hbm, 23, rfl⟩
abbrev main_v6 : Ref sig .tc := ⟨.hbm, 24, rfl⟩
abbrev main_v7 : Ref sig .tc := ⟨.hbm, 25, rfl⟩
abbrev main_cst_1 : Ref sig .tc := ⟨.hbm, 26, rfl⟩
abbrev main_v8 : Ref sig .tc := ⟨.hbm, 27, rfl⟩
abbrev main_v9 : Ref sig .tc := ⟨.hbm, 28, rfl⟩
abbrev main_cst_2 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_cst_3 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_cst_4 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_cst_5 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_cst_6 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_cst_7 : Ref sig .tc := ⟨.hbm, 61, rfl⟩
abbrev main_v37 : Ref sig .tc := ⟨.hbm, 62, rfl⟩
abbrev main_v38 : Ref sig .tc := ⟨.hbm, 63, rfl⟩
abbrev main_cst_8 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_call1_v0 : Ref sig .tc := ⟨.hbm, 72, rfl⟩
abbrev main_call1_v1 : Ref sig .tc := ⟨.hbm, 73, rfl⟩
abbrev main_call1_v2 : Ref sig .tc := ⟨.hbm, 74, rfl⟩
abbrev main_v46 : Ref sig .tc := ⟨.hbm, 75, rfl⟩
abbrev main_cst_9 : Ref sig .tc := ⟨.hbm, 76, rfl⟩
abbrev main_v47 : Ref sig .tc := ⟨.hbm, 77, rfl⟩
abbrev main_v48 : Ref sig .tc := ⟨.hbm, 78, rfl⟩
abbrev main_cst_10 : Ref sig .tc := ⟨.hbm, 79, rfl⟩
abbrev main_v49 : Ref sig .tc := ⟨.hbm, 80, rfl⟩
abbrev main_v50 : Ref sig .tc := ⟨.hbm, 81, rfl⟩

abbrev nD : Nat := 1
abbrev τ : Topo := Topo.v7x

variable {F : FTy → Type} [FloatOps F]
-- ==== Ssd.lean ====
abbrev S16400x1024 : Shape := ⟨2, ![16400, 1024]⟩
abbrev S16400x256 : Shape := ⟨2, ![16400, 256]⟩
abbrev S16400x16 : Shape := ⟨2, ![16400, 16]⟩
abbrev S1x16 : Shape := ⟨2, ![1, 16]⟩
abbrev S66x8x128x128 : Shape := ⟨4, ![66, 8, 128, 128]⟩
abbrev S_ : Shape := ⟨0, ![]⟩
abbrev S496x1024 : Shape := ⟨2, ![496, 1024]⟩
abbrev S16896x1024 : Shape := ⟨2, ![16896, 1024]⟩
abbrev S16400x512 : Shape := ⟨2, ![16400, 512]⟩
abbrev S496x512 : Shape := ⟨2, ![496, 512]⟩
abbrev S16896x512 : Shape := ⟨2, ![16896, 512]⟩
abbrev S496x16 : Shape := ⟨2, ![496, 16]⟩
abbrev S16896x16 : Shape := ⟨2, ![16896, 16]⟩
abbrev S16x16896 : Shape := ⟨2, ![16, 16896]⟩
abbrev S16x1 : Shape := ⟨2, ![16, 1]⟩
abbrev S256x1024 : Shape := ⟨2, ![256, 1024]⟩
abbrev S256x256 : Shape := ⟨2, ![256, 256]⟩
abbrev S256x16 : Shape := ⟨2, ![256, 16]⟩
abbrev S16x256 : Shape := ⟨2, ![16, 256]⟩
abbrev S1x8x128x128 : Shape := ⟨4, ![1, 8, 128, 128]⟩
abbrev S256x512 : Shape := ⟨2, ![256, 512]⟩
abbrev S8x128x128 : Shape := ⟨3, ![8, 128, 128]⟩
abbrev S256x128 : Shape := ⟨2, ![256, 128]⟩
abbrev S1x1x128x128 : Shape := ⟨4, ![1, 1, 128, 128]⟩
abbrev S128x128 : Shape := ⟨2, ![128, 128]⟩
abbrev S1x128 : Shape := ⟨2, ![1, 128]⟩
abbrev S256x1 : Shape := ⟨2, ![256, 1]⟩
abbrev S16 : Shape := ⟨1, ![16]⟩
abbrev S256 : Shape := ⟨1, ![256]⟩
abbrev S1x256 : Shape := ⟨2, ![1, 256]⟩
abbrev S1 : Shape := ⟨1, ![1]⟩
abbrev S1x1 : Shape := ⟨2, ![1, 1]⟩
abbrev S1x128x128 : Shape := ⟨3, ![1, 128, 128]⟩
abbrev S128x256 : Shape := ⟨2, ![128, 256]⟩
abbrev S128 : Shape := ⟨1, ![128]⟩
abbrev S1x1x128 : Shape := ⟨3, ![1, 1, 128]⟩
abbrev S1x1x1 : Shape := ⟨3, ![1, 1, 1]⟩

abbrev nBuf : Space → Nat
  | .hbm => 30
  | .vmem => 29
  | .smem => 0
  | _ => 0

abbrev bufTy : (tb : Table) → Fin (tcTables nBuf tb) → BufTy
  | .hbm, ⟨0, _⟩ => ⟨S16400x1024, .f32⟩
  | .hbm, ⟨1, _⟩ => ⟨S16400x256, .f32⟩
  | .hbm, ⟨2, _⟩ => ⟨S16400x256, .f32⟩
  | .hbm, ⟨3, _⟩ => ⟨S16400x16, .f32⟩
  | .hbm, ⟨4, _⟩ => ⟨S1x16, .f32⟩
  | .hbm, ⟨5, _⟩ => ⟨S1x16, .f32⟩
  | .hbm, ⟨6, _⟩ => ⟨S66x8x128x128, .f32⟩
  | .hbm, ⟨7, _⟩ => ⟨S16400x1024, .f32⟩
  | .hbm, ⟨8, _⟩ => ⟨S_, .f32⟩
  | .hbm, ⟨9, _⟩ => ⟨S496x1024, .f32⟩
  | .hbm, ⟨10, _⟩ => ⟨S16896x1024, .f32⟩
  | .hbm, ⟨11, _⟩ => ⟨S16400x512, .f32⟩
  | .hbm, ⟨12, _⟩ => ⟨S_, .f32⟩
  | .hbm, ⟨13, _⟩ => ⟨S496x512, .f32⟩
  | .hbm, ⟨14, _⟩ => ⟨S16896x512, .f32⟩
  | .hbm, ⟨15, _⟩ => ⟨S_, .f32⟩
  | .hbm, ⟨16, _⟩ => ⟨S496x16, .f32⟩
  | .hbm, ⟨17, _⟩ => ⟨S16896x16, .f32⟩
  | .hbm, ⟨18, _⟩ => ⟨S16x16896, .f32⟩
  | .hbm, ⟨19, _⟩ => ⟨S16x1, .f32⟩
  | .hbm, ⟨20, _⟩ => ⟨S_, .f32⟩
  | .hbm, ⟨21, _⟩ => ⟨S496x1024, .f32⟩
  | .hbm, ⟨22, _⟩ => ⟨S16896x1024, .f32⟩
  | .hbm, ⟨23, _⟩ => ⟨S16896x1024, .f32⟩
  | .hbm, ⟨24, _⟩ => ⟨S16896x512, .f32⟩
  | .hbm, ⟨25, _⟩ => ⟨S16896x16, .f32⟩
  | .hbm, ⟨26, _⟩ => ⟨S16x16896, .f32⟩
  | .hbm, ⟨27, _⟩ => ⟨S1x16, .f32⟩
  | .hbm, ⟨28, _⟩ => ⟨S16x1, .f32⟩
  | .hbm, ⟨29, _⟩ => ⟨S1x16, .f32⟩
  | .local _ .vmem, ⟨0, _⟩ => ⟨S256x1024, .f32⟩
  | .local _ .vmem, ⟨1, _⟩ => ⟨S256x1024, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x16, .f32⟩
  | .local _ .vmem, ⟨7, _⟩ => ⟨S256x16, .f32⟩
  | .local _ .vmem, ⟨8, _⟩ => ⟨S16x256, .f32⟩
  | .local _ .vmem, ⟨9, _⟩ => ⟨S16x256, .f32⟩
  | .local _ .vmem, ⟨10, _⟩ => ⟨S1x16, .f32⟩
  | .local _ .vmem, ⟨11, _⟩ => ⟨S16x1, .f32⟩
  | .local _ .vmem, ⟨12, _⟩ => ⟨S1x16, .f32⟩
  | .local _ .vmem, ⟨13, _⟩ => ⟨S1x8x128x128, .f32⟩
  | .local _ .vmem, ⟨14, _⟩ => ⟨S1x8x128x128, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S256x512, .f32⟩
  | .local _ .vmem, ⟨20, _⟩ => ⟨S256x512, .f32⟩
  | .local _ .vmem, ⟨21, _⟩ => ⟨S256x16, .f32⟩
  | .local _ .vmem, ⟨22, _⟩ => ⟨S256x16, .f32⟩
  | .local _ .vmem, ⟨23, _⟩ => ⟨S16x256, .f32⟩
  | .local _ .vmem, ⟨24, _⟩ => ⟨S16x256, .f32⟩
  | .local _ .vmem, ⟨25, _⟩ => ⟨S1x16, .f32⟩
  | .local _ .vmem, ⟨26, _⟩ => ⟨S16x1, .f32⟩
  | .local _ .vmem, ⟨27, _⟩ => ⟨S1x16, .f32⟩
  | .local _ .vmem, ⟨28, _⟩ => ⟨S8x128x128, .f32⟩
  | _, _ => ⟨S16400x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11_0 : Ref sig .tc := ⟨.hbm, 23, rfl⟩
abbrev main_v11_1 : Ref sig .tc := ⟨.hbm, 24, rfl⟩
abbrev main_v11_2 : Ref sig .tc := ⟨.hbm, 25, rfl⟩
abbrev main_v11_3 : Ref sig .tc := ⟨.hbm, 26, rfl⟩
abbrev main_v11_4 : Ref sig .tc := ⟨.hbm, 27, rfl⟩
abbrev main_v11_5 : Ref sig .tc := ⟨.hbm, 28, rfl⟩
abbrev main_v11_6 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg15_0 : Ref sig .tc := ⟨.vmem, 26, rfl⟩
abbrev cc0_stg16_0 : Ref sig .tc := ⟨.vmem, 27, rfl⟩
abbrev cc0_scratch0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem15_0 : DmaSem sig := 26
abbrev cc0_sem16_0 : DmaSem sig := 27

abbrev nD : Nat := 1
abbrev τ : Topo := Topo.v7x

variable {F : FTy → Type} [FloatOps F]

abbrev grid0 : Pipeline.Grid := ⟨1, ![66], ![false]⟩

def k0_cond2 (i : grid0.Coords) : BitVec 1 :=
  let arg0 : BitVec 32 := BitVec.ofNat 32 (i 0).val
  let c0_i32_836 : BitVec 32 := 0#32
  let v3409 : BitVec 1 := Scalar.cmpi .eq arg0 c0_i32_836
  let v3410 : BitVec 32 := Scalar.extui v3409
  let c0_i32_837 : BitVec 32 := 0#32
  let v3411 : BitVec 1 := Scalar.cmpi .ne v3410 c0_i32_837
  v3411

def k0_cond3 (i : grid0.Coords) : BitVec 1 :=
  let arg0 : BitVec 32 := BitVec.ofNat 32 (i 0).val
  let c0_i32_836 : BitVec 32 := 0#32
  let v3409 : BitVec 1 := Scalar.cmpi .eq arg0 c0_i32_836
  let v_true : BitVec 1 := 1#1
  let v3412 : BitVec 1 := Scalar.xori v3409 v_true
  let v3413 : BitVec 32 := Scalar.extui v3412
  let c0_i32_838 : BitVec 32 := 0#32
  let v3414 : BitVec 1 := Scalar.cmpi .ne v3413 c0_i32_838
  v3414

def k0_cond4 (i : grid0.Coords) : BitVec 1 :=
  let arg0 : BitVec 32 := BitVec.ofNat 32 (i 0).val
  let c0_i32_839 : BitVec 32 := 0#32
  let v3415 : BitVec 1 := Scalar.cmpi .eq arg0 c0_i32_839
  let v3416 : BitVec 32 := Scalar.extui v3415
  let c0_i32_840 : BitVec 32 := 0#32
  let v3417 : BitVec 1 := Scalar.cmpi .ne v3416 c0_i32_840
  v3417

def k0_cond5 (i : grid0.Coords) : BitVec 1 :=
  let arg0 : BitVec 32 := BitVec.ofNat 32 (i 0).val
  let c0_i32_839 : BitVec 32 := 0#32
  let v3415 : BitVec 1 := Scalar.cmpi .eq arg0 c0_i32_839
  let true_841 : BitVec 1 := 1#1
  let v3418 : BitVec 1 := Scalar.xori v3415 true_841
  let v3419 : BitVec 32 := Scalar.extui v3418
  let c0_i32_842 : BitVec 32 := 0#32
  let v3420 : BitVec 1 := Scalar.cmpi .ne v3419 c0_i32_842
  v3420

def k0_cond6 (i : grid0.Coords) : BitVec 1 :=
  let arg0 : BitVec 32 := BitVec.ofNat 32 (i 0).val
  let c0_i32_843 : BitVec 32 := 0#32
  let v3421 : BitVec 1 := Scalar.cmpi .eq arg0 c0_i32_843
  let v3422 : BitVec 32 := Scalar.extui v3421
  let c0_i32_844 : BitVec 32 := 0#32
  let v3423 : BitVec 1 := Scalar.cmpi .ne v3422 c0_i32_844
  v3423

def k0_cond7 (i : grid0.Coords) : BitVec 1 :=
  let arg0 : BitVec 32 := BitVec.ofNat 32 (i 0).val
  let c0_i32_843 : BitVec 32 := 0#32
  let v3421 : BitVec 1 := Scalar.cmpi .eq arg0 c0_i32_843
  let true_845 : BitVec 1 := 1#1
  let v3424 : BitVec 1 := Scalar.xori v3421 true_845
  let v3425 : BitVec 32 := Scalar.extui v3424
  let c0_i32_846 : BitVec 32 := 0#32
  let v3426 : BitVec 1 := Scalar.cmpi .ne v3425 c0_i32_846
  v3426

def cc0_transform_0 (i : grid0.Coords) : Fin 2 → Nat :=
  let arg0 : BitVec 32 := BitVec.ofNat 32 (i 0).val
  let c65_i32 : BitVec 32 := 65#32
  let v0 : BitVec 32 := Scalar.subi c65_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c65_i32 : BitVec 32 := 65#32
  let v0 : BitVec 32 := Scalar.subi c65_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c65_i32 : BitVec 32 := 65#32
  let v0 : BitVec 32 := Scalar.subi c65_i32 arg0
  let c1_i32 : BitVec 32 := 1#32
  let c0_i32 : BitVec 32 := 0#32
  ![v0.toNat, c1_i32.toNat]

def cc0_transform_3 (i : grid0.Coords) : Fin 2 → Nat :=
  let arg0 : BitVec 32 := BitVec.ofNat 32 (i 0).val
  let c65_i32 : BitVec 32 := 65#32
  let v0 : BitVec 32 := Scalar.subi c65_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c65_i32 : BitVec 32 := 65#32
  let v0 : BitVec 32 := Scalar.subi c65_i32 arg0
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let c65_i32 : BitVec 32 := 65#32
  let v0 : BitVec 32 := Scalar.subi c65_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_9 (i : grid0.Coords) : Fin 2 → Nat :=
  let arg0 : BitVec 32 := BitVec.ofNat 32 (i 0).val
  let c65_i32 : BitVec 32 := 65#32
  let v0 : BitVec 32 := Scalar.subi c65_i32 arg0
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c65_i32 : BitVec 32 := 65#32
  let v0 : BitVec 32 := Scalar.subi c65_i32 arg0
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c65_i32 : BitVec 32 := 65#32
  let v0 : BitVec 32 := Scalar.subi c65_i32 arg0
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c65_i32 : BitVec 32 := 65#32
  let v0 : BitVec 32 := Scalar.subi c65_i32 arg0
  let c0_i32 : BitVec 32 := 0#32
  let c0_i32_0 : BitVec 32 := 0#32
  ![v0.toNat, c0_i32.toNat]

def cc0_transform_13 (i : grid0.Coords) : Fin 2 → Nat :=
  let arg0 : BitVec 32 := BitVec.ofNat 32 (i 0).val
  let c65_i32 : BitVec 32 := 65#32
  let v0 : BitVec 32 := Scalar.subi c65_i32 arg0
  let c0_i32 : BitVec 32 := 0#32
  let c0_i32_0 : BitVec 32 := 0#32
  ![c0_i32.toNat, v0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x8x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x16 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S16x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1x16 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S16x1 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x16 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== Proof.RealCoe.lean ====
/-
  Extended reals that are real numbers: sums of them, the test `|x| < ∞` that the preconditions state, and the real
  numbers that the programs' float words stand for.
-/
module

public import Idealize.ShloMosaic.PureOps.Ideal
public import Idealize.ShloMosaic.PureOps.Ideal.Laws
public import Idealize.ShloMosaic.Lib.Pointwise

@[expose] public section

noncomputable section

open Idealize.ShloMosaic

namespace Cert.RealCoe

/-- A sum of real numbers, taken among the extended reals, is the real sum. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A value that is not an infinity is a real number. -/
def Finite (x : EReal) : Prop := ∃ r : ℝ, x = (r : EReal)

theorem finite_coe (r : ℝ) : Finite (r : EReal) := ⟨r, rfl⟩

theorem finite_zero : Finite 0 := ⟨0, rfl⟩

theorem Finite.mul {x y : EReal} (hx : Finite x) (hy : Finite y) : Finite (x * y) := by
  obtain ⟨a, rfl⟩ := hx; obtain ⟨b, rfl⟩ := hy; exact ⟨a * b, by norm_cast⟩

theorem Finite.add {x y : EReal} (hx : Finite x) (hy : Finite y) : Finite (x + y) := by
  obtain ⟨a, rfl⟩ := hx; obtain ⟨b, rfl⟩ := hy; exact ⟨a + b, by norm_cast⟩

theorem Finite.sub {x y : EReal} (hx : Finite x) (hy : Finite y) : Finite (x - y) := by
  obtain ⟨a, rfl⟩ := hx; obtain ⟨b, rfl⟩ := hy; exact ⟨a - b, by norm_cast⟩

theorem Finite.neg {x : EReal} (hx : Finite x) : Finite (-x) := by
  obtain ⟨a, rfl⟩ := hx; exact ⟨-a, by norm_cast⟩

theorem Finite.sum {ι : Type} {s : Finset ι} {f : ι → EReal} (h : ∀ i ∈ s, Finite (f i)) : Finite (∑ i ∈ s, f i) := by
  classical
  induction s using Finset.induction_on with
  | empty => simpa using finite_zero
  | insert a s ha ih =>
    rw [Finset.sum_insert ha]
    exact (h a (Finset.mem_insert_self a s)).add (ih fun i hi => h i (Finset.mem_insert_of_mem hi))

/-- The word of `+∞`. -/
theorem ofBits_inf : Ideal.ofBits .f32 0x7F800000#32 = ⊤ := by simp [Ideal.ofBits, Ideal.ieee]

/-- The test of the preconditions, `|x| < ∞`, holds of real numbers only. -/
theorem finite_of_test {x : EReal} (h : FloatOps.cmpf (F := Ideal) (φ := .f32) .olt (FloatOps.absf (F := Ideal) (φ := .f32) x)
    (Ideal.ofBits .f32 0x7F800000#32) = 1#1) : Finite x := by
  rw [ofBits_inf] at h
  induction x with
  | bot => exact absurd h (by simp [FloatOps.cmpf, FloatOps.absf, Ideal.cmp])
  | top => exact absurd h (by simp [FloatOps.cmpf, FloatOps.absf, Ideal.cmp])
  | coe r => exact ⟨r, rfl⟩

end Cert.RealCoe

end
-- ==== Proof.NormMath.lean ====
/-
  The gradient of the root-mean-square norm `y = x · rsqrt(mean(x²) + ε)`, in the two forms in which the programs write
  it, and their equality at real arguments.

  With `r = rsqrt(mean(x²) + ε)` and `g` the gradient with respect to `y`, the form written out by hand is
  `r·g − x·r³·mean(x·g)`; the chain rule gives `g·r + ((Σ x·g)·(−½·(r / v)) / n)·(2·x)` with `v = mean(x²) + ε`.
-/
module

public import proofs.«01_k».proof.Proof.RealCoe

@[expose] public section

noncomputable section

open Idealize.ShloMosaic Cert.RealCoe

namespace Cert.NormMath

/-- The word of `1e-6`. -/
def eps : ℝ := 8796093 / 2 ^ 43

theorem eps_pos : 0 < eps := by unfold eps; norm_num

theorem ofBits_eps : Ideal.ofBits .f32 0x358637BD#32 = ((eps : ℝ) : EReal) := by
  unfold eps
  simp [Ideal.ofBits, Ideal.ieee, -EReal.coe_mul]; norm_num

theorem ofBits_1024 : Ideal.ofBits .f32 0x44800000#32 = ((1024 : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

theorem ofBits_half : Ideal.ofBits .f32 0x3F000000#32 = ((1 / 2 : ℝ) : EReal) := by
  simp [Ideal.ofBits, Ideal.ieee, -EReal.coe_mul]; norm_num

theorem ofBits_neg_half : Ideal.ofBits .f32 0xBF000000#32 = ((-1 / 2 : ℝ) : EReal) := by
  simp [Ideal.ofBits, Ideal.ieee, -EReal.coe_mul]; norm_num

variable {ι : Type} [Fintype ι]

/-- `mean(x²) + ε`, the mean taken by a division by `n`. -/
def var (n : EReal) (x : ι → EReal) : EReal := Ideal.div (∑ k, x k * x k) n + (eps : ℝ)

/-- `rsqrt(mean(x²) + ε)`. -/
def rms (n : EReal) (x : ι → EReal) : EReal := Ideal.rsqrt (var n x)

/-- The gradient written out by hand. -/
def byHand (n : EReal) (x g : ι → EReal) (j : ι) : EReal :=
  rms n x * g j - x j * (rms n x * rms n x * rms n x) * Ideal.div (∑ k, x k * g k) n

/-- The chain rule's second term: the part of the gradient that passes through the mean. -/
def throughMean (n : EReal) (x g : ι → EReal) (j : ι) : EReal :=
  Ideal.div ((∑ k, x k * g k) * (((-1 / 2 : ℝ) : EReal) * Ideal.div (rms n x) (var n x))) n * (((2 : ℝ) : EReal) * x j)

/-- The real `mean(x²) + ε`. -/
def varR (n : ℝ) (X : ι → ℝ) : ℝ := (∑ k, X k * X k) / n + eps

theorem varR_pos {n : ℝ} (hn : 0 < n) (X : ι → ℝ) : 0 < varR n X :=
  add_pos_of_nonneg_of_pos (div_nonneg (Finset.sum_nonneg fun k _ => mul_self_nonneg (X k)) hn.le) eps_pos

theorem div_real {n : ℝ} (hn : n ≠ 0) (a : ℝ) : Ideal.div (a : EReal) (n : EReal) = ((a / n : ℝ) : EReal) := by
  rw [Ideal.div_coe hn, ← EReal.coe_mul]; congr 1; ring

theorem var_coe {n : ℝ} (hn : 0 < n) (X : ι → ℝ) : var (n : EReal) (fun k => (X k : EReal)) = ((varR n X : ℝ) : EReal) := by
  unfold var varR
  simp only [← EReal.coe_mul]
  rw [← coe_sum, div_real hn.ne', ← EReal.coe_add]

theorem rms_coe {n : ℝ} (hn : 0 < n) (X : ι → ℝ) :
    rms (n : EReal) (fun k => (X k : EReal)) = (((Real.sqrt (varR n X))⁻¹ : ℝ) : EReal) := by
  unfold rms
  rw [var_coe hn, Ideal.rsqrt_coe, if_neg (varR_pos hn X).not_gt, if_neg (varR_pos hn X).ne']

/-- The two forms are one at real arguments. -/
theorem byHand_eq {n : ℝ} (hn : 0 < n) {x g : ι → EReal} (hx : ∀ k, Finite (x k)) (hg : ∀ k, Finite (g k)) (j : ι) :
    byHand (n : EReal) x g j = g j * rms (n : EReal) x + throughMean (n : EReal) x g j := by
  choose X hX using hx
  choose G hG using hg
  obtain rfl : x = fun k => (X k : EReal) := funext hX
  obtain rfl : g = fun k => (G k : EReal) := funext hG
  have hv := varR_pos hn X
  unfold byHand throughMean
  rw [rms_coe hn, var_coe hn, div_real hv.ne']
  simp only [← EReal.coe_mul]
  rw [← coe_sum, div_real hn.ne']
  simp only [← EReal.coe_mul, ← EReal.coe_sub, ← EReal.coe_add]
  rw [div_real hn.ne']
  simp only [← EReal.coe_mul, ← EReal.coe_sub, ← EReal.coe_add]
  congr 1
  generalize hS : (∑ k, X k * G k) = S
  have hs : Real.sqrt (varR n X) * Real.sqrt (varR n X) = varR n X := Real.mul_self_sqrt hv.le
  have hs0 : Real.sqrt (varR n X) ≠ 0 := (Real.sqrt_pos.mpr hv).ne'
  generalize hq : Real.sqrt (varR n X) = q at hs hs0
  rw [← hs]
  field_simp
  ring

theorem rms_finite {n : ℝ} (hn : 0 < n) {x : ι → EReal} (hx : ∀ k, Finite (x k)) : Finite (rms (n : EReal) x) := by
  choose X hX using hx
  obtain rfl : x = fun k => (X k : EReal) := funext hX
  rw [rms_coe hn]; exact finite_coe _

theorem byHand_finite {n : ℝ} (hn : 0 < n) {x g : ι → EReal} (hx : ∀ k, Finite (x k)) (hg : ∀ k, Finite (g k)) (j : ι) :
    Finite (byHand (n : EReal) x g j) := by
  have hr := rms_finite hn hx
  obtain ⟨S, hS⟩ := Finite.sum (s := Finset.univ) fun k _ => (hx k).mul (hg k)
  unfold byHand
  rw [hS, div_real hn.ne']
  exact (hr.mul (hg j)).sub (((hx j).mul ((hr.mul hr).mul hr)).mul (finite_coe _))

end Cert.NormMath

end
-- ==== Proof.Sums.lean ====
/-
  Sums of blocks: a sum over the rows of an array, taken block by block.
-/
module

public import Idealize.ShloMosaic.PureOps.Ideal

@[expose] public section

noncomputable section

namespace Cert.Sums

variable {M : Type} [AddCommMonoid M]

/-- `a` blocks of `b` terms, block after block. -/
theorem range_blocks (a b : ℕ) (f : ℕ → M) :
    ∑ t ∈ Finset.range a, ∑ r : Fin b, f (b * t + r.val) = ∑ k ∈ Finset.range (a * b), f k := by
  induction a with
  | zero => simp
  | succ a ih =>
    rw [Finset.sum_range_succ, ih, Nat.succ_mul, Finset.sum_range_add, ← Fin.sum_univ_eq_sum_range (fun r => f (a * b + r)) b]
    simp only [Nat.mul_comm]

/-- The same of a family over the rows themselves: `row t r` is row `b·t + r`. -/
theorem fin_blocks {a b n : ℕ} (hn : n = a * b) (f : Fin n → M) (row : ∀ t, t < a → Fin b → Fin n)
    (hrow : ∀ t ht r, (row t ht r).val = b * t + r.val) :
    (∑ t : Fin a, ∑ r : Fin b, f (row t.val t.isLt r)) = ∑ k : Fin n, f k := by
  subst hn
  let g : ℕ → M := fun k => if h : k < a * b then f ⟨k, h⟩ else 0
  have hg : ∀ k : Fin (a * b), f k = g k.val := fun k => by simp [g]
  have h1 : (∑ t : Fin a, ∑ r : Fin b, f (row t.val t.isLt r)) = ∑ t : Fin a, ∑ r : Fin b, g (b * t.val + r.val) :=
    Finset.sum_congr rfl fun t _ => Finset.sum_congr rfl fun r _ => by rw [hg, hrow]
  rw [h1, Fin.sum_univ_eq_sum_range (fun t => ∑ r : Fin b, g (b * t + r.val)) a, range_blocks,
    ← Fin.sum_univ_eq_sum_range]
  exact Finset.sum_congr rfl fun k _ => (hg k).symm

/-- A sum whose terms vanish from position `n` on is the sum of its first `n` terms. -/
theorem fin_prefix {n N : ℕ} (hn : n ≤ N) (f : Fin N → M) (h0 : ∀ r : Fin N, ¬r.val < n → f r = 0) :
    ∑ r : Fin N, f r = ∑ r : Fin n, f ⟨r.val, lt_of_lt_of_le r.isLt hn⟩ := by
  obtain ⟨d, rfl⟩ := Nat.exists_eq_add_of_le hn
  rw [Fin.sum_univ_add]
  have : ∑ i : Fin d, f (Fin.natAdd n i) = 0 := Finset.sum_eq_zero fun i _ => h0 _ (by simp)
  rw [this, add_zero]
  rfl

/-- What is accumulated point by point — the first point's part stored, every later point's added to what was there — is,
    at the last of `a` points, the sum over all rows, where a point's part is the sum over its block's rows. -/
theorem acc_blocks {a b n : ℕ} (hn : n = a * b) (g : Fin n → M) (f : (k : ℕ) → k < a → M) (row : ∀ t, t < a → Fin b → Fin n)
    (hrow : ∀ t ht r, (row t ht r).val = b * t + r.val)
    (h0 : ∀ t : Fin a, t.val % a = 0 → f t.val t.isLt = ∑ r : Fin b, g (row t.val t.isLt r))
    (hs : ∀ t : Fin a, ¬t.val % a = 0 →
      f t.val t.isLt = f (t.val - 1) (Nat.lt_of_le_of_lt (Nat.sub_le _ _) t.isLt) + ∑ r : Fin b, g (row t.val t.isLt r))
    (t : ℕ) (ht : t < a) (hl : t + 1 = a) : f t ht = ∑ r : Fin n, g r := by
  have hp : ∀ (k : ℕ) (hk : k < a), f k hk = ∑ s : Fin (k + 1), ∑ r : Fin b, g (row s.val (by have := s.isLt; omega) r) := by
    intro k
    induction k with
    | zero => intro hk; rw [h0 ⟨0, hk⟩ (by simp)]; exact (Fin.sum_univ_one (fun s : Fin 1 => ∑ r : Fin b, g (row s.val (by have := s.isLt; omega) r))).symm
    | succ k ih =>
      intro hk
      rw [hs ⟨k + 1, hk⟩ (by rw [Nat.mod_eq_of_lt hk]; simp), Fin.sum_univ_castSucc]
      exact congrArg (fun x : M => x + ∑ r : Fin b, g (row (k + 1) hk r)) (ih (by omega))
  subst hl
  rw [hp]
  exact fin_blocks hn g row hrow

/-- A sum whose first `d` terms vanish is the sum of the others. -/
theorem fin_shift {n d N : ℕ} (hN : N = d + n) (f : Fin N → M) (h0 : ∀ r : Fin N, r.val < d → f r = 0) :
    ∑ r : Fin N, f r = ∑ r : Fin n, f ⟨d + r.val, by have := r.isLt; omega⟩ := by
  subst hN
  rw [Fin.sum_univ_add]
  have : ∑ i : Fin d, f (Fin.castAdd n i) = 0 := Finset.sum_eq_zero fun i _ => h0 _ i.isLt
  rw [this, zero_add]
  rfl

/-- A real factor that is not negative goes into a sum of extended reals. -/
theorem coe_mul_sum {ι : Type} {s : Finset ι} (f : ι → EReal) {x : ℝ} (hx : 0 ≤ x) : (x : EReal) * ∑ i ∈ s, f i = ∑ i ∈ s, (x : EReal) * f i := by
  classical
  induction s using Finset.induction_on with
  | empty => simp
  | insert a s ha ih =>
    rw [Finset.sum_insert ha, Finset.sum_insert ha, ← ih,
      EReal.left_distrib_of_nonneg_of_ne_top (EReal.coe_nonneg.mpr hx) (EReal.coe_ne_top x)]

end Cert.Sums

end
-- ==== Proof.InputNormKernel.lean ====
/-
  What the kernel of the first norm's gradient leaves in its two result arrays: each row of the first is the residual's
  gradient plus the norm's gradient written out by hand, and the second is the sum over the row blocks of the weight's
  gradient.
-/
module

public import proofs.«01_k».proof.Proof.NormMath
public import proofs.«01_k».proof.Proof.Sums
public import proofs.«01_k».proof.Proof.Gen.InputNormIdeal.Value
public import Idealize.ShloMosaic.Lib.Pipeline.Value
public import Idealize.ShloMosaic.Lib.StableHlo.Run
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.InputNormIdeal.KernelValue

open Cert.InputNormIdeal Cert.InputNormIdeal.Gen Cert.NormMath

/-- The block's rows of the first result. -/
theorem pay_rows (h0 : Vec Ideal S768x1024 .f32) (w : Vec Ideal S1x1024 .f32) (dn dh : Vec Ideal S768x1024 .f32)
    (i : S768x1024.Idx) :
    k0_pay6 h0 w dn dh i
      = dh i + byHand ((1024 : ℝ) : EReal) (fun k : Fin 1024 => h0 (ix2 (i 0) k)) (fun k => dn (ix2 (i 0) k) * w (ix2 0 k)) (i 1) := by
  idx_vars i
  unfold k0_pay6 k0_pay4 k0_pay3 k0_pay2 byHand rms var
  pointwise
  simp only [ofBits_1024, ofBits_eps]

/-- The block's part of the weight's gradient. -/
theorem pay_weight (h0 dn : Vec Ideal S768x1024 .f32) (i : S1x1024.Idx) :
    k0_pay5 h0 dn i
      = ∑ r : Fin 768, dn (ix2 r (i 1)) * h0 (ix2 r (i 1)) * rms ((1024 : ℝ) : EReal) (fun k : Fin 1024 => h0 (ix2 r k)) := by
  idx_vars i
  unfold k0_pay5 k0_pay4 k0_pay3 k0_pay2 rms var
  pointwise
  simp only [ofBits_1024, ofBits_eps]

theorem hz : (![0, 0] : Fin 2 → Nat) = fun _ => 0 := funext fun a => by fin_cases a <;> rfl

section Cases

variable (c : Dev nD) (i : grid0.Coords)
  (a1 : Memref sig .tc .vmem S768x1024 .f32) (h1 : a1.IsWhole) (a2 : Memref sig .tc .vmem S768x1024 .f32) (h2 : a2.IsWhole)
  (a3 : Memref sig .tc .vmem S768x1024 .f32) (h3 : a3.IsWhole) (a4 : Memref sig .tc .vmem S1x1024 .f32) (h4 : a4.IsWhole)
  (a5 : Memref sig .tc .vmem S768x1024 .f32) (h5 : a5.IsWhole) (a6 : Memref sig .tc .vmem S1x1024 .f32) (h6 : a6.IsWhole)
  (dh dn h0 : Vec Ideal S768x1024 .f32) (w acc : Vec Ideal S1x1024 .f32)

/-- The first point stores the rows … -/
theorem rows_first (p0 : cond0_0 i) (p1 : ¬cond0_1 i) :
    out0_A_4 c i a1 h1 a2 h2 a3 h3 a4 h4 a5 h5 a6 h6 p0 p1 dh dn h0 w = k0_pay6 h0 w dn dh := by
  unfold out0_A_4
  rw [View.read_writes_eq_canon _ _ _ (cover0_A_4 c i a1 h1 a2 h2 a3 h3 a4 h4 a5 h5 a6 h6 p0 p1 dh dn h0 w)]
  unfold kernelRun0_A
  dsimp only
  sl_unfold_words
  rw [View.canon_unit_zero hz]
  simp only [View.readAt_eq_ld, h1.read_unread, h2.read_unread, h3.read_unread, h4.read_unread,
    View.ld_unit_zero (S := S768x1024) hz, View.ld_unit_zero (S := S1x1024) hz]

/-- … and the weight's gradient of its block. -/
theorem weight_first (p0 : cond0_0 i) (p1 : ¬cond0_1 i) :
    out0_A_5 c i a1 h1 a2 h2 a3 h3 a4 h4 a5 h5 a6 h6 p0 p1 dh dn h0 w = k0_pay5 h0 dn := by
  unfold out0_A_5
  rw [View.read_writes_eq_canon _ _ _ (cover0_A_5 c i a1 h1 a2 h2 a3 h3 a4 h4 a5 h5 a6 h6 p0 p1 dh dn h0 w)]
  unfold kernelRun0_A
  dsimp only
  sl_unfold_words
  rw [View.canon_unit_zero hz]
  simp only [View.readAt_eq_ld, h1.read_unread, h2.read_unread, h3.read_unread, h4.read_unread,
    View.ld_unit_zero (S := S768x1024) hz, View.ld_unit_zero (S := S1x1024) hz]

/-- A later point stores the rows … -/
theorem rows_later (p0 : ¬cond0_0 i) (p1 : cond0_1 i) :
    out0_B_4 c i a1 h1 a2 h2 a3 h3 a4 h4 a5 h5 a6 h6 p0 p1 dh dn h0 w acc = k0_pay6 h0 w dn dh := by
  unfold out0_B_4
  rw [View.read_writes_eq_canon _ _ _ (cover0_B_4 c i a1 h1 a2 h2 a3 h3 a4 h4 a5 h5 a6 h6 p0 p1 dh dn h0 w acc)]
  unfold kernelRun0_B
  dsimp only
  sl_unfold_words
  rw [View.canon_unit_zero hz]
  simp only [View.readAt_eq_ld, h1.read_unread, h2.read_unread, h3.read_unread, h4.read_unread,
    View.ld_unit_zero (S := S768x1024) hz, View.ld_unit_zero (S := S1x1024) hz]

/-- … and adds its block's weight gradient to what the points before it left. -/
theorem weight_later (p0 : ¬cond0_0 i) (p1 : cond0_1 i) :
    out0_B_5 c i a1 h1 a2 h2 a3 h3 a4 h4 a5 h5 a6 h6 p0 p1 dh dn h0 w acc = addf acc (k0_pay5 h0 dn) := by
  unfold out0_B_5
  rw [View.read_writes_eq_canon _ _ _ (cover0_B_5 c i a1 h1 a2 h2 a3 h3 a4 h4 a5 h5 a6 h6 p0 p1 dh dn h0 w acc)]
  unfold kernelRun0_B
  dsimp only
  sl_unfold_words
  rw [View.canon_unit_zero hz]
  unfold k0_pay1
  simp only [View.readAt_eq_ld, h1.read_unread, h2.read_unread, h3.read_unread, h4.read_unread, h6.read_unread,
    View.ld_unit_zero (S := S768x1024) hz, View.ld_unit_zero (S := S1x1024) hz, shapeCast_self]

end Cases

variable (m : (ℓ : Loc nD τ sig) → Buf (Elt Ideal) ℓ)

/-- The block index of every row-blocked window is the point's number. -/
theorem index_facts : ∀ t : Fin cfg0.N,
    (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = 0 ∧ win0_3.index t 1 = 0)
    ∧ (win0_4.index t 0 = t.val ∧ win0_4.index t 1 = 0) ∧ (win0_5.index t 0 = 0 ∧ win0_5.index t 1 = 0) :=
  (by decide +kernel : ∀ t : Fin grid0.N, _)

theorem lt_N (t : Fin cfg0.N) : t.val < 22 := lt_of_lt_of_eq t.isLt N_0

/-- The arrays that the region reads: the residual's gradient, the norm's gradient and the hidden state, each padded with
    zero rows, and the weight. -/
abbrev dhArr (c : Dev nD) : Vec Ideal S16896x1024 .f32 := V m c main_v4
abbrev dnArr (c : Dev nD) : Vec Ideal S16896x1024 .f32 := V m c main_v6
abbrev hArr (c : Dev nD) : Vec Ideal S16896x1024 .f32 := V m c main_v2
abbrev wArr (c : Dev nD) : Vec Ideal S1x1024 .f32 := V m c main_arg2

/-- Row `r` of block `t`. -/
def row (t : ℕ) (ht : t < 22) (r : Fin 768) : Fin 16896 := ⟨768 * t + r.val, by have := r.isLt; omega⟩

theorem block_dh (c : Dev nD) (t : Fin cfg0.N) (y : S768x1024.Idx) :
    (iblk m c 0 t : Vec Ideal S768x1024 .f32) y = dhArr m c (ix2 (row t.val (lt_N t) (y 0)) (y 1)) := by
  unfold iblk
  rw [View.read_apply]
  show V m c main_v4 _ = V m c main_v4 _
  congr 1
  funext a
  apply Fin.ext
  match a with
  | ⟨0, _⟩ => show win0_0.index t 0 * 768 + 1 * (y 0).val = 768 * t.val + (y 0).val; rw [(index_facts t).1.1]; omega
  | ⟨1, _⟩ => show win0_0.index t 1 * 1024 + 1 * (y 1).val = (y 1).val; rw [(index_facts t).1.2]; omega

theorem block_dn (c : Dev nD) (t : Fin cfg0.N) (y : S768x1024.Idx) :
    (iblk m c 1 t : Vec Ideal S768x1024 .f32) y = dnArr m c (ix2 (row t.val (lt_N t) (y 0)) (y 1)) := by
  unfold iblk
  rw [View.read_apply]
  show V m c main_v6 _ = V m c main_v6 _
  congr 1
  funext a
  apply Fin.ext
  match a with
  | ⟨0, _⟩ => show win0_1.index t 0 * 768 + 1 * (y 0).val = 768 * t.val + (y 0).val; rw [(index_facts t).2.1.1]; omega
  | ⟨1, _⟩ => show win0_1.index t 1 * 1024 + 1 * (y 1).val = (y 1).val; rw [(index_facts t).2.1.2]; omega

theorem block_h (c : Dev nD) (t : Fin cfg0.N) (y : S768x1024.Idx) :
    (iblk m c 2 t : Vec Ideal S768x1024 .f32) y = hArr m c (ix2 (row t.val (lt_N t) (y 0)) (y 1)) := by
  unfold iblk
  rw [View.read_apply]
  show V m c main_v2 _ = V m c main_v2 _
  congr 1
  funext a
  apply Fin.ext
  match a with
  | ⟨0, _⟩ => show win0_2.index t 0 * 768 + 1 * (y 0).val = 768 * t.val + (y 0).val; rw [(index_facts t).2.2.1.1]; omega
  | ⟨1, _⟩ => show win0_2.index t 1 * 1024 + 1 * (y 1).val = (y 1).val; rw [(index_facts t).2.2.1.2]; omega

theorem block_w (c : Dev nD) (t : Fin cfg0.N) :
    (iblk m c 3 t : Vec Ideal S1x1024 .f32) = wArr m c := by
  funext y
  unfold iblk
  rw [View.read_apply]
  show V m c main_arg2 _ = V m c main_arg2 _
  congr 1
  funext a
  apply Fin.ext
  match a with
  | ⟨0, _⟩ => show win0_3.index t 0 * 1 + 1 * (y 0).val = (y 0).val; rw [(index_facts t).2.2.2.1.1]; omega
  | ⟨1, _⟩ => show win0_3.index t 1 * 1024 + 1 * (y 1).val = (y 1).val; rw [(index_facts t).2.2.2.1.2]; omega

/-- The padded hidden state's row, and its norm's gradient's row times the weight. -/
abbrev hRow (c : Dev nD) (r : Fin 16896) (k : Fin 1024) : EReal := hArr m c (ix2 r k)
abbrev gRow (c : Dev nD) (r : Fin 16896) (k : Fin 1024) : EReal := dnArr m c (ix2 r k) * wArr m c (ix2 0 k)

/-- The first result, row by row. -/
def rows (c : Dev nD) : Vec Ideal S16896x1024 .f32 := fun i =>
  dhArr m c i + byHand ((1024 : ℝ) : EReal) (hRow m c (i 0)) (gRow m c (i 0)) (i 1)

/-- The second result: the sum over all rows. -/
def weight (c : Dev nD) : Vec Ideal S1x1024 .f32 := fun i =>
  ∑ r : Fin 16896, dnArr m c (ix2 r (i 1)) * hArr m c (ix2 r (i 1)) * rms ((1024 : ℝ) : EReal) (hRow m c r)

/-- What every point leaves in the first output's buffer. -/
theorem outs_rows (c : Dev nD) (t : Fin cfg0.N) :
    (outsAt0 m c t.val t.isLt).1 = k0_pay6 (iblk m c 2 t) (iblk m c 3 t) (iblk m c 1 t) (iblk m c 0 t) := by
  have ht := lt_N t
  by_cases h : t.val = 0
  · rw [outsAt0_A m c t (by omega) (by omega)]
    dsimp only
    rw [rows_first]
  · rw [outsAt0_B m c t (by omega) (by omega)]
    dsimp only
    rw [rows_later]

/-- What the points up to `n` leave in the second output's buffer: the sum of their blocks' parts. -/
theorem outs_weight (c : Dev nD) (i : S1x1024.Idx) : ∀ (n : ℕ) (h : n < cfg0.N),
    (outsAt0 m c n h).2 i
      = ∑ t : Fin (n + 1), k0_pay5 (F := Ideal) (iblk m c 2 ⟨t.val, by have := t.isLt; omega⟩) (iblk m c 1 ⟨t.val, by have := t.isLt; omega⟩) i
  | 0, h => by
    rw [outsAt0_A m c ⟨0, h⟩ (by simp) (by simp)]
    dsimp only
    rw [weight_first]
    show _ = ∑ t : Fin 1, _
    rw [Fin.sum_univ_one]
    rfl
  | n + 1, h => by
    have hN : cfg0.N = 22 := N_0
    rw [outsAt0_B m c ⟨n + 1, h⟩ (by dsimp only; omega) (by dsimp only; omega), Fin.sum_univ_castSucc]
    dsimp only
    rw [weight_later]
    show (outsAt0 m c n _).2 i + _ = _
    rw [outs_weight c i n]
    rfl

theorem flushed_rows (c : Dev nD) (t : Fin cfg0.N) :
    (dats m 0 c).flushed 4 t = ((cfg0.win 4).blk t).view.read (Elt Ideal) (rows m c) := by
  rw [Value.flushed4, outs_rows]
  funext y
  rw [View.read_apply]
  show k0_pay6 (F := Ideal) _ _ _ _ y = rows m c _
  rw [pay_rows]
  simp only [block_dh, block_dn, block_h, block_w]
  have he : (((cfg0.win 4).blk t).view.emb y : S16896x1024.Idx) = ix2 (row t.val (lt_N t) (y 0)) (y 1) := by
    funext a
    apply Fin.ext
    match a with
    | ⟨0, _⟩ => show win0_4.index t 0 * 768 + 1 * (y 0).val = 768 * t.val + (y 0).val; rw [(index_facts t).2.2.2.2.1.1]; omega
    | ⟨1, _⟩ => show win0_4.index t 1 * 1024 + 1 * (y 1).val = (y 1).val; rw [(index_facts t).2.2.2.2.1.2]; omega
  rw [he]
  rfl

theorem final_rows (c : Dev nD) : (dats m 0 c).arrAt 4 cfg0.N = rows m c :=
  (dats m 0 c).arrAt_eq_of_cover 4 (rows m c) (fun t _ => flushed_rows m c t) fun i =>
    have h0 : (i 0 : Nat) < 16896 := (i 0).isLt
    have h1 : (i 1 : Nat) < 1024 := (i 1).isLt
    let t : Fin cfg0.N := ⟨(i 0 : Nat) / 768, by rw [show cfg0.N = 22 from N_0]; omega⟩
    ⟨t, flush0_4 t, by
      show i ∈ ((View.whole main_v7_0).slice (win0_4.rect t)).set
      rw [View.set_slice_whole, Rect.mem_set_unit]
      intro a
      match a with
      | ⟨0, _⟩ =>
        show win0_4.index t 0 * 768 ≤ (i 0 : Nat) ∧ (i 0 : Nat) < win0_4.index t 0 * 768 + 768
        rw [(index_facts t).2.2.2.2.1.1]
        show (i 0 : Nat) / 768 * 768 ≤ (i 0 : Nat) ∧ (i 0 : Nat) < (i 0 : Nat) / 768 * 768 + 768
        omega
      | ⟨1, _⟩ =>
        show win0_4.index t 1 * 1024 ≤ (i 1 : Nat) ∧ (i 1 : Nat) < win0_4.index t 1 * 1024 + 1024
        rw [(index_facts t).2.2.2.2.1.2]
        omega⟩

theorem flushed_weight (c : Dev nD) (t : Fin cfg0.N) (hf : (cfg0.win 5).flush t = true) :
    (dats m 0 c).flushed 5 t = ((cfg0.win 5).blk t).view.read (Elt Ideal) (weight m c) := by
  have hN := lt_N t
  have h21 : t.val = 21 := by have := (flush0_5 t).mp hf; omega
  rw [Value.flushed5]
  funext y
  rw [View.read_apply]
  have hX := outs_weight m c y t.val t.isLt
  generalize (outsAt0 m c t.val t.isLt).2 = X at hX ⊢
  generalize hW : weight m c = W
  show X y = W _
  have he : (((cfg0.win 5).blk t).view.emb y : S1x1024.Idx) = y := by
    funext a
    apply Fin.ext
    match a with
    | ⟨0, _⟩ => show win0_5.index t 0 * 1 + 1 * (y 0).val = (y 0).val; rw [(index_facts t).2.2.2.2.2.1]; omega
    | ⟨1, _⟩ => show win0_5.index t 1 * 1024 + 1 * (y 1).val = (y 1).val; rw [(index_facts t).2.2.2.2.2.2]; omega
  rw [he, hX, ← hW]
  unfold weight
  simp only [pay_weight, block_dn, block_h]
  exact Sums.fin_blocks (a := t.val + 1) (b := 768) (by omega)
    (fun r : Fin 16896 => dnArr m c (ix2 r (y 1)) * hArr m c (ix2 r (y 1)) * rms ((1024 : ℝ) : EReal) (hRow m c r))
    (fun s hs r => row s (by omega) r) (fun _ _ _ => rfl)

theorem final_weight (c : Dev nD) : (dats m 0 c).arrAt 5 cfg0.N = weight m c :=
  (dats m 0 c).arrAt_eq_of_cover 5 (weight m c) (flushed_weight m c) fun i =>
    let t : Fin cfg0.N := ⟨21, by rw [show cfg0.N = 22 from N_0]; omega⟩
    have h0 : (i 0 : Nat) < 1 := (i 0).isLt
    have h1 : (i 1 : Nat) < 1024 := (i 1).isLt
    ⟨t, (flush0_5 t).mpr rfl, by
      show i ∈ ((View.whole main_v7_1).slice (win0_5.rect t)).set
      rw [View.set_slice_whole, Rect.mem_set_unit]
      intro a
      match a with
      | ⟨0, _⟩ =>
        show win0_5.index t 0 * 1 ≤ (i 0 : Nat) ∧ (i 0 : Nat) < win0_5.index t 0 * 1 + 1
        rw [(index_facts t).2.2.2.2.2.1]; omega
      | ⟨1, _⟩ =>
        show win0_5.index t 1 * 1024 ≤ (i 1 : Nat) ∧ (i 1 : Nat) < win0_5.index t 1 * 1024 + 1024
        rw [(index_facts t).2.2.2.2.2.2]; omega⟩

end Cert.InputNormIdeal.KernelValue

end
-- ==== Proof.InputNormRef.lean ====
/-
  What the reference of the first norm's gradient computes, read at an index: the chain rule's form of each row, zero in
  the padding, and the weight's gradient as a sum over the sequence.
-/
module

public import proofs.«01_k».proof.Proof.NormMath
public import proofs.«01_k».proof.Proof.Gen.InputNormRefIdeal.Read

@[expose] public section

set_option maxRecDepth 16384

noncomputable section

open Idealize.ShloMosaic Idealize.ShloMosaic.TcCoe

namespace Cert.InputNormRefIdeal.RefValue

open Cert.InputNormRefIdeal Cert.InputNormRefIdeal.Gen Cert.InputNormRefIdeal.Read Cert.NormMath

variable (x : Vec Ideal S16384x1024 .f32) (mt : Vec Ideal S16x1024 .f32) (w : Vec Ideal S1x1024 .f32)
  (dh dn : Vec Ideal S16400x1024 .f32)

/-- A row of the hidden state, and of the norm's gradient times the weight. -/
abbrev hRow (r : Fin 16400) (k : Fin 1024) : EReal := val_main_v0 (F := Ideal) x mt (ix2 r k)
abbrev gRow (r : Fin 16400) (k : Fin 1024) : EReal := dn (ix2 r k) * w (ix2 0 k)

theorem v10_at (r : Fin 16400) (i : Fin 1) :
    val_main_v10 (F := Ideal) x mt (ix2 r i) = var ((1024 : ℝ) : EReal) (hRow x mt r) := by
  unfold val_main_v10 val_main_v9 val_main_cst_2 val_main_v8 val_main_v7 val_main_cst_1 val_main_v6 val_main_v5 val_main_cst_0
    val_main_v2 var hRow
  generalize val_main_v0 (F := Ideal) x mt = h
  pointwise
  simp only [ofBits_1024, ofBits_eps]

theorem v11_at (r : Fin 16400) (i : Fin 1) :
    val_main_v11 (F := Ideal) x mt (ix2 r i) = rms ((1024 : ℝ) : EReal) (hRow x mt r) := by
  unfold val_main_v11 rms
  rw [← v10_at x mt r i]
  rfl

theorem v24_at (r : Fin 16400) (k : Fin 1024) : val_main_v24 (F := Ideal) w dn (ix2 r k) = gRow w dn r k := by
  unfold val_main_v24 val_main_v23 val_main_v17 val_main_v1 gRow
  pointwise

theorem v38_at (r : Fin 16400) (j : Fin 1024) :
    val_main_v38 (F := Ideal) x mt w dh dn (ix2 r j)
      = dh (ix2 r j) + gRow w dn r j * rms ((1024 : ℝ) : EReal) (hRow x mt r)
        + throughMean ((1024 : ℝ) : EReal) (hRow x mt r) (gRow w dn r) j := by
  unfold throughMean
  rw [← v11_at x mt r 0, ← v10_at x mt r 0]
  rw [show gRow w dn r = fun k => val_main_v24 (F := Ideal) w dn (ix2 r k) from funext fun k => (v24_at w dn r k).symm]
  unfold val_main_v38 val_main_v37 val_main_v36 val_main_v35 val_main_v34 val_main_v33 val_main_v32 val_main_v31
    val_main_v30 val_main_v29 val_main_v28 val_main_v27 val_main_v26 val_main_v14 val_main_v13 val_main_v12 val_main_v4 val_main_v3
    val_main_cst val_main_cst_3 val_main_cst_6 val_main_cst_7 val_main_cst_8 hRow
  generalize val_main_v11 (F := Ideal) x mt = r11
  generalize val_main_v10 (F := Ideal) x mt = r10
  generalize val_main_v24 (F := Ideal) w dn = g
  generalize val_main_v0 (F := Ideal) x mt = h
  pointwise
  simp only [ofBits_1024, ofBits_two, ofBits_neg_half, Finset.univ_unique, Finset.sum_singleton]
  rfl

theorem v41_at (r : Fin 16896) (j : Fin 1024) :
    val_main_v41 (F := Ideal) x mt w dh dn (ix2 r j)
      = if h : r.val < 16400 then val_main_v38 (F := Ideal) x mt w dh dn (ix2 ⟨r.val, h⟩ j) else 0 := by
  unfold val_main_v41 val_main_v40 val_main_cst_9
  generalize val_main_v38 (F := Ideal) x mt w dh dn = v
  pointwise

theorem v39_at (i : Fin 1) (j : Fin 1024) :
    val_main_v39 (F := Ideal) x mt dn (ix2 i j)
      = ∑ r : Fin 16400, val_main_v0 (F := Ideal) x mt (ix2 r j) * rms ((1024 : ℝ) : EReal) (hRow x mt r) * dn (ix2 r j) := by
  simp only [← v11_at x mt _ 0]
  unfold val_main_v39 val_main_v25 val_main_v22 val_main_v21 val_main_v20 val_main_v16 val_main_v15 val_main_cst_4 val_main_cst_5
  generalize val_main_v11 (F := Ideal) x mt = r11
  generalize val_main_v0 (F := Ideal) x mt = h
  pointwise
  simp only [Finset.univ_unique, Finset.sum_singleton]

end Cert.InputNormRefIdeal.RefValue

end
-- ==== Proof.InputNorm.lean ====
/-
  The kernel of the first norm's gradient and the derivative of the norm compute the same two arrays at real arguments.
-/
module

public import proofs.«01_k».proof.Proof.InputNormKernel
public import proofs.«01_k».proof.Proof.InputNormRef
public import proofs.«01_k».proof.Proof.Gen.InputNormRefIdeal.Run

@[expose] public section

set_option maxRecDepth 16384

noncomputable section

open Idealize.ShloMosaic Idealize.ShloMosaic.TcCoe Idealize.SL.Sem

namespace Cert.InputNormEq

open Cert.InputNormIdeal Cert.InputNormIdeal.Gen Cert.NormMath Cert.RealCoe

variable (m : (ℓ : Loc nD τ sig) → Buf (Elt Ideal) ℓ) (c : Dev nD)

/-- The arguments, as arrays. -/
abbrev xA : Vec Ideal S16384x1024 .f32 := m ((c : Thread nD τ).loc main_arg0)
abbrev mtA : Vec Ideal S16x1024 .f32 := m ((c : Thread nD τ).loc main_arg1)
abbrev wA : Vec Ideal S1x1024 .f32 := m ((c : Thread nD τ).loc main_arg2)
abbrev dhA : Vec Ideal S16400x1024 .f32 := m ((c : Thread nD τ).loc main_arg3)
abbrev dnA : Vec Ideal S16400x1024 .f32 := m ((c : Thread nD τ).loc main_arg4)

/-- A row of the padded array: the array's row in the sequence, zero behind it. -/
def padRow (a : Vec Ideal S16400x1024 .f32) (r : Fin 16896) (k : Fin 1024) : EReal :=
  if h : r.val < 16400 then a (ix2 ⟨r.val, h⟩ k) else 0

theorem pad_at (a : Vec Ideal S16400x1024 .f32) (r : Fin 16896) (k : Fin 1024) :
    concatenate S16896x1024 0 [⟨S16400x1024, a⟩, ⟨S496x1024, broadcastInDim S496x1024 ![] bcast_S_S496x1024
      (constant (F := Ideal) S_ .f32 0x00000000#32)⟩] concatenates_S16400x1024_S496x1024_S16896x1024_d0 (ix2 r k) = padRow a r k := by
  unfold padRow
  pointwise

theorem dhArr_eq (r : Fin 16896) (k : Fin 1024) : KernelValue.dhArr m c (ix2 r k) = padRow (dhA m c) r k := by
  rw [← pad_at]; refine congrFun ?_ _; unfold KernelValue.dhArr V; after_results

theorem dnArr_eq (r : Fin 16896) (k : Fin 1024) : KernelValue.dnArr m c (ix2 r k) = padRow (dnA m c) r k := by
  rw [← pad_at]; refine congrFun ?_ _; unfold KernelValue.dnArr V; after_results

theorem hArr_eq (r : Fin 16896) (k : Fin 1024) :
    KernelValue.hArr m c (ix2 r k) = padRow (Cert.InputNormRefIdeal.Read.val_main_v0 (F := Ideal) (xA m c) (mtA m c)) r k := by
  rw [← pad_at]; refine congrFun ?_ _; unfold KernelValue.hArr V Cert.InputNormRefIdeal.Read.val_main_v0; after_results

theorem wArr_eq : KernelValue.wArr m c = wA m c := V_main_arg2 m c

open Cert.InputNormRefIdeal.Read (val_main_v0 val_main_v38 val_main_v39 val_main_v41)

/-- The arguments on which the claim depends are real. -/
structure Real : Prop where
  x : ∀ i, Finite (xA m c i)
  mt : ∀ i, Finite (mtA m c i)
  w : ∀ i, Finite (wA m c i)
  dn : ∀ i, Finite (dnA m c i)

variable {m c}

theorem Real.hidden (h : Real m c) (r : Fin 16400) (k : Fin 1024) : Finite (val_main_v0 (F := Ideal) (xA m c) (mtA m c) (ix2 r k)) := by
  unfold val_main_v0
  pointwise
  split
  · exact h.mt _
  · exact h.x _

theorem rows_at (r : Fin 16896) (j : Fin 1024) :
    KernelValue.rows m c (ix2 r j) = KernelValue.dhArr m c (ix2 r j)
      + byHand ((1024 : ℝ) : EReal) (KernelValue.hRow m c r) (KernelValue.gRow m c r) j := rfl

theorem weight_at (i : Fin 1) (j : Fin 1024) :
    KernelValue.weight m c (ix2 i j) = ∑ r : Fin 16896, KernelValue.dnArr m c (ix2 r j) * KernelValue.hArr m c (ix2 r j)
      * rms ((1024 : ℝ) : EReal) (KernelValue.hRow m c r) := rfl

theorem hRow_eq (r : Fin 16896) :
    KernelValue.hRow m c r = padRow (val_main_v0 (F := Ideal) (xA m c) (mtA m c)) r := funext fun k => hArr_eq m c r k

theorem gRow_eq (r : Fin 16896) : KernelValue.gRow m c r = fun k => padRow (dnA m c) r k * wA m c (ix2 0 k) :=
  funext fun k => by unfold KernelValue.gRow; rw [dnArr_eq, wArr_eq]

theorem padRow_lt (a : Vec Ideal S16400x1024 .f32) (r : Fin 16896) (hr : r.val < 16400) :
    padRow a r = fun k => a (ix2 ⟨r.val, hr⟩ k) := funext fun _ => dif_pos hr

theorem padRow_ge (a : Vec Ideal S16400x1024 .f32) (r : Fin 16896) (hr : ¬r.val < 16400) : padRow a r = fun _ => 0 :=
  funext fun _ => dif_neg hr

theorem rows_eq (h : Real m c) :
    KernelValue.rows m c = val_main_v41 (F := Ideal) (xA m c) (mtA m c) (wA m c) (dhA m c) (dnA m c) := by
  funext i
  idx_vars i
  rw [rows_at, Cert.InputNormRefIdeal.RefValue.v41_at, dhArr_eq, hRow_eq, gRow_eq]
  split
  · rename_i hr
    simp only [padRow_lt _ _ hr]
    rw [byHand_eq (by norm_num) (fun k => h.hidden _ k) (fun k => (h.dn _).mul (h.w _)),
      Cert.InputNormRefIdeal.RefValue.v38_at, add_assoc]
  · rename_i hr
    simp only [padRow_ge _ _ hr, byHand, zero_mul, mul_zero, sub_zero, add_zero]

theorem weight_eq (h : Real m c) : KernelValue.weight m c = val_main_v39 (F := Ideal) (xA m c) (mtA m c) (dnA m c) := by
  funext i
  idx_vars i
  rw [weight_at, Cert.InputNormRefIdeal.RefValue.v39_at, Sums.fin_prefix (n := 16400) (by norm_num)]
  · refine Finset.sum_congr rfl fun r _ => ?_
    rw [hRow_eq, dnArr_eq, hArr_eq, padRow_lt _ _ r.isLt, padRow_lt _ _ r.isLt, mul_assoc, mul_comm]
  · intro r hr
    rw [dnArr_eq, padRow_ge _ _ hr, zero_mul, zero_mul]

end Cert.InputNormEq

end
-- ==== Proof.InputNormClaim.lean ====
/-
  The claims about the first norm's gradient: the kernel's two arrays are the derivative's, given real arguments.
-/
module

public import proofs.«01_k».proof.Defs
public import proofs.«01_k».proof.Proof.InputNorm
public import proofs.«01_k».proof.Proof.Gen.InputNormIdeal.Value
public import proofs.«01_k».proof.Proof.Gen.InputNormRefIdeal.Run
public import proofs.«01_k».proof.Proof.Gen.InputNormRefIdeal.Read

@[expose] public section

noncomputable section

namespace Cert.InputNormEq

open Idealize.ShloMosaic Idealize.SL.Sem

/-- The side conditions the precondition states. -/
instance preFacts : Cert.Pre_input_norm_finite.Facts := ⟨by decide, by decide, by decide, by decide⟩

variable {m : (ℓ : Loc Cert.InputNormIdeal.nD Cert.InputNormIdeal.τ Cert.InputNormIdeal.sig) → Buf (Elt Ideal) ℓ}

/-- The precondition says that four arguments are real. -/
theorem real_of_pre (h : Cert.Pre_InputNormIdeal_input_norm_finite m) (c : Dev Cert.InputNormIdeal.nD) : Real m c where
  x i := Cert.RealCoe.finite_of_test (congrFun (h c).1 i)
  mt i := Cert.RealCoe.finite_of_test (congrFun (h c).2.1 i)
  w i := Cert.RealCoe.finite_of_test (congrFun (h c).2.2.1 i)
  dn i := Cert.RealCoe.finite_of_test (congrFun (h c).2.2.2 i)

theorem algebraic : Cert.algebraic_InputNormIdeal_InputNormRefIdeal_pre_input_norm_finite := by
  intro m g m' g' hp ha
  refine ⟨fun c => Cert.InputNormIdeal.KernelValue.rows m c, fun c => Cert.InputNormIdeal.KernelValue.weight m c, ?_, ?_⟩
  · exact (θ_run _ _ _).mono (fun r h c => ⟨(h c).1.trans (Cert.InputNormIdeal.KernelValue.final_rows m c),
      (h c).2.1.trans (Cert.InputNormIdeal.KernelValue.final_weight m c), (h c).2.2⟩) (Cert.InputNormIdeal.Value.run_blocks m g)
  · refine (θ_run _ _ _).mono (fun r h c => ⟨(h c).1.trans ?_, (h c).2.1.trans ?_, (h c).2.2⟩)
      (Cert.InputNormRefIdeal.Value.run m' g')
    · obtain ⟨h0, h1, h2, h3, h4⟩ := ha c
      refine ((Cert.InputNormRefIdeal.Read.val_main_v41_eq ..).trans ?_).trans (rows_eq (real_of_pre hp c)).symm
      rw [h0, h1, h2, h3, h4]
    · obtain ⟨h0, h1, h2, h3, h4⟩ := ha c
      refine ((Cert.InputNormRefIdeal.Read.val_main_v39_eq ..).trans ?_).trans (weight_eq (real_of_pre hp c)).symm
      rw [h0, h1, h4]

/-- The reference ends with its arguments and its counters as they were. -/
theorem frame_ref : Cert.quiescent_InputNormRefIdeal := fun m g _ =>
  (θ_run Cert.InputNormRefIdeal.defs _ _).mono (fun r h => ⟨fun c => (h c).2.2, sem_eq_zero_of_no_sems (by decide) r.2⟩)
    (Cert.InputNormRefIdeal.Value.run (F := Ideal) m g)

end Cert.InputNormEq

end
-- ==== Proof.AttnSetup.lean ====
/-
  The gradient of the attention: @main up to the call, the tables of pairs of blocks, and the call at them.
-/
module

public import proofs.«01_k».proof.Proof.Gen.AttnIdeal.Launch
public import proofs.«01_k».proof.Proof.Gen.AttnIdeal.Skeleton
public import Idealize.ShloMosaic.Lib.Pipeline.FrameBody
public import Idealize.ShloMosaic.Lib.Pipeline.FrameValue
public import Idealize.ShloMosaic.Lib.Pipeline.TableIdle
public import Idealize.ShloMosaic.Lib.Tactic
public import Idealize.ShloMosaic.Lib.WordCmp

@[expose] public section

set_option maxRecDepth 16384

noncomputable section

namespace Cert.AttnIdeal.Hand

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

variable (m : (ℓ : Loc nD τ sig) → Buf (Elt F) ℓ)

/-- The buffers of core `c` when the call is entered: after the host's operations. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main is its host operations and then the call. -/
theorem hmain (𝒱₀ : Variants) : Pipeline.HMainP (Ix := Unit) (Name := ℕ) (U := Pipeline.UD sig nD τ) (Lvl := ℕ) pcfgs 0 defs₀ 𝒱₀ m
    (main (F := F)) (V m) :=
  Pipeline.hmainP_prefix pcfgs 0 defs₀ 𝒱₀ m main hostOps0 hostOps0_sub hostOps0_fresh main_chain

/-- No host operation writes a buffer that is none of its results. -/
theorem V_arg (c : Dev nD) (b : Ref sig .tc) (h : ∀ op ∈ (hostOps0 : List (HloOp τ sig (Elt F))), Proc.devRef .tc b ∉ op.writes) :
    V m c b = m ((c : Thread nD τ).loc b) :=
  StableHlo.after_of_forall_not_mem (b := Proc.devRef .tc b) _ _ h

/-- The two tables: block of rows and block of keys of each pair. -/
def pairs : pre0.Contents (Elt F) := fun
  | 0 => fun i => lit0 (S132.rowMajor i)
  | 1 => fun i => lit1 (S132.rowMajor i)
  | ⟨_ + 2, h⟩ => absurd h (Nat.not_lt.2 (Nat.le_add_left _ _))

set_option maxHeartbeats 4000000 in
theorem V_pre (c : Dev nD) (k : Fin 2) : V m c (pre0.ref k) = pairs k := by
  match k with
  | 0 => show V m c main_c = _; unfold V; after_results; rfl
  | 1 => show V m c main_c_0 = _; unfold V; after_results; rfl

set_option maxHeartbeats 4000000 in
/-- Every block the tables name lies inside its array. -/
theorem pairs_ok : ok0 (F := F) pairs := by
  refine of_decide_eq_true ?_
  sl_kernel_rfl

/-- The call at the two tables. -/
abbrev adm : (pcfg0 (F := F)).Adm := ⟨pairs, pairs_ok⟩
abbrev cfg : Pipeline.Cfg sig Λ₀ := cfg0 (F := F) adm

end Cert.AttnIdeal.Hand

end
-- ==== Proof.AttnStep.lean ====
/-
  The gradient of the attention: what the body does at one pair of blocks.
-/
module

public import proofs.«01_k».proof.Proof.AttnSetup
public import Idealize.ShloMosaic.Lib.VecWindow

@[expose] public section

set_option maxRecDepth 16384

noncomputable section

namespace Cert.AttnIdeal.Hand

open Cert.AttnIdeal Cert.AttnIdeal.Gen
open Idealize.ShloMosaic Idealize.ShloMosaic.TcCoe Idealize.ShloMosaic.Tactic Idealize.ShloMosaic.VecWindow
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (Pipeline.UD sig nD τ) ℕ

/-- The words of a pair: its block of rows and its block of keys. -/
abbrev rowW (i : grid0.Coords) : BitVec 32 := (pairs (F := F)).atD 0 (k0_off1 i)
abbrev keyW (i : grid0.Coords) : BitVec 32 := (pairs (F := F)).atD 1 (k0_off1 i)

/-- The blocks the body reads at a pair. -/
structure Blocks (F : FTy → Type) where
  k : Vec F S1x768x256 .bf16
  v : Vec F S1x768x128 .bf16
  q : Vec F S1x1536x256 .bf16
  o : Vec F S1536x128 .bf16
  l : Vec F S1x1x1536 .f32
  d : Vec F S1x1x1536 .f32

/-- What the body carries: the three sums, the two blocks it writes out, and the array of the queries' gradient. -/
structure Carry (F : FTy → Type) where
  dq : Vec F S16896x256 .f32
  dk : Vec F S768x256 .f32
  dv : Vec F S768x128 .f32
  ok : Vec F S1x768x256 .f32
  ov : Vec F S1x768x128 .f32
  out : Vec F S8x16896x256 .f32

/-- A buffer held whole at an array's contents. -/
abbrev at_ (c : Dev nD) {sp : Space} {s : Shape} {e : EltTy} (M : Memref sig .tc sp s e) (x : Vec F s e) : sProp 𝕄 :=
  M.view.loc (c : Thread nD τ) ↦[M.view.set]{fullShare} M.view.rep x

/-- The two tables as the buffers hold them. -/
def rowTab (c : Dev nD) : Buf (Elt F) ((Memref.whole main_c : Memref sig .tc .smem S132 .i32).view.loc (c : Thread nD τ)) := pairs (F := F) 0
def keyTab (c : Dev nD) : Buf (Elt F) ((Memref.whole main_c_0 : Memref sig .tc .smem S132 .i32).view.loc (c : Thread nD τ)) := pairs (F := F) 1

/-- What the body holds when it starts and when it ends. -/
def Held (c : Dev nD) (a4 : Memref sig .tc .vmem S1x768x256 .bf16) (a5 : Memref sig .tc .vmem S1x768x128 .bf16)
    (a6 : Memref sig .tc .vmem S1x1536x256 .bf16) (a7 : Memref sig .tc .vmem S1536x128 .bf16)
    (a8 a9 : Memref sig .tc .vmem S1x1x1536 .f32) (a11 : Memref sig .tc .vmem S1x768x256 .f32)
    (a12 : Memref sig .tc .vmem S1x768x128 .f32) (a10 : Memref sig .tc .hbm S8x16896x256 .f32) (a13 : Memref sig .tc .vmem S16896x256 .f32)
    (a14 : Memref sig .tc .vmem S768x256 .f32) (a15 : Memref sig .tc .vmem S768x128 .f32) (B : Blocks F) (C : Carry F) : sProp 𝕄 :=
  iprop((((Memref.whole main_c : Memref sig .tc .smem S132 .i32).view.loc (c : Thread nD τ)) ↦{fullShare.right} rowTab c)
    ∗ (((Memref.whole main_c_0 : Memref sig .tc .smem S132 .i32).view.loc (c : Thread nD τ)) ↦{fullShare.right} keyTab c)
    ∗ at_ c a4 B.k ∗ at_ c a5 B.v ∗ at_ c a6 B.q ∗ at_ c a7 B.o ∗ at_ c a8 B.l ∗ at_ c a9 B.d
    ∗ at_ c a11 C.ok ∗ at_ c a12 C.ov
    ∗ at_ c a13 C.dq
    ∗ at_ c a14 C.dk
    ∗ at_ c a15 C.dv
    ∗ at_ c a10 C.out
    ∗ semVal ((c : Thread nD τ), SemLoc.dma cc0_scratch3.sem) 0 ∗ ∃ W, owes (c : Thread nD τ) 0 W)

/-- What the body reads of the table of rows at a pair is the pair's word. -/
theorem row_read (c : Dev nD) (i : grid0.Coords) (h) (h') : View.readAt (Elt F) (Memref.whole main_c : Memref sig .tc .smem S132 .i32).view (Rect.unit (s := S132) (k0_off1 i) S1.size h).toLoadRect (rowTab c) (Shape.Idx.first h') = rowW (F := F) i := by
  unfold rowW rowTab Pipeline.Prefetch.Contents.atD
  generalize (pairs (F := F)) 0 = T
  have hx : ∀ a : Fin 1, k0_off1 i a + 1 ≤ S132.size a := fun a => by have := h a; match a with | 0 => exact this
  refine Eq.trans ?_ (dif_pos hx).symm
  refine congrArg T (funext fun a => Fin.ext ?_)
  match a with | 0 => rfl

/-- What the body reads of the table of keys at a pair is the pair's word. -/
theorem key_read (c : Dev nD) (i : grid0.Coords) (h) (h') : View.readAt (Elt F) (Memref.whole main_c_0 : Memref sig .tc .smem S132 .i32).view (Rect.unit (s := S132) (k0_off1 i) S1.size h).toLoadRect (keyTab c) (Shape.Idx.first h') = keyW (F := F) i := by
  unfold keyW keyTab Pipeline.Prefetch.Contents.atD
  generalize (pairs (F := F)) 1 = T
  have hx : ∀ a : Fin 1, k0_off1 i a + 1 ≤ S132.size a := fun a => by have := h a; match a with | 0 => exact this
  refine Eq.trans ?_ (dif_pos hx).symm
  refine congrArg T (funext fun a => Fin.ext ?_)
  match a with | 0 => rfl

/-- The words as the body reads them. -/
abbrev rowR (c : Dev nD) (i : grid0.Coords) : BitVec 32 :=
  View.readAt (Elt F) (Memref.whole main_c : Memref sig .tc .smem S132 .i32).view (Rect.unit (s := S132) (k0_off1 i) S1.size (k0_off1_inb i)).toLoadRect (rowTab c) (Shape.Idx.first (numel1_S1.symm ▸ Nat.one_pos))
abbrev keyR (c : Dev nD) (i : grid0.Coords) : BitVec 32 :=
  View.readAt (Elt F) (Memref.whole main_c_0 : Memref sig .tc .smem S132 .i32).view (Rect.unit (s := S132) (k0_off1 i) S1.size (k0_off1_inb i)).toLoadRect (keyTab c) (Shape.Idx.first (numel1_S1.symm ▸ Nat.one_pos))

/-- Whether a pair is a head's first. -/
def first0 (i : grid0.Coords) : BitVec 1 := Scalar.cmpi .ne (Scalar.extui (Scalar.cmpi .eq (BitVec.ofNat 32 (i 1).val) 0#32)) 0#32

/-- Whether a pair opens a block of keys: its block of rows is the one the keys lie in. -/
def opens (v1 v3 : BitVec 32) : BitVec 1 :=
  Scalar.cmpi .ne (Scalar.extui (Scalar.cmpi .eq v1 (Scalar.select (Scalar.andi (Scalar.cmpi .ne (Scalar.subi (Scalar.extui (Scalar.cmpi .sgt v3 0#32) : BitVec 32) (Scalar.extui (Scalar.cmpi .slt v3 0#32)))
    (Scalar.subi (Scalar.extui (Scalar.cmpi .sgt 2#32 0#32)) (Scalar.extui (Scalar.cmpi .slt 2#32 0#32)))) (Scalar.cmpi .ne (Scalar.remsi v3 2#32) 0#32))
    (Scalar.subi (Scalar.divsi v3 2#32) 1#32) (Scalar.divsi v3 2#32)))) 0#32

/-- The seven ways through the body's branches. -/
def Ways (f n s3 s4 s5 s6 s7 : Prop) : Prop :=
  (f ∧ n ∧ ¬s3 ∧ s4 ∧ ¬s5 ∧ ¬s6 ∧ ¬s7) ∨ (¬f ∧ n ∧ ¬s3 ∧ s4 ∧ ¬s5 ∧ ¬s6 ∧ ¬s7) ∨ (¬f ∧ n ∧ ¬s3 ∧ s4 ∧ ¬s5 ∧ s6 ∧ ¬s7)
  ∨ (¬f ∧ n ∧ ¬s3 ∧ ¬s4 ∧ s5 ∧ ¬s6 ∧ ¬s7) ∨ (¬f ∧ n ∧ ¬s3 ∧ ¬s4 ∧ s5 ∧ s6 ∧ s7)
  ∨ (¬f ∧ ¬n ∧ s3 ∧ ¬s4 ∧ ¬s5 ∧ ¬s6 ∧ ¬s7) ∨ (¬f ∧ ¬n ∧ s3 ∧ ¬s4 ∧ ¬s5 ∧ s6 ∧ ¬s7)

/-- What is asked of the words of a pair. -/
def Good (i : grid0.Coords) (v1 v3 : BitVec 32) : Prop :=
  k0_chk1 v1 v3 ∧ Ways (first0 i = 1#1) (opens v1 v3 = 1#1) (k0_cond3 v1 v3 = 1#1) (k0_cond4 v1 v3 = 1#1) (k0_cond5 v1 v3 = 1#1) (k0_cond6 v1 = 1#1) (k0_cond7 i = 1#1)

/-- The lower half of a block of rows, as the last kind of step reads it. -/
noncomputable abbrev qLow (B : Blocks F) : Vec F S1x768x256 .bf16 := VecWindow.window B.q ![0, 768, 0] S1x768x256.size inb_S1x1536x256_S1x768x256_0_768_0
noncomputable abbrev oLow (B : Blocks F) : Vec F S768x128 .bf16 := VecWindow.window B.o ![768, 0] S768x128.size inb_S1536x128_S768x128_768_0
noncomputable abbrev lLow (B : Blocks F) : Vec F S1x1x768 .f32 := VecWindow.window B.l ![0, 0, 768] S1x1x768.size inb_S1x1x1536_S1x1x768_0_0_768
noncomputable abbrev dLow (B : Blocks F) : Vec F S1x1x768 .f32 := VecWindow.window B.d ![0, 0, 768] S1x1x768.size inb_S1x1x1536_S1x1x768_0_0_768

/-- The sums at a step's start: the queries' cleared at a head's first pair, the keys' and the values' where a block of keys opens. -/
noncomputable def started (f n : BitVec 1) (C : Carry F) : Carry F :=
  { C with dq := if f = 1#1 then k0_pay24 else C.dq
           dk := if n = 1#1 then k0_pay25 else C.dk
           dv := if n = 1#1 then k0_pay26 else C.dv }

/-- A step whose rows all come after its keys. -/
noncomputable def far (off : Fin 2 → ℕ) (inb : ∀ a, off a + S1536x256.size a ≤ S16896x256.size a) (B : Blocks F) (C : Carry F) : Carry F :=
  { C with dq := VecWindow.put C.dq off S1536x256.size (k0_pay28 (k0_pay12 B.q B.o B.k B.l B.v B.d) (VecWindow.window C.dq off S1536x256.size inb) B.k)
           dk := k0_pay27 (k0_pay9 B.q) (k0_pay12 B.q B.o B.k B.l B.v B.d) C.dk
           dv := k0_pay13 B.q B.o B.k B.l C.dv }

/-- A step whose keys start where its rows start. -/
noncomputable def upper (off : Fin 2 → ℕ) (inb : ∀ a, off a + S1536x256.size a ≤ S16896x256.size a) (B : Blocks F) (C : Carry F) : Carry F :=
  { C with dq := VecWindow.put C.dq off S1536x256.size (k0_pay3 (k0_pay17 B.q B.o B.k B.l B.v B.d) (VecWindow.window C.dq off S1536x256.size inb) B.k)
           dk := k0_pay2 (k0_pay14 B.q) (k0_pay17 B.q B.o B.k B.l B.v B.d) C.dk
           dv := k0_pay1 (k0_pay18 B.q B.o B.k B.l C.dv) }

/-- A step whose keys start at the middle of its rows: only the lower half of the rows takes part. -/
noncomputable def lower (off : Fin 2 → ℕ) (inb : ∀ a, off a + S768x256.size a ≤ S16896x256.size a) (B : Blocks F) (C : Carry F) : Carry F :=
  { C with dq := VecWindow.put C.dq off S768x256.size (k0_pay6 (k0_pay22 (qLow B) (oLow B) B.k (lLow B) B.v (dLow B)) (VecWindow.window C.dq off S768x256.size inb) B.k)
           dk := k0_pay5 (k0_pay19 (qLow B)) (k0_pay22 (qLow B) (oLow B) B.k (lLow B) B.v (dLow B)) C.dk
           dv := k0_pay4 (k0_pay23 (qLow B) (oLow B) B.k (lLow B) C.dv) }

/-- A block of keys is written out after its last pair. -/
noncomputable def stored (s : BitVec 1) (C : Carry F) : Carry F :=
  { C with ok := if s = 1#1 then k0_pay7 C.dk else C.ok
           ov := if s = 1#1 then k0_pay8 C.dv else C.ov }

theorem rows_numel : S16896x256.numel = S1x16896x256.numel := by decide

/-- A head's rows of the queries' gradient are copied out after its last pair. -/
noncomputable def sent (s : BitVec 1) (off : Fin 3 → ℕ) (C : Carry F) : Carry F :=
  { C with out := if s = 1#1 then VecWindow.put C.out off S1x16896x256.size (fun y => C.dq ((Shape.reshapeEquiv rows_numel).symm y)) else C.out }

/-- The body's effect at a pair. -/
noncomputable def after (i : grid0.Coords) (v1 v3 : BitVec 32) (hk : k0_chk1 v1 v3) (B : Blocks F) (C : Carry F) : Carry F :=
  let C1 := started (first0 i) (opens v1 v3) C
  let C2 := if h3 : k0_cond3 v1 v3 = 1#1 then far (k0_off2 v1) (k0_off2_inb v1 v3 hk h3) B C1
    else if h4 : k0_cond4 v1 v3 = 1#1 then upper (k0_off3 v1) (k0_off3_inb v1 v3 hk h4) B C1
    else if h5 : k0_cond5 v1 v3 = 1#1 then lower (k0_off4 v1) (k0_off4_inb v1 v3 hk h5) B C1 else C1
  sent (k0_cond7 i) (k0_off5 i) (stored (k0_cond6 v1) C2)

/-! Loads and stores of a window. -/

section Window
variable {sp : Space} {s : Shape} {e : EltTy} (v : View sig .tc sp s e)

theorem load_unit (x : s.Idx → Elt F e) (off size) (inb : ∀ a, off a + size a ≤ s.size a) :
    v.readAt (Elt F) (Rect.unit off size inb).toLoadRect (v.rep x) = VecWindow.window x off size inb := View.readAt_rep_unit _ x inb rfl inb
theorem store_unit (f) (off size) (inb : ∀ a, off a + size a ≤ s.size a) (w) (L) :
    v.read (Elt F) (v.writes (Elt F) f (⟨Rect.unit off size inb, w⟩ :: L)) = VecWindow.put (v.read (Elt F) (v.writes (Elt F) f L)) off size w :=
  View.read_writes_cons_put _ f inb w L rfl
theorem store_nil (x : s.Idx → Elt F e) : v.read (Elt F) (v.writes (Elt F) (v.rep x) []) = x := View.read_rep _ x
/-- Rows added to in place: a window is read, and what is made of it written back. -/
theorem add_rows (x : s.Idx → Elt F e) (off size) (inb : ∀ a, off a + size a ≤ s.size a)
    (f : (((a : Fin s.rank) → Fin (size a)) → Elt F e) → ((a : Fin s.rank) → Fin (size a)) → Elt F e) :
    v.read (Elt F) (v.writes (Elt F) (v.rep x) [⟨Rect.unit off size inb, f (v.readAt (Elt F) (Rect.unit off size inb).toLoadRect (v.rep x))⟩])
      = VecWindow.put x off size (f (VecWindow.window x off size inb)) := by
  rw [store_unit, store_nil, load_unit]

/-- The same after the whole buffer was filled. -/
theorem add_rows_filled (g : v.ty.Contents (Elt F)) (z : s.Idx → Elt F e) (off off' size) (inb : ∀ a, off a + size a ≤ s.size a) (inb' : ∀ a, off' a + s.size a ≤ s.size a)
    (f : (((a : Fin s.rank) → Fin (size a)) → Elt F e) → ((a : Fin s.rank) → Fin (size a)) → Elt F e) :
    v.read (Elt F) (v.writes (Elt F) g [⟨Rect.unit off size inb, f (v.readAt (Elt F) (Rect.unit off size inb).toLoadRect (v.writes (Elt F) g [⟨Rect.unit off' s.size inb', z⟩]))⟩, ⟨Rect.unit off' s.size inb', z⟩])
      = VecWindow.put z off size (f (VecWindow.window z off size inb)) := by
  rw [store_unit, View.read_writes_full, View.readAt_unit _ _ inb rfl inb, View.read_writes_full]

/-- A copy into a window seen at another shape. -/
theorem copied (x : s.Idx → Elt F e) (r : Rect s) {s' : Shape} (h : s'.numel = r.shape.numel) (w : s'.Idx → Elt F e) :
    ((v.slice r).reshape s' h).write (Elt F) (v.rep x) w Finset.univ = v.writes (Elt F) (v.rep x) [⟨r, fun y => w ((Shape.reshapeEquiv h).symm y)⟩] :=
  View.write_reshape_univ (v := v.slice r) h _ w

end Window

variable (c : Dev nD) (i : grid0.Coords) (a4 : Memref sig .tc .vmem S1x768x256 .bf16) (h4 : a4.IsWhole) (a5 : Memref sig .tc .vmem S1x768x128 .bf16) (h5 : a5.IsWhole)
    (a6 : Memref sig .tc .vmem S1x1536x256 .bf16) (h6 : a6.IsWhole) (a7 : Memref sig .tc .vmem S1536x128 .bf16) (h7 : a7.IsWhole)
    (a8 : Memref sig .tc .vmem S1x1x1536 .f32) (h8 : a8.IsWhole) (a9 : Memref sig .tc .vmem S1x1x1536 .f32) (h9 : a9.IsWhole)
    (a11 : Memref sig .tc .vmem S1x768x256 .f32) (h11 : a11.IsWhole) (a12 : Memref sig .tc .vmem S1x768x128 .f32) (h12 : a12.IsWhole)
    (a10 : Memref sig .tc .hbm S8x16896x256 .f32) (h10 : a10.IsWhole) (a13 : Memref sig .tc .vmem S16896x256 .f32) (h13 : a13.IsWhole)
    (a14 : Memref sig .tc .vmem S768x256 .f32) (h14 : a14.IsWhole) (a15 : Memref sig .tc .vmem S768x128 .f32) (h15 : a15.IsWhole)

/-- The body at a point, over any staging buffers. -/
abbrev body : Prog (TpuEff nD τ sig (Elt F) Λ₀ .tc) PUnit :=
  cc0_attn_bwd (F := F) i (Memref.whole main_c) (Memref.isWhole_whole _) (Memref.whole main_c_0) (Memref.isWhole_whole _)
    a4 h4 a5 h5 a6 h6 a7 h7 a8 h8 a9 h9 a10 h10 a11 h11 a12 h12
    a13 h13 a14 h14
    a15 h15 cc0_scratch3

set_option maxHeartbeats 4000000 in
set_option pp.deepTerms false in set_option pp.deepTerms.threshold 14 in set_option pp.proofs false in
theorem step (B : Blocks F) (C : Carry F) (K : PUnit → sProp 𝕄) (hG : Good i (rowR (F := F) c i) (keyR (F := F) c i)) :
    iprop(Held c a4 a5 a6 a7 a8 a9 a11 a12 a10 a13 a14 a15 B C ∗ (Held c a4 a5 a6 a7 a8 a9 a11 a12 a10 a13 a14 a15 B (after i (rowR c i) (keyR c i) hG.1 B C) -∗ K ⟨⟩))
    ⊢ wp frame (wpE defs₀ Variants.none (c : Thread nD τ) none) Set.univ (body i a4 h4 a5 h5 a6 h6 a7 h7 a8 h8 a9 h9 a11 h11 a12 h12 a10 h10 a13 h13 a14 h14 a15 h15) K := by
  obtain ⟨hk, h⟩ := hG
  rcases h with ⟨h1, h2, b3, b4, b5, b6, b7⟩ | ⟨h1, h2, b3, b4, b5, b6, b7⟩ | ⟨h1, h2, b3, b4, b5, b6, b7⟩ | ⟨h1, h2, b3, b4, b5, b6, b7⟩ | ⟨h1, h2, b3, b4, b5, b6, b7⟩ | ⟨h1, h2, b3, b4, b5, b6, b7⟩ | ⟨h1, h2, b3, b4, b5, b6, b7⟩
  all_goals
    unfold body
    sl_unfold [cc0_attn_bwd]
    unfold Held
    iintro ⟨⟨Ht0, Ht1, Hk, Hv, Hq, Ho, Hl, Hd, Hok, Hov, Hdq, Hdk, Hdv, Hout, Hsem, %W, Howe⟩, HK⟩
    sl_exec (disch := first | sl_exact hk | sl_exact h1 | sl_exact h2 | sl_exact b3 | sl_exact b4 | sl_exact b5 | sl_exact b6 | sl_exact b7)
  all_goals
    sl_step
    iapply HK
    isplitl [Ht0]; · iexact Ht0
    isplitl [Ht1]; · iexact Ht1
    isplitl [Hk]; · iexact Hk
    isplitl [Hv]; · iexact Hv
    isplitl [Hq]; · iexact Hq
    isplitl [Ho]; · iexact Ho
    isplitl [Hl]; · iexact Hl
    isplitl [Hd]; · iexact Hd
    isplitl [Hok]
    iapply (pointsTo_rep_of_read _ _ _ _ _ ?_)
    on_goal 2 => iexact Hok
    rotate_left
    isplitl [Hov]
    iapply (pointsTo_rep_of_read _ _ _ _ _ ?_)
    on_goal 2 => iexact Hov
    rotate_left
    isplitl [Hdq]
    iapply (pointsTo_rep_of_read _ _ _ _ _ ?_)
    on_goal 2 => iexact Hdq
    rotate_left
    isplitl [Hdk]
    iapply (pointsTo_rep_of_read _ _ _ _ _ ?_)
    on_goal 2 => iexact Hdk
    rotate_left
    isplitl [Hdv]
    iapply (pointsTo_rep_of_read _ _ _ _ _ ?_)
    on_goal 2 => iexact Hdv
    rotate_left
    isplitl [Hout]
    iapply (pointsTo_rep_of_read _ _ _ _ _ ?_)
    on_goal 2 => iexact Hout
    rotate_left
    isplitl [Hsem]; · iexact Hsem
    iexists _; iexact Howe
  all_goals sl_unfold_words
  all_goals repeat first | rw [View.readAt_rep_full] | rw [View.read_writes_full] | rw [View.readCov_full] | rw [load_unit a6.view] | rw [load_unit a7.view] | rw [load_unit a8.view] | rw [load_unit a9.view] | rw [View.read_rep]
  all_goals unfold after
  all_goals simp only [h1, h2, b3, b4, b5, b6, b7, if_pos, if_neg, dif_pos, dif_neg, not_false_eq_true, started, stored, sent, far, upper, lower]
  all_goals first
    | with_reducible rfl
    | (have e : k0_cond3 (rowR (F := F) c i) (keyR (F := F) c i) = 1#1 := b3
       exact add_rows a13.view C.dq _ _ (k0_off2_inb _ _ hk e) (fun z => k0_pay28 (k0_pay12 B.q B.o B.k B.l B.v B.d) z B.k))
    | (have e : k0_cond5 (rowR (F := F) c i) (keyR (F := F) c i) = 1#1 := b5
       exact add_rows a13.view C.dq _ _ (k0_off4_inb _ _ hk e) (fun z => k0_pay6 (k0_pay22 (qLow B) (oLow B) B.k (lLow B) B.v (dLow B)) z B.k))
    | (have e7 : k0_cond7 i = 1#1 := b7
       refine (congrArg (View.read (Elt F) a10.view) (copied a10.view C.out (Rect.unit (k0_off5 i) S1x16896x256.size (k0_off5_inb i e7)) rows_numel _)).trans ?_
       rw [store_unit, store_nil]
       refine congrArg (fun w : Vec F S16896x256 .f32 => VecWindow.put C.out (k0_off5 i) S1x16896x256.size (fun y => w ((Shape.reshapeEquiv rows_numel).symm y))) ?_
       exact add_rows a13.view C.dq _ _ (k0_off4_inb _ _ hk b5) (fun z => k0_pay6 (k0_pay22 (qLow B) (oLow B) B.k (lLow B) B.v (dLow B)) z B.k))
    | (have e1 : first0 i = 1#1 := h1
       have e : k0_cond4 (rowR (F := F) c i) (keyR (F := F) c i) = 1#1 := b4
       exact add_rows_filled a13.view a13.view.junk k0_pay24 _ ![0, 0] _ (k0_off3_inb _ _ hk e) inb_S16896x256_S16896x256_0_0 (fun z => k0_pay3 (k0_pay17 B.q B.o B.k B.l B.v B.d) z B.k))
    | (have e : k0_cond4 (rowR (F := F) c i) (keyR (F := F) c i) = 1#1 := b4
       exact add_rows a13.view C.dq _ _ (k0_off3_inb _ _ hk e) (fun z => k0_pay3 (k0_pay17 B.q B.o B.k B.l B.v B.d) z B.k))

end Cert.AttnIdeal.Hand

end
-- ==== Proof.AttnGood.lean ====
/-
  The words of the tables: at every pair the side condition the body assumes holds, and its branches are taken in one
  of seven ways.
-/
module

public import proofs.«01_k».proof.Proof.AttnStep

noncomputable section
@[expose] public section

namespace Cert.AttnIdeal.Hand
open Cert.AttnIdeal Cert.AttnIdeal.Gen
open Idealize.ShloMosaic Idealize.ShloMosaic.TcCoe Idealize.ShloMosaic.Tactic

variable {F : FTy → Type} [FloatOps F] [Named F]

/-- The pair numbered `p`, of the first head. -/
def pairAt (p : Fin 132) : grid0.Coords := fun | 0 => (0 : Fin 8) | 1 => p

set_option synthInstance.maxSize 100000 in
instance (f n s3 s4 s5 s6 s7 : Prop) [Decidable f] [Decidable n] [Decidable s3] [Decidable s4] [Decidable s5] [Decidable s6] [Decidable s7] :
    Decidable (Ways f n s3 s4 s5 s6 s7) := inferInstanceAs (Decidable (_ ∨ _))

instance (i : grid0.Coords) (v1 v3 : BitVec 32) : Decidable (Good i v1 v3) :=
  @instDecidableAnd _ _ (k0_chk1.dec v1 v3) inferInstance

theorem good_pair : ∀ p : Fin 132, Good (pairAt p) (rowW (F := F) (pairAt p)) (keyW (F := F) (pairAt p)) := by
  refine of_decide_eq_true ?_
  sl_kernel_rfl

theorem good (c : Dev nD) (i : grid0.Coords) : Good i (rowR (F := F) c i) (keyR (F := F) c i) := by
  rw [show rowR (F := F) c i = rowW i from row_read .., show keyR (F := F) c i = keyW i from key_read ..]
  exact good_pair (F := F) (i 1)

end Cert.AttnIdeal.Hand

end
-- ==== Proof.AttnRun.lean ====
/-
  The gradient of the attention: what the body carries from pair to pair, and the whole call.
-/
module

public import proofs.«01_k».proof.Proof.AttnGood

@[expose] public section

set_option maxRecDepth 16384

noncomputable section

namespace Cert.AttnIdeal.Hand

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat)

variable {F : FTy → Type} [FloatOps F] [Named F]

local notation "𝕄" => MT nD τ sig Unit (Elt F) ℕ (Pipeline.UD sig nD τ) ℕ

variable (m : (ℓ : Loc nD τ sig) → Buf (Elt F) ℓ)

/-- A window's block at a point. -/
def iblk (c : Dev nD) (w : Fin 8) (t : Fin (cfg (F := F)).N) : (((cfg (F := F)).win w).xblock ((cfg (F := F)).grid.coords t)).Idx → Elt F ((cfg (F := F)).win w).elt :=
  (((cfg (F := F)).win w).blk t).view.read (Elt F) (V m c (Pipeline.arrRef spec0 w))

/-- The blocks the body reads at a point. -/
def blocks (c : Dev nD) (t : Fin (cfg (F := F)).N) : Blocks F :=
  ⟨iblk m c 0 t, iblk m c 1 t, iblk m c 2 t, iblk m c 3 t, iblk m c 4 t, iblk m c 5 t⟩

/-- The effect of the point `t`. -/
def stepAt (c : Dev nD) (t : Fin (cfg (F := F)).N) (C : Carry F) : Carry F :=
  after (grid0.coords t) (rowR (F := F) c (grid0.coords t)) (keyR (F := F) c (grid0.coords t)) (good c (grid0.coords t)).1 (blocks m c t) C

/-- What is carried before point `n`. -/
def traj (c : Dev nD) : ℕ → Carry F
  | 0 => ⟨k0_pay24, k0_pay25, k0_pay26, k0_pay7 k0_pay25, k0_pay8 k0_pay26, V m c main_v46_0⟩
  | n + 1 => if h : n < (cfg (F := F)).N then stepAt m c ⟨n, h⟩ (traj c n) else traj c n

theorem traj_succ (c : Dev nD) (t : Fin (cfg (F := F)).N) : traj m c (t.val + 1) = stepAt m c t (traj m c t.val) := by
  conv_lhs => unfold traj
  exact dif_pos t.isLt

/-- What is held before point `n`: the sums as carried, arbitrary before the first. -/
def Agree (c : Dev nD) (n : ℕ) (C : Carry F) : Prop :=
  C.out = (traj m c n).out ∧ (n ≠ 0 → C.dq = (traj m c n).dq ∧ C.dk = (traj m c n).dk ∧ C.dv = (traj m c n).dv)

theorem after_of_started (i : grid0.Coords) (v1 v3 : BitVec 32) (hk) (B : Blocks F) (C C' : Carry F)
    (h : started (first0 i) (opens v1 v3) C = { started (first0 i) (opens v1 v3) C' with ok := C.ok, ov := C.ov }) :
    after i v1 v3 hk B C = { after i v1 v3 hk B C' with ok := if k0_cond6 v1 = 1#1 then (after i v1 v3 hk B C').ok else C.ok, ov := if k0_cond6 v1 = 1#1 then (after i v1 v3 hk B C').ov else C.ov } := by
  unfold after
  rw [h]
  by_cases h6 : k0_cond6 v1 = 1#1 <;> by_cases h3 : k0_cond3 v1 v3 = 1#1 <;> by_cases h4 : k0_cond4 v1 v3 = 1#1 <;> by_cases h5 : k0_cond5 v1 v3 = 1#1 <;>
    simp only [h3, h4, h5, h6, dif_pos, dif_neg, if_pos, if_neg, not_false_eq_true, sent, stored, far, upper, lower]

theorem first_opens (c : Dev nD) (i : grid0.Coords) (h : first0 i = 1#1) : opens (rowR (F := F) c i) (keyR (F := F) c i) = 1#1 := by
  obtain ⟨-, hw⟩ := good (F := F) c i
  rcases hw with ⟨-, h2, -⟩ | ⟨h1, -⟩ | ⟨h1, -⟩ | ⟨h1, -⟩ | ⟨h1, -⟩ | ⟨h1, -⟩ | ⟨h1, -⟩
  · exact h2
  all_goals exact absurd h h1

theorem first_point (t : Fin grid0.N) (h : t.val = 0) : first0 (grid0.coords t) = 1#1 := by
  obtain rfl : t = ⟨0, by decide⟩ := Fin.ext h
  decide

theorem agree_step (c : Dev nD) (t : Fin (cfg (F := F)).N) (C : Carry F) (h : Agree m c t.val C) :
    Agree m c (t.val + 1) (stepAt m c t C) ∧ (k0_cond6 (rowR (F := F) c (grid0.coords t)) = 1#1 → (stepAt m c t C).ok = (traj m c (t.val + 1)).ok ∧ (stepAt m c t C).ov = (traj m c (t.val + 1)).ov)
      ∧ (¬ k0_cond6 (rowR (F := F) c (grid0.coords t)) = 1#1 → (stepAt m c t C).ok = C.ok ∧ (stepAt m c t C).ov = C.ov) := by
  have e : stepAt m c t C = { stepAt m c t (traj m c t.val) with
      ok := if k0_cond6 (rowR (F := F) c (grid0.coords t)) = 1#1 then (stepAt m c t (traj m c t.val)).ok else C.ok
      ov := if k0_cond6 (rowR (F := F) c (grid0.coords t)) = 1#1 then (stepAt m c t (traj m c t.val)).ov else C.ov } := after_of_started (grid0.coords t) (rowR (F := F) c (grid0.coords t)) (keyR (F := F) c (grid0.coords t)) (good c (grid0.coords t)).1 (blocks m c t) C (traj m c t.val) (by
    obtain ⟨h1, h2⟩ := h
    cases C; cases hT : traj m c t.val
    rw [hT] at h1 h2
    by_cases hn : t.val = 0
    · have hf := first_point t hn
      have ho := first_opens (F := F) c _ hf
      simp only [started, hf, ho, if_pos] at h1 ⊢
      rw [h1]
    · obtain ⟨a, b, d⟩ := h2 hn
      simp only at h1 a b d
      subst h1 a b d
      rfl)
  unfold Agree
  rw [traj_succ]
  rw [e]
  generalize stepAt m c t (traj m c t.val) = T
  generalize k0_cond6 (rowR (F := F) c (grid0.coords t)) = w
  dsimp only
  refine ⟨⟨rfl, fun _ => ⟨rfl, rfl, rfl⟩⟩, fun h6 => ⟨?_, ?_⟩, fun h6 => ⟨?_, ?_⟩⟩
  · exact if_pos h6
  · exact if_pos h6
  · exact if_neg h6
  · exact if_neg h6

/-- The queries' gradient, and the sums, as held before point `n`. -/
def Phi (c : Dev nD) (n : ℕ) : sProp 𝕄 :=
  iprop((((Memref.whole main_c : Memref sig .tc .smem S132 .i32).view.loc (c : Thread nD τ)) ↦{fullShare.right} rowTab c)
    ∗ (((Memref.whole main_c_0 : Memref sig .tc .smem S132 .i32).view.loc (c : Thread nD τ)) ↦{fullShare.right} keyTab c)
    ∗ (∃ r, prngReg c r) ∗ semVal ((c : Thread nD τ), SemLoc.dma cc0_scratch3.sem) 0
    ∗ ∃ C : Carry F, ⌜Agree m c n C⌝ ∗ at_ c (Memref.whole cc0_scratch0) C.dq ∗ at_ c (Memref.whole cc0_scratch1) C.dk
      ∗ at_ c (Memref.whole cc0_scratch2) C.dv ∗ at_ c (Memref.whole main_v46_0) C.out)

/-- The call's data: the arrays at entry, what each staging buffer holds after each point, and what is carried. -/
def dat (c : Dev nD) : Dat τ (Elt F) Unit ℕ (Pipeline.UD sig nD τ) ℕ (cfg (F := F)) c where
  A w := V m c (Pipeline.arrRef spec0 w)
  after w t := match w with
    | 0 => iblk m c 0 t | 1 => iblk m c 1 t | 2 => iblk m c 2 t | 3 => iblk m c 3 t | 4 => iblk m c 4 t | 5 => iblk m c 5 t
    | 6 => (traj m c (t.val + 1)).ok | 7 => (traj m c (t.val + 1)).ov
    | ⟨_ + 8, h⟩ => absurd h (Nat.not_lt.2 (Nat.le_add_left _ _))
  Φ t := Phi m c t.val
  q _ := fullShare
  owed _ := 0

/-- An input's staging buffer holds its block at every point. -/
theorem before0 (c : Dev nD) (t : Fin (cfg (F := F)).N) (d) : (dat m c).before 0 t d = iblk m c 0 t :=
  ((dat m c).before_in_eq_fetched 0 rfl (fun _ => rfl) (fun _ _ _ => rfl) (fun t => by show ((cfg (F := F)).win 0).cut _ (iblk m c 0 t) = _; unfold Dat.blockOf iblk; rfl) t d).trans
    (by unfold Dat.fetched Dat.blockOf iblk; rfl)
theorem before1 (c : Dev nD) (t : Fin (cfg (F := F)).N) (d) : (dat m c).before 1 t d = iblk m c 1 t :=
  ((dat m c).before_in_eq_fetched 1 rfl (fun _ => rfl) (fun _ _ _ => rfl) (fun t => by show ((cfg (F := F)).win 1).cut _ (iblk m c 1 t) = _; unfold Dat.blockOf iblk; rfl) t d).trans
    (by unfold Dat.fetched Dat.blockOf iblk; rfl)
theorem before2 (c : Dev nD) (t : Fin (cfg (F := F)).N) (d) : (dat m c).before 2 t d = iblk m c 2 t :=
  ((dat m c).before_in_eq_fetched 2 rfl (fun _ => rfl) (fun _ _ _ => rfl) (fun t => by show ((cfg (F := F)).win 2).cut _ (iblk m c 2 t) = _; unfold Dat.blockOf iblk; rfl) t d).trans
    (by unfold Dat.fetched Dat.blockOf iblk; rfl)
theorem before3 (c : Dev nD) (t : Fin (cfg (F := F)).N) (d) : (dat m c).before 3 t d = iblk m c 3 t :=
  ((dat m c).before_in_eq_fetched 3 rfl (fun _ => rfl) (fun _ _ _ => rfl) (fun t => by show ((cfg (F := F)).win 3).cut _ (iblk m c 3 t) = _; unfold Dat.blockOf iblk; rfl) t d).trans
    (by unfold Dat.fetched Dat.blockOf iblk; rfl)
theorem before4 (c : Dev nD) (t : Fin (cfg (F := F)).N) (d) : (dat m c).before 4 t d = iblk m c 4 t :=
  ((dat m c).before_in_eq_fetched 4 rfl (fun _ => rfl) (fun _ _ _ => rfl) (fun t => by show ((cfg (F := F)).win 4).cut _ (iblk m c 4 t) = _; unfold Dat.blockOf iblk; rfl) t d).trans
    (by unfold Dat.fetched Dat.blockOf iblk; rfl)
theorem before5 (c : Dev nD) (t : Fin (cfg (F := F)).N) (d) : (dat m c).before 5 t d = iblk m c 5 t :=
  ((dat m c).before_in_eq_fetched 5 rfl (fun _ => rfl) (fun _ _ _ => rfl) (fun t => by show ((cfg (F := F)).win 5).cut _ (iblk m c 5 t) = _; unfold Dat.blockOf iblk; rfl) t d).trans
    (by unfold Dat.fetched Dat.blockOf iblk; rfl)

/-- A block of the keys' gradient is written back only after it was stored. -/
theorem idle_kept6 : ∀ t : Fin grid0.N, (!(cfg (F := F)).idle 6 (grid0.coords t) || !((cfg (F := F)).win 6).flushF t) = true := by
  refine of_decide_eq_true ?_
  sl_kernel_rfl
theorem idle_kept7 : ∀ t : Fin grid0.N, (!(cfg (F := F)).idle 7 (grid0.coords t) || !((cfg (F := F)).win 7).flushF t) = true := by
  refine of_decide_eq_true ?_
  sl_kernel_rfl

end Cert.AttnIdeal.Hand

end
-- ==== Proof.AttnTables.lean ====
/-
  The tables of pairs read as numbers: the block of rows and the block of keys of each pair, which branches of the body
  its words take, where it writes, and which block each window shows.
-/
module

public import proofs.«01_k».proof.Proof.AttnRun

@[expose] public section

set_option maxRecDepth 16384

noncomputable section

open Idealize.ShloMosaic Idealize.ShloMosaic.TcCoe Idealize.SL.Sem Idealize.ShloMosaic.Tactic

namespace Cert.AttnIdeal.Value

open Cert.AttnIdeal Cert.AttnIdeal.Gen Cert.AttnIdeal.Hand

/-- The block of rows and the block of keys of pair `p`. -/
def rowOf (p : Fin 132) : Fin 11 := Fin.ofNat 11 (lit0 p).toNat
def keyOf (p : Fin 132) : Fin 22 := Fin.ofNat 22 (lit1 p).toNat

/-- The point of head `h` and pair `p`. -/
def point (h : Fin 8) (p : Fin 132) : grid0.Coords := fun | 0 => h | 1 => p

/-- What the words of pair `p` decide. -/
def Words (p : Fin 132) (v1 v3 : BitVec 32) : Prop :=
  (keyOf p).val / 2 ≤ (rowOf p).val
  ∧ (first0 (point 0 p) = 1#1 ↔ p.val = 0)
  ∧ (opens v1 v3 = 1#1 ↔ (rowOf p).val = (keyOf p).val / 2)
  ∧ (k0_cond3 v1 v3 = 1#1 ↔ (rowOf p).val ≠ (keyOf p).val / 2)
  ∧ (k0_cond4 v1 v3 = 1#1 ↔ (rowOf p).val = (keyOf p).val / 2 ∧ (keyOf p).val % 2 = 0)
  ∧ (k0_cond5 v1 v3 = 1#1 ↔ (rowOf p).val = (keyOf p).val / 2 ∧ (keyOf p).val % 2 = 1)
  ∧ (k0_cond6 v1 = 1#1 ↔ (rowOf p).val = 10)
  ∧ (k0_cond7 (point 0 p) = 1#1 ↔ p.val = 131)
  ∧ k0_off2 v1 = ![1536 * (rowOf p).val, 0]
  ∧ k0_off3 v1 = ![1536 * (rowOf p).val, 0]
  ∧ k0_off4 v1 = ![1536 * (rowOf p).val + 768, 0]

instance (p : Fin 132) (v1 v3 : BitVec 32) : Decidable (Words p v1 v3) := by unfold Words; infer_instance

theorem words_pair : ∀ p : Fin 132, Words p (rowW (F := Ideal) (point 0 p)) (keyW (F := Ideal) (point 0 p)) := by
  refine of_decide_eq_true ?_
  sl_kernel_rfl

/-- What the words a point reads decide. -/
theorem words (c : Dev nD) (i : grid0.Coords) : Words (i 1) (rowR (F := Ideal) c i) (keyR (F := Ideal) c i) := by
  rw [show rowR (F := Ideal) c i = rowW i from row_read .., show keyR (F := Ideal) c i = keyW i from key_read ..]
  exact words_pair (i 1)

theorem first_eq (i : grid0.Coords) : first0 i = first0 (point 0 (i 1)) := rfl
theorem last_eq (i : grid0.Coords) : k0_cond7 i = k0_cond7 (point 0 (i 1)) := rfl

theorem sent_off : ∀ h : Fin 8, k0_off5 (point h 0) = ![h.val, 0, 0] := by decide

theorem off5 (i : grid0.Coords) : k0_off5 i = ![(i 0).val, 0, 0] := sent_off (i 0)

/-- The blocks the windows show at a point. -/
theorem shown : ∀ (h : Fin 8) (p : Fin 132),
    ((cfg (F := Ideal)).win 0).indexMap (point h p) = ![h.val, (keyOf p).val, 0]
    ∧ ((cfg (F := Ideal)).win 1).indexMap (point h p) = ![h.val, (keyOf p).val, 0]
    ∧ ((cfg (F := Ideal)).win 2).indexMap (point h p) = ![h.val, (rowOf p).val, 0]
    ∧ ((cfg (F := Ideal)).win 3).indexMap (point h p) = ![(rowOf p).val, h.val]
    ∧ ((cfg (F := Ideal)).win 4).indexMap (point h p) = ![h.val, 0, (rowOf p).val]
    ∧ ((cfg (F := Ideal)).win 5).indexMap (point h p) = ![h.val, 0, (rowOf p).val]
    ∧ ((cfg (F := Ideal)).win 6).indexMap (point h p) = ![h.val, (keyOf p).val, 0]
    ∧ ((cfg (F := Ideal)).win 7).indexMap (point h p) = ![h.val, (keyOf p).val, 0] := by
  show ∀ (h : Fin 8) (p : Fin 132),
    cc0_transform_0 _ _ (pairs (F := Ideal)) (point h p) = ![h.val, (keyOf p).val, 0]
    ∧ cc0_transform_1 _ _ (pairs (F := Ideal)) (point h p) = ![h.val, (keyOf p).val, 0]
    ∧ cc0_transform_2 _ _ (pairs (F := Ideal)) (point h p) = ![h.val, (rowOf p).val, 0]
    ∧ cc0_transform_3 _ _ (pairs (F := Ideal)) (point h p) = ![(rowOf p).val, h.val]
    ∧ cc0_transform_4 _ _ (pairs (F := Ideal)) (point h p) = ![h.val, 0, (rowOf p).val]
    ∧ cc0_transform_5 _ _ (pairs (F := Ideal)) (point h p) = ![h.val, 0, (rowOf p).val]
    ∧ cc0_transform_7 _ _ (pairs (F := Ideal)) (point h p) = ![h.val, (keyOf p).val, 0]
    ∧ cc0_transform_8 _ _ (pairs (F := Ideal)) (point h p) = ![h.val, (keyOf p).val, 0]
  refine of_decide_eq_true ?_
  sl_kernel_rfl

theorem point_eq (i : grid0.Coords) : i = point (i 0) (i 1) := funext fun | 0 => rfl | 1 => rfl

end Cert.AttnIdeal.Value

end
-- ==== Proof.AttnTile.lean ====
/-
  What a step of the attention's gradient adds for one block of keys and one block of rows: the weights, the scores'
  gradients, and their products with the rows, the cotangent and the keys, read at an element.
-/
module

public import proofs.«01_k».proof.Proof.AttnRun
public import Idealize.ShloMosaic.Lib.Tactic
public import Idealize.ShloMosaic.Lib.Pointwise
public import Idealize.ShloMosaic.Lib.ValueIdx
public import Idealize.ShloMosaic.Lib.WordCmp

@[expose] public section

set_option maxRecDepth 16384

noncomputable section

open Idealize.ShloMosaic Idealize.ShloMosaic.TcCoe Idealize.SL.Sem

namespace Cert.AttnIdeal.Value

open Cert.AttnIdeal Cert.AttnIdeal.Gen Cert.AttnIdeal.Hand

/-- The scores' scale to base two, and their scale. -/
abbrev c2 : EReal := (((Real.sqrt 192)⁻¹ * (Real.log 2)⁻¹ : ℝ) : EReal)
abbrev c1 : EReal := (((Real.sqrt 192)⁻¹ : ℝ) : EReal)

/-- A weight before the mask, of a row of keys and a row of queries. -/
def weight (k q : Fin 256 → EReal) (l : EReal) : EReal := Ideal.exp2 ((∑ d, k d * q d) * c2 - l)

/-- A score's gradient, of a weight. -/
def dscore (w : EReal) (v o : Fin 128 → EReal) (δ : EReal) : EReal := w * ((∑ d, v d * o d) - δ) * c1

theorem named2 : (Named.named κ "scale_log2e" (φ := .f32) 0x3DD53B95#32 : Ideal .f32) = c2 := rfl
theorem named1 : (Named.named κ "scale" (φ := .f32) 0x3D93CD3A#32 : Ideal .f32) = c1 := rfl

section far
variable (q : Vec Ideal S1x1536x256 .bf16) (o : Vec Ideal S1536x128 .bf16) (k : Vec Ideal S1x768x256 .bf16) (l : Vec Ideal S1x1x1536 .f32)
  (v : Vec Ideal S1x768x128 .bf16) (d : Vec Ideal S1x1x1536 .f32)

theorem far_weight (a : Fin 768) (b : Fin 1536) :
    k0_pay11 q k l (ix2 a b) = (weight (fun e => k (ix3 0 a e)) (fun e => q (ix3 0 b e)) (l (ix3 0 0 b))) := by
  unfold k0_pay11 k0_pay9 weight
  simp only [named2]
  pointwise
  rfl

theorem far_dscore (a : Fin 768) (b : Fin 1536) :
    k0_pay12 q o k l v d (ix2 a b) = dscore (weight (fun e => k (ix3 0 a e)) (fun e => q (ix3 0 b e)) (l (ix3 0 0 b)))
      (fun e => v (ix3 0 a e)) (fun e => o (ix2 b e)) (d (ix3 0 0 b)) := by
  rw [← far_weight q k l a b]
  unfold k0_pay12 k0_pay10 dscore
  generalize k0_pay11 q k l = W
  simp only [named1]
  pointwise

theorem far_dv (x : Vec Ideal S768x128 .f32) (a : Fin 768) (e : Fin 128) :
    k0_pay13 q o k l x (ix2 a e) = x (ix2 a e) + ∑ b : Fin 1536, (weight (fun e => k (ix3 0 a e)) (fun e => q (ix3 0 b e)) (l (ix3 0 0 b))) * o (ix2 b e) := by
  simp only [← far_weight q k l a]
  unfold k0_pay13 k0_pay10
  generalize k0_pay11 q k l = W
  pointwise

theorem far_dk (W : FVec Ideal (⟨2, ![768, 1536]⟩ : Shape) .bf16) (x : Vec Ideal S768x256 .f32) (a : Fin 768) (e : Fin 256) :
    k0_pay27 (k0_pay9 q) W x (ix2 a e) = x (ix2 a e) + ∑ b : Fin 1536, W (ix2 a b) * q (ix3 0 b e) := by
  unfold k0_pay27 k0_pay9
  pointwise

theorem far_dq (W : FVec Ideal (⟨2, ![768, 1536]⟩ : Shape) .bf16) (x : Vec Ideal (⟨2, ![1536, 256]⟩ : Shape) .f32) (b : Fin 1536) (e : Fin 256) :
    k0_pay28 W x k (ix2 b e) = x (ix2 b e) + ∑ a : Fin 768, W (ix2 a b) * k (ix3 0 a e) := by
  unfold k0_pay28
  pointwise

end far

section upper
variable (q : Vec Ideal S1x1536x256 .bf16) (o : Vec Ideal S1536x128 .bf16) (k : Vec Ideal S1x768x256 .bf16) (l : Vec Ideal S1x1x1536 .f32)
  (v : Vec Ideal S1x768x128 .bf16) (d : Vec Ideal S1x1x1536 .f32)

theorem upper_weight (a : Fin 768) (b : Fin 1536) :
    k0_pay16 q k l (ix2 a b) = (if a.val ≤ b.val then weight (fun e => k (ix3 0 a e)) (fun e => q (ix3 0 b e)) (l (ix3 0 0 b)) else 0) := by
  unfold k0_pay16 k0_pay14 weight
  simp only [named2]
  pointwise
  rw [WordCmp.cmpi_sge_ofNat (by have := b.isLt; omega) (by have := a.isLt; omega), WordCmp.select_ofBool]
  by_cases h : a.val ≤ b.val <;> simp only [h, decide_true, decide_false, if_true, if_false, Bool.false_eq_true] <;> rfl

theorem upper_dscore (a : Fin 768) (b : Fin 1536) :
    k0_pay17 q o k l v d (ix2 a b) = dscore (if a.val ≤ b.val then weight (fun e => k (ix3 0 a e)) (fun e => q (ix3 0 b e)) (l (ix3 0 0 b)) else 0)
      (fun e => v (ix3 0 a e)) (fun e => o (ix2 b e)) (d (ix3 0 0 b)) := by
  rw [← upper_weight q k l a b]
  unfold k0_pay17 k0_pay15 dscore
  generalize k0_pay16 q k l = W
  simp only [named1]
  pointwise

theorem upper_dv (x : Vec Ideal S768x128 .f32) (a : Fin 768) (e : Fin 128) :
    k0_pay1 (k0_pay18 q o k l x) (ix2 a e) = x (ix2 a e) + ∑ b : Fin 1536, (if a.val ≤ b.val then weight (fun e => k (ix3 0 a e)) (fun e => q (ix3 0 b e)) (l (ix3 0 0 b)) else 0) * o (ix2 b e) := by
  simp only [← upper_weight q k l a]
  unfold k0_pay1 k0_pay18 k0_pay15
  generalize k0_pay16 q k l = W
  pointwise

theorem upper_dk (W : FVec Ideal (⟨2, ![768, 1536]⟩ : Shape) .bf16) (x : Vec Ideal S768x256 .f32) (a : Fin 768) (e : Fin 256) :
    k0_pay2 (k0_pay14 q) W x (ix2 a e) = x (ix2 a e) + ∑ b : Fin 1536, W (ix2 a b) * q (ix3 0 b e) := by
  unfold k0_pay2 k0_pay14
  pointwise

theorem upper_dq (W : FVec Ideal (⟨2, ![768, 1536]⟩ : Shape) .bf16) (x : Vec Ideal (⟨2, ![1536, 256]⟩ : Shape) .f32) (b : Fin 1536) (e : Fin 256) :
    k0_pay3 W x k (ix2 b e) = x (ix2 b e) + ∑ a : Fin 768, W (ix2 a b) * k (ix3 0 a e) := by
  unfold k0_pay3
  pointwise

end upper

section lower
variable (q : Vec Ideal S1x768x256 .bf16) (o : Vec Ideal S768x128 .bf16) (k : Vec Ideal S1x768x256 .bf16) (l : Vec Ideal S1x1x768 .f32)
  (v : Vec Ideal S1x768x128 .bf16) (d : Vec Ideal S1x1x768 .f32)

theorem lower_weight (a : Fin 768) (b : Fin 768) :
    k0_pay21 q k l (ix2 a b) = (if a.val ≤ b.val then weight (fun e => k (ix3 0 a e)) (fun e => q (ix3 0 b e)) (l (ix3 0 0 b)) else 0) := by
  unfold k0_pay21 k0_pay19 weight
  simp only [named2]
  pointwise
  rw [WordCmp.cmpi_sge_ofNat (by have := b.isLt; omega) (by have := a.isLt; omega), WordCmp.select_ofBool]
  by_cases h : a.val ≤ b.val <;> simp only [h, decide_true, decide_false, if_true, if_false, Bool.false_eq_true] <;> rfl

theorem lower_dscore (a : Fin 768) (b : Fin 768) :
    k0_pay22 q o k l v d (ix2 a b) = dscore (if a.val ≤ b.val then weight (fun e => k (ix3 0 a e)) (fun e => q (ix3 0 b e)) (l (ix3 0 0 b)) else 0)
      (fun e => v (ix3 0 a e)) (fun e => o (ix2 b e)) (d (ix3 0 0 b)) := by
  rw [← lower_weight q k l a b]
  unfold k0_pay22 k0_pay20 dscore
  generalize k0_pay21 q k l = W
  simp only [named1]
  pointwise

theorem lower_dv (x : Vec Ideal S768x128 .f32) (a : Fin 768) (e : Fin 128) :
    k0_pay4 (k0_pay23 q o k l x) (ix2 a e) = x (ix2 a e) + ∑ b : Fin 768, (if a.val ≤ b.val then weight (fun e => k (ix3 0 a e)) (fun e => q (ix3 0 b e)) (l (ix3 0 0 b)) else 0) * o (ix2 b e) := by
  simp only [← lower_weight q k l a]
  unfold k0_pay4 k0_pay23 k0_pay20
  generalize k0_pay21 q k l = W
  pointwise

theorem lower_dk (W : FVec Ideal (⟨2, ![768, 768]⟩ : Shape) .bf16) (x : Vec Ideal S768x256 .f32) (a : Fin 768) (e : Fin 256) :
    k0_pay5 (k0_pay19 q) W x (ix2 a e) = x (ix2 a e) + ∑ b : Fin 768, W (ix2 a b) * q (ix3 0 b e) := by
  unfold k0_pay5 k0_pay19
  pointwise

theorem lower_dq (W : FVec Ideal (⟨2, ![768, 768]⟩ : Shape) .bf16) (x : Vec Ideal (⟨2, ![768, 256]⟩ : Shape) .f32) (b : Fin 768) (e : Fin 256) :
    k0_pay6 W x k (ix2 b e) = x (ix2 b e) + ∑ a : Fin 768, W (ix2 a b) * k (ix3 0 a e) := by
  unfold k0_pay6
  pointwise

end lower

end Cert.AttnIdeal.Value

end
-- ==== Proof.AttnBlocks.lean ====
/-
  The blocks a point reads, as rows of the whole arrays.
-/
module

public import proofs.«01_k».proof.Proof.AttnTables
public import proofs.«01_k».proof.Proof.AttnTile
public import Idealize.ShloMosaic.Lib.Pipeline.Value
public import Idealize.ShloMosaic.Lib.Pipeline.ValueKit

@[expose] public section

set_option maxRecDepth 16384

noncomputable section

open Idealize.ShloMosaic Idealize.ShloMosaic.TcCoe Idealize.SL.Sem

namespace Cert.AttnIdeal.Value

open Cert.AttnIdeal Cert.AttnIdeal.Gen Cert.AttnIdeal.Hand

/-- The arrays the call reads. -/
structure Arrays where
  k : Vec Ideal S8x16896x256 .bf16
  v : Vec Ideal S8x16896x128 .bf16
  q : Vec Ideal S8x16896x256 .bf16
  o : Vec Ideal S16896x1024 .bf16
  l : Vec Ideal S8x1x16896 .f32
  d : Vec Ideal S8x1x16896 .f32

variable (m : (ℓ : Loc nD τ sig) → Buf (Elt Ideal) ℓ) (c : Dev nD)

def arrays : Arrays := ⟨V m c main_v43, V m c main_v44, V m c main_v42, V m c main_v45, V m c main_v36, V m c main_v41⟩

/-- Row `a` of block `j` of keys, row `b` of block `i` of queries, column `e` of head `h`. -/
def kRow (j : Fin 22) (a : Fin 768) : Fin 16896 := ⟨j.val * 768 + a.val, by omega⟩
def qRow (i : Fin 11) (b : Fin 1536) : Fin 16896 := ⟨i.val * 1536 + b.val, by omega⟩
def col (h : Fin 8) (e : Fin 128) : Fin 1024 := ⟨h.val * 128 + e.val, by omega⟩

variable (t : Fin (cfg (F := Ideal)).N)

abbrev hd : Fin 8 := grid0.coords t 0
abbrev pr : Fin 132 := grid0.coords t 1

theorem index_eq (w : Fin 8) {x : Fin ((cfg (F := Ideal)).win w).shape.rank → ℕ} (h : ((cfg (F := Ideal)).win w).indexMap (point (hd t) (pr t)) = x) :
    ((pcfg0 (F := Ideal)).win adm w).index t = x := (congrArg _ (point_eq _)).trans h

theorem block_k (a : Fin 768) (e : Fin 256) : (blocks m c t).k (ix3 0 a e) = (arrays m c).k (ix3 (hd t) (kRow (keyOf (pr t)) a) e) := by
  have h := index_eq t 0 (shown (hd t) (pr t)).1
  show iblk m c 0 t _ = V m c main_v43 _
  blk_ext [iblk, h, kRow]

theorem block_v (a : Fin 768) (e : Fin 128) : (blocks m c t).v (ix3 0 a e) = (arrays m c).v (ix3 (hd t) (kRow (keyOf (pr t)) a) e) := by
  have h := index_eq t 1 (shown (hd t) (pr t)).2.1
  show iblk m c 1 t _ = V m c main_v44 _
  blk_ext [iblk, h, kRow]

theorem block_q (b : Fin 1536) (e : Fin 256) : (blocks m c t).q (ix3 0 b e) = (arrays m c).q (ix3 (hd t) (qRow (rowOf (pr t)) b) e) := by
  have h := index_eq t 2 (shown (hd t) (pr t)).2.2.1
  show iblk m c 2 t _ = V m c main_v42 _
  blk_ext [iblk, h, qRow]

theorem block_o (b : Fin 1536) (e : Fin 128) : (blocks m c t).o (ix2 b e) = (arrays m c).o (ix2 (qRow (rowOf (pr t)) b) (col (hd t) e)) := by
  have h := index_eq t 3 (shown (hd t) (pr t)).2.2.2.1
  show iblk m c 3 t _ = V m c main_v45 _
  blk_ext [iblk, h, qRow, col]

theorem place_l (b : Fin 1536) :
    (((cfg (F := Ideal)).win 4).blk t).view.emb (ix3 0 0 b) = ix3 (hd t) 0 (qRow (rowOf (pr t)) b) := by
  have h := index_eq t 4 (shown (hd t) (pr t)).2.2.2.2.1
  refine funext fun ax => Fin.ext ?_
  match ax with
  | 0 => blk_simp [h]; rfl
  | 1 => blk_simp [h]
  | 2 => blk_simp [h]; rfl

theorem read_l (X : Vec Ideal S8x1x16896 .f32) (b : Fin 1536) :
    (((cfg (F := Ideal)).win 4).blk t).view.read (Elt Ideal) X (ix3 0 0 b) = X (ix3 (hd t) 0 (qRow (rowOf (pr t)) b)) :=
  congrArg X (place_l t b)

theorem block_l (b : Fin 1536) : (blocks m c t).l (ix3 0 0 b) = (arrays m c).l (ix3 (hd t) 0 (qRow (rowOf (pr t)) b)) :=
  read_l t (V m c main_v36) b

theorem place_d (b : Fin 1536) :
    (((cfg (F := Ideal)).win 5).blk t).view.emb (ix3 0 0 b) = ix3 (hd t) 0 (qRow (rowOf (pr t)) b) := by
  have h := index_eq t 5 (shown (hd t) (pr t)).2.2.2.2.2.1
  refine funext fun ax => Fin.ext ?_
  match ax with
  | 0 => blk_simp [h]; rfl
  | 1 => blk_simp [h]
  | 2 => blk_simp [h]; rfl

theorem read_d (X : Vec Ideal S8x1x16896 .f32) (b : Fin 1536) :
    (((cfg (F := Ideal)).win 5).blk t).view.read (Elt Ideal) X (ix3 0 0 b) = X (ix3 (hd t) 0 (qRow (rowOf (pr t)) b)) :=
  congrArg X (place_d t b)

theorem block_d (b : Fin 1536) : (blocks m c t).d (ix3 0 0 b) = (arrays m c).d (ix3 (hd t) 0 (qRow (rowOf (pr t)) b)) :=
  read_d t (V m c main_v41) b

end Cert.AttnIdeal.Value

end
-- ==== Proof.AttnAdd.lean ====
/-
  One step of the attention's gradient over the whole arrays: whichever way through the branches a pair takes, it adds
  to the queries' gradient, the keys' and the values' the products of its block of rows with its block of keys under one
  mask, a key not after its row.
-/
module

public import proofs.«01_k».proof.Proof.AttnBlocks
public import Idealize.ShloMosaic.Lib.VecWindow

@[expose] public section

set_option maxRecDepth 16384

noncomputable section

open Idealize.ShloMosaic Idealize.ShloMosaic.TcCoe Idealize.SL.Sem

namespace Cert.AttnIdeal.Value

open Cert.AttnIdeal Cert.AttnIdeal.Gen Cert.AttnIdeal.Hand

variable (A : Arrays) (h : Fin 8)

/-- The weight of a key for a row, and its score's gradient. -/
def wt (κ ρ : Fin 16896) : EReal :=
  if κ.val ≤ ρ.val then weight (fun e => A.k (ix3 h κ e)) (fun e => A.q (ix3 h ρ e)) (A.l (ix3 h 0 ρ)) else 0
def dsc (κ ρ : Fin 16896) : EReal :=
  dscore (wt A h κ ρ) (fun e => A.v (ix3 h κ e)) (fun e => A.o (ix2 ρ (col h e))) (A.d (ix3 h 0 ρ))

theorem wt_after (κ ρ : Fin 16896) (hh : ρ.val < κ.val) : wt A h κ ρ = 0 := if_neg (by omega)
theorem dsc_after (κ ρ : Fin 16896) (hh : ρ.val < κ.val) : dsc A h κ ρ = 0 := by
  unfold dsc dscore; rw [wt_after A h κ ρ hh, zero_mul, zero_mul]

/-- What a pair of blocks adds. -/
def addV (i : Fin 11) (j : Fin 22) (a : Fin 768) (e : Fin 128) : EReal :=
  ∑ b : Fin 1536, wt A h (kRow j a) (qRow i b) * A.o (ix2 (qRow i b) (col h e))
def addK (i : Fin 11) (j : Fin 22) (a : Fin 768) (e : Fin 256) : EReal :=
  ∑ b : Fin 1536, dsc A h (kRow j a) (qRow i b) * A.q (ix3 h (qRow i b) e)
def addQ (j : Fin 22) (ρ : Fin 16896) (e : Fin 256) : EReal :=
  ∑ a : Fin 768, dsc A h (kRow j a) ρ * A.k (ix3 h (kRow j a) e)

/-- The blocks shown are those of a pair. -/
structure Shows (B : Blocks Ideal) (i : Fin 11) (j : Fin 22) : Prop where
  k : ∀ (a : Fin 768) (e : Fin 256), B.k (ix3 0 a e) = A.k (ix3 h (kRow j a) e)
  v : ∀ (a : Fin 768) (e : Fin 128), B.v (ix3 0 a e) = A.v (ix3 h (kRow j a) e)
  q : ∀ (b : Fin 1536) (e : Fin 256), B.q (ix3 0 b e) = A.q (ix3 h (qRow i b) e)
  o : ∀ (b : Fin 1536) (e : Fin 128), B.o (ix2 b e) = A.o (ix2 (qRow i b) (col h e))
  l : ∀ b : Fin 1536, B.l (ix3 0 0 b) = A.l (ix3 h 0 (qRow i b))
  d : ∀ b : Fin 1536, B.d (ix3 0 0 b) = A.d (ix3 h 0 (qRow i b))

/-- Rows added to in place. -/
theorem put_add {n : ℕ} (x : Vec Ideal S16896x256 .f32) (r0 : ℕ) (off : Fin 2 → ℕ) (hoff : off = ![r0, 0])
    (inb : ∀ a, off a + (⟨2, ![n, 256]⟩ : Shape).size a ≤ S16896x256.size a)
    (f : Vec Ideal (⟨2, ![n, 256]⟩ : Shape) .f32 → Vec Ideal (⟨2, ![n, 256]⟩ : Shape) .f32) (g : Fin n → Fin 256 → EReal)
    (hf : ∀ z b e, f z (ix2 b e) = z (ix2 b e) + g b e) (ρ : Fin 16896) (e : Fin 256) :
    VecWindow.put x off (⟨2, ![n, 256]⟩ : Shape).size (f (VecWindow.window x off (⟨2, ![n, 256]⟩ : Shape).size inb)) (ix2 ρ e)
      = x (ix2 ρ e) + if hh : r0 ≤ ρ.val ∧ ρ.val < r0 + n then g ⟨ρ.val - r0, by omega⟩ e else 0 := by
  subst hoff
  unfold VecWindow.put
  by_cases hh : r0 ≤ ρ.val ∧ ρ.val < r0 + n
  · rw [dif_pos hh, dif_pos (fun a => by match a with | 0 => exact hh | 1 => exact ⟨Nat.zero_le _, by show e.val < 0 + 256; omega⟩)]
    refine Eq.trans (congrArg (f _) (?_ : _ = ix2 (⟨ρ.val - r0, by omega⟩ : Fin n) e)) ?_
    · funext a; match a with | 0 => rfl | 1 => rfl
    · rw [hf]
      refine congrArg (· + _) (congrArg x ?_)
      funext a
      match a with
      | 0 => exact Fin.ext (by show r0 + 1 * (ρ.val - r0) = ρ.val; omega)
      | 1 => exact Fin.ext (by show 0 + 1 * e.val = e.val; omega)
  · rw [dif_neg hh, dif_neg (fun hc => hh (hc 0)), add_zero]

section Ways
variable (B : Blocks Ideal) (C : Carry Ideal) (i : Fin 11) (j : Fin 22) (hB : Shows A h B i j)

include hB

theorem far_wt (hij : j.val / 2 < i.val) (a : Fin 768) (b : Fin 1536) :
    weight (fun e => B.k (ix3 0 a e)) (fun e => B.q (ix3 0 b e)) (B.l (ix3 0 0 b)) = wt A h (kRow j a) (qRow i b) := by
  simp only [hB.k, hB.q, hB.l]
  exact (if_pos (by show j.val * 768 + a.val ≤ i.val * 1536 + b.val; omega)).symm

theorem far_dsc (hij : j.val / 2 < i.val) (a : Fin 768) (b : Fin 1536) :
    k0_pay12 B.q B.o B.k B.l B.v B.d (ix2 a b) = dsc A h (kRow j a) (qRow i b) := by
  rw [far_dscore, far_wt A h B i j hB hij]; simp only [hB.v, hB.o, hB.d]; rfl

theorem upper_wt (hij : j.val = 2 * i.val) (a : Fin 768) (b : Fin 1536) :
    (if a.val ≤ b.val then weight (fun e => B.k (ix3 0 a e)) (fun e => B.q (ix3 0 b e)) (B.l (ix3 0 0 b)) else 0) = wt A h (kRow j a) (qRow i b) := by
  simp only [hB.k, hB.q, hB.l]
  exact if_congr (by show _ ↔ j.val * 768 + a.val ≤ i.val * 1536 + b.val; omega) rfl rfl

theorem upper_dsc (hij : j.val = 2 * i.val) (a : Fin 768) (b : Fin 1536) :
    k0_pay17 B.q B.o B.k B.l B.v B.d (ix2 a b) = dsc A h (kRow j a) (qRow i b) := by
  rw [upper_dscore, upper_wt A h B i j hB hij]; simp only [hB.v, hB.o, hB.d]; rfl

omit hB in
theorem low_row (i : Fin 11) (b : Fin 768) : (qRow i ⟨768 + b.val, by omega⟩).val = i.val * 1536 + (768 + b.val) := rfl

theorem qLow_at (b : Fin 768) (e : Fin 256) : qLow B (ix3 0 b e) = A.q (ix3 h (qRow i ⟨768 + b.val, by omega⟩) e) := by
  rw [← hB.q]
  exact congrArg B.q (funext fun ax => Fin.ext (match ax with | 0 => rfl | 1 => by show 768 + 1 * b.val = 768 + b.val; omega | 2 => by show 0 + 1 * e.val = e.val; omega))
theorem oLow_at (b : Fin 768) (e : Fin 128) : oLow B (ix2 b e) = A.o (ix2 (qRow i ⟨768 + b.val, by omega⟩) (col h e)) := by
  rw [← hB.o]
  exact congrArg B.o (funext fun ax => Fin.ext (match ax with | 0 => by show 768 + 1 * b.val = 768 + b.val; omega | 1 => by show 0 + 1 * e.val = e.val; omega))
theorem lLow_at (b : Fin 768) : lLow B (ix3 0 0 b) = A.l (ix3 h 0 (qRow i ⟨768 + b.val, by omega⟩)) := by
  rw [← hB.l]
  exact congrArg B.l (funext fun ax => Fin.ext (match ax with | 0 => rfl | 1 => rfl | 2 => by show 768 + 1 * b.val = 768 + b.val; omega))
theorem dLow_at (b : Fin 768) : dLow B (ix3 0 0 b) = A.d (ix3 h 0 (qRow i ⟨768 + b.val, by omega⟩)) := by
  rw [← hB.d]
  exact congrArg B.d (funext fun ax => Fin.ext (match ax with | 0 => rfl | 1 => rfl | 2 => by show 768 + 1 * b.val = 768 + b.val; omega))

theorem lower_wt (hij : j.val = 2 * i.val + 1) (a : Fin 768) (b : Fin 768) :
    (if a.val ≤ b.val then weight (fun e => B.k (ix3 0 a e)) (fun e => qLow B (ix3 0 b e)) (lLow B (ix3 0 0 b)) else 0)
      = wt A h (kRow j a) (qRow i ⟨768 + b.val, by omega⟩) := by
  simp only [hB.k, qLow_at A h B i j hB, lLow_at A h B i j hB]
  exact if_congr (by rw [low_row]; show _ ↔ j.val * 768 + a.val ≤ _; omega) rfl rfl

theorem lower_dsc (hij : j.val = 2 * i.val + 1) (a : Fin 768) (b : Fin 768) :
    k0_pay22 (qLow B) (oLow B) B.k (lLow B) B.v (dLow B) (ix2 a b) = dsc A h (kRow j a) (qRow i ⟨768 + b.val, by omega⟩) := by
  rw [lower_dscore, lower_wt A h B i j hB hij]; simp only [hB.v, oLow_at A h B i j hB, dLow_at A h B i j hB]; rfl

omit hB in
/-- A sum over a block's rows whose upper half is nothing. -/
theorem sum_low (f : Fin 1536 → EReal) (h0 : ∀ b : Fin 1536, b.val < 768 → f b = 0) :
    ∑ b, f b = ∑ b : Fin 768, f ⟨768 + b.val, by omega⟩ := by
  refine (Fin.sum_univ_add (a := 768) (b := 768) f).trans ?_
  rw [Finset.sum_eq_zero fun b _ => h0 _ b.isLt, zero_add]
  rfl

/-- The sums after a step that neither clears nor writes out. -/
def Added (i : Fin 11) (j : Fin 22) (C D : Carry Ideal) : Prop :=
  (∀ ρ e, D.dq (ix2 ρ e) = C.dq (ix2 ρ e) + if ρ.val / 1536 = i.val then addQ A h j ρ e else 0)
  ∧ (∀ a e, D.dk (ix2 a e) = C.dk (ix2 a e) + addK A h i j a e)
  ∧ (∀ a e, D.dv (ix2 a e) = C.dv (ix2 a e) + addV A h i j a e)
  ∧ D.ok = C.ok ∧ D.ov = C.ov ∧ D.out = C.out

omit hB in
theorem row_of {n r0 : ℕ} (ρ : Fin 16896) (hh : r0 ≤ ρ.val ∧ ρ.val < r0 + n) (b : Fin 1536) (hb : i.val * 1536 + b.val = ρ.val) :
    qRow i b = ρ := Fin.ext hb

theorem far_added (hij : j.val / 2 < i.val) (off inb) (hoff : off = ![1536 * i.val, 0]) : Added A h i j C (far off inb B C) := by
  refine ⟨fun ρ e => ?_, fun a e => ?_, fun a e => ?_, rfl, rfl, rfl⟩
  · refine (put_add C.dq (1536 * i.val) off hoff inb (fun z => k0_pay28 (k0_pay12 B.q B.o B.k B.l B.v B.d) z B.k)
      (fun b e => ∑ a : Fin 768, dsc A h (kRow j a) (qRow i b) * A.k (ix3 h (kRow j a) e)) (fun z b e => ?_) ρ e).trans (congrArg (_ + ·) ?_)
    · rw [far_dq]; simp only [far_dsc A h B i j hB hij, hB.k]
    · by_cases hh : ρ.val / 1536 = i.val
      · rw [dif_pos (by omega), if_pos hh, show qRow i ⟨ρ.val - 1536 * i.val, _⟩ = ρ from Fin.ext (by show i.val * 1536 + (ρ.val - 1536 * i.val) = ρ.val; omega)]; rfl
      · rw [dif_neg (by omega), if_neg hh]
  · refine (far_dk B.q (k0_pay12 B.q B.o B.k B.l B.v B.d) C.dk a e).trans ?_
    simp only [far_dsc A h B i j hB hij, hB.q]; rfl
  · refine (far_dv B.q B.o B.k B.l C.dv a e).trans ?_
    simp only [far_wt A h B i j hB hij, hB.o]; rfl

theorem upper_added (hij : j.val = 2 * i.val) (off inb) (hoff : off = ![1536 * i.val, 0]) : Added A h i j C (upper off inb B C) := by
  refine ⟨fun ρ e => ?_, fun a e => ?_, fun a e => ?_, rfl, rfl, rfl⟩
  · refine (put_add C.dq (1536 * i.val) off hoff inb (fun z => k0_pay3 (k0_pay17 B.q B.o B.k B.l B.v B.d) z B.k)
      (fun b e => ∑ a : Fin 768, dsc A h (kRow j a) (qRow i b) * A.k (ix3 h (kRow j a) e)) (fun z b e => ?_) ρ e).trans (congrArg (_ + ·) ?_)
    · rw [upper_dq]; simp only [upper_dsc A h B i j hB hij, hB.k]
    · by_cases hh : ρ.val / 1536 = i.val
      · rw [dif_pos (by omega), if_pos hh, show qRow i ⟨ρ.val - 1536 * i.val, _⟩ = ρ from Fin.ext (by show i.val * 1536 + (ρ.val - 1536 * i.val) = ρ.val; omega)]; rfl
      · rw [dif_neg (by omega), if_neg hh]
  · refine (upper_dk B.q (k0_pay17 B.q B.o B.k B.l B.v B.d) C.dk a e).trans ?_
    simp only [upper_dsc A h B i j hB hij, hB.q]; rfl
  · refine (upper_dv B.q B.o B.k B.l C.dv a e).trans ?_
    simp only [upper_wt A h B i j hB hij, hB.o]; rfl

theorem lower_added (hij : j.val = 2 * i.val + 1) (off inb) (hoff : off = ![1536 * i.val + 768, 0]) : Added A h i j C (lower off inb B C) := by
  have hz : ∀ (a : Fin 768) (ρ : Fin 16896), ρ.val < i.val * 1536 + 768 → ρ.val < (kRow j a).val := fun a ρ hr => by
    show _ < j.val * 768 + a.val; omega
  refine ⟨fun ρ e => ?_, fun a e => ?_, fun a e => ?_, rfl, rfl, rfl⟩
  · refine (put_add C.dq (1536 * i.val + 768) off hoff inb (fun z => k0_pay6 (k0_pay22 (qLow B) (oLow B) B.k (lLow B) B.v (dLow B)) z B.k)
      (fun b e => ∑ a : Fin 768, dsc A h (kRow j a) (qRow i ⟨768 + b.val, by omega⟩) * A.k (ix3 h (kRow j a) e)) (fun z b e => ?_) ρ e).trans (congrArg (_ + ·) ?_)
    · rw [lower_dq]; simp only [lower_dsc A h B i j hB hij, hB.k]
    · by_cases hh : ρ.val / 1536 = i.val
      · rw [if_pos hh]
        by_cases hl : ρ.val < i.val * 1536 + 768
        · rw [dif_neg (by omega)]
          exact (Finset.sum_eq_zero fun a _ => by rw [dsc_after A h _ _ (hz a ρ hl), zero_mul]).symm
        · rw [dif_pos (by omega), show qRow i ⟨768 + (ρ.val - (1536 * i.val + 768)), _⟩ = ρ from Fin.ext (by show i.val * 1536 + (768 + (ρ.val - (1536 * i.val + 768))) = ρ.val; omega)]; rfl
      · rw [dif_neg (by omega), if_neg hh]
  · refine (lower_dk (qLow B) (k0_pay22 (qLow B) (oLow B) B.k (lLow B) B.v (dLow B)) C.dk a e).trans ?_
    unfold addK
    rw [sum_low _ fun b hb => by rw [dsc_after A h _ _ (hz a _ (by show i.val * 1536 + b.val < _; omega)), zero_mul]]
    simp only [lower_dsc A h B i j hB hij, qLow_at A h B i j hB]
  · refine (lower_dv (qLow B) (oLow B) B.k (lLow B) C.dv a e).trans ?_
    unfold addV
    rw [sum_low _ fun b hb => by rw [wt_after A h _ _ (hz a _ (by show i.val * 1536 + b.val < _; omega)), zero_mul]]
    simp only [lower_wt A h B i j hB hij, oLow_at A h B i j hB]

end Ways

variable (m : (ℓ : Loc nD τ sig) → Buf (Elt Ideal) ℓ) (c : Dev nD) (t : Fin (cfg (F := Ideal)).N)

theorem shows : Shows (arrays m c) (hd t) (blocks m c t) (rowOf (pr t)) (keyOf (pr t)) :=
  ⟨block_k m c t, block_v m c t, block_q m c t, block_o m c t, block_l m c t, block_d m c t⟩

theorem zero_q (ρ : Fin 16896) (e : Fin 256) : (k0_pay24 (F := Ideal)) (ix2 ρ e) = 0 := by unfold k0_pay24; pointwise
theorem zero_k (a : Fin 768) (e : Fin 256) : (k0_pay25 (F := Ideal)) (ix2 a e) = 0 := by unfold k0_pay25; pointwise
theorem zero_v (a : Fin 768) (e : Fin 128) : (k0_pay26 (F := Ideal)) (ix2 a e) = 0 := by unfold k0_pay26; pointwise

/-- The carry after a point, of the carry before it. -/
theorem after_eq (v1 v3 : BitVec 32) (hk : k0_chk1 v1 v3) (hw : Words (pr t) v1 v3) (C D : Carry Ideal)
    (hD : D = after (grid0.coords t) v1 v3 hk (blocks m c t) C) :
    (∀ ρ e, D.dq (ix2 ρ e) = (if (pr t).val = 0 then 0 else C.dq (ix2 ρ e))
        + if ρ.val / 1536 = (rowOf (pr t)).val then addQ (arrays m c) (hd t) (keyOf (pr t)) ρ e else 0)
    ∧ (∀ a e, D.dk (ix2 a e) = (if (rowOf (pr t)).val = (keyOf (pr t)).val / 2 then 0 else C.dk (ix2 a e)) + addK (arrays m c) (hd t) (rowOf (pr t)) (keyOf (pr t)) a e)
    ∧ (∀ a e, D.dv (ix2 a e) = (if (rowOf (pr t)).val = (keyOf (pr t)).val / 2 then 0 else C.dv (ix2 a e)) + addV (arrays m c) (hd t) (rowOf (pr t)) (keyOf (pr t)) a e)
    ∧ ((rowOf (pr t)).val = 10 → D.ok = k0_pay7 D.dk ∧ D.ov = k0_pay8 D.dv)
    ∧ D.out = if (pr t).val = 131 then VecWindow.put C.out ![(hd t).val, 0, 0] S1x16896x256.size (fun y => D.dq ((Shape.reshapeEquiv rows_numel).symm y)) else C.out := by
  subst hD
  obtain ⟨w1, w2, w3, w4, w5, w6, w7, w8, w9, w10, w11⟩ := hw
  replace w2 : first0 (grid0.coords t) = 1#1 ↔ (pr t).val = 0 := w2
  replace w8 : k0_cond7 (grid0.coords t) = 1#1 ↔ (pr t).val = 131 := w8
  generalize hS : started (first0 (grid0.coords t)) (opens v1 v3) C = S
  have key : ∃ D, Added (arrays m c) (hd t) (rowOf (pr t)) (keyOf (pr t)) S D ∧
      after (grid0.coords t) v1 v3 hk (blocks m c t) C = sent (k0_cond7 (grid0.coords t)) (k0_off5 (grid0.coords t)) (stored (k0_cond6 v1) D) := by
    unfold after
    rw [hS]
    by_cases h3 : k0_cond3 v1 v3 = 1#1
    · exact ⟨_, far_added _ _ _ S _ _ (shows m c t) (by have := w4.1 h3; omega) _ (k0_off2_inb v1 v3 hk h3) w9, by simp only [h3, dif_pos]⟩
    · by_cases h4 : k0_cond4 v1 v3 = 1#1
      · exact ⟨_, upper_added _ _ _ S _ _ (shows m c t) (by have := w5.1 h4; omega) _ (k0_off3_inb v1 v3 hk h4) w10, by simp only [h3, h4, dif_pos, dif_neg, not_false_eq_true]⟩
      · have hne : (rowOf (pr t)).val = (keyOf (pr t)).val / 2 := by
          by_contra hc; exact h3 (w4.2 hc)
        have h5 : k0_cond5 v1 v3 = 1#1 := w6.2 ⟨hne, by
          by_contra hc; exact h4 (w5.2 ⟨hne, by omega⟩)⟩
        exact ⟨_, lower_added _ _ _ S _ _ (shows m c t) (by have := w6.1 h5; omega) _ (k0_off4_inb v1 v3 hk h5) w11, by simp only [h3, h4, h5, dif_pos, dif_neg, not_false_eq_true]⟩
  obtain ⟨D, ⟨a1, a2, a3, a4, a5, a6⟩, e⟩ := key
  rw [e]
  subst hS
  refine ⟨fun ρ e => ?_, fun a e => ?_, fun a e => ?_, fun h10 => ?_, ?_⟩
  · refine (a1 ρ e).trans (congrArg (· + _) ?_)
    show (if first0 _ = 1#1 then k0_pay24 (F := Ideal) else C.dq) (ix2 ρ e) = _
    by_cases hp : (pr t).val = 0
    · rw [if_pos (w2.2 hp), if_pos hp, zero_q]
    · rw [if_neg (fun hc => hp (w2.1 hc)), if_neg hp]
  · refine (a2 a e).trans (congrArg (· + _) ?_)
    show (if opens v1 v3 = 1#1 then k0_pay25 (F := Ideal) else C.dk) (ix2 a e) = _
    by_cases hp : (rowOf (pr t)).val = (keyOf (pr t)).val / 2
    · rw [if_pos (w3.2 hp), if_pos hp, zero_k]
    · rw [if_neg (fun hc => hp (w3.1 hc)), if_neg hp]
  · refine (a3 a e).trans (congrArg (· + _) ?_)
    show (if opens v1 v3 = 1#1 then k0_pay26 (F := Ideal) else C.dv) (ix2 a e) = _
    by_cases hp : (rowOf (pr t)).val = (keyOf (pr t)).val / 2
    · rw [if_pos (w3.2 hp), if_pos hp, zero_v]
    · rw [if_neg (fun hc => hp (w3.1 hc)), if_neg hp]
  · exact ⟨if_pos (w7.2 h10), if_pos (w7.2 h10)⟩
  · have a7 : D.out = C.out := a6
    rw [off5, ← a7]
    by_cases h7 : k0_cond7 (grid0.coords t) = 1#1
    · rw [if_pos (w8.1 h7)]; exact if_pos h7
    · rw [if_neg (fun hc => h7 (w8.2 hc))]; exact if_neg h7

end Cert.AttnIdeal.Value

end
-- ==== Proof.AttnPairs.lean ====
/-
  The list of pairs as a whole: a block of keys opens at its first pair and ends at its last, and the pairs are the
  blocks of rows and of keys of which some row is not before some key, each once.
-/
module

public import proofs.«01_k».proof.Proof.AttnTables

@[expose] public section

set_option maxRecDepth 16384

noncomputable section

open Idealize.ShloMosaic Idealize.ShloMosaic.TcCoe Idealize.SL.Sem Idealize.ShloMosaic.Tactic

namespace Cert.AttnIdeal.Value

open Cert.AttnIdeal Cert.AttnIdeal.Gen Cert.AttnIdeal.Hand

theorem opens_first : ∀ p p' : Fin 132, (rowOf p).val = (keyOf p).val / 2 → p'.val < p.val → (keyOf p').val ≠ (keyOf p).val := by
  refine of_decide_eq_true ?_
  sl_kernel_rfl

theorem stays : ∀ p p' : Fin 132, (rowOf p).val ≠ (keyOf p).val / 2 → p'.val + 1 = p.val → (keyOf p').val = (keyOf p).val := by
  refine of_decide_eq_true ?_
  sl_kernel_rfl

theorem first_opens0 : ∀ p : Fin 132, p.val = 0 → (rowOf p).val = (keyOf p).val / 2 := by
  refine of_decide_eq_true ?_
  sl_kernel_rfl

theorem ends_last : ∀ p p' : Fin 132, (rowOf p).val = 10 → p.val < p'.val → (keyOf p').val ≠ (keyOf p).val := by
  refine of_decide_eq_true ?_
  sl_kernel_rfl

theorem once : ∀ (i : Fin 11) (j : Fin 22), (Finset.univ.filter fun p : Fin 132 => rowOf p = i ∧ keyOf p = j).card = if j.val / 2 ≤ i.val then 1 else 0 := by
  refine of_decide_eq_true ?_
  sl_kernel_rfl

theorem sum_pairs {M : Type} [AddCommMonoid M] (f : Fin 11 → Fin 22 → M) :
    ∑ p : Fin 132, f (rowOf p) (keyOf p) = ∑ i : Fin 11, ∑ j : Fin 22, if j.val / 2 ≤ i.val then f i j else 0 := by
  have h1 : ∀ p : Fin 132, f (rowOf p) (keyOf p) = ∑ i : Fin 11, ∑ j : Fin 22, if rowOf p = i ∧ keyOf p = j then f i j else 0 := fun p => by
    rw [Finset.sum_eq_single (rowOf p) (fun i _ hi => Finset.sum_eq_zero fun j _ => if_neg fun hc => hi hc.1.symm) (fun hc => absurd (Finset.mem_univ _) hc),
      Finset.sum_eq_single (keyOf p) (fun j _ hj => if_neg fun hc => hj hc.2.symm) (fun hc => absurd (Finset.mem_univ _) hc), if_pos ⟨rfl, rfl⟩]
  rw [Finset.sum_congr rfl fun p _ => h1 p, Finset.sum_comm]
  refine Finset.sum_congr rfl fun i _ => ?_
  rw [Finset.sum_comm]
  refine Finset.sum_congr rfl fun j _ => ?_
  rw [← Finset.sum_filter, Finset.sum_const, once]
  split
  · exact one_nsmul _
  · exact zero_nsmul _

theorem coords_val : ∀ t : Fin 1056, (grid0.coords t 0).val = t.val / 132 ∧ (grid0.coords t 1).val = t.val % 132 := by
  refine of_decide_eq_true ?_
  sl_kernel_rfl

end Cert.AttnIdeal.Value

end
-- ==== Proof.AttnSums.lean ====
/-
  What the attention's gradient holds after each point: the sums over the pairs of the head so far, and in the end the
  sums over all keys, or over all rows.
-/
module

public import proofs.«01_k».proof.Proof.AttnAdd
public import proofs.«01_k».proof.Proof.AttnPairs
public import proofs.«01_k».proof.Proof.Sums
public import Idealize.ShloMosaic.Lib.ValueLayout

@[expose] public section

set_option maxRecDepth 16384

noncomputable section

open Idealize.ShloMosaic Idealize.ShloMosaic.TcCoe Idealize.SL.Sem

namespace Cert.AttnIdeal.Value

open Cert.AttnIdeal Cert.AttnIdeal.Gen Cert.AttnIdeal.Hand

variable (A : Arrays) (h : Fin 8)

/-- What the pair `x` adds to a row of queries, and to a key of block `j`. -/
def ofRow (ρ : Fin 16896) (e : Fin 256) (x : ℕ) : EReal :=
  if hx : x < 132 then if ρ.val / 1536 = (rowOf ⟨x, hx⟩).val then addQ A h (keyOf ⟨x, hx⟩) ρ e else 0 else 0
def ofKey {n : ℕ} (add : Fin 11 → Fin 22 → Fin 768 → Fin n → EReal) (j : Fin 22) (a : Fin 768) (e : Fin n) (x : ℕ) : EReal :=
  if hx : x < 132 then if (keyOf ⟨x, hx⟩).val = j.val then add (rowOf ⟨x, hx⟩) j a e else 0 else 0

theorem ofRow_val (ρ : Fin 16896) (e : Fin 256) (p : Fin 132) :
    ofRow A h ρ e p.val = if ρ.val / 1536 = (rowOf p).val then addQ A h (keyOf p) ρ e else 0 := dif_pos p.isLt

/-- A running sum over the pairs of a block of keys, cleared where the block opens. -/
theorem key_step {n : ℕ} (add : Fin 11 → Fin 22 → Fin 768 → Fin n → EReal) (p : Fin 132) (a : Fin 768) (e : Fin n) (before : EReal)
    (hb : ∀ p' : Fin 132, p'.val + 1 = p.val → before = ∑ x ∈ Finset.range p.val, ofKey add (keyOf p') a e x) :
    (if (rowOf p).val = (keyOf p).val / 2 then 0 else before) + add (rowOf p) (keyOf p) a e
      = ∑ x ∈ Finset.range (p.val + 1), ofKey add (keyOf p) a e x := by
  rw [Finset.sum_range_succ]
  have hl : ofKey add (keyOf p) a e p.val = add (rowOf p) (keyOf p) a e := (dif_pos p.isLt).trans (if_pos rfl)
  rw [hl]
  refine congrArg (· + _) ?_
  by_cases ho : (rowOf p).val = (keyOf p).val / 2
  · rw [if_pos ho]
    refine (Finset.sum_eq_zero fun x hx => ?_).symm
    have hx' := Finset.mem_range.1 hx
    exact (dif_pos (by omega)).trans (if_neg (opens_first p ⟨x, by omega⟩ ho hx'))
  · rw [if_neg ho]
    have hp : p.val ≠ 0 := fun hc => ho (first_opens0 p hc)
    have hq : (⟨p.val - 1, by omega⟩ : Fin 132).val + 1 = p.val := by show p.val - 1 + 1 = _; omega
    rw [hb _ hq, show keyOf ⟨p.val - 1, _⟩ = keyOf p from Fin.ext (stays p _ ho hq)]

/-- … which at the block's last pair is over all of them. -/
theorem key_whole {n : ℕ} (add : Fin 11 → Fin 22 → Fin 768 → Fin n → EReal) (p : Fin 132) (a : Fin 768) (e : Fin n) (hp : (rowOf p).val = 10)
    (h0 : ∀ (i : Fin 11), ¬ (keyOf p).val / 2 ≤ i.val → add i (keyOf p) a e = 0) :
    ∑ x ∈ Finset.range (p.val + 1), ofKey add (keyOf p) a e x = ∑ i : Fin 11, add i (keyOf p) a e := by
  have e1 : ∑ x ∈ Finset.range (p.val + 1), ofKey add (keyOf p) a e x = ∑ x ∈ Finset.range 132, ofKey add (keyOf p) a e x := by
    refine Finset.sum_subset (fun x hx => Finset.mem_range.2 (by have := Finset.mem_range.1 hx; omega)) fun x hx hn => ?_
    have hx' := Finset.mem_range.1 hx
    have hn' : p.val < x := by by_contra hc; exact hn (Finset.mem_range.2 (by omega))
    exact (dif_pos hx').trans (if_neg (ends_last p ⟨x, hx'⟩ hp hn'))
  rw [e1, ← Fin.sum_univ_eq_sum_range (ofKey add (keyOf p) a e) 132]
  refine (Finset.sum_congr rfl fun x _ => show _ = (fun i j => if j = keyOf p then add i (keyOf p) a e else 0) (rowOf x) (keyOf x) from ?_).trans ?_
  · exact (dif_pos x.isLt).trans (if_congr Fin.val_inj rfl rfl)
  refine (sum_pairs fun i j => if j = keyOf p then add i (keyOf p) a e else 0).trans ?_
  refine Finset.sum_congr rfl fun i _ => ?_
  rw [Finset.sum_eq_single (keyOf p) (fun j _ hj => by rw [if_neg hj, ite_self]) (fun hc => absurd (Finset.mem_univ _) hc), if_pos rfl]
  split
  · rfl
  · exact (h0 i ‹_›).symm

theorem addK_before (i : Fin 11) (j : Fin 22) (a : Fin 768) (e : Fin 256) (hij : ¬ j.val / 2 ≤ i.val) : addK A h i j a e = 0 :=
  Finset.sum_eq_zero fun b _ => by rw [dsc_after A h _ _ (by show i.val * 1536 + b.val < j.val * 768 + a.val; omega), zero_mul]
theorem addV_before (i : Fin 11) (j : Fin 22) (a : Fin 768) (e : Fin 128) (hij : ¬ j.val / 2 ≤ i.val) : addV A h i j a e = 0 :=
  Finset.sum_eq_zero fun b _ => by rw [wt_after A h _ _ (by show i.val * 1536 + b.val < j.val * 768 + a.val; omega), zero_mul]
theorem addQ_before (j : Fin 22) (ρ : Fin 16896) (e : Fin 256) (hij : ¬ j.val / 2 ≤ ρ.val / 1536) : addQ A h j ρ e = 0 :=
  Finset.sum_eq_zero fun a _ => by rw [dsc_after A h _ _ (by show ρ.val < j.val * 768 + a.val; omega), zero_mul]

/-- The gradients as sums over all keys, or all rows. -/
def gradQ (ρ : Fin 16896) (e : Fin 256) : EReal := ∑ κ, dsc A h κ ρ * A.k (ix3 h κ e)
def gradK (κ : Fin 16896) (e : Fin 256) : EReal := ∑ ρ, dsc A h κ ρ * A.q (ix3 h ρ e)
def gradV (κ : Fin 16896) (e : Fin 128) : EReal := ∑ ρ, wt A h κ ρ * A.o (ix2 ρ (col h e))

theorem whole_k (j : Fin 22) (a : Fin 768) (e : Fin 256) : ∑ i : Fin 11, addK A h i j a e = gradK A h (kRow j a) e :=
  Sums.fin_blocks (a := 11) (b := 1536) rfl (fun ρ => dsc A h (kRow j a) ρ * A.q (ix3 h ρ e)) (fun t ht r => qRow ⟨t, ht⟩ r)
    fun t ht r => by show t * 1536 + r.val = _; omega
theorem whole_v (j : Fin 22) (a : Fin 768) (e : Fin 128) : ∑ i : Fin 11, addV A h i j a e = gradV A h (kRow j a) e :=
  Sums.fin_blocks (a := 11) (b := 1536) rfl (fun ρ => wt A h (kRow j a) ρ * A.o (ix2 ρ (col h e))) (fun t ht r => qRow ⟨t, ht⟩ r)
    fun t ht r => by show t * 1536 + r.val = _; omega
theorem whole_q (ρ : Fin 16896) (e : Fin 256) : ∑ x ∈ Finset.range 132, ofRow A h ρ e x = gradQ A h ρ e := by
  rw [← Fin.sum_univ_eq_sum_range (ofRow A h ρ e) 132]
  refine (Finset.sum_congr rfl fun x _ => show _ = (fun i j => if ρ.val / 1536 = i.val then addQ A h j ρ e else 0) (rowOf x) (keyOf x) from dif_pos x.isLt).trans ?_
  refine (sum_pairs fun i j => if ρ.val / 1536 = i.val then addQ A h j ρ e else 0).trans ?_
  rw [Finset.sum_eq_single (⟨ρ.val / 1536, by omega⟩ : Fin 11)
    (fun i _ hi => Finset.sum_eq_zero fun j _ => by show (if _ then (if ρ.val / 1536 = i.val then _ else (0 : EReal)) else 0) = 0; rw [if_neg (fun hcc : ρ.val / 1536 = i.val => hi (Fin.ext hcc.symm)), ite_self]) (fun hc => absurd (Finset.mem_univ _) hc)]
  refine Eq.trans (Finset.sum_congr rfl fun j _ => ?_)
    (Sums.fin_blocks (a := 22) (b := 768) rfl (fun κ => dsc A h κ ρ * A.k (ix3 h κ e)) (fun t ht r => kRow ⟨t, ht⟩ r) fun t ht r => by show t * 768 + r.val = _; omega)
  show (if j.val / 2 ≤ ρ.val / 1536 then (if ρ.val / 1536 = ρ.val / 1536 then addQ A h j ρ e else 0) else 0) = addQ A h j ρ e
  rw [if_pos rfl]
  split
  · rfl
  · exact (addQ_before A h j ρ e ‹_›).symm

variable (m : (ℓ : Loc nD τ sig) → Buf (Elt Ideal) ℓ) (c : Dev nD)

/-- A point by its number. -/
def pt (n : ℕ) (hn : n < 1056) : Fin (cfg (F := Ideal)).N := ⟨n, hn⟩

/-- What is carried after point `t`. -/
def Sum (t : Fin (cfg (F := Ideal)).N) (C : Carry Ideal) : Prop :=
  (∀ ρ e, C.dq (ix2 ρ e) = ∑ x ∈ Finset.range ((pr t).val + 1), ofRow (arrays m c) (hd t) ρ e x)
  ∧ (∀ a e, C.dk (ix2 a e) = ∑ x ∈ Finset.range ((pr t).val + 1), ofKey (addK (arrays m c) (hd t)) (keyOf (pr t)) a e x)
  ∧ (∀ a e, C.dv (ix2 a e) = ∑ x ∈ Finset.range ((pr t).val + 1), ofKey (addV (arrays m c) (hd t)) (keyOf (pr t)) a e x)

theorem sum_step (n : ℕ) (hn : n < 1056) (before : ∀ n' (hn' : n' + 1 = n), Sum m c (pt n' (by omega)) (traj m c n)) :
    Sum m c (pt n hn) (traj m c (n + 1)) := by
  have hs := traj_succ (F := Ideal) m c (pt n hn)
  have hv := coords_val (pt n hn)
  have hp : (pr (pt n hn)).val = n % 132 := hv.2
  have hh : (hd (pt n hn)).val = n / 132 := hv.1
  have prev : ∀ q : Fin 132, q.val + 1 = (pr (pt n hn)).val → ∃ hn' : n - 1 < 1056, hd (pt (n - 1) hn') = hd (pt n hn) ∧ pr (pt (n - 1) hn') = q ∧ Sum m c (pt (n - 1) hn') (traj m c n) := by
    intro q hq
    have hn' : n - 1 < 1056 := by omega
    have hv' := coords_val (pt (n - 1) hn')
    have h1 : n - 1 + 1 = n := by omega
    refine ⟨hn', Fin.ext ((hv'.1).trans ?_), Fin.ext ((hv'.2).trans ?_), before (n - 1) h1⟩
    · rw [hh]; show (n - 1) / 132 = n / 132; omega
    · show (n - 1) % 132 = q.val; omega
  obtain ⟨b1, b2, b3, -, -⟩ := after_eq m c (pt n hn) _ _ (good c (grid0.coords (pt n hn))).1 (words c (grid0.coords (pt n hn))) (traj m c n) _ rfl
  show Sum m c (pt n hn) (traj m c ((pt n hn).val + 1))
  rw [hs]
  refine ⟨fun ρ e => (b1 ρ e).trans ?_, fun a e => (b2 a e).trans (key_step _ (pr (pt n hn)) a e _ ?_), fun a e => (b3 a e).trans (key_step _ (pr (pt n hn)) a e _ ?_)⟩
  · rw [Finset.sum_range_succ]
    refine congr (congrArg _ ?_) (ofRow_val _ _ ρ e _).symm
    by_cases h0 : (pr (pt n hn)).val = 0
    · rw [if_pos h0, h0, Finset.sum_range_zero]
    · rw [if_neg h0]
      have hq : (⟨(pr (pt n hn)).val - 1, by omega⟩ : Fin 132).val + 1 = (pr (pt n hn)).val := by show (pr (pt n hn)).val - 1 + 1 = _; omega
      obtain ⟨hn', e1, e2, q1, -, -⟩ := prev _ hq
      rw [q1, e1, e2, hq]
  · intro q hq
    obtain ⟨hn', e1, e2, -, q2, -⟩ := prev q hq
    rw [q2, e1, e2, hq]
  · intro q hq
    obtain ⟨hn', e1, e2, -, -, q3⟩ := prev q hq
    rw [q3, e1, e2, hq]

theorem sum_after (n : ℕ) (hn : n < 1056) : Sum m c (pt n hn) (traj m c (n + 1)) := by
  induction n with
  | zero => exact sum_step m c 0 hn fun n' hn' => absurd hn' (Nat.succ_ne_zero _)
  | succ n ih => exact sum_step m c (n + 1) hn fun n' hn' => by obtain rfl := Nat.succ.inj hn'; exact ih _

/-- The copy sent at the end of a head. -/
theorem sent_at (h' : Fin 8) (ρ : Fin 16896) (e : Fin 256) (O : Vec Ideal S8x16896x256 .f32) (D : Vec Ideal S16896x256 .f32) :
    VecWindow.put O ![h.val, 0, 0] S1x16896x256.size (fun y => D ((Shape.reshapeEquiv rows_numel).symm y)) (ix3 h' ρ e) = if h' = h then D (ix2 ρ e) else O (ix3 h' ρ e) := by
  unfold VecWindow.put
  by_cases hh : h' = h
  · subst hh
    rw [if_pos rfl, dif_pos (fun a => by
      match a with
      | 0 => exact ⟨le_refl _, Nat.lt_succ_self _⟩
      | 1 => exact ⟨Nat.zero_le _, by show ρ.val < 0 + 16896; omega⟩
      | 2 => exact ⟨Nat.zero_le _, by show e.val < 0 + 256; omega⟩)]
    refine congrArg D ((Equiv.symm_apply_eq _).2 (Eq.trans ?_ (ValueIdx.reshapeEquiv_ix2_1ab rows_numel ρ e).symm))
    funext a
    match a with
    | 0 => exact Fin.ext (Nat.sub_self _)
    | 1 => rfl
    | 2 => rfl
  · rw [if_neg hh, dif_neg fun hc => hh (Fin.ext (by
      have h0 : h.val ≤ h'.val ∧ h'.val < h.val + 1 := hc 0
      omega))]

/-- What the heads sent so far hold. -/
theorem out_after (n : ℕ) (hn : n ≤ 1056) (h : Fin 8) (hh : h.val * 132 + 131 < n) (ρ : Fin 16896) (e : Fin 256) :
    (traj m c n).out (ix3 h ρ e) = gradQ (arrays m c) h ρ e := by
  induction n with
  | zero => exact absurd hh (Nat.not_lt_zero _)
  | succ n ih =>
    have hn' : n < 1056 := hn
    have hs := traj_succ (F := Ideal) m c (pt n hn')
    have hv := coords_val (pt n hn')
    have hp : (pr (pt n hn')).val = n % 132 := hv.2
    have hd' : (hd (pt n hn')).val = n / 132 := hv.1
    obtain ⟨-, -, -, -, b5⟩ := after_eq m c (pt n hn') _ _ (good c (grid0.coords (pt n hn'))).1 (words c (grid0.coords (pt n hn'))) (traj m c n) (traj m c (n + 1)) hs
    rw [b5]
    by_cases hl : (pr (pt n hn')).val = 131
    · rw [if_pos hl, sent_at]
      by_cases hq : h = hd (pt n hn')
      · rw [if_pos hq, (sum_after m c n hn').1, hl, whole_q, hq]
      · rw [if_neg hq]
        refine ih (by omega) ?_
        have : h.val ≠ (hd (pt n hn')).val := fun hc => hq (Fin.ext hc)
        omega
    · rw [if_neg hl]
      exact ih (by omega) (by omega)

end Cert.AttnIdeal.Value

end
-- ==== Proof.AttnCall.lean ====
/-
  The gradient of the attention: the body at every point, and the run of the whole program.
-/
module

public import proofs.«01_k».proof.Proof.AttnRun

@[expose] public section

set_option maxRecDepth 16384

noncomputable section

namespace Cert.AttnIdeal.Hand

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat)

variable {F : FTy → Type} [FloatOps F] [Named F]

local notation "𝕄" => MT nD τ sig Unit (Elt F) ℕ (Pipeline.UD sig nD τ) ℕ

variable (m : (ℓ : Loc nD τ sig) → Buf (Elt F) ℓ)

section Windows
variable (c : Dev nD) (t : Fin (cfg (F := F)).N)

/-- An input's buffer handed back as it was found. -/
theorem leave0 : owns (c : Thread nD τ) (((cfg (F := F)).win 0).stage ((cfg (F := F)).slots t 0)) fullShare (iblk m c 0 t) ⊢ (dat m c).leaves 0 t := .rfl
theorem leave1 : owns (c : Thread nD τ) (((cfg (F := F)).win 1).stage ((cfg (F := F)).slots t 1)) fullShare (iblk m c 1 t) ⊢ (dat m c).leaves 1 t := .rfl
theorem leave2 : owns (c : Thread nD τ) (((cfg (F := F)).win 2).stage ((cfg (F := F)).slots t 2)) fullShare (iblk m c 2 t) ⊢ (dat m c).leaves 2 t := .rfl
theorem leave3 : owns (c : Thread nD τ) (((cfg (F := F)).win 3).stage ((cfg (F := F)).slots t 3)) fullShare (iblk m c 3 t) ⊢ (dat m c).leaves 3 t := .rfl
theorem leave4 : owns (c : Thread nD τ) (((cfg (F := F)).win 4).stage ((cfg (F := F)).slots t 4)) fullShare (iblk m c 4 t) ⊢ (dat m c).leaves 4 t := .rfl
theorem leave5 : owns (c : Thread nD τ) (((cfg (F := F)).win 5).stage ((cfg (F := F)).slots t 5)) fullShare (iblk m c 5 t) ⊢ (dat m c).leaves 5 t := .rfl

/-- Whether the block of keys is written out at a point. -/
theorem live6 : (cfg (F := F)).idle 6 ((cfg (F := F)).grid.coords t) = !(k0_cond6 (rowR (F := F) c (grid0.coords t)) == 1#1) := by
  rw [show rowR (F := F) c (grid0.coords t) = rowW (grid0.coords t) from row_read ..]; rfl
theorem live7 : (cfg (F := F)).idle 7 ((cfg (F := F)).grid.coords t) = !(k0_cond6 (rowR (F := F) c (grid0.coords t)) == 1#1) := by
  rw [show rowR (F := F) c (grid0.coords t) = rowW (grid0.coords t) from row_read ..]; rfl

theorem leave6 (d) (X : Vec F S1x768x256 .f32)
    (h1 : k0_cond6 (rowR (F := F) c (grid0.coords t)) = 1#1 → X = (traj m c (t.val + 1)).ok)
    (h0 : ¬ k0_cond6 (rowR (F := F) c (grid0.coords t)) = 1#1 → X = (dat m c).before 6 t d) :
    owns (c : Thread nD τ) (((cfg (F := F)).win 6).stage ((cfg (F := F)).slots t 6)) fullShare X ⊢ (dat m c).leaves 6 t := by
  have hl := live6 (F := F) c t
  by_cases h : k0_cond6 (rowR (F := F) c (grid0.coords t)) = 1#1
  · have hi : (cfg (F := F)).idle 6 ((cfg (F := F)).grid.coords t) = false := by rw [hl, h]; rfl
    rw [h1 h]
    unfold Dat.leaves
    rw [hi]
    exact .rfl
  · have hi : (cfg (F := F)).idle 6 ((cfg (F := F)).grid.coords t) = true := by rw [hl, beq_eq_false_iff_ne.mpr h]; rfl
    have hf : ((cfg (F := F)).win 6).flush t = false := by
      have k := idle_kept6 (F := F) t
      rw [show (cfg (F := F)).idle 6 (grid0.coords t) = true from hi] at k
      rw [Pipeline.Window.flush_eq_flushF]
      simpa using k
    rw [h0 h, (dat m c).leaves_idle 6 t hi hf]
    iintro H
    iexists d
    iexact H

theorem leave7 (d) (X : Vec F S1x768x128 .f32)
    (h1 : k0_cond6 (rowR (F := F) c (grid0.coords t)) = 1#1 → X = (traj m c (t.val + 1)).ov)
    (h0 : ¬ k0_cond6 (rowR (F := F) c (grid0.coords t)) = 1#1 → X = (dat m c).before 7 t d) :
    owns (c : Thread nD τ) (((cfg (F := F)).win 7).stage ((cfg (F := F)).slots t 7)) fullShare X ⊢ (dat m c).leaves 7 t := by
  have hl := live7 (F := F) c t
  by_cases h : k0_cond6 (rowR (F := F) c (grid0.coords t)) = 1#1
  · have hi : (cfg (F := F)).idle 7 ((cfg (F := F)).grid.coords t) = false := by rw [hl, h]; rfl
    rw [h1 h]
    unfold Dat.leaves
    rw [hi]
    exact .rfl
  · have hi : (cfg (F := F)).idle 7 ((cfg (F := F)).grid.coords t) = true := by rw [hl, beq_eq_false_iff_ne.mpr h]; rfl
    have hf : ((cfg (F := F)).win 7).flush t = false := by
      have k := idle_kept7 (F := F) t
      rw [show (cfg (F := F)).idle 7 (grid0.coords t) = true from hi] at k
      rw [Pipeline.Window.flush_eq_flushF]
      simpa using k
    rw [h0 h, (dat m c).leaves_idle 7 t hi hf]
    iintro H
    iexists d
    iexact H

end Windows

/-- The staging buffer of a window at a point. -/
abbrev st0 (t : Fin (cfg (F := F)).N) := spec0_0.stage ((cfg (F := F)).slots t 0)
abbrev st1 (t : Fin (cfg (F := F)).N) := spec0_1.stage ((cfg (F := F)).slots t 1)
abbrev st2 (t : Fin (cfg (F := F)).N) := spec0_2.stage ((cfg (F := F)).slots t 2)
abbrev st3 (t : Fin (cfg (F := F)).N) := spec0_3.stage ((cfg (F := F)).slots t 3)
abbrev st4 (t : Fin (cfg (F := F)).N) := spec0_4.stage ((cfg (F := F)).slots t 4)
abbrev st5 (t : Fin (cfg (F := F)).N) := spec0_5.stage ((cfg (F := F)).slots t 5)
abbrev st6 (t : Fin (cfg (F := F)).N) := spec0_6.stage ((cfg (F := F)).slots t 6)
abbrev st7 (t : Fin (cfg (F := F)).N) := spec0_7.stage ((cfg (F := F)).slots t 7)

/-- The body as the pipeline calls it at a point. -/
abbrev bodyAt (t : Fin (cfg (F := F)).N) : Prog (TpuEff nD τ sig (Elt F) Λ₀ .tc) PUnit :=
  body (F := F) (grid0.coords t) (st0 t) (hstage0_0 (((cfg (F := F)).slots t 0).cast nbuf0_0)) (st1 t) (hstage0_1 (((cfg (F := F)).slots t 1).cast nbuf0_1))
    (st2 t) (hstage0_2 (((cfg (F := F)).slots t 2).cast nbuf0_2)) (st3 t) (hstage0_3 (((cfg (F := F)).slots t 3).cast nbuf0_3))
    (st4 t) (hstage0_4 (((cfg (F := F)).slots t 4).cast nbuf0_4)) (st5 t) (hstage0_5 (((cfg (F := F)).slots t 5).cast nbuf0_5))
    (st6 t) (hstage0_6 (((cfg (F := F)).slots t 6).cast nbuf0_6)) (st7 t) (hstage0_7 (((cfg (F := F)).slots t 7).cast nbuf0_7))
    (Memref.whole main_v46_0) (Memref.isWhole_whole _) (Memref.whole cc0_scratch0) (Memref.isWhole_whole _)
    (Memref.whole cc0_scratch1) (Memref.isWhole_whole _) (Memref.whole cc0_scratch2) (Memref.isWhole_whole _)

theorem bodyAt_eq (t : Fin (cfg (F := F)).N) : (defs₀ (F := F) .tc (cfg (F := F)).body ((cfg (F := F)).bodyArgs t ((cfg (F := F)).slots t))) = bodyAt t := rfl

set_option maxHeartbeats 4000000 in
/-- The body at a point, from what is carried before it to what is carried after it. -/
theorem point (c : Dev nD) (t : Fin (cfg (F := F)).N) :
    iprop(Phi m c t.val ∗ (dat m c).owesAt () t.castSucc
        ∗ (∃ d, owns (c : Thread nD τ) (st0 t) fullShare ((dat m c).before 0 t d)) ∗ (∃ d, owns (c : Thread nD τ) (st1 t) fullShare ((dat m c).before 1 t d))
        ∗ (∃ d, owns (c : Thread nD τ) (st2 t) fullShare ((dat m c).before 2 t d)) ∗ (∃ d, owns (c : Thread nD τ) (st3 t) fullShare ((dat m c).before 3 t d))
        ∗ (∃ d, owns (c : Thread nD τ) (st4 t) fullShare ((dat m c).before 4 t d)) ∗ (∃ d, owns (c : Thread nD τ) (st5 t) fullShare ((dat m c).before 5 t d))
        ∗ (∃ d, owns (c : Thread nD τ) (st6 t) fullShare ((dat m c).before 6 t d)) ∗ (∃ d, owns (c : Thread nD τ) (st7 t) fullShare ((dat m c).before 7 t d)))
      ⊢ wp frame (wpE defs₀ Variants.none (c : Thread nD τ) none) Set.univ (bodyAt t) fun _ =>
          iprop(Phi m c (t.val + 1) ∗ (dat m c).owesAt () t.succ ∗ (dat m c).leaves 0 t ∗ (dat m c).leaves 1 t ∗ (dat m c).leaves 2 t
            ∗ (dat m c).leaves 3 t ∗ (dat m c).leaves 4 t ∗ (dat m c).leaves 5 t ∗ (dat m c).leaves 6 t ∗ (dat m c).leaves 7 t) := by
  unfold Phi
  iintro ⟨⟨Ht0, Ht1, Hr, Hs, %C, %hC, Hdq, Hdk, Hdv, Hout⟩, ⟨%W, %hW, Howe⟩, ⟨%d0, H0⟩, ⟨%d1, H1⟩, ⟨%d2, H2⟩, ⟨%d3, H3⟩, ⟨%d4, H4⟩, ⟨%d5, H5⟩, ⟨%d6, H6⟩, ⟨%d7, H7⟩⟩
  have hA := agree_step m c t { C with ok := (dat m c).before 6 t d6, ov := (dat m c).before 7 t d7 } hC
  iapply (step c (grid0.coords t) (st0 t) _ (st1 t) _ (st2 t) _ (st3 t) _ (st4 t) _ (st5 t) _ (st6 t) _ (st7 t) _ _ _ _ _ _ _ _ _
    (blocks m c t) { C with ok := (dat m c).before 6 t d6, ov := (dat m c).before 7 t d7 } _ (good c (grid0.coords t)))
  unfold Held
  isplitl [Ht0 Ht1 Hs Hdq Hdk Hdv Hout Howe H0 H1 H2 H3 H4 H5 H6 H7]
  · isplitl [Ht0]; · iexact Ht0
    isplitl [Ht1]; · iexact Ht1
    isplitl [H0]
    · iapply (rep_of_owns (c : Thread nD τ) (st0 t) fullShare _); rw [before0]; iexact H0
    isplitl [H1]
    · iapply (rep_of_owns (c : Thread nD τ) (st1 t) fullShare _); rw [before1]; iexact H1
    isplitl [H2]
    · iapply (rep_of_owns (c : Thread nD τ) (st2 t) fullShare _); rw [before2]; iexact H2
    isplitl [H3]
    · iapply (rep_of_owns (c : Thread nD τ) (st3 t) fullShare _); rw [before3]; iexact H3
    isplitl [H4]
    · iapply (rep_of_owns (c : Thread nD τ) (st4 t) fullShare _); rw [before4]; iexact H4
    isplitl [H5]
    · iapply (rep_of_owns (c : Thread nD τ) (st5 t) fullShare _); rw [before5]; iexact H5
    isplitl [H6]
    · iapply (rep_of_owns (c : Thread nD τ) (st6 t) fullShare _); iexact H6
    isplitl [H7]
    · iapply (rep_of_owns (c : Thread nD τ) (st7 t) fullShare _); iexact H7
    isplitl [Hdq]; · iexact Hdq
    isplitl [Hdk]; · iexact Hdk
    isplitl [Hdv]; · iexact Hdv
    isplitl [Hout]; · iexact Hout
    isplitl [Hs]; · iexact Hs
    iexists W; iexact Howe
  · iintro ⟨Ht0, Ht1, H0, H1, H2, H3, H4, H5, H6, H7, Hdq, Hdk, Hdv, Hout, Hs, %W', Howe⟩
    isplitl [Ht0 Ht1 Hr Hs Hdq Hdk Hdv Hout]
    · isplitl [Ht0]; · iexact Ht0
      isplitl [Ht1]; · iexact Ht1
      isplitl [Hr]; · iexact Hr
      isplitl [Hs]; · iexact Hs
      iexists _
      isplitr
      · ipureintro; exact hA.1
      isplitl [Hdq]; · iexact Hdq
      isplitl [Hdk]; · iexact Hdk
      isplitl [Hdv]; · iexact Hdv
      iexact Hout
    isplitl [Howe]
    · iexists W'
      isplitr
      · ipureintro; exact fun _ _ => Or.inl trivial
      iexact Howe
    isplitl [H0]
    · iapply (leave0 m c t); iapply (owns_of_rep (c : Thread nD τ) (st0 t) fullShare _); iexact H0
    isplitl [H1]
    · iapply (leave1 m c t); iapply (owns_of_rep (c : Thread nD τ) (st1 t) fullShare _); iexact H1
    isplitl [H2]
    · iapply (leave2 m c t); iapply (owns_of_rep (c : Thread nD τ) (st2 t) fullShare _); iexact H2
    isplitl [H3]
    · iapply (leave3 m c t); iapply (owns_of_rep (c : Thread nD τ) (st3 t) fullShare _); iexact H3
    isplitl [H4]
    · iapply (leave4 m c t); iapply (owns_of_rep (c : Thread nD τ) (st4 t) fullShare _); iexact H4
    isplitl [H5]
    · iapply (leave5 m c t); iapply (owns_of_rep (c : Thread nD τ) (st5 t) fullShare _); iexact H5
    isplitl [H6]
    · iapply (leave6 m c t d6 _ (fun h => (hA.2.1 h).1) (fun h => (hA.2.2 h).1)); iapply (owns_of_rep (c : Thread nD τ) (st6 t) fullShare _); iexact H6
    · iapply (leave7 m c t d7 _ (fun h => (hA.2.1 h).2) (fun h => (hA.2.2 h).2)); iapply (owns_of_rep (c : Thread nD τ) (st7 t) fullShare _); iexact H7

theorem Phi_before (c : Dev nD) (t : Fin (cfg (F := F)).N) : (dat m c).Φ t.castSucc = Phi m c t.val := by
  unfold dat; dsimp only; exact Dat.Φ_castSucc (fun n _ => Phi m c n) t
theorem Phi_after (c : Dev nD) (t : Fin (cfg (F := F)).N) : (dat m c).Φ t.succ = Phi m c (t.val + 1) := rfl

/-- The body obligation, window by window as the pipeline takes the buffers back. -/
theorem obligation_of {Λ : Labels} {sig' : RefSig} {Val : EltTy → Type} {cf : Pipeline.Cfg sig' Λ} {c : Dev nD} {τ' : Topo} {U : Type} [URA U]
    (dat : Dat τ' Val Unit ℕ U ℕ cf c) (defs : Defs nD τ' sig' Val Λ) (𝒱 : Variants)
    (h : ∀ t : Fin cf.N, iprop(dat.Φ t.castSucc ∗ dat.owesAt () t.castSucc
        ∗ bigSep Finset.univ fun w : Fin cf.W => iprop(∃ d, owns (c : Thread nD τ') ((cf.win w).stage (cf.slots t w)) fullShare (dat.before w t d)))
      ⊢ wp frame (wpE defs 𝒱 (c : Thread nD τ') none) Set.univ (defs .tc cf.body (cf.bodyArgs t (cf.slots t))) fun _ =>
          iprop(dat.Φ t.succ ∗ dat.owesAt () t.succ ∗ bigSep Finset.univ fun w : Fin cf.W => dat.leaves w t)) :
    Pipeline.BodyObligationLoose dat defs 𝒱 () Set.univ := h

set_option maxHeartbeats 1000000 in
theorem obligation (c : Dev nD) : Pipeline.BodyObligationLoose (dat m c) (defs₀ (F := F)) Variants.none () Set.univ := by
  refine obligation_of _ _ _ fun t => ?_
  rw [bodyAt_eq, bigSep_W0, bigSep_W0, Phi_before, Phi_after]
  exact point m c t

end Cert.AttnIdeal.Hand

end
-- ==== Proof.AttnFrame.lean ====
/-
  The gradient of the attention: the run of the whole program, and its two frames.
-/
module

public import proofs.«01_k».proof.Proof.AttnCall
public import proofs.«01_k».proof.Proof.Gen.Attn
public import proofs.«01_k».proof.Defs

@[expose] public section

set_option maxRecDepth 16384

noncomputable section

namespace Cert.AttnIdeal.Hand

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat)

variable {F : FTy → Type} [FloatOps F] [Named F]

local notation "𝕄" => MT nD τ sig Unit (Elt F) ℕ (Pipeline.UD sig nD τ) ℕ

variable (m : (ℓ : Loc nD τ sig) → Buf (Elt F) ℓ)

/-- The body's own semaphore. -/
abbrev ownSem : Fin 1 → SemLoc sig := fun _ => SemLoc.dma cc0_scratch3.sem

theorem ownSem_ok : Pipeline.OwnSemFacts spec0 ownSem := by decide

/-- The array the body writes by its own copies. -/
abbrev copiedTo : Finset (Ref sig .tc) := {main_v46_0}

theorem copiedTo_rest : copiedTo ⊆ Pipeline.restRefsP sig pre0 spec0 \ ∅ := by decide

/-- What the buffers hold at the end, so far as the body's copies write them. -/
def G (c : Dev nD) (b : Ref sig .tc) : Buf (Elt F) ((c : Thread nD τ).loc b) :=
  if h : b = main_v46_0 then h ▸ (traj m c 1056).out else V m c b

theorem G_out (c : Dev nD) : G m c main_v46_0 = (traj m c 1056).out := dif_pos rfl

/-- The tables the body is lent. -/
theorem tables (c : Dev nD) : (Pipeline.ΦT pre0 (pairs (F := F)) c : sProp 𝕄)
    = iprop((((Memref.whole main_c : Memref sig .tc .smem S132 .i32).view.loc (c : Thread nD τ)) ↦{fullShare.right} rowTab c)
      ∗ (((Memref.whole main_c_0 : Memref sig .tc .smem S132 .i32).view.loc (c : Thread nD τ)) ↦{fullShare.right} keyTab c)) := by
  unfold Pipeline.ΦT Pipeline.prefHeld
  rw [show (Finset.univ : Finset (Fin 2)) = insert (0 : Fin 2) {(1 : Fin 2)} from by decide, bigSep_insert (by decide), bigSep_singleton]
  rfl

/-- A whole buffer at contents. -/
theorem whole_at (c : Dev nD) (b : Ref sig .tc) (f : b.ty.Contents (Elt F)) :
    (((c : Thread nD τ).loc b) ↦{fullShare} f : sProp 𝕄) = at_ c (Memref.whole b) f := by
  unfold at_
  rw [← owns_eq_rep]
  exact (owns_whole (c : Thread nD τ) b fullShare f).symm

theorem enter (c : Dev nD) : iprop(Pipeline.ΦDRG ownSem spec0 ∅ copiedTo (V m) (V m) c ∗ Pipeline.ΦT pre0 (pairs (F := F)) c) ⊢ (Phi m c 0 : sProp 𝕄) := by
  rw [Pipeline.ΦDRG_eq, tables, scopedRest0_eq]
  unfold Pipeline.ownSems0 Pipeline.routed Phi
  rw [bigSep_empty, bigSep_singleton, show (Finset.univ : Finset (Fin 1)) = {0} from rfl, bigSep_singleton]
  iintro ⟨⟨⟨⟨%f0, H0⟩, ⟨%f1, H1⟩, ⟨%f2, H2⟩⟩, Hr, Hs, -, Hout⟩, Ht0, Ht1⟩
  isplitl [Ht0]; · iexact Ht0
  isplitl [Ht1]; · iexact Ht1
  isplitl [Hr]; · iexact Hr
  isplitl [Hs]; · iexact Hs
  iexists (⟨f0, f1, f2, (traj m c 0).ok, (traj m c 0).ov, V m c main_v46_0⟩ : Carry F)
  isplitr
  · ipureintro; exact ⟨rfl, fun h => absurd rfl h⟩
  rw [← whole_at, ← whole_at, ← whole_at, ← whole_at]
  isplitl [H0]; · iexact H0
  isplitl [H1]; · iexact H1
  isplitl [H2]; · iexact H2
  iexact Hout

theorem leave (c : Dev nD) : (Phi m c 1056 : sProp 𝕄) ⊢ Pipeline.ΦDRG ownSem spec0 ∅ copiedTo (V m) (G m) c := by
  rw [Pipeline.ΦDRG_eq, scopedRest0_eq]
  unfold Pipeline.ownSems0 Pipeline.routed Phi
  rw [bigSep_empty, bigSep_singleton, show (Finset.univ : Finset (Fin 1)) = {0} from rfl, bigSep_singleton, G_out, show ∀ P : sProp 𝕄, iprop(BI.emp ∗ P) = P from fun _ => BI.equiv_iff.mp BI.emp_sep]
  iintro ⟨-, -, Hr, Hs, %C, %hC, H0, H1, H2, Hout⟩
  isplitl [H0 H1 H2]
  · isplitl [H0]; · iexists C.dq; iapply (Entails.of_eq (whole_at c cc0_scratch0 C.dq).symm); iexact H0
    isplitl [H1]; · iexists C.dk; iapply (Entails.of_eq (whole_at c cc0_scratch1 C.dk).symm); iexact H1
    iexists C.dv; iapply (Entails.of_eq (whole_at c cc0_scratch2 C.dv).symm); iexact H2
  isplitl [Hr]; · iexact Hr
  isplitl [Hs]; · iexact Hs
  iapply (Entails.of_eq ((congrArg (at_ c (Memref.whole main_v46_0)) hC.1).trans (whole_at c main_v46_0 (traj m c 1056).out).symm)); iexact Hout

abbrev dats (p : Fin 1) (c : Dev nD) : Dat τ (Elt F) Unit ℕ (Pipeline.UD sig nD τ) ℕ (Pipeline.pin (pcfgs (F := F)) (fun | 0 => adm) p) c :=
  match p with | 0 => dat m c

set_option maxHeartbeats 4000000 in
/-- The run: it ends with each window's array as the pipeline leaves it, the queries' gradient as the body's copies leave it,
    every other array as at entry and every semaphore at zero. -/
theorem run_main (g : Dev nD → PrngReg) :
    θ_run defs (onTc (τ := τ) (main (F := F))) ⟨m, fun _ => 0, g⟩
      (fun r => Pipeline.FramePostRG (Pipeline.pin (pcfgs (F := F)) (fun | 0 => adm)) (dats m) 0 copiedTo (V m) (G m) r ∧ r.2.sem = fun _ => 0) :=
  Pipeline.θ_run_frameP_dmaRG pcfgs (fun | 0 => adm) (dats m) 0 launch0 ownSem defs₀ Variants.none ownSem_ok ∅ copiedTo
    (Finset.empty_subset _) copiedTo_rest m g main (fun c => obligation m c) (fun c w => by match w with | 0 => rfl | 1 => rfl | 2 => rfl | 3 => rfl | 4 => rfl | 5 => rfl | 6 => rfl | 7 => rfl) (fun c t => rfl) (V m) (hmain m Variants.none)
    (fun c w => rfl) (fun c k => V_pre m c k) (G m) (fun c => enter m c) (fun c => leave m c) (Q' := _) (fun r h => h)

set_option maxHeartbeats 4000000 in
/-- The arguments are no result of the host's operations. -/
theorem args_kept (c : Dev nD) : V m c main_arg0 = m ((c : Thread nD τ).loc main_arg0) ∧ V m c main_arg1 = m ((c : Thread nD τ).loc main_arg1)
    ∧ V m c main_arg2 = m ((c : Thread nD τ).loc main_arg2) ∧ V m c main_arg3 = m ((c : Thread nD τ).loc main_arg3) := by
  refine ⟨?_, ?_, ?_, ?_⟩
  all_goals
    refine V_arg m c _ (List.forall_iff_forall_mem.mp ?_)
    simp only [hostOps0, List.Forall, StableHlo.nullary_writes, StableHlo.unary_writes, StableHlo.binary_writes, StableHlo.ternary_writes,
      StableHlo.reshape_writes, Finset.mem_singleton]
    repeat' apply And.intro
    all_goals exact StableHlo.devRef_ne_of_ne (by decide)

/-- The frame of the ideal program, and the frame of the kernel's own program from the same run. -/
theorem run_frame (g : Dev nD → PrngReg) :
    θ_run defs (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun r h => ⟨fun c => by
      obtain ⟨k0, k1, k2, k3⟩ := args_kept m c
      exact ⟨((h.1.toR c).2 main_arg0 (by decide : main_arg0 ∈ Pipeline.restRefs sig spec0 \ copiedTo)).trans k0, ((h.1.toR c).2 main_arg1 (by decide : main_arg1 ∈ Pipeline.restRefs sig spec0 \ copiedTo)).trans k1,
        ((h.1.toR c).2 main_arg2 (by decide : main_arg2 ∈ Pipeline.restRefs sig spec0 \ copiedTo)).trans k2, ((h.1.toR c).2 main_arg3 (by decide : main_arg3 ∈ Pipeline.restRefs sig spec0 \ copiedTo)).trans k3⟩, h.2⟩) (run_main m g)

theorem frame_ideal : Cert.quiescent_AttnIdeal := fun m g _ => run_frame m g

/-- Over words a named constant is the literal the kernel's own program has in its place. -/
local instance literals : Named Bits := ⟨fun _ _ {φ} b => FloatOps.ofBits φ b⟩

/-- The kernel's own program is the same text: its frame claim is this run's. -/
theorem same_text : Cert.quiescent_Attn = (∀ (m : (ℓ : Loc nD τ sig) → Buf (Elt Bits) ℓ) (g : Dev nD → PrngReg), Cert.Pre_Attn m →
    θ_run (defs (F := Bits)) (onTc (τ := τ) (main (F := Bits))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0)) := by
  sl_kernel_rfl

theorem frame_kernel : Cert.quiescent_Attn := by
  rw [same_text]
  exact fun m g _ => run_frame (F := Bits) m g

end Cert.AttnIdeal.Hand

end
-- ==== Proof.AttnArr.lean ====
/-
  What the attention's gradient leaves in its three results.
-/
module

public import proofs.«01_k».proof.Proof.AttnSums
public import proofs.«01_k».proof.Proof.AttnFrame
public import Idealize.ShloMosaic.Lib.Pipeline.Covers
public import Idealize.ShloMosaic.Lib.Pointwise

@[expose] public section

set_option maxRecDepth 16384

noncomputable section

open Idealize.ShloMosaic Idealize.ShloMosaic.TcCoe Idealize.SL.Sem Idealize.ShloMosaic.Tactic

namespace Cert.AttnIdeal.Value

open Cert.AttnIdeal Cert.AttnIdeal.Gen Cert.AttnIdeal.Hand

theorem last_of_key : ∀ p p' : Fin 132, p'.val = p.val + 1 → (keyOf p').val ≠ (keyOf p).val → (rowOf p).val = 10 := by
  refine of_decide_eq_true ?_
  sl_kernel_rfl
theorem last_pair : ∀ p : Fin 132, p.val = 131 → (rowOf p).val = 10 := by
  refine of_decide_eq_true ?_
  sl_kernel_rfl
theorem every_key : ∀ j : Fin 22, ∃ p : Fin 132, (keyOf p).val = j.val := by
  refine of_decide_eq_true ?_
  sl_kernel_rfl

/-- A block is flushed after its last pair. -/
theorem last_of_flush (w : Fin 8) (hw : ∀ h p, ((cfg (F := Ideal)).win w).indexMap (point h p) = fun a => ![h.val, (keyOf p).val, 0] ⟨a.val % 3, Nat.mod_lt _ (by decide)⟩)
    (t : Fin (cfg (F := Ideal)).N) (hf : ((cfg (F := Ideal)).win w).flush t = true) : (rowOf (pr t)).val = 10 := by
  have hN : (cfg (F := Ideal)).grid.N = 1056 := rfl
  have hv := coords_val t
  have hi : ∀ t : Fin (cfg (F := Ideal)).N, ((cfg (F := Ideal)).win w).index t = fun a => ![(hd t).val, (keyOf (pr t)).val, 0] ⟨a.val % 3, Nat.mod_lt _ (by decide)⟩ :=
    fun t => (congrArg _ (point_eq _)).trans (hw _ _)
  unfold Pipeline.Window.flush at hf
  rw [Bool.and_eq_true, Bool.or_eq_true, decide_eq_true_eq, decide_eq_true_eq] at hf
  have hlt : t.val < 1056 := t.isLt
  by_cases hp : t.val % 132 = 131
  · exact last_pair _ (hv.2.trans hp)
  rcases hf.2 with hf | ⟨ht, hne⟩
  · have hf' : t.val + 1 = 1056 := hf
    omega
  · replace ht : t.val + 1 < 1056 := ht
    have hv' := coords_val ⟨t.val + 1, ht⟩
    refine last_of_key (pr t) (pr ⟨t.val + 1, ht⟩) (hv'.2.trans ?_) fun hk => hne ?_
    · rw [hv.2]; show (t.val + 1) % 132 = _; omega
    · rw [hi, hi, hk, show hd ⟨t.val + 1, ht⟩ = hd t from Fin.ext (hv'.1.trans ((show (t.val + 1) / 132 = t.val / 132 by omega).trans hv.1.symm))]

variable (m : (ℓ : Loc nD τ sig) → Buf (Elt Ideal) ℓ) (c : Dev nD)

theorem dq_array : G m c main_v46_0 = fun i : S8x16896x256.Idx => gradQ (arrays m c) (i 0) (i 1) (i 2) := by
  rw [G_out]
  funext i
  idx_vars i
  exact out_after m c 1056 (le_refl _) _ (by have := i0.isLt; omega) i1 i2

theorem pay7_at (X : Vec Ideal S768x256 .f32) (a : Fin 768) (e : Fin 256) : k0_pay7 (F := Ideal) X (ix3 0 a e) = X (ix2 a e) := by
  unfold k0_pay7
  pointwise
theorem pay8_at (X : Vec Ideal S768x128 .f32) (a : Fin 768) (e : Fin 128) : k0_pay8 (F := Ideal) X (ix3 0 a e) = X (ix2 a e) := by
  unfold k0_pay8
  pointwise

theorem ok_last (t : Fin (cfg (F := Ideal)).N) (h10 : (rowOf (pr t)).val = 10) (a : Fin 768) (e : Fin 256) :
    (traj m c (t.val + 1)).ok (ix3 0 a e) = gradK (arrays m c) (hd t) (kRow (keyOf (pr t)) a) e := by
  obtain ⟨-, -, -, b4, -⟩ := after_eq m c t _ _ (good c (grid0.coords t)).1 (words c (grid0.coords t)) (traj m c t.val) (traj m c (t.val + 1)) (traj_succ m c t)
  rw [(b4 h10).1, pay7_at, (sum_after m c t.val t.isLt).2.1]
  exact (key_whole _ (pr t) a e h10 fun i hi => addK_before _ _ i _ a e hi).trans (whole_k _ _ _ a e)

theorem ov_last (t : Fin (cfg (F := Ideal)).N) (h10 : (rowOf (pr t)).val = 10) (a : Fin 768) (e : Fin 128) :
    (traj m c (t.val + 1)).ov (ix3 0 a e) = gradV (arrays m c) (hd t) (kRow (keyOf (pr t)) a) e := by
  obtain ⟨-, -, -, b4, -⟩ := after_eq m c t _ _ (good c (grid0.coords t)).1 (words c (grid0.coords t)) (traj m c t.val) (traj m c (t.val + 1)) (traj_succ m c t)
  rw [(b4 h10).2, pay8_at, (sum_after m c t.val t.isLt).2.2]
  exact (key_whole _ (pr t) a e h10 fun i hi => addV_before _ _ i _ a e hi).trans (whole_v _ _ _ a e)

theorem covers6 : ((cfg (F := Ideal)).win 6).Covers :=
  ((cfg (F := Ideal)).win 6).covers_of_indexMap_surj rfl (by decide) fun β => by
    obtain ⟨p, hp⟩ := every_key (β 1)
    refine ⟨point (β 0) p, fun a => ?_⟩
    refine (congrFun (shown _ p).2.2.2.2.2.2.1 a).trans ?_
    match a with
    | 0 => rfl
    | 1 => exact hp
    | 2 => exact (Nat.lt_one_iff.1 (β 2).isLt).symm
theorem covers7 : ((cfg (F := Ideal)).win 7).Covers :=
  ((cfg (F := Ideal)).win 7).covers_of_indexMap_surj rfl (by decide) fun β => by
    obtain ⟨p, hp⟩ := every_key (β 1)
    refine ⟨point (β 0) p, fun a => ?_⟩
    refine (congrFun (shown _ p).2.2.2.2.2.2.2 a).trans ?_
    match a with
    | 0 => rfl
    | 1 => exact hp
    | 2 => exact (Nat.lt_one_iff.1 (β 2).isLt).symm

theorem place6 (t : Fin (cfg (F := Ideal)).N) (y : S1x768x256.Idx) :
    (((cfg (F := Ideal)).win 6).blk t).view.emb y = (ix3 (hd t) (kRow (keyOf (pr t)) (y 1)) (y 2) : S8x16896x256.Idx) := by
  have h := index_eq t 6 (shown (hd t) (pr t)).2.2.2.2.2.2.1
  refine funext fun ax => Fin.ext ?_
  match ax with
  | 0 => blk_simp [h]
  | 1 => blk_simp [h]; rfl
  | 2 => blk_simp [h]

theorem dk_array : (dat m c).arrAt 6 (cfg (F := Ideal)).N = fun i : S8x16896x256.Idx => gradK (arrays m c) (i 0) (i 1) (i 2) := by
  refine (dat m c).arrAt_eq_of_covers 6 _ covers6 fun t hf (y : S1x768x256.Idx) => ?_
  have h10 := last_of_flush 6 (fun h p => ((shown h p).2.2.2.2.2.2.1).trans (funext fun | 0 => rfl | 1 => rfl | 2 => rfl)) t hf
  rw [place6]
  refine Eq.trans (congrArg (traj m c (t.val + 1)).ok ?_) (ok_last m c t h10 (y 1) (y 2))
  funext ax
  match ax with
  | 0 => exact Fin.ext (Nat.lt_one_iff.1 (y 0).isLt)
  | 1 => rfl
  | 2 => rfl

theorem place7 (t : Fin (cfg (F := Ideal)).N) (y : S1x768x128.Idx) :
    (((cfg (F := Ideal)).win 7).blk t).view.emb y = (ix3 (hd t) (kRow (keyOf (pr t)) (y 1)) (y 2) : S8x16896x128.Idx) := by
  have h := index_eq t 7 (shown (hd t) (pr t)).2.2.2.2.2.2.2
  refine funext fun ax => Fin.ext ?_
  match ax with
  | 0 => blk_simp [h]
  | 1 => blk_simp [h]; rfl
  | 2 => blk_simp [h]

theorem dv_array : (dat m c).arrAt 7 (cfg (F := Ideal)).N = fun i : S8x16896x128.Idx => gradV (arrays m c) (i 0) (i 1) (i 2) := by
  refine (dat m c).arrAt_eq_of_covers 7 _ covers7 fun t hf (y : S1x768x128.Idx) => ?_
  have h10 := last_of_flush 7 (fun h p => ((shown h p).2.2.2.2.2.2.2).trans (funext fun | 0 => rfl | 1 => rfl | 2 => rfl)) t hf
  rw [place7]
  refine Eq.trans (congrArg (traj m c (t.val + 1)).ov ?_) (ov_last m c t h10 (y 1) (y 2))
  funext ax
  match ax with
  | 0 => exact Fin.ext (Nat.lt_one_iff.1 (y 0).isLt)
  | 1 => rfl
  | 2 => rfl

end Cert.AttnIdeal.Value

end
-- ==== Proof.AttnHost.lean ====
/-
  What the host's lines give the attention's gradient: the padded arrays, each row's logarithm of the sum, and each
  row's sum of the output times its gradient.
-/
module

public import proofs.«01_k».proof.Proof.AttnBlocks
public import Idealize.ShloMosaic.Lib.Pointwise
public import Idealize.ShloMosaic.Lib.WordCmp

@[expose] public section

set_option maxRecDepth 16384

noncomputable section

open Idealize.ShloMosaic Idealize.ShloMosaic.TcCoe Idealize.SL.Sem Idealize.ShloMosaic.Tactic

namespace Cert.AttnIdeal.Value

open Cert.AttnIdeal Cert.AttnIdeal.Gen Cert.AttnIdeal.Hand

abbrev Heads := FVec Ideal S8x16896x256 .f32
abbrev Values := FVec Ideal S8x16896x128 .f32
abbrev Pairs := FVec Ideal S8x16896x16896 .f32

def ln2 : FVec Ideal S_ .f32 := Host.log (F := Ideal) (constant (F := Ideal) S_ .f32 0x40000000#32)

/-- The scores in base 2, those of later keys at −∞. -/
def masked (q k : Heads) : Pairs :=
  select (cmpi .sge (iotaInDim S8x16896x16896 32 1) (iotaInDim S8x16896x16896 32 2))
    (Host.divf (F := Ideal) (Host.divf (F := Ideal) (Host.dotGeneral (F := Ideal) dot_S8x16896x256_S8x16896x256_S8x16896x16896_2_2_1_1_0_0 none q k)
      (broadcastInDim S8x16896x16896 ![] bcast_S_S8x16896x16896 (Host.sqrt (F := Ideal) (constant (F := Ideal) S_ .f32 0x43400000#32))))
      (broadcastInDim S8x16896x16896 ![] bcast_S_S8x16896x16896 ln2))
    (broadcastInDim S8x16896x16896 ![] bcast_S_S8x16896x16896 (constant (F := Ideal) S_ .f32 0xFF800000#32))

/-- Each row's greatest score. -/
def top (s : Pairs) : FVec Ideal S8x16896x1 .f32 :=
  broadcastInDim S8x16896x1 ![0, 1] bcast_S8x16896_S8x16896x1_0_1
    (Host.reduce FloatOps.maximumf s (constant (F := Ideal) S_ .f32 0xFF800000#32) reducesTo_S8x16896x16896_S8x16896_d2 h_S_)

def expo (s : Pairs) (M : FVec Ideal S8x16896x1 .f32) : Pairs :=
  Host.exp (F := Ideal) (mulf (subf s (broadcastInDim S8x16896x16896 ![0, 1, 2] bcast_S8x16896x1_S8x16896x16896_0_1_2 M))
    (broadcastInDim S8x16896x16896 ![] bcast_S_S8x16896x16896 ln2))

def total (x : Pairs) : FVec Ideal S8x16896x1 .f32 :=
  broadcastInDim S8x16896x1 ![0, 1] bcast_S8x16896_S8x16896x1_0_1
    (Host.reduceAdd (F := Ideal) x (constant (F := Ideal) S_ .f32 0x00000000#32) reducesTo_S8x16896x16896_S8x16896_d2 h_S_)

def logsum (M Z : FVec Ideal S8x16896x1 .f32) : FVec Ideal S8x1x16896 .f32 :=
  shapeCast S8x1x16896 (addf M (Host.divf (F := Ideal) (Host.log (F := Ideal) Z) (broadcastInDim S8x16896x1 ![] bcast_S_S8x16896x1 ln2))) shapeCasts_S8x16896x1_S8x1x16896

def result (x : Pairs) (Z : FVec Ideal S8x16896x1 .f32) (v : Values) : Values :=
  Host.divf (F := Ideal) (Host.dotGeneral (F := Ideal) dot_S8x16896x16896_S8x16896x128_S8x16896x128_2_1_1_2_0_0 none x v)
    (broadcastInDim S8x16896x128 ![0, 1, 2] bcast_S8x16896x1_S8x16896x128_0_1_2 Z)

def rowsum (o : FVec Ideal S16896x1024 .f32) (y : Values) : FVec Ideal S8x1x16896 .f32 :=
  shapeCast S8x1x16896 (Host.reduceAdd (F := Ideal) (mulf (transpose S8x16896x128 [1, 0, 2] (shapeCast S16896x8x128 o shapeCasts_S16896x1024_S16896x8x128) transposes_S16896x8x128_S8x16896x128_1_0_2) y)
    (constant (F := Ideal) S_ .f32 0x00000000#32) reducesTo_S8x16896x128_S8x16896_d2 h_S_) shapeCasts_S8x16896_S8x1x16896

variable (m : (ℓ : Loc nD τ sig) → Buf (Elt Ideal) ℓ) (c : Dev nD)

theorem v36_eq : V m c main_v36 = logsum (top (masked (V m c main_v1) (V m c main_v3)))
    (total (expo (masked (V m c main_v1) (V m c main_v3)) (top (masked (V m c main_v1) (V m c main_v3))))) := by
  unfold V
  after_results
  rfl

theorem v41_eq : V m c main_v41 = rowsum (V m c main_v7)
    (result (expo (masked (V m c main_v1) (V m c main_v3)) (top (masked (V m c main_v1) (V m c main_v3))))
      (total (expo (masked (V m c main_v1) (V m c main_v3)) (top (masked (V m c main_v1) (V m c main_v3))))) (V m c main_v5)) := by
  unfold V
  after_results
  rfl

/-- Rows of zeros after the array's. -/
def padHeads (x : FVec Ideal S8x16400x256 .f32) : Heads :=
  concatenate S8x16896x256 1 [⟨S8x16400x256, x⟩, ⟨S8x496x256, broadcastInDim S8x496x256 ![] bcast_S_S8x496x256 (constant (F := Ideal) S_ .f32 0x00000000#32)⟩] concatenates_S8x16400x256_S8x496x256_S8x16896x256_d1
def padValues (x : FVec Ideal S8x16400x128 .f32) : Values :=
  concatenate S8x16896x128 1 [⟨S8x16400x128, x⟩, ⟨S8x496x128, broadcastInDim S8x496x128 ![] bcast_S_S8x496x128 (constant (F := Ideal) S_ .f32 0x00000000#32)⟩] concatenates_S8x16400x128_S8x496x128_S8x16896x128_d1
def padRows (x : FVec Ideal S16400x1024 .f32) : FVec Ideal S16896x1024 .f32 :=
  concatenate S16896x1024 0 [⟨S16400x1024, x⟩, ⟨S496x1024, broadcastInDim S496x1024 ![] bcast_S_S496x1024 (constant (F := Ideal) S_ .f32 0x00000000#32)⟩] concatenates_S16400x1024_S496x1024_S16896x1024_d0

theorem v1_eq : V m c main_v1 = padHeads (m ((c : Thread nD τ).loc main_arg0)) := by
  unfold V
  after_results
  rfl
theorem v3_eq : V m c main_v3 = padHeads (m ((c : Thread nD τ).loc main_arg1)) := by
  unfold V
  after_results
  rfl
theorem v5_eq : V m c main_v5 = padValues (m ((c : Thread nD τ).loc main_arg2)) := by
  unfold V
  after_results
  rfl
theorem v7_eq : V m c main_v7 = padRows (m ((c : Thread nD τ).loc main_arg3)) := by
  unfold V
  after_results
  rfl
theorem v42_eq : V m c main_v42 = (truncf .bf16 (V m c main_v1 : Heads) bitsLt_bf16_f32 : FVec Ideal S8x16896x256 .bf16) := by
  unfold V
  after_results
theorem v43_eq : V m c main_v43 = (truncf .bf16 (V m c main_v3 : Heads) bitsLt_bf16_f32 : FVec Ideal S8x16896x256 .bf16) := by
  unfold V
  after_results
theorem v44_eq : V m c main_v44 = (truncf .bf16 (V m c main_v5 : Values) bitsLt_bf16_f32 : FVec Ideal S8x16896x128 .bf16) := by
  unfold V
  after_results
theorem v45_eq : V m c main_v45 = (truncf .bf16 (V m c main_v7 : FVec Ideal S16896x1024 .f32) bitsLt_bf16_f32 : FVec Ideal S16896x1024 .bf16) := by
  unfold V
  after_results

section Stages
variable (h : Fin 8) (ρ κ : Fin 16896)

theorem padHeads_at (x : FVec Ideal S8x16400x256 .f32) (e : Fin 256) :
    padHeads x (ix3 h ρ e) = if hr : ρ.val < 16400 then x (ix3 h ⟨ρ.val, hr⟩ e) else 0 := by
  unfold padHeads
  pointwise
theorem padValues_at (x : FVec Ideal S8x16400x128 .f32) (e : Fin 128) :
    padValues x (ix3 h ρ e) = if hr : ρ.val < 16400 then x (ix3 h ⟨ρ.val, hr⟩ e) else 0 := by
  unfold padValues
  pointwise
theorem padRows_at (x : FVec Ideal S16400x1024 .f32) (e : Fin 1024) :
    padRows x (ix2 ρ e) = if hr : ρ.val < 16400 then x (ix2 ⟨ρ.val, hr⟩ e) else 0 := by
  unfold padRows
  pointwise

/-- √192 and log 2, as the host computes them. -/
def root : EReal := Ideal.sqrt (Ideal.ofBits .f32 0x43400000#32)
def log2 : EReal := Ideal.log (Ideal.ofBits .f32 0x40000000#32)

theorem masked_at (q k : Heads) : masked q k (ix3 h ρ κ)
    = if κ ≤ ρ then Ideal.div (Ideal.div (∑ x, q (ix3 h ρ x) * k (ix3 h κ x)) root) log2 else ⊥ := by
  unfold masked ln2
  pointwise
  rw [WordCmp.cmpi_sge_ofNat (by omega) (by omega), WordCmp.select_ofBool]
  unfold root log2
  congr 1
  · exact propext (by rw [decide_eq_true_eq]; exact Iff.rfl)
theorem top_at (s : Pairs) : top s (ix3 h ρ 0) = Finset.fold max ⊥ (fun κ => s (ix3 h ρ κ)) Finset.univ := by
  unfold top
  pointwise
  congr 1
theorem expo_at (s : Pairs) (M) : expo s M (ix3 h ρ κ) = Ideal.exp ((s (ix3 h ρ κ) - M (ix3 h ρ 0)) * log2) := by
  unfold expo ln2 log2
  pointwise
theorem total_at (s : Pairs) : total s (ix3 h ρ 0) = ∑ κ, s (ix3 h ρ κ) := by
  unfold total
  pointwise
theorem logsum_at (M Z) : logsum M Z (ix3 h 0 ρ) = M (ix3 h ρ 0) + Ideal.div (Ideal.log (Z (ix3 h ρ 0))) log2 := by
  unfold logsum ln2 log2
  pointwise
theorem result_at (x Z v) (e : Fin 128) : result x Z v (ix3 h ρ e) = Ideal.div (∑ κ, x (ix3 h ρ κ) * v (ix3 h κ e)) (Z (ix3 h ρ 0)) := by
  unfold result
  pointwise
theorem rowsum_at (o y) : rowsum o y (ix3 h 0 ρ) = ∑ e, o (ix2 ρ (col h e)) * y (ix3 h ρ e) := by
  unfold rowsum
  pointwise
  rfl
end Stages

end Cert.AttnIdeal.Value

end
-- ==== Proof.AttnMath.lean ====
/-
  Causal attention over the real numbers, and its gradients: the weights, a score's gradient, and the three sums; what
  the two ways to compute them, with a row's greatest score taken off, come to.
-/
module

public import proofs.«01_k».proof.Proof.NormMath
public import proofs.«01_k».proof.Proof.Sums

@[expose] public section

noncomputable section

open Idealize.ShloMosaic
open Cert.RealCoe

namespace Cert.AttnMath

/-! ### The definitions -/

section Defs
variable {n d e : ℕ} (q k : Fin n → Fin d → ℝ) (v o : Fin n → Fin e → ℝ)

def score (ρ κ : Fin n) : ℝ := (∑ x, q ρ x * k κ x) / Real.sqrt 192
/-- The exponentials of a row's scores, with `a` taken off, those of later keys left out. -/
def up (a : ℝ) (ρ κ : Fin n) : ℝ := if κ ≤ ρ then Real.exp (score q k ρ κ - a) else 0
def mass (a : ℝ) (ρ : Fin n) : ℝ := ∑ κ, up q k a ρ κ
def soft (ρ κ : Fin n) : ℝ := up q k 0 ρ κ / mass q k 0 ρ
def dp (ρ κ : Fin n) : ℝ := ∑ x, o ρ x * v κ x
def ds (ρ κ : Fin n) : ℝ := soft q k ρ κ * (dp v o ρ κ - ∑ κ', soft q k ρ κ' * dp v o ρ κ') / Real.sqrt 192
def gq (ρ : Fin n) (x : Fin d) : ℝ := ∑ κ, ds q k v o ρ κ * k κ x
def gk (κ : Fin n) (x : Fin d) : ℝ := ∑ ρ, ds q k v o ρ κ * q ρ x
def gv (κ : Fin n) (x : Fin e) : ℝ := ∑ ρ, soft q k ρ κ * o ρ x

theorem root_pos : 0 < Real.sqrt 192 := Real.sqrt_pos.2 (by norm_num)

theorem mass_pos (a : ℝ) (ρ : Fin n) : 0 < mass q k a ρ := by
  refine Finset.sum_pos' (fun κ _ => ?_) ⟨ρ, Finset.mem_univ _, ?_⟩
  · unfold up; split
    · exact (Real.exp_pos _).le
    · exact le_refl _
  · unfold up; rw [if_pos (le_refl _)]; exact Real.exp_pos _

/-- Whatever is taken off a row's scores, the weights are the same. -/
theorem soft_shift (a : ℝ) (ρ κ : Fin n) : up q k a ρ κ / mass q k a ρ = soft q k ρ κ := by
  have h : ∀ κ, up q k a ρ κ = up q k 0 ρ κ * Real.exp (-a) := fun κ => by
    unfold up
    split
    · rw [← Real.exp_add]; congr 1; ring
    · rw [zero_mul]
  have h2 : mass q k a ρ = mass q k 0 ρ * Real.exp (-a) := by
    unfold mass
    rw [Finset.sum_mul]
    exact Finset.sum_congr rfl fun κ _ => h κ
  unfold soft
  rw [h, h2, mul_div_mul_right _ _ (Real.exp_pos _).ne']

theorem soft_after {ρ κ : Fin n} (h : ¬ κ ≤ ρ) : soft q k ρ κ = 0 := by
  unfold soft up; rw [if_neg h, zero_div]

end Defs

/-! ### Rows of zeros after the array's -/

section Pad
variable {n N d e : ℕ} (hn : n ≤ N)

def pad (x : Fin n → Fin d → ℝ) (ρ : Fin N) (y : Fin d) : ℝ := if h : ρ.val < n then x ⟨ρ.val, h⟩ y else 0

theorem pad_lt (x : Fin n → Fin d → ℝ) {ρ : Fin N} (h : ρ.val < n) (y : Fin d) : pad x ρ y = x ⟨ρ.val, h⟩ y := dif_pos h
theorem pad_ge (x : Fin n → Fin d → ℝ) {ρ : Fin N} (h : ¬ ρ.val < n) (y : Fin d) : pad x ρ y = 0 := dif_neg h

variable (q k : Fin n → Fin d → ℝ) (v o : Fin n → Fin e → ℝ)

theorem score_pad (ρ κ : Fin N) (hρ : ρ.val < n) (hκ : κ.val < n) : score (pad (N := N) q) (pad k) ρ κ = score q k ⟨ρ.val, hρ⟩ ⟨κ.val, hκ⟩ := by
  unfold score
  simp only [pad_lt q hρ, pad_lt k hκ]

theorem up_pad (ρ κ : Fin N) (hρ : ρ.val < n) (hκ : κ.val < n) : up (pad (N := N) q) (pad k) 0 ρ κ = up q k 0 ⟨ρ.val, hρ⟩ ⟨κ.val, hκ⟩ := by
  unfold up
  rw [score_pad q k ρ κ hρ hκ]
  rfl

include hn in
theorem mass_pad (ρ : Fin N) (hρ : ρ.val < n) : mass (pad (N := N) q) (pad k) 0 ρ = mass q k 0 ⟨ρ.val, hρ⟩ := by
  unfold mass
  refine (Sums.fin_prefix hn _ fun κ hκ => ?_).trans (Finset.sum_congr rfl fun κ _ => up_pad q k ρ _ hρ κ.isLt)
  exact if_neg fun hc => by have : κ.val ≤ ρ.val := hc; omega

include hn in
theorem soft_pad (ρ κ : Fin N) (hρ : ρ.val < n) (hκ : κ.val < n) : soft (pad (N := N) q) (pad k) ρ κ = soft q k ⟨ρ.val, hρ⟩ ⟨κ.val, hκ⟩ := by
  unfold soft
  rw [up_pad q k ρ κ hρ hκ, mass_pad hn q k ρ hρ]

theorem dp_pad (ρ κ : Fin N) (hρ : ρ.val < n) (hκ : κ.val < n) : dp (pad (N := N) v) (pad o) ρ κ = dp v o ⟨ρ.val, hρ⟩ ⟨κ.val, hκ⟩ := by
  unfold dp
  simp only [pad_lt o hρ, pad_lt v hκ]

theorem dp_pad_after (ρ κ : Fin N) (hρ : ¬ ρ.val < n) : dp (pad (N := N) v) (pad o) ρ κ = 0 := by
  unfold dp
  simp only [pad_ge o hρ, zero_mul, Finset.sum_const_zero]

include hn in
theorem ds_pad (ρ κ : Fin N) (hρ : ρ.val < n) (hκ : κ.val < n) : ds (pad (N := N) q) (pad k) (pad v) (pad o) ρ κ = ds q k v o ⟨ρ.val, hρ⟩ ⟨κ.val, hκ⟩ := by
  unfold ds
  rw [soft_pad hn q k ρ κ hρ hκ, dp_pad v o ρ κ hρ hκ]
  congr 3
  refine (Sums.fin_prefix hn _ fun κ hκ => ?_).trans (Finset.sum_congr rfl fun κ _ => by rw [soft_pad hn q k ρ _ hρ κ.isLt, dp_pad v o ρ _ hρ κ.isLt])
  rw [soft_after _ _ (fun hc => by have : κ.val ≤ ρ.val := hc; omega), zero_mul]

theorem ds_pad_row (ρ κ : Fin N) (hρ : ¬ ρ.val < n) : ds (pad (N := N) q) (pad k) (pad v) (pad o) ρ κ = 0 := by
  unfold ds
  simp only [dp_pad_after v o ρ _ hρ, mul_zero, Finset.sum_const_zero, sub_zero, zero_div]

theorem ds_pad_key (ρ κ : Fin N) (hρ : ρ.val < n) (hκ : ¬ κ.val < n) : ds (pad (N := N) q) (pad k) (pad v) (pad o) ρ κ = 0 := by
  unfold ds
  rw [soft_after _ _ (fun hc => by have : κ.val ≤ ρ.val := hc; omega), zero_mul, zero_div]

include hn in
theorem gq_pad (ρ : Fin N) (x : Fin d) : gq (pad (N := N) q) (pad k) (pad v) (pad o) ρ x = pad (gq q k v o) ρ x := by
  unfold gq
  by_cases hρ : ρ.val < n
  · rw [pad_lt _ hρ]
    refine (Sums.fin_prefix hn _ fun κ hκ => ?_).trans (Finset.sum_congr rfl fun κ _ => by rw [ds_pad hn q k v o ρ _ hρ κ.isLt, show pad (N := N) k ⟨κ.val, _⟩ x = k κ x from pad_lt k κ.isLt x])
    rw [ds_pad_key q k v o ρ κ hρ (by omega), zero_mul]
  · rw [pad_ge _ hρ]
    exact Finset.sum_eq_zero fun κ _ => by rw [ds_pad_row q k v o ρ κ hρ, zero_mul]

include hn in
theorem gk_pad (κ : Fin N) (x : Fin d) : gk (pad (N := N) q) (pad k) (pad v) (pad o) κ x = pad (gk q k v o) κ x := by
  unfold gk
  by_cases hκ : κ.val < n
  · rw [pad_lt _ hκ]
    refine (Sums.fin_prefix hn _ fun ρ hρ => ?_).trans (Finset.sum_congr rfl fun ρ _ => by rw [ds_pad hn q k v o _ κ ρ.isLt hκ, show pad (N := N) q ⟨ρ.val, _⟩ x = q ρ x from pad_lt q ρ.isLt x])
    rw [ds_pad_row q k v o ρ κ (by omega), zero_mul]
  · rw [pad_ge _ hκ]
    refine Finset.sum_eq_zero fun ρ _ => ?_
    by_cases hρ : ρ.val < n
    · rw [ds_pad_key q k v o ρ κ hρ hκ, zero_mul]
    · rw [ds_pad_row q k v o ρ κ hρ, zero_mul]

include hn in
theorem gv_pad (κ : Fin N) (x : Fin e) : gv (pad (N := N) q) (pad k) (pad (N := N) o) κ x = pad (gv q k o) κ x := by
  unfold gv
  by_cases hκ : κ.val < n
  · rw [pad_lt _ hκ]
    refine (Sums.fin_prefix hn _ fun ρ hρ => ?_).trans (Finset.sum_congr rfl fun ρ _ => by rw [soft_pad hn q k _ κ ρ.isLt hκ, show pad (N := N) o ⟨ρ.val, _⟩ x = o ρ x from pad_lt o ρ.isLt x])
    rw [pad_ge o (by omega), mul_zero]
  · rw [pad_ge _ hκ]
    refine Finset.sum_eq_zero fun ρ _ => ?_
    by_cases hρ : ρ.val < n
    · rw [soft_after _ _ (fun hc => by have : κ.val ≤ ρ.val := hc; omega), zero_mul]
    · rw [pad_ge o hρ, mul_zero]

end Pad

/-! ### A row's exponentials among the extended reals -/

section Row
variable {n d e : ℕ} (q k : Fin n → Fin d → ℝ) (v o : Fin n → Fin e → ℝ) (ρ : Fin n)

/-- The greatest of scores of which the last is a real number, and none is +∞. -/
theorem greatest_real (S : Fin n → EReal) (x : Fin n → ℝ) (hS : ∀ κ, S κ = if κ ≤ ρ then ((x κ : ℝ) : EReal) else ⊥) :
    ∃ M : ℝ, Finset.fold max ⊥ S Finset.univ = ((M : ℝ) : EReal) := by
  have e : Finset.fold max ⊥ S Finset.univ = Finset.univ.sup S := rfl
  obtain ⟨i, -, hi⟩ := Finset.exists_mem_eq_sup Finset.univ ⟨ρ, Finset.mem_univ _⟩ S
  have hle : S ρ ≤ Finset.univ.sup S := Finset.le_sup (Finset.mem_univ ρ)
  rw [e, hi]
  rw [hi, hS ρ, if_pos (le_refl _), hS i] at hle
  rw [hS i]
  by_cases hc : i ≤ ρ
  · exact ⟨x i, if_pos hc⟩
  · rw [if_neg hc] at hle
    exact absurd (le_bot_iff.1 hle) (EReal.coe_ne_bot _)

/-- An exponential of a score, with the greatest taken off, in units of `1 / L`. -/
theorem exp_real (L M : ℝ) (hL : 0 < L) (S : EReal) (κ : Fin n) (hS : S = if κ ≤ ρ then ((score q k ρ κ / L : ℝ) : EReal) else ⊥) :
    Ideal.exp ((S - (M : EReal)) * (L : EReal)) = ((up q k (M * L) ρ κ : ℝ) : EReal) := by
  unfold up
  rw [hS]
  split
  · rw [← EReal.coe_sub, ← EReal.coe_mul, Ideal.exp_coe]
    congr 2
    field_simp
  · rw [EReal.bot_sub, EReal.bot_mul_coe_of_pos hL, Ideal.exp_bot, EReal.coe_zero]

/-- A weight, from the logarithm of the row's sum in base two. -/
theorem weight_real (M : ℝ) (κ : Fin n) (hκ : κ ≤ ρ) :
    Ideal.exp2 (((score q k ρ κ / Real.log 2 : ℝ) : EReal) - (((M : ℝ) : EReal) + Ideal.div (Ideal.log ((mass q k (M * Real.log 2) ρ : ℝ) : EReal)) ((Real.log 2 : ℝ) : EReal)))
      = ((soft q k ρ κ : ℝ) : EReal) := by
  have hl : (0 : ℝ) < Real.log 2 := Real.log_pos (by norm_num)
  have hZ := mass_pos q k (M * Real.log 2) ρ
  rw [Ideal.log_coe, if_neg (not_le.2 hZ), Cert.NormMath.div_real hl.ne', ← EReal.coe_add, ← EReal.coe_sub, Ideal.exp2_coe, ← soft_shift q k (M * Real.log 2)]
  congr 1
  unfold up
  rw [if_pos hκ]
  rw [show ∀ y : ℝ, Real.rpow 2 y = Real.exp (Real.log 2 * y) from fun y => Real.rpow_def_of_pos (by norm_num) y]
  rw [show Real.log 2 * (score q k ρ κ / Real.log 2 - (M + Real.log (mass q k (M * Real.log 2) ρ) / Real.log 2))
      = (score q k ρ κ - M * Real.log 2) - Real.log (mass q k (M * Real.log 2) ρ) by field_simp; ring, Real.exp_sub, Real.exp_log hZ]

/-- A row's sum of the output times its gradient. -/
theorem delta_real (a : ℝ) :
    ∑ x, o ρ x * ((∑ κ, up q k a ρ κ * v κ x) / mass q k a ρ) = ∑ κ, soft q k ρ κ * dp v o ρ κ := by
  have h : ∀ x, o ρ x * ((∑ κ, up q k a ρ κ * v κ x) / mass q k a ρ) = ∑ κ, soft q k ρ κ * (o ρ x * v κ x) := fun x => by
    rw [Finset.sum_div, Finset.mul_sum]
    refine Finset.sum_congr rfl fun κ _ => ?_
    rw [← soft_shift q k a ρ κ]
    ring
  rw [Finset.sum_congr rfl fun x _ => h x, Finset.sum_comm]
  refine Finset.sum_congr rfl fun κ _ => ?_
  unfold dp
  rw [Finset.mul_sum]

/-- The quotient's derivative, and the exponential's, as they are printed. -/
theorem vjp_real (a : ℝ) (κ : Fin n) :
    (dp v o ρ κ / mass q k a ρ + -∑ κ', dp v o ρ κ' * (1 / (mass q k a ρ * mass q k a ρ)) * up q k a ρ κ') * up q k a ρ κ / Real.sqrt 192 = ds q k v o ρ κ := by
  have hZ := (mass_pos q k a ρ).ne'
  unfold ds
  have h : ∑ κ', soft q k ρ κ' * dp v o ρ κ' = mass q k a ρ * ∑ κ', dp v o ρ κ' * (1 / (mass q k a ρ * mass q k a ρ)) * up q k a ρ κ' := by
    rw [Finset.mul_sum]
    refine Finset.sum_congr rfl fun κ' _ => ?_
    rw [← soft_shift q k a ρ κ']
    field_simp
  rw [h, ← soft_shift q k a ρ κ]
  congr 1
  field_simp
  ring

end Row

theorem root_real : Ideal.sqrt (Ideal.ofBits .f32 0x43400000#32) = ((Real.sqrt 192 : ℝ) : EReal) := by
  rw [show Ideal.ofBits .f32 0x43400000#32 = ((192 : ℝ) : EReal) by simp [Ideal.ofBits, Ideal.ieee, -EReal.coe_mul]; norm_num, Ideal.sqrt_coe, if_neg (by norm_num)]
theorem log2_real : Ideal.log (Ideal.ofBits .f32 0x40000000#32) = ((Real.log 2 : ℝ) : EReal) := by
  rw [Cert.NormMath.ofBits_two, Ideal.log_coe, if_neg (by norm_num)]

end Cert.AttnMath

end
-- ==== Proof.AttnKernelReal.lean ====
/-
  The attention's gradient kernel on real arguments: its three results are the real gradients, with rows of zeros after
  them.
-/
module

public import proofs.«01_k».proof.Proof.AttnArr
public import proofs.«01_k».proof.Proof.AttnHost
public import proofs.«01_k».proof.Proof.AttnMath

@[expose] public section

set_option maxRecDepth 16384

noncomputable section

open Idealize.ShloMosaic Idealize.ShloMosaic.TcCoe Idealize.SL.Sem

namespace Cert.AttnIdeal.Value

open Cert.AttnIdeal Cert.AttnIdeal.Gen Cert.AttnIdeal.Hand Cert.RealCoe Cert.AttnMath

variable (m : (ℓ : Loc nD τ sig) → Buf (Elt Ideal) ℓ) (c : Dev nD)

/-- The call's arguments are these real numbers; the cotangent by heads. -/
structure Reals (Q K : Fin 8 → Fin 16400 → Fin 256 → ℝ) (W O : Fin 8 → Fin 16400 → Fin 128 → ℝ) : Prop where
  q : ∀ h ρ e, (m ((c : Thread nD τ).loc main_arg0) : FVec Ideal S8x16400x256 .f32) (ix3 h ρ e) = ((Q h ρ e : ℝ) : EReal)
  k : ∀ h ρ e, (m ((c : Thread nD τ).loc main_arg1) : FVec Ideal S8x16400x256 .f32) (ix3 h ρ e) = ((K h ρ e : ℝ) : EReal)
  v : ∀ h ρ e, (m ((c : Thread nD τ).loc main_arg2) : FVec Ideal S8x16400x128 .f32) (ix3 h ρ e) = ((W h ρ e : ℝ) : EReal)
  o : ∀ h ρ e, (m ((c : Thread nD τ).loc main_arg3) : FVec Ideal S16400x1024 .f32) (ix2 ρ (col h e)) = ((O h ρ e : ℝ) : EReal)

theorem pad_coe {n d : ℕ} (x : Fin n → Fin d → ℝ) (ρ : Fin 16896) (e : Fin d) (f : (h : ρ.val < n) → EReal) (hf : ∀ h, f h = ((x ⟨ρ.val, h⟩ e : ℝ) : EReal)) :
    (if h : ρ.val < n then f h else 0) = ((pad x ρ e : ℝ) : EReal) := by
  unfold AttnMath.pad
  split
  · exact hf _
  · rfl

section Read
variable {m c} {Q K : Fin 8 → Fin 16400 → Fin 256 → ℝ} {W O : Fin 8 → Fin 16400 → Fin 128 → ℝ} (H : Reals m c Q K W O) (h : Fin 8) (ρ κ : Fin 16896)
include H

theorem v1_at (e : Fin 256) : (V m c main_v1 : Heads) (ix3 h ρ e) = ((pad (Q h) ρ e : ℝ) : EReal) := by
  rw [v1_eq]; exact (padHeads_at h ρ _ e).trans (pad_coe (Q h) ρ e _ fun hr => H.q h _ e)
theorem v3_at (e : Fin 256) : (V m c main_v3 : Heads) (ix3 h ρ e) = ((pad (K h) ρ e : ℝ) : EReal) := by
  rw [v3_eq]; exact (padHeads_at h ρ _ e).trans (pad_coe (K h) ρ e _ fun hr => H.k h _ e)
theorem v5_at (e : Fin 128) : (V m c main_v5 : Values) (ix3 h ρ e) = ((pad (W h) ρ e : ℝ) : EReal) := by
  rw [v5_eq]; exact (padValues_at h ρ _ e).trans (pad_coe (W h) ρ e _ fun hr => H.v h _ e)
theorem v7_at (e : Fin 128) : (V m c main_v7 : FVec Ideal S16896x1024 .f32) (ix2 ρ (col h e)) = ((pad (O h) ρ e : ℝ) : EReal) := by
  rw [v7_eq]; exact (padRows_at ρ _ _).trans (pad_coe (O h) ρ e _ fun hr => H.o h _ e)

theorem q_at (e : Fin 256) : (arrays m c).q (ix3 h ρ e) = ((pad (Q h) ρ e : ℝ) : EReal) := by
  show V m c main_v42 _ = _; rw [v42_eq]; exact v1_at H h ρ e
theorem k_at (e : Fin 256) : (arrays m c).k (ix3 h ρ e) = ((pad (K h) ρ e : ℝ) : EReal) := by
  show V m c main_v43 _ = _; rw [v43_eq]; exact v3_at H h ρ e
theorem v_at (e : Fin 128) : (arrays m c).v (ix3 h ρ e) = ((pad (W h) ρ e : ℝ) : EReal) := by
  show V m c main_v44 _ = _; rw [v44_eq]; exact v5_at H h ρ e
theorem o_at (e : Fin 128) : (arrays m c).o (ix2 ρ (col h e)) = ((pad (O h) ρ e : ℝ) : EReal) := by
  show V m c main_v45 _ = _; rw [v45_eq]; exact v7_at H h ρ e

theorem score_at : masked (V m c main_v1) (V m c main_v3) (ix3 h ρ κ)
    = if κ ≤ ρ then ((score (pad (Q h)) (pad (K h)) ρ κ / Real.log 2 : ℝ) : EReal) else ⊥ := by
  rw [masked_at]
  refine if_congr Iff.rfl ?_ rfl
  simp only [v1_at H, v3_at H, ← EReal.coe_mul]
  rw [← coe_sum, show root = _ from root_real, show log2 = _ from log2_real, Cert.NormMath.div_real root_pos.ne', Cert.NormMath.div_real (Real.log_pos (by norm_num)).ne']
  rfl

theorem top_real : ∃ M : ℝ, top (masked (V m c main_v1) (V m c main_v3)) (ix3 h ρ 0) = ((M : ℝ) : EReal) := by
  rw [top_at]
  exact greatest_real ρ _ (fun κ => score (pad (Q h)) (pad (K h)) ρ κ / Real.log 2) fun κ => score_at H h ρ κ

theorem exp_at {M : ℝ} (hM : top (masked (V m c main_v1) (V m c main_v3)) (ix3 h ρ 0) = ((M : ℝ) : EReal)) :
    expo (masked (V m c main_v1) (V m c main_v3)) (top (masked (V m c main_v1) (V m c main_v3))) (ix3 h ρ κ)
      = ((up (pad (Q h)) (pad (K h)) (M * Real.log 2) ρ κ : ℝ) : EReal) := by
  rw [expo_at, hM, show log2 = _ from log2_real]
  exact exp_real _ _ ρ (Real.log 2) M (Real.log_pos (by norm_num)) _ κ (score_at H h ρ κ)

theorem sum_at {M : ℝ} (hM : top (masked (V m c main_v1) (V m c main_v3)) (ix3 h ρ 0) = ((M : ℝ) : EReal)) :
    total (expo (masked (V m c main_v1) (V m c main_v3)) (top (masked (V m c main_v1) (V m c main_v3)))) (ix3 h ρ 0)
      = ((mass (pad (Q h)) (pad (K h)) (M * Real.log 2) ρ : ℝ) : EReal) := by
  rw [total_at]
  simp only [exp_at H h ρ _ hM]
  rw [← coe_sum]
  rfl

theorem wt_real : wt (arrays m c) h κ ρ = ((soft (pad (Q h)) (pad (K h)) ρ κ : ℝ) : EReal) := by
  unfold wt
  by_cases hc : κ ≤ ρ
  · rw [if_pos (show κ.val ≤ ρ.val from hc)]
    obtain ⟨M, hM⟩ := top_real H h ρ
    have hl := (congrFun (v36_eq (m := m) (c := c)) (ix3 h 0 ρ)).trans (logsum_at h ρ _ _)
    rw [show (arrays m c).l (ix3 h 0 ρ) = _ from hl, hM, sum_at H h ρ hM, show log2 = _ from log2_real]
    refine Eq.trans ?_ (weight_real _ _ ρ M κ hc)
    unfold weight
    refine congrArg (fun s : EReal => Ideal.exp2 (s - _)) ?_
    simp only [q_at H, k_at H, ← EReal.coe_mul]
    rw [← coe_sum, ← EReal.coe_mul]
    refine congrArg _ ?_
    unfold score
    rw [Finset.sum_congr rfl fun x _ => mul_comm (pad (K h) κ x) (pad (Q h) ρ x)]
    field_simp
  · rw [if_neg (show ¬κ.val ≤ ρ.val from hc), soft_after _ _ hc]; rfl

theorem delta_at : (arrays m c).d (ix3 h 0 ρ) = ((∑ κ, soft (pad (Q h)) (pad (K h)) ρ κ * dp (pad (W h)) (pad (O h)) ρ κ : ℝ) : EReal) := by
  obtain ⟨M, hM⟩ := top_real H h ρ
  refine ((congrFun (v41_eq m c) (ix3 h 0 ρ)).trans (rowsum_at h ρ _ _)).trans ?_
  rw [← delta_real (pad (Q h)) (pad (K h)) (pad (W h)) (pad (O h)) ρ (M * Real.log 2), coe_sum]
  refine Finset.sum_congr (ι := Fin 128) (M := EReal) rfl fun e _ => ?_
  rw [v7_at H, result_at, sum_at H h ρ hM]
  simp only [exp_at H h ρ _ hM, v5_at H, ← EReal.coe_mul]
  rw [← coe_sum, Cert.NormMath.div_real (mass_pos _ _ _ _).ne', ← EReal.coe_mul]

theorem dsc_real : dsc (arrays m c) h κ ρ = ((ds (pad (Q h)) (pad (K h)) (pad (W h)) (pad (O h)) ρ κ : ℝ) : EReal) := by
  unfold dsc dscore
  rw [wt_real H, delta_at H]
  simp only [v_at H, o_at H, ← EReal.coe_mul]
  rw [← coe_sum, ← EReal.coe_sub, ← EReal.coe_mul, ← EReal.coe_mul]
  refine congrArg _ ?_
  unfold ds dp
  rw [Finset.sum_congr rfl fun x _ => mul_comm (pad (W h) κ x) (pad (O h) ρ x), div_eq_mul_inv]

theorem gradQ_real (e : Fin 256) : gradQ (arrays m c) h ρ e = ((pad (gq (Q h) (K h) (W h) (O h)) ρ e : ℝ) : EReal) := by
  unfold gradQ
  simp only [dsc_real H, k_at H, ← EReal.coe_mul]
  rw [← coe_sum, ← gq_pad (by norm_num)]
  rfl
theorem gradK_real (e : Fin 256) : gradK (arrays m c) h κ e = ((pad (gk (Q h) (K h) (W h) (O h)) κ e : ℝ) : EReal) := by
  unfold gradK
  simp only [dsc_real H, q_at H, ← EReal.coe_mul]
  rw [← coe_sum, ← gk_pad (by norm_num)]
  rfl
theorem gradV_real (e : Fin 128) : gradV (arrays m c) h κ e = ((pad (gv (Q h) (K h) (O h)) κ e : ℝ) : EReal) := by
  unfold gradV
  simp only [wt_real H, o_at H, ← EReal.coe_mul]
  rw [← coe_sum, ← gv_pad (by norm_num)]
  rfl

end Read

end Cert.AttnIdeal.Value

end
-- ==== Proof.AttnRefRead.lean ====
/-
  What the reference's derivative computes, read position by position.
-/
module

public import proofs.«01_k».proof.Proof.Gen.AttnRefIdeal.Run
public import proofs.«01_k».proof.Proof.Gen.AttnRefIdeal.Read
public import Idealize.ShloMosaic.Lib.Pointwise
public import Idealize.ShloMosaic.Lib.WordCmp

@[expose] public section

set_option maxRecDepth 16384

noncomputable section

open Idealize.ShloMosaic Idealize.ShloMosaic.TcCoe Idealize.SL.Sem Idealize.ShloMosaic.Tactic

namespace Cert.AttnRefIdeal.Value

open Cert.AttnRefIdeal Cert.AttnRefIdeal.Gen Cert.AttnRefIdeal.Read

variable (x0 x1 : FVec Ideal S8x16400x256 .f32) (x2 : FVec Ideal S8x16400x128 .f32) (x3 : FVec Ideal S16400x1024 .f32)
variable (h : Fin 8) (ρ κ : Fin 16400)

def root : EReal := Ideal.sqrt (Ideal.ofBits .f32 0x43400000#32)

theorem score_at : val_main_v10_0 (F := Ideal) x0 x1 (ix3 h ρ κ) = if κ ≤ ρ then Ideal.div (∑ x, x0 (ix3 h ρ x) * x1 (ix3 h κ x)) root else ⊥ := by
  unfold val_main_v10_0 val_main_v10_1 val_main_v9 val_main_v8 val_main_v7 val_main_v6 val_main_v5 val_main_v0 val_main_call0_v2 val_main_call0_v0 val_main_cst_0 val_main_v4 val_main_v3 val_main_v2 val_main_cst val_main_v1
  pointwise
  rw [WordCmp.cmpi_sle_ofNat (by omega) (by omega), WordCmp.select_ofBool]
  unfold root
  congr 1
  exact propext (by rw [decide_eq_true_eq]; exact Iff.rfl)
def greatest (s : FVec Ideal S8x16400x16400 .f32) : FVec Ideal S8x16400 .f32 :=
  Host.reduce FloatOps.maximumf s (constant (F := Ideal) S_ .f32 0xFF800000#32) reducesTo_S8x16400x16400_S8x16400_d2 h_S_
theorem greatest_at (s : FVec Ideal S8x16400x16400 .f32) : greatest s (ix2 h ρ) = Finset.fold max ⊥ (fun κ => s (ix3 h ρ κ)) Finset.univ := by
  unfold greatest
  pointwise
  congr 1
theorem v11_eq : val_main_v11 (F := Ideal) x0 x1 = greatest (val_main_v10_0 (F := Ideal) x0 x1) := rfl
theorem max_at : val_main_v18 (F := Ideal) x0 x1 (ix2 h ρ) = Finset.fold max ⊥ (fun κ => val_main_v10_0 (F := Ideal) x0 x1 (ix3 h ρ κ)) Finset.univ := by
  rw [← greatest_at h ρ, val_main_v18_apply, val_main_v17_apply, val_main_cst_3_apply, v11_eq]
  generalize greatest (val_main_v10_0 (F := Ideal) x0 x1) (ix2 h ρ) = g
  show max (Ideal.ofBits .f32 0xFF800000#32) g = g
  rw [show Ideal.ofBits .f32 0xFF800000#32 = ⊥ by simp [Ideal.ofBits, Ideal.ieee]]
  exact max_eq_right bot_le
theorem exp_at : val_main_v31 (F := Ideal) x0 x1 (ix3 h ρ κ) = Ideal.exp (val_main_v10_0 (F := Ideal) x0 x1 (ix3 h ρ κ) - val_main_v18 (F := Ideal) x0 x1 (ix2 h ρ)) := by
  unfold val_main_v31 val_main_v30 val_main_v29 val_main_v28
  generalize val_main_v10_0 (F := Ideal) x0 x1 = s
  generalize val_main_v18 (F := Ideal) x0 x1 = t
  pointwise
theorem sum_at : val_main_v33 (F := Ideal) x0 x1 (ix3 h ρ 0) = ∑ κ, val_main_v31 (F := Ideal) x0 x1 (ix3 h ρ κ) := by
  unfold val_main_v33 val_main_v32 val_main_cst_9
  generalize val_main_v31 (F := Ideal) x0 x1 = s
  pointwise
/-- Column `e` of head `h`. -/
def col (e : Fin 128) : Fin 1024 := ⟨h.val * 128 + e.val, by omega⟩

theorem dp_at : val_main_v44 (F := Ideal) x2 x3 (ix3 h ρ κ) = ∑ e, x3 (ix2 ρ (col h e)) * x2 (ix3 h κ e) := by
  unfold val_main_v44 val_main_v43 val_main_v42
  pointwise
  rfl
theorem soft_at : val_main_v35 (F := Ideal) x0 x1 (ix3 h ρ κ) = Ideal.div (val_main_v31 (F := Ideal) x0 x1 (ix3 h ρ κ)) (val_main_v33 (F := Ideal) x0 x1 (ix3 h ρ 0)) := by
  unfold val_main_v35 val_main_v34
  generalize val_main_v31 (F := Ideal) x0 x1 = s
  generalize val_main_v33 (F := Ideal) x0 x1 = t
  pointwise
theorem dv_at (e : Fin 128) : val_main_v46 (F := Ideal) x0 x1 x3 (ix3 h κ e) = ∑ ρ, x3 (ix2 ρ (col h e)) * val_main_v35 (F := Ideal) x0 x1 (ix3 h ρ κ) := by
  unfold val_main_v46 val_main_v45 val_main_v43 val_main_v42
  generalize val_main_v35 (F := Ideal) x0 x1 = s
  pointwise
  rfl
theorem v58_at : val_main_v58 (F := Ideal) x0 x1 x2 x3 (ix3 h ρ κ) =
    (Ideal.div (val_main_v44 (F := Ideal) x2 x3 (ix3 h ρ κ)) (val_main_v33 (F := Ideal) x0 x1 (ix3 h ρ 0))
      + ∑ _x : Fin 1, -∑ κ', val_main_v44 (F := Ideal) x2 x3 (ix3 h ρ κ') * Ideal.div 1 (val_main_v33 (F := Ideal) x0 x1 (ix3 h ρ 0) * val_main_v33 (F := Ideal) x0 x1 (ix3 h ρ 0)) * val_main_v31 (F := Ideal) x0 x1 (ix3 h ρ κ'))
      * val_main_v31 (F := Ideal) x0 x1 (ix3 h ρ κ) := by
  unfold val_main_v58 val_main_v57 val_main_v56 val_main_v55 val_main_cst_12 val_main_v54 val_main_v53 val_main_v52 val_main_v51 val_main_v50 val_main_cst_11 val_main_v49 val_main_v48 val_main_v47 val_main_v38 val_main_v37 val_main_cst_10 val_main_v36
  generalize val_main_v31 (F := Ideal) x0 x1 = s
  generalize val_main_v33 (F := Ideal) x0 x1 = t
  generalize val_main_v44 (F := Ideal) x2 x3 = d
  pointwise
theorem ds_at : val_main_v61 (F := Ideal) x0 x1 x2 x3 (ix3 h ρ κ) = Ideal.div (if κ ≤ ρ then val_main_v58 (F := Ideal) x0 x1 x2 x3 (ix3 h ρ κ) else 0) root := by
  unfold val_main_v61 val_main_v60 val_main_v2 val_main_cst val_main_v59 val_main_call1_v0 val_main_call1_cst val_main_v10_1 val_main_v9 val_main_v8 val_main_v7 val_main_v6 val_main_v5 val_main_v0
  generalize val_main_v58 (F := Ideal) x0 x1 x2 x3 = s
  pointwise
  rw [WordCmp.cmpi_sle_ofNat (by omega) (by omega), WordCmp.select_ofBool]
  unfold root
  congr 1
  congr 1
  exact propext (by rw [decide_eq_true_eq]; exact Iff.rfl)
theorem dq_at (e : Fin 256) : val_main_v63 (F := Ideal) x0 x1 x2 x3 (ix3 h ρ e) = ∑ κ, val_main_v61 (F := Ideal) x0 x1 x2 x3 (ix3 h ρ κ) * x1 (ix3 h κ e) := by
  unfold val_main_v63
  generalize val_main_v61 (F := Ideal) x0 x1 x2 x3 = s
  pointwise
theorem dk_at (e : Fin 256) : val_main_v62 (F := Ideal) x0 x1 x2 x3 (ix3 h κ e) = ∑ ρ, val_main_v61 (F := Ideal) x0 x1 x2 x3 (ix3 h ρ κ) * x0 (ix3 h ρ e) := by
  unfold val_main_v62
  generalize val_main_v61 (F := Ideal) x0 x1 x2 x3 = s
  pointwise
variable (ρ' : Fin 16896)
theorem out_q (e : Fin 256) : val_main_v65 (F := Ideal) x0 x1 x2 x3 (ix3 h ρ' e) = if hr : ρ'.val < 16400 then val_main_v63 (F := Ideal) x0 x1 x2 x3 (ix3 h ⟨ρ'.val, hr⟩ e) else 0 := by
  unfold val_main_v65 val_main_v64 val_main_cst_13
  generalize val_main_v63 (F := Ideal) x0 x1 x2 x3 = s
  pointwise
theorem out_k (e : Fin 256) : val_main_v67 (F := Ideal) x0 x1 x2 x3 (ix3 h ρ' e) = if hr : ρ'.val < 16400 then val_main_v62 (F := Ideal) x0 x1 x2 x3 (ix3 h ⟨ρ'.val, hr⟩ e) else 0 := by
  unfold val_main_v67 val_main_v66 val_main_cst_14
  generalize val_main_v62 (F := Ideal) x0 x1 x2 x3 = s
  pointwise
theorem out_v (e : Fin 128) : val_main_v69 (F := Ideal) x0 x1 x3 (ix3 h ρ' e) = if hr : ρ'.val < 16400 then val_main_v46 (F := Ideal) x0 x1 x3 (ix3 h ⟨ρ'.val, hr⟩ e) else 0 := by
  unfold val_main_v69 val_main_v68 val_main_cst_15
  generalize val_main_v46 (F := Ideal) x0 x1 x3 = s
  pointwise

end Cert.AttnRefIdeal.Value

end
-- ==== Proof.AttnRefReal.lean ====
/-
  The reference's derivative of the attention on real arguments: its three results are the real gradients, with rows of
  zeros after them.
-/
module

public import proofs.«01_k».proof.Proof.AttnRefRead
public import proofs.«01_k».proof.Proof.AttnMath

@[expose] public section

set_option maxRecDepth 16384

noncomputable section

open Idealize.ShloMosaic Idealize.ShloMosaic.TcCoe Idealize.SL.Sem

namespace Cert.AttnRefIdeal.Value

open Cert.AttnRefIdeal Cert.AttnRefIdeal.Read Cert.RealCoe Cert.AttnMath

variable (x0 x1 : FVec Ideal S8x16400x256 .f32) (x2 : FVec Ideal S8x16400x128 .f32) (x3 : FVec Ideal S16400x1024 .f32)

structure Reals (Q K : Fin 8 → Fin 16400 → Fin 256 → ℝ) (W O : Fin 8 → Fin 16400 → Fin 128 → ℝ) : Prop where
  q : ∀ h ρ e, x0 (ix3 h ρ e) = ((Q h ρ e : ℝ) : EReal)
  k : ∀ h ρ e, x1 (ix3 h ρ e) = ((K h ρ e : ℝ) : EReal)
  v : ∀ h ρ e, x2 (ix3 h ρ e) = ((W h ρ e : ℝ) : EReal)
  o : ∀ h ρ e, x3 (ix2 ρ (col h e)) = ((O h ρ e : ℝ) : EReal)

variable {x0 x1 x2 x3} {Q K : Fin 8 → Fin 16400 → Fin 256 → ℝ} {W O : Fin 8 → Fin 16400 → Fin 128 → ℝ} (H : Reals x0 x1 x2 x3 Q K W O) (h : Fin 8) (ρ κ : Fin 16400)
include H

theorem score_real : val_main_v10_0 (F := Ideal) x0 x1 (ix3 h ρ κ) = if κ ≤ ρ then ((score (Q h) (K h) ρ κ / 1 : ℝ) : EReal) else ⊥ := by
  rw [score_at]
  refine if_congr Iff.rfl ?_ rfl
  simp only [H.q, H.k, ← EReal.coe_mul]
  rw [← coe_sum, show root = _ from root_real, Cert.NormMath.div_real root_pos.ne', div_one]
  rfl

theorem max_real : ∃ M : ℝ, val_main_v18 (F := Ideal) x0 x1 (ix2 h ρ) = ((M : ℝ) : EReal) := by
  rw [max_at]
  exact greatest_real ρ _ (fun κ => score (Q h) (K h) ρ κ / 1) fun κ => score_real H h ρ κ

theorem up_real {M : ℝ} (hM : val_main_v18 (F := Ideal) x0 x1 (ix2 h ρ) = ((M : ℝ) : EReal)) :
    val_main_v31 (F := Ideal) x0 x1 (ix3 h ρ κ) = ((up (Q h) (K h) (M * 1) ρ κ : ℝ) : EReal) := by
  rw [exp_at, hM, ← exp_real (Q h) (K h) ρ 1 M one_pos _ κ (score_real H h ρ κ), EReal.coe_one, mul_one]

theorem mass_real {M : ℝ} (hM : val_main_v18 (F := Ideal) x0 x1 (ix2 h ρ) = ((M : ℝ) : EReal)) :
    val_main_v33 (F := Ideal) x0 x1 (ix3 h ρ 0) = ((mass (Q h) (K h) (M * 1) ρ : ℝ) : EReal) := by
  rw [sum_at]
  simp only [up_real H h ρ _ hM]
  rw [← coe_sum]
  rfl

theorem soft_real : val_main_v35 (F := Ideal) x0 x1 (ix3 h ρ κ) = ((soft (Q h) (K h) ρ κ : ℝ) : EReal) := by
  obtain ⟨M, hM⟩ := max_real H h ρ
  rw [soft_at, up_real H h ρ κ hM, mass_real H h ρ hM, Cert.NormMath.div_real (mass_pos _ _ _ _).ne', soft_shift]

theorem dp_real : val_main_v44 (F := Ideal) x2 x3 (ix3 h ρ κ) = ((dp (W h) (O h) ρ κ : ℝ) : EReal) := by
  rw [dp_at]
  simp only [H.v, H.o, ← EReal.coe_mul]
  rw [← coe_sum]
  rfl

theorem ds_real : val_main_v61 (F := Ideal) x0 x1 x2 x3 (ix3 h ρ κ) = ((ds (Q h) (K h) (W h) (O h) ρ κ : ℝ) : EReal) := by
  obtain ⟨M, hM⟩ := max_real H h ρ
  have hZ := (mass_pos (Q h) (K h) (M * 1) ρ).ne'
  rw [ds_at, show root = _ from root_real]
  by_cases hc : κ ≤ ρ
  · rw [if_pos hc, v58_at]
    simp only [dp_real H, mass_real H h ρ hM, up_real H h ρ _ hM]
    rw [← EReal.coe_mul, show (1 : EReal) = ((1 : ℝ) : EReal) from rfl, Cert.NormMath.div_real (mul_ne_zero hZ hZ), Cert.NormMath.div_real hZ]
    simp only [← EReal.coe_mul]
    rw [← coe_sum, Fin.sum_univ_one, ← EReal.coe_neg, ← EReal.coe_add, ← EReal.coe_mul, Cert.NormMath.div_real root_pos.ne', vjp_real]
  · rw [if_neg hc]
    unfold ds
    rw [soft_after _ _ hc, zero_mul, zero_div, ← EReal.coe_zero, Cert.NormMath.div_real root_pos.ne', zero_div]

variable (ρ' : Fin 16896)

theorem dq_real (e : Fin 256) : val_main_v65 (F := Ideal) x0 x1 x2 x3 (ix3 h ρ' e) = ((pad (gq (Q h) (K h) (W h) (O h)) ρ' e : ℝ) : EReal) := by
  rw [out_q]
  unfold AttnMath.pad
  split
  · rw [dq_at]
    simp only [ds_real H, H.k, ← EReal.coe_mul]
    rw [← coe_sum]
    rfl
  · rfl
theorem dk_real (e : Fin 256) : val_main_v67 (F := Ideal) x0 x1 x2 x3 (ix3 h ρ' e) = ((pad (gk (Q h) (K h) (W h) (O h)) ρ' e : ℝ) : EReal) := by
  rw [out_k]
  unfold AttnMath.pad
  split
  · rw [dk_at]
    simp only [ds_real H, H.q, ← EReal.coe_mul]
    rw [← coe_sum]
    rfl
  · rfl
theorem dv_real (e : Fin 128) : val_main_v69 (F := Ideal) x0 x1 x3 (ix3 h ρ' e) = ((pad (gv (Q h) (K h) (O h)) ρ' e : ℝ) : EReal) := by
  rw [out_v]
  unfold AttnMath.pad
  split
  · rw [dv_at]
    simp only [soft_real H, H.o, ← EReal.coe_mul]
    rw [← coe_sum]
    refine congrArg _ ?_
    exact Finset.sum_congr rfl fun x _ => mul_comm _ _
  · rfl

end Cert.AttnRefIdeal.Value

end
-- ==== Proof.AttnClaim.lean ====
/-
  The claims about the attention's gradients: the kernel's three arrays are the derivative's, given real arguments.
-/
module

public import proofs.«01_k».proof.Defs
public import proofs.«01_k».proof.Proof.AttnKernelReal
public import proofs.«01_k».proof.Proof.AttnRefReal
public import proofs.«01_k».proof.Proof.AttnFrame

@[expose] public section

noncomputable section

namespace Cert.AttnEq

open Idealize.ShloMosaic Idealize.ShloMosaic.TcCoe Idealize.SL.Sem

/-- The side conditions the precondition states. -/
instance preFacts : Cert.Pre_attention_finite.Facts := ⟨by decide, by decide, by decide, by decide⟩

/-- The kernel's two scales are the constants their names stand for. -/
theorem preserves : Cert.preserves_Attn_AttnIdeal :=
  ⟨IdealRules.named_const.statement Cert.AttnIdeal.κ _ .f32 _ _ rfl, IdealRules.named_const.statement Cert.AttnIdeal.κ _ .f32 _ _ rfl⟩

/-- The reference ends with its arguments and its counters as they were. -/
theorem frame_ref : Cert.quiescent_AttnRefIdeal := fun m g _ =>
  (θ_run Cert.AttnRefIdeal.defs _ _).mono (fun r h => ⟨fun c => (h c).2.2.2, sem_eq_zero_of_no_sems (by decide) r.2⟩)
    (Cert.AttnRefIdeal.Value.run (F := Ideal) m g)

section Values

open Cert.AttnIdeal Cert.AttnIdeal.Gen Cert.AttnIdeal.Hand Cert.AttnIdeal.Value

variable {m : (ℓ : Loc nD τ sig) → Buf (Elt Ideal) ℓ}

/-- The precondition says that the arguments are real. -/
theorem reals_of_pre (h : Cert.Pre_AttnIdeal_attention_finite m) (c : Dev nD) : ∃ Q K W O, Reals m c Q K W O := by
  have hq : ∀ i, Cert.RealCoe.Finite ((m ((c : Thread nD τ).loc main_arg0) : FVec Ideal S8x16400x256 .f32) i) := fun i => Cert.RealCoe.finite_of_test (congrFun (h c).1 i)
  have hk : ∀ i, Cert.RealCoe.Finite ((m ((c : Thread nD τ).loc main_arg1) : FVec Ideal S8x16400x256 .f32) i) := fun i => Cert.RealCoe.finite_of_test (congrFun (h c).2.1 i)
  have hv : ∀ i, Cert.RealCoe.Finite ((m ((c : Thread nD τ).loc main_arg2) : FVec Ideal S8x16400x128 .f32) i) := fun i => Cert.RealCoe.finite_of_test (congrFun (h c).2.2.1 i)
  have ho : ∀ i, Cert.RealCoe.Finite ((m ((c : Thread nD τ).loc main_arg3) : FVec Ideal S16400x1024 .f32) i) := fun i => Cert.RealCoe.finite_of_test (congrFun (h c).2.2.2 i)
  choose q hq using hq
  choose k hk using hk
  choose v hv using hv
  choose o ho using ho
  exact ⟨fun a ρ e => q (ix3 a ρ e), fun a ρ e => k (ix3 a ρ e), fun a ρ e => v (ix3 a ρ e), fun a ρ e => o (ix2 ρ (col a e)),
    fun a ρ e => hq _, fun a ρ e => hk _, fun a ρ e => hv _, fun a ρ e => ho _⟩

/-- The kernel's run with its three results and its arguments. -/
theorem run_values (g : Dev nD → PrngReg) :
    θ_run defs (onTc (τ := τ) (main (F := Ideal))) ⟨m, fun _ => 0, g⟩ (fun r => ∀ c : Dev nD,
      r.2.mem ((c.tc : Thread nD τ).loc main_v46_0) = G m c main_v46_0
      ∧ r.2.mem ((c.tc : Thread nD τ).loc main_v46_1) = (dat m c).arrAt 6 (cfg (F := Ideal)).N
      ∧ r.2.mem ((c.tc : Thread nD τ).loc main_v46_2) = (dat m c).arrAt 7 (cfg (F := Ideal)).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => by
      obtain ⟨k0, k1, k2, k3⟩ := args_kept m c
      have hR := (h.1.toR c).2
      exact ⟨h.1.2 c main_v46_0 (by decide), (h.1.toR c).1 6, (h.1.toR c).1 7,
        (hR main_arg0 (by decide : main_arg0 ∈ Pipeline.restRefs sig spec0 \ copiedTo)).trans k0, (hR main_arg1 (by decide : main_arg1 ∈ Pipeline.restRefs sig spec0 \ copiedTo)).trans k1,
        (hR main_arg2 (by decide : main_arg2 ∈ Pipeline.restRefs sig spec0 \ copiedTo)).trans k2, (hR main_arg3 (by decide : main_arg3 ∈ Pipeline.restRefs sig spec0 \ copiedTo)).trans k3⟩)
    (run_main m g)

variable {Q K : Fin 8 → Fin 16400 → Fin 256 → ℝ} {W O : Fin 8 → Fin 16400 → Fin 128 → ℝ}

/-- The reference's arguments are the same real numbers. -/
theorem reals_ref {c : Dev nD} (H : Reals m c Q K W O) : Cert.AttnRefIdeal.Value.Reals (m ((c : Thread nD τ).loc main_arg0)) (m ((c : Thread nD τ).loc main_arg1))
    (m ((c : Thread nD τ).loc main_arg2)) (m ((c : Thread nD τ).loc main_arg3)) Q K W O := ⟨H.q, H.k, H.v, H.o⟩

theorem q_eq {c : Dev nD} (H : Reals m c Q K W O) : Cert.AttnRefIdeal.Read.val_main_v65 (F := Ideal) (m ((c : Thread nD τ).loc main_arg0)) (m ((c : Thread nD τ).loc main_arg1))
    (m ((c : Thread nD τ).loc main_arg2)) (m ((c : Thread nD τ).loc main_arg3)) = G m c main_v46_0 := by
  rw [dq_array]
  funext i
  idx_vars i
  exact (Cert.AttnRefIdeal.Value.dq_real (reals_ref H) i0 i1 i2).trans (gradQ_real H i0 i1 i2).symm

theorem k_eq {c : Dev nD} (H : Reals m c Q K W O) : Cert.AttnRefIdeal.Read.val_main_v67 (F := Ideal) (m ((c : Thread nD τ).loc main_arg0)) (m ((c : Thread nD τ).loc main_arg1))
    (m ((c : Thread nD τ).loc main_arg2)) (m ((c : Thread nD τ).loc main_arg3)) = (dat m c).arrAt 6 (cfg (F := Ideal)).N := by
  rw [dk_array]
  funext i
  idx_vars i
  exact (Cert.AttnRefIdeal.Value.dk_real (reals_ref H) i0 i1 i2).trans (gradK_real H i0 i1 i2).symm

theorem v_eq {c : Dev nD} (H : Reals m c Q K W O) : Cert.AttnRefIdeal.Read.val_main_v69 (F := Ideal) (m ((c : Thread nD τ).loc main_arg0)) (m ((c : Thread nD τ).loc main_arg1))
    (m ((c : Thread nD τ).loc main_arg3)) = (dat m c).arrAt 7 (cfg (F := Ideal)).N := by
  rw [dv_array]
  funext i
  idx_vars i
  exact (Cert.AttnRefIdeal.Value.dv_real (reals_ref H) i0 i1 i2).trans (gradV_real H i0 i1 i2).symm

end Values

theorem algebraic : Cert.algebraic_AttnIdeal_AttnRefIdeal_pre_attention_finite := by
  intro m g m' g' hp ha
  refine ⟨fun c => Cert.AttnIdeal.Hand.G m c Cert.AttnIdeal.main_v46_0, fun c => (Cert.AttnIdeal.Hand.dat m c).arrAt 6 (Cert.AttnIdeal.Hand.cfg (F := Ideal)).N,
    fun c => (Cert.AttnIdeal.Hand.dat m c).arrAt 7 (Cert.AttnIdeal.Hand.cfg (F := Ideal)).N, run_values g, ?_⟩
  refine (θ_run _ _ _).mono (fun r h c => ?_) (Cert.AttnRefIdeal.Value.run m' g')
  obtain ⟨h0, h1, h2, h3⟩ := ha c
  obtain ⟨Q, K, W, O, H⟩ := reals_of_pre hp c
  refine ⟨(h c).1.trans ((Cert.AttnRefIdeal.Read.val_main_v65_eq ..).trans ?_), (h c).2.1.trans ((Cert.AttnRefIdeal.Read.val_main_v67_eq ..).trans ?_),
    (h c).2.2.1.trans ((Cert.AttnRefIdeal.Read.val_main_v69_eq ..).trans ?_), (h c).2.2.2⟩
  · rw [h0, h1, h2, h3]; exact q_eq H
  · rw [h0, h1, h2, h3]; exact k_eq H
  · rw [h0, h1, h3]; exact v_eq H

end Cert.AttnEq

end
-- ==== Proof.LossKernel.lean ====
/-
  What the loss kernel leaves in its four result arrays: half the sum over the real rows of the mean squared error, that
  error's gradient row by row, the norm's gradient written out by hand, and the norm's weight gradient.
-/
module

public import proofs.«01_k».proof.Proof.NormMath
public import proofs.«01_k».proof.Proof.Sums
public import proofs.«01_k».proof.Proof.Gen.LossIdeal.Value
public import Idealize.ShloMosaic.Lib.Pipeline.ValueKit
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.LossIdeal.KernelValue

open Cert.LossIdeal Cert.LossIdeal.Gen Cert.NormMath

section Block

variable (i : grid0.Coords) (f h1 d : Vec Ideal S512x1024 .f32) (w : Vec Ideal S1x1024 .f32) (halo : Vec Ideal S16x1024 .f32)
  (tgt : Vec Ideal S496x1024 .f32)

/-- The error of a row of a block: the residual sum minus the target — the halo's rows first, then the block's — where
    the row is one of the sequence, and zero elsewhere. -/
theorem pay_diff (hi : (i 0).val < 33) (r : Fin 512) (k : Fin 1024) :
    k0_pay5 i f h1 w halo tgt (ix2 r k)
      = if 16 ≤ 512 * (i 0).val + r.val ∧ 512 * (i 0).val + r.val < 16400 then
          h1 (ix2 r k) + f (ix2 r k) * rms ((1024 : ℝ) : EReal) (fun k : Fin 1024 => f (ix2 r k)) * w (ix2 0 k)
            - (if hr : r.val < 16 then halo (ix2 ⟨r.val, hr⟩ k) else tgt (ix2 ⟨r.val - 16, by have := r.isLt; omega⟩ k))
        else 0 := by
  unfold k0_pay5 k0_pay4 rms var
  pointwise
  rw [show Scalar.muli (BitVec.ofNat 32 (i 0).val) 512#32 = BitVec.ofNat 32 ((i 0).val * 512) from by simp [Scalar.muli, IntOp.muli, BitVec.ofNat_mul],
    show IntOp.addi (BitVec.ofNat 32 ((i 0).val * 512)) (BitVec.ofNat 32 r.val) = BitVec.ofNat 32 ((i 0).val * 512 + r.val) from by
      simp [IntOp.addi, BitVec.ofNat_add]]
  have hr := r.isLt
  rw [WordCmp.cmpi_sge_ofNat (by omega) (by omega), WordCmp.cmpi_slt_ofNat (by omega) (by omega), WordCmp.andi_ofBool, WordCmp.select_ofBool]
  simp only [Bool.and_eq_true, decide_eq_true_eq, ofBits_1024, ofBits_eps, Nat.mul_comm]

/-- A block's part of the loss. -/
theorem pay_loss (j : S1x128.Idx) :
    k0_pay7 (k0_pay6 (F := Ideal) i f h1 w halo tgt) j = Ideal.ofBits .f32 0x3F000000#32 * ∑ r : Fin 512, Ideal.div (∑ k : Fin 1024,
      k0_pay5 i f h1 w halo tgt (ix2 r k) * k0_pay5 i f h1 w halo tgt (ix2 r k)) ((1024 : ℝ) : EReal) := by
  idx_vars j
  unfold k0_pay7 k0_pay6
  generalize k0_pay5 i f h1 w halo tgt = d
  pointwise
  simp only [ofBits_1024]

theorem pay_df (j : S512x1024.Idx) :
    k0_pay2 (k0_pay11 (F := Ideal) (k0_pay4 f) d w) j
      = byHand ((1024 : ℝ) : EReal) (fun k : Fin 1024 => f (ix2 (j 0) k)) (fun k => Ideal.div (d (ix2 (j 0) k)) ((1024 : ℝ) : EReal) * w (ix2 0 k)) (j 1) := by
  idx_vars j
  unfold k0_pay2 k0_pay11 k0_pay10 k0_pay9 k0_pay4 byHand rms var
  pointwise
  simp only [ofBits_1024, ofBits_eps]

theorem pay_dg (j : S1x1024.Idx) :
    k0_pay1 (F := Ideal) (k0_pay10 (k0_pay4 f)) (k0_pay12 (k0_pay4 f) d) j
      = ∑ r : Fin 512, Ideal.div (d (ix2 r (j 1))) ((1024 : ℝ) : EReal) * f (ix2 r (j 1)) * rms ((1024 : ℝ) : EReal) (fun k : Fin 1024 => f (ix2 r k)) := by
  idx_vars j
  unfold k0_pay1 k0_pay12 k0_pay10 k0_pay9 k0_pay4 rms var
  pointwise
  simp only [ofBits_1024, ofBits_eps]

end Block

variable (m : (ℓ : Loc nD τ sig) → Buf (Elt Ideal) ℓ) (c : Dev nD)

theorem idx : ∀ t : Fin cfg0.N,
    win0_0.index t = ![t.val, 0] ∧ win0_1.index t = ![t.val, 0] ∧ win0_2.index t = ![0, 0] ∧ win0_3.index t = ![min (32 * t.val - 1) 1023, 0]
    ∧ win0_4.index t = ![min t.val 31, 0] ∧ win0_5.index t = ![0, 0] ∧ win0_6.index t = ![t.val, 0] ∧ win0_7.index t = ![t.val, 0]
    ∧ win0_8.index t = ![0, 0] ∧ (grid0.coords t 0).val = t.val :=
  (by decide +kernel : ∀ t : Fin grid0.N, _)

theorem lt_N (t : Fin cfg0.N) : t.val < 33 := lt_of_lt_of_eq t.isLt N_0

/-- The arrays that the region reads: the residual stream and the last norm's argument, each padded with zero rows, that
    norm's weight, and the target. -/
def hArr : Vec Ideal S16896x1024 .f32 := V m c main_v1
def fArr : Vec Ideal S16896x1024 .f32 := V m c main_v3
def wArr : Vec Ideal S1x1024 .f32 := V m c main_arg2
def tArr : Vec Ideal S16384x1024 .f32 := V m c main_arg3

/-- Row `r` of block `t`. -/
def row (t : ℕ) (ht : t < 33) (r : Fin 512) : Fin 16896 := ⟨512 * t + r.val, by have := r.isLt; omega⟩

theorem row_val (t : ℕ) (ht : t < 33) (r : Fin 512) : (row t ht r).val = 512 * t + r.val := rfl

/-- The point's blocks. -/
abbrev bh (t : Fin cfg0.N) : Vec Ideal S512x1024 .f32 := iblk m c 0 t
abbrev bf (t : Fin cfg0.N) : Vec Ideal S512x1024 .f32 := iblk m c 1 t
abbrev bw (t : Fin cfg0.N) : Vec Ideal S1x1024 .f32 := iblk m c 2 t
abbrev bhalo (t : Fin cfg0.N) : Vec Ideal S16x1024 .f32 := iblk m c 3 t
abbrev btgt (t : Fin cfg0.N) : Vec Ideal S512x1024 .f32 := iblk m c 4 t

theorem bh_at (t : Fin cfg0.N) (r : Fin 512) (k : Fin 1024) : bh m c t (ix2 r k) = hArr m c (ix2 (row t.val (lt_N t) r) k) := by
  unfold bh hArr; blk_ext [iblk, idx t, row_val]
theorem bf_at (t : Fin cfg0.N) (r : Fin 512) (k : Fin 1024) : bf m c t (ix2 r k) = fArr m c (ix2 (row t.val (lt_N t) r) k) := by
  unfold bf fArr; blk_ext [iblk, idx t, row_val]
theorem bw_at (t : Fin cfg0.N) (i : Fin 1) (k : Fin 1024) : bw m c t (ix2 i k) = wArr m c (ix2 i k) := by
  unfold bw wArr; blk_ext [iblk, idx t]
theorem bhalo_at (t : Fin cfg0.N) (r : Fin 16) (k : Fin 1024) :
    bhalo m c t (ix2 r k) = tArr m c (ix2 ⟨16 * min (32 * t.val - 1) 1023 + r.val, by have := r.isLt; omega⟩ k) := by
  unfold bhalo tArr; blk_ext [iblk, idx t]
theorem btgt_at (t : Fin cfg0.N) (r : Fin 512) (k : Fin 1024) :
    btgt m c t (ix2 r k) = tArr m c (ix2 ⟨512 * min t.val 31 + r.val, by have := r.isLt; omega⟩ k) := by
  unfold btgt tArr; blk_ext [iblk, idx t]

/-- The first rows of the target's block. -/
abbrev btop (t : Fin cfg0.N) : Vec Ideal S496x1024 .f32 := View.ld (btgt m c t) (Rect.unit ![0, 0] ![496, 1024] inb_S512x1024_S496x1024_0_0)

theorem btop_at (t : Fin cfg0.N) (r : Fin 496) (k : Fin 1024) : btop m c t (ix2 r k) = btgt m c t (ix2 ⟨r.val, by have := r.isLt; omega⟩ k) := by
  refine congrArg (btgt m c t) ?_
  funext a
  apply Fin.ext
  match a with
  | ⟨0, _⟩ => show 0 + 1 * r.val = r.val; omega
  | ⟨1, _⟩ => show 0 + 1 * k.val = k.val; omega

/-- The error of a row: of a row of the sequence behind the first sixteen, the residual sum minus the target. -/
def diff (R : Fin 16896) (k : Fin 1024) : EReal :=
  if h : 16 ≤ R.val ∧ R.val < 16400 then
    hArr m c (ix2 R k) + fArr m c (ix2 R k) * rms ((1024 : ℝ) : EReal) (fun k : Fin 1024 => fArr m c (ix2 R k)) * wArr m c (ix2 0 k)
      - tArr m c (ix2 ⟨R.val - 16, by omega⟩ k)
  else 0

/-- The error's gradient. -/
def grad (R : Fin 16896) (k : Fin 1024) : EReal := Ideal.div (diff m c R k) ((1024 : ℝ) : EReal)

/-- A row's part of the loss. -/
def part (R : Fin 16896) : EReal := ((1 / 2 : ℝ) : EReal) * Ideal.div (∑ k : Fin 1024, diff m c R k * diff m c R k) ((1024 : ℝ) : EReal)

/-- The four results. -/
def loss : Vec Ideal S1x128 .f32 := fun _ => ∑ R : Fin 16896, part m c R
def dh : Vec Ideal S16896x1024 .f32 := fun i => grad m c (i 0) (i 1)
def df : Vec Ideal S16896x1024 .bf16 := fun i =>
  byHand ((1024 : ℝ) : EReal) (fun k : Fin 1024 => fArr m c (ix2 (i 0) k)) (fun k => grad m c (i 0) k * wArr m c (ix2 0 k)) (i 1)
def dg : Vec Ideal S1x1024 .f32 := fun i =>
  ∑ R : Fin 16896, grad m c R (i 1) * fArr m c (ix2 R (i 1)) * rms ((1024 : ℝ) : EReal) (fun k : Fin 1024 => fArr m c (ix2 R k))

/-- What a point computes: its rows' errors, their part of the loss, their gradient, the norm's gradient, and their part of the
    weight's gradient. -/
abbrev pdiff (t : Fin cfg0.N) : Vec Ideal S512x1024 .f32 := k0_pay5 (grid0.coords t) (bf m c t) (bh m c t) (bw m c t) (bhalo m c t) (btop m c t)
abbrev ploss (t : Fin cfg0.N) : Vec Ideal S1x128 .f32 :=
  k0_pay7 (k0_pay6 (grid0.coords t) (bf m c t) (bh m c t) (bw m c t) (bhalo m c t) (btop m c t))
abbrev pdh (t : Fin cfg0.N) : Vec Ideal S512x1024 .f32 := k0_pay9 (F := Ideal) (pdiff m c t)
abbrev pdf (t : Fin cfg0.N) : Vec Ideal S512x1024 .bf16 := k0_pay2 (k0_pay11 (k0_pay4 (bf m c t)) (pdiff m c t) (bw m c t))
abbrev pdg (t : Fin cfg0.N) : Vec Ideal S1x1024 .f32 := k0_pay1 (k0_pay10 (k0_pay4 (bf m c t))) (k0_pay12 (k0_pay4 (bf m c t)) (pdiff m c t))

/-- What a point leaves in the four output buffers. -/
theorem outs_first (t : Fin cfg0.N) (h : t.val % 33 = 0) : outsAt0 m c t.val t.isLt = (ploss m c t, pdh m c t, pdf m c t, pdg m c t) := by
  have ht := lt_N t
  rw [outsAt0_A m c t h (by omega) h (by omega)]
  frame_out

theorem outs_later (t : Fin cfg0.N) (h : ¬t.val % 33 = 0) : outsAt0 m c t.val t.isLt
    = (addf (F := Ideal) (s := S1x128) (φ := .f32) (outsAt0 m c (t.val - 1) (Nat.lt_of_le_of_lt (Nat.sub_le _ _) t.isLt)).1 (ploss m c t),
       pdh m c t, pdf m c t,
       addf (F := Ideal) (s := S1x1024) (φ := .f32) (outsAt0 m c (t.val - 1) (Nat.lt_of_le_of_lt (Nat.sub_le _ _) t.isLt)).2.2.2 (pdg m c t)) := by
  have ht := lt_N t
  rw [outsAt0_B m c t h (by omega) h (by omega)]
  frame_out [k0_pay8, k0_pay3, shapeCast_self]
  try rfl

theorem outs_rows (t : Fin cfg0.N) : (outsAt0 m c t.val t.isLt).2.1 = pdh m c t ∧ (outsAt0 m c t.val t.isLt).2.2.1 = pdf m c t := by
  by_cases h : t.val % 33 = 0
  · rw [outs_first m c t h]; exact ⟨rfl, rfl⟩
  · rw [outs_later m c t h]; exact ⟨rfl, rfl⟩

theorem pdiff_at (t : Fin cfg0.N) (r : Fin 512) (k : Fin 1024) : pdiff m c t (ix2 r k) = diff m c (row t.val (lt_N t) r) k := by
  have ht := lt_N t
  have hr := r.isLt
  have hi := (idx t).2.2.2.2.2.2.2.2.2
  unfold pdiff diff
  rw [pay_diff _ _ _ _ _ _ (by omega)]
  rw [hi]
  by_cases hc : 16 ≤ (row t.val (lt_N t) r).val ∧ (row t.val (lt_N t) r).val < 16400
  · rw [dif_pos hc]
    rw [row_val] at hc
    rw [if_pos hc]
    simp only [bh_at, bf_at, bw_at]
    congr 1
    by_cases h16 : r.val < 16
    · rw [dif_pos h16, bhalo_at]
      refine congrArg (fun q => tArr m c (ix2 q k)) (Fin.ext ?_)
      show 16 * min (32 * t.val - 1) 1023 + r.val = 512 * t.val + r.val - 16
      omega
    · rw [dif_neg h16, btop_at, btgt_at]
      refine congrArg (fun q => tArr m c (ix2 q k)) (Fin.ext ?_)
      show 512 * min t.val 31 + (r.val - 16) = 512 * t.val + r.val - 16
      omega
  · rw [dif_neg hc]
    rw [row_val] at hc
    rw [if_neg hc]

theorem ploss_at (t : Fin cfg0.N) (i : S1x128.Idx) : ploss m c t i = ∑ r : Fin 512, part m c (row t.val (lt_N t) r) := by
  unfold ploss part
  rw [pay_loss, ofBits_half, Sums.coe_mul_sum _ (by norm_num)]
  refine Finset.sum_congr rfl fun r _ => ?_
  simp only [← pdiff_at m c t r]

theorem pdh_at (t : Fin cfg0.N) (r : Fin 512) (k : Fin 1024) : pdh m c t (ix2 r k) = grad m c (row t.val (lt_N t) r) k := by
  unfold grad pdh
  rw [← pdiff_at, ← ofBits_1024]
  rfl

theorem pdf_at (t : Fin cfg0.N) (r : Fin 512) (k : Fin 1024) : pdf m c t (ix2 r k) = df m c (ix2 (row t.val (lt_N t) r) k) := by
  unfold pdf
  rw [pay_df]
  show byHand _ (fun q => bf m c t (ix2 r q)) (fun q => Ideal.div (pdiff m c t (ix2 r q)) _ * bw m c t (ix2 0 q)) k = _
  simp only [bf_at, pdiff_at, bw_at]
  rfl

theorem pdg_at (t : Fin cfg0.N) (i : S1x1024.Idx) : pdg m c t i
    = ∑ r : Fin 512, grad m c (row t.val (lt_N t) r) (i 1) * fArr m c (ix2 (row t.val (lt_N t) r) (i 1))
        * rms ((1024 : ℝ) : EReal) (fun k : Fin 1024 => fArr m c (ix2 (row t.val (lt_N t) r) k)) := by
  idx_vars i
  unfold pdg
  rw [pay_dg]
  show (∑ r : Fin 512, Ideal.div (pdiff m c t (ix2 r i1)) _ * bf m c t (ix2 r i1) * rms _ (fun k => bf m c t (ix2 r k))) = _
  simp only [pdiff_at, bf_at]
  rfl

theorem final_dh : (dats m 0 c).arrAt 6 cfg0.N = dh m c := by
  refine (dats m 0 c).arrAt_eq_of_covers 6 _ (by decide +kernel) fun t _ y => ?_
  blk_simp
  rw [after0_6, (outs_rows m c t).1]
  idx_vars y
  refine (pdh_at m c t y0 y1).trans (show dh m c (ix2 (row t.val (lt_N t) y0) y1) = _ from ?_)
  blk_ext [idx t, row_val]

theorem final_df : (dats m 0 c).arrAt 7 cfg0.N = df m c := by
  refine (dats m 0 c).arrAt_eq_of_covers 7 _ (by decide +kernel) fun t _ y => ?_
  blk_simp
  rw [after0_7, (outs_rows m c t).2]
  idx_vars y
  refine (pdf_at m c t y0 y1).trans ?_
  blk_ext [idx t, row_val]

/-- What the last point leaves in the loss's and the weight's buffers. -/
theorem loss_last (t : Fin cfg0.N) (h : t.val % 33 = 32) (i : S1x128.Idx) : (outsAt0 m c t.val t.isLt).1 i = loss m c i := by
  have ht := lt_N t
  refine Sums.acc_blocks (a := 33) (b := 512) (by norm_num) _ (fun k hk => (outsAt0 m c k (lt_of_lt_of_eq hk N_0.symm)).1 i) row row_val
    (fun s h0 => ?_) (fun s h0 => ?_) t.val ht (by omega)
  · rw [outs_first m c ⟨s.val, _⟩ h0]; exact ploss_at m c ⟨s.val, _⟩ i
  · rw [outs_later m c ⟨s.val, _⟩ h0]; exact congrArg (_ + ·) (ploss_at m c ⟨s.val, _⟩ i)

theorem dg_last (t : Fin cfg0.N) (h : t.val % 33 = 32) (i : S1x1024.Idx) : (outsAt0 m c t.val t.isLt).2.2.2 i = dg m c i := by
  have ht := lt_N t
  refine Sums.acc_blocks (a := 33) (b := 512) (by norm_num) _ (fun k hk => (outsAt0 m c k (lt_of_lt_of_eq hk N_0.symm)).2.2.2 i) row row_val
    (fun s h0 => ?_) (fun s h0 => ?_) t.val ht (by omega)
  · rw [outs_first m c ⟨s.val, _⟩ h0]; exact pdg_at m c ⟨s.val, _⟩ i
  · rw [outs_later m c ⟨s.val, _⟩ h0]; exact congrArg (_ + ·) (pdg_at m c ⟨s.val, _⟩ i)

theorem final_loss : (dats m 0 c).arrAt 5 cfg0.N = loss m c := by
  refine (dats m 0 c).arrAt_eq_of_covers 5 _ (by decide +kernel) fun t hf y => ?_
  blk_simp
  rw [after0_5]
  idx_vars y
  exact loss_last m c t ((flush0_5 t).mp hf) (ix2 y0 y1)

theorem final_dg : (dats m 0 c).arrAt 8 cfg0.N = dg m c := by
  refine (dats m 0 c).arrAt_eq_of_covers 8 _ (by decide +kernel) fun t hf y => ?_
  blk_simp
  rw [after0_8]
  idx_vars y
  refine (dg_last m c t ((flush0_8 t).mp hf) (ix2 y0 y1)).trans (congrArg (dg m c) ?_)
  funext a
  apply Fin.ext
  fin_cases a
  · blk_simp [idx t]
  · blk_simp [idx t]

end Cert.LossIdeal.KernelValue

end
-- ==== Proof.LossRef.lean ====
/-
  What the reference of the loss computes, read at an index: the error, the loss as a sum over the targets' rows, and the chain
  rule's form of the gradients through the last norm.
-/
module

public import proofs.«01_k».proof.Proof.NormMath
public import proofs.«01_k».proof.Proof.Gen.LossRefIdeal.Read

@[expose] public section

set_option maxRecDepth 16384

noncomputable section

open Idealize.ShloMosaic Idealize.ShloMosaic.TcCoe

namespace Cert.LossRefIdeal.RefValue

open Cert.LossRefIdeal Cert.LossRefIdeal.Gen Cert.LossRefIdeal.Read Cert.NormMath

variable (h f : Vec Ideal S16400x1024 .f32) (w : Vec Ideal S1x1024 .f32) (t : Vec Ideal S16384x1024 .f32)

/-- The error at a target's row, and the gradient at the residual sum. -/
abbrev err : Vec Ideal S16384x1024 .f32 := val_main_v21 (F := Ideal) h f w t
abbrev G : Vec Ideal S16400x1024 .f32 := val_main_v36 (F := Ideal) h f w t
abbrev fRow (r : Fin 16400) (k : Fin 1024) : EReal := f (ix2 r k)

theorem v9_at (r : Fin 16400) (i : Fin 1) : val_main_v9 (F := Ideal) f (ix2 r i) = var ((1024 : ℝ) : EReal) (fRow f r) := by
  unfold val_main_v9 val_main_v8 val_main_cst_2 val_main_v7 val_main_v6 val_main_cst_1 val_main_v5 val_main_v4 val_main_cst_0
    val_main_v1 var fRow
  pointwise
  simp only [ofBits_1024, ofBits_eps]

theorem v10_at (r : Fin 16400) (i : Fin 1) : val_main_v10 (F := Ideal) f (ix2 r i) = rms ((1024 : ℝ) : EReal) (fRow f r) := by
  unfold val_main_v10 rms
  rw [← v9_at f r i]
  rfl

theorem err_at (r : Fin 16384) (k : Fin 1024) (hr : 16 + r.val < 16400) :
    err h f w t (ix2 r k) = h (ix2 ⟨16 + r.val, hr⟩ k)
      + f (ix2 ⟨16 + r.val, hr⟩ k) * rms ((1024 : ℝ) : EReal) (fRow f ⟨16 + r.val, hr⟩) * w (ix2 0 k) - t (ix2 r k) := by
  rw [← v10_at f _ 0]
  unfold err val_main_v21 val_main_v20 val_main_v19 val_main_v18 val_main_v17 val_main_v16 val_main_v15 val_main_v14 val_main_v0
  generalize val_main_v10 (F := Ideal) f = r10
  pointwise

theorem v56_at (i : Fin 1) (j : Fin 128) :
    val_main_v56 (F := Ideal) h f w t (ix2 i j)
      = ((1 / 2 : ℝ) : EReal) * ∑ r : Fin 16384, Ideal.div (∑ k : Fin 1024, err h f w t (ix2 r k) * err h f w t (ix2 r k)) ((1024 : ℝ) : EReal) := by
  unfold val_main_v56 val_main_v29 val_main_v28 val_main_v27 val_main_v26 val_main_v25 val_main_v22 val_main_cst_5 val_main_cst_6
    val_main_cst_7 val_main_cst_8 err
  generalize val_main_v21 (F := Ideal) h f w t = e
  pointwise
  simp only [ofBits_1024, ofBits_half]

/-- Half the derivative of a square over a thousand and twenty-four. -/
theorem half_two (x : EReal) : Ideal.div (((1 / 2 : ℝ) : EReal) * 1) ((1024 : ℝ) : EReal) * (((2 : ℝ) : EReal) * x) = Ideal.div x ((1024 : ℝ) : EReal) := by
  rw [Ideal.div_coe (by norm_num), Ideal.div_coe (by norm_num), mul_one, ← EReal.coe_mul, ← mul_assoc, ← EReal.coe_mul, mul_comm]
  congr 2
  norm_num

theorem ofBits_one : (Scalar.ofBits .f32 0x3F800000#32 : Ideal .f32) = (1 : EReal) := by
  simp [Scalar.ofBits, Ideal.ofBits, Ideal.ieee, -EReal.coe_mul]
  norm_num

theorem v35_at (r : Fin 16384) (k : Fin 1024) :
    val_main_v35 (F := Ideal) h f w t (ix2 r k) = Ideal.div (err h f w t (ix2 r k)) ((1024 : ℝ) : EReal) := by
  rw [← half_two]
  unfold val_main_v35 val_main_v34 val_main_v33 val_main_v32 val_main_v31 val_main_v30 val_main_v24 val_main_v23 val_main_cst_4
    val_main_cst_9 val_main_cst_10 val_main_cst_11 err
  generalize val_main_v21 (F := Ideal) h f w t = e
  pointwise
  simp only [ofBits_1024, ofBits_half, ofBits_two, ofBits_one]

theorem G_at (r : Fin 16400) (k : Fin 1024) :
    G h f w t (ix2 r k) = if hr : 16 ≤ r.val then Ideal.div (err h f w t (ix2 ⟨r.val - 16, by omega⟩ k)) ((1024 : ℝ) : EReal) else 0 := by
  simp only [← v35_at]
  unfold G val_main_v36 val_main_cst_12
  generalize val_main_v35 (F := Ideal) h f w t = e
  pointwise
  have hr := r.isLt
  by_cases h16 : 16 ≤ r.val
  · rw [dif_pos h16, dif_pos ⟨h16, by omega⟩]
  · rw [dif_neg h16, dif_neg fun q => h16 q.1]

theorem v41_at (r : Fin 16400) (k : Fin 1024) : val_main_v41 (F := Ideal) h f w t (ix2 r k) = G h f w t (ix2 r k) * w (ix2 0 k) := by
  unfold val_main_v41 val_main_v40 val_main_v16 val_main_v0 G
  generalize val_main_v36 (F := Ideal) h f w t = g
  pointwise

theorem v54_at (r : Fin 16400) (j : Fin 1024) :
    val_main_v54 (F := Ideal) h f w t (ix2 r j)
      = G h f w t (ix2 r j) * w (ix2 0 j) * rms ((1024 : ℝ) : EReal) (fRow f r)
        + throughMean ((1024 : ℝ) : EReal) (fRow f r) (fun k => G h f w t (ix2 r k) * w (ix2 0 k)) j := by
  unfold throughMean
  rw [← v10_at f r 0, ← v9_at f r 0]
  rw [show (fun k : Fin 1024 => G h f w t (ix2 r k) * w (ix2 0 k)) = fun k => val_main_v41 (F := Ideal) h f w t (ix2 r k) from
    funext fun k => (v41_at h f w t r k).symm, ← v41_at h f w t r j]
  dsimp only
  unfold val_main_v54 val_main_v53 val_main_v52 val_main_v51 val_main_v50 val_main_v49 val_main_v48 val_main_v47 val_main_v46
    val_main_v45 val_main_v44 val_main_v43 val_main_v13 val_main_v12 val_main_v11 val_main_v3 val_main_v2
    val_main_cst val_main_cst_3 val_main_cst_15 val_main_cst_16 val_main_cst_17 fRow
  generalize val_main_v10 (F := Ideal) f = r10
  generalize val_main_v9 (F := Ideal) f = r9
  generalize val_main_v41 (F := Ideal) h f w t = g
  pointwise
  simp only [ofBits_1024, ofBits_two, ofBits_neg_half, Finset.univ_unique, Finset.sum_singleton]
  rfl

theorem v55_at (i : Fin 1) (j : Fin 1024) :
    val_main_v55 (F := Ideal) h f w t (ix2 i j)
      = ∑ r : Fin 16400, f (ix2 r j) * rms ((1024 : ℝ) : EReal) (fRow f r) * G h f w t (ix2 r j) := by
  simp only [← v10_at f _ 0]
  unfold val_main_v55 val_main_v42 val_main_v39 val_main_v38 val_main_v37 val_main_v15 val_main_v14 val_main_cst_13 val_main_cst_14 G
  generalize val_main_v10 (F := Ideal) f = r10
  generalize val_main_v36 (F := Ideal) h f w t = g
  pointwise
  simp only [Finset.univ_unique, Finset.sum_singleton]

theorem v58_at (r : Fin 16896) (j : Fin 1024) :
    val_main_v58 (F := Ideal) h f w t (ix2 r j) = if hr : r.val < 16400 then G h f w t (ix2 ⟨r.val, hr⟩ j) else 0 := by
  unfold val_main_v58 val_main_v57 val_main_cst_18 G
  generalize val_main_v36 (F := Ideal) h f w t = g
  pointwise

theorem v61_at (r : Fin 16896) (j : Fin 1024) :
    val_main_v61 (F := Ideal) h f w t (ix2 r j)
      = if hr : r.val < 16400 then val_main_v54 (F := Ideal) h f w t (ix2 ⟨r.val, hr⟩ j) else 0 := by
  unfold val_main_v61 val_main_v60 val_main_v59 val_main_cst_19
  generalize val_main_v54 (F := Ideal) h f w t = v
  pointwise

end Cert.LossRefIdeal.RefValue

end
-- ==== Proof.MlpKernel.lean ====
/-
  What the kernel around the first residual sum leaves in its four result arrays: the residual's gradient with the second
  norm's gradient written out by hand added to it, the first norm's gradient of that, and the two weights' gradients, each
  a sum over all rows.
-/
module

public import proofs.«01_k».proof.Proof.NormMath
public import proofs.«01_k».proof.Proof.Sums
public import proofs.«01_k».proof.Proof.Gen.MlpResidualIdeal.Value
public import Idealize.ShloMosaic.Lib.Pipeline.ValueKit
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.MlpResidualIdeal.KernelValue

open Cert.MlpResidualIdeal Cert.MlpResidualIdeal.Gen Cert.NormMath

section Block

variable (h1 dn dh mix : Vec Ideal S768x1024 .f32) (gm gp : Vec Ideal S1x1024 .f32)

/-- A block of the gradient with respect to the residual sum. -/
theorem pay_dh (i : S768x1024.Idx) :
    k0_pay6 h1 gm dn dh i
      = dh i + byHand ((1024 : ℝ) : EReal) (fun k : Fin 1024 => h1 (ix2 (i 0) k)) (fun k => dn (ix2 (i 0) k) * gm (ix2 0 k)) (i 1) := by
  idx_vars i
  unfold k0_pay6 k0_pay4 k0_pay3 k0_pay2 byHand rms var
  pointwise
  simp only [ofBits_1024, ofBits_eps]

/-- A block's part of the second norm's weight gradient. -/
theorem pay_gm (i : S1x1024.Idx) :
    k0_pay5 h1 dn i
      = ∑ r : Fin 768, dn (ix2 r (i 1)) * h1 (ix2 r (i 1)) * rms ((1024 : ℝ) : EReal) (fun k : Fin 1024 => h1 (ix2 r k)) := by
  idx_vars i
  unfold k0_pay5 k0_pay4 k0_pay3 k0_pay2 rms var
  pointwise
  simp only [ofBits_1024, ofBits_eps]

/-- A block's part of the first norm's weight gradient. -/
theorem pay_gp (i : S1x1024.Idx) :
    k0_pay9 (F := Ideal) dh (k0_pay7 mix) i
      = ∑ r : Fin 768, dh (ix2 r (i 1)) * mix (ix2 r (i 1)) * rms ((1024 : ℝ) : EReal) (fun k : Fin 1024 => mix (ix2 r k)) := by
  idx_vars i
  unfold k0_pay9 k0_pay8 k0_pay7 rms var
  pointwise
  simp only [ofBits_1024, ofBits_eps]

/-- A block of the gradient with respect to the first norm's argument. -/
theorem pay_mix (i : S768x1024.Idx) :
    k0_pay10 (F := Ideal) dh (k0_pay7 mix) gp i
      = byHand ((1024 : ℝ) : EReal) (fun k : Fin 1024 => mix (ix2 (i 0) k)) (fun k => dh (ix2 (i 0) k) * gp (ix2 0 k)) (i 1) := by
  idx_vars i
  unfold k0_pay10 k0_pay8 k0_pay7 byHand rms var
  pointwise
  simp only [ofBits_1024, ofBits_eps]

end Block

variable (m : (ℓ : Loc nD τ sig) → Buf (Elt Ideal) ℓ) (c : Dev nD)

theorem idx : ∀ t : Fin cfg0.N,
    win0_0.index t = ![t.val, 0] ∧ win0_1.index t = ![t.val, 0] ∧ win0_2.index t = ![t.val, 0] ∧ win0_3.index t = ![0, 0]
    ∧ win0_4.index t = ![t.val, 0] ∧ win0_5.index t = ![0, 0] ∧ win0_6.index t = ![t.val, 0] ∧ win0_7.index t = ![t.val, 0]
    ∧ win0_8.index t = ![0, 0] ∧ win0_9.index t = ![0, 0] :=
  (by decide +kernel : ∀ t : Fin grid0.N, _)

theorem lt_N (t : Fin cfg0.N) : t.val < 22 := lt_of_lt_of_eq t.isLt N_0

/-- The arrays that the region reads, each padded with zero rows, and the two weights. -/
def dhArr : Vec Ideal S16896x1024 .f32 := V m c main_v18
def dnArr : Vec Ideal S16896x1024 .f32 := V m c main_v20
def hArr : Vec Ideal S16896x1024 .f32 := V m c main_v16
def mixArr : Vec Ideal S16896x1024 .f32 := V m c main_v22
def gmArr : Vec Ideal S1x1024 .f32 := V m c main_arg3
def gpArr : Vec Ideal S1x1024 .f32 := V m c main_arg2

/-- Row `r` of block `t`. -/
def row (t : ℕ) (ht : t < 22) (r : Fin 768) : Fin 16896 := ⟨768 * t + r.val, by have := r.isLt; omega⟩

theorem row_val (t : ℕ) (ht : t < 22) (r : Fin 768) : (row t ht r).val = 768 * t + r.val := rfl

/-- The point's blocks. -/
abbrev bdh (t : Fin cfg0.N) : Vec Ideal S768x1024 .f32 := iblk m c 0 t
abbrev bdn (t : Fin cfg0.N) : Vec Ideal S768x1024 .f32 := iblk m c 1 t
abbrev bh (t : Fin cfg0.N) : Vec Ideal S768x1024 .f32 := iblk m c 2 t
abbrev bgm (t : Fin cfg0.N) : Vec Ideal S1x1024 .f32 := iblk m c 3 t
abbrev bmix (t : Fin cfg0.N) : Vec Ideal S768x1024 .f32 := iblk m c 4 t
abbrev bgp (t : Fin cfg0.N) : Vec Ideal S1x1024 .f32 := iblk m c 5 t

theorem bdh_at (t : Fin cfg0.N) (r : Fin 768) (k : Fin 1024) : bdh m c t (ix2 r k) = dhArr m c (ix2 (row t.val (lt_N t) r) k) := by
  unfold bdh dhArr; blk_ext [iblk, idx t, row_val]
theorem bdn_at (t : Fin cfg0.N) (r : Fin 768) (k : Fin 1024) : bdn m c t (ix2 r k) = dnArr m c (ix2 (row t.val (lt_N t) r) k) := by
  unfold bdn dnArr; blk_ext [iblk, idx t, row_val]
theorem bh_at (t : Fin cfg0.N) (r : Fin 768) (k : Fin 1024) : bh m c t (ix2 r k) = hArr m c (ix2 (row t.val (lt_N t) r) k) := by
  unfold bh hArr; blk_ext [iblk, idx t, row_val]
theorem bmix_at (t : Fin cfg0.N) (r : Fin 768) (k : Fin 1024) : bmix m c t (ix2 r k) = mixArr m c (ix2 (row t.val (lt_N t) r) k) := by
  unfold bmix mixArr; blk_ext [iblk, idx t, row_val]
theorem bgm_at (t : Fin cfg0.N) (i : Fin 1) (k : Fin 1024) : bgm m c t (ix2 i k) = gmArr m c (ix2 i k) := by
  unfold bgm gmArr; blk_ext [iblk, idx t]
theorem bgp_at (t : Fin cfg0.N) (i : Fin 1) (k : Fin 1024) : bgp m c t (ix2 i k) = gpArr m c (ix2 i k) := by
  unfold bgp gpArr; blk_ext [iblk, idx t]

/-- The four results. -/
def dh1 : Vec Ideal S16896x1024 .f32 := fun i =>
  dhArr m c i + byHand ((1024 : ℝ) : EReal) (fun k : Fin 1024 => hArr m c (ix2 (i 0) k)) (fun k => dnArr m c (ix2 (i 0) k) * gmArr m c (ix2 0 k)) (i 1)
def dmix : Vec Ideal S16896x1024 .bf16 := fun i =>
  byHand ((1024 : ℝ) : EReal) (fun k : Fin 1024 => mixArr m c (ix2 (i 0) k)) (fun k => dh1 m c (ix2 (i 0) k) * gpArr m c (ix2 0 k)) (i 1)
def dgm : Vec Ideal S1x1024 .f32 := fun i =>
  ∑ r : Fin 16896, dnArr m c (ix2 r (i 1)) * hArr m c (ix2 r (i 1)) * rms ((1024 : ℝ) : EReal) (fun k : Fin 1024 => hArr m c (ix2 r k))
def dgp : Vec Ideal S1x1024 .f32 := fun i =>
  ∑ r : Fin 16896, dh1 m c (ix2 r (i 1)) * mixArr m c (ix2 r (i 1)) * rms ((1024 : ℝ) : EReal) (fun k : Fin 1024 => mixArr m c (ix2 r k))

/-- The first result's block at a point, its parts of the weights' gradients, and the second result's block. -/
abbrev pdh (t : Fin cfg0.N) : Vec Ideal S768x1024 .f32 := k0_pay6 (bh m c t) (bgm m c t) (bdn m c t) (bdh m c t)
abbrev pmix (t : Fin cfg0.N) : Vec Ideal S768x1024 .bf16 := k0_pay10 (pdh m c t) (k0_pay7 (bmix m c t)) (bgp m c t)
abbrev pgm (t : Fin cfg0.N) : Vec Ideal S1x1024 .f32 := k0_pay5 (bh m c t) (bdn m c t)
abbrev pgp (t : Fin cfg0.N) : Vec Ideal S1x1024 .f32 := k0_pay9 (pdh m c t) (k0_pay7 (bmix m c t))

/-- What a point leaves in the four output buffers. -/
theorem outs_first (t : Fin cfg0.N) (h : t.val % 22 = 0) : outsAt0 m c t.val t.isLt = (pdh m c t, pmix m c t, pgm m c t, pgp m c t) := by
  have ht := lt_N t
  rw [outsAt0_A m c t h (by omega) h (by omega)]
  frame_out

theorem outs_later (t : Fin cfg0.N) (h : ¬t.val % 22 = 0) : outsAt0 m c t.val t.isLt
    = (pdh m c t, pmix m c t,
       addf (F := Ideal) (s := S1x1024) (φ := .f32) (outsAt0 m c (t.val - 1) (Nat.lt_of_le_of_lt (Nat.sub_le _ _) t.isLt)).2.2.1 (pgm m c t),
       addf (F := Ideal) (s := S1x1024) (φ := .f32) (outsAt0 m c (t.val - 1) (Nat.lt_of_le_of_lt (Nat.sub_le _ _) t.isLt)).2.2.2 (pgp m c t)) := by
  have ht := lt_N t
  rw [outsAt0_B m c t h (by omega) h (by omega)]
  frame_out [k0_pay11, k0_pay1, shapeCast_self]

theorem outs_rows (t : Fin cfg0.N) : (outsAt0 m c t.val t.isLt).1 = pdh m c t ∧ (outsAt0 m c t.val t.isLt).2.1 = pmix m c t := by
  by_cases h : t.val % 22 = 0
  · rw [outs_first m c t h]; exact ⟨rfl, rfl⟩
  · rw [outs_later m c t h]; exact ⟨rfl, rfl⟩

/-- A block of the first result is the result's rows. -/
theorem pdh_at (t : Fin cfg0.N) (r : Fin 768) (k : Fin 1024) : pdh m c t (ix2 r k) = dh1 m c (ix2 (row t.val (lt_N t) r) k) := by
  unfold pdh dh1
  rw [pay_dh]
  show bdh m c t (ix2 r k) + byHand _ (fun q => bh m c t (ix2 r q)) (fun q => bdn m c t (ix2 r q) * bgm m c t (ix2 0 q)) k = _
  simp only [bdh_at, bh_at, bdn_at, bgm_at]
  rfl

theorem pmix_at (t : Fin cfg0.N) (r : Fin 768) (k : Fin 1024) : pmix m c t (ix2 r k) = dmix m c (ix2 (row t.val (lt_N t) r) k) := by
  unfold pmix dmix
  rw [pay_mix]
  show byHand _ (fun q => bmix m c t (ix2 r q)) (fun q => pdh m c t (ix2 r q) * bgp m c t (ix2 0 q)) k = _
  simp only [bmix_at, pdh_at, bgp_at]
  rfl

theorem pgm_at (t : Fin cfg0.N) (i : S1x1024.Idx) : pgm m c t i
    = ∑ r : Fin 768, dnArr m c (ix2 (row t.val (lt_N t) r) (i 1)) * hArr m c (ix2 (row t.val (lt_N t) r) (i 1))
        * rms ((1024 : ℝ) : EReal) (fun k : Fin 1024 => hArr m c (ix2 (row t.val (lt_N t) r) k)) := by
  idx_vars i
  unfold pgm
  rw [pay_gm]
  show (∑ r : Fin 768, bdn m c t (ix2 r i1) * bh m c t (ix2 r i1) * rms _ (fun k => bh m c t (ix2 r k))) = _
  simp only [bdn_at, bh_at]

theorem pgp_at (t : Fin cfg0.N) (i : S1x1024.Idx) : pgp m c t i
    = ∑ r : Fin 768, dh1 m c (ix2 (row t.val (lt_N t) r) (i 1)) * mixArr m c (ix2 (row t.val (lt_N t) r) (i 1))
        * rms ((1024 : ℝ) : EReal) (fun k : Fin 1024 => mixArr m c (ix2 (row t.val (lt_N t) r) k)) := by
  idx_vars i
  unfold pgp
  rw [pay_gp]
  show (∑ r : Fin 768, pdh m c t (ix2 r i1) * bmix m c t (ix2 r i1) * rms _ (fun k => bmix m c t (ix2 r k))) = _
  simp only [pdh_at, bmix_at]

theorem final_dh1 : (dats m 0 c).arrAt 6 cfg0.N = dh1 m c := by
  refine (dats m 0 c).arrAt_eq_of_covers 6 _ (by decide +kernel) fun t _ y => ?_
  blk_simp
  rw [after0_6, (outs_rows m c t).1]
  idx_vars y
  refine (pdh_at m c t y0 y1).trans ?_
  blk_ext [idx t, row_val]

theorem final_dmix : (dats m 0 c).arrAt 7 cfg0.N = dmix m c := by
  refine (dats m 0 c).arrAt_eq_of_covers 7 _ (by decide +kernel) fun t _ y => ?_
  blk_simp
  rw [after0_7, (outs_rows m c t).2]
  idx_vars y
  refine (pmix_at m c t y0 y1).trans ?_
  blk_ext [idx t, row_val]

/-- What the last point leaves in the weights' buffers. -/
theorem outs_last (t : Fin cfg0.N) (h : t.val % 22 = 21) (i : S1x1024.Idx) :
    (outsAt0 m c t.val t.isLt).2.2.1 i = dgm m c i ∧ (outsAt0 m c t.val t.isLt).2.2.2 i = dgp m c i := by
  have ht := lt_N t
  constructor
  · refine Sums.acc_blocks (a := 22) (b := 768) (by norm_num) _ (fun k hk => (outsAt0 m c k (lt_of_lt_of_eq hk N_0.symm)).2.2.1 i) row row_val
      (fun s h0 => ?_) (fun s h0 => ?_) t.val ht (by omega)
    · rw [outs_first m c ⟨s.val, _⟩ h0]; exact pgm_at m c ⟨s.val, _⟩ i
    · rw [outs_later m c ⟨s.val, _⟩ h0]; exact congrArg (_ + ·) (pgm_at m c ⟨s.val, _⟩ i)
  · refine Sums.acc_blocks (a := 22) (b := 768) (by norm_num) _ (fun k hk => (outsAt0 m c k (lt_of_lt_of_eq hk N_0.symm)).2.2.2 i) row row_val
      (fun s h0 => ?_) (fun s h0 => ?_) t.val ht (by omega)
    · rw [outs_first m c ⟨s.val, _⟩ h0]; exact pgp_at m c ⟨s.val, _⟩ i
    · rw [outs_later m c ⟨s.val, _⟩ h0]; exact congrArg (_ + ·) (pgp_at m c ⟨s.val, _⟩ i)

theorem final_dgm : (dats m 0 c).arrAt 8 cfg0.N = dgm m c := by
  refine (dats m 0 c).arrAt_eq_of_covers 8 _ (by decide +kernel) fun t hf y => ?_
  blk_simp
  rw [after0_8]
  idx_vars y
  refine (outs_last m c t ((flush0_8 t).mp hf) (ix2 y0 y1)).1.trans (congrArg (dgm m c) ?_)
  funext a
  apply Fin.ext
  fin_cases a
  · blk_simp [idx t]
  · blk_simp [idx t]

theorem final_dgp : (dats m 0 c).arrAt 9 cfg0.N = dgp m c := by
  refine (dats m 0 c).arrAt_eq_of_covers 9 _ (by decide +kernel) fun t hf y => ?_
  blk_simp
  rw [after0_9]
  idx_vars y
  refine (outs_last m c t ((flush0_9 t).mp hf) (ix2 y0 y1)).2.trans (congrArg (dgp m c) ?_)
  funext a
  apply Fin.ext
  fin_cases a
  · blk_simp [idx t]
  · blk_simp [idx t]

end Cert.MlpResidualIdeal.KernelValue

end
-- ==== Proof.MlpRef.lean ====
/-
  What the reference around the first residual sum computes, read at an index: the chain rule's form of each row of the two
  gradients, zero in the padding, and each weight's gradient as a sum over the sequence.
-/
module

public import proofs.«01_k».proof.Proof.NormMath
public import proofs.«01_k».proof.Proof.Gen.MlpResidualRefIdeal.Read

@[expose] public section

set_option maxRecDepth 16384

noncomputable section

open Idealize.ShloMosaic Idealize.ShloMosaic.TcCoe

namespace Cert.MlpResidualRefIdeal.RefValue

open Cert.MlpResidualRefIdeal Cert.MlpResidualRefIdeal.Gen Cert.MlpResidualRefIdeal.Read Cert.NormMath

variable (h0 mix : Vec Ideal S16400x1024 .f32) (gp gm : Vec Ideal S1x1024 .f32) (dh dn : Vec Ideal S16400x1024 .f32)

/-- The residual sum, and the gradients that reach it. -/
abbrev h1 : Vec Ideal S16400x1024 .f32 := val_main_v19 (F := Ideal) h0 mix gp
abbrev d1 : Vec Ideal S16400x1024 .f32 := val_main_v57 (F := Ideal) h0 mix gp gm dh dn
abbrev mixRow (r : Fin 16400) (k : Fin 1024) : EReal := mix (ix2 r k)
abbrev hRow (r : Fin 16400) (k : Fin 1024) : EReal := h1 h0 mix gp (ix2 r k)

theorem v9_at (r : Fin 16400) (i : Fin 1) : val_main_v9 (F := Ideal) mix (ix2 r i) = var ((1024 : ℝ) : EReal) (mixRow mix r) := by
  unfold val_main_v9 val_main_v8 val_main_cst_2 val_main_v7 val_main_v6 val_main_cst_1 val_main_v5 val_main_v4 val_main_cst_0
    val_main_v1 var mixRow
  pointwise
  simp only [ofBits_1024, ofBits_eps]

theorem v10_at (r : Fin 16400) (i : Fin 1) : val_main_v10 (F := Ideal) mix (ix2 r i) = rms ((1024 : ℝ) : EReal) (mixRow mix r) := by
  unfold val_main_v10 rms
  rw [← v9_at mix r i]
  rfl

theorem h1_at (r : Fin 16400) (k : Fin 1024) :
    h1 h0 mix gp (ix2 r k) = h0 (ix2 r k) + mix (ix2 r k) * rms ((1024 : ℝ) : EReal) (mixRow mix r) * gp (ix2 0 k) := by
  rw [← v10_at mix r 0]
  unfold h1 val_main_v19 val_main_v18 val_main_v17 val_main_v16 val_main_v15 val_main_v14 val_main_v0
  generalize val_main_v10 (F := Ideal) mix = r10
  pointwise

theorem v29_at (r : Fin 16400) (i : Fin 1) :
    val_main_v29 (F := Ideal) h0 mix gp (ix2 r i) = var ((1024 : ℝ) : EReal) (hRow h0 mix gp r) := by
  unfold val_main_v29 val_main_v28 val_main_cst_7 val_main_v27 val_main_v26 val_main_cst_6 val_main_v25 val_main_v24 val_main_cst_5
    val_main_v21 var hRow h1
  generalize val_main_v19 (F := Ideal) h0 mix gp = h
  pointwise
  simp only [ofBits_1024, ofBits_eps]

theorem v30_at (r : Fin 16400) (i : Fin 1) :
    val_main_v30 (F := Ideal) h0 mix gp (ix2 r i) = rms ((1024 : ℝ) : EReal) (hRow h0 mix gp r) := by
  unfold val_main_v30 rms
  rw [← v29_at h0 mix gp r i]
  rfl

/-- The second norm's gradient at its result times the weight. -/
theorem v43_at (r : Fin 16400) (k : Fin 1024) : val_main_v43 (F := Ideal) gm dn (ix2 r k) = dn (ix2 r k) * gm (ix2 0 k) := by
  unfold val_main_v43 val_main_v42 val_main_v36 val_main_v20
  pointwise

theorem d1_at (r : Fin 16400) (j : Fin 1024) :
    d1 h0 mix gp gm dh dn (ix2 r j)
      = dh (ix2 r j) + dn (ix2 r j) * gm (ix2 0 j) * rms ((1024 : ℝ) : EReal) (hRow h0 mix gp r)
        + throughMean ((1024 : ℝ) : EReal) (hRow h0 mix gp r) (fun k => dn (ix2 r k) * gm (ix2 0 k)) j := by
  unfold throughMean
  rw [← v30_at h0 mix gp r 0, ← v29_at h0 mix gp r 0]
  rw [show (fun k : Fin 1024 => dn (ix2 r k) * gm (ix2 0 k)) = fun k => val_main_v43 (F := Ideal) gm dn (ix2 r k) from
    funext fun k => (v43_at gm dn r k).symm, ← v43_at gm dn r j]
  dsimp only
  unfold d1 val_main_v57 val_main_v56 val_main_v55 val_main_v54 val_main_v53 val_main_v52 val_main_v51 val_main_v50 val_main_v49
    val_main_v48 val_main_v47 val_main_v46 val_main_v45 val_main_v33 val_main_v32 val_main_v31 val_main_v23 val_main_v22
    val_main_cst_4 val_main_cst_8 val_main_cst_11 val_main_cst_12 val_main_cst_13 hRow h1
  generalize val_main_v30 (F := Ideal) h0 mix gp = r30
  generalize val_main_v29 (F := Ideal) h0 mix gp = r29
  generalize val_main_v43 (F := Ideal) gm dn = g
  generalize val_main_v19 (F := Ideal) h0 mix gp = h
  pointwise
  simp only [ofBits_1024, ofBits_two, ofBits_neg_half, Finset.univ_unique, Finset.sum_singleton]
  rfl

theorem v80_at (r : Fin 16896) (j : Fin 1024) :
    val_main_v80 (F := Ideal) h0 mix gp gm dh dn (ix2 r j)
      = if h : r.val < 16400 then d1 h0 mix gp gm dh dn (ix2 ⟨r.val, h⟩ j) else 0 := by
  unfold val_main_v80 val_main_v79 val_main_cst_19 d1
  generalize val_main_v57 (F := Ideal) h0 mix gp gm dh dn = v
  pointwise

theorem v58_at (i : Fin 1) (j : Fin 1024) :
    val_main_v58 (F := Ideal) h0 mix gp dn (ix2 i j)
      = ∑ r : Fin 16400, h1 h0 mix gp (ix2 r j) * rms ((1024 : ℝ) : EReal) (hRow h0 mix gp r) * dn (ix2 r j) := by
  simp only [← v30_at h0 mix gp _ 0]
  unfold val_main_v58 val_main_v44 val_main_v41 val_main_v40 val_main_v39 val_main_v35 val_main_v34 val_main_cst_9 val_main_cst_10 h1
  generalize val_main_v30 (F := Ideal) h0 mix gp = r30
  generalize val_main_v19 (F := Ideal) h0 mix gp = h
  pointwise
  simp only [Finset.univ_unique, Finset.sum_singleton]

/-- The gradient at the first norm's result times its weight. -/
theorem v64_at (r : Fin 16400) (k : Fin 1024) :
    val_main_v64 (F := Ideal) h0 mix gp gm dh dn (ix2 r k) = d1 h0 mix gp gm dh dn (ix2 r k) * gp (ix2 0 k) := by
  unfold val_main_v64 val_main_v63 val_main_v59 val_main_v16 val_main_v0 d1
  generalize val_main_v57 (F := Ideal) h0 mix gp gm dh dn = v
  pointwise

theorem v77_at (r : Fin 16400) (j : Fin 1024) :
    val_main_v77 (F := Ideal) h0 mix gp gm dh dn (ix2 r j)
      = d1 h0 mix gp gm dh dn (ix2 r j) * gp (ix2 0 j) * rms ((1024 : ℝ) : EReal) (mixRow mix r)
        + throughMean ((1024 : ℝ) : EReal) (mixRow mix r) (fun k => d1 h0 mix gp gm dh dn (ix2 r k) * gp (ix2 0 k)) j := by
  unfold throughMean
  rw [← v10_at mix r 0, ← v9_at mix r 0]
  rw [show (fun k : Fin 1024 => d1 h0 mix gp gm dh dn (ix2 r k) * gp (ix2 0 k))
      = fun k => val_main_v64 (F := Ideal) h0 mix gp gm dh dn (ix2 r k) from
    funext fun k => (v64_at h0 mix gp gm dh dn r k).symm, ← v64_at h0 mix gp gm dh dn r j]
  dsimp only
  unfold val_main_v77 val_main_v76 val_main_v75 val_main_v74 val_main_v73 val_main_v72 val_main_v71 val_main_v70 val_main_v69
    val_main_v68 val_main_v67 val_main_v66 val_main_v13 val_main_v12 val_main_v11 val_main_v3 val_main_v2
    val_main_cst val_main_cst_3 val_main_cst_16 val_main_cst_17 val_main_cst_18 mixRow
  generalize val_main_v10 (F := Ideal) mix = r10
  generalize val_main_v9 (F := Ideal) mix = r9
  generalize val_main_v64 (F := Ideal) h0 mix gp gm dh dn = g
  pointwise
  simp only [ofBits_1024, ofBits_two, ofBits_neg_half, Finset.univ_unique, Finset.sum_singleton]
  rfl

theorem v83_at (r : Fin 16896) (j : Fin 1024) :
    val_main_v83 (F := Ideal) h0 mix gp gm dh dn (ix2 r j)
      = if h : r.val < 16400 then val_main_v77 (F := Ideal) h0 mix gp gm dh dn (ix2 ⟨r.val, h⟩ j) else 0 := by
  unfold val_main_v83 val_main_v82 val_main_v81 val_main_cst_20
  generalize val_main_v77 (F := Ideal) h0 mix gp gm dh dn = v
  pointwise

theorem v78_at (i : Fin 1) (j : Fin 1024) :
    val_main_v78 (F := Ideal) h0 mix gp gm dh dn (ix2 i j)
      = ∑ r : Fin 16400, mix (ix2 r j) * rms ((1024 : ℝ) : EReal) (mixRow mix r) * d1 h0 mix gp gm dh dn (ix2 r j) := by
  simp only [← v10_at mix _ 0]
  unfold val_main_v78 val_main_v65 val_main_v62 val_main_v61 val_main_v60 val_main_v59 val_main_v15 val_main_v14 val_main_cst_14
    val_main_cst_15 d1
  generalize val_main_v10 (F := Ideal) mix = r10
  generalize val_main_v57 (F := Ideal) h0 mix gp gm dh dn = v
  pointwise
  simp only [Finset.univ_unique, Finset.sum_singleton]

end Cert.MlpResidualRefIdeal.RefValue

end
-- ==== Proof.MlpClaim.lean ====
/-
  The claims about the two norms around the first residual sum: the kernel's four arrays are the derivative's, given real
  arguments.
-/
module

public import proofs.«01_k».proof.Defs
public import proofs.«01_k».proof.Proof.MlpKernel
public import proofs.«01_k».proof.Proof.MlpRef
public import proofs.«01_k».proof.Proof.Gen.MlpResidualRefIdeal.Run

@[expose] public section

set_option maxRecDepth 16384

noncomputable section

open Idealize.ShloMosaic Idealize.ShloMosaic.TcCoe Idealize.SL.Sem

namespace Cert.MlpResidualEq

open Cert.MlpResidualIdeal Cert.MlpResidualIdeal.Gen Cert.MlpResidualIdeal.KernelValue Cert.NormMath Cert.RealCoe
open Cert.MlpResidualRefIdeal.RefValue (h1 d1 mixRow hRow h1_at d1_at v80_at v83_at v77_at v58_at v78_at)
open Cert.MlpResidualRefIdeal.Read (val_main_v80 val_main_v83 val_main_v58 val_main_v78 val_main_v19)

variable (m : (ℓ : Loc nD τ sig) → Buf (Elt Ideal) ℓ) (c : Dev nD)

/-- The arguments, as arrays. -/
abbrev h0A : Vec Ideal S16400x1024 .f32 := m ((c : Thread nD τ).loc main_arg0)
abbrev mixA : Vec Ideal S16400x1024 .f32 := m ((c : Thread nD τ).loc main_arg1)
abbrev gpA : Vec Ideal S1x1024 .f32 := m ((c : Thread nD τ).loc main_arg2)
abbrev gmA : Vec Ideal S1x1024 .f32 := m ((c : Thread nD τ).loc main_arg3)
abbrev dhA : Vec Ideal S16400x1024 .f32 := m ((c : Thread nD τ).loc main_arg4)
abbrev dnA : Vec Ideal S16400x1024 .f32 := m ((c : Thread nD τ).loc main_arg5)

/-- A row of a padded array: the array's row in the sequence, zero behind it. -/
def padRow (a : Vec Ideal S16400x1024 .f32) (r : Fin 16896) (k : Fin 1024) : EReal :=
  if h : r.val < 16400 then a (ix2 ⟨r.val, h⟩ k) else 0

theorem pad_at (a : Vec Ideal S16400x1024 .f32) (r : Fin 16896) (k : Fin 1024) :
    concatenate S16896x1024 0 [⟨S16400x1024, a⟩, ⟨S496x1024, broadcastInDim S496x1024 ![] bcast_S_S496x1024
      (constant (F := Ideal) S_ .f32 0x00000000#32)⟩] concatenates_S16400x1024_S496x1024_S16896x1024_d0 (ix2 r k) = padRow a r k := by
  unfold padRow
  pointwise

theorem padRow_lt (a : Vec Ideal S16400x1024 .f32) (r : Fin 16896) (hr : r.val < 16400) :
    padRow a r = fun k => a (ix2 ⟨r.val, hr⟩ k) := funext fun _ => dif_pos hr

theorem padRow_ge (a : Vec Ideal S16400x1024 .f32) (r : Fin 16896) (hr : ¬r.val < 16400) : padRow a r = fun _ => 0 :=
  funext fun _ => dif_neg hr

theorem dhArr_eq (r : Fin 16896) (k : Fin 1024) : dhArr m c (ix2 r k) = padRow (dhA m c) r k := by
  rw [← pad_at]; refine congrFun ?_ _; unfold dhArr V; after_results
theorem dnArr_eq (r : Fin 16896) (k : Fin 1024) : dnArr m c (ix2 r k) = padRow (dnA m c) r k := by
  rw [← pad_at]; refine congrFun ?_ _; unfold dnArr V; after_results
theorem mixArr_eq (r : Fin 16896) (k : Fin 1024) : mixArr m c (ix2 r k) = padRow (mixA m c) r k := by
  rw [← pad_at]; refine congrFun ?_ _; unfold mixArr V; after_results
theorem gmArr_eq : gmArr m c = gmA m c := V_main_arg3 m c
theorem gpArr_eq : gpArr m c = gpA m c := V_main_arg2 m c

/-- The arguments on which the claim depends are real. -/
structure Real : Prop where
  h0 : ∀ i, Finite (h0A m c i)
  mix : ∀ i, Finite (mixA m c i)
  gp : ∀ i, Finite (gpA m c i)
  gm : ∀ i, Finite (gmA m c i)
  dh : ∀ i, Finite (dhA m c i)
  dn : ∀ i, Finite (dnA m c i)

variable {m c}

/-- The reference's residual sum and its gradient. -/
def H : Vec Ideal S16400x1024 .f32 := h1 (h0A m c) (mixA m c) (gpA m c)
def D : Vec Ideal S16400x1024 .f32 := d1 (h0A m c) (mixA m c) (gpA m c) (gmA m c) (dhA m c) (dnA m c)

variable (m c) in
theorem hArr_eq (r : Fin 16896) (k : Fin 1024) : hArr m c (ix2 r k) = padRow (H (m := m) (c := c)) r k := by
  rw [← pad_at]; refine congrFun ?_ _; unfold hArr V H; after_results; rfl

theorem Real.hidden (h : Real m c) (r : Fin 16400) (k : Fin 1024) : Finite (H (m := m) (c := c) (ix2 r k)) := by
  unfold H
  rw [h1_at]
  exact (h.h0 _).add (((h.mix _).mul (rms_finite (by norm_num) fun _ => h.mix _)).mul (h.gp _))

/-- The chain rule's form of the residual's gradient is the one written out by hand. -/
theorem Real.by_hand (h : Real m c) (r : Fin 16400) (j : Fin 1024) : D (m := m) (c := c) (ix2 r j)
    = dhA m c (ix2 r j) + byHand ((1024 : ℝ) : EReal) (fun k : Fin 1024 => H (m := m) (c := c) (ix2 r k)) (fun k => dnA m c (ix2 r k) * gmA m c (ix2 0 k)) j := by
  rw [byHand_eq (by norm_num) (fun k => h.hidden r k) (fun k => (h.dn _).mul (h.gm _))]
  unfold D
  rw [d1_at, add_assoc]
  rfl

theorem Real.grad (h : Real m c) (r : Fin 16400) (j : Fin 1024) : Finite (D (m := m) (c := c) (ix2 r j)) := by
  rw [h.by_hand]
  exact (h.dh _).add (byHand_finite (by norm_num) (fun k => h.hidden r k) (fun k => (h.dn _).mul (h.gm _)) j)

theorem dh1_at (h : Real m c) (r : Fin 16896) (j : Fin 1024) : dh1 m c (ix2 r j) = padRow (D (m := m) (c := c)) r j := by
  show dhArr m c (ix2 r j) + byHand _ (fun k => hArr m c (ix2 r k)) (fun k => dnArr m c (ix2 r k) * gmArr m c (ix2 0 k)) j = _
  simp only [dhArr_eq, hArr_eq, dnArr_eq, gmArr_eq]
  by_cases hr : r.val < 16400
  · simp only [padRow_lt _ _ hr]
    rw [h.by_hand]
  · simp only [padRow_ge _ _ hr, byHand, zero_mul, mul_zero, sub_zero, add_zero]

theorem dh1_eq (h : Real m c) :
    dh1 m c = val_main_v80 (F := Ideal) (h0A m c) (mixA m c) (gpA m c) (gmA m c) (dhA m c) (dnA m c) := by
  funext i
  idx_vars i
  exact (dh1_at h i0 i1).trans (v80_at _ _ _ _ _ _ i0 i1).symm

theorem dmix_eq (h : Real m c) :
    dmix m c = val_main_v83 (F := Ideal) (h0A m c) (mixA m c) (gpA m c) (gmA m c) (dhA m c) (dnA m c) := by
  funext i
  idx_vars i
  refine Eq.trans ?_ (v83_at _ _ _ _ _ _ i0 i1).symm
  show byHand _ (fun k => mixArr m c (ix2 i0 k)) (fun k => dh1 m c (ix2 i0 k) * gpArr m c (ix2 0 k)) i1 = _
  simp only [mixArr_eq, dh1_at h, gpArr_eq]
  by_cases hr : i0.val < 16400
  · rw [dif_pos hr, v77_at]
    simp only [padRow_lt _ _ hr]
    exact byHand_eq (by norm_num) (fun k => h.mix _) (fun k => (h.grad ⟨i0.val, hr⟩ k).mul (h.gp _)) i1
  · rw [dif_neg hr]
    simp only [padRow_ge _ _ hr, byHand, zero_mul, mul_zero, sub_zero]

theorem dgm_eq : dgm m c = val_main_v58 (F := Ideal) (h0A m c) (mixA m c) (gpA m c) (dnA m c) := by
  funext i
  idx_vars i
  refine Eq.trans ?_ (v58_at _ _ _ _ i0 i1).symm
  show (∑ r : Fin 16896, dnArr m c (ix2 r i1) * hArr m c (ix2 r i1) * rms _ (fun k => hArr m c (ix2 r k))) = _
  simp only [dnArr_eq, hArr_eq]
  rw [Sums.fin_prefix (n := 16400) (by norm_num)]
  · refine Finset.sum_congr rfl fun r _ => ?_
    simp only [padRow_lt _ (⟨r.val, _⟩ : Fin 16896) r.isLt]
    rw [mul_assoc, mul_comm]
    rfl
  · intro r hr
    simp only [padRow_ge _ _ hr, zero_mul]

theorem dgp_eq (h : Real m c) :
    dgp m c = val_main_v78 (F := Ideal) (h0A m c) (mixA m c) (gpA m c) (gmA m c) (dhA m c) (dnA m c) := by
  funext i
  idx_vars i
  refine Eq.trans ?_ (v78_at _ _ _ _ _ _ i0 i1).symm
  show (∑ r : Fin 16896, dh1 m c (ix2 r i1) * mixArr m c (ix2 r i1) * rms _ (fun k => mixArr m c (ix2 r k))) = _
  simp only [dh1_at h, mixArr_eq]
  rw [Sums.fin_prefix (n := 16400) (by norm_num)]
  · refine Finset.sum_congr rfl fun r _ => ?_
    simp only [padRow_lt _ (⟨r.val, _⟩ : Fin 16896) r.isLt]
    rw [mul_assoc, mul_comm]
    rfl
  · intro r hr
    simp only [padRow_ge _ _ hr, zero_mul]

/-- The side conditions the precondition states. -/
instance preFacts : Cert.Pre_mlp_residual_finite.Facts := ⟨by decide, by decide, by decide⟩

/-- The precondition says that the arguments are real. -/
theorem real_of_pre (h : Cert.Pre_MlpResidualIdeal_mlp_residual_finite m) (c : Dev nD) : Real m c where
  h0 i := finite_of_test (congrFun (h c).1 i)
  mix i := finite_of_test (congrFun (h c).2.1 i)
  gp i := finite_of_test (congrFun (h c).2.2.1 i)
  gm i := finite_of_test (congrFun (h c).2.2.2.1 i)
  dh i := finite_of_test (congrFun (h c).2.2.2.2.1 i)
  dn i := finite_of_test (congrFun (h c).2.2.2.2.2 i)

theorem algebraic : Cert.algebraic_MlpResidualIdeal_MlpResidualRefIdeal_pre_mlp_residual_finite := by
  intro m g m' g' hp ha
  refine ⟨fun c => dh1 m c, fun c => dmix m c, fun c => dgm m c, fun c => dgp m c, ?_, ?_⟩
  · exact (θ_run _ _ _).mono (fun r h c => ⟨(h c).1.trans (final_dh1 m c), (h c).2.1.trans (final_dmix m c),
      (h c).2.2.1.trans (final_dgm m c), (h c).2.2.2.1.trans (final_dgp m c), (h c).2.2.2.2⟩) (Cert.MlpResidualIdeal.Value.run_blocks m g)
  · refine (θ_run _ _ _).mono (fun r h c => ?_) (Cert.MlpResidualRefIdeal.Value.run m' g')
    obtain ⟨h0, h1, h2, h3, h4, h5⟩ := ha c
    have hr := real_of_pre hp c
    refine ⟨(h c).1.trans ?_, (h c).2.1.trans ?_, (h c).2.2.1.trans ?_, (h c).2.2.2.1.trans ?_, (h c).2.2.2.2⟩
    · refine ((Cert.MlpResidualRefIdeal.Read.val_main_v80_eq ..).trans ?_).trans (dh1_eq hr).symm
      rw [h0, h1, h2, h3, h4, h5]
    · refine ((Cert.MlpResidualRefIdeal.Read.val_main_v83_eq ..).trans ?_).trans (dmix_eq hr).symm
      rw [h0, h1, h2, h3, h4, h5]
    · refine ((Cert.MlpResidualRefIdeal.Read.val_main_v58_eq ..).trans ?_).trans dgm_eq.symm
      rw [h0, h1, h2, h5]
    · refine ((Cert.MlpResidualRefIdeal.Read.val_main_v78_eq ..).trans ?_).trans (dgp_eq hr).symm
      rw [h0, h1, h2, h3, h4, h5]

/-- The reference ends with its arguments and its counters as they were. -/
theorem frame_ref : Cert.quiescent_MlpResidualRefIdeal := fun m g _ =>
  (θ_run Cert.MlpResidualRefIdeal.defs _ _).mono (fun r h => ⟨fun c => (h c).2.2.2.2, sem_eq_zero_of_no_sems (by decide) r.2⟩)
    (Cert.MlpResidualRefIdeal.Value.run (F := Ideal) m g)

end Cert.MlpResidualEq

end
-- ==== Proof.LossClaim.lean ====
/-
  The claims about the loss: the kernel's loss and its three gradients are the reference's, given real arguments.
-/
module

public import proofs.«01_k».proof.Defs
public import proofs.«01_k».proof.Proof.LossKernel
public import proofs.«01_k».proof.Proof.LossRef
public import proofs.«01_k».proof.Proof.MlpClaim
public import proofs.«01_k».proof.Proof.Gen.LossRefIdeal.Run

@[expose] public section

set_option maxRecDepth 16384

noncomputable section

open Idealize.ShloMosaic Idealize.ShloMosaic.TcCoe Idealize.SL.Sem

namespace Cert.LossEq

open Cert.LossIdeal Cert.LossIdeal.Gen Cert.LossIdeal.KernelValue Cert.NormMath Cert.RealCoe
open Cert.MlpResidualEq (padRow pad_at padRow_lt padRow_ge)
open Cert.LossRefIdeal.RefValue (err G fRow err_at v56_at G_at v54_at v55_at v58_at v61_at)
open Cert.LossRefIdeal.Read (val_main_v56 val_main_v58 val_main_v61 val_main_v55)

variable (m : (ℓ : Loc nD τ sig) → Buf (Elt Ideal) ℓ) (c : Dev nD)

/-- The arguments, as arrays. -/
abbrev hA : Vec Ideal S16400x1024 .f32 := m ((c : Thread nD τ).loc main_arg0)
abbrev fA : Vec Ideal S16400x1024 .f32 := m ((c : Thread nD τ).loc main_arg1)
abbrev wA : Vec Ideal S1x1024 .f32 := m ((c : Thread nD τ).loc main_arg2)
abbrev tA : Vec Ideal S16384x1024 .f32 := m ((c : Thread nD τ).loc main_arg3)

theorem hArr_eq (r : Fin 16896) (k : Fin 1024) : hArr m c (ix2 r k) = padRow (hA m c) r k := by
  rw [← pad_at]; refine congrFun ?_ _; unfold hArr V; after_results
theorem fArr_eq (r : Fin 16896) (k : Fin 1024) : fArr m c (ix2 r k) = padRow (fA m c) r k := by
  rw [← pad_at]; refine congrFun ?_ _; unfold fArr V; after_results
theorem wArr_eq : wArr m c = wA m c := V_main_arg2 m c
theorem tArr_eq : tArr m c = tA m c := V_main_arg3 m c

/-- The arguments are real. -/
structure Real : Prop where
  h : ∀ i, Finite (hA m c i)
  f : ∀ i, Finite (fA m c i)
  w : ∀ i, Finite (wA m c i)
  t : ∀ i, Finite (tA m c i)

variable {m c}

/-- The reference's error, and its gradient. -/
def E : Vec Ideal S16384x1024 .f32 := err (hA m c) (fA m c) (wA m c) (tA m c)
def D : Vec Ideal S16400x1024 .f32 := G (hA m c) (fA m c) (wA m c) (tA m c)

theorem D_at (r : Fin 16400) (k : Fin 1024) : D (m := m) (c := c) (ix2 r k)
    = if hr : 16 ≤ r.val then Ideal.div (E (m := m) (c := c) (ix2 ⟨r.val - 16, by omega⟩ k)) ((1024 : ℝ) : EReal) else 0 := G_at _ _ _ _ r k

/-- The kernel's error of a row, behind the first sixteen, is the reference's. -/
theorem diff_in (R : Fin 16896) (k : Fin 1024) (h : 16 ≤ R.val ∧ R.val < 16400) :
    diff m c R k = E (m := m) (c := c) (ix2 ⟨R.val - 16, by omega⟩ k) := by
  have hR : (⟨16 + (R.val - 16), by omega⟩ : Fin 16400) = ⟨R.val, h.2⟩ := Fin.ext (by show 16 + (R.val - 16) = R.val; omega)
  unfold diff E
  rw [dif_pos h, err_at _ _ _ _ _ _ (by show 16 + (R.val - 16) < 16400; omega)]
  simp only [hArr_eq, fArr_eq, wArr_eq, tArr_eq, padRow_lt _ R h.2, hR]

theorem diff_out (R : Fin 16896) (k : Fin 1024) (h : ¬(16 ≤ R.val ∧ R.val < 16400)) : diff m c R k = 0 := by
  unfold diff
  rw [dif_neg h]

theorem div_zero_left : Ideal.div 0 ((1024 : ℝ) : EReal) = 0 := by rw [Ideal.div_coe (by norm_num), zero_mul]

theorem grad_eq (R : Fin 16896) (k : Fin 1024) : grad m c R k = padRow (D (m := m) (c := c)) R k := by
  unfold grad
  by_cases h : R.val < 16400
  · rw [padRow_lt _ R h]
    dsimp only
    rw [D_at]
    by_cases h16 : 16 ≤ R.val
    · rw [dif_pos h16, diff_in R k ⟨h16, h⟩]
    · rw [dif_neg h16, diff_out R k (fun q => h16 q.1), div_zero_left]
  · rw [padRow_ge _ R h, diff_out R k (fun q => h q.2), div_zero_left]

theorem part_out (R : Fin 16896) (h : ¬(16 ≤ R.val ∧ R.val < 16400)) : part m c R = 0 := by
  unfold part
  simp only [diff_out R _ h, mul_zero, Finset.sum_const_zero, div_zero_left]

theorem loss_eq : loss m c = val_main_v56 (F := Ideal) (hA m c) (fA m c) (wA m c) (tA m c) := by
  funext i
  idx_vars i
  refine Eq.trans ?_ (v56_at _ _ _ _ i0 i1).symm
  rw [Sums.coe_mul_sum _ (by norm_num)]
  show (∑ R : Fin 16896, part m c R) = _
  rw [Sums.fin_prefix (n := 16400) (by norm_num) _ (fun r hr => part_out r (by omega)),
    Sums.fin_shift (d := 16) (n := 16384) (by norm_num) _ (fun r hr => part_out _ (fun q => by have := q.1; simp at this; omega))]
  refine Finset.sum_congr rfl fun r _ => ?_
  have hr := r.isLt
  have hd : ∀ k, diff m c ⟨16 + r.val, by omega⟩ k = E (m := m) (c := c) (ix2 r k) := fun k =>
    (diff_in (⟨16 + r.val, by omega⟩ : Fin 16896) k ⟨Nat.le_add_right 16 r.val, by show 16 + r.val < 16400; omega⟩).trans
      (congrArg (fun q => E (m := m) (c := c) (ix2 q k)) (Fin.ext (Nat.add_sub_cancel_left 16 r.val)))
  unfold part
  simp only [hd]
  rfl

theorem dh_eq : dh m c = val_main_v58 (F := Ideal) (hA m c) (fA m c) (wA m c) (tA m c) := by
  funext i
  idx_vars i
  exact (grad_eq i0 i1).trans (v58_at _ _ _ _ i0 i1).symm

theorem Real.grad (h : Real m c) (r : Fin 16400) (k : Fin 1024) : Finite (D (m := m) (c := c) (ix2 r k)) := by
  rw [D_at]
  by_cases h16 : 16 ≤ r.val
  · rw [dif_pos h16, Ideal.div_coe (by norm_num)]
    unfold E
    rw [err_at _ _ _ _ _ _ (by show 16 + (r.val - 16) < 16400; omega)]
    exact (((h.h _).add (((h.f _).mul (rms_finite (by norm_num) fun _ => h.f _)).mul (h.w _))).sub (h.t _)).mul (finite_coe _)
  · rw [dif_neg h16]
    exact finite_zero

theorem df_eq (h : Real m c) : df m c = val_main_v61 (F := Ideal) (hA m c) (fA m c) (wA m c) (tA m c) := by
  funext i
  idx_vars i
  refine Eq.trans ?_ (v61_at _ _ _ _ i0 i1).symm
  show byHand _ (fun k => fArr m c (ix2 i0 k)) (fun k => KernelValue.grad m c i0 k * wArr m c (ix2 0 k)) i1 = _
  simp only [fArr_eq, grad_eq, wArr_eq]
  by_cases hr : i0.val < 16400
  · rw [dif_pos hr, v54_at]
    simp only [padRow_lt _ _ hr]
    exact byHand_eq (by norm_num) (fun k => h.f _) (fun k => (h.grad ⟨i0.val, hr⟩ k).mul (h.w _)) i1
  · rw [dif_neg hr]
    simp only [padRow_ge _ _ hr, byHand, zero_mul, mul_zero, sub_zero]

theorem dg_eq : dg m c = val_main_v55 (F := Ideal) (hA m c) (fA m c) (wA m c) (tA m c) := by
  funext i
  idx_vars i
  refine Eq.trans ?_ (v55_at _ _ _ _ i0 i1).symm
  show (∑ r : Fin 16896, KernelValue.grad m c r i1 * fArr m c (ix2 r i1) * rms _ (fun k => fArr m c (ix2 r k))) = _
  simp only [grad_eq, fArr_eq]
  rw [Sums.fin_prefix (n := 16400) (by norm_num)]
  · refine Finset.sum_congr rfl fun r _ => ?_
    simp only [padRow_lt _ (⟨r.val, _⟩ : Fin 16896) r.isLt]
    rw [mul_assoc, mul_comm]
    rfl
  · intro r hr
    simp only [padRow_ge _ _ hr, zero_mul]

/-- The side conditions the precondition states. -/
instance preFacts : Cert.Pre_loss_finite.Facts := ⟨by decide, by decide, by decide, by decide⟩

/-- The precondition says that the arguments are real. -/
theorem real_of_pre (h : Cert.Pre_LossIdeal_loss_finite m) (c : Dev nD) : Real m c where
  h i := finite_of_test (congrFun (h c).1 i)
  f i := finite_of_test (congrFun (h c).2.1 i)
  w i := finite_of_test (congrFun (h c).2.2.1 i)
  t i := finite_of_test (congrFun (h c).2.2.2 i)

theorem algebraic : Cert.algebraic_LossIdeal_LossRefIdeal_pre_loss_finite := by
  intro m g m' g' hp ha
  refine ⟨fun c => loss m c, fun c => dh m c, fun c => df m c, fun c => dg m c, ?_, ?_⟩
  · exact (θ_run _ _ _).mono (fun r h c => ⟨(h c).1.trans (final_loss m c), (h c).2.1.trans (final_dh m c),
      (h c).2.2.1.trans (final_df m c), (h c).2.2.2.1.trans (final_dg m c), (h c).2.2.2.2⟩) (Cert.LossIdeal.Value.run_blocks m g)
  · refine (θ_run _ _ _).mono (fun r h c => ?_) (Cert.LossRefIdeal.Value.run m' g')
    obtain ⟨h0, h1, h2, h3⟩ := ha c
    have hr := real_of_pre hp c
    refine ⟨(h c).1.trans ?_, (h c).2.1.trans ?_, (h c).2.2.1.trans ?_, (h c).2.2.2.1.trans ?_, (h c).2.2.2.2⟩
    · refine ((Cert.LossRefIdeal.Read.val_main_v56_eq ..).trans ?_).trans loss_eq.symm
      rw [h0, h1, h2, h3]
    · refine ((Cert.LossRefIdeal.Read.val_main_v58_eq ..).trans ?_).trans dh_eq.symm
      rw [h0, h1, h2, h3]
    · refine ((Cert.LossRefIdeal.Read.val_main_v61_eq ..).trans ?_).trans (df_eq hr).symm
      rw [h0, h1, h2, h3]
    · refine ((Cert.LossRefIdeal.Read.val_main_v55_eq ..).trans ?_).trans dg_eq.symm
      rw [h0, h1, h2, h3]

/-- The reference ends with its arguments and its counters as they were. -/
theorem frame_ref : Cert.quiescent_LossRefIdeal := fun m g _ =>
  (θ_run Cert.LossRefIdeal.defs _ _).mono (fun r h => ⟨fun c => (h c).2.2.2.2, sem_eq_zero_of_no_sems (by decide) r.2⟩)
    (Cert.LossRefIdeal.Value.run (F := Ideal) m g)

end Cert.LossEq

end
-- ==== Proof.Softplus.lean ====
/-
  The slope of the softplus: the form a chain rule gives it, by the softplus itself, and the logistic function.
-/
module

public import proofs.«01_k».proof.Proof.RealCoe
public import proofs.«01_k».proof.Proof.NormMath

@[expose] public section

noncomputable section

open Idealize.ShloMosaic

namespace Cert.Softplus

open Cert.RealCoe Cert.NormMath

theorem ofBits_one : Ideal.ofBits .f32 0x3F800000#32 = (1 : EReal) := by
  simp [Ideal.ofBits, Ideal.ieee, -EReal.coe_mul]
  norm_num

/-- The logistic function as a kernel writes it. -/
def logistic (x : EReal) : EReal := Ideal.div 1 (1 + Ideal.exp (0 - x))

/-- The softplus `log(1 + eˣ)`, in the form that keeps the exponent negative. -/
def softplus (x : EReal) : EReal :=
  if x ≠ x then x else max x 0 + Ideal.log1p (Ideal.exp (-(FloatOps.absf (F := Ideal) (φ := .f32) x)))

/-- Its slope by the chain rule. -/
def slope (x : EReal) : EReal := Ideal.exp ((if x = ⊤ then 0 else x) - if softplus x = ⊤ then 0 else softplus x)

theorem exp_coe (r : ℝ) : Ideal.exp (r : EReal) = ((Real.exp r : ℝ) : EReal) := rfl

theorem log1p_coe {r : ℝ} (h : 0 < 1 + r) : Ideal.log1p (r : EReal) = ((Real.log (1 + r) : ℝ) : EReal) := by
  show Ideal.log (1 + (r : EReal)) = _
  rw [show (1 : EReal) + (r : EReal) = ((1 + r : ℝ) : EReal) from by push_cast; rfl]
  exact if_neg h.not_ge

theorem coe_max (a b : ℝ) : ((max a b : ℝ) : EReal) = max (a : EReal) b := EReal.coe_strictMono.monotone.map_max

theorem softplus_coe (r : ℝ) : softplus (r : EReal) = ((max r 0 + Real.log (1 + Real.exp (-max r (-r))) : ℝ) : EReal) := by
  have ha : FloatOps.absf (F := Ideal) (φ := .f32) (r : EReal) = ((max r (-r) : ℝ) : EReal) := by
    show max (r : EReal) (-(r : EReal)) = _
    rw [← EReal.coe_neg, ← coe_max]
  unfold softplus
  rw [if_neg (not_not.mpr rfl), ha, ← EReal.coe_neg, exp_coe, log1p_coe (by positivity), EReal.coe_add, coe_max]
  rfl

theorem logistic_coe (r : ℝ) : logistic (r : EReal) = (((1 + Real.exp (-r))⁻¹ : ℝ) : EReal) := by
  unfold logistic
  rw [zero_sub, ← EReal.coe_neg, exp_coe, show (1 : EReal) + ((Real.exp (-r) : ℝ) : EReal) = ((1 + Real.exp (-r) : ℝ) : EReal) from by push_cast; rfl,
    Ideal.div_coe (by positivity), one_mul, one_div]

theorem slope_eq {x : EReal} (hx : Finite x) : slope x = logistic x := by
  obtain ⟨r, rfl⟩ := hx
  have hp := Real.exp_pos r
  unfold slope
  rw [softplus_coe, if_neg (EReal.coe_ne_top _), if_neg (EReal.coe_ne_top _), ← EReal.coe_sub, exp_coe, logistic_coe]
  congr 1
  rw [← sub_sub, Real.exp_sub, Real.exp_log (by positivity), Real.exp_neg r]
  rcases le_or_gt 0 r with h | h
  · rw [max_eq_left h, max_eq_left (by linarith), sub_self, Real.exp_zero, Real.exp_neg, one_div]
  · rw [max_eq_right h.le, max_eq_right (by linarith), neg_neg, sub_zero]
    field_simp
    ring

theorem logistic_finite {x : EReal} (hx : Finite x) : Finite (logistic x) := by
  obtain ⟨r, rfl⟩ := hx
  exact ⟨_, logistic_coe r⟩

end Cert.Softplus

end
-- ==== Proof.ProjKernel.lean ====
/-
  What the kernel of the joint projection's gradient leaves in its four result arrays: the packed columns — two norms'
  gradients written out by hand, the step size's slope, four arrays as they come, and zeros between — the two norms' weight
  gradients, and the step size's bias gradient.
-/
module

public import proofs.«01_k».proof.Proof.NormMath
public import proofs.«01_k».proof.Proof.Softplus
public import proofs.«01_k».proof.Proof.Sums
public import proofs.«01_k».proof.Proof.Gen.ProjIdeal.Value
public import Idealize.ShloMosaic.Lib.Pipeline.ValueKit
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.ProjIdeal.KernelValue

open Cert.ProjIdeal Cert.ProjIdeal.Gen Cert.NormMath Cert.Softplus

theorem ofBits_256 : Ideal.ofBits .f32 0x43800000#32 = ((256 : ℝ) : EReal) := by
  simp [Ideal.ofBits, Ideal.ieee, -EReal.coe_mul]; norm_num
theorem ofBits_384 : Ideal.ofBits .f32 0x43C00000#32 = ((384 : ℝ) : EReal) := by
  simp [Ideal.ofBits, Ideal.ieee, -EReal.coe_mul]; norm_num

section Block

variable (x dx : Vec Ideal S768x256 .f32) (g : Vec Ideal S1x256 .f32) (y dy : Vec Ideal S768x384 .f32) (h : Vec Ideal S1x384 .f32)
  (p dt : Vec Ideal S768x128 .f32) (b : Vec Ideal S1x128 .f32)

/-- The first norm's gradient, and its part of the weight's gradient. -/
theorem pay_ckv (r : Fin 768) (k : Fin 256) :
    k0_pay17 (k0_pay8 (F := Ideal) x g dx) (ix2 r k)
      = byHand ((256 : ℝ) : EReal) (fun k : Fin 256 => x (ix2 r k)) (fun k => dx (ix2 r k) * g (ix2 0 k)) k := by
  unfold k0_pay17 k0_pay8 k0_pay7 k0_pay6 k0_pay5 byHand rms var
  pointwise
  simp only [ofBits_256, ofBits_eps]

theorem pay_gkv (i : Fin 1) (k : Fin 256) : k0_pay9 (F := Ideal) x dx (ix2 i k)
    = ∑ r : Fin 768, dx (ix2 r k) * x (ix2 r k) * rms ((256 : ℝ) : EReal) (fun k : Fin 256 => x (ix2 r k)) := by
  unfold k0_pay9 k0_pay7 k0_pay6 k0_pay5 rms var
  pointwise
  simp only [ofBits_256, ofBits_eps]

/-- The second norm's. -/
theorem pay_cq (r : Fin 768) (k : Fin 384) :
    k0_pay19 (k0_pay14 (F := Ideal) (k0_pay10 y) h (k0_pay11 dy) (k0_pay12 y)) (ix2 r k)
      = byHand ((384 : ℝ) : EReal) (fun k : Fin 384 => y (ix2 r k)) (fun k => dy (ix2 r k) * h (ix2 0 k)) k := by
  unfold k0_pay19 k0_pay14 k0_pay13 k0_pay12 k0_pay11 k0_pay10 byHand rms var
  pointwise
  simp only [ofBits_384, ofBits_eps]

theorem pay_gq (i : Fin 1) (k : Fin 384) : k0_pay15 (F := Ideal) (k0_pay10 y) (k0_pay11 dy) (k0_pay12 y) (ix2 i k)
    = ∑ r : Fin 768, dy (ix2 r k) * y (ix2 r k) * rms ((384 : ℝ) : EReal) (fun k : Fin 384 => y (ix2 r k)) := by
  unfold k0_pay15 k0_pay13 k0_pay12 k0_pay11 k0_pay10 rms var
  pointwise
  simp only [ofBits_384, ofBits_eps]

/-- The step size's gradient times the softplus's slope, and its sum over the rows. -/
theorem pay_dt (r : Fin 768) (k : Fin 128) : k0_pay16 (F := Ideal) dt p b (ix2 r k) = dt (ix2 r k) * Softplus.logistic (p (ix2 r k) + b (ix2 0 k)) := by
  unfold k0_pay16 Softplus.logistic
  pointwise

theorem pay_db (i : Fin 1) (k : Fin 128) : k0_pay3 (F := Ideal) (k0_pay16 dt p b) (ix2 i k)
    = ∑ r : Fin 768, dt (ix2 r k) * Softplus.logistic (p (ix2 r k) + b (ix2 0 k)) := by
  refine Eq.trans ?_ (Finset.sum_congr rfl fun r _ => pay_dt p dt b r k)
  unfold k0_pay3
  generalize k0_pay16 (F := Ideal) dt p b = d
  pointwise

end Block

variable (m : (ℓ : Loc nD τ sig) → Buf (Elt Ideal) ℓ) (c : Dev nD)

theorem idx : ∀ t : Fin cfg0.N,
    win0_0.index t = ![t.val, 0] ∧ win0_1.index t = ![t.val, 1] ∧ win0_2.index t = ![t.val, 6] ∧ win0_3.index t = ![t.val, 0]
    ∧ win0_4.index t = ![t.val, 0] ∧ win0_5.index t = ![0, 0] ∧ win0_6.index t = ![0, 0] ∧ win0_7.index t = ![t.val, 0]
    ∧ win0_8.index t = ![t.val, 0] ∧ win0_9.index t = ![0, 0] ∧ win0_10.index t = ![t.val, 0] ∧ win0_11.index t = ![t.val, 0]
    ∧ win0_12.index t = ![t.val, 0] ∧ win0_13.index t = ![t.val, 0] ∧ win0_14.index t = ![0, 0] ∧ win0_15.index t = ![0, 0]
    ∧ win0_16.index t = ![0, 0] :=
  (by decide +kernel : ∀ t : Fin grid0.N, _)

theorem lt_N (t : Fin cfg0.N) : t.val < 22 := lt_of_lt_of_eq t.isLt N_0

/-- The arrays that the region reads: the packed projection, the norms' cotangents and weights, the gradients of the rotary
    key and of the step size, its bias, and three gradients that are only packed. -/
def projArr : Vec Ideal S16896x3584 .f32 := V m c main_v4
def dcqArr : Vec Ideal S16896x384 .f32 := V m c main_v6
def dckvArr : Vec Ideal S16896x256 .f32 := V m c main_v8
def gqArr : Vec Ideal S1x384 .f32 := V m c main_arg3
def gkvArr : Vec Ideal S1x256 .f32 := V m c main_arg4
def dkrArr : Vec Ideal S16896x128 .f32 := V m c main_v12
def ddtArr : Vec Ideal S16896x128 .f32 := V m c main_v16
def bArr : Vec Ideal S1x128 .f32 := V m c main_v18
def dzArr : Vec Ideal S16896x1024 .f32 := V m c main_v20
def dxsArr : Vec Ideal S16896x1024 .f32 := V m c main_v22
def dbcArr : Vec Ideal S16896x512 .f32 := V m c main_v24

/-- Row `r` of block `t`. -/
def row (t : ℕ) (ht : t < 22) (r : Fin 768) : Fin 16896 := ⟨768 * t + r.val, by have := r.isLt; omega⟩

theorem row_val (t : ℕ) (ht : t < 22) (r : Fin 768) : (row t ht r).val = 768 * t + r.val := rfl

/-- A row of the packed projection's three parts that are read. -/
def ckv (R : Fin 16896) (k : Fin 256) : EReal := projArr m c (ix2 R ⟨k.val, by have := k.isLt; omega⟩)
def cq (R : Fin 16896) (k : Fin 384) : EReal := projArr m c (ix2 R ⟨384 + k.val, by have := k.isLt; omega⟩)
def dtRaw (R : Fin 16896) (k : Fin 128) : EReal := projArr m c (ix2 R ⟨768 + k.val, by have := k.isLt; omega⟩)

/-- The point's blocks. -/
abbrev bckv (t : Fin cfg0.N) : Vec Ideal S768x256 .f32 := iblk m c 0 t
abbrev bcq (t : Fin cfg0.N) : Vec Ideal S768x384 .f32 := X0_1 m c t
abbrev bdt (t : Fin cfg0.N) : Vec Ideal S768x128 .f32 := iblk m c 2 t
abbrev bdcq (t : Fin cfg0.N) : Vec Ideal S768x384 .f32 := iblk m c 3 t
abbrev bdckv (t : Fin cfg0.N) : Vec Ideal S768x256 .f32 := iblk m c 4 t
abbrev bgq (t : Fin cfg0.N) : Vec Ideal S1x384 .f32 := iblk m c 5 t
abbrev bgkv (t : Fin cfg0.N) : Vec Ideal S1x256 .f32 := iblk m c 6 t
abbrev bdkr (t : Fin cfg0.N) : Vec Ideal S768x128 .f32 := iblk m c 7 t
abbrev bddt (t : Fin cfg0.N) : Vec Ideal S768x128 .f32 := iblk m c 8 t
abbrev bb (t : Fin cfg0.N) : Vec Ideal S1x128 .f32 := iblk m c 9 t
abbrev bdz (t : Fin cfg0.N) : Vec Ideal S768x1024 .f32 := iblk m c 10 t
abbrev bdxs (t : Fin cfg0.N) : Vec Ideal S768x1024 .f32 := iblk m c 11 t
abbrev bdbc (t : Fin cfg0.N) : Vec Ideal S768x512 .f32 := iblk m c 12 t

theorem bckv_at (t : Fin cfg0.N) (r : Fin 768) (k : Fin 256) : bckv m c t (ix2 r k) = ckv m c (row t.val (lt_N t) r) k := by
  unfold bckv ckv projArr; blk_ext [iblk, idx t, row_val]
theorem bcq_at (t : Fin cfg0.N) (r : Fin 768) (k : Fin 384) : bcq m c t (ix2 r k) = cq m c (row t.val (lt_N t) r) k := by
  unfold bcq cq projArr X0_1 Pipeline.Window.fill
  rw [dif_pos (moved0_1 t _)]
  blk_ext [iblk, idx t, row_val]
theorem bdt_at (t : Fin cfg0.N) (r : Fin 768) (k : Fin 128) : bdt m c t (ix2 r k) = dtRaw m c (row t.val (lt_N t) r) k := by
  unfold bdt dtRaw projArr; blk_ext [iblk, idx t, row_val]
theorem bdcq_at (t : Fin cfg0.N) (r : Fin 768) (k : Fin 384) : bdcq m c t (ix2 r k) = dcqArr m c (ix2 (row t.val (lt_N t) r) k) := by
  unfold bdcq dcqArr; blk_ext [iblk, idx t, row_val]
theorem bdckv_at (t : Fin cfg0.N) (r : Fin 768) (k : Fin 256) : bdckv m c t (ix2 r k) = dckvArr m c (ix2 (row t.val (lt_N t) r) k) := by
  unfold bdckv dckvArr; blk_ext [iblk, idx t, row_val]
theorem bgq_at (t : Fin cfg0.N) (i : Fin 1) (k : Fin 384) : bgq m c t (ix2 i k) = gqArr m c (ix2 i k) := by
  unfold bgq gqArr; blk_ext [iblk, idx t]
theorem bgkv_at (t : Fin cfg0.N) (i : Fin 1) (k : Fin 256) : bgkv m c t (ix2 i k) = gkvArr m c (ix2 i k) := by
  unfold bgkv gkvArr; blk_ext [iblk, idx t]
theorem bdkr_at (t : Fin cfg0.N) (r : Fin 768) (k : Fin 128) : bdkr m c t (ix2 r k) = dkrArr m c (ix2 (row t.val (lt_N t) r) k) := by
  unfold bdkr dkrArr; blk_ext [iblk, idx t, row_val]
theorem bddt_at (t : Fin cfg0.N) (r : Fin 768) (k : Fin 128) : bddt m c t (ix2 r k) = ddtArr m c (ix2 (row t.val (lt_N t) r) k) := by
  unfold bddt ddtArr; blk_ext [iblk, idx t, row_val]
theorem bb_at (t : Fin cfg0.N) (i : Fin 1) (k : Fin 128) : bb m c t (ix2 i k) = bArr m c (ix2 i k) := by
  unfold bb bArr; blk_ext [iblk, idx t]
theorem bdz_at (t : Fin cfg0.N) (r : Fin 768) (k : Fin 1024) : bdz m c t (ix2 r k) = dzArr m c (ix2 (row t.val (lt_N t) r) k) := by
  unfold bdz dzArr; blk_ext [iblk, idx t, row_val]
theorem bdxs_at (t : Fin cfg0.N) (r : Fin 768) (k : Fin 1024) : bdxs m c t (ix2 r k) = dxsArr m c (ix2 (row t.val (lt_N t) r) k) := by
  unfold bdxs dxsArr; blk_ext [iblk, idx t, row_val]
theorem bdbc_at (t : Fin cfg0.N) (r : Fin 768) (k : Fin 512) : bdbc m c t (ix2 r k) = dbcArr m c (ix2 (row t.val (lt_N t) r) k) := by
  unfold bdbc dbcArr; blk_ext [iblk, idx t, row_val]

/-- The computed columns of a row. -/
def dckvCol (R : Fin 16896) (k : Fin 256) : EReal :=
  byHand ((256 : ℝ) : EReal) (ckv m c R) (fun k => dckvArr m c (ix2 R k) * gkvArr m c (ix2 0 k)) k
def dcqCol (R : Fin 16896) (k : Fin 384) : EReal :=
  byHand ((384 : ℝ) : EReal) (cq m c R) (fun k => dcqArr m c (ix2 R k) * gqArr m c (ix2 0 k)) k
def ddtCol (R : Fin 16896) (k : Fin 128) : EReal := ddtArr m c (ix2 R k) * Softplus.logistic (dtRaw m c R k + bArr m c (ix2 0 k))

/-- The packed columns of a row. -/
def packed (R : Fin 16896) (j : Fin 3584) : EReal :=
  if h : j.val < 256 then dckvCol m c R ⟨j.val, h⟩
  else if h : j.val < 384 then dkrArr m c (ix2 R ⟨j.val - 256, by omega⟩)
  else if h : j.val < 768 then dcqCol m c R ⟨j.val - 384, by omega⟩
  else if h : j.val < 896 then ddtCol m c R ⟨j.val - 768, by omega⟩
  else if h : j.val < 1024 then 0
  else if h : j.val < 2048 then dzArr m c (ix2 R ⟨j.val - 1024, by omega⟩)
  else if h : j.val < 3072 then dxsArr m c (ix2 R ⟨j.val - 2048, by omega⟩)
  else dbcArr m c (ix2 R ⟨j.val - 3072, by have := j.isLt; omega⟩)

/-- The four results. -/
def dproj : Vec Ideal S16896x3584 .bf16 := fun i => packed m c (i 0) (i 1)
def dgq : Vec Ideal S1x384 .f32 := fun i =>
  ∑ R : Fin 16896, dcqArr m c (ix2 R (i 1)) * cq m c R (i 1) * rms ((384 : ℝ) : EReal) (cq m c R)
def dgkv : Vec Ideal S1x256 .f32 := fun i =>
  ∑ R : Fin 16896, dckvArr m c (ix2 R (i 1)) * ckv m c R (i 1) * rms ((256 : ℝ) : EReal) (ckv m c R)
def db : Vec Ideal S1x128 .f32 := fun i => ∑ R : Fin 16896, ddtCol m c R (i 1)

/-- What a point computes. -/
abbrev pdt (t : Fin cfg0.N) : Vec Ideal S768x128 .f32 := k0_pay16 (F := Ideal) (bddt m c t) (bdt m c t) (bb m c t)
abbrev pgq (t : Fin cfg0.N) : Vec Ideal S1x384 .f32 := k0_pay15 (F := Ideal) (k0_pay10 (bcq m c t)) (k0_pay11 (bdcq m c t)) (k0_pay12 (bcq m c t))
abbrev pgkv (t : Fin cfg0.N) : Vec Ideal S1x256 .f32 := k0_pay9 (F := Ideal) (bckv m c t) (bdckv m c t)
abbrev pdb (t : Fin cfg0.N) : Vec Ideal S1x128 .f32 := k0_pay3 (F := Ideal) (pdt m c t)

theorem pdt_at (t : Fin cfg0.N) (r : Fin 768) (k : Fin 128) : pdt m c t (ix2 r k) = ddtCol m c (row t.val (lt_N t) r) k := by
  unfold pdt ddtCol
  rw [pay_dt, bddt_at, bdt_at, bb_at]

/-- The packed columns, one part at a time. -/
theorem packed_bc (R : Fin 16896) (j : Fin 3584) (k : Fin 512) (h : j.val = 3072 + k.val) : packed m c R j = dbcArr m c (ix2 R k) := by
  have hk := k.isLt
  unfold packed
  rw [dif_neg (by omega), dif_neg (by omega), dif_neg (by omega), dif_neg (by omega), dif_neg (by omega), dif_neg (by omega), dif_neg (by omega)]
  exact congrArg (fun q => dbcArr m c (ix2 R q)) (Fin.ext (by first | exact h | (show j.val - 3072 = k.val; omega)))

theorem packed_xs (R : Fin 16896) (j : Fin 3584) (k : Fin 1024) (h : j.val = 2048 + k.val) : packed m c R j = dxsArr m c (ix2 R k) := by
  have hk := k.isLt
  unfold packed
  rw [dif_neg (by omega), dif_neg (by omega), dif_neg (by omega), dif_neg (by omega), dif_neg (by omega), dif_neg (by omega), dif_pos (by omega)]
  exact congrArg (fun q => dxsArr m c (ix2 R q)) (Fin.ext (by first | exact h | (show j.val - 2048 = k.val; omega)))

theorem packed_z (R : Fin 16896) (j : Fin 3584) (k : Fin 1024) (h : j.val = 1024 + k.val) : packed m c R j = dzArr m c (ix2 R k) := by
  have hk := k.isLt
  unfold packed
  rw [dif_neg (by omega), dif_neg (by omega), dif_neg (by omega), dif_neg (by omega), dif_neg (by omega), dif_pos (by omega)]
  exact congrArg (fun q => dzArr m c (ix2 R q)) (Fin.ext (by first | exact h | (show j.val - 1024 = k.val; omega)))

theorem packed_gap (R : Fin 16896) (j : Fin 3584) (k : Fin 128) (h : j.val = 896 + k.val) : packed m c R j = 0 := by
  have hk := k.isLt
  unfold packed
  rw [dif_neg (by omega), dif_neg (by omega), dif_neg (by omega), dif_neg (by omega), dif_pos (by omega)]

theorem packed_dt (R : Fin 16896) (j : Fin 3584) (k : Fin 128) (h : j.val = 768 + k.val) : packed m c R j = ddtCol m c R k := by
  have hk := k.isLt
  unfold packed
  rw [dif_neg (by omega), dif_neg (by omega), dif_neg (by omega), dif_pos (by omega)]
  exact congrArg (fun q => ddtCol m c R q) (Fin.ext (by first | exact h | (show j.val - 768 = k.val; omega)))

theorem packed_cq (R : Fin 16896) (j : Fin 3584) (k : Fin 384) (h : j.val = 384 + k.val) : packed m c R j = dcqCol m c R k := by
  have hk := k.isLt
  unfold packed
  rw [dif_neg (by omega), dif_neg (by omega), dif_pos (by omega)]
  exact congrArg (fun q => dcqCol m c R q) (Fin.ext (by first | exact h | (show j.val - 384 = k.val; omega)))

theorem packed_kr (R : Fin 16896) (j : Fin 3584) (k : Fin 128) (h : j.val = 256 + k.val) : packed m c R j = dkrArr m c (ix2 R k) := by
  have hk := k.isLt
  unfold packed
  rw [dif_neg (by omega), dif_pos (by omega)]
  exact congrArg (fun q => dkrArr m c (ix2 R q)) (Fin.ext (by first | exact h | (show j.val - 256 = k.val; omega)))

theorem packed_kv (R : Fin 16896) (j : Fin 3584) (k : Fin 256) (h : j.val = k.val) : packed m c R j = dckvCol m c R k := by
  have hk := k.isLt
  unfold packed
  rw [dif_pos (by omega)]
  exact congrArg (fun q => dckvCol m c R q) (Fin.ext (by first | exact h | (show j.val - 0 = k.val; omega)))

/-- The parts of a block. -/
theorem piece_bc (t : Fin cfg0.N) {r : Fin 768} {j : Fin 3584} {x : S768x512.Idx} (h0 : r.val = (x 0).val) (h1 : j.val = 3072 + (x 1).val) :
    k0_pay24 (F := Ideal) (bdbc m c t) x = packed m c (row t.val (lt_N t) r) j := by
  idx_vars x
  obtain rfl : r = x0 := Fin.ext h0
  rw [packed_bc m c _ j x1 h1]
  rw [← bdbc_at]
  unfold k0_pay24
  pointwise

theorem piece_xs (t : Fin cfg0.N) {r : Fin 768} {j : Fin 3584} {x : S768x1024.Idx} (h0 : r.val = (x 0).val) (h1 : j.val = 2048 + (x 1).val) :
    k0_pay23 (F := Ideal) (bdxs m c t) x = packed m c (row t.val (lt_N t) r) j := by
  idx_vars x
  obtain rfl : r = x0 := Fin.ext h0
  rw [packed_xs m c _ j x1 h1]
  rw [← bdxs_at]
  unfold k0_pay23
  pointwise

theorem piece_z (t : Fin cfg0.N) {r : Fin 768} {j : Fin 3584} {x : S768x1024.Idx} (h0 : r.val = (x 0).val) (h1 : j.val = 1024 + (x 1).val) :
    k0_pay22 (F := Ideal) (bdz m c t) x = packed m c (row t.val (lt_N t) r) j := by
  idx_vars x
  obtain rfl : r = x0 := Fin.ext h0
  rw [packed_z m c _ j x1 h1]
  rw [← bdz_at]
  unfold k0_pay22
  pointwise

theorem piece_gap (t : Fin cfg0.N) {r : Fin 768} {j : Fin 3584} {x : S768x128.Idx} (h0 : r.val = (x 0).val) (h1 : j.val = 896 + (x 1).val) :
    k0_pay21 (F := Ideal) x = packed m c (row t.val (lt_N t) r) j := by
  idx_vars x
  obtain rfl : r = x0 := Fin.ext h0
  rw [packed_gap m c _ j x1 h1]
  unfold k0_pay21
  pointwise

theorem piece_dt (t : Fin cfg0.N) {r : Fin 768} {j : Fin 3584} {x : S768x128.Idx} (h0 : r.val = (x 0).val) (h1 : j.val = 768 + (x 1).val) :
    k0_pay20 (F := Ideal) (pdt m c t) x = packed m c (row t.val (lt_N t) r) j := by
  idx_vars x
  obtain rfl : r = x0 := Fin.ext h0
  rw [packed_dt m c _ j x1 h1]
  rw [← pdt_at]
  rfl

theorem piece_cq (t : Fin cfg0.N) {r : Fin 768} {j : Fin 3584} {x : S768x384.Idx} (h0 : r.val = (x 0).val) (h1 : j.val = 384 + (x 1).val) :
    k0_pay19 (F := Ideal) (k0_pay14 (k0_pay10 (bcq m c t)) (bgq m c t) (k0_pay11 (bdcq m c t)) (k0_pay12 (bcq m c t))) x = packed m c (row t.val (lt_N t) r) j := by
  idx_vars x
  obtain rfl : r = x0 := Fin.ext h0
  rw [packed_cq m c _ j x1 h1]
  rw [pay_cq]
  unfold dcqCol
  simp only [bcq_at, bdcq_at, bgq_at]

theorem piece_kr (t : Fin cfg0.N) {r : Fin 768} {j : Fin 3584} {x : S768x128.Idx} (h0 : r.val = (x 0).val) (h1 : j.val = 256 + (x 1).val) :
    k0_pay18 (F := Ideal) (bdkr m c t) x = packed m c (row t.val (lt_N t) r) j := by
  idx_vars x
  obtain rfl : r = x0 := Fin.ext h0
  rw [packed_kr m c _ j x1 h1]
  rw [← bdkr_at]
  unfold k0_pay18
  pointwise

theorem piece_kv (t : Fin cfg0.N) {r : Fin 768} {j : Fin 3584} {x : S768x256.Idx} (h0 : r.val = (x 0).val) (h1 : j.val = (x 1).val) :
    k0_pay17 (F := Ideal) (k0_pay8 (bckv m c t) (bgkv m c t) (bdckv m c t)) x = packed m c (row t.val (lt_N t) r) j := by
  idx_vars x
  obtain rfl : r = x0 := Fin.ext h0
  rw [packed_kv m c _ j x1 h1]
  rw [pay_ckv]
  unfold dckvCol
  simp only [bckv_at, bdckv_at, bgkv_at]

/-- What a point leaves in the packed columns' buffer. -/
theorem block_at (t : Fin cfg0.N) (r : Fin 768) (j : Fin 3584) :
    (outsAt0 m c t.val t.isLt).1 (ix2 r j) = packed m c (row t.val (lt_N t) r) j := by
  have ht := lt_N t
  by_cases h : t.val % 22 = 0
  · rw [outsAt0_A m c t h (by omega) h (by omega) h (by omega)]
    frame_out
    canon_tiles x hx using View.cover_of_tiledBy _ ![768, 128] (by sl_kernel_rfl) _
    exacts [piece_bc m c t hx0 hx1, piece_xs m c t hx0 hx1, piece_z m c t hx0 hx1, piece_gap m c t hx0 hx1, piece_dt m c t hx0 hx1,
      piece_cq m c t hx0 hx1, piece_kr m c t hx0 hx1, piece_kv m c t hx0 hx1]
  · rw [outsAt0_B m c t h (by omega) h (by omega) h (by omega)]
    frame_out
    canon_tiles x hx using View.cover_of_tiledBy _ ![768, 128] (by sl_kernel_rfl) _
    exacts [piece_bc m c t hx0 hx1, piece_xs m c t hx0 hx1, piece_z m c t hx0 hx1, piece_gap m c t hx0 hx1, piece_dt m c t hx0 hx1,
      piece_cq m c t hx0 hx1, piece_kr m c t hx0 hx1, piece_kv m c t hx0 hx1]

/-- What a point leaves in the three accumulators. -/
theorem outs_first (t : Fin cfg0.N) (h : t.val % 22 = 0) : (outsAt0 m c t.val t.isLt).2 = (pgq m c t, pgkv m c t, pdb m c t) := by
  have ht := lt_N t
  rw [outsAt0_A m c t h (by omega) h (by omega) h (by omega)]
  frame_out

theorem outs_later (t : Fin cfg0.N) (h : ¬t.val % 22 = 0) : (outsAt0 m c t.val t.isLt).2
    = (addf (F := Ideal) (s := S1x384) (φ := .f32) (outsAt0 m c (t.val - 1) (Nat.lt_of_le_of_lt (Nat.sub_le _ _) t.isLt)).2.1 (pgq m c t),
       addf (F := Ideal) (s := S1x256) (φ := .f32) (outsAt0 m c (t.val - 1) (Nat.lt_of_le_of_lt (Nat.sub_le _ _) t.isLt)).2.2.1 (pgkv m c t),
       addf (F := Ideal) (s := S1x128) (φ := .f32) (outsAt0 m c (t.val - 1) (Nat.lt_of_le_of_lt (Nat.sub_le _ _) t.isLt)).2.2.2 (pdb m c t)) := by
  have ht := lt_N t
  rw [outsAt0_B m c t h (by omega) h (by omega) h (by omega)]
  frame_out [k0_pay1, k0_pay2, k0_pay4, shapeCast_self]

theorem pgq_at (t : Fin cfg0.N) (i : S1x384.Idx) : pgq m c t i = ∑ r : Fin 768, dcqArr m c (ix2 (row t.val (lt_N t) r) (i 1))
    * cq m c (row t.val (lt_N t) r) (i 1) * rms ((384 : ℝ) : EReal) (cq m c (row t.val (lt_N t) r)) := by
  idx_vars i
  unfold pgq
  rw [pay_gq]
  simp only [bdcq_at, bcq_at]

theorem pgkv_at (t : Fin cfg0.N) (i : S1x256.Idx) : pgkv m c t i = ∑ r : Fin 768, dckvArr m c (ix2 (row t.val (lt_N t) r) (i 1))
    * ckv m c (row t.val (lt_N t) r) (i 1) * rms ((256 : ℝ) : EReal) (ckv m c (row t.val (lt_N t) r)) := by
  idx_vars i
  unfold pgkv
  rw [pay_gkv]
  simp only [bdckv_at, bckv_at]

theorem pdb_at (t : Fin cfg0.N) (i : S1x128.Idx) : pdb m c t i = ∑ r : Fin 768, ddtCol m c (row t.val (lt_N t) r) (i 1) := by
  idx_vars i
  unfold pdb
  rw [pay_db]
  simp only [bddt_at, bdt_at, bb_at]
  rfl

theorem final_dproj : (dats m 0 c).arrAt 13 cfg0.N = dproj m c := by
  refine (dats m 0 c).arrAt_eq_of_covers 13 _ (by decide +kernel) fun t _ y => ?_
  blk_simp
  rw [after0_13]
  idx_vars y
  refine (block_at m c t y0 y1).trans (show dproj m c (ix2 (row t.val (lt_N t) y0) y1) = _ from ?_)
  blk_ext [idx t, row_val]

theorem dgq_last (t : Fin cfg0.N) (h : t.val % 22 = 21) (i : S1x384.Idx) : (outsAt0 m c t.val t.isLt).2.1 i = dgq m c i := by
  have ht := lt_N t
  refine Sums.acc_blocks (a := 22) (b := 768) (by norm_num) _ (fun k hk => (outsAt0 m c k (lt_of_lt_of_eq hk N_0.symm)).2.1 i) row row_val
    (fun s h0 => ?_) (fun s h0 => ?_) t.val ht (by omega)
  · rw [outs_first m c ⟨s.val, _⟩ h0]; exact pgq_at m c ⟨s.val, _⟩ i
  · rw [outs_later m c ⟨s.val, _⟩ h0]; exact congrArg (_ + ·) (pgq_at m c ⟨s.val, _⟩ i)

theorem final_dgq : (dats m 0 c).arrAt 14 cfg0.N = dgq m c := by
  refine (dats m 0 c).arrAt_eq_of_covers 14 _ (by decide +kernel) fun t hf y => ?_
  blk_simp
  rw [after0_14]
  idx_vars y
  refine (dgq_last m c t ((flush0_14 t).mp hf) (ix2 y0 y1)).trans (congrArg (dgq m c) ?_)
  funext a
  apply Fin.ext
  fin_cases a
  · blk_simp [idx t]
  · blk_simp [idx t]

theorem dgkv_last (t : Fin cfg0.N) (h : t.val % 22 = 21) (i : S1x256.Idx) : (outsAt0 m c t.val t.isLt).2.2.1 i = dgkv m c i := by
  have ht := lt_N t
  refine Sums.acc_blocks (a := 22) (b := 768) (by norm_num) _ (fun k hk => (outsAt0 m c k (lt_of_lt_of_eq hk N_0.symm)).2.2.1 i) row row_val
    (fun s h0 => ?_) (fun s h0 => ?_) t.val ht (by omega)
  · rw [outs_first m c ⟨s.val, _⟩ h0]; exact pgkv_at m c ⟨s.val, _⟩ i
  · rw [outs_later m c ⟨s.val, _⟩ h0]; exact congrArg (_ + ·) (pgkv_at m c ⟨s.val, _⟩ i)

theorem final_dgkv : (dats m 0 c).arrAt 15 cfg0.N = dgkv m c := by
  refine (dats m 0 c).arrAt_eq_of_covers 15 _ (by decide +kernel) fun t hf y => ?_
  blk_simp
  rw [after0_15]
  idx_vars y
  refine (dgkv_last m c t ((flush0_15 t).mp hf) (ix2 y0 y1)).trans (congrArg (dgkv m c) ?_)
  funext a
  apply Fin.ext
  fin_cases a
  · blk_simp [idx t]
  · blk_simp [idx t]

theorem db_last (t : Fin cfg0.N) (h : t.val % 22 = 21) (i : S1x128.Idx) : (outsAt0 m c t.val t.isLt).2.2.2 i = db m c i := by
  have ht := lt_N t
  refine Sums.acc_blocks (a := 22) (b := 768) (by norm_num) _ (fun k hk => (outsAt0 m c k (lt_of_lt_of_eq hk N_0.symm)).2.2.2 i) row row_val
    (fun s h0 => ?_) (fun s h0 => ?_) t.val ht (by omega)
  · rw [outs_first m c ⟨s.val, _⟩ h0]; exact pdb_at m c ⟨s.val, _⟩ i
  · rw [outs_later m c ⟨s.val, _⟩ h0]; exact congrArg (_ + ·) (pdb_at m c ⟨s.val, _⟩ i)

theorem final_db : (dats m 0 c).arrAt 16 cfg0.N = db m c := by
  refine (dats m 0 c).arrAt_eq_of_covers 16 _ (by decide +kernel) fun t hf y => ?_
  blk_simp
  rw [after0_16]
  idx_vars y
  refine (db_last m c t ((flush0_16 t).mp hf) (ix2 y0 y1)).trans (congrArg (db m c) ?_)
  funext a
  apply Fin.ext
  fin_cases a
  · blk_simp [idx t]
  · blk_simp [idx t]

end Cert.ProjIdeal.KernelValue

end
-- ==== Proof.ProjRef.lean ====
/-
  What the reference of the joint projection's gradient computes, read at an index: the chain rule's form of the two norms'
  gradients, the softplus's slope, and the columns side by side.
-/
module

public import proofs.«01_k».proof.Proof.Softplus
public import proofs.«01_k».proof.Proof.Gen.ProjRefIdeal.Read

@[expose] public section

set_option maxRecDepth 16384

noncomputable section

open Idealize.ShloMosaic Idealize.ShloMosaic.TcCoe

namespace Cert.ProjRefIdeal.RefValue

open Cert.ProjRefIdeal Cert.ProjRefIdeal.Gen Cert.ProjRefIdeal.Read Cert.NormMath Cert.RealCoe

theorem ofBits_256 : Ideal.ofBits .f32 0x43800000#32 = ((256 : ℝ) : EReal) := by
  simp [Ideal.ofBits, Ideal.ieee, -EReal.coe_mul]; norm_num
theorem ofBits_384 : Ideal.ofBits .f32 0x43C00000#32 = ((384 : ℝ) : EReal) := by
  simp [Ideal.ofBits, Ideal.ieee, -EReal.coe_mul]; norm_num

section Columns

variable (kv : Fin 256 → EReal) (kr : Fin 64 → EReal) (cq : Fin 384 → EReal) (dt : Fin 16 → EReal) (z xs : Fin 1024 → EReal)
  (bc : Fin 512 → EReal)

/-- The packed columns of a row: seven parts, with zeros behind the rotary key's and the step size's, and before the gate's. -/
def cols (k : Fin 3584) : EReal :=
  if h_1 : k.val < 256 then kv ⟨k.val, h_1⟩
  else if h_2 : k.val - 256 < 64 then kr ⟨k.val - 256, h_2⟩
  else if _h : k.val - 256 - 64 < 64 then 0
  else if h_3 : k.val - 256 - 64 - 64 < 384 then cq ⟨k.val - 256 - 64 - 64, h_3⟩
  else if h_4 : k.val - 256 - 64 - 64 - 384 < 16 then dt ⟨k.val - 256 - 64 - 64 - 384, h_4⟩
  else if _h : k.val - 256 - 64 - 64 - 384 - 16 < 112 then 0
  else if _h : k.val - 256 - 64 - 64 - 384 - 16 - 112 < 128 then 0
  else if h_5 : k.val - 256 - 64 - 64 - 384 - 16 - 112 - 128 < 1024 then z ⟨k.val - 256 - 64 - 64 - 384 - 16 - 112 - 128, h_5⟩
  else if h_6 : k.val - 256 - 64 - 64 - 384 - 16 - 112 - 128 - 1024 < 1024 then
    xs ⟨k.val - 256 - 64 - 64 - 384 - 16 - 112 - 128 - 1024, h_6⟩
  else bc ⟨k.val - 256 - 64 - 64 - 384 - 16 - 112 - 128 - 1024 - 1024, by have := k.isLt; omega⟩

theorem cols_kv (j : Fin 3584) (k : Fin 256) (h : j.val = k.val) : cols kv kr cq dt z xs bc j = kv k := by
  have hk := k.isLt
  unfold cols
  rw [dif_pos (by omega)]
  exact congrArg kv (Fin.ext (by dsimp only; omega))

theorem cols_kr (j : Fin 3584) (k : Fin 64) (h : j.val = 256 + k.val) : cols kv kr cq dt z xs bc j = kr k := by
  have hk := k.isLt
  unfold cols
  rw [dif_neg (by omega), dif_pos (by omega)]
  exact congrArg kr (Fin.ext (by dsimp only; omega))

theorem cols_gapr (j : Fin 3584) (k : Fin 64) (h : j.val = 320 + k.val) : cols kv kr cq dt z xs bc j = 0 := by
  have hk := k.isLt
  unfold cols
  rw [dif_neg (by omega), dif_neg (by omega), dif_pos (by omega)]

theorem cols_cq (j : Fin 3584) (k : Fin 384) (h : j.val = 384 + k.val) : cols kv kr cq dt z xs bc j = cq k := by
  have hk := k.isLt
  unfold cols
  rw [dif_neg (by omega), dif_neg (by omega), dif_neg (by omega), dif_pos (by omega)]
  exact congrArg cq (Fin.ext (by dsimp only; omega))

theorem cols_dt (j : Fin 3584) (k : Fin 16) (h : j.val = 768 + k.val) : cols kv kr cq dt z xs bc j = dt k := by
  have hk := k.isLt
  unfold cols
  rw [dif_neg (by omega), dif_neg (by omega), dif_neg (by omega), dif_neg (by omega), dif_pos (by omega)]
  exact congrArg dt (Fin.ext (by dsimp only; omega))

theorem cols_gapt (j : Fin 3584) (k : Fin 112) (h : j.val = 784 + k.val) : cols kv kr cq dt z xs bc j = 0 := by
  have hk := k.isLt
  unfold cols
  rw [dif_neg (by omega), dif_neg (by omega), dif_neg (by omega), dif_neg (by omega), dif_neg (by omega), dif_pos (by omega)]

theorem cols_gap (j : Fin 3584) (k : Fin 128) (h : j.val = 896 + k.val) : cols kv kr cq dt z xs bc j = 0 := by
  have hk := k.isLt
  unfold cols
  rw [dif_neg (by omega), dif_neg (by omega), dif_neg (by omega), dif_neg (by omega), dif_neg (by omega), dif_neg (by omega), dif_pos (by omega)]

theorem cols_z (j : Fin 3584) (k : Fin 1024) (h : j.val = 1024 + k.val) : cols kv kr cq dt z xs bc j = z k := by
  have hk := k.isLt
  unfold cols
  rw [dif_neg (by omega), dif_neg (by omega), dif_neg (by omega), dif_neg (by omega), dif_neg (by omega), dif_neg (by omega), dif_neg (by omega), dif_pos (by omega)]
  exact congrArg z (Fin.ext (by dsimp only; omega))

theorem cols_xs (j : Fin 3584) (k : Fin 1024) (h : j.val = 2048 + k.val) : cols kv kr cq dt z xs bc j = xs k := by
  have hk := k.isLt
  unfold cols
  rw [dif_neg (by omega), dif_neg (by omega), dif_neg (by omega), dif_neg (by omega), dif_neg (by omega), dif_neg (by omega), dif_neg (by omega), dif_neg (by omega), dif_pos (by omega)]
  exact congrArg xs (Fin.ext (by dsimp only; omega))

theorem cols_bc (j : Fin 3584) (k : Fin 512) (h : j.val = 3072 + k.val) : cols kv kr cq dt z xs bc j = bc k := by
  have hk := k.isLt
  unfold cols
  rw [dif_neg (by omega), dif_neg (by omega), dif_neg (by omega), dif_neg (by omega), dif_neg (by omega), dif_neg (by omega), dif_neg (by omega), dif_neg (by omega), dif_neg (by omega)]
  exact congrArg bc (Fin.ext (by dsimp only; omega))

end Columns

variable (x0 : Vec Ideal S16400x384 .f32) (x1 : Vec Ideal S16400x256 .f32) (x2 : Vec Ideal S16400x16 .f32) (x3 : Vec Ideal S1x384 .f32)
  (x4 : Vec Ideal S1x256 .f32) (x5 : Vec Ideal S1x16 .f32) (x6 : Vec Ideal S16400x384 .f32) (x7 : Vec Ideal S16400x256 .f32)
  (x8 : Vec Ideal S16400x64 .f32) (x9 : Vec Ideal S16400x16 .f32) (x10 x11 : Vec Ideal S16400x1024 .f32) (x12 : Vec Ideal S16400x512 .f32)

theorem cq_var (r : Fin 16400) (i : Fin 1) : val_main_v9 (F := Ideal) x0 (ix2 r i) = var ((384 : ℝ) : EReal) (fun k : Fin 384 => x0 (ix2 r k)) := by
  unfold val_main_v9 val_main_v8 val_main_cst_2 val_main_v7 val_main_v6 val_main_cst_1 val_main_v5 val_main_v4 val_main_cst_0 val_main_v1 var
  pointwise
  simp only [ofBits_384, ofBits_eps]

theorem cq_rms (r : Fin 16400) (i : Fin 1) : val_main_v10 (F := Ideal) x0 (ix2 r i) = rms ((384 : ℝ) : EReal) (fun k : Fin 384 => x0 (ix2 r k)) := by
  unfold val_main_v10 rms
  rw [← cq_var x0 r i]
  rfl

theorem cq_g (r : Fin 16400) (k : Fin 384) : val_main_v71 (F := Ideal) x3 x6 (ix2 r k) = x6 (ix2 r k) * x3 (ix2 0 k) := by
  unfold val_main_v71 val_main_v70 val_main_v16 val_main_v0
  pointwise

theorem cq_at (r : Fin 16400) (j : Fin 384) :
    val_main_v84 (F := Ideal) x0 x3 x6 (ix2 r j)
      = x6 (ix2 r j) * x3 (ix2 0 j) * rms ((384 : ℝ) : EReal) (fun k : Fin 384 => x0 (ix2 r k))
        + throughMean ((384 : ℝ) : EReal) (fun k : Fin 384 => x0 (ix2 r k)) (fun k => x6 (ix2 r k) * x3 (ix2 0 k)) j := by
  unfold throughMean
  rw [← cq_rms x0 r 0, ← cq_var x0 r 0]
  rw [show (fun k : Fin 384 => x6 (ix2 r k) * x3 (ix2 0 k)) = fun k => val_main_v71 (F := Ideal) x3 x6 (ix2 r k) from
    funext fun k => (cq_g x3 x6 r k).symm, ← cq_g x3 x6 r j]
  dsimp only
  unfold val_main_v84 val_main_v83 val_main_v82 val_main_v81 val_main_v80 val_main_v79 val_main_v78 val_main_v77 val_main_v76 val_main_v75 val_main_v74 val_main_v73 val_main_v13 val_main_v12 val_main_v11 val_main_v3 val_main_v2 val_main_cst val_main_cst_3 val_main_cst_18 val_main_cst_19 val_main_cst_20
  generalize val_main_v10 (F := Ideal) x0 = r10
  generalize val_main_v9 (F := Ideal) x0 = r9
  generalize val_main_v71 (F := Ideal) x3 x6 = g
  pointwise
  simp only [ofBits_384, ofBits_two, ofBits_neg_half, Finset.univ_unique, Finset.sum_singleton]
  try rfl

theorem cq_w (i : Fin 1) (j : Fin 384) :
    val_main_v85 (F := Ideal) x0 x6 (ix2 i j)
      = ∑ r : Fin 16400, x0 (ix2 r j) * rms ((384 : ℝ) : EReal) (fun k : Fin 384 => x0 (ix2 r k)) * x6 (ix2 r j) := by
  simp only [← cq_rms x0 _ 0]
  unfold val_main_v85 val_main_v72 val_main_v69 val_main_v68 val_main_v67 val_main_v15 val_main_v14 val_main_cst_16 val_main_cst_17
  generalize val_main_v10 (F := Ideal) x0 = r10
  pointwise
  simp only [Finset.univ_unique, Finset.sum_singleton]

theorem ckv_var (r : Fin 16400) (i : Fin 1) : val_main_v28 (F := Ideal) x1 (ix2 r i) = var ((256 : ℝ) : EReal) (fun k : Fin 256 => x1 (ix2 r k)) := by
  unfold val_main_v28 val_main_v27 val_main_cst_7 val_main_v26 val_main_v25 val_main_cst_6 val_main_v24 val_main_v23 val_main_cst_5 val_main_v20 var
  pointwise
  simp only [ofBits_256, ofBits_eps]

theorem ckv_rms (r : Fin 16400) (i : Fin 1) : val_main_v29 (F := Ideal) x1 (ix2 r i) = rms ((256 : ℝ) : EReal) (fun k : Fin 256 => x1 (ix2 r k)) := by
  unfold val_main_v29 rms
  rw [← ckv_var x1 r i]
  rfl

theorem ckv_g (r : Fin 16400) (k : Fin 256) : val_main_v52 (F := Ideal) x4 x7 (ix2 r k) = x7 (ix2 r k) * x4 (ix2 0 k) := by
  unfold val_main_v52 val_main_v51 val_main_v35 val_main_v19
  pointwise

theorem ckv_at (r : Fin 16400) (j : Fin 256) :
    val_main_v65 (F := Ideal) x1 x4 x7 (ix2 r j)
      = x7 (ix2 r j) * x4 (ix2 0 j) * rms ((256 : ℝ) : EReal) (fun k : Fin 256 => x1 (ix2 r k))
        + throughMean ((256 : ℝ) : EReal) (fun k : Fin 256 => x1 (ix2 r k)) (fun k => x7 (ix2 r k) * x4 (ix2 0 k)) j := by
  unfold throughMean
  rw [← ckv_rms x1 r 0, ← ckv_var x1 r 0]
  rw [show (fun k : Fin 256 => x7 (ix2 r k) * x4 (ix2 0 k)) = fun k => val_main_v52 (F := Ideal) x4 x7 (ix2 r k) from
    funext fun k => (ckv_g x4 x7 r k).symm, ← ckv_g x4 x7 r j]
  dsimp only
  unfold val_main_v65 val_main_v64 val_main_v63 val_main_v62 val_main_v61 val_main_v60 val_main_v59 val_main_v58 val_main_v57 val_main_v56 val_main_v55 val_main_v54 val_main_v32 val_main_v31 val_main_v30 val_main_v22 val_main_v21 val_main_cst_4 val_main_cst_8 val_main_cst_13 val_main_cst_14 val_main_cst_15
  generalize val_main_v29 (F := Ideal) x1 = r10
  generalize val_main_v28 (F := Ideal) x1 = r9
  generalize val_main_v52 (F := Ideal) x4 x7 = g
  pointwise
  simp only [ofBits_256, ofBits_two, ofBits_neg_half, Finset.univ_unique, Finset.sum_singleton]
  try rfl

theorem ckv_w (i : Fin 1) (j : Fin 256) :
    val_main_v66 (F := Ideal) x1 x7 (ix2 i j)
      = ∑ r : Fin 16400, x1 (ix2 r j) * rms ((256 : ℝ) : EReal) (fun k : Fin 256 => x1 (ix2 r k)) * x7 (ix2 r j) := by
  simp only [← ckv_rms x1 _ 0]
  unfold val_main_v66 val_main_v53 val_main_v50 val_main_v49 val_main_v48 val_main_v34 val_main_v33 val_main_cst_11 val_main_cst_12
  generalize val_main_v29 (F := Ideal) x1 = r10
  pointwise
  simp only [Finset.univ_unique, Finset.sum_singleton]

/-- The step size's gradient times the softplus's slope. -/
theorem dt_at (r : Fin 16400) (k : Fin 16) :
    val_main_v43 (F := Ideal) x2 x5 x9 (ix2 r k) = x9 (ix2 r k) * Softplus.slope (x2 (ix2 r k) + x5 (ix2 0 k)) := by
  rw [show x2 (ix2 r k) + x5 (ix2 0 k) = val_main_v41 (F := Ideal) x2 x5 (ix2 r k) from by
    unfold val_main_v41 val_main_v40 val_main_v39 val_main_v38
    pointwise]
  unfold val_main_v43 val_main_call1_v0 val_main_v42_1 val_main_call0_v21 val_main_call0_v20 val_main_call0_v19 val_main_call0_cst_3
    val_main_call0_v18 val_main_call0_v17 val_main_call0_cst_2 val_main_call0_v16 val_main_call0_v15 val_main_call0_cst_1
    val_main_call0_v14 val_main_call0_v13 val_main_call0_cst_0 val_main_v42_0 val_main_call0_v11 val_main_call0_v10
    val_main_call0_v9 val_main_call0_v8 val_main_call0_v7 val_main_call0_v6 val_main_call0_v5 val_main_call0_v4 val_main_call0_v3
    val_main_call0_v2 val_main_call0_v1 val_main_call0_v0 val_main_call0_cst Softplus.slope Softplus.softplus
  generalize val_main_v41 (F := Ideal) x2 x5 = x
  pointwise
  simp only [ofBits_inf]

theorem v92_at (r : Fin 16896) (k : Fin 3584) :
    val_main_v92 (F := Ideal) x0 x1 x2 x3 x4 x5 x6 x7 x8 x9 x10 x11 x12 (ix2 r k)
      = if h : r.val < 16400 then
          cols (fun k => val_main_v65 (F := Ideal) x1 x4 x7 (ix2 ⟨r.val, h⟩ k)) (fun k => x8 (ix2 ⟨r.val, h⟩ k))
            (fun k => val_main_v84 (F := Ideal) x0 x3 x6 (ix2 ⟨r.val, h⟩ k)) (fun k => val_main_v43 (F := Ideal) x2 x5 x9 (ix2 ⟨r.val, h⟩ k))
            (fun k => x10 (ix2 ⟨r.val, h⟩ k)) (fun k => x11 (ix2 ⟨r.val, h⟩ k)) (fun k => x12 (ix2 ⟨r.val, h⟩ k)) k
        else 0 := by
  unfold val_main_v92 val_main_v91 val_main_cst_24 val_main_v90 val_main_v89 val_main_v88 val_main_v87 val_main_v86 val_main_cst_23
    val_main_cst_22 val_main_cst_21 cols
  pointwise

theorem v94_at (i : Fin 1) (k : Fin 128) :
    val_main_v94 (F := Ideal) x2 x5 x9 (ix2 i k)
      = if h : k.val < 16 then ∑ r : Fin 16400, val_main_v43 (F := Ideal) x2 x5 x9 (ix2 r ⟨k.val, h⟩) else 0 := by
  unfold val_main_v94 val_main_v93 val_main_cst_25 val_main_v47 val_main_v46 val_main_v45 val_main_v44 val_main_cst_9 val_main_cst_10
  generalize val_main_v43 (F := Ideal) x2 x5 x9 = v
  pointwise
  simp only [Finset.univ_unique, Finset.sum_singleton]

end Cert.ProjRefIdeal.RefValue

end
-- ==== Proof.ProjClaim.lean ====
/-
  The claims about the joint projection's gradient: the kernel's packed columns, its two norm weights' gradients and its bias
  gradient are the reference's, given real arguments.
-/
module

public import proofs.«01_k».proof.Defs
public import proofs.«01_k».proof.Proof.ProjKernel
public import proofs.«01_k».proof.Proof.ProjRef
public import proofs.«01_k».proof.Proof.Gen.ProjRefIdeal.Run
public import Idealize.ShloMosaic.Lib.StableHlo.RunRead

@[expose] public section

set_option maxRecDepth 16384

noncomputable section

open Idealize.ShloMosaic Idealize.ShloMosaic.TcCoe Idealize.SL.Sem

namespace Cert.ProjEq

open Cert.ProjIdeal Cert.ProjIdeal.Gen Cert.ProjIdeal.KernelValue Cert.NormMath Cert.RealCoe
open Cert.ProjRefIdeal.RefValue (cq_at ckv_at cq_w ckv_w dt_at v92_at v94_at cols cols_kv cols_kr cols_gapr cols_cq cols_dt cols_gapt
  cols_gap cols_z cols_xs cols_bc)
open Cert.ProjRefIdeal.Read (val_main_v92 val_main_v85 val_main_v66 val_main_v94 val_main_v84 val_main_v65 val_main_v43)

variable (m : (ℓ : Loc nD τ sig) → Buf (Elt Ideal) ℓ) (c : Dev nD)

/-- The arguments, as arrays. -/
abbrev cqA : Vec Ideal S16400x384 .f32 := m ((c : Thread nD τ).loc main_arg0)
abbrev ckvA : Vec Ideal S16400x256 .f32 := m ((c : Thread nD τ).loc main_arg1)
abbrev dtA : Vec Ideal S16400x16 .f32 := m ((c : Thread nD τ).loc main_arg2)
abbrev gqA : Vec Ideal S1x384 .f32 := m ((c : Thread nD τ).loc main_arg3)
abbrev gkvA : Vec Ideal S1x256 .f32 := m ((c : Thread nD τ).loc main_arg4)
abbrev bA : Vec Ideal S1x16 .f32 := m ((c : Thread nD τ).loc main_arg5)
abbrev dcqA : Vec Ideal S16400x384 .f32 := m ((c : Thread nD τ).loc main_arg6)
abbrev dckvA : Vec Ideal S16400x256 .f32 := m ((c : Thread nD τ).loc main_arg7)
abbrev dkrA : Vec Ideal S16400x64 .f32 := m ((c : Thread nD τ).loc main_arg8)
abbrev ddtA : Vec Ideal S16400x16 .f32 := m ((c : Thread nD τ).loc main_arg9)
abbrev dzA : Vec Ideal S16400x1024 .f32 := m ((c : Thread nD τ).loc main_arg10)
abbrev dxsA : Vec Ideal S16400x1024 .f32 := m ((c : Thread nD τ).loc main_arg11)
abbrev dbcA : Vec Ideal S16400x512 .f32 := m ((c : Thread nD τ).loc main_arg12)

/-- Rows of zeros behind the 16400 rows of an array. -/
def pad {n : ℕ} (a : Fin 16400 → Fin n → EReal) (R : Fin 16896) (k : Fin n) : EReal := if h : R.val < 16400 then a ⟨R.val, h⟩ k else 0

theorem pad_lt {n : ℕ} (a : Fin 16400 → Fin n → EReal) {R : Fin 16896} (h : R.val < 16400) (k : Fin n) : pad a R k = a ⟨R.val, h⟩ k := dif_pos h
theorem pad_ge {n : ℕ} (a : Fin 16400 → Fin n → EReal) {R : Fin 16896} (h : ¬R.val < 16400) (k : Fin n) : pad a R k = 0 := dif_neg h

theorem pad_congr {n n' : ℕ} {a : Fin 16400 → Fin n → EReal} {b : Fin 16400 → Fin n' → EReal} {R : Fin 16896} {k : Fin n} {k' : Fin n'}
    (h : ∀ r, a r k = b r k') : pad a R k = pad b R k' := by
  unfold pad
  exact dite_congr rfl (fun _ => h _) fun _ => rfl

theorem pad_zero {n : ℕ} (R : Fin 16896) (k : Fin n) : pad (fun _ (_ : Fin n) => 0) R k = 0 := by
  unfold pad
  split <;> rfl

/-- Columns of zeros behind the columns of a row. -/
def wide {n N : ℕ} (a : Fin n → EReal) (k : Fin N) : EReal := if h : k.val < n then a ⟨k.val, h⟩ else 0

theorem wide_lt {n N : ℕ} (a : Fin n → EReal) {k : Fin N} (h : k.val < n) : wide a k = a ⟨k.val, h⟩ := dif_pos h
theorem wide_ge {n N : ℕ} (a : Fin n → EReal) {k : Fin N} (h : ¬k.val < n) : wide a k = 0 := dif_neg h

theorem dcqArr_eq (r : Fin 16896) (k : Fin 384) : dcqArr m c (ix2 r k) = pad (fun r k => dcqA m c (ix2 r k)) r k := by
  unfold dcqArr V pad; after_results; pointwise
theorem dckvArr_eq (r : Fin 16896) (k : Fin 256) : dckvArr m c (ix2 r k) = pad (fun r k => dckvA m c (ix2 r k)) r k := by
  unfold dckvArr V pad; after_results; pointwise
theorem dzArr_eq (r : Fin 16896) (k : Fin 1024) : dzArr m c (ix2 r k) = pad (fun r k => dzA m c (ix2 r k)) r k := by
  unfold dzArr V pad; after_results; pointwise
theorem dxsArr_eq (r : Fin 16896) (k : Fin 1024) : dxsArr m c (ix2 r k) = pad (fun r k => dxsA m c (ix2 r k)) r k := by
  unfold dxsArr V pad; after_results; pointwise
theorem dbcArr_eq (r : Fin 16896) (k : Fin 512) : dbcArr m c (ix2 r k) = pad (fun r k => dbcA m c (ix2 r k)) r k := by
  unfold dbcArr V pad; after_results; pointwise

theorem dkrArr_eq (r : Fin 16896) (k : Fin 128) : dkrArr m c (ix2 r k) = pad (fun r k => wide (fun k => dkrA m c (ix2 r k)) k) r k := by
  unfold dkrArr V pad wide; after_results; pointwise
theorem ddtArr_eq (r : Fin 16896) (k : Fin 128) : ddtArr m c (ix2 r k) = pad (fun r k => wide (fun k => ddtA m c (ix2 r k)) k) r k := by
  unfold ddtArr V pad wide; after_results; pointwise
theorem bArr_eq (k : Fin 128) : bArr m c (ix2 0 k) = wide (fun k => bA m c (ix2 0 k)) k := by
  unfold bArr V wide; after_results; pointwise
theorem gqArr_eq : gqArr m c = gqA m c := V_main_arg3 m c
theorem gkvArr_eq : gkvArr m c = gkvA m c := V_main_arg4 m c

/-- The packed projection's arrays side by side, and rows of zeros below them. -/
def sideBySide : Vec Ideal S16400x3584 .f32 :=
  concatenate S16400x3584 1 [⟨S16400x256, ckvA m c⟩,
      ⟨S16400x128, broadcastInDim S16400x128 ![] bcast_S_S16400x128 (constant (F := Ideal) S_ .f32 0x00000000#32)⟩,
      ⟨S16400x384, cqA m c⟩, ⟨S16400x16, dtA m c⟩,
      ⟨S16400x2800, broadcastInDim S16400x2800 ![] bcast_S_S16400x2800 (constant (F := Ideal) S_ .f32 0x00000000#32)⟩]
    concatenates_S16400x256_S16400x128_S16400x384_S16400x16_S16400x2800_S16400x3584_d1

theorem projArr_eq : projArr m c
    = concatenate S16896x3584 0 [⟨S16400x3584, sideBySide m c⟩,
        ⟨S496x3584, broadcastInDim S496x3584 ![] bcast_S_S496x3584 (constant (F := Ideal) S_ .f32 0x00000000#32)⟩]
      concatenates_S16400x3584_S496x3584_S16896x3584_d0 := by
  unfold projArr V sideBySide
  after_reads_simp
  rfl

theorem proj_at (r : Fin 16896) (j : Fin 3584) : projArr m c (ix2 r j) = pad (fun r j => sideBySide m c (ix2 r j)) r j := by
  rw [projArr_eq]
  unfold pad
  pointwise

theorem ckv_eq (r : Fin 16896) (k : Fin 256) : ckv m c r k = pad (fun r k => ckvA m c (ix2 r k)) r k := by
  have hk := k.isLt
  unfold ckv
  rw [proj_at]
  unfold pad sideBySide
  refine dite_congr rfl (fun h => ?_) fun _ => rfl
  pointwise
theorem cq_eq (r : Fin 16896) (k : Fin 384) : cq m c r k = pad (fun r k => cqA m c (ix2 r k)) r k := by
  have hk := k.isLt
  unfold cq
  rw [proj_at]
  unfold pad sideBySide
  refine dite_congr rfl (fun h => ?_) fun _ => rfl
  pointwise
  rw [dif_neg (by omega), dif_neg (by omega), dif_pos (by omega)]
  exact congrArg (fun q => cqA m c (ix2 ⟨r.val, h⟩ q)) (Fin.ext (by dsimp only; omega))
theorem dtRaw_eq (r : Fin 16896) (k : Fin 128) : dtRaw m c r k = pad (fun r k => wide (fun k => dtA m c (ix2 r k)) k) r k := by
  have hk := k.isLt
  unfold dtRaw
  rw [proj_at]
  unfold pad sideBySide wide
  refine dite_congr rfl (fun h => ?_) fun _ => rfl
  pointwise
  rw [dif_neg (by omega), dif_neg (by omega), dif_neg (by omega)]
  by_cases hw : k.val < 16
  · rw [dif_pos (by omega), dif_pos hw]
    exact congrArg (fun q => dtA m c (ix2 ⟨r.val, h⟩ q)) (Fin.ext (by dsimp only; omega))
  · rw [dif_neg (by omega), dif_neg hw]

theorem ckv_row (r : Fin 16896) : ckv m c r = fun k => pad (fun r k => ckvA m c (ix2 r k)) r k := funext (ckv_eq m c r)
theorem cq_row (r : Fin 16896) : cq m c r = fun k => pad (fun r k => cqA m c (ix2 r k)) r k := funext (cq_eq m c r)

/-- The arguments on which the claim depends are real. -/
structure Real : Prop where
  cq : ∀ i, Finite (cqA m c i)
  ckv : ∀ i, Finite (ckvA m c i)
  dt : ∀ i, Finite (dtA m c i)
  gq : ∀ i, Finite (gqA m c i)
  gkv : ∀ i, Finite (gkvA m c i)
  b : ∀ i, Finite (bA m c i)
  dcq : ∀ i, Finite (dcqA m c i)
  dckv : ∀ i, Finite (dckvA m c i)
  ddt : ∀ i, Finite (ddtA m c i)

variable {m c}

theorem Real.dcqCol (h : Real m c) (r : Fin 16896) (j : Fin 384) : dcqCol m c r j
    = pad (fun r j => val_main_v84 (F := Ideal) (cqA m c) (gqA m c) (dcqA m c) (ix2 r j)) r j := by
  unfold KernelValue.dcqCol
  simp only [dcqArr_eq, cq_row, gqArr_eq]
  by_cases hr : r.val < 16400
  · simp only [pad_lt _ hr, cq_at]
    exact byHand_eq (by norm_num) (fun k => h.cq _) (fun k => (h.dcq _).mul (h.gq _)) j
  · simp only [pad_ge _ hr, byHand, zero_mul, mul_zero, sub_zero]

theorem dgq_eq : dgq m c = val_main_v85 (F := Ideal) (cqA m c) (dcqA m c) := by
  funext i
  idx_vars i
  refine Eq.trans ?_ (cq_w _ _ i0 i1).symm
  unfold dgq
  show (∑ R : Fin 16896, dcqArr m c (ix2 R i1) * cq m c R i1 * rms _ (fun k : Fin 384 => cq m c R k)) = _
  simp only [dcqArr_eq, cq_row]
  rw [Sums.fin_prefix (n := 16400) (by norm_num)]
  · refine Finset.sum_congr rfl fun r _ => ?_
    simp only [pad_lt (R := (⟨r.val, _⟩ : Fin 16896)) _ r.isLt]
    rw [mul_assoc, mul_comm]
  · intro r hr
    simp only [pad_ge _ hr, zero_mul]

theorem Real.dckvCol (h : Real m c) (r : Fin 16896) (j : Fin 256) : dckvCol m c r j
    = pad (fun r j => val_main_v65 (F := Ideal) (ckvA m c) (gkvA m c) (dckvA m c) (ix2 r j)) r j := by
  unfold KernelValue.dckvCol
  simp only [dckvArr_eq, ckv_row, gkvArr_eq]
  by_cases hr : r.val < 16400
  · simp only [pad_lt _ hr, ckv_at]
    exact byHand_eq (by norm_num) (fun k => h.ckv _) (fun k => (h.dckv _).mul (h.gkv _)) j
  · simp only [pad_ge _ hr, byHand, zero_mul, mul_zero, sub_zero]

theorem dgkv_eq : dgkv m c = val_main_v66 (F := Ideal) (ckvA m c) (dckvA m c) := by
  funext i
  idx_vars i
  refine Eq.trans ?_ (ckv_w _ _ i0 i1).symm
  unfold dgkv
  show (∑ R : Fin 16896, dckvArr m c (ix2 R i1) * ckv m c R i1 * rms _ (fun k : Fin 256 => ckv m c R k)) = _
  simp only [dckvArr_eq, ckv_row]
  rw [Sums.fin_prefix (n := 16400) (by norm_num)]
  · refine Finset.sum_congr rfl fun r _ => ?_
    simp only [pad_lt (R := (⟨r.val, _⟩ : Fin 16896)) _ r.isLt]
    rw [mul_assoc, mul_comm]
  · intro r hr
    simp only [pad_ge _ hr, zero_mul]

theorem Real.ddtCol (h : Real m c) (r : Fin 16896) (k : Fin 128) : ddtCol m c r k
    = pad (fun r k => wide (fun k => val_main_v43 (F := Ideal) (dtA m c) (bA m c) (ddtA m c) (ix2 r k)) k) r k := by
  unfold KernelValue.ddtCol
  simp only [ddtArr_eq, dtRaw_eq, bArr_eq]
  by_cases hr : r.val < 16400
  · simp only [pad_lt _ hr]
    by_cases hk : k.val < 16
    · simp only [wide_lt _ hk, dt_at]
      rw [Softplus.slope_eq ((h.dt _).add (h.b _))]
    · simp only [wide_ge _ hk, zero_mul]
  · simp only [pad_ge _ hr, zero_mul]

theorem db_eq (h : Real m c) : db m c = val_main_v94 (F := Ideal) (dtA m c) (bA m c) (ddtA m c) := by
  funext i
  idx_vars i
  refine Eq.trans ?_ (v94_at _ _ _ i0 i1).symm
  show (∑ R : Fin 16896, ddtCol m c R i1) = _
  simp only [h.ddtCol]
  rw [Sums.fin_prefix (n := 16400) (by norm_num)]
  · by_cases hk : i1.val < 16
    · rw [dif_pos hk]
      refine Finset.sum_congr rfl fun r _ => ?_
      rw [pad_lt (R := (⟨r.val, _⟩ : Fin 16896)) _ r.isLt, wide_lt _ hk]
    · rw [dif_neg hk]
      refine Finset.sum_eq_zero fun r _ => ?_
      rw [pad_lt (R := (⟨r.val, _⟩ : Fin 16896)) _ r.isLt, wide_ge _ hk]
  · intro r hr
    exact pad_ge _ hr _

/-- A row of the packed columns, part by part. -/
theorem Real.packed (h : Real m c) (R : Fin 16896) (j : Fin 3584) : packed m c R j
    = pad (fun r j => cols (fun k => val_main_v65 (F := Ideal) (ckvA m c) (gkvA m c) (dckvA m c) (ix2 r k)) (fun k => dkrA m c (ix2 r k)) (fun k => val_main_v84 (F := Ideal) (cqA m c) (gqA m c) (dcqA m c) (ix2 r k))
        (fun k => val_main_v43 (F := Ideal) (dtA m c) (bA m c) (ddtA m c) (ix2 r k)) (fun k => dzA m c (ix2 r k)) (fun k => dxsA m c (ix2 r k))
        (fun k => dbcA m c (ix2 r k)) j) R j := by
  have hj := j.isLt
  by_cases h1 : j.val < 256
  · rw [packed_kv m c R j ⟨j.val, h1⟩ rfl, h.dckvCol]
    exact pad_congr fun r => by rw [cols_kv _ _ _ _ _ _ _ j ⟨j.val, h1⟩ rfl]
  by_cases h2 : j.val < 384
  · rw [packed_kr m c R j ⟨j.val - 256, by omega⟩ (by dsimp only; omega), dkrArr_eq]
    refine pad_congr fun r => ?_
    by_cases h3 : j.val - 256 < 64
    · rw [wide_lt _ h3, cols_kr _ _ _ _ _ _ _ j ⟨j.val - 256, h3⟩ (by dsimp only; omega)]
    · rw [wide_ge _ h3, cols_gapr _ _ _ _ _ _ _ j ⟨j.val - 320, by omega⟩ (by dsimp only; omega)]
  by_cases h3 : j.val < 768
  · rw [packed_cq m c R j ⟨j.val - 384, by omega⟩ (by dsimp only; omega), h.dcqCol]
    exact pad_congr fun r => by rw [cols_cq _ _ _ _ _ _ _ j ⟨j.val - 384, by omega⟩ (by dsimp only; omega)]
  by_cases h4 : j.val < 896
  · rw [packed_dt m c R j ⟨j.val - 768, by omega⟩ (by dsimp only; omega), h.ddtCol]
    refine pad_congr fun r => ?_
    by_cases h5 : j.val - 768 < 16
    · rw [wide_lt _ h5, cols_dt _ _ _ _ _ _ _ j ⟨j.val - 768, h5⟩ (by dsimp only; omega)]
    · rw [wide_ge _ h5, cols_gapt _ _ _ _ _ _ _ j ⟨j.val - 784, by omega⟩ (by dsimp only; omega)]
  by_cases h5 : j.val < 1024
  · rw [packed_gap m c R j ⟨j.val - 896, by omega⟩ (by dsimp only; omega)]
    refine (pad_zero R j).symm.trans (pad_congr fun r => ?_)
    exact (cols_gap _ _ _ _ _ _ _ j ⟨j.val - 896, by omega⟩ (by dsimp only; omega)).symm
  by_cases h6 : j.val < 2048
  · rw [packed_z m c R j ⟨j.val - 1024, by omega⟩ (by dsimp only; omega), dzArr_eq]
    exact pad_congr fun r => by rw [cols_z _ _ _ _ _ _ _ j ⟨j.val - 1024, by omega⟩ (by dsimp only; omega)]
  by_cases h7 : j.val < 3072
  · rw [packed_xs m c R j ⟨j.val - 2048, by omega⟩ (by dsimp only; omega), dxsArr_eq]
    exact pad_congr fun r => by rw [cols_xs _ _ _ _ _ _ _ j ⟨j.val - 2048, by omega⟩ (by dsimp only; omega)]
  · rw [packed_bc m c R j ⟨j.val - 3072, by omega⟩ (by dsimp only; omega), dbcArr_eq]
    exact pad_congr fun r => by rw [cols_bc _ _ _ _ _ _ _ j ⟨j.val - 3072, by omega⟩ (by dsimp only; omega)]

theorem dproj_eq (h : Real m c) : dproj m c = val_main_v92 (F := Ideal) (cqA m c) (ckvA m c) (dtA m c) (gqA m c) (gkvA m c) (bA m c)
    (dcqA m c) (dckvA m c) (dkrA m c) (ddtA m c) (dzA m c) (dxsA m c) (dbcA m c) := by
  funext i
  idx_vars i
  refine Eq.trans ?_ (v92_at _ _ _ _ _ _ _ _ _ _ _ _ _ i0 i1).symm
  exact h.packed i0 i1

/-- The side conditions the precondition states. -/
instance preFacts : Cert.Pre_proj_grad_finite.Facts := ⟨by decide, by decide, by decide, by decide, by decide, by decide⟩

/-- The precondition says that the arguments are real. -/
theorem real_of_pre (h : Cert.Pre_ProjIdeal_proj_grad_finite m) (c : Dev nD) : Real m c where
  cq i := finite_of_test (congrFun (h c).1 i)
  ckv i := finite_of_test (congrFun (h c).2.1 i)
  dt i := finite_of_test (congrFun (h c).2.2.1 i)
  gq i := finite_of_test (congrFun (h c).2.2.2.1 i)
  gkv i := finite_of_test (congrFun (h c).2.2.2.2.1 i)
  b i := finite_of_test (congrFun (h c).2.2.2.2.2.1 i)
  dcq i := finite_of_test (congrFun (h c).2.2.2.2.2.2.1 i)
  dckv i := finite_of_test (congrFun (h c).2.2.2.2.2.2.2.1 i)
  ddt i := finite_of_test (congrFun (h c).2.2.2.2.2.2.2.2 i)

theorem algebraic : Cert.algebraic_ProjIdeal_ProjRefIdeal_pre_proj_grad_finite := by
  intro m g m' g' hp ha
  refine ⟨fun c => dproj m c, fun c => dgq m c, fun c => dgkv m c, fun c => db m c, ?_, ?_⟩
  · exact (θ_run _ _ _).mono (fun r h c => ⟨(h c).1.trans (final_dproj m c), (h c).2.1.trans (final_dgq m c),
      (h c).2.2.1.trans (final_dgkv m c), (h c).2.2.2.1.trans (final_db m c), (h c).2.2.2.2⟩) (Cert.ProjIdeal.Value.run_blocks m g)
  · refine (θ_run _ _ _).mono (fun r h c => ?_) (Cert.ProjRefIdeal.Value.run m' g')
    obtain ⟨h0, h1, h2, h3, h4, h5, h6, h7, h8, h9, h10, h11, h12⟩ := ha c
    have hr := real_of_pre hp c
    refine ⟨(h c).1.trans ?_, (h c).2.1.trans ?_, (h c).2.2.1.trans ?_, (h c).2.2.2.1.trans ?_, (h c).2.2.2.2⟩
    · refine ((Cert.ProjRefIdeal.Read.val_main_v92_eq ..).trans ?_).trans (dproj_eq hr).symm
      rw [h0, h1, h2, h3, h4, h5, h6, h7, h8, h9, h10, h11, h12]
    · refine ((Cert.ProjRefIdeal.Read.val_main_v85_eq ..).trans ?_).trans dgq_eq.symm
      rw [h0, h6]
    · refine ((Cert.ProjRefIdeal.Read.val_main_v66_eq ..).trans ?_).trans dgkv_eq.symm
      rw [h1, h7]
    · refine ((Cert.ProjRefIdeal.Read.val_main_v94_eq ..).trans ?_).trans (db_eq hr).symm
      rw [h2, h5, h9]

/-- The reference ends with its arguments and its counters as they were. -/
theorem frame_ref : Cert.quiescent_ProjRefIdeal := fun m g _ =>
  (θ_run Cert.ProjRefIdeal.defs _ _).mono (fun r h => ⟨fun c => (h c).2.2.2.2, sem_eq_zero_of_no_sems (by decide) r.2⟩)
    (Cert.ProjRefIdeal.Value.run (F := Ideal) m g)

end Cert.ProjEq

end
-- ==== Proof.DeltaKernel.lean ====
/-
  What the kernel of the attention's row sums leaves in its result array: for every head and row the sum of do·o over the head's
  128 columns, once as a whole and once the part that a rounding to half the bits leaves.
-/
module

public import proofs.«01_k».proof.Proof.RealCoe
public import proofs.«01_k».proof.Proof.Gen.DeltaIdeal.Value
public import Idealize.ShloMosaic.Lib.Pipeline.ValueKit
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.DeltaIdeal.KernelValue

open Cert.DeltaIdeal Cert.DeltaIdeal.Gen Cert.RealCoe

/-- The sum of a row of products, and of what a rounding leaves of each. -/
def rowSum (x y : Fin 128 → EReal) : EReal := ∑ k, x k * y k + ∑ k, (x k * y k - x k * y k)

/-- Of real rows the second sum is zero. -/
theorem rowSum_eq {x y : Fin 128 → EReal} (hx : ∀ k, Finite (x k)) (hy : ∀ k, Finite (y k)) : rowSum x y = ∑ k, x k * y k := by
  unfold rowSum
  refine (congrArg (_ + ·) (Finset.sum_eq_zero fun k _ => ?_)).trans (add_zero _)
  obtain ⟨r, hr⟩ := (hx k).mul (hy k)
  rw [hr, ← EReal.coe_sub, sub_self, EReal.coe_zero]

/-- A head's part of a block. -/
theorem pay_head (x y : Vec Ideal S512x128 .f32) (a b : Fin 1) (r : Fin 512) :
    k0_pay4 (F := Ideal) x y (ix3 a b r) = rowSum (fun k => x (ix2 r k)) (fun k => y (ix2 r k)) := by
  unfold k0_pay4 k0_pay3 rowSum
  pointwise

/-- Column `k` of head `h`. -/
def col (h : Fin 8) (k : Fin 128) : Fin 1024 := ⟨128 * h.val + k.val, by have := h.isLt; have := k.isLt; omega⟩

/-- A head's 128 columns of a block. -/
def slab (x : Vec Ideal S512x1024 .f32) (h : Fin 8) : Vec Ideal S512x128 .f32 := fun i => x (ix2 (i 0) (col h (i 1)))

theorem ld_slab (x : Vec Ideal S512x1024 .f32) {o : ℕ} (inb : ∀ a, ![0, o] a + S512x128.size a ≤ S512x1024.size a) {h : Fin 8}
    (ho : h.val = o / 128) (hd : o / 128 * 128 = o) :
    View.ld x (Rect.unit (s := S512x1024) ![0, o] S512x128.size inb) = slab x h := by
  funext i
  refine congrArg x ?_
  funext a
  apply Fin.ext
  match a with
  | ⟨0, _⟩ => show 0 + 1 * (i 0).val = (i 0).val; omega
  | ⟨1, _⟩ => show o + 1 * (i 1).val = 128 * h.val + (i 1).val; omega

theorem piece (x y : Vec Ideal S512x1024 .f32) {P : Vec Ideal S1x1x512 .f32} {u v : Vec Ideal S512x128 .f32} {h : Fin 8} {r : Fin 512}
    {i : S1x1x512.Idx} (hP : P = k0_pay4 (F := Ideal) u v) (hu : u = slab x h) (hv : v = slab y h) (h2 : r.val = (i 2).val) :
    P i = rowSum (fun k => x (ix2 r (col h k))) (fun k => y (ix2 r (col h k))) := by
  idx_vars i
  obtain rfl : r = i2 := Fin.ext h2
  rw [hP, hu, hv, pay_head]
  rfl

theorem out_at (x y : Vec Ideal S512x1024 .f32) (h : Fin 8) (b : Fin 1) (r : Fin 512) :
    out0_2 (F := Ideal) x y (ix3 h b r) = rowSum (fun k => x (ix2 r (col h k))) (fun k => y (ix2 r (col h k))) := by
  unfold out0_2
  canon_tiles i hi using cover0_2 _ _ _ _ _ _ _ _ _
  all_goals
    have h0 : h.val = _ := hi0
    refine piece x y rfl (ld_slab x _ ?_ rfl) (ld_slab y _ ?_ rfl) hi2
    all_goals omega

variable (m : (ℓ : Loc nD τ sig) → Buf (Elt Ideal) ℓ) (c : Dev nD)

theorem idx : ∀ t : Fin cfg0.N, win0_0.index t = ![t.val, 0] ∧ win0_1.index t = ![t.val, 0] ∧ win0_2.index t = ![0, 0, t.val] :=
  (by decide +kernel : ∀ t : Fin grid0.N, _)

theorem lt_N (t : Fin cfg0.N) : t.val < 33 := lt_of_lt_of_eq t.isLt N_0

/-- The arrays that the region reads: the output's gradient and the output. -/
def doArr : Vec Ideal S16896x1024 .f32 := V m c main_v1
def oArr : Vec Ideal S16896x1024 .f32 := V m c main_v28

/-- Row `r` of block `t`. -/
def row (t : ℕ) (ht : t < 33) (r : Fin 512) : Fin 16896 := ⟨512 * t + r.val, by have := r.isLt; omega⟩

theorem row_val (t : ℕ) (ht : t < 33) (r : Fin 512) : (row t ht r).val = 512 * t + r.val := rfl

abbrev bdo (t : Fin cfg0.N) : Vec Ideal S512x1024 .f32 := iblk m c 0 t
abbrev bo (t : Fin cfg0.N) : Vec Ideal S512x1024 .f32 := iblk m c 1 t

theorem bdo_at (t : Fin cfg0.N) (r : Fin 512) (k : Fin 1024) : bdo m c t (ix2 r k) = doArr m c (ix2 (row t.val (lt_N t) r) k) := by
  unfold bdo doArr; blk_ext [iblk, idx t, row_val]
theorem bo_at (t : Fin cfg0.N) (r : Fin 512) (k : Fin 1024) : bo m c t (ix2 r k) = oArr m c (ix2 (row t.val (lt_N t) r) k) := by
  unfold bo oArr; blk_ext [iblk, idx t, row_val]

/-- The row sums of a head. -/
def delta : Vec Ideal S8x1x16896 .f32 := fun i =>
  rowSum (fun k => doArr m c (ix2 (i 2) (col (i 0) k))) (fun k => oArr m c (ix2 (i 2) (col (i 0) k)))

theorem final_delta : (dats m 0 c).arrAt 2 cfg0.N = delta m c := by
  refine (dats m 0 c).arrAt_eq_of_covers 2 _ (by decide +kernel) fun t _ y => ?_
  blk_simp
  rw [after0_2]
  idx_vars y
  refine (out_at _ _ y0 y1 y2).trans ?_
  have e : ∀ k, bdo m c t (ix2 y2 k) = doArr m c (ix2 (row t.val (lt_N t) y2) k) := bdo_at m c t y2
  have e' : ∀ k, bo m c t (ix2 y2 k) = oArr m c (ix2 (row t.val (lt_N t) y2) k) := bo_at m c t y2
  refine (congrArg₂ rowSum (funext fun k => e _) (funext fun k => e' _)).trans (show delta m c (ix3 y0 y1 (row t.val (lt_N t) y2)) = _ from ?_)
  blk_ext [idx t, row_val]

end Cert.DeltaIdeal.KernelValue

end
-- ==== Proof.DeltaClaim.lean ====
/-
  The claims about the attention's row sums: the kernel's are the reference's, given real arguments.
-/
module

public import proofs.«01_k».proof.Defs
public import proofs.«01_k».proof.Proof.DeltaKernel
public import proofs.«01_k».proof.Proof.MlpClaim
public import proofs.«01_k».proof.Proof.AttnRefReal
public import proofs.«01_k».proof.Proof.Gen.DeltaRefIdeal.Run
public import proofs.«01_k».proof.Proof.Gen.DeltaRefIdeal.Read
public import Idealize.ShloMosaic.Lib.StableHlo.RunRead

@[expose] public section

set_option maxRecDepth 16384

noncomputable section

open Idealize.ShloMosaic Idealize.ShloMosaic.TcCoe Idealize.SL.Sem

namespace Cert.DeltaRefIdeal.RefValue

open Cert.DeltaRefIdeal Cert.DeltaRefIdeal.Gen Cert.DeltaRefIdeal.Read

/-- The reference's row sums, with zeros for the padding's rows. -/
theorem v39_at (x0 x1 : Vec Ideal S8x16400x256 .f32) (x2 : Vec Ideal S8x16400x128 .f32) (x3 : Vec Ideal S16400x1024 .f32) (h : Fin 8) (a : Fin 1)
    (R : Fin 16896) : val_main_v39 (F := Ideal) x0 x1 x2 x3 (ix3 h a R) = if hR : R.val < 16400 then
      ∑ k : Fin 128, val_main_v25 (F := Ideal) x0 x1 x2 (ix2 ⟨R.val, hR⟩ ⟨h.val * 128 + k.val, by have := h.isLt; have := k.isLt; omega⟩)
        * x3 (ix2 ⟨R.val, hR⟩ ⟨h.val * 128 + k.val, by have := h.isLt; have := k.isLt; omega⟩) else 0 := by
  unfold val_main_v39 val_main_v38 val_main_v37 val_main_v36 val_main_cst_7 val_main_v35 val_main_cst_6 val_main_v34 val_main_v33
    val_main_cst_5 val_main_v32 val_main_v31 val_main_v26
  generalize val_main_v25 (F := Ideal) x0 x1 x2 = y
  pointwise
  simp only [Finset.univ_unique, Finset.sum_singleton]

/-- The softmax is the one of the attention's gradient. -/
theorem soft_same (x0 x1 : Vec Ideal S8x16400x256 .f32) :
    val_main_v22 (F := Ideal) x0 x1 = Cert.AttnRefIdeal.Read.val_main_v35 (F := Ideal) x0 x1 := rfl

/-- The attention's output: the values' sum by the softmax's weights. -/
theorem v25_at (x0 x1 : Vec Ideal S8x16400x256 .f32) (x2 : Vec Ideal S8x16400x128 .f32) (R : Fin 16400) (j : Fin 1024) :
    val_main_v25 (F := Ideal) x0 x1 x2 (ix2 R j) = ∑ κ : Fin 16400, x2 (ix3 ⟨j.val / 128, by omega⟩ κ ⟨j.val % 128, by omega⟩)
      * val_main_v22 (F := Ideal) x0 x1 (ix3 ⟨j.val / 128, by omega⟩ R κ) := by
  unfold val_main_v25 val_main_v24 val_main_v23
  generalize val_main_v22 (F := Ideal) x0 x1 = y
  pointwise

/-- Of real arguments the attention's output is real. -/
theorem out_finite {x0 x1 : Vec Ideal S8x16400x256 .f32} {x2 : Vec Ideal S8x16400x128 .f32} (h0 : ∀ i, Cert.RealCoe.Finite (x0 i))
    (h1 : ∀ i, Cert.RealCoe.Finite (x1 i)) (h2 : ∀ i, Cert.RealCoe.Finite (x2 i)) (R : Fin 16400) (j : Fin 1024) :
    Cert.RealCoe.Finite (val_main_v25 (F := Ideal) x0 x1 x2 (ix2 R j)) := by
  choose q hq using fun h ρ e => h0 (ix3 h ρ e)
  choose k hk using fun h ρ e => h1 (ix3 h ρ e)
  choose w hw using fun h ρ e => h2 (ix3 h ρ e)
  have H : Cert.AttnRefIdeal.Value.Reals x0 x1 x2 (fun _ => 0) q k w (fun _ _ _ => 0) := ⟨hq, hk, hw, fun _ _ _ => EReal.coe_zero.symm⟩
  rw [v25_at]
  refine Cert.RealCoe.Finite.sum fun κ _ => (h2 _).mul (y := val_main_v22 (F := Ideal) x0 x1 (ix3 ⟨j.val / 128, by omega⟩ R κ)) ?_
  exact ⟨_, Cert.AttnRefIdeal.Value.soft_real H _ _ _⟩

end Cert.DeltaRefIdeal.RefValue

namespace Cert.DeltaEq

open Cert.DeltaIdeal Cert.DeltaIdeal.Gen Cert.DeltaIdeal.KernelValue Cert.RealCoe
open Cert.MlpResidualEq (padRow pad_at padRow_lt padRow_ge)
open Cert.DeltaRefIdeal.RefValue (v39_at out_finite)
open Cert.DeltaRefIdeal.Read (val_main_v25 val_main_v39)

variable (m : (ℓ : Loc nD τ sig) → Buf (Elt Ideal) ℓ) (c : Dev nD)

/-- The arguments, as arrays. -/
abbrev qA : Vec Ideal S8x16400x256 .f32 := m ((c : Thread nD τ).loc main_arg0)
abbrev kA : Vec Ideal S8x16400x256 .f32 := m ((c : Thread nD τ).loc main_arg1)
abbrev vA : Vec Ideal S8x16400x128 .f32 := m ((c : Thread nD τ).loc main_arg2)
abbrev doA : Vec Ideal S16400x1024 .f32 := m ((c : Thread nD τ).loc main_arg3)

/-- The attention's output, by the forward lines. -/
abbrev oA : Vec Ideal S16400x1024 .f32 := val_main_v25 (F := Ideal) (qA m c) (kA m c) (vA m c)

theorem doArr_eq (r : Fin 16896) (k : Fin 1024) : doArr m c (ix2 r k) = padRow (doA m c) r k := by
  rw [← pad_at]; refine congrFun ?_ _; unfold doArr V; after_reads_simp; rfl
theorem rows_congr {x x' : Vec Ideal S16400x1024 .f32} {y y' : Vec Ideal S496x1024 .f32} (hx : x = x') (hy : y = y') :
    concatenate S16896x1024 0 [⟨S16400x1024, x⟩, ⟨S496x1024, y⟩] concatenates_S16400x1024_S496x1024_S16896x1024_d0
      = concatenate S16896x1024 0 [⟨S16400x1024, x'⟩, ⟨S496x1024, y'⟩] concatenates_S16400x1024_S496x1024_S16896x1024_d0 := by
  rw [hx, hy]

theorem oArr_eq (r : Fin 16896) (k : Fin 1024) : oArr m c (ix2 r k) = padRow (oA m c) r k := by
  rw [← pad_at]; refine congrFun ?_ _; unfold oArr V; after_reads_simp
  refine rows_congr ?_ ?_ <;> after_reads_simp
  · simp only [StableHlo.TRef.ofBuf, StableHlo.TRef.toBuf, cast_eq, id_eq]
    rfl

/-- The arguments are real. -/
structure Real : Prop where
  q : ∀ i, Finite (qA m c i)
  k : ∀ i, Finite (kA m c i)
  v : ∀ i, Finite (vA m c i)
  dout : ∀ i, Finite (doA m c i)

variable {m c}

theorem delta_eq (h : Real m c) : delta m c = val_main_v39 (F := Ideal) (qA m c) (kA m c) (vA m c) (doA m c) := by
  funext i
  idx_vars i
  refine Eq.trans ?_ (v39_at _ _ _ _ i0 i1 i2).symm
  show rowSum (fun k => doArr m c (ix2 i2 (col i0 k))) (fun k => oArr m c (ix2 i2 (col i0 k))) = _
  simp only [doArr_eq, oArr_eq]
  by_cases hr : i2.val < 16400
  · simp only [padRow_lt _ _ hr]
    rw [dif_pos hr, rowSum_eq (fun k => h.dout _) (fun k => out_finite h.q h.k h.v _ _)]
    refine Finset.sum_congr rfl fun k _ => ?_
    have hc : col i0 k = ⟨i0.val * 128 + k.val, by have := i0.isLt; have := k.isLt; omega⟩ :=
      Fin.ext (by show 128 * i0.val + k.val = i0.val * 128 + k.val; omega)
    rw [hc, mul_comm]
  · rw [dif_neg hr]
    simp only [padRow_ge _ _ hr, rowSum, mul_zero, sub_zero, Finset.sum_const_zero, add_zero]

/-- The side conditions the precondition states. -/
instance preFacts : Cert.Pre_delta_finite.Facts := ⟨by decide, by decide, by decide⟩

/-- The precondition says that the arguments are real. -/
theorem real_of_pre (h : Cert.Pre_DeltaIdeal_delta_finite m) (c : Dev nD) : Real m c where
  q i := finite_of_test (congrFun (h c).1 i)
  k i := finite_of_test (congrFun (h c).2.1 i)
  v i := finite_of_test (congrFun (h c).2.2.1 i)
  dout i := finite_of_test (congrFun (h c).2.2.2 i)

theorem algebraic : Cert.algebraic_DeltaIdeal_DeltaRefIdeal_pre_delta_finite := by
  intro m g m' g' hp ha
  refine ⟨fun c => delta m c, ?_, ?_⟩
  · exact (θ_run _ _ _).mono (fun r h c => ⟨(h c).1.trans (final_delta m c), (h c).2⟩) (Cert.DeltaIdeal.Value.run_blocks m g)
  · refine (θ_run _ _ _).mono (fun r h c => ?_) (Cert.DeltaRefIdeal.Value.run m' g')
    obtain ⟨h0, h1, h2, h3⟩ := ha c
    refine ⟨(h c).1.trans ?_, (h c).2⟩
    refine ((Cert.DeltaRefIdeal.Read.val_main_v39_eq ..).trans ?_).trans (delta_eq (real_of_pre hp c)).symm
    rw [h0, h1, h2, h3]

/-- The reference ends with its arguments and its counters as they were. -/
theorem frame_ref : Cert.quiescent_DeltaRefIdeal := fun m g _ =>
  (θ_run Cert.DeltaRefIdeal.defs _ _).mono (fun r h => ⟨fun c => (h c).2, sem_eq_zero_of_no_sems (by decide) r.2⟩)
    (Cert.DeltaRefIdeal.Value.run (F := Ideal) m g)

end Cert.DeltaEq

end
-- ==== Proof.UnpackKernel.lean ====
/-
  What the kernel of the heads' gradient leaves in its three result arrays: the queries' gradient with the rotary parts turned
  back and put behind the others, keys and values side by side, and the shared rotary key's gradient, the sum over the heads
  turned back.
-/
module

public import proofs.«01_k».proof.Proof.NormMath
public import proofs.«01_k».proof.Proof.Gen.UnpackIdeal.Value
public import Idealize.ShloMosaic.Lib.Pipeline.ValueKit
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.UnpackIdeal.KernelValue

open Cert.UnpackIdeal Cert.UnpackIdeal.Gen

/-- The other lane of the pair that a rotation turns: 32 lanes away, within each half of a row. -/
def mate (k : Fin 128) : Fin 128 := if h : k.val % 64 < 32 then ⟨k.val + 32, by omega⟩ else ⟨k.val - 32, by omega⟩

/-- A row of gradients turned back, the tables of cosines and signed sines given. -/
def turn (d c s : Fin 128 → EReal) (k : Fin 128) : EReal := d k * c k + d (mate k) * s (mate k)

/-- Two heads' rotary parts, one from each half. -/
def halves (a b : Fin 128 → EReal) (k : Fin 128) : EReal := if k.val < 64 then a k else b k

/-- A row's two halves added, in the first half. -/
def fold (a : Fin 128 → EReal) (k : Fin 128) : EReal := if h : k.val < 64 then a k + a ⟨k.val + 64, by omega⟩ else 0

theorem slt64 (n : ℕ) (h : n < 128) : IntOp.cmpi .slt (BitVec.ofNat 32 n) 64#32 = if n < 64 then 1#1 else 0#1 :=
  (by decide +kernel : ∀ k : Fin 128, IntOp.cmpi .slt (BitVec.ofNat 32 k.val) 64#32 = if k.val < 64 then 1#1 else 0#1) ⟨n, h⟩

theorem first32 : ∀ k : Fin 128,
    IntOp.cmpi CmpIPredicate.slt
        (Scalar.select
          (IntOp.andi
            (IntOp.xori
              (IntOp.cmpi CmpIPredicate.slt
                (IntOp.remsi ArithUnit.vector (BitVec.ofNat 32 k.val)
                  (Scalar.select (Scalar.cmpi CmpIPredicate.eq 64#32 0#32) 1#32 64#32))
                0#32)
              (Scalar.cmpi CmpIPredicate.slt (Scalar.select (Scalar.cmpi CmpIPredicate.eq 64#32 0#32) 1#32 64#32) 0#32))
            (IntOp.cmpi CmpIPredicate.ne
              (IntOp.remsi ArithUnit.vector (BitVec.ofNat 32 k.val)
                (Scalar.select (Scalar.cmpi CmpIPredicate.eq 64#32 0#32) 1#32 64#32))
              0#32))
          (IntOp.addi
            (IntOp.remsi ArithUnit.vector (BitVec.ofNat 32 k.val)
              (Scalar.select (Scalar.cmpi CmpIPredicate.eq 64#32 0#32) 1#32 64#32))
            (Scalar.select (Scalar.cmpi CmpIPredicate.eq 64#32 0#32) 1#32 64#32))
          (IntOp.remsi ArithUnit.vector (BitVec.ofNat 32 k.val)
            (Scalar.select (Scalar.cmpi CmpIPredicate.eq 64#32 0#32) 1#32 64#32)))
        32#32 = if k.val % 64 < 32 then 1#1 else 0#1 := by
  decide +kernel

theorem select_ite {α : Type} (p : Prop) [Decidable p] (a b : α) : Scalar.select (if p then 1#1 else 0#1) a b = if p then a else b := by
  split <;> rfl

theorem turn_eq (d c s : Fin 128 → EReal) (k : Fin 128) :
    (d k * c k + if k.val % 64 < 32 then d ⟨(k.val + 128 - 96) % 128, Nat.mod_lt _ (by decide)⟩ * s ⟨(k.val + 128 - 96) % 128, Nat.mod_lt _ (by decide)⟩
      else d ⟨(k.val + 128 - 32) % 128, Nat.mod_lt _ (by decide)⟩ * s ⟨(k.val + 128 - 32) % 128, Nat.mod_lt _ (by decide)⟩) = turn d c s k := by
  have hk := k.isLt
  unfold turn mate
  split
  · rw [show (⟨(k.val + 128 - 96) % 128, Nat.mod_lt _ (by decide)⟩ : Fin 128) = ⟨k.val + 32, by omega⟩ from Fin.ext (by show (k.val + 128 - 96) % 128 = k.val + 32; omega)]
  · rw [show (⟨(k.val + 128 - 32) % 128, Nat.mod_lt _ (by decide)⟩ : Fin 128) = ⟨k.val - 32, by omega⟩ from Fin.ext (by show (k.val + 128 - 32) % 128 = k.val - 32; omega)]

section Block

variable (x y : Vec Ideal S1x768x128 .f32) (a b c : Vec Ideal S768x128 .f32)

theorem pay_turn2 (r : Fin 768) (k : Fin 128) : k0_pay3 (F := Ideal) x y a b (ix2 r k)
    = turn (halves (fun k => x (ix3 0 r k)) (fun k => y (ix3 0 r k))) (fun k => a (ix2 r k)) (fun k => b (ix2 r k)) k := by
  rw [← turn_eq]
  unfold k0_pay3 k0_pay2 halves
  pointwise
  rw [first32, slt64 _ k.isLt, slt64 _ (Nat.mod_lt _ (by decide)), slt64 _ (Nat.mod_lt _ (by decide))]
  simp only [select_ite]

theorem pay_copy (r : Fin 768) (k : Fin 128) : k0_pay35 (F := Ideal) x (ix2 r k) = x (ix3 0 r k) := by
  unfold k0_pay35
  pointwise

theorem pay_turn1 (r : Fin 768) (k : Fin 128) : k0_pay1 (F := Ideal) c (k0_pay39 a) b (ix2 r k)
    = turn (fun k => c (ix2 r k)) (fun k => a (ix2 r k)) (fun k => b (ix2 r k)) k := by
  rw [← turn_eq]
  unfold k0_pay1 k0_pay39
  pointwise
  rw [first32]
  simp only [select_ite]

theorem pay_fold (r : Fin 768) (k : Fin 128) : k0_pay38 (F := Ideal) k0_pay2 c x y (ix2 r k)
    = fold (fun k => c (ix2 r k) + x (ix3 0 r k) + y (ix3 0 r k)) k := by
  have hk := k.isLt
  unfold k0_pay38 k0_pay2 fold
  pointwise
  rw [slt64 _ k.isLt, select_ite]
  by_cases h : k.val < 64
  · rw [if_pos h, dif_pos h]
    rw [show (⟨(k.val + 128 - 64) % 128, Nat.mod_lt _ (by decide)⟩ : Fin 128) = ⟨k.val + 64, by omega⟩ from Fin.ext (by show (k.val + 128 - 64) % 128 = k.val + 64; omega)]
  · rw [if_neg h, dif_neg h]

end Block

/-- Half `b` of one head's columns of a block, and one head's columns of the values' block. -/
def part (x : Vec Ideal S8x768x256 .f32) (h : Fin 8) (b : Fin 2) : Vec Ideal S1x768x128 .f32 :=
  fun i => x (ix3 h (i 1) ⟨128 * b.val + (i 2).val, by have := b.isLt; have : (i 2).val < 128 := (i 2).isLt; omega⟩)
def partV (x : Vec Ideal S8x768x128 .f32) (h : Fin 8) : Vec Ideal S1x768x128 .f32 := fun i => x (ix3 h (i 1) (i 2))

theorem ld_part (x : Vec Ideal S8x768x256 .f32) {o p : ℕ} (inb : ∀ a, ![o, 0, p] a + S1x768x128.size a ≤ S8x768x256.size a) {h : Fin 8} {b : Fin 2}
    (ho : h.val = o) (hp : 128 * b.val = p) : View.ld x (Rect.unit (s := S8x768x256) ![o, 0, p] S1x768x128.size inb) = part x h b := by
  funext i
  refine congrArg x ?_
  funext a
  apply Fin.ext
  have h0 : (i 0).val < 1 := (i 0).isLt
  match a with
  | ⟨0, _⟩ => show o + 1 * (i 0).val = h.val; omega
  | ⟨1, _⟩ => show 0 + 1 * (i 1).val = (i 1).val; omega
  | ⟨2, _⟩ => show p + 1 * (i 2).val = 128 * b.val + (i 2).val; omega

theorem ld_partV (x : Vec Ideal S8x768x128 .f32) {o : ℕ} (inb : ∀ a, ![o, 0, 0] a + S1x768x128.size a ≤ S8x768x128.size a) {h : Fin 8}
    (ho : h.val = o) : View.ld x (Rect.unit (s := S8x768x128) ![o, 0, 0] S1x768x128.size inb) = partV x h := by
  funext i
  refine congrArg x ?_
  funext a
  apply Fin.ext
  have h0 : (i 0).val < 1 := (i 0).isLt
  match a with
  | ⟨0, _⟩ => show o + 1 * (i 0).val = h.val; omega
  | ⟨1, _⟩ => show 0 + 1 * (i 1).val = (i 1).val; omega
  | ⟨2, _⟩ => show 0 + 1 * (i 2).val = (i 2).val; omega

/-- A column of a head's second half. -/
def hi (k : Fin 128) : Fin 256 := ⟨128 + k.val, by omega⟩
def lo (k : Fin 128) : Fin 256 := ⟨k.val, by omega⟩

/-- One row of the queries' gradient: the parts without position of all heads, then the rotary parts, two heads at a time. -/
def dqRow (q : Fin 8 → Fin 256 → EReal) (c s : Fin 128 → EReal) (j : Fin 1536) : EReal :=
  if h : j.val < 1024 then q ⟨j.val / 128, by omega⟩ (lo ⟨j.val % 128, by omega⟩)
  else turn (halves (fun k => q ⟨2 * ((j.val - 1024) / 128), by omega⟩ (hi k)) (fun k => q ⟨2 * ((j.val - 1024) / 128) + 1, by omega⟩ (hi k)))
    c s ⟨(j.val - 1024) % 128, by omega⟩

theorem dqRow_lo (q : Fin 8 → Fin 256 → EReal) (c s : Fin 128 → EReal) {j : Fin 1536} (h : Fin 8) (k : Fin 128) (hj : j.val = 128 * h.val + k.val) :
    dqRow q c s j = q h (lo k) := by
  have := h.isLt; have := k.isLt
  unfold dqRow
  rw [dif_pos (by omega)]
  exact congrArg₂ q (Fin.ext (by show j.val / 128 = h.val; omega)) (congrArg lo (Fin.ext (by show j.val % 128 = k.val; omega)))

theorem dqRow_hi (q : Fin 8 → Fin 256 → EReal) (c s : Fin 128 → EReal) {j : Fin 1536} {a b : Fin 8} (k : Fin 128) (p : ℕ)
    (hj : j.val = 1024 + 128 * p + k.val) (ha : a.val = 2 * p) (hb : b.val = 2 * p + 1) :
    dqRow q c s j = turn (halves (fun k => q a (hi k)) (fun k => q b (hi k))) c s k := by
  have := a.isLt; have := k.isLt
  unfold dqRow
  rw [dif_neg (by omega)]
  have e : (j.val - 1024) / 128 = p := by omega
  have e1 : (⟨2 * ((j.val - 1024) / 128), by omega⟩ : Fin 8) = a := Fin.ext (by show 2 * ((j.val - 1024) / 128) = a.val; omega)
  have e2 : (⟨2 * ((j.val - 1024) / 128) + 1, by omega⟩ : Fin 8) = b := Fin.ext (by show 2 * ((j.val - 1024) / 128) + 1 = b.val; omega)
  rw [e1, e2]
  exact congrArg _ (Fin.ext (by show (j.val - 1024) % 128 = k.val; omega))

/-- One row of the keys' and values' gradient: head by head, a key without position and a value. -/
def dkvRow (q : Fin 8 → Fin 256 → EReal) (v : Fin 8 → Fin 128 → EReal) (j : Fin 2048) : EReal :=
  if h : j.val % 256 < 128 then q ⟨j.val / 256, by omega⟩ (lo ⟨j.val % 256, h⟩) else v ⟨j.val / 256, by omega⟩ ⟨j.val % 256 - 128, by omega⟩

theorem dkvRow_lo (q : Fin 8 → Fin 256 → EReal) (v : Fin 8 → Fin 128 → EReal) {j : Fin 2048} (h : Fin 8) (k : Fin 128) (hj : j.val = 256 * h.val + k.val) :
    dkvRow q v j = q h (lo k) := by
  have := h.isLt; have := k.isLt
  unfold dkvRow
  rw [dif_pos (by omega)]
  exact congrArg₂ q (Fin.ext (by show j.val / 256 = h.val; omega)) (congrArg lo (Fin.ext (by show j.val % 256 = k.val; omega)))

theorem dkvRow_hi (q : Fin 8 → Fin 256 → EReal) (v : Fin 8 → Fin 128 → EReal) {j : Fin 2048} (h : Fin 8) (k : Fin 128)
    (hj : j.val = 256 * h.val + 128 + k.val) : dkvRow q v j = v h k := by
  have := h.isLt; have := k.isLt
  unfold dkvRow
  rw [dif_neg (by omega)]
  exact congrArg₂ v (Fin.ext (by show j.val / 256 = h.val; omega)) (Fin.ext (by show j.val % 256 - 128 = k.val; omega))

/-- One row of the rotary key's gradient: the heads' sum, its two halves added, turned back. -/
def dkrRow (q : Fin 8 → Fin 256 → EReal) (c s : Fin 128 → EReal) (j : Fin 128) : EReal :=
  turn (fold fun k => ∑ h, q h (hi k)) c s j

section Pieces

theorem piece_copy (x : Vec Ideal S8x768x256 .f32) {P : Vec Ideal S768x128 .bf16} {u : Vec Ideal S1x768x128 .f32} {h : Fin 8} {r : Fin 768}
    {i : S768x128.Idx} (hP : P = k0_pay35 (F := Ideal) u) (hu : u = part x h 0) (hr : r.val = (i 0).val) :
    P i = x (ix3 h r (lo (i 1))) := by
  idx_vars i
  obtain rfl : r = i0 := Fin.ext hr
  rw [hP, hu, pay_copy]
  exact congrArg (fun b => x (ix3 h r b)) (Fin.ext (by show 128 * 0 + i1.val = i1.val; omega))

theorem piece_copyV (x : Vec Ideal S8x768x128 .f32) {P : Vec Ideal S768x128 .bf16} {u : Vec Ideal S1x768x128 .f32} {h : Fin 8} {r : Fin 768}
    {i : S768x128.Idx} (hP : P = k0_pay35 (F := Ideal) u) (hu : u = partV x h) (hr : r.val = (i 0).val) :
    P i = x (ix3 h r (i 1)) := by
  idx_vars i
  obtain rfl : r = i0 := Fin.ext hr
  rw [hP, hu, pay_copy]
  rfl

theorem piece_turn (x : Vec Ideal S8x768x256 .f32) (c s : Vec Ideal S768x128 .f32) {P : Vec Ideal S768x128 .bf16}
    {u v : Vec Ideal S1x768x128 .f32} {c' s' : Vec Ideal S768x128 .f32} {a b : Fin 8} {r : Fin 768}
    {i : S768x128.Idx} (hP : P = k0_pay3 (F := Ideal) u v c' s') (hu : u = part x a 1) (hv : v = part x b 1) (hc : c' = c) (hs : s' = s) (hr : r.val = (i 0).val) :
    P i = turn (halves (fun k => x (ix3 a r (hi k))) (fun k => x (ix3 b r (hi k)))) (fun k => c (ix2 r k)) (fun k => s (ix2 r k)) (i 1) := by
  idx_vars i
  obtain rfl : r = i0 := Fin.ext hr
  rw [hP, hu, hv, hc, hs, pay_turn2]
  rfl

theorem ld_whole (x : Vec Ideal S768x128 .f32) : View.ld x r0_2 = x := by
  funext i
  refine congrArg x ?_
  funext a
  apply Fin.ext
  match a with
  | ⟨0, _⟩ => show 0 + 1 * (i 0).val = (i 0).val; omega
  | ⟨1, _⟩ => show 0 + 1 * (i 1).val = (i 1).val; omega

end Pieces

section Out

variable (x0 x1 : Vec Ideal S8x768x256 .f32) (x2 : Vec Ideal S8x768x128 .f32) (x3 x4 : Vec Ideal S768x128 .f32)

theorem out5_at (r : Fin 768) (j : Fin 1536) : out0_5 (F := Ideal) x0 x1 x2 x3 x4 (ix2 r j)
    = dqRow (fun h k => x0 (ix3 h r k)) (fun k => x3 (ix2 r k)) (fun k => x4 (ix2 r k)) j := by
  unfold out0_5
  canon_tiles i hi using cover0_5 _ _ _ _ _ _ _ _ _ _ _ _ _
  case piece8 | piece9 | piece10 | piece11 =>
    have hj : j.val = _ := hi1
    have ha : 2 * ((j.val - 1024) / 128) < 8 := by omega
    refine (piece_turn x0 x3 x4 (r := r) (a := ⟨2 * ((j.val - 1024) / 128), by omega⟩) (b := ⟨2 * ((j.val - 1024) / 128) + 1, by omega⟩)
      rfl (ld_part x0 _ ?_ rfl) (ld_part x0 _ ?_ rfl) (ld_whole x3) (ld_whole x4) hi0).trans
      (dqRow_hi (fun h k => x0 (ix3 h r k)) (fun k => x3 (ix2 r k)) (fun k => x4 (ix2 r k)) (i 1) ((j.val - 1024) / 128) ?_ rfl rfl).symm
    · show 2 * ((j.val - 1024) / 128) = _; omega
    · show 2 * ((j.val - 1024) / 128) + 1 = _; omega
    · omega
  all_goals
    have hj : j.val = _ := hi1
    refine (piece_copy x0 (r := r) (h := ⟨j.val / 128, by omega⟩) rfl (ld_part x0 _ ?_ rfl) hi0).trans (dqRow_lo (fun h k => x0 (ix3 h r k)) _ _ ⟨j.val / 128, by omega⟩ (i 1) ?_).symm
    · show j.val / 128 = _; omega
    · show j.val = 128 * (j.val / 128) + (i 1).val; omega

theorem out6_at (r : Fin 768) (j : Fin 2048) : out0_6 (F := Ideal) x0 x1 x2 x3 x4 (ix2 r j)
    = dkvRow (fun h k => x1 (ix3 h r k)) (fun h k => x2 (ix3 h r k)) j := by
  unfold out0_6
  canon_tiles i hi using cover0_6 _ _ _ _ _ _ _ _ _ _ _ _ _ _ _ _ _
  case piece0 | piece2 | piece4 | piece6 | piece8 | piece10 | piece12 | piece14 =>
    have hj : j.val = _ := hi1
    refine (piece_copyV x2 (r := r) (h := ⟨j.val / 256, by omega⟩) rfl (ld_partV x2 _ ?_) hi0).trans (dkvRow_hi (fun h k => x1 (ix3 h r k)) (fun h k => x2 (ix3 h r k)) ⟨j.val / 256, by omega⟩ (i 1) ?_).symm
    · show j.val / 256 = _; omega
    · show j.val = 256 * (j.val / 256) + 128 + (i 1).val; omega
  all_goals
    have hj : j.val = _ := hi1
    refine (piece_copy x1 (r := r) (h := ⟨j.val / 256, by omega⟩) rfl (ld_part x1 _ ?_ rfl) hi0).trans (dkvRow_lo (fun h k => x1 (ix3 h r k)) (fun h k => x2 (ix3 h r k)) ⟨j.val / 256, by omega⟩ (i 1) ?_).symm
    · show j.val / 256 = _; omega
    · show j.val = 256 * (j.val / 256) + (i 1).val; omega

theorem sum_at {u0 u1 u2 u3 u4 u5 u6 u7 : Vec Ideal S1x768x128 .f32} {c s : Vec Ideal S768x128 .f32} (h0 : u0 = part x1 0 1) (h1 : u1 = part x1 1 1)
    (h2 : u2 = part x1 2 1) (h3 : u3 = part x1 3 1) (h4 : u4 = part x1 4 1) (h5 : u5 = part x1 5 1) (h6 : u6 = part x1 6 1) (h7 : u7 = part x1 7 1)
    (hc : c = x3) (hs : s = x4) (r : Fin 768) (j : Fin 128) :
    k0_pay1 (F := Ideal) (k0_pay38 (F := Ideal) k0_pay2 (k0_pay30 (k0_pay26 (k0_pay19 (k0_pay11 (k0_pay7 (F := Ideal)) u0) u1 u2) u3 u4) u5) u6 u7)
      (k0_pay39 c) s (ix2 r j) = dkrRow (fun h k => x1 (ix3 h r k)) (fun k => x3 (ix2 r k)) (fun k => x4 (ix2 r k)) j := by
  subst h0 h1 h2 h3 h4 h5 h6 h7 hc hs
  rw [pay_turn1]
  unfold dkrRow
  refine congrArg (fun d => turn d _ _ j) (funext fun k => ?_)
  rw [pay_fold]
  refine congrArg (fun d => fold d k) (funext fun k => ?_)
  unfold k0_pay30 k0_pay26 k0_pay19 k0_pay11 k0_pay7
  pointwise
  rw [Fin.sum_univ_eight]
  rfl

theorem out7_at (r : Fin 768) (j : Fin 128) : out0_7 (F := Ideal) x0 x1 x2 x3 x4 (ix2 r j)
    = dkrRow (fun h k => x1 (ix3 h r k)) (fun k => x3 (ix2 r k)) (fun k => x4 (ix2 r k)) j := by
  unfold out0_7
  canon_tiles i hi using cover0_7 _ _
  have e : i = ix2 r j := funext fun a => Fin.ext (match a with | ⟨0, _⟩ => hi0.symm | ⟨1, _⟩ => hi1.symm)
  rw [e]
  exact sum_at x1 x3 x4 (ld_part x1 _ rfl rfl) (ld_part x1 _ rfl rfl) (ld_part x1 _ rfl rfl) (ld_part x1 _ rfl rfl) (ld_part x1 _ rfl rfl)
    (ld_part x1 _ rfl rfl) (ld_part x1 _ rfl rfl) (ld_part x1 _ rfl rfl) (ld_whole x3) (ld_whole x4) r j

end Out

variable (m : (ℓ : Loc nD τ sig) → Buf (Elt Ideal) ℓ) (c : Dev nD)

theorem idx : ∀ t : Fin cfg0.N, win0_0.index t = ![0, t.val, 0] ∧ win0_1.index t = ![0, t.val, 0] ∧ win0_2.index t = ![0, t.val, 0]
    ∧ win0_3.index t = ![t.val, 0] ∧ win0_4.index t = ![t.val, 0] ∧ win0_5.index t = ![t.val, 0] ∧ win0_6.index t = ![t.val, 0]
    ∧ win0_7.index t = ![t.val, 0] :=
  (by decide +kernel : ∀ t : Fin grid0.N, _)

theorem lt_N (t : Fin cfg0.N) : t.val < 22 := lt_of_lt_of_eq t.isLt N_0

/-- The arrays that the region reads: the packed gradients of queries and keys, the values' gradient, the tables. -/
def qArr : Vec Ideal S8x16896x256 .f32 := V m c main_v11
def kArr : Vec Ideal S8x16896x256 .f32 := V m c main_v16
def vArr : Vec Ideal S8x16896x128 .f32 := V m c main_v42
def cosArr : Vec Ideal S16896x128 .f32 := V m c main_v37
def sinArr : Vec Ideal S16896x128 .f32 := V m c main_v40

/-- Row `r` of block `t`. -/
def row (t : ℕ) (ht : t < 22) (r : Fin 768) : Fin 16896 := ⟨768 * t + r.val, by have := r.isLt; omega⟩

theorem row_val (t : ℕ) (ht : t < 22) (r : Fin 768) : (row t ht r).val = 768 * t + r.val := rfl

abbrev bq (t : Fin cfg0.N) : Vec Ideal S8x768x256 .f32 := iblk m c 0 t
abbrev bk (t : Fin cfg0.N) : Vec Ideal S8x768x256 .f32 := iblk m c 1 t
abbrev bv (t : Fin cfg0.N) : Vec Ideal S8x768x128 .f32 := iblk m c 2 t
abbrev bcos (t : Fin cfg0.N) : Vec Ideal S768x128 .f32 := iblk m c 3 t
abbrev bsin (t : Fin cfg0.N) : Vec Ideal S768x128 .f32 := iblk m c 4 t

theorem bq_at (t : Fin cfg0.N) (r : Fin 768) : (fun h k => bq m c t (ix3 h r k)) = fun h k => qArr m c (ix3 h (row t.val (lt_N t) r) k) := by
  funext h k; unfold bq qArr; blk_ext [iblk, idx t, row_val]
theorem bk_at (t : Fin cfg0.N) (r : Fin 768) : (fun h k => bk m c t (ix3 h r k)) = fun h k => kArr m c (ix3 h (row t.val (lt_N t) r) k) := by
  funext h k; unfold bk kArr; blk_ext [iblk, idx t, row_val]
theorem bv_at (t : Fin cfg0.N) (r : Fin 768) : (fun h k => bv m c t (ix3 h r k)) = fun h k => vArr m c (ix3 h (row t.val (lt_N t) r) k) := by
  funext h k; unfold bv vArr; blk_ext [iblk, idx t, row_val]
theorem bcos_at (t : Fin cfg0.N) (r : Fin 768) : (fun k => bcos m c t (ix2 r k)) = fun k => cosArr m c (ix2 (row t.val (lt_N t) r) k) := by
  funext k; unfold bcos cosArr; blk_ext [iblk, idx t, row_val]
theorem bsin_at (t : Fin cfg0.N) (r : Fin 768) : (fun k => bsin m c t (ix2 r k)) = fun k => sinArr m c (ix2 (row t.val (lt_N t) r) k) := by
  funext k; unfold bsin sinArr; blk_ext [iblk, idx t, row_val]

/-- The three results. -/
def dq : Vec Ideal S16896x1536 .bf16 := fun i =>
  dqRow (fun h k => qArr m c (ix3 h (i 0) k)) (fun k => cosArr m c (ix2 (i 0) k)) (fun k => sinArr m c (ix2 (i 0) k)) (i 1)
def dkv : Vec Ideal S16896x2048 .bf16 := fun i =>
  dkvRow (fun h k => kArr m c (ix3 h (i 0) k)) (fun h k => vArr m c (ix3 h (i 0) k)) (i 1)
def dkr : Vec Ideal S16896x128 .f32 := fun i =>
  dkrRow (fun h k => kArr m c (ix3 h (i 0) k)) (fun k => cosArr m c (ix2 (i 0) k)) (fun k => sinArr m c (ix2 (i 0) k)) (i 1)

theorem final_dq : (dats m 0 c).arrAt 5 cfg0.N = dq m c := by
  refine (dats m 0 c).arrAt_eq_of_covers 5 _ (by decide +kernel) fun t _ y => ?_
  blk_simp
  rw [after0_5]
  idx_vars y
  refine (out5_at _ _ _ _ _ y0 y1).trans ?_
  refine Eq.trans ?_ (show dq m c (ix2 (row t.val (lt_N t) y0) y1) = _ from ?_)
  · exact (congrArg (fun q => dqRow q _ _ y1) (bq_at m c t y0)).trans
      (congrArg₂ (fun a b => dqRow _ a b y1) (bcos_at m c t y0) (bsin_at m c t y0))
  · blk_ext [idx t, row_val]

theorem final_dkv : (dats m 0 c).arrAt 6 cfg0.N = dkv m c := by
  refine (dats m 0 c).arrAt_eq_of_covers 6 _ (by decide +kernel) fun t _ y => ?_
  blk_simp
  rw [after0_6]
  idx_vars y
  refine (out6_at _ _ _ _ _ y0 y1).trans ?_
  refine Eq.trans ?_ (show dkv m c (ix2 (row t.val (lt_N t) y0) y1) = _ from ?_)
  · exact congrArg₂ (fun a b => dkvRow a b y1) (bk_at m c t y0) (bv_at m c t y0)
  · blk_ext [idx t, row_val]

theorem final_dkr : (dats m 0 c).arrAt 7 cfg0.N = dkr m c := by
  refine (dats m 0 c).arrAt_eq_of_covers 7 _ (by decide +kernel) fun t _ y => ?_
  blk_simp
  rw [after0_7]
  idx_vars y
  refine (out7_at _ _ _ _ _ y0 y1).trans ?_
  refine Eq.trans ?_ (show dkr m c (ix2 (row t.val (lt_N t) y0) y1) = _ from ?_)
  · exact (congrArg (fun q => dkrRow q _ _ y1) (bk_at m c t y0)).trans
      (congrArg₂ (fun a b => dkrRow _ a b y1) (bcos_at m c t y0) (bsin_at m c t y0))
  · blk_ext [idx t, row_val]

end Cert.UnpackIdeal.KernelValue

end
-- ==== Proof.UnpackRef.lean ====
/-
  What the reference of the heads' gradient computes, read at an index: the rotary parts turned back by its own tables, the
  parts without position where the packed columns put them, and zeros in the padding's rows.
-/
module

public import proofs.«01_k».proof.Proof.NormMath
public import proofs.«01_k».proof.Proof.Gen.UnpackRefIdeal.Read

@[expose] public section

set_option maxRecDepth 16384

noncomputable section

open Idealize.ShloMosaic Idealize.ShloMosaic.TcCoe

namespace Cert.UnpackRefIdeal.RefValue

open Cert.UnpackRefIdeal Cert.UnpackRefIdeal.Gen Cert.UnpackRefIdeal.Read

variable (qn : Vec Ideal S16400x8x128 .f32) (qr : Vec Ideal S16400x8x64 .f32) (kn : Vec Ideal S16400x8x128 .f32) (kr : Vec Ideal S16400x8x64 .f32)
  (dv : Vec Ideal S16400x8x128 .f32)

/-- The angle by which row `R` turns pair `e`. -/
def angle (R e : ℕ) : EReal :=
  FloatOps.sitofp (F := Ideal) FTy.f32 (BitVec.ofNat 32 R) * Ideal.pow (Ideal.ofBits .f32 0x461C4000#32)
    (Ideal.div (-(Ideal.ofBits .f32 0x40000000#32 * FloatOps.sitofp (F := Ideal) FTy.f32 (BitVec.ofNat 32 e))) (Ideal.ofBits .f32 0x42800000#32))

/-- A head's 64 rotary columns turned back. -/
def back (d : Fin 64 → EReal) (R : ℕ) (k : Fin 64) : EReal :=
  if h : k.val < 32 then d ⟨32 + k.val, by omega⟩ * Ideal.sin (angle R k.val) + d k * Ideal.cos (angle R k.val)
  else d k * Ideal.cos (angle R (k.val - 32)) + -d ⟨k.val - 32, by omega⟩ * Ideal.sin (angle R (k.val - 32))

theorem cos_at (R : Fin 16400) (e : Fin 32) : val_main_v19 (F := Ideal) (ix2 R e) = Ideal.cos (angle R.val e.val) := by
  unfold val_main_v19 val_main_v18 val_main_v17 val_main_v16 val_main_v15 val_main_v14 val_main_v13 val_main_v12 val_main_v11 val_main_v10
    val_main_v9 val_main_v8 val_main_v7 val_main_v6 val_main_v5 val_main_v4 val_main_v3 val_main_cst_2 val_main_cst_3 val_main_cst_4 val_main_cst_5
    angle
  pointwise

theorem sin_at (R : Fin 16400) (e : Fin 32) : val_main_v20 (F := Ideal) (ix2 R e) = Ideal.sin (angle R.val e.val) := by
  unfold val_main_v20 val_main_v18 val_main_v17 val_main_v16 val_main_v15 val_main_v14 val_main_v13 val_main_v12 val_main_v11 val_main_v10
    val_main_v9 val_main_v8 val_main_v7 val_main_v6 val_main_v5 val_main_v4 val_main_v3 val_main_cst_2 val_main_cst_3 val_main_cst_4 val_main_cst_5
    angle
  pointwise

theorem v55_at (R : Fin 16400) (k : Fin 64) : val_main_v55 (F := Ideal) kr (ix2 R k) = ∑ h, kr (ix3 R h k) := by
  unfold val_main_v55 val_main_v54 val_main_v53 val_main_cst_6 val_main_cst_7
  pointwise
  simp only [Finset.univ_unique, Finset.sum_singleton]

theorem v65_at (R : Fin 16400) (k : Fin 64) : val_main_v65 (F := Ideal) kr (ix2 R k) = back (fun k => ∑ h, kr (ix3 R h k)) R.val k := by
  unfold val_main_v65 val_main_v64 val_main_v63 val_main_v62 val_main_v61 val_main_v60 val_main_v59 val_main_v58 val_main_v57 val_main_v56 back
  pointwise
  simp only [v55_at, cos_at, sin_at]
  refine dite_congr rfl (fun h => rfl) fun h => ?_
  rw [show (⟨32 + (k.val - 32), by omega⟩ : Fin 64) = k from Fin.ext (by show 32 + (k.val - 32) = k.val; omega)]

theorem v79_at (R : Fin 16400) (h : Fin 8) (k : Fin 64) : val_main_v79 (F := Ideal) qr (ix3 R h k) = back (fun k => qr (ix3 R h k)) R.val k := by
  unfold val_main_v79 val_main_v78 val_main_v77 val_main_v76 val_main_v75 val_main_v74 val_main_v73 val_main_v72 val_main_v71 val_main_v70
    val_main_v69 val_main_v68 val_main_v67 val_main_v66 val_main_v27 val_main_v28 back
  pointwise
  simp only [cos_at, sin_at]
  refine dite_congr rfl (fun h => rfl) fun h => ?_
  rw [show (⟨32 + (k.val - 32), by omega⟩ : Fin 64) = k from Fin.ext (by show 32 + (k.val - 32) = k.val; omega)]

theorem v98_at (R : Fin 16896) (j : Fin 1536) : val_main_v98 (F := Ideal) qn qr (ix2 R j) =
    if h : R.val < 16400 then
      if j.val < 1024 then qn (ix3 ⟨R.val, h⟩ ⟨j.val / 128 % 8, by omega⟩ ⟨j.val % 128, by omega⟩)
      else back (fun k => qr (ix3 ⟨R.val, h⟩ ⟨(j.val - 1024) / 64 % 8, by omega⟩ k)) R.val ⟨(j.val - 1024) % 64, by omega⟩
    else 0 := by
  have hj := j.isLt
  unfold val_main_v98 val_main_v97 val_main_v96 val_main_v93 val_main_v92 val_main_v91 val_main_v90 val_main_v89 val_main_v88 val_main_v87
    val_main_v86 val_main_v85 val_main_v84 val_main_cst_10 val_main_cst_11 val_main_cst_13
  pointwise
  refine dite_congr rfl (fun h => ?_) fun h => rfl
  by_cases h1 : j.val < 1024
  · refine ((dif_pos h1).trans (Eq.trans (congrArg₂ (· + ·) (dif_neg fun q => absurd q.2.2.1 (by omega)) (dif_pos ⟨h, by omega, by omega⟩))
      (zero_add _))).trans (Eq.trans ?_ (if_pos h1).symm)
    exact congrArg (fun a => qn (ix3 _ a _)) (Fin.ext (by show j.val / 128 = j.val / 128 % 8; omega))
  · refine ((dif_neg h1).trans (Eq.trans (congrArg₂ (· + ·) (dif_pos ⟨h, by omega, by omega⟩) (dif_neg fun q => q.2.2))
      (add_zero _))).trans (Eq.trans ?_ (if_neg h1).symm)
    rw [v79_at]
    exact congrArg (fun a => back (fun k => qr (ix3 _ a k)) _ _) (Fin.ext (by show (j.val - 1024) / 64 = (j.val - 1024) / 64 % 8; omega))

theorem v101_at (R : Fin 16896) (j : Fin 2048) : val_main_v101 (F := Ideal) kn dv (ix2 R j) =
    if h : R.val < 16400 then
      if h1 : j.val % 256 < 128 then kn (ix3 ⟨R.val, h⟩ ⟨j.val / 256, by omega⟩ ⟨j.val % 256, h1⟩)
      else dv (ix3 ⟨R.val, h⟩ ⟨j.val / 256, by omega⟩ ⟨j.val % 256 - 128, by omega⟩)
    else 0 := by
  have hj := j.isLt
  unfold val_main_v101 val_main_v100 val_main_v99 val_main_v83 val_main_v82 val_main_v81 val_main_v80 val_main_cst_8 val_main_cst_9 val_main_cst_14
  pointwise
  refine dite_congr rfl (fun h => ?_) fun h => rfl
  by_cases h1 : j.val % 256 < 128
  · exact ((congrArg₂ (· + ·) (dif_neg fun q => absurd q.2.2.1 (by omega)) (dif_pos ⟨h, by omega, h1⟩)).trans
      (zero_add _)).trans (dif_pos h1).symm
  · exact ((congrArg₂ (· + ·) (dif_pos ⟨h, by omega, by omega, by omega⟩) (dif_neg fun q => h1 q.2.2)).trans
      (add_zero _)).trans (dif_neg h1).symm

theorem v103_at (R : Fin 16896) (j : Fin 128) : val_main_v103 (F := Ideal) kr (ix2 R j) =
    if h : R.val < 16400 then if h1 : j.val < 64 then back (fun k => ∑ h', kr (ix3 ⟨R.val, h⟩ h' k)) R.val ⟨j.val, h1⟩ else 0 else 0 := by
  unfold val_main_v103 val_main_v102 val_main_v95 val_main_v94 val_main_cst_12 val_main_cst_15
  pointwise
  simp only [v65_at]

end Cert.UnpackRefIdeal.RefValue

end
-- ==== Proof.UnpackClaim.lean ====
/-
  The claims about the heads' gradient: the kernel's packed queries, keys and values and shared rotary key are the reference's.
  Nothing is asked of the arguments.
-/
module

public import proofs.«01_k».proof.Defs
public import proofs.«01_k».proof.Proof.UnpackKernel
public import proofs.«01_k».proof.Proof.UnpackRef
public import proofs.«01_k».proof.Proof.Gen.UnpackRefIdeal.Run
public import Idealize.ShloMosaic.Lib.StableHlo.RunRead

@[expose] public section

set_option maxRecDepth 16384

noncomputable section

open Idealize.ShloMosaic Idealize.ShloMosaic.TcCoe Idealize.SL.Sem

namespace Cert.UnpackEq

open Cert.UnpackIdeal Cert.UnpackIdeal.Gen Cert.UnpackIdeal.KernelValue
open Cert.UnpackRefIdeal.RefValue (angle back v98_at v101_at v103_at)
open Cert.UnpackRefIdeal.Read (val_main_v98 val_main_v101 val_main_v103)

variable (m : (ℓ : Loc nD τ sig) → Buf (Elt Ideal) ℓ) (c : Dev nD)

/-- The arguments, as arrays. -/
abbrev qnA : Vec Ideal S16400x8x128 .f32 := m ((c : Thread nD τ).loc main_arg0)
abbrev qrA : Vec Ideal S16400x8x64 .f32 := m ((c : Thread nD τ).loc main_arg1)
abbrev knA : Vec Ideal S16400x8x128 .f32 := m ((c : Thread nD τ).loc main_arg2)
abbrev krA : Vec Ideal S16400x8x64 .f32 := m ((c : Thread nD τ).loc main_arg3)
abbrev dvA : Vec Ideal S16400x8x128 .f32 := m ((c : Thread nD τ).loc main_arg4)

/-- Heads first, and rows of zeros at the end. -/
def heads64 (a : Vec Ideal S16400x8x64 .f32) : Vec Ideal S8x16896x64 .f32 :=
  pad S8x16896x64 ![0, 0, 0] ![0, 496, 0] ![0, 0, 0] (transpose S8x16400x64 [1, 0, 2] a transposes_S16400x8x64_S8x16400x64_1_0_2)
    (sitofp (F := Ideal) (s := S_) .f32 (constantI S_ 32 0#32)) pads_S8x16400x64_S8x16896x64_000_04960_000 h_S_
def heads128 (a : Vec Ideal S16400x8x128 .f32) : Vec Ideal S8x16896x128 .f32 :=
  pad S8x16896x128 ![0, 0, 0] ![0, 496, 0] ![0, 0, 0] (transpose S8x16400x128 [1, 0, 2] a transposes_S16400x8x128_S8x16400x128_1_0_2)
    (sitofp (F := Ideal) (s := S_) .f32 (constantI S_ 32 0#32)) pads_S8x16400x128_S8x16896x128_000_04960_000 h_S_

theorem sitofp_zero : FloatOps.sitofp (F := Ideal) FTy.f32 (0#32) = (0 : EReal) := by
  show (((0#32 : BitVec 32).toInt : ℝ) : EReal) = 0
  simp

theorem heads64_at (a : Vec Ideal S16400x8x64 .f32) (h : Fin 8) (R : Fin 16896) (k : Fin 64) :
    heads64 a (ix3 h R k) = if hR : R.val < 16400 then a (ix3 ⟨R.val, hR⟩ h k) else 0 := by
  unfold heads64
  pointwise
  exact dite_congr rfl (fun _ => rfl) fun _ => sitofp_zero
theorem heads128_at (a : Vec Ideal S16400x8x128 .f32) (h : Fin 8) (R : Fin 16896) (k : Fin 128) :
    heads128 a (ix3 h R k) = if hR : R.val < 16400 then a (ix3 ⟨R.val, hR⟩ h k) else 0 := by
  unfold heads128
  pointwise
  exact dite_congr rfl (fun _ => rfl) fun _ => sitofp_zero

/-- Which heads lie in the first half of a pair. -/
def first : Vec Ideal S8x1x1 .i1 := V m c main_v4

theorem first_at (h : Fin 8) : first m c (ix3 h 0 0) = if h.val % 2 = 0 then 1#1 else 0#1 := by
  unfold first V
  after_reads_simp
  simp only [StableHlo.TRef.ofBuf, StableHlo.TRef.toBuf, cast_eq, id_eq]
  pointwise
  revert h
  decide +kernel

theorem qArr_eq : qArr m c = concatenate S8x16896x256 2 [⟨S8x16896x128, heads128 (qnA m c)⟩, ⟨S8x16896x64, heads64 (qrA m c)⟩,
    ⟨S8x16896x64, heads64 (qrA m c)⟩] concatenates_S8x16896x128_S8x16896x64_S8x16896x64_S8x16896x256_d2 := by
  unfold qArr V
  after_reads_simp
  rfl

theorem cat_congr {x x' : Vec Ideal S8x16896x128 .f32} {y y' z z' : Vec Ideal S8x16896x64 .f32} (hx : x = x') (hy : y = y') (hz : z = z') :
    concatenate S8x16896x256 2 [⟨S8x16896x128, x⟩, ⟨S8x16896x64, y⟩, ⟨S8x16896x64, z⟩]
        concatenates_S8x16896x128_S8x16896x64_S8x16896x64_S8x16896x256_d2
      = concatenate S8x16896x256 2 [⟨S8x16896x128, x'⟩, ⟨S8x16896x64, y'⟩, ⟨S8x16896x64, z'⟩]
        concatenates_S8x16896x128_S8x16896x64_S8x16896x64_S8x16896x256_d2 := by
  rw [hx, hy, hz]

theorem kArr_eq : kArr m c = concatenate S8x16896x256 2 [⟨S8x16896x128, heads128 (knA m c)⟩,
    ⟨S8x16896x64, select (broadcastInDim S8x16896x64 ![0, 1, 2] bcast_S8x1x1_S8x16896x64_0_1_2 (first m c)) (heads64 (krA m c))
      (broadcastInDim S8x16896x64 ![] bcast_S_S8x16896x64 (constant (F := Ideal) S_ .f32 0x00000000#32))⟩,
    ⟨S8x16896x64, select (broadcastInDim S8x16896x64 ![0, 1, 2] bcast_S8x1x1_S8x16896x64_0_1_2 (first m c))
      (broadcastInDim S8x16896x64 ![] bcast_S_S8x16896x64 (constant (F := Ideal) S_ .f32 0x00000000#32)) (heads64 (krA m c))⟩]
    concatenates_S8x16896x128_S8x16896x64_S8x16896x64_S8x16896x256_d2 := by
  unfold kArr first V
  after_reads_simp
  dsimp only [Matrix.cons_val]
  refine cat_congr ?_ ?_ ?_
  all_goals
    after_reads_simp
    simp only [StableHlo.TRef.ofBuf, StableHlo.TRef.toBuf, cast_eq, id_eq]
    rfl

theorem vArr_eq : vArr m c = heads128 (dvA m c) := by
  unfold vArr V heads128
  after_reads_simp
  simp only [StableHlo.TRef.ofBuf, StableHlo.TRef.toBuf, cast_eq]

theorem cos_at (R : Fin 16896) (k : Fin 128) : cosArr m c (ix2 R k) = Ideal.cos (angle R.val (k.val % 32)) := by
  unfold cosArr V angle
  after_reads_simp
  pointwise

/-- The table of sines. -/
def sins : Vec Ideal S16896x32 .f32 := V m c main_v34

theorem sins_at (R : Fin 16896) (k : Fin 32) : sins m c (ix2 R k) = Ideal.sin (angle R.val k.val) := by
  unfold sins V angle
  after_reads_simp
  pointwise

theorem sinArr_eq : sinArr m c = concatenate S16896x128 1 [⟨S16896x32, negf (F := Ideal) (s := S16896x32) (φ := .f32) (sins m c)⟩, ⟨S16896x32, sins m c⟩, ⟨S16896x32, negf (F := Ideal) (s := S16896x32) (φ := .f32) (sins m c)⟩,
    ⟨S16896x32, sins m c⟩] concatenates_S16896x32_S16896x32_S16896x32_S16896x32_S16896x128_d1 := by
  unfold sinArr sins V
  after_reads_simp
  rfl

theorem sin_at (R : Fin 16896) (k : Fin 128) : sinArr m c (ix2 R k) = if k.val % 64 < 32 then -Ideal.sin (angle R.val (k.val % 32))
    else Ideal.sin (angle R.val (k.val % 32)) := by
  have hk := k.isLt
  rw [sinArr_eq]
  pointwise
  simp only [sins_at]
  by_cases h1 : k.val < 32
  · rw [dif_pos h1, if_pos (by omega), show k.val % 32 = k.val by omega]
  · rw [dif_neg h1]
    by_cases h2 : k.val - 32 < 32
    · rw [dif_pos h2, if_neg (by omega), show k.val % 32 = k.val - 32 by omega]
    · rw [dif_neg h2]
      by_cases h3 : k.val - 32 - 32 < 32
      · rw [dif_pos h3, if_pos (by omega), show k.val % 32 = k.val - 32 - 32 by omega]
      · rw [dif_neg h3, if_neg (by omega), show k.val % 32 = k.val - 32 - 32 - 32 by omega]

theorem q_lo (h : Fin 8) (R : Fin 16896) (k : Fin 128) : qArr m c (ix3 h R (lo k)) = if hR : R.val < 16400 then qnA m c (ix3 ⟨R.val, hR⟩ h k) else 0 := by
  rw [qArr_eq]
  unfold lo
  pointwise
  rw [heads128_at]

theorem q_hi (h : Fin 8) (R : Fin 16896) (k : Fin 128) :
    qArr m c (ix3 h R (hi k)) = if hR : R.val < 16400 then qrA m c (ix3 ⟨R.val, hR⟩ h ⟨k.val % 64, by omega⟩) else 0 := by
  have hk := k.isLt
  rw [qArr_eq]
  unfold hi
  pointwise
  simp only [heads64_at]
  split
  · rename_i h
    exact dite_congr rfl (fun hR => congrArg (fun k => qrA m c (ix3 ⟨R.val, hR⟩ _ k)) (Fin.ext (by show k.val = k.val % 64; omega))) fun _ => rfl
  · rename_i h
    exact dite_congr rfl (fun hR => congrArg (fun k => qrA m c (ix3 ⟨R.val, hR⟩ _ k)) (Fin.ext (by show k.val - 64 = k.val % 64; omega))) fun _ => rfl

theorem k_lo (h : Fin 8) (R : Fin 16896) (k : Fin 128) : kArr m c (ix3 h R (lo k)) = if hR : R.val < 16400 then knA m c (ix3 ⟨R.val, hR⟩ h k) else 0 := by
  rw [kArr_eq]
  unfold lo
  pointwise
  rw [heads128_at]

theorem k_hi (h : Fin 8) (R : Fin 16896) (k : Fin 128) :
    kArr m c (ix3 h R (hi k)) = if (k.val < 64 ↔ h.val % 2 = 0) then
      if hR : R.val < 16400 then krA m c (ix3 ⟨R.val, hR⟩ h ⟨k.val % 64, by omega⟩) else 0 else 0 := by
  have hk := k.isLt
  rw [kArr_eq]
  unfold hi
  pointwise
  simp only [heads64_at, first_at, select_ite]
  have e : ∀ j : Fin 64, j.val = k.val % 64 → (if hR : R.val < 16400 then krA m c (ix3 ⟨R.val, hR⟩ h j) else 0)
      = if hR : R.val < 16400 then krA m c (ix3 ⟨R.val, hR⟩ h ⟨k.val % 64, by omega⟩) else 0 := fun j hj => by
    rw [show j = ⟨k.val % 64, by omega⟩ from Fin.ext hj]
  split <;> rename_i h1
  · rw [e _ (by show k.val = _; omega)]
    by_cases h2 : h.val % 2 = 0
    · exact (if_pos h2).trans (if_pos (by tauto)).symm
    · exact (if_neg h2).trans (if_neg (by tauto)).symm
  · rw [e _ (by show k.val - 64 = _; omega)]
    by_cases h2 : h.val % 2 = 0
    · exact (if_pos h2).trans (if_neg (by tauto)).symm
    · exact (if_neg h2).trans (if_pos (by tauto)).symm

theorem v_at (h : Fin 8) (R : Fin 16896) (k : Fin 128) : vArr m c (ix3 h R k) = if hR : R.val < 16400 then dvA m c (ix3 ⟨R.val, hR⟩ h k) else 0 := by
  rw [vArr_eq, heads128_at]

/-- Turning a row of 128 lanes, each half by the same angles, turns each half. -/
theorem turn_back (d : Fin 64 → EReal) (R : ℕ) (k : Fin 128) :
    turn (fun k => d ⟨k.val % 64, by omega⟩) (fun k => Ideal.cos (angle R (k.val % 32)))
      (fun k => if k.val % 64 < 32 then -Ideal.sin (angle R (k.val % 32)) else Ideal.sin (angle R (k.val % 32))) k
      = back d R ⟨k.val % 64, by omega⟩ := by
  have hk := k.isLt
  unfold turn back mate
  by_cases h : k.val % 64 < 32
  · rw [dif_pos h, dif_pos h, add_comm]
    dsimp only
    rw [if_neg (by omega), show (k.val + 32) % 32 = k.val % 64 by omega, show k.val % 32 = k.val % 64 by omega]
    exact congrArg (fun a => d a * _ + _) (Fin.ext (by show (k.val + 32) % 64 = 32 + k.val % 64; omega))
  · rw [dif_neg h, dif_neg h]
    dsimp only
    rw [if_pos (by omega), show (k.val - 32) % 32 = k.val % 64 - 32 by omega, show k.val % 32 = k.val % 64 - 32 by omega, mul_neg,
      EReal.neg_mul]
    exact congrArg (fun a => _ + -(d a * _)) (Fin.ext (by show (k.val - 32) % 64 = k.val % 64 - 32; omega))

theorem turn_congr {d d' c s : Fin 128 → EReal} {k : Fin 128} (h : d k = d' k) (h' : d (mate k) = d' (mate k)) : turn d c s k = turn d' c s k := by
  unfold turn
  rw [h, h']

theorem mate_half (k : Fin 128) : ((mate k).val < 64) = (k.val < 64) := by
  have hk := k.isLt
  unfold mate
  split
  · show (k.val + 32 < 64) = _
    simp only [eq_iff_iff]; omega
  · show (k.val - 32 < 64) = _
    simp only [eq_iff_iff]; omega

theorem turn_zero {c s : Fin 128 → EReal} {k : Fin 128} : turn (fun _ => 0) c s k = 0 := by
  unfold turn
  rw [zero_mul, zero_mul, add_zero]

theorem cos_row (R : Fin 16896) : (fun k => cosArr m c (ix2 R k)) = fun k : Fin 128 => Ideal.cos (angle R.val (k.val % 32)) := funext fun k => cos_at m c R k
theorem sin_row (R : Fin 16896) : (fun k => sinArr m c (ix2 R k)) = fun k : Fin 128 => if k.val % 64 < 32 then -Ideal.sin (angle R.val (k.val % 32))
    else Ideal.sin (angle R.val (k.val % 32)) := funext fun k => sin_at m c R k

theorem dq_eq : dq m c = val_main_v98 (F := Ideal) (qnA m c) (qrA m c) := by
  funext i
  idx_vars i
  have hj := i1.isLt
  rw [v98_at]
  show dqRow (fun h k => qArr m c (ix3 h i0 k)) (fun k => cosArr m c (ix2 i0 k)) (fun k => sinArr m c (ix2 i0 k)) i1 = _
  rw [cos_row, sin_row]
  unfold dqRow
  by_cases h : i1.val < 1024
  · rw [dif_pos h]
    refine (q_lo m c _ _ _).trans (dite_congr rfl (fun hR => ?_) fun _ => rfl)
    rw [if_pos h]
    exact congrArg (fun a => qnA m c (ix3 ⟨i0.val, hR⟩ a _)) (Fin.ext (by show i1.val / 128 = i1.val / 128 % 8; omega))
  · rw [dif_neg h]
    by_cases hR : i0.val < 16400
    · rw [dif_pos hR, if_neg h]
      refine (turn_congr (d' := fun k => (fun k' => qrA m c (ix3 ⟨i0.val, hR⟩ ⟨(i1.val - 1024) / 64 % 8, by omega⟩ k')) ⟨k.val % 64, by omega⟩) ?_ ?_).trans
        ((turn_back (fun k' => qrA m c (ix3 ⟨i0.val, hR⟩ ⟨(i1.val - 1024) / 64 % 8, by omega⟩ k')) i0.val _).trans ?_)
      · unfold halves
        split
        · rename_i h1
          refine (q_hi m c _ _ _).trans ((dif_pos hR).trans ?_)
          exact congrArg (fun a => qrA m c (ix3 ⟨i0.val, hR⟩ a _)) (Fin.ext (by
            dsimp only at h1 ⊢; omega))
        · rename_i h1
          refine (q_hi m c _ _ _).trans ((dif_pos hR).trans ?_)
          exact congrArg (fun a => qrA m c (ix3 ⟨i0.val, hR⟩ a _)) (Fin.ext (by
            dsimp only at h1 ⊢; omega))
      · unfold halves
        simp only [mate_half]
        split
        · rename_i h1
          refine (q_hi m c _ _ _).trans ((dif_pos hR).trans ?_)
          exact congrArg (fun a => qrA m c (ix3 ⟨i0.val, hR⟩ a _)) (Fin.ext (by
            dsimp only at h1 ⊢; omega))
        · rename_i h1
          refine (q_hi m c _ _ _).trans ((dif_pos hR).trans ?_)
          exact congrArg (fun a => qrA m c (ix3 ⟨i0.val, hR⟩ a _)) (Fin.ext (by
            dsimp only at h1 ⊢; omega))
      · exact congrArg (back _ i0.val) (Fin.ext (by dsimp only; omega))
    · rw [dif_neg hR]
      refine (turn_congr (d' := fun _ => 0) ?_ ?_).trans turn_zero
      all_goals
        unfold halves
        simp only [q_hi, dif_neg hR, ite_self]

theorem dkv_eq : dkv m c = val_main_v101 (F := Ideal) (knA m c) (dvA m c) := by
  funext i
  idx_vars i
  rw [v101_at]
  show dkvRow (fun h k => kArr m c (ix3 h i0 k)) (fun h k => vArr m c (ix3 h i0 k)) i1 = _
  unfold dkvRow
  by_cases h : i1.val % 256 < 128
  · rw [dif_pos h]
    refine (k_lo m c _ _ _).trans (dite_congr rfl (fun hR => ?_) fun _ => rfl)
    split <;> first | rfl | contradiction
  · rw [dif_neg h]
    refine (v_at m c _ _ _).trans (dite_congr rfl (fun hR => ?_) fun _ => rfl)
    split <;> first | rfl | contradiction

/-- The heads' rotary keys summed, the even heads' in the first half and the odd heads' in the second, the halves added: the heads' sum. -/
theorem fold_heads (R : Fin 16896) (k : Fin 128) : fold (fun k => ∑ h, kArr m c (ix3 h R (hi k))) k =
    if k.val < 64 then if hR : R.val < 16400 then ∑ h, krA m c (ix3 ⟨R.val, hR⟩ h ⟨k.val % 64, by omega⟩) else 0 else 0 := by
  unfold fold
  split
  · rename_i hk
    dsimp only
    rw [← Finset.sum_add_distrib]
    simp only [k_hi]
    by_cases hR : R.val < 16400
    · simp only [dif_pos hR]
      refine Finset.sum_congr rfl fun h _ => ?_
      by_cases h2 : h.val % 2 = 0
      · rw [if_pos (by tauto), if_neg (by omega), add_zero]
      · rw [if_neg (by tauto), if_pos (by omega), zero_add]
        exact congrArg (fun k => krA m c (ix3 _ h k)) (Fin.ext (by show (k.val + 64) % 64 = k.val % 64; omega))
    · simp only [dif_neg hR, ite_self, add_zero, Finset.sum_const_zero]
  · rfl

theorem dkr_eq : dkr m c = val_main_v103 (F := Ideal) (krA m c) := by
  funext i
  idx_vars i
  rw [v103_at]
  show dkrRow (fun h k => kArr m c (ix3 h i0 k)) (fun k => cosArr m c (ix2 i0 k)) (fun k => sinArr m c (ix2 i0 k)) i1 = _
  rw [cos_row, sin_row]
  unfold dkrRow
  by_cases hR : i0.val < 16400
  · rw [dif_pos hR]
    by_cases h1 : i1.val < 64
    · rw [dif_pos h1]
      refine (turn_congr (d' := fun k => (fun k' => ∑ h, krA m c (ix3 ⟨i0.val, hR⟩ h k')) ⟨k.val % 64, by omega⟩) ?_ ?_).trans
        ((turn_back (fun k' => ∑ h, krA m c (ix3 ⟨i0.val, hR⟩ h k')) i0.val _).trans ?_)
      · rw [fold_heads, if_pos h1, dif_pos hR]
      · rw [fold_heads, if_pos ((mate_half i1).mpr h1), dif_pos hR]
      · exact congrArg (back _ i0.val) (Fin.ext (by dsimp only; omega))
    · rw [dif_neg h1]
      refine (turn_congr (d' := fun _ => 0) ?_ ?_).trans turn_zero
      · rw [fold_heads, if_neg h1]
      · rw [fold_heads, if_neg (fun h => h1 ((mate_half i1).mp h))]
  · rw [dif_neg hR]
    refine (turn_congr (d' := fun _ => 0) ?_ ?_).trans turn_zero
    all_goals
      rw [fold_heads]
      simp only [dif_neg hR, ite_self]

theorem algebraic : Cert.algebraic_UnpackIdeal_UnpackRefIdeal := by
  intro m g m' g' _ ha
  refine ⟨fun c => dq m c, fun c => dkv m c, fun c => dkr m c, ?_, ?_⟩
  · exact (θ_run _ _ _).mono (fun r h c => ⟨(h c).1.trans (final_dq m c), (h c).2.1.trans (final_dkv m c),
      (h c).2.2.1.trans (final_dkr m c), (h c).2.2.2⟩) (Cert.UnpackIdeal.Value.run_blocks m g)
  · refine (θ_run _ _ _).mono (fun r h c => ?_) (Cert.UnpackRefIdeal.Value.run m' g')
    obtain ⟨h0, h1, h2, h3, h4⟩ := ha c
    refine ⟨(h c).1.trans ?_, (h c).2.1.trans ?_, (h c).2.2.1.trans ?_, (h c).2.2.2⟩
    · refine ((Cert.UnpackRefIdeal.Read.val_main_v98_eq ..).trans ?_).trans (dq_eq m c).symm
      rw [h0, h1]
    · refine ((Cert.UnpackRefIdeal.Read.val_main_v101_eq ..).trans ?_).trans (dkv_eq m c).symm
      rw [h2, h4]
    · refine ((Cert.UnpackRefIdeal.Read.val_main_v103_eq ..).trans ?_).trans (dkr_eq m c).symm
      rw [h3]

/-- The reference ends with its arguments and its counters as they were. -/
theorem frame_ref : Cert.quiescent_UnpackRefIdeal := fun m g _ =>
  (θ_run Cert.UnpackRefIdeal.defs _ _).mono (fun r h => ⟨fun c => (h c).2.2.2, sem_eq_zero_of_no_sems (by decide) r.2⟩)
    (Cert.UnpackRefIdeal.Value.run (F := Ideal) m g)

end Cert.UnpackEq

end
-- ==== Proof.ConvKernel.lean ====
/-
  What the convolution's backward kernel leaves in its three result arrays: the gradient with respect to the convolved
  columns, the four taps' gradients and the bias's gradient, the last two each a sum over all rows.
-/
module

public import proofs.«01_k».proof.Proof.Softplus
public import proofs.«01_k».proof.Proof.Sums
public import proofs.«01_k».proof.Proof.Gen.ConvxsIdeal.Value
public import Idealize.ShloMosaic.Lib.Pipeline.ValueKit
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.ConvxsIdeal.KernelValue

open Cert.ConvxsIdeal Cert.ConvxsIdeal.Gen Cert.Softplus

/-- The gate's gradient written out by hand: the cotangent `a` of `p · logistic p`. -/
def gate (a p : EReal) : EReal := a * (Softplus.logistic p * (1 + p * (1 - Softplus.logistic p)))

section Block

variable (a p : Vec Ideal S768x1024 .f32) (a' p' h : Vec Ideal S8x1024 .f32) (u : Vec Ideal S768x1024 .f32)

theorem pay_gate (i : S768x1024.Idx) : k0_pay6 a p i = gate (a i) (p i) := by
  idx_vars i
  unfold k0_pay6 gate Softplus.logistic
  pointwise

theorem pay_next (i : grid0.Coords) (j : S8x1024.Idx) :
    k0_pay7 i a' p' j = if (i 0).val < 21 then gate (a' j) (p' j) else 0 := by
  have hb : ∀ n < 22, Scalar.cmpi .slt (BitVec.ofNat 32 n) 21#32 = if n < 21 then 1#1 else 0#1 := by decide
  idx_vars j
  unfold k0_pay7 gate Softplus.logistic
  rw [hb _ (i 0).isLt]
  split <;> pointwise

theorem pay_halo (n : ℕ) (hn : n < 22) (r : Fin 776) (k : Fin 1024) :
    k0_pay8 (BitVec.ofNat 32 n) h u (ix2 r k)
      = if hr : r.val < 8 then (if 0 < n then h (ix2 ⟨r.val, hr⟩ k) else 0) else u (ix2 ⟨r.val - 8, by omega⟩ k) := by
  have hb : ∀ n < 22, Scalar.cmpi .sgt (BitVec.ofNat 32 n) 0#32 = if 0 < n then 1#1 else 0#1 := by decide
  unfold k0_pay8
  rw [hb _ hn]
  split <;> split <;> pointwise
  all_goals rename_i hr; first | exact dif_pos hr | exact dif_neg hr

/-- A block's gradient, where the block and the eight rows after it hold the rows `f (s + r)`. -/
theorem pay_du (d : FVec Ideal S768x1024 .f32) (d' : FVec Ideal S8x1024 .f32) (w0 w1 w2 w3 : Vec Ideal S1x1024 .f32) (f : ℕ → EReal) (s : ℕ)
    (k : Fin 1024) (hd : ∀ r : Fin 768, d (ix2 r k) = f (s + r.val)) (hd' : ∀ r : Fin 8, d' (ix2 r k) = f (s + 768 + r.val)) (r : Fin 768) :
    k0_pay1 d (k0_pay11 d d' w0 w1 w2) w3 (ix2 r k)
      = w0 (ix2 0 k) * f (s + r.val + 3) + w1 (ix2 0 k) * f (s + r.val + 2) + w2 (ix2 0 k) * f (s + r.val + 1) + w3 (ix2 0 k) * f (s + r.val) := by
  have hr := r.isLt
  have key : ∀ x : ℕ, 0 < x → (hx : x ≤ 3) → (if h : (r.val + 776 - (776 - x)) % 776 < 768 then d (ix2 ⟨(r.val + 776 - (776 - x)) % 776, h⟩ k)
      else d' (ix2 ⟨(r.val + 776 - (776 - x)) % 776 - 768, by omega⟩ k)) = f (s + r.val + x) := by
    intro x h0 hx
    split
    · rw [hd]; congr 1; show s + (r.val + 776 - (776 - x)) % 776 = _; omega
    · rw [hd']; congr 1; show s + 768 + ((r.val + 776 - (776 - x)) % 776 - 768) = _; omega
  unfold k0_pay1 k0_pay11
  pointwise
  rw [← key 1 (by omega) (by omega), ← key 2 (by omega) (by omega), ← key 3 (by omega) (by omega), ← hd]

/-- A block's part of the taps' gradients, where the rows from eight before the block on hold `g (s + x)`. -/
theorem pay_dw (d : FVec Ideal S768x1024 .f32) (b : BitVec 32) (g : ℕ → EReal) (s : ℕ) (k : Fin 1024)
    (hg : ∀ x : Fin 776, 5 ≤ x.val → k0_pay8 b h u (ix2 x k) = g (s + x.val - 5)) (q : Fin 8) :
    k0_pay2 d (k0_pay8 b h u) (k0_pay9 b d h u) (k0_pay10 b d h u) (k0_pay12 b h u) (ix2 q k)
      = ∑ r : Fin 768, if q.val < 4 then d (ix2 r k) * g (s + r.val + q.val) else 0 := by
  unfold k0_pay2 k0_pay9 k0_pay10 k0_pay12
  have key : ∀ (x : Fin 776) (y : ℕ), 5 ≤ x.val → s + x.val - 5 = y → k0_pay8 b h u (ix2 x k) = g y := fun x y h5 hy => (hg x h5).trans (congrArg g hy)
  fin_cases q <;> pointwise
  · exact Finset.sum_congr rfl fun x _ => congrArg (d (ix2 x k) * ·) (key _ _ (by show 5 ≤ (8 + x.val + 776 - 3) % 776; omega) (by show s + (8 + x.val + 776 - 3) % 776 - 5 = _; omega))
  · exact Finset.sum_congr rfl fun x _ => congrArg (d (ix2 x k) * ·) (key _ _ (by show 5 ≤ (8 + x.val + 776 - 2) % 776; omega) (by show s + (8 + x.val + 776 - 2) % 776 - 5 = _; omega))
  · exact Finset.sum_congr rfl fun x _ => congrArg (d (ix2 x k) * ·) (key _ _ (by show 5 ≤ (8 + x.val + 776 - 1) % 776; omega) (by show s + (8 + x.val + 776 - 1) % 776 - 5 = _; omega))
  · exact Finset.sum_congr rfl fun x _ => congrArg (d (ix2 x k) * ·) (key _ _ (by show 5 ≤ 8 + x.val; omega) (by show s + (8 + x.val) - 5 = _; omega))
  all_goals exact Finset.sum_const_zero.symm

theorem pay_db (d : FVec Ideal S768x1024 .f32) (i : S1x1024.Idx) : k0_pay4 d i = ∑ r : Fin 768, d (ix2 r (i 1)) := by
  idx_vars i
  unfold k0_pay4
  pointwise

end Block

variable (m : (ℓ : Loc nD τ sig) → Buf (Elt Ideal) ℓ) (c : Dev nD)

theorem idx : ∀ t : Fin cfg0.N,
    win0_0.index t = ![t.val, 0] ∧ win0_1.index t = ![min (96 * (t.val + 1)) 2111, 0] ∧ win0_2.index t = ![t.val, 0]
    ∧ win0_3.index t = ![min (96 * (t.val + 1)) 2111, 0] ∧ win0_4.index t = ![t.val, 2] ∧ win0_5.index t = ![96 * t.val - 1, 2]
    ∧ win0_6.index t = ![0, 0] ∧ win0_7.index t = ![t.val, 0] ∧ win0_8.index t = ![0, 0] ∧ win0_9.index t = ![0, 0]
    ∧ (grid0.coords t 0).val = t.val :=
  (by decide +kernel : ∀ t : Fin grid0.N, _)

theorem lt_N (t : Fin cfg0.N) : t.val < 22 := lt_of_lt_of_eq t.isLt N_0

/-- The arrays that the region reads: the cotangent, the values before the gate, the projection and the taps. -/
def aArr : Vec Ideal S16896x1024 .f32 := V m c main_v43
def pArr : Vec Ideal S16896x1024 .f32 := V m c main_v41
def uArr : Vec Ideal S16896x3584 .f32 := V m c main_v4
def wArr : Vec Ideal S4x1024 .f32 := V m c main_arg1

/-- Row `r` of block `t`; the array's rows with zeros after them; the projection's columns with three zero rows before. -/
def row (t : ℕ) (ht : t < 22) (r : Fin 768) : Fin 16896 := ⟨768 * t + r.val, by have := r.isLt; omega⟩

theorem row_val (t : ℕ) (ht : t < 22) (r : Fin 768) : (row t ht r).val = 768 * t + r.val := rfl

def dpre (k : Fin 1024) (n : ℕ) : EReal := if h : n < 16896 then gate (aArr m c (ix2 ⟨n, h⟩ k)) (pArr m c (ix2 ⟨n, h⟩ k)) else 0

def before (k : Fin 1024) (n : ℕ) : EReal := if h : 3 ≤ n ∧ n < 16899 then uArr m c (ix2 ⟨n - 3, by omega⟩ ⟨2048 + k.val, by omega⟩) else 0

/-- The point's blocks. -/
abbrev ba (t : Fin cfg0.N) : Vec Ideal S768x1024 .f32 := iblk m c 0 t
abbrev ba' (t : Fin cfg0.N) : Vec Ideal S8x1024 .f32 := iblk m c 1 t
abbrev bp (t : Fin cfg0.N) : Vec Ideal S768x1024 .f32 := iblk m c 2 t
abbrev bp' (t : Fin cfg0.N) : Vec Ideal S8x1024 .f32 := iblk m c 3 t
abbrev bu (t : Fin cfg0.N) : Vec Ideal S768x1024 .f32 := X0_4 m c t
abbrev bh (t : Fin cfg0.N) : Vec Ideal S8x1024 .f32 := X0_5 m c t
abbrev bw (t : Fin cfg0.N) : Vec Ideal S4x1024 .f32 := iblk m c 6 t

theorem ba_at (t : Fin cfg0.N) (r : Fin 768) (k : Fin 1024) : ba m c t (ix2 r k) = aArr m c (ix2 (row t.val (lt_N t) r) k) := by
  unfold ba aArr; blk_ext [iblk, idx t, row_val]
theorem bp_at (t : Fin cfg0.N) (r : Fin 768) (k : Fin 1024) : bp m c t (ix2 r k) = pArr m c (ix2 (row t.val (lt_N t) r) k) := by
  unfold bp pArr; blk_ext [iblk, idx t, row_val]
theorem ba'_at (t : Fin cfg0.N) (r : Fin 8) (k : Fin 1024) (h : 768 * (t.val + 1) + r.val < 16896) :
    ba' m c t (ix2 r k) = aArr m c (ix2 ⟨768 * (t.val + 1) + r.val, h⟩ k) := by
  unfold ba' aArr; blk_ext [iblk, idx t]
theorem bp'_at (t : Fin cfg0.N) (r : Fin 8) (k : Fin 1024) (h : 768 * (t.val + 1) + r.val < 16896) :
    bp' m c t (ix2 r k) = pArr m c (ix2 ⟨768 * (t.val + 1) + r.val, h⟩ k) := by
  unfold bp' pArr; blk_ext [iblk, idx t]
theorem bu_at (t : Fin cfg0.N) (r : Fin 768) (k : Fin 1024) :
    bu m c t (ix2 r k) = uArr m c (ix2 (row t.val (lt_N t) r) ⟨2048 + k.val, by omega⟩) := by
  unfold bu uArr X0_4 Pipeline.Window.fill
  rw [dif_pos (moved0_4 t _)]
  blk_ext [iblk, idx t, row_val]
theorem bh_at (t : Fin cfg0.N) (r : Fin 8) (k : Fin 1024) (h : 0 < t.val) :
    bh m c t (ix2 r k) = uArr m c (ix2 ⟨768 * t.val + r.val - 8, by have := lt_N t; omega⟩ ⟨2048 + k.val, by omega⟩) := by
  unfold bh uArr X0_5 Pipeline.Window.fill
  rw [dif_pos (moved0_5 t _)]
  blk_ext [iblk, idx t]
theorem bw_at (t : Fin cfg0.N) (i : Fin 4) (k : Fin 1024) : bw m c t (ix2 i k) = wArr m c (ix2 i k) := by
  unfold bw wArr; blk_ext [iblk, idx t]

/-- The rows of the taps' block. -/
abbrev tap0 (t : Fin cfg0.N) : Vec Ideal S1x1024 .f32 := View.ld (bw m c t) (Rect.unit (s := S4x1024) ![0, 0] S1x1024.size inb_S4x1024_S1x1024_0_0)
abbrev tap1 (t : Fin cfg0.N) : Vec Ideal S1x1024 .f32 := View.ld (bw m c t) (Rect.unit (s := S4x1024) ![1, 0] S1x1024.size inb_S4x1024_S1x1024_1_0)
abbrev tap2 (t : Fin cfg0.N) : Vec Ideal S1x1024 .f32 := View.ld (bw m c t) (Rect.unit (s := S4x1024) ![2, 0] S1x1024.size inb_S4x1024_S1x1024_2_0)
abbrev tap3 (t : Fin cfg0.N) : Vec Ideal S1x1024 .f32 := View.ld (bw m c t) (Rect.unit (s := S4x1024) ![3, 0] S1x1024.size inb_S4x1024_S1x1024_3_0)

theorem tap_at (t : Fin cfg0.N) (k : Fin 1024) : tap0 m c t (ix2 0 k) = wArr m c (ix2 0 k) ∧ tap1 m c t (ix2 0 k) = wArr m c (ix2 1 k)
    ∧ tap2 m c t (ix2 0 k) = wArr m c (ix2 2 k) ∧ tap3 m c t (ix2 0 k) = wArr m c (ix2 3 k) := by
  refine ⟨?_, ?_, ?_, ?_⟩ <;> rw [← bw_at m c t] <;> refine congrArg (bw m c t) ?_ <;> funext a <;> apply Fin.ext <;> fin_cases a <;>
    simp

/-- The three results. -/
def du : Vec Ideal S16896x1024 .f32 := fun i =>
  wArr m c (ix2 0 (i 1)) * dpre m c (i 1) ((i 0).val + 3) + wArr m c (ix2 1 (i 1)) * dpre m c (i 1) ((i 0).val + 2)
    + wArr m c (ix2 2 (i 1)) * dpre m c (i 1) ((i 0).val + 1) + wArr m c (ix2 3 (i 1)) * dpre m c (i 1) (i 0).val
def dw : Vec Ideal S8x1024 .f32 := fun i =>
  ∑ r : Fin 16896, if (i 0).val < 4 then dpre m c (i 1) r.val * before m c (i 1) (r.val + (i 0).val) else 0
def db : Vec Ideal S1x1024 .f32 := fun i => ∑ r : Fin 16896, dpre m c (i 1) r.val

/-- A point's block of the gate's gradient, the eight rows after it, and the convolved rows with the eight before them. -/
abbrev pg (t : Fin cfg0.N) : Vec Ideal S768x1024 .f32 := k0_pay6 (ba m c t) (bp m c t)
abbrev pg' (t : Fin cfg0.N) : Vec Ideal S8x1024 .f32 := k0_pay7 (grid0.coords t) (ba' m c t) (bp' m c t)
abbrev num (t : Fin cfg0.N) : BitVec 32 := BitVec.ofNat 32 (grid0.coords t 0).val

abbrev pdu (t : Fin cfg0.N) : Vec Ideal S768x1024 .f32 :=
  k0_pay1 (pg m c t) (k0_pay11 (pg m c t) (pg' m c t) (tap0 m c t) (tap1 m c t) (tap2 m c t)) (tap3 m c t)
abbrev pdw (t : Fin cfg0.N) : Vec Ideal S8x1024 .f32 :=
  k0_pay2 (pg m c t) (k0_pay8 (num t) (bh m c t) (bu m c t)) (k0_pay9 (num t) (pg m c t) (bh m c t) (bu m c t))
    (k0_pay10 (num t) (pg m c t) (bh m c t) (bu m c t)) (k0_pay12 (num t) (bh m c t) (bu m c t))
abbrev pdb (t : Fin cfg0.N) : Vec Ideal S1x1024 .f32 := k0_pay4 (F := Ideal) (pg m c t)

/-- What a point leaves in the three output buffers. -/
theorem outs_first (t : Fin cfg0.N) (h : t.val % 22 = 0) : outsAt0 m c t.val t.isLt = (pdu m c t, pdw m c t, pdb m c t) := by
  have ht := lt_N t
  rw [outsAt0_A m c t h (by omega) h (by omega)]
  frame_out

theorem outs_later (t : Fin cfg0.N) (h : ¬t.val % 22 = 0) : outsAt0 m c t.val t.isLt
    = (pdu m c t,
       addf (F := Ideal) (s := S8x1024) (φ := .f32) (outsAt0 m c (t.val - 1) (Nat.lt_of_le_of_lt (Nat.sub_le _ _) t.isLt)).2.1 (pdw m c t),
       addf (F := Ideal) (s := S1x1024) (φ := .f32) (outsAt0 m c (t.val - 1) (Nat.lt_of_le_of_lt (Nat.sub_le _ _) t.isLt)).2.2 (pdb m c t)) := by
  have ht := lt_N t
  rw [outsAt0_B m c t h (by omega) h (by omega)]
  frame_out [k0_pay3, k0_pay5, shapeCast_self]

theorem outs_rows (t : Fin cfg0.N) : (outsAt0 m c t.val t.isLt).1 = pdu m c t := by
  by_cases h : t.val % 22 = 0
  · rw [outs_first m c t h]
  · rw [outs_later m c t h]

theorem pg_at (t : Fin cfg0.N) (r : Fin 768) (k : Fin 1024) : pg m c t (ix2 r k) = dpre m c k (768 * t.val + r.val) := by
  unfold pg dpre
  rw [pay_gate, ba_at, bp_at, dif_pos (by have := lt_N t; omega)]
  rfl

theorem pg'_at (t : Fin cfg0.N) (r : Fin 8) (k : Fin 1024) : pg' m c t (ix2 r k) = dpre m c k (768 * t.val + 768 + r.val) := by
  have ht := lt_N t
  have hc := (idx t).2.2.2.2.2.2.2.2.2.2
  unfold pg' dpre
  rw [pay_next, hc]
  by_cases h : t.val < 21
  · have hlt : 768 * (t.val + 1) + r.val < 16896 := by omega
    rw [if_pos h, ba'_at m c t r k hlt, bp'_at m c t r k hlt, dif_pos (by omega)]
    rfl
  · rw [if_neg h, dif_neg (by omega)]

theorem ext_at (t : Fin cfg0.N) (k : Fin 1024) (x : Fin 776) (hx : 5 ≤ x.val) :
    k0_pay8 (num t) (bh m c t) (bu m c t) (ix2 x k) = before m c k (768 * t.val + x.val - 5) := by
  have ht := lt_N t
  have hc := (idx t).2.2.2.2.2.2.2.2.2.2
  have hxl := x.isLt
  unfold num before
  rw [hc, pay_halo _ _ _ ht]
  split
  · split
    · rw [bh_at _ _ _ _ _ ‹_›, dif_pos (by omega)]
      congr 2
    · rw [dif_neg (by omega)]
  · rw [bu_at, dif_pos (by omega)]
    congr 2
    apply Fin.ext
    show 768 * t.val + (x.val - 8) = 768 * t.val + x.val - 5 - 3
    omega

theorem pdu_at (t : Fin cfg0.N) (r : Fin 768) (k : Fin 1024) : pdu m c t (ix2 r k) = du m c (ix2 (row t.val (lt_N t) r) k) := by
  unfold pdu du
  rw [pay_du _ _ _ _ _ _ (dpre m c k) (768 * t.val) k (fun r => pg_at m c t r k) (fun r => pg'_at m c t r k)]
  rw [(tap_at m c t k).1, (tap_at m c t k).2.1, (tap_at m c t k).2.2.1, (tap_at m c t k).2.2.2]
  rfl

theorem pdw_at (t : Fin cfg0.N) (i : S8x1024.Idx) : pdw m c t i
    = ∑ r : Fin 768, if (i 0).val < 4 then dpre m c (i 1) (row t.val (lt_N t) r).val * before m c (i 1) ((row t.val (lt_N t) r).val + (i 0).val) else 0 := by
  idx_vars i
  refine (pay_dw _ _ _ _ (before m c i1) (768 * t.val) i1 (fun x hx => ext_at m c t i1 x hx) i0).trans ?_
  simp only [pg_at]
  rfl

theorem pdb_at (t : Fin cfg0.N) (i : S1x1024.Idx) : pdb m c t i = ∑ r : Fin 768, dpre m c (i 1) (row t.val (lt_N t) r).val := by
  idx_vars i
  refine (pay_db _ _).trans ?_
  exact Finset.sum_congr rfl fun r _ => pg_at m c t r i1

theorem final_du : (dats m 0 c).arrAt 7 cfg0.N = du m c := by
  refine (dats m 0 c).arrAt_eq_of_covers 7 _ (by decide +kernel) fun t _ y => ?_
  blk_simp
  rw [after0_7, outs_rows m c t]
  idx_vars y
  refine (pdu_at m c t y0 y1).trans ?_
  blk_ext [idx t, row_val]

/-- What the last point leaves in the taps' and the bias's buffers. -/
theorem dw_last (t : Fin cfg0.N) (h : t.val % 22 = 21) (i : S8x1024.Idx) : (outsAt0 m c t.val t.isLt).2.1 i = dw m c i := by
  have ht := lt_N t
  refine Sums.acc_blocks (a := 22) (b := 768) (by norm_num) _ (fun k hk => (outsAt0 m c k (lt_of_lt_of_eq hk N_0.symm)).2.1 i) row row_val
      (fun s h0 => ?_) (fun s h0 => ?_) t.val ht (by omega)
  · rw [outs_first m c ⟨s.val, _⟩ h0]; exact pdw_at m c ⟨s.val, _⟩ i
  · rw [outs_later m c ⟨s.val, _⟩ h0]; exact congrArg (_ + ·) (pdw_at m c ⟨s.val, _⟩ i)

theorem db_last (t : Fin cfg0.N) (h : t.val % 22 = 21) (i : S1x1024.Idx) : (outsAt0 m c t.val t.isLt).2.2 i = db m c i := by
  have ht := lt_N t
  refine Sums.acc_blocks (a := 22) (b := 768) (by norm_num) _ (fun k hk => (outsAt0 m c k (lt_of_lt_of_eq hk N_0.symm)).2.2 i) row row_val
      (fun s h0 => ?_) (fun s h0 => ?_) t.val ht (by omega)
  · rw [outs_first m c ⟨s.val, _⟩ h0]; exact pdb_at m c ⟨s.val, _⟩ i
  · rw [outs_later m c ⟨s.val, _⟩ h0]; exact congrArg (_ + ·) (pdb_at m c ⟨s.val, _⟩ i)

theorem final_dw : (dats m 0 c).arrAt 8 cfg0.N = dw m c := by
  refine (dats m 0 c).arrAt_eq_of_covers 8 _ (by decide +kernel) fun t hf y => ?_
  blk_simp
  rw [after0_8]
  idx_vars y
  refine (dw_last m c t ((flush0_8 t).mp hf) (ix2 y0 y1)).trans (congrArg (dw m c) ?_)
  funext a
  apply Fin.ext
  fin_cases a
  · blk_simp [idx t]
  · blk_simp [idx t]

theorem final_db : (dats m 0 c).arrAt 9 cfg0.N = db m c := by
  refine (dats m 0 c).arrAt_eq_of_covers 9 _ (by decide +kernel) fun t hf y => ?_
  blk_simp
  rw [after0_9]
  idx_vars y
  refine (db_last m c t ((flush0_9 t).mp hf) (ix2 y0 y1)).trans (congrArg (db m c) ?_)
  funext a
  apply Fin.ext
  fin_cases a
  · blk_simp [idx t]
  · blk_simp [idx t]

end Cert.ConvxsIdeal.KernelValue

end
-- ==== Proof.ConvRef.lean ====
/-
  What the reference of the convolution's gradient computes, read at an index: the gate's gradient by the chain rule, the
  convolved columns' gradient as a sum over the rows after a row, and the taps' and the bias's as sums over the sequence.
-/
module

public import proofs.«01_k».proof.Proof.Softplus
public import proofs.«01_k».proof.Proof.Gen.ConvxsRefIdeal.Read

@[expose] public section

set_option maxRecDepth 16384

noncomputable section

open Idealize.ShloMosaic Idealize.ShloMosaic.TcCoe

namespace Cert.ConvxsRefIdeal.RefValue

open Cert.ConvxsRefIdeal Cert.ConvxsRefIdeal.Gen Cert.ConvxsRefIdeal.Read Cert.Softplus Cert.RealCoe

/-- The gate's gradient by the chain rule. -/
def chain (a p : EReal) : EReal := a * Softplus.logistic p + p * a * (Softplus.logistic p * (1 - Softplus.logistic p))

variable (x0 : Vec Ideal S16400x1024 .f32) (x1 : Vec Ideal S4x1024 .f32) (x2 : Vec Ideal S1x1024 .f32) (x3 : Vec Ideal S16400x1024 .f32)

/-- The columns with three zero rows before them. -/
def lead (k : Fin 1024) (n : ℕ) : EReal := if h : 3 ≤ n ∧ n < 16403 then x0 (ix2 ⟨n - 3, by omega⟩ k) else 0

/-- The convolution. -/
def conv (k : Fin 1024) (n : ℕ) : EReal :=
  x1 (ix2 0 k) * lead x0 k n + x1 (ix2 1 k) * lead x0 k (n + 1) + x1 (ix2 2 k) * lead x0 k (n + 2) + x1 (ix2 3 k) * lead x0 k (n + 3) + x2 (ix2 0 k)

/-- The gate's gradient of every row, with zeros after the last. -/
def grad (k : Fin 1024) (n : ℕ) : EReal := if h : n < 16400 then chain (x3 (ix2 ⟨n, h⟩ k)) (conv x0 x1 x2 k n) else 0

theorem lead_at (r : Fin 16403) (k : Fin 1024) : val_main_v1 (F := Ideal) x0 (ix2 r k) = lead x0 k r.val := by
  have h1 : val_main_v1 (F := Ideal) x0 (ix2 r k) = if h : r.val < 3 then 0 else x0 (ix2 ⟨r.val - 3, by omega⟩ k) := by
    unfold val_main_v1 val_main_v0 val_main_cst
    pointwise
  rw [h1]
  unfold lead
  by_cases h : r.val < 3
  · rw [dif_pos h, dif_neg (by omega)]
  · rw [dif_neg h, dif_pos (by omega)]

theorem conv_at (r : Fin 16400) (k : Fin 1024) : val_main_v35 (F := Ideal) x0 x1 x2 (ix2 r k) = conv x0 x1 x2 k r.val := by
  unfold val_main_v35 val_main_v34 val_main_v33 val_main_v32 val_main_v31 val_main_v30 val_main_v29 val_main_v28 val_main_v27 val_main_v26 val_main_v25 val_main_v24 val_main_v23 val_main_v22 val_main_v21 val_main_v20 val_main_v19 val_main_v18 val_main_v17 val_main_v16 val_main_v15 val_main_v14 val_main_v13 val_main_v12 val_main_v11 val_main_v10 val_main_v9 val_main_v8 val_main_v7 val_main_v6 val_main_v5 val_main_v4 val_main_v3 val_main_cst_1 conv
  pointwise
  simp only [lead_at, Nat.add_comm _ r.val]

theorem grad_at (r : Fin 16400) (k : Fin 1024) : val_main_v37 (F := Ideal) x0 x1 x2 x3 (ix2 r k) = grad x0 x1 x2 x3 k r.val := by
  unfold grad
  rw [dif_pos r.isLt, ← conv_at]
  unfold chain Softplus.logistic val_main_v37 val_main_call1_v2 val_main_call1_v1 val_main_call1_v0 val_main_v36_1 val_main_call0_v7 val_main_call0_v6 val_main_call0_cst_1 val_main_v36_2 val_main_call0_v4 val_main_call0_cst_0 val_main_call0_v3 val_main_call0_v2 val_main_call0_cst val_main_call0_v1 val_main_call0_v0
  pointwise
  simp only [zero_sub]

theorem v87_at (R : Fin 16896) (k : Fin 1024) : val_main_v87 (F := Ideal) x0 x1 x2 x3 (ix2 R k)
    = if R.val < 16400 then x1 (ix2 3 k) * grad x0 x1 x2 x3 k R.val + x1 (ix2 2 k) * grad x0 x1 x2 x3 k (R.val + 1)
        + x1 (ix2 1 k) * grad x0 x1 x2 x3 k (R.val + 2) + x1 (ix2 0 k) * grad x0 x1 x2 x3 k (R.val + 3) else 0 := by
  unfold val_main_v87 val_main_v86 val_main_v85 val_main_v80 val_main_v79 val_main_v74 val_main_v73 val_main_v69 val_main_v68 val_main_v63 val_main_v62 val_main_v58 val_main_v57 val_main_v52 val_main_v51 val_main_v48 val_main_v43 val_main_v42 val_main_v28 val_main_v26 val_main_v25 val_main_v21 val_main_v19 val_main_v18 val_main_v14 val_main_v12 val_main_v11 val_main_v6 val_main_v4 val_main_v3 val_main_cst_6 val_main_cst_10 val_main_cst_14 val_main_cst_18 val_main_cst_20
  generalize hd : val_main_v37 (F := Ideal) x0 x1 x2 x3 = d
  pointwise
  subst hd
  by_cases hR : R.val < 16400
  · rw [if_pos hR]
    refine (dif_pos hR).trans ?_
    have key : ∀ (q : Fin 4) (n y : ℕ), n = y → ∀ P : Prop, ∀ _ : Decidable P, ∀ hP : (P ↔ n < 16400),
        (if h : P then x1 (ix2 q k) * val_main_v37 (F := Ideal) x0 x1 x2 x3 (ix2 ⟨n, hP.mp h⟩ k) else 0) = x1 (ix2 q k) * grad x0 x1 x2 x3 k y := by
      intro q n y hn P _ hP
      subst hn
      by_cases h : n < 16400
      · rw [dif_pos (hP.mpr h), grad_at]
      · rw [dif_neg (fun hp => h (hP.mp hp)), grad, dif_neg h, mul_zero]
    exact congrArg₂ (· + ·) (congrArg₂ (· + ·) (congrArg₂ (· + ·) (key 3 _ _ rfl _ _ Iff.rfl)
      (key 2 (3 + R.val - 2) _ (by omega) (2 ≤ 3 + R.val ∧ 3 + R.val - 2 < 16400) _ (by omega)))
      (key 1 (3 + R.val - 1) _ (by omega) (1 ≤ 3 + R.val ∧ 3 + R.val - 1 < 16400) _ (by omega)))
      (key 0 (3 + R.val) _ (by omega) _ _ Iff.rfl)
  · rw [if_neg hR]
    exact dif_neg hR

theorem v89_at (q : Fin 8) (k : Fin 1024) : val_main_v89 (F := Ideal) x0 x1 x2 x3 (ix2 q k)
    = ∑ r : Fin 16400, if q.val < 4 then grad x0 x1 x2 x3 k r.val * lead x0 k (r.val + q.val) else 0 := by
  unfold val_main_v89 val_main_v88 val_main_v83 val_main_v82 val_main_v81 val_main_v78 val_main_v77 val_main_v76 val_main_v75 val_main_v72 val_main_v71 val_main_v70 val_main_v67 val_main_v66 val_main_v65 val_main_v64 val_main_v61 val_main_v60 val_main_v59 val_main_v56 val_main_v55 val_main_v54 val_main_v53 val_main_v50 val_main_v49 val_main_v47 val_main_v46 val_main_v45 val_main_v44 val_main_v27 val_main_v20 val_main_v13 val_main_v5 val_main_cst_4 val_main_cst_5 val_main_cst_7 val_main_cst_8 val_main_cst_9 val_main_cst_11 val_main_cst_12 val_main_cst_13 val_main_cst_15 val_main_cst_16 val_main_cst_17 val_main_cst_19 val_main_cst_21
  simp only [← grad_at]
  generalize hd : val_main_v37 (F := Ideal) x0 x1 x2 x3 = d
  fin_cases q <;> pointwise
  iterate 4
    · simp only [Finset.univ_unique, Finset.sum_singleton, lead_at]
      try exact Finset.sum_congr rfl fun x _ => congrArg (d (ix2 x k) * lead x0 k ·) (Nat.add_comm _ _)
  all_goals exact Finset.sum_const_zero.symm

theorem v41_at (i : Fin 1) (k : Fin 1024) : val_main_v41 (F := Ideal) x0 x1 x2 x3 (ix2 i k) = ∑ r : Fin 16400, grad x0 x1 x2 x3 k r.val := by
  simp only [← grad_at]
  unfold val_main_v41 val_main_v40 val_main_v39 val_main_v38 val_main_cst_2 val_main_cst_3
  generalize hd : val_main_v37 (F := Ideal) x0 x1 x2 x3 = d
  pointwise
  simp only [Finset.univ_unique, Finset.sum_singleton]

end Cert.ConvxsRefIdeal.RefValue

end
-- ==== Proof.ConvxsClaim.lean ====
/-
  The claims about the convolution's gradient: the kernel's three arrays are the derivative's, given real arguments.
-/
module

public import proofs.«01_k».proof.Defs
public import proofs.«01_k».proof.Proof.MlpClaim
public import proofs.«01_k».proof.Proof.ConvKernel
public import proofs.«01_k».proof.Proof.ConvRef
public import proofs.«01_k».proof.Proof.Gen.ConvxsRefIdeal.Run
public import Idealize.ShloMosaic.Lib.StableHlo.RunRead

@[expose] public section

set_option maxRecDepth 16384

noncomputable section

open Idealize.ShloMosaic Idealize.ShloMosaic.TcCoe Idealize.SL.Sem

namespace Cert.ConvxsEq

open Cert.ConvxsIdeal Cert.ConvxsIdeal.Gen Cert.ConvxsIdeal.KernelValue Cert.RealCoe
open Cert.MlpResidualEq (padRow pad_at padRow_lt padRow_ge)
open Cert.ConvxsRefIdeal.RefValue (chain lead conv grad v87_at v89_at v41_at)
open Cert.ConvxsRefIdeal.Read (val_main_v87 val_main_v89 val_main_v41)

variable (m : (ℓ : Loc nD τ sig) → Buf (Elt Ideal) ℓ) (c : Dev nD)

/-- The arguments, as arrays. -/
abbrev uA : Vec Ideal S16400x1024 .f32 := m ((c : Thread nD τ).loc main_arg0)
abbrev wA : Vec Ideal S4x1024 .f32 := m ((c : Thread nD τ).loc main_arg1)
abbrev bA : Vec Ideal S1x1024 .f32 := m ((c : Thread nD τ).loc main_arg2)
abbrev aA : Vec Ideal S16400x1024 .f32 := m ((c : Thread nD τ).loc main_arg3)

theorem wArr_eq : wArr m c = wA m c := V_main_arg1 m c

theorem aArr_eq (r : Fin 16896) (k : Fin 1024) : aArr m c (ix2 r k) = padRow (aA m c) r k := by
  rw [← pad_at]; refine congrFun ?_ _; unfold aArr V; after_results

/-- The rows of zeros that the host puts after the arrays. -/
abbrev zeros496 : Vec Ideal S496x1024 .f32 := broadcastInDim S496x1024 ![] bcast_S_S496x1024 (constant (F := Ideal) S_ .f32 0x00000000#32)

/-- A row of the projection, from its parts: only the middle columns are read. -/
def packed (x : Vec Ideal S16400x2048 .f32) (y : Vec Ideal S16400x1024 .f32) (z : Vec Ideal S16400x512 .f32) : Vec Ideal S16896x3584 .f32 :=
  concatenate S16896x3584 0 [⟨S16400x3584, concatenate S16400x3584 1 [⟨S16400x2048, x⟩, ⟨S16400x1024, y⟩, ⟨S16400x512, z⟩]
    concatenates_S16400x2048_S16400x1024_S16400x512_S16400x3584_d1⟩,
    ⟨S496x3584, broadcastInDim S496x3584 ![] bcast_S_S496x3584 (constant (F := Ideal) S_ .f32 0x00000000#32)⟩]
    concatenates_S16400x3584_S496x3584_S16896x3584_d0

theorem packed_at (x : Vec Ideal S16400x2048 .f32) (y : Vec Ideal S16400x1024 .f32) (z : Vec Ideal S16400x512 .f32) (r : Fin 16896) (k : Fin 1024) :
    packed x y z (ix2 r ⟨2048 + k.val, by omega⟩) = padRow y r k := by
  unfold packed padRow
  pointwise

theorem uArr_eq (r : Fin 16896) (k : Fin 1024) : uArr m c (ix2 r ⟨2048 + k.val, by omega⟩) = padRow (uA m c) r k := by
  unfold uArr V
  after_reads_simp
  exact packed_at _ (uA m c) _ r k

/-- The host's convolution, of rows `y` with rows `z` before them. -/
def hostConv (w : Vec Ideal S4x1024 .f32) (b : Vec Ideal S1x1024 .f32) (e : Vec Ideal S16899x1024 .f32) : Vec Ideal S16896x1024 .f32 :=
  addf (F := Ideal) (s := S16896x1024) (φ := .f32) (addf (F := Ideal) (s := S16896x1024) (φ := .f32) (addf (F := Ideal) (s := S16896x1024) (φ := .f32) (addf (F := Ideal) (s := S16896x1024) (φ := .f32) (addf (F := Ideal) (s := S16896x1024) (φ := .f32) (broadcastInDim S16896x1024 ![] bcast_S_S16896x1024 (constant (F := Ideal) S_ .f32 0x00000000#32))
      (mulf (F := Ideal) (s := S16896x1024) (φ := .f32) (broadcastInDim S16896x1024 ![0, 1] bcast_S1x1024_S16896x1024_0_1 (broadcastInDim S1x1024 ![1] bcast_S1024_S1x1024_1
        (shapeCast S1024 (extractStridedSlice S1x1024 ![0, 0] w slices_S4x1024_S1x1024_0_0) shapeCasts_S1x1024_S1024)))
      (extractStridedSlice S16896x1024 ![0, 0] e slices_S16899x1024_S16896x1024_0_0)))
      (mulf (F := Ideal) (s := S16896x1024) (φ := .f32) (broadcastInDim S16896x1024 ![0, 1] bcast_S1x1024_S16896x1024_0_1 (broadcastInDim S1x1024 ![1] bcast_S1024_S1x1024_1
        (shapeCast S1024 (extractStridedSlice S1x1024 ![1, 0] w slices_S4x1024_S1x1024_1_0) shapeCasts_S1x1024_S1024)))
      (extractStridedSlice S16896x1024 ![1, 0] e slices_S16899x1024_S16896x1024_1_0)))
      (mulf (F := Ideal) (s := S16896x1024) (φ := .f32) (broadcastInDim S16896x1024 ![0, 1] bcast_S1x1024_S16896x1024_0_1 (broadcastInDim S1x1024 ![1] bcast_S1024_S1x1024_1
        (shapeCast S1024 (extractStridedSlice S1x1024 ![2, 0] w slices_S4x1024_S1x1024_2_0) shapeCasts_S1x1024_S1024)))
      (extractStridedSlice S16896x1024 ![2, 0] e slices_S16899x1024_S16896x1024_2_0)))
      (mulf (F := Ideal) (s := S16896x1024) (φ := .f32) (broadcastInDim S16896x1024 ![0, 1] bcast_S1x1024_S16896x1024_0_1 (broadcastInDim S1x1024 ![1] bcast_S1024_S1x1024_1
        (shapeCast S1024 (extractStridedSlice S1x1024 ![3, 0] w slices_S4x1024_S1x1024_3_0) shapeCasts_S1x1024_S1024)))
      (extractStridedSlice S16896x1024 ![3, 0] e slices_S16899x1024_S16896x1024_3_0)))
    (broadcastInDim S16896x1024 ![0, 1] bcast_S1x1024_S16896x1024_0_1 (broadcastInDim S1x1024 ![1] bcast_S1024_S1x1024_1
      (shapeCast S1024 b shapeCasts_S1x1024_S1024)))

def after3 (z : Vec Ideal S3x1024 .f32) (y : Vec Ideal S16896x1024 .f32) : Vec Ideal S16899x1024 .f32 :=
  concatenate S16899x1024 0 [⟨S3x1024, z⟩, ⟨S16896x1024, y⟩] concatenates_S3x1024_S16896x1024_S16899x1024_d0

theorem after3_at (u : Vec Ideal S16400x1024 .f32) (n : Fin 16899) (hn : n.val < 16403) (k : Fin 1024) :
    after3 (broadcastInDim S3x1024 ![] bcast_S_S3x1024 (constant (F := Ideal) S_ .f32 0x00000000#32))
      (concatenate S16896x1024 0 [⟨S16400x1024, u⟩, ⟨S496x1024, zeros496⟩] concatenates_S16400x1024_S496x1024_S16896x1024_d0) (ix2 n k) = lead u k n.val := by
  have h1 : after3 (broadcastInDim S3x1024 ![] bcast_S_S3x1024 (constant (F := Ideal) S_ .f32 0x00000000#32))
      (concatenate S16896x1024 0 [⟨S16400x1024, u⟩, ⟨S496x1024, zeros496⟩] concatenates_S16400x1024_S496x1024_S16896x1024_d0) (ix2 n k)
      = if h : n.val < 3 then 0 else padRow u ⟨n.val - 3, by omega⟩ k := by
    unfold after3 padRow
    pointwise
  rw [h1]
  unfold lead
  by_cases h : n.val < 3
  · rw [dif_pos h, dif_neg (by omega)]
  · rw [dif_neg h, dif_pos (by omega)]
    exact congrFun (padRow_lt u ⟨n.val - 3, by omega⟩ (by show n.val - 3 < 16400; omega)) k

theorem pArr_eq (r : Fin 16896) (k : Fin 1024) (hr : r.val < 16400) : pArr m c (ix2 r k) = conv (uA m c) (wA m c) (bA m c) k r.val := by
  have h5 : StableHlo.upto hostOps0 (fun b => m (c, b)) 13 (Proc.tc.devRef main_v5) = broadcastInDim S3x1024 ![] bcast_S_S3x1024 (constant (F := Ideal) S_ .f32 0x00000000#32) := by
    after_reads_simp
  have h7 : StableHlo.upto hostOps0 (fun b => m (c, b)) 13 (Proc.tc.devRef main_v7)
      = concatenate S16896x1024 0 [⟨S16400x1024, uA m c⟩, ⟨S496x1024, zeros496⟩] concatenates_S16400x1024_S496x1024_S16896x1024_d0 := by
    after_reads_simp
    rfl
  unfold pArr V
  after_reads_simp
  show hostConv (wA m c) (bA m c) (after3 (StableHlo.upto hostOps0 (fun b => m (c, b)) 13 (Proc.tc.devRef main_v5)) (StableHlo.upto hostOps0 (fun b => m (c, b)) 13 (Proc.tc.devRef main_v7))) (ix2 r k) = _
  rw [h5, h7]
  unfold conv
  rw [Nat.add_comm r.val 1, Nat.add_comm r.val 2, Nat.add_comm r.val 3]
  rw [← after3_at (uA m c) ⟨r.val, by omega⟩ (by show r.val < 16403; omega) k, ← after3_at (uA m c) ⟨1 + r.val, by omega⟩ (by show 1 + r.val < 16403; omega) k,
    ← after3_at (uA m c) ⟨2 + r.val, by omega⟩ (by show 2 + r.val < 16403; omega) k, ← after3_at (uA m c) ⟨3 + r.val, by omega⟩ (by show 3 + r.val < 16403; omega) k]
  unfold hostConv
  pointwise

/-- The arguments are real. -/
structure Real : Prop where
  u : ∀ i, Finite (uA m c i)
  w : ∀ i, Finite (wA m c i)
  b : ∀ i, Finite (bA m c i)
  a : ∀ i, Finite (aA m c i)

variable {m c}

theorem gate_eq {a p : EReal} (ha : Finite a) (hp : Finite p) : gate a p = chain a p := by
  obtain ⟨s, hs⟩ := Softplus.logistic_finite hp
  obtain ⟨x, rfl⟩ := ha
  obtain ⟨y, rfl⟩ := hp
  unfold gate chain
  rw [hs]
  norm_cast
  ring

theorem Real.lead (h : Real m c) (k : Fin 1024) (n : ℕ) : Finite (lead (uA m c) k n) := by
  unfold Cert.ConvxsRefIdeal.RefValue.lead
  split
  · exact h.u _
  · exact finite_zero

theorem Real.conv (h : Real m c) (k : Fin 1024) (n : ℕ) : Finite (conv (uA m c) (wA m c) (bA m c) k n) :=
  (((((h.w _).mul (h.lead k _)).add ((h.w _).mul (h.lead k _))).add ((h.w _).mul (h.lead k _))).add ((h.w _).mul (h.lead k _))).add (h.b _)

/-- The kernel's gradient of the gate is the reference's, in every row, and zero in the padding. -/
theorem Real.dpre (h : Real m c) (k : Fin 1024) (n : ℕ) : dpre m c k n = grad (uA m c) (wA m c) (bA m c) (aA m c) k n := by
  unfold KernelValue.dpre grad
  by_cases hn : n < 16400
  · have hn' : n < 16896 := by omega
    rw [dif_pos hn, dif_pos hn', aArr_eq, pArr_eq m c ⟨n, hn'⟩ k hn, padRow_lt _ ⟨n, hn'⟩ hn]
    exact gate_eq (h.a _) (h.conv k n)
  · rw [dif_neg hn]
    split
    · rename_i hn'
      rw [aArr_eq, padRow_ge _ ⟨n, hn'⟩ hn]
      exact zero_mul _
    · rfl

theorem before_eq (k : Fin 1024) (n : ℕ) (hn : n < 16403) : before m c k n = lead (uA m c) k n := by
  unfold before lead
  by_cases h : 3 ≤ n
  · rw [dif_pos (by omega), dif_pos (by omega), uArr_eq, padRow_lt _ ⟨n - 3, by omega⟩ (by show n - 3 < 16400; omega)]
  · rw [dif_neg (by omega), dif_neg (by omega)]

theorem grad_ge (k : Fin 1024) (n : ℕ) (hn : ¬n < 16400) : grad (uA m c) (wA m c) (bA m c) (aA m c) k n = 0 := dif_neg hn

theorem du_eq (h : Real m c) : du m c = val_main_v87 (F := Ideal) (uA m c) (wA m c) (bA m c) (aA m c) := by
  funext i
  idx_vars i
  rw [v87_at]
  show wArr m c (ix2 0 i1) * dpre m c i1 (i0.val + 3) + wArr m c (ix2 1 i1) * dpre m c i1 (i0.val + 2)
    + wArr m c (ix2 2 i1) * dpre m c i1 (i0.val + 1) + wArr m c (ix2 3 i1) * dpre m c i1 i0.val = _
  simp only [h.dpre, wArr_eq]
  by_cases hr : i0.val < 16400
  · rw [if_pos hr]; abel
  · rw [if_neg hr, grad_ge _ _ hr, grad_ge _ _ (by omega), grad_ge _ _ (by omega), grad_ge _ _ (by omega)]
    simp only [mul_zero, add_zero]

theorem dw_eq (h : Real m c) : dw m c = val_main_v89 (F := Ideal) (uA m c) (wA m c) (bA m c) (aA m c) := by
  funext i
  idx_vars i
  rw [v89_at]
  show (∑ r : Fin 16896, if i0.val < 4 then dpre m c i1 r.val * before m c i1 (r.val + i0.val) else 0) = _
  simp only [h.dpre]
  rw [Sums.fin_prefix (n := 16400) (by norm_num)]
  · refine Finset.sum_congr rfl fun r _ => ?_
    have hr := r.isLt
    by_cases h4 : i0.val < 4
    · rw [if_pos h4, if_pos h4, before_eq _ _ (by show r.val + i0.val < 16403; omega)]
    · rw [if_neg h4, if_neg h4]
  · intro r hr
    rw [grad_ge _ _ hr, zero_mul, ite_self]

theorem db_eq (h : Real m c) : db m c = val_main_v41 (F := Ideal) (uA m c) (wA m c) (bA m c) (aA m c) := by
  funext i
  idx_vars i
  rw [v41_at]
  show (∑ r : Fin 16896, dpre m c i1 r.val) = _
  simp only [h.dpre]
  exact Sums.fin_prefix (n := 16400) (by norm_num) _ fun r hr => grad_ge _ _ hr

/-- The side conditions the precondition states. -/
instance preFacts : Cert.Pre_conv_xs_finite.Facts := ⟨by decide, by decide, by decide⟩

/-- The precondition says that the arguments are real. -/
theorem real_of_pre {m : (ℓ : Loc nD τ sig) → Buf (Elt Ideal) ℓ} (h : Cert.Pre_ConvxsIdeal_conv_xs_finite m) (c : Dev nD) : Real m c where
  u i := finite_of_test (congrFun (h c).1 i)
  w i := finite_of_test (congrFun (h c).2.1 i)
  b i := finite_of_test (congrFun (h c).2.2.1 i)
  a i := finite_of_test (congrFun (h c).2.2.2 i)

theorem algebraic : Cert.algebraic_ConvxsIdeal_ConvxsRefIdeal_pre_conv_xs_finite := by
  intro m g m' g' hp ha
  refine ⟨fun c => du m c, fun c => dw m c, fun c => db m c, ?_, ?_⟩
  · exact (θ_run _ _ _).mono (fun r h c => ⟨(h c).1.trans (final_du m c), (h c).2.1.trans (final_dw m c),
      (h c).2.2.1.trans (final_db m c), (h c).2.2.2⟩) (Cert.ConvxsIdeal.Value.run_blocks m g)
  · refine (θ_run _ _ _).mono (fun r h c => ?_) (Cert.ConvxsRefIdeal.Value.run m' g')
    obtain ⟨h0, h1, h2, h3⟩ := ha c
    have hr := real_of_pre hp c
    refine ⟨(h c).1.trans ?_, (h c).2.1.trans ?_, (h c).2.2.1.trans ?_, (h c).2.2.2⟩
    · refine ((Cert.ConvxsRefIdeal.Read.val_main_v87_eq ..).trans ?_).trans (du_eq hr).symm
      rw [h0, h1, h2, h3]
    · refine ((Cert.ConvxsRefIdeal.Read.val_main_v89_eq ..).trans ?_).trans (dw_eq hr).symm
      rw [h0, h1, h2, h3]
    · refine ((Cert.ConvxsRefIdeal.Read.val_main_v41_eq ..).trans ?_).trans (db_eq hr).symm
      rw [h0, h1, h2, h3]

/-- The reference ends with its arguments and its counters as they were. -/
theorem frame_ref : Cert.quiescent_ConvxsRefIdeal := fun m g _ =>
  (θ_run Cert.ConvxsRefIdeal.defs _ _).mono (fun r h => ⟨fun c => (h c).2.2.2, sem_eq_zero_of_no_sems (by decide) r.2⟩)
    (Cert.ConvxsRefIdeal.Value.run (F := Ideal) m g)

end Cert.ConvxsEq

end
-- ==== Proof.ActKernel.lean ====
/-
  What the kernel of the squared relu's gradient leaves in its result array: the product of the cotangent's rows with the
  weight's, times twice the root of what the forward pass saved.
-/
module

public import proofs.«01_k».proof.Proof.NormMath
public import proofs.«01_k».proof.Proof.Gen.ActIdeal.Value
public import Idealize.ShloMosaic.Lib.Pipeline.ValueKit
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.ActIdeal.KernelValue

open Cert.ActIdeal Cert.ActIdeal.Gen

/-- An entry: a row's product with a row of the weight, times the slope of the square at the root of the saved value. -/
def entry (d w : Fin 1024 → EReal) (a : EReal) : EReal := (∑ k, d k * w k) * (((2 : ℝ) : EReal) * Ideal.sqrt a)

theorem out_at (x : Vec Ideal S512x1024 .bf16) (w : Vec Ideal S4096x1024 .bf16) (a : Vec Ideal S512x4096 .bf16) (r : Fin 512) (j : Fin 4096) :
    out0_3 (F := Ideal) x w a (ix2 r j) = entry (fun k => x (ix2 r k)) (fun k => w (ix2 j k)) (a (ix2 r j)) := by
  unfold out0_3
  frame_out
  unfold k0_pay1 entry
  pointwise
  rw [Cert.NormMath.ofBits_two]

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

theorem lt_N (t : Fin cfg0.N) : t.val < 33 := lt_of_lt_of_eq t.isLt N_0

/-- The arrays that the region reads: the cotangent, the weight, the saved squares. -/
def dArr : Vec Ideal S16896x1024 .bf16 := V m c main_v9
def wArr : Vec Ideal S4096x1024 .bf16 := V m c main_v10
def aArr : Vec Ideal S16896x4096 .bf16 := V m c main_v6

/-- Row `r` of block `t`. -/
def row (t : ℕ) (ht : t < 33) (r : Fin 512) : Fin 16896 := ⟨512 * t + r.val, by have := r.isLt; omega⟩

theorem row_val (t : ℕ) (ht : t < 33) (r : Fin 512) : (row t ht r).val = 512 * t + r.val := rfl

abbrev bd (t : Fin cfg0.N) : Vec Ideal S512x1024 .bf16 := iblk m c 0 t
abbrev bw (t : Fin cfg0.N) : Vec Ideal S4096x1024 .bf16 := iblk m c 1 t
abbrev ba (t : Fin cfg0.N) : Vec Ideal S512x4096 .bf16 := iblk m c 2 t

theorem bd_at (t : Fin cfg0.N) (r : Fin 512) (k : Fin 1024) : bd m c t (ix2 r k) = dArr m c (ix2 (row t.val (lt_N t) r) k) := by
  unfold bd dArr; blk_ext [iblk, idx t, row_val]
theorem bw_at (t : Fin cfg0.N) (r : Fin 4096) (k : Fin 1024) : bw m c t (ix2 r k) = wArr m c (ix2 r k) := by
  unfold bw wArr; blk_ext [iblk, idx t]
theorem ba_at (t : Fin cfg0.N) (r : Fin 512) (k : Fin 4096) : ba m c t (ix2 r k) = aArr m c (ix2 (row t.val (lt_N t) r) k) := by
  unfold ba aArr; blk_ext [iblk, idx t, row_val]

/-- The result. -/
def dup : Vec Ideal S16896x4096 .bf16 := fun i =>
  entry (fun k => dArr m c (ix2 (i 0) k)) (fun k => wArr m c (ix2 (i 1) k)) (aArr m c (ix2 (i 0) (i 1)))

theorem block_at (t : Fin cfg0.N) (r : Fin 512) (j : Fin 4096) :
    out0_3 (F := Ideal) (bd m c t) (bw m c t) (ba m c t) (ix2 r j) = dup m c (ix2 (row t.val (lt_N t) r) j) := by
  rw [out_at]
  simp only [bd_at, bw_at, ba_at]
  rfl

theorem final_dup : (dats m 0 c).arrAt 3 cfg0.N = dup m c := by
  refine (dats m 0 c).arrAt_eq_of_covers 3 _ (by decide +kernel) fun t _ y => ?_
  blk_simp
  rw [after0_3]
  idx_vars y
  refine (block_at m c t y0 y1).trans ?_
  blk_ext [idx t, row_val]

end Cert.ActIdeal.KernelValue

end
-- ==== Proof.ActClaim.lean ====
/-
  The claims about the squared relu's gradient: the kernel's is the reference's. Nothing is asked of the arguments: the root of
  the square of what is not negative is that again, over the extended reals too.
-/
module

public import proofs.«01_k».proof.Defs
public import proofs.«01_k».proof.Proof.ActKernel
public import proofs.«01_k».proof.Proof.Gen.ActRefIdeal.Run
public import proofs.«01_k».proof.Proof.Gen.ActRefIdeal.Read
public import Idealize.ShloMosaic.Lib.StableHlo.RunRead

@[expose] public section

set_option maxRecDepth 16384

noncomputable section

open Idealize.ShloMosaic Idealize.ShloMosaic.TcCoe Idealize.SL.Sem

namespace Cert.ActEq

open Cert.ActIdeal Cert.ActIdeal.Gen Cert.ActIdeal.KernelValue
open Cert.ActRefIdeal.Read

/-- The root of a square of what is not negative. -/
theorem sqrt_sq {x : EReal} (h : 0 ≤ x) : Ideal.sqrt (x * x) = x := by
  induction x with
  | bot => exact absurd h (by simp)
  | top => rw [EReal.top_mul_top]; rfl
  | coe r =>
    have hr : 0 ≤ r := EReal.coe_nonneg.mp h
    rw [← EReal.coe_mul]
    refine (if_neg (not_lt.mpr (mul_nonneg hr hr))).trans ?_
    rw [Real.sqrt_mul_self hr]

variable (m : (ℓ : Loc nD τ sig) → Buf (Elt Ideal) ℓ) (c : Dev nD)

/-- The arguments, as arrays. -/
abbrev nA : Vec Ideal S16400x1024 .f32 := m ((c : Thread nD τ).loc main_arg0)
abbrev uA : Vec Ideal S1024x4096 .f32 := m ((c : Thread nD τ).loc main_arg1)
abbrev wA : Vec Ideal S4096x1024 .f32 := m ((c : Thread nD τ).loc main_arg2)
abbrev dA : Vec Ideal S16400x1024 .f32 := m ((c : Thread nD τ).loc main_arg3)

theorem wArr_eq : wArr m c = (wA m c : Vec Ideal S4096x1024 .f32) := by
  unfold wArr V; after_reads_simp; rfl

theorem dArr_eq (R : Fin 16896) (k : Fin 1024) : dArr m c (ix2 R k) = if h : R.val < 16400 then dA m c (ix2 ⟨R.val, h⟩ k) else 0 := by
  have e : dArr m c = concatenate S16896x1024 0 [⟨S16400x1024, truncf (F := Ideal) (s := S16400x1024) .bf16 (dA m c) bitsLt_bf16_f32⟩,
      ⟨S496x1024, broadcastInDim S496x1024 ![] bcast_S_S496x1024 (constant (F := Ideal) S_ .bf16 0x0000#16)⟩] concatenates_S16400x1024_S496x1024_S16896x1024_d0 := by
    unfold dArr V; after_reads_simp; rfl
  rw [e]
  pointwise

theorem aArr_eq (R : Fin 16896) (j : Fin 4096) : aArr m c (ix2 R j) = if h : R.val < 16400 then
    max (val_main_v0 (F := Ideal) (nA m c) (uA m c) (ix2 ⟨R.val, h⟩ j)) 0 * max (val_main_v0 (F := Ideal) (nA m c) (uA m c) (ix2 ⟨R.val, h⟩ j)) 0 else 0 := by
  have e : aArr m c = concatenate S16896x4096 0 [⟨S16400x4096, (truncf .bf16 (mulf (F := Ideal) (s := S16400x4096) (φ := .f32)
        (val_main_v1 (F := Ideal) (nA m c) (uA m c)) (val_main_v1 (F := Ideal) (nA m c) (uA m c))) bitsLt_bf16_f32 : Vec Ideal S16400x4096 .bf16)⟩,
      ⟨S496x4096, broadcastInDim S496x4096 ![] bcast_S_S496x4096 (constant S_ .bf16 0x0000#16)⟩] concatenates_S16400x4096_S496x4096_S16896x4096_d0 := by
    unfold aArr V; after_reads_simp; rfl
  rw [e]
  unfold val_main_v1 val_main_call0_v0 val_main_call0_cst
  generalize val_main_v0 (F := Ideal) (nA m c) (uA m c) = y
  pointwise

/-- The reference's result. -/
theorem v15_at (R : Fin 16896) (j : Fin 4096) : val_main_v15 (F := Ideal) (nA m c) (uA m c) (wA m c) (dA m c) (ix2 R j)
    = if h : R.val < 16400 then (if 0 < val_main_v0 (F := Ideal) (nA m c) (uA m c) (ix2 ⟨R.val, h⟩ j) then
        (∑ k, dA m c (ix2 ⟨R.val, h⟩ k) * wA m c (ix2 j k))
          * (((2 : ℝ) : EReal) * max (val_main_v0 (F := Ideal) (nA m c) (uA m c) (ix2 ⟨R.val, h⟩ j)) 0) else 0) else 0 := by
  unfold val_main_v15 val_main_v14 val_main_v13 val_main_v12 val_main_v11 val_main_v10 val_main_v9 val_main_v7 val_main_v6 val_main_v3
    val_main_v2 val_main_v1 val_main_call0_v0 val_main_call0_cst val_main_cst val_main_cst_1 val_main_cst_2 val_main_cst_3
  generalize val_main_v0 (F := Ideal) (nA m c) (uA m c) = y
  pointwise
  simp only [Cert.NormMath.ofBits_two]

theorem dup_eq : dup m c = val_main_v15 (F := Ideal) (nA m c) (uA m c) (wA m c) (dA m c) := by
  funext i
  idx_vars i
  rw [v15_at]
  show entry (fun k => dArr m c (ix2 i0 k)) (fun k => wArr m c (ix2 i1 k)) (aArr m c (ix2 i0 i1)) = _
  unfold entry
  simp only [dArr_eq, aArr_eq, wArr_eq]
  by_cases h : i0.val < 16400
  · simp only [dif_pos h]
    rw [sqrt_sq (le_max_right _ _)]
    split
    · rfl
    · rename_i h0
      rw [max_eq_right (not_lt.mp h0), mul_zero, mul_zero]
  · simp only [dif_neg h, zero_mul, Finset.sum_const_zero]

theorem algebraic : Cert.algebraic_ActIdeal_ActRefIdeal := by
  intro m g m' g' _ ha
  refine ⟨fun c => dup m c, ?_, ?_⟩
  · exact (θ_run _ _ _).mono (fun r h c => ⟨(h c).1.trans (final_dup m c), (h c).2⟩) (Cert.ActIdeal.Value.run_blocks m g)
  · refine (θ_run _ _ _).mono (fun r h c => ?_) (Cert.ActRefIdeal.Value.run m' g')
    obtain ⟨h0, h1, h2, h3⟩ := ha c
    refine ⟨(h c).1.trans ?_, (h c).2⟩
    refine ((Cert.ActRefIdeal.Read.val_main_v15_eq ..).trans ?_).trans (dup_eq m c).symm
    rw [h0, h1, h2, h3]

/-- The reference ends with its arguments and its counters as they were. -/
theorem frame_ref : Cert.quiescent_ActRefIdeal := fun m g _ =>
  (θ_run Cert.ActRefIdeal.defs _ _).mono (fun r h => ⟨fun c => (h c).2, sem_eq_zero_of_no_sems (by decide) r.2⟩)
    (Cert.ActRefIdeal.Value.run (F := Ideal) m g)

end Cert.ActEq

end
-- ==== Proof.GatedMath.lean ====
/-
  The gated norm's gradient over the reals: what the kernel's body writes out and what the reference's chain rule gives,
  for one row of one group, and that the two are one.
-/
module

public import proofs.«01_k».proof.Proof.NormMath
public import proofs.«01_k».proof.Proof.Softplus

@[expose] public section

noncomputable section

open Idealize.ShloMosaic

namespace Cert.GatedMath

open Cert.RealCoe Cert.NormMath

theorem ofBits_512 : Ideal.ofBits .f32 0x44000000#32 = ((512 : ℝ) : EReal) := by
  simp [Ideal.ofBits, Ideal.ieee, -EReal.coe_mul]; norm_num

/-- A column's group, and its place in it. -/
def grp (j : Fin 1024) : Fin 2 := ⟨j.val / 512, by omega⟩
def pos (j : Fin 1024) : Fin 512 := ⟨j.val % 512, by omega⟩

theorem grp_eq (j : Fin 1024) (g : Fin 2) (k : Fin 512) (h : j.val = 512 * g.val + k.val) : grp j = g := Fin.ext (by show j.val / 512 = _; omega)
theorem pos_eq (j : Fin 1024) (g : Fin 2) (k : Fin 512) (h : j.val = 512 * g.val + k.val) : pos j = k := Fin.ext (by show j.val % 512 = _; omega)

/-- The gate's value. -/
def silu (z : EReal) : EReal := z * Softplus.logistic z

/-- The gradient's factor that passes through the mean. -/
def shared {ι : Type} [Fintype ι] (n : EReal) (x g : ι → EReal) : EReal :=
  Ideal.div ((∑ k, x k * g k) * (((-1 / 2 : ℝ) : EReal) * Ideal.div (rms n x) (var n x))) n

/-- The norm's gradient as the kernel adds it up … -/
def twice {ι : Type} [Fintype ι] (n : EReal) (x g : ι → EReal) (j : ι) : EReal :=
  g j * rms n x + x j * shared n x g + shared n x g * x j

/-- … and as the reference does. -/
def once {ι : Type} [Fintype ι] (n : EReal) (x g : ι → EReal) (j : ι) : EReal :=
  g j * rms n x + shared n x g * (((2 : ℝ) : EReal) * x j)

/-- The gate's gradient at the cotangent `a`, as the kernel writes it … -/
def byQuotient (a z : EReal) : EReal :=
  a * Softplus.logistic z
    + (0 - (0 - z * a * Ideal.div 1 ((1 + Ideal.exp (0 - z)) * (1 + Ideal.exp (0 - z))) * 1) * Ideal.exp (0 - z))

/-- … and as the reference does. -/
def byChain (a z : EReal) : EReal := a * Softplus.logistic z + z * a * (Softplus.logistic z * (1 - Softplus.logistic z))

variable {ι : Type} [Fintype ι] {n : ℝ} {x g : ι → EReal}

theorem shared_finite (hn : 0 < n) (hx : ∀ k, Finite (x k)) (hg : ∀ k, Finite (g k)) : Finite (shared (n : EReal) x g) := by
  obtain ⟨S, hS⟩ := Finite.sum (s := Finset.univ) fun k _ => (hx k).mul (hg k)
  choose X hX using hx
  have hv := varR_pos hn X
  unfold shared
  rw [hS, show x = fun k => (X k : EReal) from funext hX, rms_coe hn, var_coe hn, div_real hv.ne', ← EReal.coe_mul, ← EReal.coe_mul, div_real hn.ne']
  exact finite_coe _

theorem twice_eq (hn : 0 < n) (hx : ∀ k, Finite (x k)) (hg : ∀ k, Finite (g k)) (j : ι) :
    twice (n : EReal) x g j = once (n : EReal) x g j := by
  unfold twice once
  obtain ⟨s, hs⟩ := shared_finite hn hx hg
  obtain ⟨r, hr⟩ := rms_finite hn hx
  obtain ⟨X, hX⟩ := hx j
  obtain ⟨G, hG⟩ := hg j
  rw [hs, hr, hX, hG]
  norm_cast
  ring

theorem once_finite (hn : 0 < n) (hx : ∀ k, Finite (x k)) (hg : ∀ k, Finite (g k)) (j : ι) : Finite (once (n : EReal) x g j) :=
  ((hg j).mul (rms_finite hn hx)).add ((shared_finite hn hx hg).mul ((finite_coe 2).mul (hx j)))

theorem byQuotient_eq {a z : EReal} (ha : Finite a) (hz : Finite z) : byQuotient a z = byChain a z := by
  obtain ⟨A, rfl⟩ := ha
  obtain ⟨Z, rfl⟩ := hz
  unfold byQuotient byChain
  have he : Ideal.exp (0 - (Z : EReal)) = ((Real.exp (-Z) : ℝ) : EReal) := by
    rw [zero_sub, ← EReal.coe_neg]; exact Softplus.exp_coe _
  have hp : (1 + Real.exp (-Z)) ≠ 0 := by positivity
  rw [he, Softplus.logistic_coe, ← EReal.coe_one, ← EReal.coe_zero]
  simp only [← EReal.coe_add, ← EReal.coe_mul]
  rw [div_real (mul_ne_zero hp hp)]
  simp only [← EReal.coe_add, ← EReal.coe_mul, ← EReal.coe_sub]
  congr 1
  field_simp
  ring

theorem byQuotient_zero (z : EReal) : byQuotient 0 z = 0 := by
  unfold byQuotient; simp

theorem silu_finite {z : EReal} (hz : Finite z) : Finite (silu z) := hz.mul (Softplus.logistic_finite hz)

end Cert.GatedMath

end
-- ==== Proof.GatedKernel.lean ====
/-
  What the gated norm's backward kernel leaves in its three result arrays: the gradients of the state's output and of the
  gate, group by group, and the weight's gradient, a sum over all rows.
-/
module

public import proofs.«01_k».proof.Proof.GatedMath
public import proofs.«01_k».proof.Proof.Sums
public import proofs.«01_k».proof.Proof.Gen.GatedIdeal.Value
public import Idealize.ShloMosaic.Lib.Pipeline.ValueKit
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.GatedIdeal.KernelValue

open Cert.GatedIdeal Cert.GatedIdeal.Gen Cert.NormMath Cert.GatedMath

section Block

variable (y z : Vec Ideal S768x512 .f32) (w : Vec Ideal S1x512 .f32) (d : Vec Ideal S768x512 .f32)

/-- A row of a group's gated values, and of its cotangent times the weight. -/
abbrev gated (r : Fin 768) (k : Fin 512) : EReal := y (ix2 r k) * silu (z (ix2 r k))
abbrev scaled (r : Fin 768) (k : Fin 512) : EReal := d (ix2 r k) * w (ix2 0 k)
abbrev back (r : Fin 768) (j : Fin 512) : EReal := twice ((512 : ℝ) : EReal) (gated y z r) (scaled w d r) j

theorem pay16_at (i : Fin 1) (k : Fin 512) : k0_pay16 (F := Ideal) y z d (ix2 i k)
    = ∑ r : Fin 768, gated y z r k * rms ((512 : ℝ) : EReal) (gated y z r) * d (ix2 r k) := by
  unfold k0_pay16 k0_pay15 k0_pay13 k0_pay12 k0_pay11 k0_pay10 k0_pay8 k0_pay7 k0_pay6 k0_pay5 k0_pay4 gated silu rms var Softplus.logistic
  pointwise
  simp only [ofBits_512, ofBits_eps]

theorem pay20_at (r : Fin 768) (j : Fin 512) :
    k0_pay20 (F := Ideal) (k0_pay11 y z) (k0_pay14 y z) (k0_pay17 w d) (k0_pay18 y z w d) (k0_pay19 y z) (ix2 r j) = back y z w d r j := by
  unfold back twice shared
  unfold k0_pay20 k0_pay19 k0_pay18 k0_pay17 k0_pay15 k0_pay14 k0_pay13 k0_pay12 k0_pay11 k0_pay10 k0_pay8 k0_pay7 k0_pay6 k0_pay5 k0_pay4 gated scaled silu rms var Softplus.logistic
  pointwise
  simp only [ofBits_512, ofBits_eps, ofBits_neg_half, Finset.univ_unique, Finset.sum_singleton]

theorem pay21_at (r : Fin 768) (j : Fin 512) :
    k0_pay21 (F := Ideal) (k0_pay10 z) (k0_pay11 y z) (k0_pay14 y z) (k0_pay17 w d) (k0_pay18 y z w d) (k0_pay19 y z) (ix2 r j)
      = back y z w d r j * silu (z (ix2 r j)) := by
  rw [← pay20_at]
  unfold k0_pay21
  generalize k0_pay20 (F := Ideal) (k0_pay11 y z) (k0_pay14 y z) (k0_pay17 w d) (k0_pay18 y z w d) (k0_pay19 y z) = b
  unfold k0_pay10 k0_pay8 k0_pay7 k0_pay6 k0_pay5 silu Softplus.logistic
  pointwise

theorem pay22_at (r : Fin 768) (j : Fin 512) :
    k0_pay22 (F := Ideal) (k0_pay4 y) (k0_pay5 z) (k0_pay6 z) (k0_pay8 z) (k0_pay9 z) (k0_pay11 y z) (k0_pay14 y z) (k0_pay17 w d)
        (k0_pay18 y z w d) (k0_pay19 y z) (ix2 r j)
      = byQuotient (y (ix2 r j) * back y z w d r j) (z (ix2 r j)) := by
  rw [← pay20_at]
  unfold k0_pay22
  generalize k0_pay20 (F := Ideal) (k0_pay11 y z) (k0_pay14 y z) (k0_pay17 w d) (k0_pay18 y z w d) (k0_pay19 y z) = b
  unfold k0_pay9 k0_pay8 k0_pay7 k0_pay6 k0_pay5 k0_pay4 byQuotient Softplus.logistic
  pointwise

/-- The second group's lines are the first's. -/
theorem pay34_eq : k0_pay34 (F := Ideal) (k0_pay23 y) (k0_pay24 z) (k0_pay27 z) d = k0_pay16 y z d := rfl

theorem pay37_eq : k0_pay37 (F := Ideal) (k0_pay23 y) (k0_pay24 z) w (k0_pay27 z) d
    = k0_pay21 (k0_pay10 z) (k0_pay11 y z) (k0_pay14 y z) (k0_pay17 w d) (k0_pay18 y z w d) (k0_pay19 y z) := rfl

theorem pay1_eq : k0_pay1 (F := Ideal) (k0_pay25 z) (k0_pay38 (k0_pay23 y) (k0_pay24 z) w (k0_pay27 z) d)
      (k0_pay39 (k0_pay23 y) (k0_pay24 z) w (k0_pay27 z) (k0_pay28 z) (Scalar.ofBits .f32 0x3F800000#32) d)
    = k0_pay22 (k0_pay4 y) (k0_pay5 z) (k0_pay6 z) (k0_pay8 z) (k0_pay9 z) (k0_pay11 y z) (k0_pay14 y z) (k0_pay17 w d)
        (k0_pay18 y z w d) (k0_pay19 y z) := rfl

end Block

variable (m : (ℓ : Loc nD τ sig) → Buf (Elt Ideal) ℓ) (c : Dev nD)

theorem idx : ∀ t : Fin cfg0.N,
    win0_0.index t = ![t.val, 0] ∧ win0_1.index t = ![t.val, 1] ∧ win0_2.index t = ![t.val, 2] ∧ win0_3.index t = ![t.val, 3]
    ∧ win0_4.index t = ![0, 0] ∧ win0_5.index t = ![0, 1] ∧ win0_6.index t = ![t.val, 2] ∧ win0_7.index t = ![t.val, 3]
    ∧ win0_8.index t = ![t.val, 0] ∧ win0_9.index t = ![t.val, 0] ∧ win0_10.index t = ![0, 0] :=
  (by decide +kernel : ∀ t : Fin grid0.N, _)

theorem lt_N (t : Fin cfg0.N) : t.val < 22 := lt_of_lt_of_eq t.isLt N_0

/-- The arrays that the region reads: the state's output, the projection with the gate's columns, the weight, and the
    cotangent, whose right half is read. -/
def yArr : Vec Ideal S16896x1024 .f32 := V m c main_v10
def zArr : Vec Ideal S16896x3584 .f32 := V m c main_v4
def wArr : Vec Ideal S1x1024 .f32 := V m c main_arg2
def dArr : Vec Ideal S16896x2048 .f32 := V m c main_v8

/-- Row `r` of block `t`. -/
def row (t : ℕ) (ht : t < 22) (r : Fin 768) : Fin 16896 := ⟨768 * t + r.val, by have := r.isLt; omega⟩

theorem row_val (t : ℕ) (ht : t < 22) (r : Fin 768) : (row t ht r).val = 768 * t + r.val := rfl

/-- One row's values in group `g`. -/
def yRow (R : Fin 16896) (g : Fin 2) (k : Fin 512) : EReal := yArr m c (ix2 R ⟨512 * g.val + k.val, by omega⟩)
def zRow (R : Fin 16896) (g : Fin 2) (k : Fin 512) : EReal := zArr m c (ix2 R ⟨1024 + (512 * g.val + k.val), by omega⟩)
def wRow (g : Fin 2) (k : Fin 512) : EReal := wArr m c (ix2 0 ⟨512 * g.val + k.val, by omega⟩)
def dRow (R : Fin 16896) (g : Fin 2) (k : Fin 512) : EReal := dArr m c (ix2 R ⟨1024 + (512 * g.val + k.val), by omega⟩)

def gRow (R : Fin 16896) (g : Fin 2) (k : Fin 512) : EReal := yRow m c R g k * silu (zRow m c R g k)
def sRow (R : Fin 16896) (g : Fin 2) (k : Fin 512) : EReal := dRow m c R g k * wRow m c g k
def bk (R : Fin 16896) (g : Fin 2) (k : Fin 512) : EReal := twice ((512 : ℝ) : EReal) (gRow m c R g) (sRow m c R g) k

/-- The three results, at one row, group and place. -/
def dyAt (R : Fin 16896) (g : Fin 2) (k : Fin 512) : EReal := bk m c R g k * silu (zRow m c R g k)
def dzAt (R : Fin 16896) (g : Fin 2) (k : Fin 512) : EReal := byQuotient (yRow m c R g k * bk m c R g k) (zRow m c R g k)
def dwAt (R : Fin 16896) (g : Fin 2) (k : Fin 512) : EReal := gRow m c R g k * rms ((512 : ℝ) : EReal) (gRow m c R g) * dRow m c R g k

def dy : Vec Ideal S16896x1024 .f32 := fun i => dyAt m c (i 0) (grp (i 1)) (pos (i 1))
def dz : Vec Ideal S16896x1024 .f32 := fun i => dzAt m c (i 0) (grp (i 1)) (pos (i 1))
def dw : Vec Ideal S1x1024 .f32 := fun i => ∑ R : Fin 16896, dwAt m c R (grp (i 1)) (pos (i 1))

theorem y0_at (t : Fin cfg0.N) (r : Fin 768) (k : Fin 512) : (iblk m c 0 t : Vec Ideal S768x512 .f32) (ix2 r k) = yRow m c (row t.val (lt_N t) r) 0 k := by
  unfold yRow yArr; blk_ext [iblk, idx t, row_val]
theorem z0_at (t : Fin cfg0.N) (r : Fin 768) (k : Fin 512) : (iblk m c 2 t : Vec Ideal S768x512 .f32) (ix2 r k) = zRow m c (row t.val (lt_N t) r) 0 k := by
  unfold zRow zArr; blk_ext [iblk, idx t, row_val]
theorem w0_at (t : Fin cfg0.N) (k : Fin 512) : (iblk m c 4 t : Vec Ideal S1x512 .f32) (ix2 0 k) = wRow m c 0 k := by
  unfold wRow wArr; blk_ext [iblk, idx t]
theorem d0_at (t : Fin cfg0.N) (r : Fin 768) (k : Fin 512) : (iblk m c 6 t : Vec Ideal S768x512 .f32) (ix2 r k) = dRow m c (row t.val (lt_N t) r) 0 k := by
  unfold dRow dArr; blk_ext [iblk, idx t, row_val]
theorem gated0 (t : Fin cfg0.N) (r : Fin 768) : gated (iblk m c 0 t) (iblk m c 2 t) r = gRow m c (row t.val (lt_N t) r) 0 := by
  funext k; unfold gated gRow; rw [y0_at, z0_at]
theorem scaled0 (t : Fin cfg0.N) (r : Fin 768) : scaled (iblk m c 4 t) (iblk m c 6 t) r = sRow m c (row t.val (lt_N t) r) 0 := by
  funext k; unfold scaled sRow; rw [w0_at, d0_at]

theorem y1_at (t : Fin cfg0.N) (r : Fin 768) (k : Fin 512) : (iblk m c 1 t : Vec Ideal S768x512 .f32) (ix2 r k) = yRow m c (row t.val (lt_N t) r) 1 k := by
  unfold yRow yArr; blk_ext [iblk, idx t, row_val]
theorem z1_at (t : Fin cfg0.N) (r : Fin 768) (k : Fin 512) : (iblk m c 3 t : Vec Ideal S768x512 .f32) (ix2 r k) = zRow m c (row t.val (lt_N t) r) 1 k := by
  unfold zRow zArr; blk_ext [iblk, idx t, row_val]
theorem w1_at (t : Fin cfg0.N) (k : Fin 512) : (iblk m c 5 t : Vec Ideal S1x512 .f32) (ix2 0 k) = wRow m c 1 k := by
  unfold wRow wArr; blk_ext [iblk, idx t]
theorem d1_at (t : Fin cfg0.N) (r : Fin 768) (k : Fin 512) : (iblk m c 7 t : Vec Ideal S768x512 .f32) (ix2 r k) = dRow m c (row t.val (lt_N t) r) 1 k := by
  unfold dRow dArr; blk_ext [iblk, idx t, row_val]
theorem gated1 (t : Fin cfg0.N) (r : Fin 768) : gated (iblk m c 1 t) (iblk m c 3 t) r = gRow m c (row t.val (lt_N t) r) 1 := by
  funext k; unfold gated gRow; rw [y1_at, z1_at]
theorem scaled1 (t : Fin cfg0.N) (r : Fin 768) : scaled (iblk m c 5 t) (iblk m c 7 t) r = sRow m c (row t.val (lt_N t) r) 1 := by
  funext k; unfold scaled sRow; rw [w1_at, d1_at]

/-- What a point stores in the columns of each group. -/
theorem piece_dy1 (t : Fin cfg0.N) {r : Fin 768} {j : Fin 1024} {x : S768x512.Idx} (h0 : r.val = (x 0).val) (h1 : j.val = 512 + (x 1).val) :
    k0_pay37 (F := Ideal) (k0_pay23 (iblk m c 1 t)) (k0_pay24 (iblk m c 3 t)) (iblk m c 5 t) (k0_pay27 (iblk m c 3 t)) (iblk m c 7 t) x = dy m c (ix2 (row t.val (lt_N t) r) j) := by
  idx_vars x
  obtain rfl : r = x0 := Fin.ext h0
  rw [pay37_eq, pay21_at]
  show _ = dyAt m c (row t.val (lt_N t) r) (grp j) (pos j)
  rw [grp_eq j 1 x1 h1, pos_eq j 1 x1 h1]
  unfold dyAt bk
  rw [back, gated1, scaled1, z1_at]

theorem piece_dy0 (t : Fin cfg0.N) {r : Fin 768} {j : Fin 1024} {x : S768x512.Idx} (h0 : r.val = (x 0).val) (h1 : j.val = (x 1).val) :
    k0_pay21 (F := Ideal) (k0_pay10 (iblk m c 2 t)) (k0_pay11 (iblk m c 0 t) (iblk m c 2 t)) (k0_pay14 (iblk m c 0 t) (iblk m c 2 t)) (k0_pay17 (iblk m c 4 t) (iblk m c 6 t))
        (k0_pay18 (iblk m c 0 t) (iblk m c 2 t) (iblk m c 4 t) (iblk m c 6 t)) (k0_pay19 (iblk m c 0 t) (iblk m c 2 t)) x = dy m c (ix2 (row t.val (lt_N t) r) j) := by
  idx_vars x
  obtain rfl : r = x0 := Fin.ext h0
  rw [pay21_at]
  show _ = dyAt m c (row t.val (lt_N t) r) (grp j) (pos j)
  rw [grp_eq j 0 x1 (h1.trans (Nat.zero_add _).symm), pos_eq j 0 x1 (h1.trans (Nat.zero_add _).symm)]
  unfold dyAt bk
  rw [back, gated0, scaled0, z0_at]

theorem piece_dz1 (t : Fin cfg0.N) {r : Fin 768} {j : Fin 1024} {x : S768x512.Idx} (h0 : r.val = (x 0).val) (h1 : j.val = 512 + (x 1).val) :
    k0_pay1 (F := Ideal) (k0_pay25 (iblk m c 3 t))
        (k0_pay38 (k0_pay23 (iblk m c 1 t)) (k0_pay24 (iblk m c 3 t)) (iblk m c 5 t) (k0_pay27 (iblk m c 3 t)) (iblk m c 7 t))
        (k0_pay39 (k0_pay23 (iblk m c 1 t)) (k0_pay24 (iblk m c 3 t)) (iblk m c 5 t) (k0_pay27 (iblk m c 3 t)) (k0_pay28 (iblk m c 3 t))
          (Scalar.ofBits .f32 0x3F800000#32) (iblk m c 7 t)) x = dz m c (ix2 (row t.val (lt_N t) r) j) := by
  idx_vars x
  obtain rfl : r = x0 := Fin.ext h0
  rw [pay1_eq, pay22_at]
  show _ = dzAt m c (row t.val (lt_N t) r) (grp j) (pos j)
  rw [grp_eq j 1 x1 h1, pos_eq j 1 x1 h1]
  unfold dzAt bk
  rw [back, gated1, scaled1, y1_at, z1_at]

theorem piece_dz0 (t : Fin cfg0.N) {r : Fin 768} {j : Fin 1024} {x : S768x512.Idx} (h0 : r.val = (x 0).val) (h1 : j.val = (x 1).val) :
    k0_pay22 (F := Ideal) (k0_pay4 (iblk m c 0 t)) (k0_pay5 (iblk m c 2 t)) (k0_pay6 (iblk m c 2 t)) (k0_pay8 (iblk m c 2 t)) (k0_pay9 (iblk m c 2 t))
        (k0_pay11 (iblk m c 0 t) (iblk m c 2 t)) (k0_pay14 (iblk m c 0 t) (iblk m c 2 t)) (k0_pay17 (iblk m c 4 t) (iblk m c 6 t))
        (k0_pay18 (iblk m c 0 t) (iblk m c 2 t) (iblk m c 4 t) (iblk m c 6 t)) (k0_pay19 (iblk m c 0 t) (iblk m c 2 t)) x = dz m c (ix2 (row t.val (lt_N t) r) j) := by
  idx_vars x
  obtain rfl : r = x0 := Fin.ext h0
  rw [pay22_at]
  show _ = dzAt m c (row t.val (lt_N t) r) (grp j) (pos j)
  rw [grp_eq j 0 x1 (h1.trans (Nat.zero_add _).symm), pos_eq j 0 x1 (h1.trans (Nat.zero_add _).symm)]
  unfold dzAt bk
  rw [back, gated0, scaled0, y0_at, z0_at]

/-- What a point leaves in the two row-blocked buffers. -/
theorem dy_block (t : Fin cfg0.N) (r : Fin 768) (j : Fin 1024) : (outsAt0 m c t.val t.isLt).1 (ix2 r j) = dy m c (ix2 (row t.val (lt_N t) r) j) := by
  have ht := lt_N t
  by_cases h : t.val % 22 = 0
  · rw [outsAt0_A m c t h (by omega)]
    frame_out
    canon_tiles x hx using View.cover_of_tiledBy _ ![768, 512] (by sl_kernel_rfl) _
    exacts [piece_dy1 m c t hx0 hx1, piece_dy0 m c t hx0 hx1]
  · rw [outsAt0_B m c t h (by omega)]
    frame_out
    canon_tiles x hx using View.cover_of_tiledBy _ ![768, 512] (by sl_kernel_rfl) _
    exacts [piece_dy1 m c t hx0 hx1, piece_dy0 m c t hx0 hx1]

theorem dz_block (t : Fin cfg0.N) (r : Fin 768) (j : Fin 1024) : (outsAt0 m c t.val t.isLt).2.1 (ix2 r j) = dz m c (ix2 (row t.val (lt_N t) r) j) := by
  have ht := lt_N t
  by_cases h : t.val % 22 = 0
  · rw [outsAt0_A m c t h (by omega)]
    frame_out
    canon_tiles x hx using View.cover_of_tiledBy _ ![768, 512] (by sl_kernel_rfl) _
    exacts [piece_dz1 m c t hx0 hx1, piece_dz0 m c t hx0 hx1]
  · rw [outsAt0_B m c t h (by omega)]
    frame_out
    canon_tiles x hx using View.cover_of_tiledBy _ ![768, 512] (by sl_kernel_rfl) _
    exacts [piece_dz1 m c t hx0 hx1, piece_dz0 m c t hx0 hx1]

/-- A point's part of the weight's gradient, and what it leaves in that buffer. -/
abbrev pdw (t : Fin cfg0.N) : Vec Ideal S1x1024 .f32 := k0_pay2 (F := Ideal) (k0_pay16 (iblk m c 0 t) (iblk m c 2 t) (iblk m c 6 t))
  (k0_pay34 (k0_pay23 (iblk m c 1 t)) (k0_pay24 (iblk m c 3 t)) (k0_pay27 (iblk m c 3 t)) (iblk m c 7 t))

theorem outs_first (t : Fin cfg0.N) (h : t.val % 22 = 0) : (outsAt0 m c t.val t.isLt).2.2 = pdw m c t := by
  have ht := lt_N t
  rw [outsAt0_A m c t h (by omega)]
  frame_out

theorem outs_later (t : Fin cfg0.N) (h : ¬t.val % 22 = 0) : (outsAt0 m c t.val t.isLt).2.2
    = addf (F := Ideal) (s := S1x1024) (φ := .f32) (outsAt0 m c (t.val - 1) (Nat.lt_of_le_of_lt (Nat.sub_le _ _) t.isLt)).2.2 (pdw m c t) := by
  have ht := lt_N t
  rw [outsAt0_B m c t h (by omega)]
  frame_out [k0_pay3, shapeCast_self]

theorem joined (a b : Vec Ideal S1x512 .f32) (j : Fin 1024) :
    k0_pay2 (F := Ideal) a b (ix2 0 j) = if j.val < 512 then a (ix2 0 (pos j)) else b (ix2 0 (pos j)) := by
  have h1 : k0_pay2 (F := Ideal) a b (ix2 0 j) = if h : j.val < 512 then a (ix2 0 ⟨j.val, h⟩) else b (ix2 0 ⟨j.val - 512, by omega⟩) := by
    unfold k0_pay2
    pointwise
  rw [h1]
  by_cases h : j.val < 512
  · rw [dif_pos h, if_pos h]; congr 2; exact Fin.ext (by show j.val = j.val % 512; omega)
  · rw [dif_neg h, if_neg h]; congr 2; exact Fin.ext (by show j.val - 512 = j.val % 512; omega)

theorem pdw_at (t : Fin cfg0.N) (i : S1x1024.Idx) : pdw m c t i = ∑ r : Fin 768, dwAt m c (row t.val (lt_N t) r) (grp (i 1)) (pos (i 1)) := by
  idx_vars i
  obtain rfl : i0 = 0 := Subsingleton.elim _ _
  show pdw m c t (ix2 0 i1) = ∑ r : Fin 768, dwAt m c (row t.val (lt_N t) r) (grp i1) (pos i1)
  unfold pdw dwAt
  rw [joined, pay34_eq, pay16_at, pay16_at]
  by_cases h : i1.val < 512
  · rw [if_pos h, show grp i1 = 0 from Fin.ext (by show i1.val / 512 = 0; omega)]
    exact Finset.sum_congr rfl fun r _ => by rw [gated0, d0_at]
  · rw [if_neg h, show grp i1 = 1 from Fin.ext (by show i1.val / 512 = 1; omega)]
    exact Finset.sum_congr rfl fun r _ => by rw [gated1, d1_at]

theorem final_dy : (dats m 0 c).arrAt 8 cfg0.N = dy m c := by
  refine (dats m 0 c).arrAt_eq_of_covers 8 _ (by decide +kernel) fun t _ y => ?_
  blk_simp
  rw [after0_8]
  idx_vars y
  refine (dy_block m c t y0 y1).trans ?_
  blk_ext [idx t, row_val]

theorem final_dz : (dats m 0 c).arrAt 9 cfg0.N = dz m c := by
  refine (dats m 0 c).arrAt_eq_of_covers 9 _ (by decide +kernel) fun t _ y => ?_
  blk_simp
  rw [after0_9]
  idx_vars y
  refine (dz_block m c t y0 y1).trans ?_
  blk_ext [idx t, row_val]

theorem dw_last (t : Fin cfg0.N) (h : t.val % 22 = 21) (i : S1x1024.Idx) : (outsAt0 m c t.val t.isLt).2.2 i = dw m c i := by
  have ht := lt_N t
  refine Sums.acc_blocks (a := 22) (b := 768) (by norm_num) _ (fun k hk => (outsAt0 m c k (lt_of_lt_of_eq hk N_0.symm)).2.2 i) row row_val
      (fun s h0 => ?_) (fun s h0 => ?_) t.val ht (by omega)
  · rw [outs_first m c ⟨s.val, _⟩ h0]; exact pdw_at m c ⟨s.val, _⟩ i
  · rw [outs_later m c ⟨s.val, _⟩ h0]; exact congrArg (_ + ·) (pdw_at m c ⟨s.val, _⟩ i)

theorem final_dw : (dats m 0 c).arrAt 10 cfg0.N = dw m c := by
  refine (dats m 0 c).arrAt_eq_of_covers 10 _ (by decide +kernel) fun t hf y => ?_
  blk_simp
  rw [after0_10]
  idx_vars y
  refine (dw_last m c t ((flush0_10 t).mp hf) (ix2 y0 y1)).trans (congrArg (dw m c) ?_)
  funext a
  apply Fin.ext
  fin_cases a
  · blk_simp [idx t]
  · blk_simp [idx t]

end Cert.GatedIdeal.KernelValue

end
-- ==== Proof.GatedRef.lean ====
/-
  What the reference of the gated norm's gradient computes, read at an index: the chain rule's gradients of the state's output and
  of the gate, and the weight's gradient as a sum over the sequence.
-/
module

public import proofs.«01_k».proof.Proof.GatedMath
public import proofs.«01_k».proof.Proof.Gen.GatedRefIdeal.Read

@[expose] public section

set_option maxRecDepth 16384

noncomputable section

open Idealize.ShloMosaic Idealize.ShloMosaic.TcCoe

namespace Cert.GatedRefIdeal.RefValue

open Cert.GatedRefIdeal Cert.GatedRefIdeal.Gen Cert.GatedRefIdeal.Read Cert.NormMath Cert.GatedMath

variable (y z : Vec Ideal S16400x1024 .f32) (w : Vec Ideal S1x1024 .f32) (d : Vec Ideal S16400x1024 .f32)

/-- One row's gated values and scaled cotangents in a group. -/
def gRow (r : Fin 16400) (g : Fin 2) (k : Fin 512) : EReal := y (ix2 r ⟨512 * g.val + k.val, by omega⟩) * silu (z (ix2 r ⟨512 * g.val + k.val, by omega⟩))
def sRow (r : Fin 16400) (g : Fin 2) (k : Fin 512) : EReal := d (ix2 r ⟨512 * g.val + k.val, by omega⟩) * w (ix2 0 ⟨512 * g.val + k.val, by omega⟩)

theorem sigma_at (r : Fin 16400) (k : Fin 1024) : val_main_v0_2 (F := Ideal) z (ix2 r k) = Softplus.logistic (z (ix2 r k)) := by
  unfold Softplus.logistic val_main_v0_2 val_main_call0_v4 val_main_call0_v3 val_main_call0_v2 val_main_call0_v1 val_main_call0_v0 val_main_call0_cst val_main_call0_cst_0
  pointwise
  simp only [zero_sub]

theorem silu_at (r : Fin 16400) (k : Fin 1024) : val_main_v0_0 (F := Ideal) z (ix2 r k) = silu (z (ix2 r k)) := by
  unfold silu
  rw [← sigma_at]
  rfl

theorem v2_at (r : Fin 16400) (g : Fin 2) (k : Fin 512) : val_main_v2 (F := Ideal) y z (ix3 r g k) = gRow y z r g k := by
  unfold gRow
  rw [← silu_at]
  unfold val_main_v2 val_main_v1
  generalize val_main_v0_0 (F := Ideal) z = s
  pointwise
  simp only [Nat.mul_comm g.val 512]

theorem v30_at (r : Fin 16400) (g : Fin 2) (k : Fin 512) : val_main_v30 (F := Ideal) w d (ix3 r g k) = sRow w d r g k := by
  unfold sRow val_main_v30 val_main_v27 val_main_v26 val_main_v20 val_main_v19
  pointwise
  simp only [Nat.mul_comm g.val 512]

theorem v11_at (r : Fin 16400) (g : Fin 2) (i : Fin 1) : val_main_v11 (F := Ideal) y z (ix3 r g i) = var ((512 : ℝ) : EReal) (gRow y z r g) := by
  unfold var
  simp only [← v2_at]
  unfold val_main_v11 val_main_v10 val_main_v9 val_main_v8 val_main_v7 val_main_v6 val_main_v3 val_main_cst_0 val_main_cst_1 val_main_cst_2
  generalize val_main_v2 (F := Ideal) y z = x
  pointwise
  simp only [ofBits_512, ofBits_eps]

theorem v12_at (r : Fin 16400) (g : Fin 2) (i : Fin 1) : val_main_v12 (F := Ideal) y z (ix3 r g i) = rms ((512 : ℝ) : EReal) (gRow y z r g) := by
  unfold val_main_v12 rms
  rw [← v11_at y z r g i]
  rfl

theorem v42_at (r : Fin 16400) (g : Fin 2) (k : Fin 512) :
    val_main_v42 (F := Ideal) y z w d (ix3 r g k) = once ((512 : ℝ) : EReal) (gRow y z r g) (sRow w d r g) k := by
  unfold once shared
  simp only [← v12_at y z r g 0, ← v11_at y z r g 0, ← v2_at, ← v30_at]
  unfold val_main_v42 val_main_v41 val_main_v40 val_main_v39 val_main_v38 val_main_v37 val_main_v36 val_main_v35 val_main_v34 val_main_v33 val_main_v32 val_main_v31
    val_main_v15 val_main_v14 val_main_v13 val_main_v5 val_main_v4 val_main_cst val_main_cst_3 val_main_cst_6 val_main_cst_7 val_main_cst_8
  generalize val_main_v12 (F := Ideal) y z = r12
  generalize val_main_v11 (F := Ideal) y z = r11
  generalize val_main_v30 (F := Ideal) w d = g30
  generalize val_main_v2 (F := Ideal) y z = x
  pointwise
  simp only [ofBits_512, ofBits_two, ofBits_neg_half, Finset.univ_unique, Finset.sum_singleton]
  rfl

theorem v43_at (r : Fin 16400) (j : Fin 1024) :
    val_main_v43 (F := Ideal) y z w d (ix2 r j) = once ((512 : ℝ) : EReal) (gRow y z r (grp j)) (sRow w d r (grp j)) (pos j) := by
  rw [← v42_at]
  unfold val_main_v43
  generalize val_main_v42 (F := Ideal) y z w d = x
  unfold grp pos
  pointwise

theorem v45_at (r : Fin 16400) (j : Fin 1024) :
    val_main_v45 (F := Ideal) y z w d (ix2 r j) = once ((512 : ℝ) : EReal) (gRow y z r (grp j)) (sRow w d r (grp j)) (pos j) * silu (z (ix2 r j)) := by
  rw [← v43_at, ← silu_at]
  rfl

theorem v46_at (r : Fin 16400) (j : Fin 1024) :
    val_main_v46 (F := Ideal) y z w d (ix2 r j)
      = byChain (y (ix2 r j) * once ((512 : ℝ) : EReal) (gRow y z r (grp j)) (sRow w d r (grp j)) (pos j)) (z (ix2 r j)) := by
  rw [← v43_at]
  unfold byChain
  rw [← sigma_at]
  unfold val_main_v46 val_main_call1_v2 val_main_call1_v1 val_main_call1_v0 val_main_v44 val_main_v0_1 val_main_call0_v7 val_main_call0_v6 val_main_call0_cst_1
  generalize val_main_v43 (F := Ideal) y z w d = x
  generalize val_main_v0_2 (F := Ideal) z = s
  pointwise

theorem v18_at (r : Fin 16400) (j : Fin 1024) :
    val_main_v18 (F := Ideal) y z (ix2 r j) = gRow y z r (grp j) (pos j) * rms ((512 : ℝ) : EReal) (gRow y z r (grp j)) := by
  rw [← v2_at, ← v12_at y z r _ 0]
  unfold val_main_v18 val_main_v17 val_main_v16
  generalize val_main_v2 (F := Ideal) y z = x
  generalize val_main_v12 (F := Ideal) y z = s
  unfold grp pos
  pointwise

theorem v29_at (i : Fin 1) (j : Fin 1024) : val_main_v29 (F := Ideal) y z d (ix2 i j)
    = ∑ r : Fin 16400, gRow y z r (grp j) (pos j) * rms ((512 : ℝ) : EReal) (gRow y z r (grp j)) * d (ix2 r j) := by
  simp only [← v18_at]
  unfold val_main_v29 val_main_v28 val_main_v25 val_main_v24 val_main_v23 val_main_cst_4 val_main_cst_5
  generalize val_main_v18 (F := Ideal) y z = x
  pointwise
  simp only [Finset.univ_unique, Finset.sum_singleton]

theorem v48_at (r : Fin 16896) (j : Fin 1024) :
    val_main_v48 (F := Ideal) y z w d (ix2 r j) = if hr : r.val < 16400 then val_main_v45 (F := Ideal) y z w d (ix2 ⟨r.val, hr⟩ j) else 0 := by
  unfold val_main_v48 val_main_v47 val_main_cst_9
  generalize val_main_v45 (F := Ideal) y z w d = x
  pointwise

theorem v50_at (r : Fin 16896) (j : Fin 1024) :
    val_main_v50 (F := Ideal) y z w d (ix2 r j) = if hr : r.val < 16400 then val_main_v46 (F := Ideal) y z w d (ix2 ⟨r.val, hr⟩ j) else 0 := by
  unfold val_main_v50 val_main_v49 val_main_cst_10
  generalize val_main_v46 (F := Ideal) y z w d = x
  pointwise

end Cert.GatedRefIdeal.RefValue

end
-- ==== Proof.GatedClaim.lean ====
/-
  The claims about the gated norm's gradient: the kernel's three arrays are the derivative's, given real arguments.
-/
module

public import proofs.«01_k».proof.Defs
public import proofs.«01_k».proof.Proof.MlpClaim
public import proofs.«01_k».proof.Proof.GatedKernel
public import proofs.«01_k».proof.Proof.GatedRef
public import proofs.«01_k».proof.Proof.Gen.GatedRefIdeal.Run
public import Idealize.ShloMosaic.Lib.StableHlo.RunRead

@[expose] public section

set_option maxRecDepth 16384

noncomputable section

open Idealize.ShloMosaic Idealize.ShloMosaic.TcCoe Idealize.SL.Sem

namespace Cert.GatedEq

open Cert.GatedIdeal Cert.GatedIdeal.Gen Cert.GatedIdeal.KernelValue Cert.RealCoe Cert.NormMath Cert.GatedMath
open Cert.MlpResidualEq (padRow pad_at padRow_lt padRow_ge)
open Cert.GatedRefIdeal.RefValue (v45_at v46_at v48_at v50_at v29_at)
open Cert.GatedRefIdeal.Read (val_main_v48 val_main_v50 val_main_v29)

variable (m : (ℓ : Loc nD τ sig) → Buf (Elt Ideal) ℓ) (c : Dev nD)

/-- The arguments, as arrays. -/
abbrev yA : Vec Ideal S16400x1024 .f32 := m ((c : Thread nD τ).loc main_arg0)
abbrev zA : Vec Ideal S16400x1024 .f32 := m ((c : Thread nD τ).loc main_arg1)
abbrev wA : Vec Ideal S1x1024 .f32 := m ((c : Thread nD τ).loc main_arg2)
abbrev dA : Vec Ideal S16400x1024 .f32 := m ((c : Thread nD τ).loc main_arg3)

theorem wArr_eq : wArr m c = wA m c := V_main_arg2 m c

theorem yArr_eq (r : Fin 16896) (k : Fin 1024) : yArr m c (ix2 r k) = padRow (yA m c) r k := by
  rw [← pad_at]; refine congrFun ?_ _; unfold yArr V; after_results

/-- The rows of the wide arrays, from their parts: only the columns from the thousand and twenty-fourth on are read. -/
def projOf (x : Vec Ideal S16400x1024 .f32) (z : Vec Ideal S16400x1024 .f32) (u : Vec Ideal S16400x1536 .f32) : Vec Ideal S16896x3584 .f32 :=
  concatenate S16896x3584 0 [⟨S16400x3584, concatenate S16400x3584 1 [⟨S16400x1024, x⟩, ⟨S16400x1024, z⟩, ⟨S16400x1536, u⟩]
    concatenates_S16400x1024_S16400x1024_S16400x1536_S16400x3584_d1⟩,
    ⟨S496x3584, broadcastInDim S496x3584 ![] bcast_S_S496x3584 (constant (F := Ideal) S_ .f32 0x00000000#32)⟩]
    concatenates_S16400x3584_S496x3584_S16896x3584_d0

theorem projOf_at (x z : Vec Ideal S16400x1024 .f32) (u : Vec Ideal S16400x1536 .f32) (r : Fin 16896) (k : Fin 1024) :
    projOf x z u (ix2 r ⟨1024 + k.val, by omega⟩) = padRow z r k := by
  unfold projOf padRow
  pointwise

def dcatOf (x d : Vec Ideal S16400x1024 .f32) : Vec Ideal S16896x2048 .f32 :=
  concatenate S16896x2048 0 [⟨S16400x2048, concatenate S16400x2048 1 [⟨S16400x1024, x⟩, ⟨S16400x1024, d⟩]
    concatenates_S16400x1024_S16400x1024_S16400x2048_d1⟩,
    ⟨S496x2048, broadcastInDim S496x2048 ![] bcast_S_S496x2048 (constant (F := Ideal) S_ .f32 0x00000000#32)⟩]
    concatenates_S16400x2048_S496x2048_S16896x2048_d0

theorem dcatOf_at (x d : Vec Ideal S16400x1024 .f32) (r : Fin 16896) (k : Fin 1024) :
    dcatOf x d (ix2 r ⟨1024 + k.val, by omega⟩) = padRow d r k := by
  unfold dcatOf padRow
  pointwise

theorem zArr_eq (r : Fin 16896) (k : Fin 1024) : zArr m c (ix2 r ⟨1024 + k.val, by omega⟩) = padRow (zA m c) r k := by
  unfold zArr V
  after_reads_simp
  exact projOf_at _ (zA m c) _ r k

theorem dArr_eq (r : Fin 16896) (k : Fin 1024) : dArr m c (ix2 r ⟨1024 + k.val, by omega⟩) = padRow (dA m c) r k := by
  unfold dArr V
  after_reads_simp
  exact dcatOf_at _ (dA m c) r k

/-- The column of a group and a place. -/
def col (g : Fin 2) (k : Fin 512) : Fin 1024 := ⟨512 * g.val + k.val, by omega⟩

theorem col_eq (j : Fin 1024) : col (grp j) (pos j) = j := Fin.ext (by show 512 * (j.val / 512) + j.val % 512 = j.val; omega)

theorem yRow_eq (R : Fin 16896) (g : Fin 2) (k : Fin 512) : yRow m c R g k = padRow (yA m c) R (col g k) := yArr_eq m c R (col g k)
theorem zRow_eq (R : Fin 16896) (g : Fin 2) (k : Fin 512) : zRow m c R g k = padRow (zA m c) R (col g k) := zArr_eq m c R (col g k)
theorem dRow_eq (R : Fin 16896) (g : Fin 2) (k : Fin 512) : dRow m c R g k = padRow (dA m c) R (col g k) := dArr_eq m c R (col g k)
theorem wRow_eq (g : Fin 2) (k : Fin 512) : wRow m c g k = wA m c (ix2 0 (col g k)) := congrFun (wArr_eq m c) _

theorem gRow_lt (R : Fin 16896) (hR : R.val < 16400) (g : Fin 2) :
    gRow m c R g = Cert.GatedRefIdeal.RefValue.gRow (yA m c) (zA m c) ⟨R.val, hR⟩ g := by
  funext k
  unfold KernelValue.gRow Cert.GatedRefIdeal.RefValue.gRow
  rw [yRow_eq, zRow_eq, padRow_lt _ R hR, padRow_lt _ R hR]
  rfl

theorem gRow_ge (R : Fin 16896) (hR : ¬R.val < 16400) (g : Fin 2) (k : Fin 512) : gRow m c R g k = 0 := by
  unfold KernelValue.gRow
  rw [yRow_eq, padRow_ge _ R hR, zero_mul]

theorem sRow_lt (R : Fin 16896) (hR : R.val < 16400) (g : Fin 2) :
    sRow m c R g = Cert.GatedRefIdeal.RefValue.sRow (wA m c) (dA m c) ⟨R.val, hR⟩ g := by
  funext k
  unfold KernelValue.sRow Cert.GatedRefIdeal.RefValue.sRow
  rw [dRow_eq, wRow_eq, padRow_lt _ R hR]
  rfl

/-- The arguments are real. -/
structure Real : Prop where
  y : ∀ i, Finite (yA m c i)
  z : ∀ i, Finite (zA m c i)
  w : ∀ i, Finite (wA m c i)
  d : ∀ i, Finite (dA m c i)

variable {m c}

/-- The norm's gradient in a row of the sequence is the reference's. -/
theorem Real.bk (h : Real m c) (R : Fin 16896) (hR : R.val < 16400) (g : Fin 2) (k : Fin 512) :
    bk m c R g k = once ((512 : ℝ) : EReal) (Cert.GatedRefIdeal.RefValue.gRow (yA m c) (zA m c) ⟨R.val, hR⟩ g)
        (Cert.GatedRefIdeal.RefValue.sRow (wA m c) (dA m c) ⟨R.val, hR⟩ g) k ∧ Finite (KernelValue.bk m c R g k) := by
  have hx : ∀ k, Finite (Cert.GatedRefIdeal.RefValue.gRow (yA m c) (zA m c) ⟨R.val, hR⟩ g k) := fun k => (h.y _).mul (silu_finite (h.z _))
  have hs : ∀ k, Finite (Cert.GatedRefIdeal.RefValue.sRow (wA m c) (dA m c) ⟨R.val, hR⟩ g k) := fun k => (h.d _).mul (h.w _)
  unfold KernelValue.bk
  rw [gRow_lt m c R hR, sRow_lt m c R hR, twice_eq (by norm_num) hx hs]
  exact ⟨rfl, once_finite (by norm_num) hx hs k⟩

theorem dy_eq (h : Real m c) : dy m c = val_main_v48 (F := Ideal) (yA m c) (zA m c) (wA m c) (dA m c) := by
  funext i
  idx_vars i
  rw [v48_at]
  show KernelValue.bk m c i0 (grp i1) (pos i1) * silu (zRow m c i0 (grp i1) (pos i1)) = _
  rw [zRow_eq, col_eq]
  by_cases hr : i0.val < 16400
  · rw [dif_pos hr, v45_at, (h.bk i0 hr _ _).1, padRow_lt _ i0 hr]
  · rw [dif_neg hr, padRow_ge _ i0 hr, silu, zero_mul, mul_zero]

theorem dz_eq (h : Real m c) : dz m c = val_main_v50 (F := Ideal) (yA m c) (zA m c) (wA m c) (dA m c) := by
  funext i
  idx_vars i
  rw [v50_at]
  show byQuotient (yRow m c i0 (grp i1) (pos i1) * KernelValue.bk m c i0 (grp i1) (pos i1)) (zRow m c i0 (grp i1) (pos i1)) = _
  rw [zRow_eq, yRow_eq, col_eq]
  by_cases hr : i0.val < 16400
  · obtain ⟨hb, hf⟩ := h.bk i0 hr (grp i1) (pos i1)
    rw [dif_pos hr, v46_at, ← hb, padRow_lt _ i0 hr, padRow_lt _ i0 hr]
    exact byQuotient_eq ((h.y _).mul hf) (h.z _)
  · rw [dif_neg hr, padRow_ge _ i0 hr, zero_mul, byQuotient_zero]

theorem dw_eq : dw m c = val_main_v29 (F := Ideal) (yA m c) (zA m c) (dA m c) := by
  funext i
  idx_vars i
  rw [v29_at]
  show (∑ R : Fin 16896, dwAt m c R (grp i1) (pos i1)) = _
  unfold dwAt
  rw [Sums.fin_prefix (n := 16400) (by norm_num)]
  · refine Finset.sum_congr rfl fun r _ => ?_
    rw [dRow_eq, col_eq, gRow_lt m c _ r.isLt, padRow_lt _ _ r.isLt]
  · intro r hr
    rw [gRow_ge m c r hr, zero_mul, zero_mul]

/-- The side conditions the precondition states. -/
instance preFacts : Cert.Pre_gated_norm_finite.Facts := ⟨by decide, by decide⟩

/-- The precondition says that the arguments are real. -/
theorem real_of_pre {m : (ℓ : Loc nD τ sig) → Buf (Elt Ideal) ℓ} (h : Cert.Pre_GatedIdeal_gated_norm_finite m) (c : Dev nD) : Real m c where
  y i := finite_of_test (congrFun (h c).1 i)
  z i := finite_of_test (congrFun (h c).2.1 i)
  w i := finite_of_test (congrFun (h c).2.2.1 i)
  d i := finite_of_test (congrFun (h c).2.2.2 i)

theorem algebraic : Cert.algebraic_GatedIdeal_GatedRefIdeal_pre_gated_norm_finite := by
  intro m g m' g' hp ha
  refine ⟨fun c => dy m c, fun c => dz m c, fun c => dw m c, ?_, ?_⟩
  · exact (θ_run _ _ _).mono (fun r h c => ⟨(h c).1.trans (final_dy m c), (h c).2.1.trans (final_dz m c),
      (h c).2.2.1.trans (final_dw m c), (h c).2.2.2⟩) (Cert.GatedIdeal.Value.run_blocks m g)
  · refine (θ_run _ _ _).mono (fun r h c => ?_) (Cert.GatedRefIdeal.Value.run m' g')
    obtain ⟨h0, h1, h2, h3⟩ := ha c
    have hr := real_of_pre hp c
    refine ⟨(h c).1.trans ?_, (h c).2.1.trans ?_, (h c).2.2.1.trans ?_, (h c).2.2.2⟩
    · refine ((Cert.GatedRefIdeal.Read.val_main_v48_eq ..).trans ?_).trans (dy_eq hr).symm
      rw [h0, h1, h2, h3]
    · refine ((Cert.GatedRefIdeal.Read.val_main_v50_eq ..).trans ?_).trans (dz_eq hr).symm
      rw [h0, h1, h2, h3]
    · refine ((Cert.GatedRefIdeal.Read.val_main_v29_eq ..).trans ?_).trans dw_eq.symm
      rw [h0, h1, h3]

/-- The reference ends with its arguments and its counters as they were. -/
theorem frame_ref : Cert.quiescent_GatedRefIdeal := fun m g _ =>
  (θ_run Cert.GatedRefIdeal.defs _ _).mono (fun r h => ⟨fun c => (h c).2.2.2, sem_eq_zero_of_no_sems (by decide) r.2⟩)
    (Cert.GatedRefIdeal.Value.run (F := Ideal) m g)

end Cert.GatedEq

end
-- ==== Proof.lean ====
/-
  The claims, assembled from the modules that prove each call's.
-/
module

public import proofs.«01_k».proof.Proof.Gen.InputNormIdeal.Value
public import proofs.«01_k».proof.Proof.Gen.InputNormRefIdeal.Run
public import proofs.«01_k».proof.Proof.Gen.InputNormRefIdeal.Read
public import proofs.«01_k».proof.Proof.Gen.AttnRefIdeal.Run
public import proofs.«01_k».proof.Proof.Gen.AttnRefIdeal.Read
public import proofs.«01_k».proof.Proof.Gen.LossIdeal.Value
public import proofs.«01_k».proof.Proof.Gen.LossRefIdeal.Run
public import proofs.«01_k».proof.Proof.Gen.LossRefIdeal.Read
public import proofs.«01_k».proof.Proof.Gen.MlpResidualIdeal.Value
public import proofs.«01_k».proof.Proof.Gen.MlpResidualRefIdeal.Run
public import proofs.«01_k».proof.Proof.Gen.MlpResidualRefIdeal.Read
public import proofs.«01_k».proof.Proof.Gen.ProjIdeal.Value
public import proofs.«01_k».proof.Proof.Gen.ProjRefIdeal.Run
public import proofs.«01_k».proof.Proof.Gen.ProjRefIdeal.Read
public import proofs.«01_k».proof.Proof.Gen.DeltaIdeal.Value
public import proofs.«01_k».proof.Proof.Gen.DeltaRefIdeal.Run
public import proofs.«01_k».proof.Proof.Gen.DeltaRefIdeal.Read
public import proofs.«01_k».proof.Proof.Gen.UnpackIdeal.Value
public import proofs.«01_k».proof.Proof.Gen.UnpackRefIdeal.Run
public import proofs.«01_k».proof.Proof.Gen.UnpackRefIdeal.Read
public import proofs.«01_k».proof.Proof.Gen.ConvxsIdeal.Value
public import proofs.«01_k».proof.Proof.Gen.ConvxsRefIdeal.Run
public import proofs.«01_k».proof.Proof.Gen.ConvxsRefIdeal.Read
public import proofs.«01_k».proof.Proof.Gen.ActIdeal.Value
public import proofs.«01_k».proof.Proof.Gen.ActRefIdeal.Run
public import proofs.«01_k».proof.Proof.Gen.ActRefIdeal.Read
public import proofs.«01_k».proof.Proof.Gen.GatedIdeal.Value
public import proofs.«01_k».proof.Proof.Gen.GatedRefIdeal.Run
public import proofs.«01_k».proof.Proof.Gen.GatedRefIdeal.Read
public import proofs.«01_k».proof.Defs
public import proofs.«01_k».proof.Proof.InputNormClaim
public import proofs.«01_k».proof.Proof.Gen.InputNorm
public import proofs.«01_k».proof.Proof.Gen.InputNorm.Skeleton
public import proofs.«01_k».proof.Proof.Gen.InputNorm.Launch
public import proofs.«01_k».proof.Proof.Gen.InputNorm.Points
public import proofs.«01_k».proof.Proof.Gen.InputNorm.Frame
public import proofs.«01_k».proof.Proof.Gen.InputNormIdeal
public import proofs.«01_k».proof.Proof.Gen.InputNormIdeal.Skeleton
public import proofs.«01_k».proof.Proof.Gen.InputNormIdeal.Launch
public import proofs.«01_k».proof.Proof.Gen.InputNormIdeal.Points
public import proofs.«01_k».proof.Proof.Gen.InputNormIdeal.Frame
public import proofs.«01_k».proof.Proof.Gen.InputNormRefIdeal
public import proofs.«01_k».proof.Proof.AttnClaim
public import proofs.«01_k».proof.Proof.Gen.Attn
public import proofs.«01_k».proof.Proof.Gen.AttnIdeal
public import proofs.«01_k».proof.Proof.Gen.AttnIdeal.Skeleton
public import proofs.«01_k».proof.Proof.Gen.AttnIdeal.Launch
public import proofs.«01_k».proof.Proof.Gen.AttnRefIdeal
public import proofs.«01_k».proof.Proof.LossClaim
public import proofs.«01_k».proof.Proof.Gen.Loss
public import proofs.«01_k».proof.Proof.Gen.Loss.Skeleton
public import proofs.«01_k».proof.Proof.Gen.Loss.Launch
public import proofs.«01_k».proof.Proof.Gen.Loss.Points
public import proofs.«01_k».proof.Proof.Gen.Loss.Frame
public import proofs.«01_k».proof.Proof.Gen.LossIdeal
public import proofs.«01_k».proof.Proof.Gen.LossIdeal.Skeleton
public import proofs.«01_k».proof.Proof.Gen.LossIdeal.Launch
public import proofs.«01_k».proof.Proof.Gen.LossIdeal.Points
public import proofs.«01_k».proof.Proof.Gen.LossIdeal.Frame
public import proofs.«01_k».proof.Proof.Gen.LossRefIdeal
public import proofs.«01_k».proof.Proof.MlpClaim
public import proofs.«01_k».proof.Proof.Gen.MlpResidual
public import proofs.«01_k».proof.Proof.Gen.MlpResidual.Skeleton
public import proofs.«01_k».proof.Proof.Gen.MlpResidual.Launch
public import proofs.«01_k».proof.Proof.Gen.MlpResidual.Points
public import proofs.«01_k».proof.Proof.Gen.MlpResidual.Frame
public import proofs.«01_k».proof.Proof.Gen.MlpResidualIdeal
public import proofs.«01_k».proof.Proof.Gen.MlpResidualIdeal.Skeleton
public import proofs.«01_k».proof.Proof.Gen.MlpResidualIdeal.Launch
public import proofs.«01_k».proof.Proof.Gen.MlpResidualIdeal.Points
public import proofs.«01_k».proof.Proof.Gen.MlpResidualIdeal.Frame
public import proofs.«01_k».proof.Proof.Gen.MlpResidualRefIdeal
public import proofs.«01_k».proof.Proof.ProjClaim
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjRefIdeal
public import proofs.«01_k».proof.Proof.DeltaClaim
public import proofs.«01_k».proof.Proof.Gen.Delta
public import proofs.«01_k».proof.Proof.Gen.Delta.Skeleton
public import proofs.«01_k».proof.Proof.Gen.Delta.Launch
public import proofs.«01_k».proof.Proof.Gen.Delta.Points
public import proofs.«01_k».proof.Proof.Gen.Delta.Frame
public import proofs.«01_k».proof.Proof.Gen.DeltaIdeal
public import proofs.«01_k».proof.Proof.Gen.DeltaIdeal.Skeleton
public import proofs.«01_k».proof.Proof.Gen.DeltaIdeal.Launch
public import proofs.«01_k».proof.Proof.Gen.DeltaIdeal.Points
public import proofs.«01_k».proof.Proof.Gen.DeltaIdeal.Frame
public import proofs.«01_k».proof.Proof.Gen.DeltaRefIdeal
public import proofs.«01_k».proof.Proof.UnpackClaim
public import proofs.«01_k».proof.Proof.Gen.Unpack
public import proofs.«01_k».proof.Proof.Gen.Unpack.Skeleton
public import proofs.«01_k».proof.Proof.Gen.Unpack.Launch
public import proofs.«01_k».proof.Proof.Gen.Unpack.Points
public import proofs.«01_k».proof.Proof.Gen.Unpack.Frame
public import proofs.«01_k».proof.Proof.Gen.UnpackIdeal
public import proofs.«01_k».proof.Proof.Gen.UnpackIdeal.Skeleton
public import proofs.«01_k».proof.Proof.Gen.UnpackIdeal.Launch
public import proofs.«01_k».proof.Proof.Gen.UnpackIdeal.Points
public import proofs.«01_k».proof.Proof.Gen.UnpackIdeal.Frame
public import proofs.«01_k».proof.Proof.Gen.UnpackRefIdeal
public import proofs.«01_k».proof.Proof.ConvxsClaim
public import proofs.«01_k».proof.Proof.Gen.Convxs
public import proofs.«01_k».proof.Proof.Gen.Convxs.Skeleton
public import proofs.«01_k».proof.Proof.Gen.Convxs.Launch
public import proofs.«01_k».proof.Proof.Gen.Convxs.Points
public import proofs.«01_k».proof.Proof.Gen.Convxs.Frame
public import proofs.«01_k».proof.Proof.Gen.ConvxsIdeal
public import proofs.«01_k».proof.Proof.Gen.ConvxsIdeal.Skeleton
public import proofs.«01_k».proof.Proof.Gen.ConvxsIdeal.Launch
public import proofs.«01_k».proof.Proof.Gen.ConvxsIdeal.Points
public import proofs.«01_k».proof.Proof.Gen.ConvxsIdeal.Frame
public import proofs.«01_k».proof.Proof.Gen.ConvxsRefIdeal
public import proofs.«01_k».proof.Proof.ActClaim
public import proofs.«01_k».proof.Proof.Gen.Act
public import proofs.«01_k».proof.Proof.Gen.Act.Skeleton
public import proofs.«01_k».proof.Proof.Gen.Act.Launch
public import proofs.«01_k».proof.Proof.Gen.Act.Points
public import proofs.«01_k».proof.Proof.Gen.Act.Frame
public import proofs.«01_k».proof.Proof.Gen.ActIdeal
public import proofs.«01_k».proof.Proof.Gen.ActIdeal.Skeleton
public import proofs.«01_k».proof.Proof.Gen.ActIdeal.Launch
public import proofs.«01_k».proof.Proof.Gen.ActIdeal.Points
public import proofs.«01_k».proof.Proof.Gen.ActIdeal.Frame
public import proofs.«01_k».proof.Proof.Gen.ActRefIdeal
public import proofs.«01_k».proof.Proof.GatedClaim
public import proofs.«01_k».proof.Proof.Gen.Gated
public import proofs.«01_k».proof.Proof.Gen.Gated.Skeleton
public import proofs.«01_k».proof.Proof.Gen.Gated.Launch
public import proofs.«01_k».proof.Proof.Gen.Gated.Points
public import proofs.«01_k».proof.Proof.Gen.Gated.Frame
public import proofs.«01_k».proof.Proof.Gen.GatedIdeal
public import proofs.«01_k».proof.Proof.Gen.GatedIdeal.Skeleton
public import proofs.«01_k».proof.Proof.Gen.GatedIdeal.Launch
public import proofs.«01_k».proof.Proof.Gen.GatedIdeal.Points
public import proofs.«01_k».proof.Proof.Gen.GatedIdeal.Frame
public import proofs.«01_k».proof.Proof.Gen.GatedRefIdeal
public import proofs.«01_k».proof.Proof.Gen.Ssd
public import proofs.«01_k».proof.Proof.Gen.Ssd.Skeleton
public import proofs.«01_k».proof.Proof.Gen.Ssd.Launch
public import proofs.«01_k».proof.Proof.Gen.Ssd.Points
public import proofs.«01_k».proof.Proof.Gen.Ssd.Frame
public import proofs.«01_k».proof.Proof.Gen.SsdIdeal
public import proofs.«01_k».proof.Proof.Gen.SsdIdeal.Skeleton
public import proofs.«01_k».proof.Proof.Gen.SsdIdeal.Launch
public import proofs.«01_k».proof.Proof.Gen.SsdIdeal.Points
public import proofs.«01_k».proof.Proof.Gen.SsdIdeal.Frame
public import Idealize.ShloMosaic.Adequacy
public import Idealize.ShloMosaic.Init

@[expose] public section

noncomputable section

namespace Cert.Proof

open Idealize.ShloMosaic Idealize.SL.Sem

theorem claim : Cert.Claim := ⟨Cert.InputNorm.Gen.facts,
  Cert.InputNormIdeal.Gen.facts,
  Cert.InputNormRefIdeal.Gen.facts,
  Cert.Attn.Gen.facts,
  Cert.AttnIdeal.Gen.facts,
  Cert.AttnRefIdeal.Gen.facts,
  Cert.Loss.Gen.facts,
  Cert.LossIdeal.Gen.facts,
  Cert.LossRefIdeal.Gen.facts,
  Cert.MlpResidual.Gen.facts,
  Cert.MlpResidualIdeal.Gen.facts,
  Cert.MlpResidualRefIdeal.Gen.facts,
  Cert.Proj.Gen.facts,
  Cert.ProjIdeal.Gen.facts,
  Cert.ProjRefIdeal.Gen.facts,
  Cert.Delta.Gen.facts,
  Cert.DeltaIdeal.Gen.facts,
  Cert.DeltaRefIdeal.Gen.facts,
  Cert.Unpack.Gen.facts,
  Cert.UnpackIdeal.Gen.facts,
  Cert.UnpackRefIdeal.Gen.facts,
  Cert.Convxs.Gen.facts,
  Cert.ConvxsIdeal.Gen.facts,
  Cert.ConvxsRefIdeal.Gen.facts,
  Cert.Act.Gen.facts,
  Cert.ActIdeal.Gen.facts,
  Cert.ActRefIdeal.Gen.facts,
  Cert.Gated.Gen.facts,
  Cert.GatedIdeal.Gen.facts,
  Cert.GatedRefIdeal.Gen.facts,
  Cert.Ssd.Gen.facts,
  Cert.SsdIdeal.Gen.facts,
  Cert.InputNormEq.preFacts,
  Cert.AttnEq.preFacts,
  Cert.LossEq.preFacts,
  Cert.MlpResidualEq.preFacts,
  Cert.ProjEq.preFacts,
  Cert.DeltaEq.preFacts,
  Cert.ConvxsEq.preFacts,
  Cert.GatedEq.preFacts,
  fun m ρ _ => Cert.InputNorm.Gen.frame m ρ,
  fun m ρ _ => Cert.InputNormIdeal.Gen.frame m ρ,
  fun m ρ _ => Cert.InputNormIdeal.Gen.frame m ρ,
  Cert.InputNormEq.frame_ref,
  fun m ρ _ => Cert.InputNormEq.frame_ref m ρ trivial,
  Cert.AttnIdeal.Hand.frame_kernel,
  Cert.AttnIdeal.Hand.frame_ideal,
  fun m ρ _ => Cert.AttnIdeal.Hand.frame_ideal m ρ trivial,
  Cert.AttnEq.frame_ref,
  fun m ρ _ => Cert.AttnEq.frame_ref m ρ trivial,
  fun m ρ _ => Cert.Loss.Gen.frame m ρ,
  fun m ρ _ => Cert.LossIdeal.Gen.frame m ρ,
  fun m ρ _ => Cert.LossIdeal.Gen.frame m ρ,
  Cert.LossEq.frame_ref,
  fun m ρ _ => Cert.LossEq.frame_ref m ρ trivial,
  fun m ρ _ => Cert.MlpResidual.Gen.frame m ρ,
  fun m ρ _ => Cert.MlpResidualIdeal.Gen.frame m ρ,
  fun m ρ _ => Cert.MlpResidualIdeal.Gen.frame m ρ,
  Cert.MlpResidualEq.frame_ref,
  fun m ρ _ => Cert.MlpResidualEq.frame_ref m ρ trivial,
  fun m ρ _ => Cert.Proj.Gen.frame m ρ,
  fun m ρ _ => Cert.ProjIdeal.Gen.frame m ρ,
  fun m ρ _ => Cert.ProjIdeal.Gen.frame m ρ,
  Cert.ProjEq.frame_ref,
  fun m ρ _ => Cert.ProjEq.frame_ref m ρ trivial,
  fun m ρ _ => Cert.Delta.Gen.frame m ρ,
  fun m ρ _ => Cert.DeltaIdeal.Gen.frame m ρ,
  fun m ρ _ => Cert.DeltaIdeal.Gen.frame m ρ,
  Cert.DeltaEq.frame_ref,
  fun m ρ _ => Cert.DeltaEq.frame_ref m ρ trivial,
  fun m ρ _ => Cert.Unpack.Gen.frame m ρ,
  fun m ρ _ => Cert.UnpackIdeal.Gen.frame m ρ,
  Cert.UnpackEq.frame_ref,
  fun m ρ _ => Cert.Convxs.Gen.frame m ρ,
  fun m ρ _ => Cert.ConvxsIdeal.Gen.frame m ρ,
  fun m ρ _ => Cert.ConvxsIdeal.Gen.frame m ρ,
  Cert.ConvxsEq.frame_ref,
  fun m ρ _ => Cert.ConvxsEq.frame_ref m ρ trivial,
  fun m ρ _ => Cert.Act.Gen.frame m ρ,
  fun m ρ _ => Cert.ActIdeal.Gen.frame m ρ,
  Cert.ActEq.frame_ref,
  fun m ρ _ => Cert.Gated.Gen.frame m ρ,
  fun m ρ _ => Cert.GatedIdeal.Gen.frame m ρ,
  fun m ρ _ => Cert.GatedIdeal.Gen.frame m ρ,
  Cert.GatedEq.frame_ref,
  fun m ρ _ => Cert.GatedEq.frame_ref m ρ trivial,
  fun m ρ _ => Cert.Ssd.Gen.frame m ρ,
  fun m ρ _ => Cert.SsdIdeal.Gen.frame m ρ,
  trivial,
  Cert.InputNormEq.algebraic,
  Cert.AttnEq.preserves,
  Cert.AttnEq.algebraic,
  trivial,
  Cert.LossEq.algebraic,
  trivial,
  Cert.MlpResidualEq.algebraic,
  trivial,
  Cert.ProjEq.algebraic,
  trivial,
  Cert.DeltaEq.algebraic,
  trivial,
  Cert.UnpackEq.algebraic,
  trivial,
  Cert.ConvxsEq.algebraic,
  trivial,
  Cert.ActEq.algebraic,
  trivial,
  Cert.GatedEq.algebraic,
  trivial⟩

end Cert.Proof

end
